-- ==== Defs.lean ====
def Pre_Kernel [hPre_tables_fit : Cert.Pre_tables_fit.Facts] (m : (ℓ : Loc Cert.Kernel.nD Cert.Kernel.τ Cert.Kernel.sig) → Buf (Elt Bits) ℓ) : Prop :=
  ∀ c : Dev Cert.Kernel.nD,
    (Cert.Pre_tables_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_tables_fit : Cert.Pre_tables_fit.Facts] (m : (ℓ : Loc Cert.KernelIdeal.nD Cert.KernelIdeal.τ Cert.KernelIdeal.sig) → Buf (Elt Ideal) ℓ) : Prop :=
  ∀ c : Dev Cert.KernelIdeal.nD,
    (Cert.Pre_tables_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_tables_fit : Cert.Pre_tables_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_BaseKernel (m : (ℓ : Loc Cert.BaseKernel.nD Cert.BaseKernel.τ Cert.BaseKernel.sig) → Buf (Elt Bits) ℓ) : Prop :=
  True

def Pre_BaseKernelIdeal (m : (ℓ : Loc Cert.BaseKernelIdeal.nD Cert.BaseKernelIdeal.τ Cert.BaseKernelIdeal.sig) → Buf (Elt Ideal) ℓ) : Prop :=
  True

def Pre_BaseReferenceIdeal (m : (ℓ : Loc Cert.BaseReferenceIdeal.nD Cert.BaseReferenceIdeal.τ Cert.BaseReferenceIdeal.sig) → Buf (Elt Ideal) ℓ) : Prop :=
  True

def Pre_ExpandKernel (m : (ℓ : Loc Cert.ExpandKernel.nD Cert.ExpandKernel.τ Cert.ExpandKernel.sig) → Buf (Elt Bits) ℓ) : Prop :=
  True

def Pre_ExpandKernelIdeal (m : (ℓ : Loc Cert.ExpandKernelIdeal.nD Cert.ExpandKernelIdeal.τ Cert.ExpandKernelIdeal.sig) → Buf (Elt Ideal) ℓ) : Prop :=
  True

def Pre_ExpandReferenceIdeal (m : (ℓ : Loc Cert.ExpandReferenceIdeal.nD Cert.ExpandReferenceIdeal.τ Cert.ExpandReferenceIdeal.sig) → Buf (Elt Ideal) ℓ) : Prop :=
  True

def Pre_ShrinkKernel [hPre_total_fits : Cert.Pre_total_fits.Facts] (m : (ℓ : Loc Cert.ShrinkKernel.nD Cert.ShrinkKernel.τ Cert.ShrinkKernel.sig) → Buf (Elt Bits) ℓ) : Prop :=
  ∀ c : Dev Cert.ShrinkKernel.nD,
    (Cert.Pre_total_fits.fn (F := Bits) (m ((c.tc : Thread Cert.ShrinkKernel.nD Cert.ShrinkKernel.τ).loc Cert.ShrinkKernel.main_arg0)) (m ((c.tc : Thread Cert.ShrinkKernel.nD Cert.ShrinkKernel.τ).loc Cert.ShrinkKernel.main_arg1)) (m ((c.tc : Thread Cert.ShrinkKernel.nD Cert.ShrinkKernel.τ).loc Cert.ShrinkKernel.main_arg2)) (m ((c.tc : Thread Cert.ShrinkKernel.nD Cert.ShrinkKernel.τ).loc Cert.ShrinkKernel.main_arg3)) (m ((c.tc : Thread Cert.ShrinkKernel.nD Cert.ShrinkKernel.τ).loc Cert.ShrinkKernel.main_arg4)) (m ((c.tc : Thread Cert.ShrinkKernel.nD Cert.ShrinkKernel.τ).loc Cert.ShrinkKernel.main_arg5))) = (fun _ => 1#1)

def Pre_ShrinkKernelIdeal [hPre_total_fits : Cert.Pre_total_fits.Facts] (m : (ℓ : Loc Cert.ShrinkKernelIdeal.nD Cert.ShrinkKernelIdeal.τ Cert.ShrinkKernelIdeal.sig) → Buf (Elt Ideal) ℓ) : Prop :=
  ∀ c : Dev Cert.ShrinkKernelIdeal.nD,
    (Cert.Pre_total_fits.fn (F := Ideal) (m ((c.tc : Thread Cert.ShrinkKernelIdeal.nD Cert.ShrinkKernelIdeal.τ).loc Cert.ShrinkKernelIdeal.main_arg0)) (m ((c.tc : Thread Cert.ShrinkKernelIdeal.nD Cert.ShrinkKernelIdeal.τ).loc Cert.ShrinkKernelIdeal.main_arg1)) (m ((c.tc : Thread Cert.ShrinkKernelIdeal.nD Cert.ShrinkKernelIdeal.τ).loc Cert.ShrinkKernelIdeal.main_arg2)) (m ((c.tc : Thread Cert.ShrinkKernelIdeal.nD Cert.ShrinkKernelIdeal.τ).loc Cert.ShrinkKernelIdeal.main_arg3)) (m ((c.tc : Thread Cert.ShrinkKernelIdeal.nD Cert.ShrinkKernelIdeal.τ).loc Cert.ShrinkKernelIdeal.main_arg4)) (m ((c.tc : Thread Cert.ShrinkKernelIdeal.nD Cert.ShrinkKernelIdeal.τ).loc Cert.ShrinkKernelIdeal.main_arg5))) = (fun _ => 1#1)

def Pre_ShrinkReferenceIdeal [hPre_total_fits : Cert.Pre_total_fits.Facts] (m : (ℓ : Loc Cert.ShrinkReferenceIdeal.nD Cert.ShrinkReferenceIdeal.τ Cert.ShrinkReferenceIdeal.sig) → Buf (Elt Ideal) ℓ) : Prop :=
  ∀ c : Dev Cert.ShrinkReferenceIdeal.nD,
    (Cert.Pre_total_fits.fn (F := Ideal) (m ((c.tc : Thread Cert.ShrinkReferenceIdeal.nD Cert.ShrinkReferenceIdeal.τ).loc Cert.ShrinkReferenceIdeal.main_arg0)) (m ((c.tc : Thread Cert.ShrinkReferenceIdeal.nD Cert.ShrinkReferenceIdeal.τ).loc Cert.ShrinkReferenceIdeal.main_arg1)) (m ((c.tc : Thread Cert.ShrinkReferenceIdeal.nD Cert.ShrinkReferenceIdeal.τ).loc Cert.ShrinkReferenceIdeal.main_arg2)) (m ((c.tc : Thread Cert.ShrinkReferenceIdeal.nD Cert.ShrinkReferenceIdeal.τ).loc Cert.ShrinkReferenceIdeal.main_arg3)) (m ((c.tc : Thread Cert.ShrinkReferenceIdeal.nD Cert.ShrinkReferenceIdeal.τ).loc Cert.ShrinkReferenceIdeal.main_arg4)) (m ((c.tc : Thread Cert.ShrinkReferenceIdeal.nD Cert.ShrinkReferenceIdeal.τ).loc Cert.ShrinkReferenceIdeal.main_arg5))) = (fun _ => 1#1)

def quiescent_Kernel [hKernel : Cert.Kernel.Facts] [hPre_tables_fit : Cert.Pre_tables_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_tables_fit : Cert.Pre_tables_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] [hPre_tables_fit : Cert.Pre_tables_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_BaseKernel [hBaseKernel : Cert.BaseKernel.Facts] : Prop :=
  ∀ (m : (ℓ : Loc Cert.BaseKernel.nD Cert.BaseKernel.τ Cert.BaseKernel.sig) → Buf (Elt Bits) ℓ) (g : Dev Cert.BaseKernel.nD → PrngReg), Pre_BaseKernel m →
    θ_run (Cert.BaseKernel.defs (F := Bits)) (onTc (τ := Cert.BaseKernel.τ) (Cert.BaseKernel.main (F := Bits))) ⟨m, fun _ => 0, g⟩ (fun r => (∀ c : Dev Cert.BaseKernel.nD,
      r.2.mem ((c.tc : Thread Cert.BaseKernel.nD Cert.BaseKernel.τ).loc Cert.BaseKernel.main_arg0) = m ((c.tc : Thread Cert.BaseKernel.nD Cert.BaseKernel.τ).loc Cert.BaseKernel.main_arg0)
      ∧ r.2.mem ((c.tc : Thread Cert.BaseKernel.nD Cert.BaseKernel.τ).loc Cert.BaseKernel.main_arg1) = m ((c.tc : Thread Cert.BaseKernel.nD Cert.BaseKernel.τ).loc Cert.BaseKernel.main_arg1)
      ∧ r.2.mem ((c.tc : Thread Cert.BaseKernel.nD Cert.BaseKernel.τ).loc Cert.BaseKernel.main_arg2) = m ((c.tc : Thread Cert.BaseKernel.nD Cert.BaseKernel.τ).loc Cert.BaseKernel.main_arg2))
      ∧ r.2.sem = fun _ => 0)

def quiescent_BaseKernelIdeal [hBaseKernelIdeal : Cert.BaseKernelIdeal.Facts] : Prop :=
  ∀ (m : (ℓ : Loc Cert.BaseKernelIdeal.nD Cert.BaseKernelIdeal.τ Cert.BaseKernelIdeal.sig) → Buf (Elt Ideal) ℓ) (g : Dev Cert.BaseKernelIdeal.nD → PrngReg), Pre_BaseKernelIdeal m →
    θ_run (Cert.BaseKernelIdeal.defs (F := Ideal)) (onTc (τ := Cert.BaseKernelIdeal.τ) (Cert.BaseKernelIdeal.main (F := Ideal))) ⟨m, fun _ => 0, g⟩ (fun r => (∀ c : Dev Cert.BaseKernelIdeal.nD,
      r.2.mem ((c.tc : Thread Cert.BaseKernelIdeal.nD Cert.BaseKernelIdeal.τ).loc Cert.BaseKernelIdeal.main_arg0) = m ((c.tc : Thread Cert.BaseKernelIdeal.nD Cert.BaseKernelIdeal.τ).loc Cert.BaseKernelIdeal.main_arg0)
      ∧ r.2.mem ((c.tc : Thread Cert.BaseKernelIdeal.nD Cert.BaseKernelIdeal.τ).loc Cert.BaseKernelIdeal.main_arg1) = m ((c.tc : Thread Cert.BaseKernelIdeal.nD Cert.BaseKernelIdeal.τ).loc Cert.BaseKernelIdeal.main_arg1)
      ∧ r.2.mem ((c.tc : Thread Cert.BaseKernelIdeal.nD Cert.BaseKernelIdeal.τ).loc Cert.BaseKernelIdeal.main_arg2) = m ((c.tc : Thread Cert.BaseKernelIdeal.nD Cert.BaseKernelIdeal.τ).loc Cert.BaseKernelIdeal.main_arg2))
      ∧ r.2.sem = fun _ => 0)

def quiescent_BaseReferenceIdeal [hBaseReferenceIdeal : Cert.BaseReferenceIdeal.Facts] : Prop :=
  ∀ (m : (ℓ : Loc Cert.BaseReferenceIdeal.nD Cert.BaseReferenceIdeal.τ Cert.BaseReferenceIdeal.sig) → Buf (Elt Ideal) ℓ) (g : Dev Cert.BaseReferenceIdeal.nD → PrngReg), Pre_BaseReferenceIdeal m →
    θ_run (Cert.BaseReferenceIdeal.defs (F := Ideal)) (onTc (τ := Cert.BaseReferenceIdeal.τ) (Cert.BaseReferenceIdeal.main (F := Ideal))) ⟨m, fun _ => 0, g⟩ (fun r => (∀ c : Dev Cert.BaseReferenceIdeal.nD,
      r.2.mem ((c.tc : Thread Cert.BaseReferenceIdeal.nD Cert.BaseReferenceIdeal.τ).loc Cert.BaseReferenceIdeal.main_arg0) = m ((c.tc : Thread Cert.BaseReferenceIdeal.nD Cert.BaseReferenceIdeal.τ).loc Cert.BaseReferenceIdeal.main_arg0)
      ∧ r.2.mem ((c.tc : Thread Cert.BaseReferenceIdeal.nD Cert.BaseReferenceIdeal.τ).loc Cert.BaseReferenceIdeal.main_arg1) = m ((c.tc : Thread Cert.BaseReferenceIdeal.nD Cert.BaseReferenceIdeal.τ).loc Cert.BaseReferenceIdeal.main_arg1)
      ∧ r.2.mem ((c.tc : Thread Cert.BaseReferenceIdeal.nD Cert.BaseReferenceIdeal.τ).loc Cert.BaseReferenceIdeal.main_arg2) = m ((c.tc : Thread Cert.BaseReferenceIdeal.nD Cert.BaseReferenceIdeal.τ).loc Cert.BaseReferenceIdeal.main_arg2))
      ∧ r.2.sem = fun _ => 0)

def quiescent_ExpandKernel [hExpandKernel : Cert.ExpandKernel.Facts] : Prop :=
  ∀ (m : (ℓ : Loc Cert.ExpandKernel.nD Cert.ExpandKernel.τ Cert.ExpandKernel.sig) → Buf (Elt Bits) ℓ) (g : Dev Cert.ExpandKernel.nD → PrngReg), Pre_ExpandKernel m →
    θ_run (Cert.ExpandKernel.defs (F := Bits)) (onTc (τ := Cert.ExpandKernel.τ) (Cert.ExpandKernel.main (F := Bits))) ⟨m, fun _ => 0, g⟩ (fun r => (∀ c : Dev Cert.ExpandKernel.nD,
      r.2.mem ((c.tc : Thread Cert.ExpandKernel.nD Cert.ExpandKernel.τ).loc Cert.ExpandKernel.main_arg0) = m ((c.tc : Thread Cert.ExpandKernel.nD Cert.ExpandKernel.τ).loc Cert.ExpandKernel.main_arg0)
      ∧ r.2.mem ((c.tc : Thread Cert.ExpandKernel.nD Cert.ExpandKernel.τ).loc Cert.ExpandKernel.main_arg1) = m ((c.tc : Thread Cert.ExpandKernel.nD Cert.ExpandKernel.τ).loc Cert.ExpandKernel.main_arg1)
      ∧ r.2.mem ((c.tc : Thread Cert.ExpandKernel.nD Cert.ExpandKernel.τ).loc Cert.ExpandKernel.main_arg2) = m ((c.tc : Thread Cert.ExpandKernel.nD Cert.ExpandKernel.τ).loc Cert.ExpandKernel.main_arg2)
      ∧ r.2.mem ((c.tc : Thread Cert.ExpandKernel.nD Cert.ExpandKernel.τ).loc Cert.ExpandKernel.main_arg3) = m ((c.tc : Thread Cert.ExpandKernel.nD Cert.ExpandKernel.τ).loc Cert.ExpandKernel.main_arg3)
      ∧ r.2.mem ((c.tc : Thread Cert.ExpandKernel.nD Cert.ExpandKernel.τ).loc Cert.ExpandKernel.main_arg4) = m ((c.tc : Thread Cert.ExpandKernel.nD Cert.ExpandKernel.τ).loc Cert.ExpandKernel.main_arg4)
      ∧ r.2.mem ((c.tc : Thread Cert.ExpandKernel.nD Cert.ExpandKernel.τ).loc Cert.ExpandKernel.main_arg5) = m ((c.tc : Thread Cert.ExpandKernel.nD Cert.ExpandKernel.τ).loc Cert.ExpandKernel.main_arg5)
      ∧ r.2.mem ((c.tc : Thread Cert.ExpandKernel.nD Cert.ExpandKernel.τ).loc Cert.ExpandKernel.main_arg6) = m ((c.tc : Thread Cert.ExpandKernel.nD Cert.ExpandKernel.τ).loc Cert.ExpandKernel.main_arg6))
      ∧ r.2.sem = fun _ => 0)

def quiescent_ExpandKernelIdeal [hExpandKernelIdeal : Cert.ExpandKernelIdeal.Facts] : Prop :=
  ∀ (m : (ℓ : Loc Cert.ExpandKernelIdeal.nD Cert.ExpandKernelIdeal.τ Cert.ExpandKernelIdeal.sig) → Buf (Elt Ideal) ℓ) (g : Dev Cert.ExpandKernelIdeal.nD → PrngReg), Pre_ExpandKernelIdeal m →
    θ_run (Cert.ExpandKernelIdeal.defs (F := Ideal)) (onTc (τ := Cert.ExpandKernelIdeal.τ) (Cert.ExpandKernelIdeal.main (F := Ideal))) ⟨m, fun _ => 0, g⟩ (fun r => (∀ c : Dev Cert.ExpandKernelIdeal.nD,
      r.2.mem ((c.tc : Thread Cert.ExpandKernelIdeal.nD Cert.ExpandKernelIdeal.τ).loc Cert.ExpandKernelIdeal.main_arg0) = m ((c.tc : Thread Cert.ExpandKernelIdeal.nD Cert.ExpandKernelIdeal.τ).loc Cert.ExpandKernelIdeal.main_arg0)
      ∧ r.2.mem ((c.tc : Thread Cert.ExpandKernelIdeal.nD Cert.ExpandKernelIdeal.τ).loc Cert.ExpandKernelIdeal.main_arg1) = m ((c.tc : Thread Cert.ExpandKernelIdeal.nD Cert.ExpandKernelIdeal.τ).loc Cert.ExpandKernelIdeal.main_arg1)
      ∧ r.2.mem ((c.tc : Thread Cert.ExpandKernelIdeal.nD Cert.ExpandKernelIdeal.τ).loc Cert.ExpandKernelIdeal.main_arg2) = m ((c.tc : Thread Cert.ExpandKernelIdeal.nD Cert.ExpandKernelIdeal.τ).loc Cert.ExpandKernelIdeal.main_arg2)
      ∧ r.2.mem ((c.tc : Thread Cert.ExpandKernelIdeal.nD Cert.ExpandKernelIdeal.τ).loc Cert.ExpandKernelIdeal.main_arg3) = m ((c.tc : Thread Cert.ExpandKernelIdeal.nD Cert.ExpandKernelIdeal.τ).loc Cert.ExpandKernelIdeal.main_arg3)
      ∧ r.2.mem ((c.tc : Thread Cert.ExpandKernelIdeal.nD Cert.ExpandKernelIdeal.τ).loc Cert.ExpandKernelIdeal.main_arg4) = m ((c.tc : Thread Cert.ExpandKernelIdeal.nD Cert.ExpandKernelIdeal.τ).loc Cert.ExpandKernelIdeal.main_arg4)
      ∧ r.2.mem ((c.tc : Thread Cert.ExpandKernelIdeal.nD Cert.ExpandKernelIdeal.τ).loc Cert.ExpandKernelIdeal.main_arg5) = m ((c.tc : Thread Cert.ExpandKernelIdeal.nD Cert.ExpandKernelIdeal.τ).loc Cert.ExpandKernelIdeal.main_arg5)
      ∧ r.2.mem ((c.tc : Thread Cert.ExpandKernelIdeal.nD Cert.ExpandKernelIdeal.τ).loc Cert.ExpandKernelIdeal.main_arg6) = m ((c.tc : Thread Cert.ExpandKernelIdeal.nD Cert.ExpandKernelIdeal.τ).loc Cert.ExpandKernelIdeal.main_arg6))
      ∧ r.2.sem = fun _ => 0)

def quiescent_ExpandReferenceIdeal [hExpandReferenceIdeal : Cert.ExpandReferenceIdeal.Facts] : Prop :=
  ∀ (m : (ℓ : Loc Cert.ExpandReferenceIdeal.nD Cert.ExpandReferenceIdeal.τ Cert.ExpandReferenceIdeal.sig) → Buf (Elt Ideal) ℓ) (g : Dev Cert.ExpandReferenceIdeal.nD → PrngReg), Pre_ExpandReferenceIdeal m →
    θ_run (Cert.ExpandReferenceIdeal.defs (F := Ideal)) (onTc (τ := Cert.ExpandReferenceIdeal.τ) (Cert.ExpandReferenceIdeal.main (F := Ideal))) ⟨m, fun _ => 0, g⟩ (fun r => (∀ c : Dev Cert.ExpandReferenceIdeal.nD,
      r.2.mem ((c.tc : Thread Cert.ExpandReferenceIdeal.nD Cert.ExpandReferenceIdeal.τ).loc Cert.ExpandReferenceIdeal.main_arg0) = m ((c.tc : Thread Cert.ExpandReferenceIdeal.nD Cert.ExpandReferenceIdeal.τ).loc Cert.ExpandReferenceIdeal.main_arg0)
      ∧ r.2.mem ((c.tc : Thread Cert.ExpandReferenceIdeal.nD Cert.ExpandReferenceIdeal.τ).loc Cert.ExpandReferenceIdeal.main_arg1) = m ((c.tc : Thread Cert.ExpandReferenceIdeal.nD Cert.ExpandReferenceIdeal.τ).loc Cert.ExpandReferenceIdeal.main_arg1)
      ∧ r.2.mem ((c.tc : Thread Cert.ExpandReferenceIdeal.nD Cert.ExpandReferenceIdeal.τ).loc Cert.ExpandReferenceIdeal.main_arg2) = m ((c.tc : Thread Cert.ExpandReferenceIdeal.nD Cert.ExpandReferenceIdeal.τ).loc Cert.ExpandReferenceIdeal.main_arg2)
      ∧ r.2.mem ((c.tc : Thread Cert.ExpandReferenceIdeal.nD Cert.ExpandReferenceIdeal.τ).loc Cert.ExpandReferenceIdeal.main_arg3) = m ((c.tc : Thread Cert.ExpandReferenceIdeal.nD Cert.ExpandReferenceIdeal.τ).loc Cert.ExpandReferenceIdeal.main_arg3)
      ∧ r.2.mem ((c.tc : Thread Cert.ExpandReferenceIdeal.nD Cert.ExpandReferenceIdeal.τ).loc Cert.ExpandReferenceIdeal.main_arg4) = m ((c.tc : Thread Cert.ExpandReferenceIdeal.nD Cert.ExpandReferenceIdeal.τ).loc Cert.ExpandReferenceIdeal.main_arg4)
      ∧ r.2.mem ((c.tc : Thread Cert.ExpandReferenceIdeal.nD Cert.ExpandReferenceIdeal.τ).loc Cert.ExpandReferenceIdeal.main_arg5) = m ((c.tc : Thread Cert.ExpandReferenceIdeal.nD Cert.ExpandReferenceIdeal.τ).loc Cert.ExpandReferenceIdeal.main_arg5)
      ∧ r.2.mem ((c.tc : Thread Cert.ExpandReferenceIdeal.nD Cert.ExpandReferenceIdeal.τ).loc Cert.ExpandReferenceIdeal.main_arg6) = m ((c.tc : Thread Cert.ExpandReferenceIdeal.nD Cert.ExpandReferenceIdeal.τ).loc Cert.ExpandReferenceIdeal.main_arg6))
      ∧ r.2.sem = fun _ => 0)

def quiescent_ShrinkKernel [hShrinkKernel : Cert.ShrinkKernel.Facts] [hPre_total_fits : Cert.Pre_total_fits.Facts] : Prop :=
  ∀ (m : (ℓ : Loc Cert.ShrinkKernel.nD Cert.ShrinkKernel.τ Cert.ShrinkKernel.sig) → Buf (Elt Bits) ℓ) (g : Dev Cert.ShrinkKernel.nD → PrngReg), Pre_ShrinkKernel m →
    θ_run (Cert.ShrinkKernel.defs (F := Bits)) (onTc (τ := Cert.ShrinkKernel.τ) (Cert.ShrinkKernel.main (F := Bits))) ⟨m, fun _ => 0, g⟩ (fun r => (∀ c : Dev Cert.ShrinkKernel.nD,
      r.2.mem ((c.tc : Thread Cert.ShrinkKernel.nD Cert.ShrinkKernel.τ).loc Cert.ShrinkKernel.main_arg0) = m ((c.tc : Thread Cert.ShrinkKernel.nD Cert.ShrinkKernel.τ).loc Cert.ShrinkKernel.main_arg0)
      ∧ r.2.mem ((c.tc : Thread Cert.ShrinkKernel.nD Cert.ShrinkKernel.τ).loc Cert.ShrinkKernel.main_arg1) = m ((c.tc : Thread Cert.ShrinkKernel.nD Cert.ShrinkKernel.τ).loc Cert.ShrinkKernel.main_arg1)
      ∧ r.2.mem ((c.tc : Thread Cert.ShrinkKernel.nD Cert.ShrinkKernel.τ).loc Cert.ShrinkKernel.main_arg2) = m ((c.tc : Thread Cert.ShrinkKernel.nD Cert.ShrinkKernel.τ).loc Cert.ShrinkKernel.main_arg2)
      ∧ r.2.mem ((c.tc : Thread Cert.ShrinkKernel.nD Cert.ShrinkKernel.τ).loc Cert.ShrinkKernel.main_arg3) = m ((c.tc : Thread Cert.ShrinkKernel.nD Cert.ShrinkKernel.τ).loc Cert.ShrinkKernel.main_arg3)
      ∧ r.2.mem ((c.tc : Thread Cert.ShrinkKernel.nD Cert.ShrinkKernel.τ).loc Cert.ShrinkKernel.main_arg4) = m ((c.tc : Thread Cert.ShrinkKernel.nD Cert.ShrinkKernel.τ).loc Cert.ShrinkKernel.main_arg4)
      ∧ r.2.mem ((c.tc : Thread Cert.ShrinkKernel.nD Cert.ShrinkKernel.τ).loc Cert.ShrinkKernel.main_arg5) = m ((c.tc : Thread Cert.ShrinkKernel.nD Cert.ShrinkKernel.τ).loc Cert.ShrinkKernel.main_arg5))
      ∧ r.2.sem = fun _ => 0)

def quiescent_ShrinkKernelIdeal [hShrinkKernelIdeal : Cert.ShrinkKernelIdeal.Facts] [hPre_total_fits : Cert.Pre_total_fits.Facts] : Prop :=
  ∀ (m : (ℓ : Loc Cert.ShrinkKernelIdeal.nD Cert.ShrinkKernelIdeal.τ Cert.ShrinkKernelIdeal.sig) → Buf (Elt Ideal) ℓ) (g : Dev Cert.ShrinkKernelIdeal.nD → PrngReg), Pre_ShrinkKernelIdeal m →
    θ_run (Cert.ShrinkKernelIdeal.defs (F := Ideal)) (onTc (τ := Cert.ShrinkKernelIdeal.τ) (Cert.ShrinkKernelIdeal.main (F := Ideal))) ⟨m, fun _ => 0, g⟩ (fun r => (∀ c : Dev Cert.ShrinkKernelIdeal.nD,
      r.2.mem ((c.tc : Thread Cert.ShrinkKernelIdeal.nD Cert.ShrinkKernelIdeal.τ).loc Cert.ShrinkKernelIdeal.main_arg0) = m ((c.tc : Thread Cert.ShrinkKernelIdeal.nD Cert.ShrinkKernelIdeal.τ).loc Cert.ShrinkKernelIdeal.main_arg0)
      ∧ r.2.mem ((c.tc : Thread Cert.ShrinkKernelIdeal.nD Cert.ShrinkKernelIdeal.τ).loc Cert.ShrinkKernelIdeal.main_arg1) = m ((c.tc : Thread Cert.ShrinkKernelIdeal.nD Cert.ShrinkKernelIdeal.τ).loc Cert.ShrinkKernelIdeal.main_arg1)
      ∧ r.2.mem ((c.tc : Thread Cert.ShrinkKernelIdeal.nD Cert.ShrinkKernelIdeal.τ).loc Cert.ShrinkKernelIdeal.main_arg2) = m ((c.tc : Thread Cert.ShrinkKernelIdeal.nD Cert.ShrinkKernelIdeal.τ).loc Cert.ShrinkKernelIdeal.main_arg2)
      ∧ r.2.mem ((c.tc : Thread Cert.ShrinkKernelIdeal.nD Cert.ShrinkKernelIdeal.τ).loc Cert.ShrinkKernelIdeal.main_arg3) = m ((c.tc : Thread Cert.ShrinkKernelIdeal.nD Cert.ShrinkKernelIdeal.τ).loc Cert.ShrinkKernelIdeal.main_arg3)
      ∧ r.2.mem ((c.tc : Thread Cert.ShrinkKernelIdeal.nD Cert.ShrinkKernelIdeal.τ).loc Cert.ShrinkKernelIdeal.main_arg4) = m ((c.tc : Thread Cert.ShrinkKernelIdeal.nD Cert.ShrinkKernelIdeal.τ).loc Cert.ShrinkKernelIdeal.main_arg4)
      ∧ r.2.mem ((c.tc : Thread Cert.ShrinkKernelIdeal.nD Cert.ShrinkKernelIdeal.τ).loc Cert.ShrinkKernelIdeal.main_arg5) = m ((c.tc : Thread Cert.ShrinkKernelIdeal.nD Cert.ShrinkKernelIdeal.τ).loc Cert.ShrinkKernelIdeal.main_arg5))
      ∧ r.2.sem = fun _ => 0)

def quiescent_ShrinkReferenceIdeal [hShrinkReferenceIdeal : Cert.ShrinkReferenceIdeal.Facts] [hPre_total_fits : Cert.Pre_total_fits.Facts] : Prop :=
  ∀ (m : (ℓ : Loc Cert.ShrinkReferenceIdeal.nD Cert.ShrinkReferenceIdeal.τ Cert.ShrinkReferenceIdeal.sig) → Buf (Elt Ideal) ℓ) (g : Dev Cert.ShrinkReferenceIdeal.nD → PrngReg), Pre_ShrinkReferenceIdeal m →
    θ_run (Cert.ShrinkReferenceIdeal.defs (F := Ideal)) (onTc (τ := Cert.ShrinkReferenceIdeal.τ) (Cert.ShrinkReferenceIdeal.main (F := Ideal))) ⟨m, fun _ => 0, g⟩ (fun r => (∀ c : Dev Cert.ShrinkReferenceIdeal.nD,
      r.2.mem ((c.tc : Thread Cert.ShrinkReferenceIdeal.nD Cert.ShrinkReferenceIdeal.τ).loc Cert.ShrinkReferenceIdeal.main_arg0) = m ((c.tc : Thread Cert.ShrinkReferenceIdeal.nD Cert.ShrinkReferenceIdeal.τ).loc Cert.ShrinkReferenceIdeal.main_arg0)
      ∧ r.2.mem ((c.tc : Thread Cert.ShrinkReferenceIdeal.nD Cert.ShrinkReferenceIdeal.τ).loc Cert.ShrinkReferenceIdeal.main_arg1) = m ((c.tc : Thread Cert.ShrinkReferenceIdeal.nD Cert.ShrinkReferenceIdeal.τ).loc Cert.ShrinkReferenceIdeal.main_arg1)
      ∧ r.2.mem ((c.tc : Thread Cert.ShrinkReferenceIdeal.nD Cert.ShrinkReferenceIdeal.τ).loc Cert.ShrinkReferenceIdeal.main_arg2) = m ((c.tc : Thread Cert.ShrinkReferenceIdeal.nD Cert.ShrinkReferenceIdeal.τ).loc Cert.ShrinkReferenceIdeal.main_arg2)
      ∧ r.2.mem ((c.tc : Thread Cert.ShrinkReferenceIdeal.nD Cert.ShrinkReferenceIdeal.τ).loc Cert.ShrinkReferenceIdeal.main_arg3) = m ((c.tc : Thread Cert.ShrinkReferenceIdeal.nD Cert.ShrinkReferenceIdeal.τ).loc Cert.ShrinkReferenceIdeal.main_arg3)
      ∧ r.2.mem ((c.tc : Thread Cert.ShrinkReferenceIdeal.nD Cert.ShrinkReferenceIdeal.τ).loc Cert.ShrinkReferenceIdeal.main_arg4) = m ((c.tc : Thread Cert.ShrinkReferenceIdeal.nD Cert.ShrinkReferenceIdeal.τ).loc Cert.ShrinkReferenceIdeal.main_arg4)
      ∧ r.2.mem ((c.tc : Thread Cert.ShrinkReferenceIdeal.nD Cert.ShrinkReferenceIdeal.τ).loc Cert.ShrinkReferenceIdeal.main_arg5) = m ((c.tc : Thread Cert.ShrinkReferenceIdeal.nD Cert.ShrinkReferenceIdeal.τ).loc Cert.ShrinkReferenceIdeal.main_arg5))
      ∧ r.2.sem = fun _ => 0)

def preserves_Kernel_KernelIdeal : Prop :=
  True

def preserves_BaseKernel_BaseKernelIdeal : Prop :=
  True

def algebraic_BaseKernelIdeal_BaseReferenceIdeal [hBaseKernelIdeal : Cert.BaseKernelIdeal.Facts] [hBaseReferenceIdeal : Cert.BaseReferenceIdeal.Facts] : Prop :=
  ∀ (m : (ℓ : Loc Cert.BaseKernelIdeal.nD Cert.BaseKernelIdeal.τ Cert.BaseKernelIdeal.sig) → Buf (Elt Ideal) ℓ) (g : Dev Cert.BaseKernelIdeal.nD → PrngReg)
    (m' : (ℓ : Loc Cert.BaseReferenceIdeal.nD Cert.BaseReferenceIdeal.τ Cert.BaseReferenceIdeal.sig) → Buf (Elt Ideal) ℓ) (g' : Dev Cert.BaseReferenceIdeal.nD → PrngReg), Pre_BaseKernelIdeal m →
    (∀ c : Dev Cert.BaseKernelIdeal.nD,
      m' ((c.tc : Thread Cert.BaseReferenceIdeal.nD Cert.BaseReferenceIdeal.τ).loc Cert.BaseReferenceIdeal.main_arg0) = m ((c.tc : Thread Cert.BaseKernelIdeal.nD Cert.BaseKernelIdeal.τ).loc Cert.BaseKernelIdeal.main_arg0)
      ∧ m' ((c.tc : Thread Cert.BaseReferenceIdeal.nD Cert.BaseReferenceIdeal.τ).loc Cert.BaseReferenceIdeal.main_arg1) = m ((c.tc : Thread Cert.BaseKernelIdeal.nD Cert.BaseKernelIdeal.τ).loc Cert.BaseKernelIdeal.main_arg1)
      ∧ m' ((c.tc : Thread Cert.BaseReferenceIdeal.nD Cert.BaseReferenceIdeal.τ).loc Cert.BaseReferenceIdeal.main_arg2) = m ((c.tc : Thread Cert.BaseKernelIdeal.nD Cert.BaseKernelIdeal.τ).loc Cert.BaseKernelIdeal.main_arg2)) →
    ∃ (v0 : (c : Dev Cert.BaseKernelIdeal.nD) → Buf (Elt Ideal) ((c.tc : Thread Cert.BaseKernelIdeal.nD Cert.BaseKernelIdeal.τ).loc Cert.BaseKernelIdeal.main_v1)),
      θ_run (Cert.BaseKernelIdeal.defs (F := Ideal)) (onTc (τ := Cert.BaseKernelIdeal.τ) (Cert.BaseKernelIdeal.main (F := Ideal))) ⟨m, fun _ => 0, g⟩ (fun r => ∀ c : Dev Cert.BaseKernelIdeal.nD,
          r.2.mem ((c.tc : Thread Cert.BaseKernelIdeal.nD Cert.BaseKernelIdeal.τ).loc Cert.BaseKernelIdeal.main_v1) = v0 c
          ∧ r.2.mem ((c.tc : Thread Cert.BaseKernelIdeal.nD Cert.BaseKernelIdeal.τ).loc Cert.BaseKernelIdeal.main_arg0) = m ((c.tc : Thread Cert.BaseKernelIdeal.nD Cert.BaseKernelIdeal.τ).loc Cert.BaseKernelIdeal.main_arg0)
          ∧ r.2.mem ((c.tc : Thread Cert.BaseKernelIdeal.nD Cert.BaseKernelIdeal.τ).loc Cert.BaseKernelIdeal.main_arg1) = m ((c.tc : Thread Cert.BaseKernelIdeal.nD Cert.BaseKernelIdeal.τ).loc Cert.BaseKernelIdeal.main_arg1)
          ∧ r.2.mem ((c.tc : Thread Cert.BaseKernelIdeal.nD Cert.BaseKernelIdeal.τ).loc Cert.BaseKernelIdeal.main_arg2) = m ((c.tc : Thread Cert.BaseKernelIdeal.nD Cert.BaseKernelIdeal.τ).loc Cert.BaseKernelIdeal.main_arg2))
      ∧ θ_run (Cert.BaseReferenceIdeal.defs (F := Ideal)) (onTc (τ := Cert.BaseReferenceIdeal.τ) (Cert.BaseReferenceIdeal.main (F := Ideal))) ⟨m', fun _ => 0, g'⟩ (fun r => ∀ c : Dev Cert.BaseReferenceIdeal.nD,
          r.2.mem ((c.tc : Thread Cert.BaseReferenceIdeal.nD Cert.BaseReferenceIdeal.τ).loc Cert.BaseReferenceIdeal.main_v124) = v0 c
          ∧ r.2.mem ((c.tc : Thread Cert.BaseReferenceIdeal.nD Cert.BaseReferenceIdeal.τ).loc Cert.BaseReferenceIdeal.main_arg0) = m' ((c.tc : Thread Cert.BaseReferenceIdeal.nD Cert.BaseReferenceIdeal.τ).loc Cert.BaseReferenceIdeal.main_arg0)
          ∧ r.2.mem ((c.tc : Thread Cert.BaseReferenceIdeal.nD Cert.BaseReferenceIdeal.τ).loc Cert.BaseReferenceIdeal.main_arg1) = m' ((c.tc : Thread Cert.BaseReferenceIdeal.nD Cert.BaseReferenceIdeal.τ).loc Cert.BaseReferenceIdeal.main_arg1)
          ∧ r.2.mem ((c.tc : Thread Cert.BaseReferenceIdeal.nD Cert.BaseReferenceIdeal.τ).loc Cert.BaseReferenceIdeal.main_arg2) = m' ((c.tc : Thread Cert.BaseReferenceIdeal.nD Cert.BaseReferenceIdeal.τ).loc Cert.BaseReferenceIdeal.main_arg2))

def preserves_ExpandKernel_ExpandKernelIdeal : Prop :=
  True

def algebraic_ExpandKernelIdeal_ExpandReferenceIdeal [hExpandKernelIdeal : Cert.ExpandKernelIdeal.Facts] [hExpandReferenceIdeal : Cert.ExpandReferenceIdeal.Facts] : Prop :=
  ∀ (m : (ℓ : Loc Cert.ExpandKernelIdeal.nD Cert.ExpandKernelIdeal.τ Cert.ExpandKernelIdeal.sig) → Buf (Elt Ideal) ℓ) (g : Dev Cert.ExpandKernelIdeal.nD → PrngReg)
    (m' : (ℓ : Loc Cert.ExpandReferenceIdeal.nD Cert.ExpandReferenceIdeal.τ Cert.ExpandReferenceIdeal.sig) → Buf (Elt Ideal) ℓ) (g' : Dev Cert.ExpandReferenceIdeal.nD → PrngReg), Pre_ExpandKernelIdeal m →
    (∀ c : Dev Cert.ExpandKernelIdeal.nD,
      m' ((c.tc : Thread Cert.ExpandReferenceIdeal.nD Cert.ExpandReferenceIdeal.τ).loc Cert.ExpandReferenceIdeal.main_arg0) = m ((c.tc : Thread Cert.ExpandKernelIdeal.nD Cert.ExpandKernelIdeal.τ).loc Cert.ExpandKernelIdeal.main_arg0)
      ∧ m' ((c.tc : Thread Cert.ExpandReferenceIdeal.nD Cert.ExpandReferenceIdeal.τ).loc Cert.ExpandReferenceIdeal.main_arg1) = m ((c.tc : Thread Cert.ExpandKernelIdeal.nD Cert.ExpandKernelIdeal.τ).loc Cert.ExpandKernelIdeal.main_arg1)
      ∧ m' ((c.tc : Thread Cert.ExpandReferenceIdeal.nD Cert.ExpandReferenceIdeal.τ).loc Cert.ExpandReferenceIdeal.main_arg2) = m ((c.tc : Thread Cert.ExpandKernelIdeal.nD Cert.ExpandKernelIdeal.τ).loc Cert.ExpandKernelIdeal.main_arg2)
      ∧ m' ((c.tc : Thread Cert.ExpandReferenceIdeal.nD Cert.ExpandReferenceIdeal.τ).loc Cert.ExpandReferenceIdeal.main_arg3) = m ((c.tc : Thread Cert.ExpandKernelIdeal.nD Cert.ExpandKernelIdeal.τ).loc Cert.ExpandKernelIdeal.main_arg3)
      ∧ m' ((c.tc : Thread Cert.ExpandReferenceIdeal.nD Cert.ExpandReferenceIdeal.τ).loc Cert.ExpandReferenceIdeal.main_arg4) = m ((c.tc : Thread Cert.ExpandKernelIdeal.nD Cert.ExpandKernelIdeal.τ).loc Cert.ExpandKernelIdeal.main_arg4)
      ∧ m' ((c.tc : Thread Cert.ExpandReferenceIdeal.nD Cert.ExpandReferenceIdeal.τ).loc Cert.ExpandReferenceIdeal.main_arg5) = m ((c.tc : Thread Cert.ExpandKernelIdeal.nD Cert.ExpandKernelIdeal.τ).loc Cert.ExpandKernelIdeal.main_arg5)
      ∧ m' ((c.tc : Thread Cert.ExpandReferenceIdeal.nD Cert.ExpandReferenceIdeal.τ).loc Cert.ExpandReferenceIdeal.main_arg6) = m ((c.tc : Thread Cert.ExpandKernelIdeal.nD Cert.ExpandKernelIdeal.τ).loc Cert.ExpandKernelIdeal.main_arg6)) →
    ∃ (v0 : (c : Dev Cert.ExpandKernelIdeal.nD) → Buf (Elt Ideal) ((c.tc : Thread Cert.ExpandKernelIdeal.nD Cert.ExpandKernelIdeal.τ).loc Cert.ExpandKernelIdeal.main_v1)),
      θ_run (Cert.ExpandKernelIdeal.defs (F := Ideal)) (onTc (τ := Cert.ExpandKernelIdeal.τ) (Cert.ExpandKernelIdeal.main (F := Ideal))) ⟨m, fun _ => 0, g⟩ (fun r => ∀ c : Dev Cert.ExpandKernelIdeal.nD,
          r.2.mem ((c.tc : Thread Cert.ExpandKernelIdeal.nD Cert.ExpandKernelIdeal.τ).loc Cert.ExpandKernelIdeal.main_v1) = v0 c
          ∧ r.2.mem ((c.tc : Thread Cert.ExpandKernelIdeal.nD Cert.ExpandKernelIdeal.τ).loc Cert.ExpandKernelIdeal.main_arg0) = m ((c.tc : Thread Cert.ExpandKernelIdeal.nD Cert.ExpandKernelIdeal.τ).loc Cert.ExpandKernelIdeal.main_arg0)
          ∧ r.2.mem ((c.tc : Thread Cert.ExpandKernelIdeal.nD Cert.ExpandKernelIdeal.τ).loc Cert.ExpandKernelIdeal.main_arg1) = m ((c.tc : Thread Cert.ExpandKernelIdeal.nD Cert.ExpandKernelIdeal.τ).loc Cert.ExpandKernelIdeal.main_arg1)
          ∧ r.2.mem ((c.tc : Thread Cert.ExpandKernelIdeal.nD Cert.ExpandKernelIdeal.τ).loc Cert.ExpandKernelIdeal.main_arg2) = m ((c.tc : Thread Cert.ExpandKernelIdeal.nD Cert.ExpandKernelIdeal.τ).loc Cert.ExpandKernelIdeal.main_arg2)
          ∧ r.2.mem ((c.tc : Thread Cert.ExpandKernelIdeal.nD Cert.ExpandKernelIdeal.τ).loc Cert.ExpandKernelIdeal.main_arg3) = m ((c.tc : Thread Cert.ExpandKernelIdeal.nD Cert.ExpandKernelIdeal.τ).loc Cert.ExpandKernelIdeal.main_arg3)
          ∧ r.2.mem ((c.tc : Thread Cert.ExpandKernelIdeal.nD Cert.ExpandKernelIdeal.τ).loc Cert.ExpandKernelIdeal.main_arg4) = m ((c.tc : Thread Cert.ExpandKernelIdeal.nD Cert.ExpandKernelIdeal.τ).loc Cert.ExpandKernelIdeal.main_arg4)
          ∧ r.2.mem ((c.tc : Thread Cert.ExpandKernelIdeal.nD Cert.ExpandKernelIdeal.τ).loc Cert.ExpandKernelIdeal.main_arg5) = m ((c.tc : Thread Cert.ExpandKernelIdeal.nD Cert.ExpandKernelIdeal.τ).loc Cert.ExpandKernelIdeal.main_arg5)
          ∧ r.2.mem ((c.tc : Thread Cert.ExpandKernelIdeal.nD Cert.ExpandKernelIdeal.τ).loc Cert.ExpandKernelIdeal.main_arg6) = m ((c.tc : Thread Cert.ExpandKernelIdeal.nD Cert.ExpandKernelIdeal.τ).loc Cert.ExpandKernelIdeal.main_arg6))
      ∧ θ_run (Cert.ExpandReferenceIdeal.defs (F := Ideal)) (onTc (τ := Cert.ExpandReferenceIdeal.τ) (Cert.ExpandReferenceIdeal.main (F := Ideal))) ⟨m', fun _ => 0, g'⟩ (fun r => ∀ c : Dev Cert.ExpandReferenceIdeal.nD,
          r.2.mem ((c.tc : Thread Cert.ExpandReferenceIdeal.nD Cert.ExpandReferenceIdeal.τ).loc Cert.ExpandReferenceIdeal.main_v140) = v0 c
          ∧ r.2.mem ((c.tc : Thread Cert.ExpandReferenceIdeal.nD Cert.ExpandReferenceIdeal.τ).loc Cert.ExpandReferenceIdeal.main_arg0) = m' ((c.tc : Thread Cert.ExpandReferenceIdeal.nD Cert.ExpandReferenceIdeal.τ).loc Cert.ExpandReferenceIdeal.main_arg0)
          ∧ r.2.mem ((c.tc : Thread Cert.ExpandReferenceIdeal.nD Cert.ExpandReferenceIdeal.τ).loc Cert.ExpandReferenceIdeal.main_arg1) = m' ((c.tc : Thread Cert.ExpandReferenceIdeal.nD Cert.ExpandReferenceIdeal.τ).loc Cert.ExpandReferenceIdeal.main_arg1)
          ∧ r.2.mem ((c.tc : Thread Cert.ExpandReferenceIdeal.nD Cert.ExpandReferenceIdeal.τ).loc Cert.ExpandReferenceIdeal.main_arg2) = m' ((c.tc : Thread Cert.ExpandReferenceIdeal.nD Cert.ExpandReferenceIdeal.τ).loc Cert.ExpandReferenceIdeal.main_arg2)
          ∧ r.2.mem ((c.tc : Thread Cert.ExpandReferenceIdeal.nD Cert.ExpandReferenceIdeal.τ).loc Cert.ExpandReferenceIdeal.main_arg3) = m' ((c.tc : Thread Cert.ExpandReferenceIdeal.nD Cert.ExpandReferenceIdeal.τ).loc Cert.ExpandReferenceIdeal.main_arg3)
          ∧ r.2.mem ((c.tc : Thread Cert.ExpandReferenceIdeal.nD Cert.ExpandReferenceIdeal.τ).loc Cert.ExpandReferenceIdeal.main_arg4) = m' ((c.tc : Thread Cert.ExpandReferenceIdeal.nD Cert.ExpandReferenceIdeal.τ).loc Cert.ExpandReferenceIdeal.main_arg4)
          ∧ r.2.mem ((c.tc : Thread Cert.ExpandReferenceIdeal.nD Cert.ExpandReferenceIdeal.τ).loc Cert.ExpandReferenceIdeal.main_arg5) = m' ((c.tc : Thread Cert.ExpandReferenceIdeal.nD Cert.ExpandReferenceIdeal.τ).loc Cert.ExpandReferenceIdeal.main_arg5)
          ∧ r.2.mem ((c.tc : Thread Cert.ExpandReferenceIdeal.nD Cert.ExpandReferenceIdeal.τ).loc Cert.ExpandReferenceIdeal.main_arg6) = m' ((c.tc : Thread Cert.ExpandReferenceIdeal.nD Cert.ExpandReferenceIdeal.τ).loc Cert.ExpandReferenceIdeal.main_arg6))

def preserves_ShrinkKernel_ShrinkKernelIdeal : Prop :=
  True

def algebraic_ShrinkKernelIdeal_ShrinkReferenceIdeal [hShrinkKernelIdeal : Cert.ShrinkKernelIdeal.Facts] [hShrinkReferenceIdeal : Cert.ShrinkReferenceIdeal.Facts] [hPre_total_fits : Cert.Pre_total_fits.Facts] : Prop :=
  ∀ (m : (ℓ : Loc Cert.ShrinkKernelIdeal.nD Cert.ShrinkKernelIdeal.τ Cert.ShrinkKernelIdeal.sig) → Buf (Elt Ideal) ℓ) (g : Dev Cert.ShrinkKernelIdeal.nD → PrngReg)
    (m' : (ℓ : Loc Cert.ShrinkReferenceIdeal.nD Cert.ShrinkReferenceIdeal.τ Cert.ShrinkReferenceIdeal.sig) → Buf (Elt Ideal) ℓ) (g' : Dev Cert.ShrinkReferenceIdeal.nD → PrngReg), Pre_ShrinkKernelIdeal m →
    (∀ c : Dev Cert.ShrinkKernelIdeal.nD,
      m' ((c.tc : Thread Cert.ShrinkReferenceIdeal.nD Cert.ShrinkReferenceIdeal.τ).loc Cert.ShrinkReferenceIdeal.main_arg0) = m ((c.tc : Thread Cert.ShrinkKernelIdeal.nD Cert.ShrinkKernelIdeal.τ).loc Cert.ShrinkKernelIdeal.main_arg0)
      ∧ m' ((c.tc : Thread Cert.ShrinkReferenceIdeal.nD Cert.ShrinkReferenceIdeal.τ).loc Cert.ShrinkReferenceIdeal.main_arg1) = m ((c.tc : Thread Cert.ShrinkKernelIdeal.nD Cert.ShrinkKernelIdeal.τ).loc Cert.ShrinkKernelIdeal.main_arg1)
      ∧ m' ((c.tc : Thread Cert.ShrinkReferenceIdeal.nD Cert.ShrinkReferenceIdeal.τ).loc Cert.ShrinkReferenceIdeal.main_arg2) = m ((c.tc : Thread Cert.ShrinkKernelIdeal.nD Cert.ShrinkKernelIdeal.τ).loc Cert.ShrinkKernelIdeal.main_arg2)
      ∧ m' ((c.tc : Thread Cert.ShrinkReferenceIdeal.nD Cert.ShrinkReferenceIdeal.τ).loc Cert.ShrinkReferenceIdeal.main_arg3) = m ((c.tc : Thread Cert.ShrinkKernelIdeal.nD Cert.ShrinkKernelIdeal.τ).loc Cert.ShrinkKernelIdeal.main_arg3)
      ∧ m' ((c.tc : Thread Cert.ShrinkReferenceIdeal.nD Cert.ShrinkReferenceIdeal.τ).loc Cert.ShrinkReferenceIdeal.main_arg4) = m ((c.tc : Thread Cert.ShrinkKernelIdeal.nD Cert.ShrinkKernelIdeal.τ).loc Cert.ShrinkKernelIdeal.main_arg4)
      ∧ m' ((c.tc : Thread Cert.ShrinkReferenceIdeal.nD Cert.ShrinkReferenceIdeal.τ).loc Cert.ShrinkReferenceIdeal.main_arg5) = m ((c.tc : Thread Cert.ShrinkKernelIdeal.nD Cert.ShrinkKernelIdeal.τ).loc Cert.ShrinkKernelIdeal.main_arg5)) →
    ∃ (v0 : (c : Dev Cert.ShrinkKernelIdeal.nD) → Buf (Elt Ideal) ((c.tc : Thread Cert.ShrinkKernelIdeal.nD Cert.ShrinkKernelIdeal.τ).loc Cert.ShrinkKernelIdeal.main_v1_0)) (v1 : (c : Dev Cert.ShrinkKernelIdeal.nD) → Buf (Elt Ideal) ((c.tc : Thread Cert.ShrinkKernelIdeal.nD Cert.ShrinkKernelIdeal.τ).loc Cert.ShrinkKernelIdeal.main_v1_1)),
      θ_run (Cert.ShrinkKernelIdeal.defs (F := Ideal)) (onTc (τ := Cert.ShrinkKernelIdeal.τ) (Cert.ShrinkKernelIdeal.main (F := Ideal))) ⟨m, fun _ => 0, g⟩ (fun r => ∀ c : Dev Cert.ShrinkKernelIdeal.nD,
          r.2.mem ((c.tc : Thread Cert.ShrinkKernelIdeal.nD Cert.ShrinkKernelIdeal.τ).loc Cert.ShrinkKernelIdeal.main_v1_0) = v0 c
          ∧ r.2.mem ((c.tc : Thread Cert.ShrinkKernelIdeal.nD Cert.ShrinkKernelIdeal.τ).loc Cert.ShrinkKernelIdeal.main_v1_1) = v1 c
          ∧ r.2.mem ((c.tc : Thread Cert.ShrinkKernelIdeal.nD Cert.ShrinkKernelIdeal.τ).loc Cert.ShrinkKernelIdeal.main_arg0) = m ((c.tc : Thread Cert.ShrinkKernelIdeal.nD Cert.ShrinkKernelIdeal.τ).loc Cert.ShrinkKernelIdeal.main_arg0)
          ∧ r.2.mem ((c.tc : Thread Cert.ShrinkKernelIdeal.nD Cert.ShrinkKernelIdeal.τ).loc Cert.ShrinkKernelIdeal.main_arg1) = m ((c.tc : Thread Cert.ShrinkKernelIdeal.nD Cert.ShrinkKernelIdeal.τ).loc Cert.ShrinkKernelIdeal.main_arg1)
          ∧ r.2.mem ((c.tc : Thread Cert.ShrinkKernelIdeal.nD Cert.ShrinkKernelIdeal.τ).loc Cert.ShrinkKernelIdeal.main_arg2) = m ((c.tc : Thread Cert.ShrinkKernelIdeal.nD Cert.ShrinkKernelIdeal.τ).loc Cert.ShrinkKernelIdeal.main_arg2)
          ∧ r.2.mem ((c.tc : Thread Cert.ShrinkKernelIdeal.nD Cert.ShrinkKernelIdeal.τ).loc Cert.ShrinkKernelIdeal.main_arg3) = m ((c.tc : Thread Cert.ShrinkKernelIdeal.nD Cert.ShrinkKernelIdeal.τ).loc Cert.ShrinkKernelIdeal.main_arg3)
          ∧ r.2.mem ((c.tc : Thread Cert.ShrinkKernelIdeal.nD Cert.ShrinkKernelIdeal.τ).loc Cert.ShrinkKernelIdeal.main_arg4) = m ((c.tc : Thread Cert.ShrinkKernelIdeal.nD Cert.ShrinkKernelIdeal.τ).loc Cert.ShrinkKernelIdeal.main_arg4)
          ∧ r.2.mem ((c.tc : Thread Cert.ShrinkKernelIdeal.nD Cert.ShrinkKernelIdeal.τ).loc Cert.ShrinkKernelIdeal.main_arg5) = m ((c.tc : Thread Cert.ShrinkKernelIdeal.nD Cert.ShrinkKernelIdeal.τ).loc Cert.ShrinkKernelIdeal.main_arg5))
      ∧ θ_run (Cert.ShrinkReferenceIdeal.defs (F := Ideal)) (onTc (τ := Cert.ShrinkReferenceIdeal.τ) (Cert.ShrinkReferenceIdeal.main (F := Ideal))) ⟨m', fun _ => 0, g'⟩ (fun r => ∀ c : Dev Cert.ShrinkReferenceIdeal.nD,
          r.2.mem ((c.tc : Thread Cert.ShrinkReferenceIdeal.nD Cert.ShrinkReferenceIdeal.τ).loc Cert.ShrinkReferenceIdeal.main_v57) = v0 c
          ∧ r.2.mem ((c.tc : Thread Cert.ShrinkReferenceIdeal.nD Cert.ShrinkReferenceIdeal.τ).loc Cert.ShrinkReferenceIdeal.main_v55) = v1 c
          ∧ r.2.mem ((c.tc : Thread Cert.ShrinkReferenceIdeal.nD Cert.ShrinkReferenceIdeal.τ).loc Cert.ShrinkReferenceIdeal.main_arg0) = m' ((c.tc : Thread Cert.ShrinkReferenceIdeal.nD Cert.ShrinkReferenceIdeal.τ).loc Cert.ShrinkReferenceIdeal.main_arg0)
          ∧ r.2.mem ((c.tc : Thread Cert.ShrinkReferenceIdeal.nD Cert.ShrinkReferenceIdeal.τ).loc Cert.ShrinkReferenceIdeal.main_arg1) = m' ((c.tc : Thread Cert.ShrinkReferenceIdeal.nD Cert.ShrinkReferenceIdeal.τ).loc Cert.ShrinkReferenceIdeal.main_arg1)
          ∧ r.2.mem ((c.tc : Thread Cert.ShrinkReferenceIdeal.nD Cert.ShrinkReferenceIdeal.τ).loc Cert.ShrinkReferenceIdeal.main_arg2) = m' ((c.tc : Thread Cert.ShrinkReferenceIdeal.nD Cert.ShrinkReferenceIdeal.τ).loc Cert.ShrinkReferenceIdeal.main_arg2)
          ∧ r.2.mem ((c.tc : Thread Cert.ShrinkReferenceIdeal.nD Cert.ShrinkReferenceIdeal.τ).loc Cert.ShrinkReferenceIdeal.main_arg3) = m' ((c.tc : Thread Cert.ShrinkReferenceIdeal.nD Cert.ShrinkReferenceIdeal.τ).loc Cert.ShrinkReferenceIdeal.main_arg3)
          ∧ r.2.mem ((c.tc : Thread Cert.ShrinkReferenceIdeal.nD Cert.ShrinkReferenceIdeal.τ).loc Cert.ShrinkReferenceIdeal.main_arg4) = m' ((c.tc : Thread Cert.ShrinkReferenceIdeal.nD Cert.ShrinkReferenceIdeal.τ).loc Cert.ShrinkReferenceIdeal.main_arg4)
          ∧ r.2.mem ((c.tc : Thread Cert.ShrinkReferenceIdeal.nD Cert.ShrinkReferenceIdeal.τ).loc Cert.ShrinkReferenceIdeal.main_arg5) = m' ((c.tc : Thread Cert.ShrinkReferenceIdeal.nD Cert.ShrinkReferenceIdeal.τ).loc Cert.ShrinkReferenceIdeal.main_arg5))

def Claim : Prop :=
  ∃ (hKernel : Cert.Kernel.Facts) (hKernelIdeal : Cert.KernelIdeal.Facts) (hReferenceIdeal : Cert.ReferenceIdeal.Facts) (hBaseKernel : Cert.BaseKernel.Facts) (hBaseKernelIdeal : Cert.BaseKernelIdeal.Facts) (hBaseReferenceIdeal : Cert.BaseReferenceIdeal.Facts) (hExpandKernel : Cert.ExpandKernel.Facts) (hExpandKernelIdeal : Cert.ExpandKernelIdeal.Facts) (hExpandReferenceIdeal : Cert.ExpandReferenceIdeal.Facts) (hShrinkKernel : Cert.ShrinkKernel.Facts) (hShrinkKernelIdeal : Cert.ShrinkKernelIdeal.Facts) (hShrinkReferenceIdeal : Cert.ShrinkReferenceIdeal.Facts) (hPre_tables_fit : Cert.Pre_tables_fit.Facts) (hPre_total_fits : Cert.Pre_total_fits.Facts),
    quiescent_Kernel (hKernel := hKernel) (hPre_tables_fit := hPre_tables_fit)
    ∧ quiescent_KernelIdeal (hKernelIdeal := hKernelIdeal) (hPre_tables_fit := hPre_tables_fit)
    ∧ quiescent_ReferenceIdeal (hReferenceIdeal := hReferenceIdeal) (hPre_tables_fit := hPre_tables_fit)
    ∧ quiescent_BaseKernel (hBaseKernel := hBaseKernel)
    ∧ quiescent_BaseKernelIdeal (hBaseKernelIdeal := hBaseKernelIdeal)
    ∧ quiescent_BaseReferenceIdeal (hBaseReferenceIdeal := hBaseReferenceIdeal)
    ∧ quiescent_ExpandKernel (hExpandKernel := hExpandKernel)
    ∧ quiescent_ExpandKernelIdeal (hExpandKernelIdeal := hExpandKernelIdeal)
    ∧ quiescent_ExpandReferenceIdeal (hExpandReferenceIdeal := hExpandReferenceIdeal)
    ∧ quiescent_ShrinkKernel (hShrinkKernel := hShrinkKernel) (hPre_total_fits := hPre_total_fits)
    ∧ quiescent_ShrinkKernelIdeal (hShrinkKernelIdeal := hShrinkKernelIdeal) (hPre_total_fits := hPre_total_fits)
    ∧ quiescent_ShrinkReferenceIdeal (hShrinkReferenceIdeal := hShrinkReferenceIdeal) (hPre_total_fits := hPre_total_fits)
    ∧ preserves_Kernel_KernelIdeal
    ∧ preserves_BaseKernel_BaseKernelIdeal
    ∧ algebraic_BaseKernelIdeal_BaseReferenceIdeal (hBaseKernelIdeal := hBaseKernelIdeal) (hBaseReferenceIdeal := hBaseReferenceIdeal)
    ∧ preserves_ExpandKernel_ExpandKernelIdeal
    ∧ algebraic_ExpandKernelIdeal_ExpandReferenceIdeal (hExpandKernelIdeal := hExpandKernelIdeal) (hExpandReferenceIdeal := hExpandReferenceIdeal)
    ∧ preserves_ShrinkKernel_ShrinkKernelIdeal
    ∧ algebraic_ShrinkKernelIdeal_ShrinkReferenceIdeal (hShrinkKernelIdeal := hShrinkKernelIdeal) (hShrinkReferenceIdeal := hShrinkReferenceIdeal) (hPre_total_fits := hPre_total_fits)
-- ==== Pre_tables_fit.lean ====
abbrev S2x128x7168 : Shape := ⟨3, ![2, 128, 7168]⟩
abbrev S896x18432 : Shape := ⟨2, ![896, 18432]⟩
abbrev S56x18432 : Shape := ⟨2, ![56, 18432]⟩
abbrev S3100x7168 : Shape := ⟨2, ![3100, 7168]⟩
abbrev S3100 : Shape := ⟨1, ![3100]⟩
abbrev S3100x18432 : Shape := ⟨2, ![3100, 18432]⟩
abbrev S41 : Shape := ⟨1, ![41]⟩
abbrev S28 : Shape := ⟨1, ![28]⟩
abbrev S27 : Shape := ⟨1, ![27]⟩
abbrev S_ : Shape := ⟨0, ![]⟩
abbrev S27x1 : Shape := ⟨2, ![27, 1]⟩

class Facts : Prop where
  slices_S28_S27_0 : S28.Slices ![0] S27
  slices_S28_S27_1 : S28.Slices ![1] S27
  bcast_S_S27 : S_.BroadcastsInDim S27 (![] : Fin 0 → Fin S27.rank)
  bcast_S27_S27x1_0 : S27.BroadcastsInDim S27x1 (![0] : Fin 1 → Fin S27x1.rank)
  reducesTo_S27_S_d0 : S27.ReducesTo [0] S_
  h_S_ : 0 < S_.numel
  gather_S41_S27x1_S27_n_0_n_n_0_1_1_wf : GatherDims.WF S41 S27x1 S27 [] [0] [] [0] [] 1 ![1]

variable [Facts]

def gather_S41_S27x1_S27_n_0_n_n_0_1_1 : GatherDims S41 S27x1 S27 where
  offsetDims := []
  collapsedSliceDims := [0]
  operandBatchingDims := []
  startIndicesBatchingDims := []
  startIndexMap := [0]
  indexVectorDim := 1
  sliceSizes := ![1]
  wf := gather_S41_S27x1_S27_n_0_n_n_0_1_1_wf
def fn_where {F : FTy → Type} [FloatOps F] (arg0 : IVec S27 1) (arg1 : IVec S27 32) (arg2 : IVec S_ 32) : IVec S27 32 :=
  let v0 : IVec S_ 32 := id arg2
  let v1 : IVec S27 32 := broadcastInDim S27 ![] bcast_S_S27 v0
  let v2 : IVec S27 32 := select arg0 arg1 v1
  v2

def fn_part2 {F : FTy → Type} [FloatOps F] (main_v0 : IVec S27 32) (main_v1 : IVec S27 32) (main_v8 : IVec S27 32) (main_v15 : IVec S27 32) (main_v26 : IVec S_ 1) (main_v34 : IVec S27 1) : IVec S27 1 :=
  let main_c_12 : IVec S_ 32 := constantI S_ 32 2943#32
  let main_v35 : IVec S27 32 := broadcastInDim S27 ![] bcast_S_S27 main_c_12
  let main_v36 : IVec S27 1 := cmpi .sle main_v8 main_v35
  let main_v37 : IVec S27 1 := andi main_v34 main_v36
  let main_v38 : IVec S27 1 := cmpi .sle main_v0 main_v1
  let main_v39 : IVec S27 1 := andi main_v37 main_v38
  let main_v40 : IVec S27 1 := cmpi .sle main_v1 main_v0
  let main_c_13 : IVec S_ 32 := constantI S_ 32 0#32
  let main_v41 : IVec S27 32 := broadcastInDim S27 ![] bcast_S_S27 main_c_13
  let main_v42 : IVec S27 1 := cmpi .sge main_v15 main_v41
  let main_c_14 : IVec S_ 32 := constantI S_ 32 64#32
  let main_v43 : IVec S27 32 := broadcastInDim S27 ![] bcast_S_S27 main_c_14
  let main_v44 : IVec S27 1 := cmpi .sle main_v15 main_v43
  let main_v45 : IVec S27 1 := andi main_v42 main_v44
  let main_v46 : IVec S27 1 := ori main_v40 main_v45
  let main_v47 : IVec S27 1 := andi main_v39 main_v46
  let main_v48 : IVec S27 1 := broadcastInDim S27 ![] bcast_S_S27 main_v26
  let main_v49 : IVec S27 1 := andi main_v47 main_v48
  main_v49

def fn_part1 {F : FTy → Type} [FloatOps F] (main_arg11 : IVec S27 32) (main_v0 : IVec S27 32) (main_v1 : IVec S27 32) (main_v8 : IVec S27 32) (main_v15 : IVec S27 32) (main_v16 : IVec S27 1) (main_v18 : IVec S27 32) : IVec S27 1 :=
  let main_v19 : IVec S27 32 := addi main_v18 main_v15
  let main_c_4 : IVec S_ 32 := constantI S_ 32 3#32
  let main_v20 : IVec S27 32 := broadcastInDim S27 ![] bcast_S_S27 main_c_4
  let main_v21 : IVec S27 32 := addi main_v19 main_v20
  let main_c_5 : IVec S_ 32 := constantI S_ 32 2#32
  let main_v22 : IVec S27 32 := broadcastInDim S27 ![] bcast_S_S27 main_c_5
  let main_v23 : IVec S27 32 := Host.shrui main_v21 main_v22
  let main_c_6 : IVec S_ 32 := constantI S_ 32 0#32
  let main_v24 : IVec S27 32 := fn_where (F := F) main_v16 main_v23 main_c_6
  let main_c_7 : IVec S_ 32 := constantI S_ 32 0#32
  let main_v25 : IVec S_ 32 := (fun x v => Host.reduce IntOp.addi x v reducesTo_S27_S_d0 h_S_) main_v24 main_c_7
  let main_c_8 : IVec S_ 32 := constantI S_ 32 384#32
  let main_v26 : IVec S_ 1 := cmpi .sle main_v25 main_c_8
  let main_c_9 : IVec S_ 32 := constantI S_ 32 0#32
  let main_v27 : IVec S27 32 := broadcastInDim S27 ![] bcast_S_S27 main_c_9
  let main_v28 : IVec S27 1 := cmpi .sge main_arg11 main_v27
  let main_c_10 : IVec S_ 32 := constantI S_ 32 41#32
  let main_v29 : IVec S27 32 := broadcastInDim S27 ![] bcast_S_S27 main_c_10
  let main_v30 : IVec S27 1 := cmpi .slt main_arg11 main_v29
  let main_v31 : IVec S27 1 := andi main_v28 main_v30
  let main_c_11 : IVec S_ 32 := constantI S_ 32 0#32
  let main_v32 : IVec S27 32 := broadcastInDim S27 ![] bcast_S_S27 main_c_11
  let main_v33 : IVec S27 1 := cmpi .sge main_v8 main_v32
  let main_v34 : IVec S27 1 := andi main_v31 main_v33
  fn_part2 (F := F) main_v0 main_v1 main_v8 main_v15 main_v26 main_v34

def fn {F : FTy → Type} [FloatOps F] (main_arg0 : FVec F S2x128x7168 .bf16) (main_arg1 : IVec S896x18432 32) (main_arg2 : FVec F S56x18432 .bf16) (main_arg3 : IVec S3100x7168 8) (main_arg4 : FVec F S3100 .f32) (main_arg5 : IVec S3100x18432 8) (main_arg6 : FVec F S3100 .f32) (main_arg7 : IVec S41 32) (main_arg8 : IVec S41 32) (main_arg9 : FVec F S41 .f32) (main_arg10 : IVec S28 32) (main_arg11 : IVec S27 32) : IVec S27 1 :=
  let main_v0 : IVec S27 32 := (extractStridedSlice S27 ![0] · slices_S28_S27_0) main_arg10
  let main_v1 : IVec S27 32 := (extractStridedSlice S27 ![1] · slices_S28_S27_1) main_arg10
  let main_c : IVec S_ 32 := constantI S_ 32 0#32
  let main_v2 : IVec S27 32 := broadcastInDim S27 ![] bcast_S_S27 main_c
  let main_v3 : IVec S27 1 := cmpi .slt main_arg11 main_v2
  let main_c_0 : IVec S_ 32 := constantI S_ 32 41#32
  let main_v4 : IVec S27 32 := broadcastInDim S27 ![] bcast_S_S27 main_c_0
  let main_v5 : IVec S27 32 := addi main_arg11 main_v4
  let main_v6 : IVec S27 32 := select main_v3 main_v5 main_arg11
  let main_v7 : IVec S27x1 32 := broadcastInDim S27x1 ![0] bcast_S27_S27x1_0 main_v6
  let main_v8 : IVec S27 32 := (fun x i => Host.gather gather_S41_S27x1_S27_n_0_n_n_0_1_1 x i) main_arg7 main_v7
  let main_c_1 : IVec S_ 32 := constantI S_ 32 0#32
  let main_v9 : IVec S27 32 := broadcastInDim S27 ![] bcast_S_S27 main_c_1
  let main_v10 : IVec S27 1 := cmpi .slt main_arg11 main_v9
  let main_c_2 : IVec S_ 32 := constantI S_ 32 41#32
  let main_v11 : IVec S27 32 := broadcastInDim S27 ![] bcast_S_S27 main_c_2
  let main_v12 : IVec S27 32 := addi main_arg11 main_v11
  let main_v13 : IVec S27 32 := select main_v10 main_v12 main_arg11
  let main_v14 : IVec S27x1 32 := broadcastInDim S27x1 ![0] bcast_S27_S27x1_0 main_v13
  let main_v15 : IVec S27 32 := (fun x i => Host.gather gather_S41_S27x1_S27_n_0_n_n_0_1_1 x i) main_arg8 main_v14
  let main_v16 : IVec S27 1 := cmpi .sgt main_v1 main_v0
  let main_c_3 : IVec S_ 32 := constantI S_ 32 3#32
  let main_v17 : IVec S27 32 := broadcastInDim S27 ![] bcast_S_S27 main_c_3
  let main_v18 : IVec S27 32 := andi main_v8 main_v17
  fn_part1 (F := F) main_arg11 main_v0 main_v1 main_v8 main_v15 main_v16 main_v18
-- ==== Pre_total_fits.lean ====
abbrev S2x128x7168 : Shape := ⟨3, ![2, 128, 7168]⟩
abbrev S1536x7168 : Shape := ⟨2, ![1536, 7168]⟩
abbrev S16x128 : Shape := ⟨2, ![16, 128]⟩
abbrev S3x256x128 : Shape := ⟨3, ![3, 256, 128]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S2x128x7168 .bf16) (main_arg1 : IVec S1536x7168 8) (main_arg2 : FVec F S16x128 .f32) (main_arg3 : FVec F S3x256x128 .f32) (main_arg4 : IVec S16x128 32) (main_arg5 : IVec S1 32) : IVec S_ 1 :=
  let main_v0 : IVec S_ 32 := shapeCast S_ main_arg5 shapeCasts_S1_S_
  let main_c : IVec S_ 32 := constantI S_ 32 0#32
  let main_v1 : IVec S_ 1 := cmpi .sge main_v0 main_c
  let main_v2 : IVec S_ 32 := shapeCast S_ main_arg5 shapeCasts_S1_S_
  let main_c_0 : IVec S_ 32 := constantI S_ 32 1536#32
  let main_v3 : IVec S_ 1 := cmpi .sle main_v2 main_c_0
  let main_v4 : IVec S_ 1 := andi main_v1 main_v3
  main_v4
-- ==== Kernel.lean ====
abbrev S2x128x7168 : Shape := ⟨3, ![2, 128, 7168]⟩
abbrev S896x18432 : Shape := ⟨2, ![896, 18432]⟩
abbrev S56x18432 : Shape := ⟨2, ![56, 18432]⟩
abbrev S3100x7168 : Shape := ⟨2, ![3100, 7168]⟩
abbrev S3100 : Shape := ⟨1, ![3100]⟩
abbrev S3100x18432 : Shape := ⟨2, ![3100, 18432]⟩
abbrev S41 : Shape := ⟨1, ![41]⟩
abbrev S28 : Shape := ⟨1, ![28]⟩
abbrev S27 : Shape := ⟨1, ![27]⟩
abbrev S256x7168 : Shape := ⟨2, ![256, 7168]⟩
abbrev S1x3100 : Shape := ⟨2, ![1, 3100]⟩
abbrev S256x18432 : Shape := ⟨2, ![256, 18432]⟩
abbrev S64x256 : Shape := ⟨2, ![64, 256]⟩
abbrev S896x1024 : Shape := ⟨2, ![896, 1024]⟩
abbrev S56x1024 : Shape := ⟨2, ![56, 1024]⟩
abbrev S256x1024 : Shape := ⟨2, ![256, 1024]⟩
abbrev S1536x7168 : Shape := ⟨2, ![1536, 7168]⟩
abbrev S1536x18432 : Shape := ⟨2, ![1536, 18432]⟩
abbrev S6x256x256 : Shape := ⟨3, ![6, 256, 256]⟩
abbrev S16x128 : Shape := ⟨2, ![16, 128]⟩
abbrev S1536x128 : Shape := ⟨2, ![1536, 128]⟩
abbrev S3x256x128 : Shape := ⟨3, ![3, 256, 128]⟩
abbrev S1 : Shape := ⟨1, ![1]⟩
abbrev S_ : Shape := ⟨0, ![]⟩
abbrev S4x7168 : Shape := ⟨2, ![4, 7168]⟩
abbrev S4x18432 : Shape := ⟨2, ![4, 18432]⟩
abbrev S8x128 : Shape := ⟨2, ![8, 128]⟩
abbrev S1x128 : Shape := ⟨2, ![1, 128]⟩
abbrev S128x128 : Shape := ⟨2, ![128, 128]⟩
abbrev S1x128x128 : Shape := ⟨3, ![1, 128, 128]⟩
abbrev S256x256 : Shape := ⟨2, ![256, 256]⟩
abbrev S256x128 : Shape := ⟨2, ![256, 128]⟩
abbrev S1x256x128 : Shape := ⟨3, ![1, 256, 128]⟩
abbrev S64x128 : Shape := ⟨2, ![64, 128]⟩
abbrev S1x256x256 : Shape := ⟨3, ![1, 256, 256]⟩
abbrev S896x1x1024 : Shape := ⟨3, ![896, 1, 1024]⟩
abbrev S896x8x1024 : Shape := ⟨3, ![896, 8, 1024]⟩
abbrev S7168x1024 : Shape := ⟨2, ![7168, 1024]⟩
abbrev S56x1x1024 : Shape := ⟨3, ![56, 1, 1024]⟩
abbrev S56x128x1024 : Shape := ⟨3, ![56, 128, 1024]⟩

abbrev nBuf : Space → Nat
  | .hbm => 13
  | .vmem => 17
  | .smem => 6
  | _ => 0

abbrev bufTy : (tb : Table) → Fin (tcTables nBuf tb) → BufTy
  | .hbm, ⟨0, _⟩ => ⟨S2x128x7168, .bf16⟩
  | .hbm, ⟨1, _⟩ => ⟨S896x18432, .i32⟩
  | .hbm, ⟨2, _⟩ => ⟨S56x18432, .bf16⟩
  | .hbm, ⟨3, _⟩ => ⟨S3100x7168, .i8⟩
  | .hbm, ⟨4, _⟩ => ⟨S3100, .f32⟩
  | .hbm, ⟨5, _⟩ => ⟨S3100x18432, .i8⟩
  | .hbm, ⟨6, _⟩ => ⟨S3100, .f32⟩
  | .hbm, ⟨7, _⟩ => ⟨S41, .f32⟩
  | .hbm, ⟨8, _⟩ => ⟨S256x7168, .bf16⟩
  | .hbm, ⟨9, _⟩ => ⟨S1x3100, .f32⟩
  | .hbm, ⟨10, _⟩ => ⟨S1x3100, .f32⟩
  | .hbm, ⟨11, _⟩ => ⟨S256x18432, .bf16⟩
  | .hbm, ⟨12, _⟩ => ⟨S64x256, .bf16⟩
  | .local _ .vmem, ⟨0, _⟩ => ⟨S256x7168, .bf16⟩
  | .local _ .vmem, ⟨1, _⟩ => ⟨S896x1024, .i32⟩
  | .local _ .vmem, ⟨2, _⟩ => ⟨S896x1024, .i32⟩
  | .local _ .vmem, ⟨3, _⟩ => ⟨S56x1024, .bf16⟩
  | .local _ .vmem, ⟨4, _⟩ => ⟨S56x1024, .bf16⟩
  | .local _ .vmem, ⟨5, _⟩ => ⟨S1x3100, .f32⟩
  | .local _ .vmem, ⟨6, _⟩ => ⟨S1x3100, .f32⟩
  | .local _ .vmem, ⟨7, _⟩ => ⟨S256x1024, .bf16⟩
  | .local _ .vmem, ⟨8, _⟩ => ⟨S256x1024, .bf16⟩
  | .local _ .vmem, ⟨9, _⟩ => ⟨S64x256, .bf16⟩
  | .local _ .vmem, ⟨10, _⟩ => ⟨S1536x7168, .i8⟩
  | .local _ .vmem, ⟨11, _⟩ => ⟨S1536x18432, .i8⟩
  | .local _ .vmem, ⟨12, _⟩ => ⟨S6x256x256, .bf16⟩
  | .local _ .vmem, ⟨13, _⟩ => ⟨S16x128, .i32⟩
  | .local _ .vmem, ⟨14, _⟩ => ⟨S16x128, .f32⟩
  | .local _ .vmem, ⟨15, _⟩ => ⟨S1536x128, .bf16⟩
  | .local _ .vmem, ⟨16, _⟩ => ⟨S3x256x128, .f32⟩
  | .local _ .smem, ⟨0, _⟩ => ⟨S41, .i32⟩
  | .local _ .smem, ⟨1, _⟩ => ⟨S41, .i32⟩
  | .local _ .smem, ⟨2, _⟩ => ⟨S28, .i32⟩
  | .local _ .smem, ⟨3, _⟩ => ⟨S27, .i32⟩
  | .local _ .smem, ⟨4, _⟩ => ⟨S41, .f32⟩
  | .local _ .smem, ⟨5, _⟩ => ⟨S1, .i32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg9 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_arg7 : Ref sig .tc := ⟨.smem, 0, rfl⟩
abbrev main_arg8 : Ref sig .tc := ⟨.smem, 1, rfl⟩
abbrev main_arg10 : Ref sig .tc := ⟨.smem, 2, rfl⟩
abbrev main_arg11 : Ref sig .tc := ⟨.smem, 3, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_stg0_0 : Ref sig .tc := ⟨.smem, 4, rfl⟩
abbrev cc0_scratch7 : Ref sig .tc := ⟨.smem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![18], ![false]⟩

abbrev pre0 : Pipeline.Prefetch sig := ⟨4, ![main_arg7.idx, main_arg8.idx, main_arg10.idx, main_arg11.idx], fun | 0 => main_arg7.names | 1 => main_arg8.names | 2 => main_arg10.names | 3 => main_arg11.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_51 : BitVec 32 := 0#32
  let c27_i32 : BitVec 32 := 27#32
  let v135 : BitVec 32 := Scalar.addi c0_i32_51 c27_i32
  let c1_i32 : BitVec 32 := 1#32
  ⟨c0_i32_51, v135, c1_i32⟩
def k0_off1 (k0_t1 : Fin k0_t1_loop.trips) : Fin 1 → Nat :=
  let c0_i32_51 : BitVec 32 := 0#32
  let c1_i32 : BitVec 32 := 1#32
  let arg25 : BitVec 32 := Scf.iv c0_i32_51 c1_i32 k0_t1
  let v3348 : Index := Scalar.indexCast arg25
  ![v3348.toNat]
def k0_off2 (k0_t1 : Fin k0_t1_loop.trips) : Fin 1 → Nat :=
  let c0_i32_51 : BitVec 32 := 0#32
  let c1_i32 : BitVec 32 := 1#32
  let arg25 : BitVec 32 := Scf.iv c0_i32_51 c1_i32 k0_t1
  let c1_i32_824 : BitVec 32 := 1#32
  let v3350 : BitVec 32 := Scalar.addi arg25 c1_i32_824
  let v3351 : Index := Scalar.indexCast v3350
  ![v3351.toNat]
def k0_off3 (k0_t1 : Fin k0_t1_loop.trips) : Fin 1 → Nat :=
  let c0_i32_51 : BitVec 32 := 0#32
  let c1_i32 : BitVec 32 := 1#32
  let arg25 : BitVec 32 := Scf.iv c0_i32_51 c1_i32 k0_t1
  let v3353 : Index := Scalar.indexCast arg25
  ![v3353.toNat]
def k0_off4 (v3354 : BitVec 32) : Fin 1 → Nat :=
  let v3355 : Index := Scalar.indexCast v3354
  ![v3355.toNat]

def k0_chk1 (i : grid0.Coords) (v3354 : BitVec 32) : Prop :=
  (∀ (k0_h1 : k0_cond1 i = 1#1), ∀ a, (k0_off4 v3354) a + S1.size a ≤ S41.size a)
theorem k0_off4_inb : ∀ (i : grid0.Coords) (v3354 : BitVec 32) (k0_hw1 : k0_chk1 i v3354), ∀ (k0_h1 : k0_cond1 i = 1#1), ∀ a, (k0_off4 v3354) a + S1.size a ≤ S41.size a := fun i v3354 k0_hw1 k0_h1 => k0_hw1 k0_h1

@[reducible] def k0_t2_loop (v3349 : BitVec 32) (v3352 : BitVec 32) (v3356 : BitVec 32) (v3359 : BitVec 32) : Scf.Loop 32 :=
  let c0_i32_832 : BitVec 32 := 0#32
  let v3362 : BitVec 1 := Scalar.cmpi .sgt v3352 v3349
  let c3_i32_827 : BitVec 32 := 3#32
  let v3363 : BitVec 32 := Scalar.andi v3356 c3_i32_827
  let v3357 : BitVec 1 := Scalar.cmpi .sgt v3352 v3349
  let c0_i32_825 : BitVec 32 := 0#32
  let v3360 : BitVec 32 := Scalar.select v3357 v3359 c0_i32_825
  let v3364 : BitVec 32 := Scalar.addi v3363 v3360
  let c3_i32_828 : BitVec 32 := 3#32
  let v3365 : BitVec 32 := Scalar.addi v3364 c3_i32_828
  let c2_i32_829 : BitVec 32 := 2#32
  let v3366 : BitVec 32 := Scalar.shrui v3365 c2_i32_829
  let c0_i32_830 : BitVec 32 := 0#32
  let v3367 : BitVec 32 := Scalar.select v3362 v3366 c0_i32_830
  let v3368 : BitVec 32 := Scalar.subi v3367 c0_i32_832
  let c1_i32_833 : BitVec 32 := 1#32
  let v3370 : BitVec 32 := Scalar.divsi v3368 c1_i32_833
  let v3371 : BitVec 32 := Scalar.muli v3370 c1_i32_833
  let v3372 : BitVec 32 := Scalar.addi c0_i32_832 v3371
  let c1_i32_834 : BitVec 32 := 1#32
  ⟨c0_i32_832, v3372, c1_i32_834⟩

def k0_off5 (arg26 : BitVec 32) (v3349 : BitVec 32) (v3352 : BitVec 32) (v3356 : BitVec 32) (v3359 : BitVec 32) (k0_t2 : Fin (k0_t2_loop v3349 v3352 v3356 v3359).trips) : Fin 2 → Nat :=
  let c0_i32_832 : BitVec 32 := 0#32
  let c1_i32_834 : BitVec 32 := 1#32
  let arg27 : BitVec 32 := Scf.iv c0_i32_832 c1_i32_834 k0_t2
  let v3375 : BitVec 32 := Scalar.addi arg26 arg27
  let c4_i32_837 : BitVec 32 := 4#32
  let v3377 : BitVec 32 := Scalar.muli v3375 c4_i32_837
  let c0_i32_838 : BitVec 32 := 0#32
  ![v3377.toNat, 0]
def k0_off6 (v3349 : BitVec 32) (v3352 : BitVec 32) (v3356 : BitVec 32) (v3359 : BitVec 32) (k0_t2 : Fin (k0_t2_loop v3349 v3352 v3356 v3359).trips) : Fin 2 → Nat :=
  let c2_i32_826 : BitVec 32 := 2#32
  let v3361 : BitVec 32 := Scalar.shrui v3356 c2_i32_826
  let c0_i32_832 : BitVec 32 := 0#32
  let c1_i32_834 : BitVec 32 := 1#32
  let arg27 : BitVec 32 := Scf.iv c0_i32_832 c1_i32_834 k0_t2
  let v3374 : BitVec 32 := Scalar.addi v3361 arg27
  let c4_i32_836 : BitVec 32 := 4#32
  let v3376 : BitVec 32 := Scalar.muli v3374 c4_i32_836
  let c0_i32_839 : BitVec 32 := 0#32
  ![v3376.toNat, 0]
def k0_off7 (arg26 : BitVec 32) (v3349 : BitVec 32) (v3352 : BitVec 32) (v3356 : BitVec 32) (v3359 : BitVec 32) (k0_t2 : Fin (k0_t2_loop v3349 v3352 v3356 v3359).trips) : Fin 2 → Nat :=
  let c0_i32_832 : BitVec 32 := 0#32
  let c1_i32_834 : BitVec 32 := 1#32
  let arg27 : BitVec 32 := Scf.iv c0_i32_832 c1_i32_834 k0_t2
  let v3381 : BitVec 32 := Scalar.addi arg26 arg27
  let c4_i32_841 : BitVec 32 := 4#32
  let v3383 : BitVec 32 := Scalar.muli v3381 c4_i32_841
  let c0_i32_842 : BitVec 32 := 0#32
  ![v3383.toNat, 0]
def k0_off8 (v3349 : BitVec 32) (v3352 : BitVec 32) (v3356 : BitVec 32) (v3359 : BitVec 32) (k0_t2 : Fin (k0_t2_loop v3349 v3352 v3356 v3359).trips) : Fin 2 → Nat :=
  let c2_i32_826 : BitVec 32 := 2#32
  let v3361 : BitVec 32 := Scalar.shrui v3356 c2_i32_826
  let c0_i32_832 : BitVec 32 := 0#32
  let c1_i32_834 : BitVec 32 := 1#32
  let arg27 : BitVec 32 := Scf.iv c0_i32_832 c1_i32_834 k0_t2
  let v3380 : BitVec 32 := Scalar.addi v3361 arg27
  let c4_i32_840 : BitVec 32 := 4#32
  let v3382 : BitVec 32 := Scalar.muli v3380 c4_i32_840
  let c0_i32_843 : BitVec 32 := 0#32
  ![v3382.toNat, 0]
@[reducible] def k0_t3_loop (v3349 : BitVec 32) (v3352 : BitVec 32) (v3356 : BitVec 32) (v3359 : BitVec 32) : Scf.Loop 32 :=
  let c0_i32_832 : BitVec 32 := 0#32
  let v3362 : BitVec 1 := Scalar.cmpi .sgt v3352 v3349
  let c3_i32_827 : BitVec 32 := 3#32
  let v3363 : BitVec 32 := Scalar.andi v3356 c3_i32_827
  let v3357 : BitVec 1 := Scalar.cmpi .sgt v3352 v3349
  let c0_i32_825 : BitVec 32 := 0#32
  let v3360 : BitVec 32 := Scalar.select v3357 v3359 c0_i32_825
  let v3364 : BitVec 32 := Scalar.addi v3363 v3360
  let c3_i32_828 : BitVec 32 := 3#32
  let v3365 : BitVec 32 := Scalar.addi v3364 c3_i32_828
  let c2_i32_829 : BitVec 32 := 2#32
  let v3366 : BitVec 32 := Scalar.shrui v3365 c2_i32_829
  let c0_i32_830 : BitVec 32 := 0#32
  let v3367 : BitVec 32 := Scalar.select v3362 v3366 c0_i32_830
  let v3368 : BitVec 32 := Scalar.subi v3367 c0_i32_832
  let c1_i32_833 : BitVec 32 := 1#32
  let v3370 : BitVec 32 := Scalar.divsi v3368 c1_i32_833
  let v3371 : BitVec 32 := Scalar.muli v3370 c1_i32_833
  let v3372 : BitVec 32 := Scalar.addi c0_i32_832 v3371
  let v3369 : BitVec 32 := Scalar.addi c0_i32_832 v3368
  let c1_i32_835 : BitVec 32 := 1#32
  ⟨v3372, v3369, c1_i32_835⟩
def k0_off9 (arg26 : BitVec 32) (v3349 : BitVec 32) (v3352 : BitVec 32) (v3356 : BitVec 32) (v3359 : BitVec 32) (k0_t3 : Fin (k0_t3_loop v3349 v3352 v3356 v3359).trips) : Fin 2 → Nat :=
  let c0_i32_832 : BitVec 32 := 0#32
  let v3362 : BitVec 1 := Scalar.cmpi .sgt v3352 v3349
  let c3_i32_827 : BitVec 32 := 3#32
  let v3363 : BitVec 32 := Scalar.andi v3356 c3_i32_827
  let v3357 : BitVec 1 := Scalar.cmpi .sgt v3352 v3349
  let c0_i32_825 : BitVec 32 := 0#32
  let v3360 : BitVec 32 := Scalar.select v3357 v3359 c0_i32_825
  let v3364 : BitVec 32 := Scalar.addi v3363 v3360
  let c3_i32_828 : BitVec 32 := 3#32
  let v3365 : BitVec 32 := Scalar.addi v3364 c3_i32_828
  let c2_i32_829 : BitVec 32 := 2#32
  let v3366 : BitVec 32 := Scalar.shrui v3365 c2_i32_829
  let c0_i32_830 : BitVec 32 := 0#32
  let v3367 : BitVec 32 := Scalar.select v3362 v3366 c0_i32_830
  let v3368 : BitVec 32 := Scalar.subi v3367 c0_i32_832
  let c1_i32_833 : BitVec 32 := 1#32
  let v3370 : BitVec 32 := Scalar.divsi v3368 c1_i32_833
  let v3371 : BitVec 32 := Scalar.muli v3370 c1_i32_833
  let v3372 : BitVec 32 := Scalar.addi c0_i32_832 v3371
  let c1_i32_835 : BitVec 32 := 1#32
  let arg27 : BitVec 32 := Scf.iv v3372 c1_i32_835 k0_t3
  let v3375 : BitVec 32 := Scalar.addi arg26 arg27
  let c4_i32_837 : BitVec 32 := 4#32
  let v3377 : BitVec 32 := Scalar.muli v3375 c4_i32_837
  let c0_i32_838 : BitVec 32 := 0#32
  ![v3377.toNat, 0]
def k0_off10 (v3349 : BitVec 32) (v3352 : BitVec 32) (v3356 : BitVec 32) (v3359 : BitVec 32) (k0_t3 : Fin (k0_t3_loop v3349 v3352 v3356 v3359).trips) : Fin 2 → Nat :=
  let c2_i32_826 : BitVec 32 := 2#32
  let v3361 : BitVec 32 := Scalar.shrui v3356 c2_i32_826
  let c0_i32_832 : BitVec 32 := 0#32
  let v3362 : BitVec 1 := Scalar.cmpi .sgt v3352 v3349
  let c3_i32_827 : BitVec 32 := 3#32
  let v3363 : BitVec 32 := Scalar.andi v3356 c3_i32_827
  let v3357 : BitVec 1 := Scalar.cmpi .sgt v3352 v3349
  let c0_i32_825 : BitVec 32 := 0#32
  let v3360 : BitVec 32 := Scalar.select v3357 v3359 c0_i32_825
  let v3364 : BitVec 32 := Scalar.addi v3363 v3360
  let c3_i32_828 : BitVec 32 := 3#32
  let v3365 : BitVec 32 := Scalar.addi v3364 c3_i32_828
  let c2_i32_829 : BitVec 32 := 2#32
  let v3366 : BitVec 32 := Scalar.shrui v3365 c2_i32_829
  let c0_i32_830 : BitVec 32 := 0#32
  let v3367 : BitVec 32 := Scalar.select v3362 v3366 c0_i32_830
  let v3368 : BitVec 32 := Scalar.subi v3367 c0_i32_832
  let c1_i32_833 : BitVec 32 := 1#32
  let v3370 : BitVec 32 := Scalar.divsi v3368 c1_i32_833
  let v3371 : BitVec 32 := Scalar.muli v3370 c1_i32_833
  let v3372 : BitVec 32 := Scalar.addi c0_i32_832 v3371
  let c1_i32_835 : BitVec 32 := 1#32
  let arg27 : BitVec 32 := Scf.iv v3372 c1_i32_835 k0_t3
  let v3374 : BitVec 32 := Scalar.addi v3361 arg27
  let c4_i32_836 : BitVec 32 := 4#32
  let v3376 : BitVec 32 := Scalar.muli v3374 c4_i32_836
  let c0_i32_839 : BitVec 32 := 0#32
  ![v3376.toNat, 0]
def k0_off11 (arg26 : BitVec 32) (v3349 : BitVec 32) (v3352 : BitVec 32) (v3356 : BitVec 32) (v3359 : BitVec 32) (k0_t3 : Fin (k0_t3_loop v3349 v3352 v3356 v3359).trips) : Fin 2 → Nat :=
  let c0_i32_832 : BitVec 32 := 0#32
  let v3362 : BitVec 1 := Scalar.cmpi .sgt v3352 v3349
  let c3_i32_827 : BitVec 32 := 3#32
  let v3363 : BitVec 32 := Scalar.andi v3356 c3_i32_827
  let v3357 : BitVec 1 := Scalar.cmpi .sgt v3352 v3349
  let c0_i32_825 : BitVec 32 := 0#32
  let v3360 : BitVec 32 := Scalar.select v3357 v3359 c0_i32_825
  let v3364 : BitVec 32 := Scalar.addi v3363 v3360
  let c3_i32_828 : BitVec 32 := 3#32
  let v3365 : BitVec 32 := Scalar.addi v3364 c3_i32_828
  let c2_i32_829 : BitVec 32 := 2#32
  let v3366 : BitVec 32 := Scalar.shrui v3365 c2_i32_829
  let c0_i32_830 : BitVec 32 := 0#32
  let v3367 : BitVec 32 := Scalar.select v3362 v3366 c0_i32_830
  let v3368 : BitVec 32 := Scalar.subi v3367 c0_i32_832
  let c1_i32_833 : BitVec 32 := 1#32
  let v3370 : BitVec 32 := Scalar.divsi v3368 c1_i32_833
  let v3371 : BitVec 32 := Scalar.muli v3370 c1_i32_833
  let v3372 : BitVec 32 := Scalar.addi c0_i32_832 v3371
  let c1_i32_835 : BitVec 32 := 1#32
  let arg27 : BitVec 32 := Scf.iv v3372 c1_i32_835 k0_t3
  let v3381 : BitVec 32 := Scalar.addi arg26 arg27
  let c4_i32_841 : BitVec 32 := 4#32
  let v3383 : BitVec 32 := Scalar.muli v3381 c4_i32_841
  let c0_i32_842 : BitVec 32 := 0#32
  ![v3383.toNat, 0]
def k0_off12 (v3349 : BitVec 32) (v3352 : BitVec 32) (v3356 : BitVec 32) (v3359 : BitVec 32) (k0_t3 : Fin (k0_t3_loop v3349 v3352 v3356 v3359).trips) : Fin 2 → Nat :=
  let c2_i32_826 : BitVec 32 := 2#32
  let v3361 : BitVec 32 := Scalar.shrui v3356 c2_i32_826
  let c0_i32_832 : BitVec 32 := 0#32
  let v3362 : BitVec 1 := Scalar.cmpi .sgt v3352 v3349
  let c3_i32_827 : BitVec 32 := 3#32
  let v3363 : BitVec 32 := Scalar.andi v3356 c3_i32_827
  let v3357 : BitVec 1 := Scalar.cmpi .sgt v3352 v3349
  let c0_i32_825 : BitVec 32 := 0#32
  let v3360 : BitVec 32 := Scalar.select v3357 v3359 c0_i32_825
  let v3364 : BitVec 32 := Scalar.addi v3363 v3360
  let c3_i32_828 : BitVec 32 := 3#32
  let v3365 : BitVec 32 := Scalar.addi v3364 c3_i32_828
  let c2_i32_829 : BitVec 32 := 2#32
  let v3366 : BitVec 32 := Scalar.shrui v3365 c2_i32_829
  let c0_i32_830 : BitVec 32 := 0#32
  let v3367 : BitVec 32 := Scalar.select v3362 v3366 c0_i32_830
  let v3368 : BitVec 32 := Scalar.subi v3367 c0_i32_832
  let c1_i32_833 : BitVec 32 := 1#32
  let v3370 : BitVec 32 := Scalar.divsi v3368 c1_i32_833
  let v3371 : BitVec 32 := Scalar.muli v3370 c1_i32_833
  let v3372 : BitVec 32 := Scalar.addi c0_i32_832 v3371
  let c1_i32_835 : BitVec 32 := 1#32
  let arg27 : BitVec 32 := Scf.iv v3372 c1_i32_835 k0_t3
  let v3380 : BitVec 32 := Scalar.addi v3361 arg27
  let c4_i32_840 : BitVec 32 := 4#32
  let v3382 : BitVec 32 := Scalar.muli v3380 c4_i32_840
  let c0_i32_843 : BitVec 32 := 0#32
  ![v3382.toNat, 0]

def k0_chk2 (i : grid0.Coords) (arg26 : BitVec 32) (v3349 : BitVec 32) (v3352 : BitVec 32) (v3356 : BitVec 32) (v3359 : BitVec 32) : Prop :=
  (∀ (k0_h1 : k0_cond1 i = 1#1), (k0_t2_loop v3349 v3352 v3356 v3359).OK) ∧
  (∀ k0_t2 : Fin (k0_t2_loop v3349 v3352 v3356 v3359).trips, ∀ (k0_h1 : k0_cond1 i = 1#1), ∀ a, (k0_off5 arg26 v3349 v3352 v3356 v3359 k0_t2) a + S4x7168.size a ≤ S1536x7168.size a) ∧
  (∀ k0_t2 : Fin (k0_t2_loop v3349 v3352 v3356 v3359).trips, ∀ (k0_h1 : k0_cond1 i = 1#1), ∀ a, (k0_off6 v3349 v3352 v3356 v3359 k0_t2) a + S4x7168.size a ≤ S3100x7168.size a) ∧
  (∀ k0_t2 : Fin (k0_t2_loop v3349 v3352 v3356 v3359).trips, ∀ (k0_h1 : k0_cond1 i = 1#1), ∀ (hinb : ∀ a, (k0_off6 v3349 v3352 v3356 v3359 k0_t2) a + S4x7168.size a ≤ S3100x7168.size a), (Rect.unit (s := S3100x7168) (k0_off6 v3349 v3352 v3356 v3359 k0_t2) S4x7168.size hinb).WholeWords (EltTy.packing .i8)) ∧
  (∀ k0_t2 : Fin (k0_t2_loop v3349 v3352 v3356 v3359).trips, ∀ (k0_h1 : k0_cond1 i = 1#1), ∀ (hinb : ∀ a, (k0_off5 arg26 v3349 v3352 v3356 v3359 k0_t2) a + S4x7168.size a ≤ S1536x7168.size a), (Rect.unit (s := S1536x7168) (k0_off5 arg26 v3349 v3352 v3356 v3359 k0_t2) S4x7168.size hinb).WholeWords (EltTy.packing .i8)) ∧
  (∀ k0_t2 : Fin (k0_t2_loop v3349 v3352 v3356 v3359).trips, ∀ (k0_h1 : k0_cond1 i = 1#1), ∀ a, (k0_off7 arg26 v3349 v3352 v3356 v3359 k0_t2) a + S4x18432.size a ≤ S1536x18432.size a) ∧
  (∀ k0_t2 : Fin (k0_t2_loop v3349 v3352 v3356 v3359).trips, ∀ (k0_h1 : k0_cond1 i = 1#1), ∀ a, (k0_off8 v3349 v3352 v3356 v3359 k0_t2) a + S4x18432.size a ≤ S3100x18432.size a) ∧
  (∀ k0_t2 : Fin (k0_t2_loop v3349 v3352 v3356 v3359).trips, ∀ (k0_h1 : k0_cond1 i = 1#1), ∀ (hinb : ∀ a, (k0_off8 v3349 v3352 v3356 v3359 k0_t2) a + S4x18432.size a ≤ S3100x18432.size a), (Rect.unit (s := S3100x18432) (k0_off8 v3349 v3352 v3356 v3359 k0_t2) S4x18432.size hinb).WholeWords (EltTy.packing .i8)) ∧
  (∀ k0_t2 : Fin (k0_t2_loop v3349 v3352 v3356 v3359).trips, ∀ (k0_h1 : k0_cond1 i = 1#1), ∀ (hinb : ∀ a, (k0_off7 arg26 v3349 v3352 v3356 v3359 k0_t2) a + S4x18432.size a ≤ S1536x18432.size a), (Rect.unit (s := S1536x18432) (k0_off7 arg26 v3349 v3352 v3356 v3359 k0_t2) S4x18432.size hinb).WholeWords (EltTy.packing .i8)) ∧
  (∀ (k0_h1 : k0_cond1 i = 1#1), (k0_t3_loop v3349 v3352 v3356 v3359).OK) ∧
  (∀ k0_t3 : Fin (k0_t3_loop v3349 v3352 v3356 v3359).trips, ∀ (k0_h1 : k0_cond1 i = 1#1), ∀ a, (k0_off9 arg26 v3349 v3352 v3356 v3359 k0_t3) a + S4x7168.size a ≤ S1536x7168.size a) ∧
  (∀ k0_t3 : Fin (k0_t3_loop v3349 v3352 v3356 v3359).trips, ∀ (k0_h1 : k0_cond1 i = 1#1), ∀ a, (k0_off10 v3349 v3352 v3356 v3359 k0_t3) a + S4x7168.size a ≤ S3100x7168.size a) ∧
  (∀ k0_t3 : Fin (k0_t3_loop v3349 v3352 v3356 v3359).trips, ∀ (k0_h1 : k0_cond1 i = 1#1), ∀ (hinb : ∀ a, (k0_off10 v3349 v3352 v3356 v3359 k0_t3) a + S4x7168.size a ≤ S3100x7168.size a), (Rect.unit (s := S3100x7168) (k0_off10 v3349 v3352 v3356 v3359 k0_t3) S4x7168.size hinb).WholeWords (EltTy.packing .i8)) ∧
  (∀ k0_t3 : Fin (k0_t3_loop v3349 v3352 v3356 v3359).trips, ∀ (k0_h1 : k0_cond1 i = 1#1), ∀ (hinb : ∀ a, (k0_off9 arg26 v3349 v3352 v3356 v3359 k0_t3) a + S4x7168.size a ≤ S1536x7168.size a), (Rect.unit (s := S1536x7168) (k0_off9 arg26 v3349 v3352 v3356 v3359 k0_t3) S4x7168.size hinb).WholeWords (EltTy.packing .i8)) ∧
  (∀ k0_t3 : Fin (k0_t3_loop v3349 v3352 v3356 v3359).trips, ∀ (k0_h1 : k0_cond1 i = 1#1), ∀ a, (k0_off11 arg26 v3349 v3352 v3356 v3359 k0_t3) a + S4x18432.size a ≤ S1536x18432.size a) ∧
  (∀ k0_t3 : Fin (k0_t3_loop v3349 v3352 v3356 v3359).trips, ∀ (k0_h1 : k0_cond1 i = 1#1), ∀ a, (k0_off12 v3349 v3352 v3356 v3359 k0_t3) a + S4x18432.size a ≤ S3100x18432.size a) ∧
  (∀ k0_t3 : Fin (k0_t3_loop v3349 v3352 v3356 v3359).trips, ∀ (k0_h1 : k0_cond1 i = 1#1), ∀ (hinb : ∀ a, (k0_off12 v3349 v3352 v3356 v3359 k0_t3) a + S4x18432.size a ≤ S3100x18432.size a), (Rect.unit (s := S3100x18432) (k0_off12 v3349 v3352 v3356 v3359 k0_t3) S4x18432.size hinb).WholeWords (EltTy.packing .i8)) ∧
  (∀ k0_t3 : Fin (k0_t3_loop v3349 v3352 v3356 v3359).trips, ∀ (k0_h1 : k0_cond1 i = 1#1), ∀ (hinb : ∀ a, (k0_off11 arg26 v3349 v3352 v3356 v3359 k0_t3) a + S4x18432.size a ≤ S1536x18432.size a), (Rect.unit (s := S1536x18432) (k0_off11 arg26 v3349 v3352 v3356 v3359 k0_t3) S4x18432.size hinb).WholeWords (EltTy.packing .i8))
theorem k0_t2_ok : ∀ (i : grid0.Coords) (arg26 : BitVec 32) (v3349 : BitVec 32) (v3352 : BitVec 32) (v3356 : BitVec 32) (v3359 : BitVec 32) (k0_hw2 : k0_chk2 i arg26 v3349 v3352 v3356 v3359), ∀ (k0_h1 : k0_cond1 i = 1#1), (k0_t2_loop v3349 v3352 v3356 v3359).OK := fun i arg26 v3349 v3352 v3356 v3359 k0_hw2 k0_h1 => k0_hw2.1 k0_h1
theorem k0_off5_inb : ∀ (i : grid0.Coords) (arg26 : BitVec 32) (v3349 : BitVec 32) (v3352 : BitVec 32) (v3356 : BitVec 32) (v3359 : BitVec 32) (k0_hw2 : k0_chk2 i arg26 v3349 v3352 v3356 v3359) (k0_t2 : Fin (k0_t2_loop v3349 v3352 v3356 v3359).trips), ∀ (k0_h1 : k0_cond1 i = 1#1), ∀ a, (k0_off5 arg26 v3349 v3352 v3356 v3359 k0_t2) a + S4x7168.size a ≤ S1536x7168.size a := fun i arg26 v3349 v3352 v3356 v3359 k0_hw2 k0_t2 k0_h1 => k0_hw2.2.1 k0_t2 k0_h1
theorem k0_off6_inb : ∀ (i : grid0.Coords) (arg26 : BitVec 32) (v3349 : BitVec 32) (v3352 : BitVec 32) (v3356 : BitVec 32) (v3359 : BitVec 32) (k0_hw2 : k0_chk2 i arg26 v3349 v3352 v3356 v3359) (k0_t2 : Fin (k0_t2_loop v3349 v3352 v3356 v3359).trips), ∀ (k0_h1 : k0_cond1 i = 1#1), ∀ a, (k0_off6 v3349 v3352 v3356 v3359 k0_t2) a + S4x7168.size a ≤ S3100x7168.size a := fun i arg26 v3349 v3352 v3356 v3359 k0_hw2 k0_t2 k0_h1 => k0_hw2.2.2.1 k0_t2 k0_h1
theorem k0_off6_wordsi8 : ∀ (i : grid0.Coords) (arg26 : BitVec 32) (v3349 : BitVec 32) (v3352 : BitVec 32) (v3356 : BitVec 32) (v3359 : BitVec 32) (k0_hw2 : k0_chk2 i arg26 v3349 v3352 v3356 v3359) (k0_t2 : Fin (k0_t2_loop v3349 v3352 v3356 v3359).trips), ∀ (k0_h1 : k0_cond1 i = 1#1), (Rect.unit (s := S3100x7168) (k0_off6 v3349 v3352 v3356 v3359 k0_t2) S4x7168.size (k0_off6_inb i arg26 v3349 v3352 v3356 v3359 k0_hw2 k0_t2 k0_h1)).WholeWords (EltTy.packing .i8) := fun i arg26 v3349 v3352 v3356 v3359 k0_hw2 k0_t2 k0_h1 => k0_hw2.2.2.2.1 k0_t2 k0_h1 (k0_off6_inb i arg26 v3349 v3352 v3356 v3359 k0_hw2 k0_t2 k0_h1)
theorem k0_off5_wordsi8 : ∀ (i : grid0.Coords) (arg26 : BitVec 32) (v3349 : BitVec 32) (v3352 : BitVec 32) (v3356 : BitVec 32) (v3359 : BitVec 32) (k0_hw2 : k0_chk2 i arg26 v3349 v3352 v3356 v3359) (k0_t2 : Fin (k0_t2_loop v3349 v3352 v3356 v3359).trips), ∀ (k0_h1 : k0_cond1 i = 1#1), (Rect.unit (s := S1536x7168) (k0_off5 arg26 v3349 v3352 v3356 v3359 k0_t2) S4x7168.size (k0_off5_inb i arg26 v3349 v3352 v3356 v3359 k0_hw2 k0_t2 k0_h1)).WholeWords (EltTy.packing .i8) := fun i arg26 v3349 v3352 v3356 v3359 k0_hw2 k0_t2 k0_h1 => k0_hw2.2.2.2.2.1 k0_t2 k0_h1 (k0_off5_inb i arg26 v3349 v3352 v3356 v3359 k0_hw2 k0_t2 k0_h1)
theorem k0_off7_inb : ∀ (i : grid0.Coords) (arg26 : BitVec 32) (v3349 : BitVec 32) (v3352 : BitVec 32) (v3356 : BitVec 32) (v3359 : BitVec 32) (k0_hw2 : k0_chk2 i arg26 v3349 v3352 v3356 v3359) (k0_t2 : Fin (k0_t2_loop v3349 v3352 v3356 v3359).trips), ∀ (k0_h1 : k0_cond1 i = 1#1), ∀ a, (k0_off7 arg26 v3349 v3352 v3356 v3359 k0_t2) a + S4x18432.size a ≤ S1536x18432.size a := fun i arg26 v3349 v3352 v3356 v3359 k0_hw2 k0_t2 k0_h1 => k0_hw2.2.2.2.2.2.1 k0_t2 k0_h1
theorem k0_off8_inb : ∀ (i : grid0.Coords) (arg26 : BitVec 32) (v3349 : BitVec 32) (v3352 : BitVec 32) (v3356 : BitVec 32) (v3359 : BitVec 32) (k0_hw2 : k0_chk2 i arg26 v3349 v3352 v3356 v3359) (k0_t2 : Fin (k0_t2_loop v3349 v3352 v3356 v3359).trips), ∀ (k0_h1 : k0_cond1 i = 1#1), ∀ a, (k0_off8 v3349 v3352 v3356 v3359 k0_t2) a + S4x18432.size a ≤ S3100x18432.size a := fun i arg26 v3349 v3352 v3356 v3359 k0_hw2 k0_t2 k0_h1 => k0_hw2.2.2.2.2.2.2.1 k0_t2 k0_h1
theorem k0_off8_wordsi8 : ∀ (i : grid0.Coords) (arg26 : BitVec 32) (v3349 : BitVec 32) (v3352 : BitVec 32) (v3356 : BitVec 32) (v3359 : BitVec 32) (k0_hw2 : k0_chk2 i arg26 v3349 v3352 v3356 v3359) (k0_t2 : Fin (k0_t2_loop v3349 v3352 v3356 v3359).trips), ∀ (k0_h1 : k0_cond1 i = 1#1), (Rect.unit (s := S3100x18432) (k0_off8 v3349 v3352 v3356 v3359 k0_t2) S4x18432.size (k0_off8_inb i arg26 v3349 v3352 v3356 v3359 k0_hw2 k0_t2 k0_h1)).WholeWords (EltTy.packing .i8) := fun i arg26 v3349 v3352 v3356 v3359 k0_hw2 k0_t2 k0_h1 => k0_hw2.2.2.2.2.2.2.2.1 k0_t2 k0_h1 (k0_off8_inb i arg26 v3349 v3352 v3356 v3359 k0_hw2 k0_t2 k0_h1)
theorem k0_off7_wordsi8 : ∀ (i : grid0.Coords) (arg26 : BitVec 32) (v3349 : BitVec 32) (v3352 : BitVec 32) (v3356 : BitVec 32) (v3359 : BitVec 32) (k0_hw2 : k0_chk2 i arg26 v3349 v3352 v3356 v3359) (k0_t2 : Fin (k0_t2_loop v3349 v3352 v3356 v3359).trips), ∀ (k0_h1 : k0_cond1 i = 1#1), (Rect.unit (s := S1536x18432) (k0_off7 arg26 v3349 v3352 v3356 v3359 k0_t2) S4x18432.size (k0_off7_inb i arg26 v3349 v3352 v3356 v3359 k0_hw2 k0_t2 k0_h1)).WholeWords (EltTy.packing .i8) := fun i arg26 v3349 v3352 v3356 v3359 k0_hw2 k0_t2 k0_h1 => k0_hw2.2.2.2.2.2.2.2.2.1 k0_t2 k0_h1 (k0_off7_inb i arg26 v3349 v3352 v3356 v3359 k0_hw2 k0_t2 k0_h1)
theorem k0_t3_ok : ∀ (i : grid0.Coords) (arg26 : BitVec 32) (v3349 : BitVec 32) (v3352 : BitVec 32) (v3356 : BitVec 32) (v3359 : BitVec 32) (k0_hw2 : k0_chk2 i arg26 v3349 v3352 v3356 v3359), ∀ (k0_h1 : k0_cond1 i = 1#1), (k0_t3_loop v3349 v3352 v3356 v3359).OK := fun i arg26 v3349 v3352 v3356 v3359 k0_hw2 k0_h1 => k0_hw2.2.2.2.2.2.2.2.2.2.1 k0_h1
theorem k0_off9_inb : ∀ (i : grid0.Coords) (arg26 : BitVec 32) (v3349 : BitVec 32) (v3352 : BitVec 32) (v3356 : BitVec 32) (v3359 : BitVec 32) (k0_hw2 : k0_chk2 i arg26 v3349 v3352 v3356 v3359) (k0_t3 : Fin (k0_t3_loop v3349 v3352 v3356 v3359).trips), ∀ (k0_h1 : k0_cond1 i = 1#1), ∀ a, (k0_off9 arg26 v3349 v3352 v3356 v3359 k0_t3) a + S4x7168.size a ≤ S1536x7168.size a := fun i arg26 v3349 v3352 v3356 v3359 k0_hw2 k0_t3 k0_h1 => k0_hw2.2.2.2.2.2.2.2.2.2.2.1 k0_t3 k0_h1
theorem k0_off10_inb : ∀ (i : grid0.Coords) (arg26 : BitVec 32) (v3349 : BitVec 32) (v3352 : BitVec 32) (v3356 : BitVec 32) (v3359 : BitVec 32) (k0_hw2 : k0_chk2 i arg26 v3349 v3352 v3356 v3359) (k0_t3 : Fin (k0_t3_loop v3349 v3352 v3356 v3359).trips), ∀ (k0_h1 : k0_cond1 i = 1#1), ∀ a, (k0_off10 v3349 v3352 v3356 v3359 k0_t3) a + S4x7168.size a ≤ S3100x7168.size a := fun i arg26 v3349 v3352 v3356 v3359 k0_hw2 k0_t3 k0_h1 => k0_hw2.2.2.2.2.2.2.2.2.2.2.2.1 k0_t3 k0_h1
theorem k0_off10_wordsi8 : ∀ (i : grid0.Coords) (arg26 : BitVec 32) (v3349 : BitVec 32) (v3352 : BitVec 32) (v3356 : BitVec 32) (v3359 : BitVec 32) (k0_hw2 : k0_chk2 i arg26 v3349 v3352 v3356 v3359) (k0_t3 : Fin (k0_t3_loop v3349 v3352 v3356 v3359).trips), ∀ (k0_h1 : k0_cond1 i = 1#1), (Rect.unit (s := S3100x7168) (k0_off10 v3349 v3352 v3356 v3359 k0_t3) S4x7168.size (k0_off10_inb i arg26 v3349 v3352 v3356 v3359 k0_hw2 k0_t3 k0_h1)).WholeWords (EltTy.packing .i8) := fun i arg26 v3349 v3352 v3356 v3359 k0_hw2 k0_t3 k0_h1 => k0_hw2.2.2.2.2.2.2.2.2.2.2.2.2.1 k0_t3 k0_h1 (k0_off10_inb i arg26 v3349 v3352 v3356 v3359 k0_hw2 k0_t3 k0_h1)
theorem k0_off9_wordsi8 : ∀ (i : grid0.Coords) (arg26 : BitVec 32) (v3349 : BitVec 32) (v3352 : BitVec 32) (v3356 : BitVec 32) (v3359 : BitVec 32) (k0_hw2 : k0_chk2 i arg26 v3349 v3352 v3356 v3359) (k0_t3 : Fin (k0_t3_loop v3349 v3352 v3356 v3359).trips), ∀ (k0_h1 : k0_cond1 i = 1#1), (Rect.unit (s := S1536x7168) (k0_off9 arg26 v3349 v3352 v3356 v3359 k0_t3) S4x7168.size (k0_off9_inb i arg26 v3349 v3352 v3356 v3359 k0_hw2 k0_t3 k0_h1)).WholeWords (EltTy.packing .i8) := fun i arg26 v3349 v3352 v3356 v3359 k0_hw2 k0_t3 k0_h1 => k0_hw2.2.2.2.2.2.2.2.2.2.2.2.2.2.1 k0_t3 k0_h1 (k0_off9_inb i arg26 v3349 v3352 v3356 v3359 k0_hw2 k0_t3 k0_h1)
theorem k0_off11_inb : ∀ (i : grid0.Coords) (arg26 : BitVec 32) (v3349 : BitVec 32) (v3352 : BitVec 32) (v3356 : BitVec 32) (v3359 : BitVec 32) (k0_hw2 : k0_chk2 i arg26 v3349 v3352 v3356 v3359) (k0_t3 : Fin (k0_t3_loop v3349 v3352 v3356 v3359).trips), ∀ (k0_h1 : k0_cond1 i = 1#1), ∀ a, (k0_off11 arg26 v3349 v3352 v3356 v3359 k0_t3) a + S4x18432.size a ≤ S1536x18432.size a := fun i arg26 v3349 v3352 v3356 v3359 k0_hw2 k0_t3 k0_h1 => k0_hw2.2.2.2.2.2.2.2.2.2.2.2.2.2.2.1 k0_t3 k0_h1
theorem k0_off12_inb : ∀ (i : grid0.Coords) (arg26 : BitVec 32) (v3349 : BitVec 32) (v3352 : BitVec 32) (v3356 : BitVec 32) (v3359 : BitVec 32) (k0_hw2 : k0_chk2 i arg26 v3349 v3352 v3356 v3359) (k0_t3 : Fin (k0_t3_loop v3349 v3352 v3356 v3359).trips), ∀ (k0_h1 : k0_cond1 i = 1#1), ∀ a, (k0_off12 v3349 v3352 v3356 v3359 k0_t3) a + S4x18432.size a ≤ S3100x18432.size a := fun i arg26 v3349 v3352 v3356 v3359 k0_hw2 k0_t3 k0_h1 => k0_hw2.2.2.2.2.2.2.2.2.2.2.2.2.2.2.2.1 k0_t3 k0_h1
theorem k0_off12_wordsi8 : ∀ (i : grid0.Coords) (arg26 : BitVec 32) (v3349 : BitVec 32) (v3352 : BitVec 32) (v3356 : BitVec 32) (v3359 : BitVec 32) (k0_hw2 : k0_chk2 i arg26 v3349 v3352 v3356 v3359) (k0_t3 : Fin (k0_t3_loop v3349 v3352 v3356 v3359).trips), ∀ (k0_h1 : k0_cond1 i = 1#1), (Rect.unit (s := S3100x18432) (k0_off12 v3349 v3352 v3356 v3359 k0_t3) S4x18432.size (k0_off12_inb i arg26 v3349 v3352 v3356 v3359 k0_hw2 k0_t3 k0_h1)).WholeWords (EltTy.packing .i8) := fun i arg26 v3349 v3352 v3356 v3359 k0_hw2 k0_t3 k0_h1 => k0_hw2.2.2.2.2.2.2.2.2.2.2.2.2.2.2.2.2.1 k0_t3 k0_h1 (k0_off12_inb i arg26 v3349 v3352 v3356 v3359 k0_hw2 k0_t3 k0_h1)
theorem k0_off11_wordsi8 : ∀ (i : grid0.Coords) (arg26 : BitVec 32) (v3349 : BitVec 32) (v3352 : BitVec 32) (v3356 : BitVec 32) (v3359 : BitVec 32) (k0_hw2 : k0_chk2 i arg26 v3349 v3352 v3356 v3359) (k0_t3 : Fin (k0_t3_loop v3349 v3352 v3356 v3359).trips), ∀ (k0_h1 : k0_cond1 i = 1#1), (Rect.unit (s := S1536x18432) (k0_off11 arg26 v3349 v3352 v3356 v3359 k0_t3) S4x18432.size (k0_off11_inb i arg26 v3349 v3352 v3356 v3359 k0_hw2 k0_t3 k0_h1)).WholeWords (EltTy.packing .i8) := fun i arg26 v3349 v3352 v3356 v3359 k0_hw2 k0_t3 k0_h1 => k0_hw2.2.2.2.2.2.2.2.2.2.2.2.2.2.2.2.2.2 k0_t3 k0_h1 (k0_off11_inb i arg26 v3349 v3352 v3356 v3359 k0_hw2 k0_t3 k0_h1)

def k0_off13 (v157 : BitVec 32) : Fin 1 → Nat :=
  let v158 : Index := Scalar.indexCast v157
  ![v158.toNat]

def k0_mult1 (v159 : BitVec 32) : BitVec 32 :=
  let c2_i32 : BitVec 32 := 2#32
  let v164 : BitVec 32 := Scalar.shrui v159 c2_i32
  let c4_i32_70 : BitVec 32 := 4#32
  let v172 : BitVec 32 := Scalar.muli v164 c4_i32_70
  let c7_i32_72 : BitVec 32 := 7#32
  let v184 : BitVec 32 := Scalar.shrui v172 c7_i32_72
  let c128_i32_74 : BitVec 32 := 128#32
  let v191 : BitVec 32 := Scalar.muli v184 c128_i32_74
  v191

def k0_off14 (v159 : BitVec 32) : Fin 2 → Nat :=
  let c0_75 : Index := 0#32
  let c2_i32 : BitVec 32 := 2#32
  let v164 : BitVec 32 := Scalar.shrui v159 c2_i32
  let c4_i32_70 : BitVec 32 := 4#32
  let v172 : BitVec 32 := Scalar.muli v164 c4_i32_70
  let c7_i32_72 : BitVec 32 := 7#32
  let v184 : BitVec 32 := Scalar.shrui v172 c7_i32_72
  let c128_i32_74 : BitVec 32 := 128#32
  let v191 : BitVec 32 := Scalar.muli v184 c128_i32_74
  let v192 : BitVec 32 := v191
  let v193 : Index := Scalar.indexCast v192
  ![0, v193.toNat]
def k0_mult2 (v159 : BitVec 32) : BitVec 32 :=
  let c2_i32 : BitVec 32 := 2#32
  let v164 : BitVec 32 := Scalar.shrui v159 c2_i32
  let c4_i32_70 : BitVec 32 := 4#32
  let v172 : BitVec 32 := Scalar.muli v164 c4_i32_70
  let c7_i32_72 : BitVec 32 := 7#32
  let v184 : BitVec 32 := Scalar.shrui v172 c7_i32_72
  let c1_i32_76 : BitVec 32 := 1#32
  let v196 : BitVec 32 := Scalar.addi v184 c1_i32_76
  let c128_i32_77 : BitVec 32 := 128#32
  let v197 : BitVec 32 := Scalar.muli v196 c128_i32_77
  v197
def k0_off15 (v159 : BitVec 32) : Fin 2 → Nat :=
  let c0_78 : Index := 0#32
  let c2_i32 : BitVec 32 := 2#32
  let v164 : BitVec 32 := Scalar.shrui v159 c2_i32
  let c4_i32_70 : BitVec 32 := 4#32
  let v172 : BitVec 32 := Scalar.muli v164 c4_i32_70
  let c7_i32_72 : BitVec 32 := 7#32
  let v184 : BitVec 32 := Scalar.shrui v172 c7_i32_72
  let c1_i32_76 : BitVec 32 := 1#32
  let v196 : BitVec 32 := Scalar.addi v184 c1_i32_76
  let c128_i32_77 : BitVec 32 := 128#32
  let v197 : BitVec 32 := Scalar.muli v196 c128_i32_77
  let v198 : BitVec 32 := v197
  let v199 : Index := Scalar.indexCast v198
  ![0, v199.toNat]
def k0_mult3 (v159 : BitVec 32) : BitVec 32 :=
  let c2_i32 : BitVec 32 := 2#32
  let v164 : BitVec 32 := Scalar.shrui v159 c2_i32
  let c4_i32_70 : BitVec 32 := 4#32
  let v172 : BitVec 32 := Scalar.muli v164 c4_i32_70
  let c7_i32_72 : BitVec 32 := 7#32
  let v184 : BitVec 32 := Scalar.shrui v172 c7_i32_72
  let c128_i32_79 : BitVec 32 := 128#32
  let v216 : BitVec 32 := Scalar.muli v184 c128_i32_79
  v216
def k0_mult4 (v159 : BitVec 32) : BitVec 32 :=
  let c2_i32 : BitVec 32 := 2#32
  let v164 : BitVec 32 := Scalar.shrui v159 c2_i32
  let c4_i32_70 : BitVec 32 := 4#32
  let v172 : BitVec 32 := Scalar.muli v164 c4_i32_70
  let c7_i32_72 : BitVec 32 := 7#32
  let v184 : BitVec 32 := Scalar.shrui v172 c7_i32_72
  let c1_i32_81 : BitVec 32 := 1#32
  let v221 : BitVec 32 := Scalar.addi v184 c1_i32_81
  let c128_i32_82 : BitVec 32 := 128#32
  let v222 : BitVec 32 := Scalar.muli v221 c128_i32_82
  v222

def k0_chk4 (i : grid0.Coords) (v159 : BitVec 32) : Prop :=
  (∀ (k0_h1 : k0_cond1 i = 1#1), 128 ∣ (k0_mult1 v159).toNat) ∧
  (∀ (k0_h1 : k0_cond1 i = 1#1), ∀ a, (k0_off14 v159) a + S1x128.size a ≤ S1x3100.size a) ∧
  (∀ (k0_h1 : k0_cond1 i = 1#1), 128 ∣ (k0_mult2 v159).toNat) ∧
  (∀ (k0_h1 : k0_cond1 i = 1#1), ∀ a, (k0_off15 v159) a + S1x128.size a ≤ S1x3100.size a) ∧
  (∀ (k0_h1 : k0_cond1 i = 1#1), 128 ∣ (k0_mult3 v159).toNat) ∧
  (∀ (k0_h1 : k0_cond1 i = 1#1), 128 ∣ (k0_mult4 v159).toNat)
theorem k0_mult1_dvd : ∀ (i : grid0.Coords) (v159 : BitVec 32) (k0_hw4 : k0_chk4 i v159), ∀ (k0_h1 : k0_cond1 i = 1#1), 128 ∣ (k0_mult1 v159).toNat := fun i v159 k0_hw4 k0_h1 => k0_hw4.1 k0_h1
theorem k0_off14_inb : ∀ (i : grid0.Coords) (v159 : BitVec 32) (k0_hw4 : k0_chk4 i v159), ∀ (k0_h1 : k0_cond1 i = 1#1), ∀ a, (k0_off14 v159) a + S1x128.size a ≤ S1x3100.size a := fun i v159 k0_hw4 k0_h1 => k0_hw4.2.1 k0_h1
theorem k0_mult2_dvd : ∀ (i : grid0.Coords) (v159 : BitVec 32) (k0_hw4 : k0_chk4 i v159), ∀ (k0_h1 : k0_cond1 i = 1#1), 128 ∣ (k0_mult2 v159).toNat := fun i v159 k0_hw4 k0_h1 => k0_hw4.2.2.1 k0_h1
theorem k0_off15_inb : ∀ (i : grid0.Coords) (v159 : BitVec 32) (k0_hw4 : k0_chk4 i v159), ∀ (k0_h1 : k0_cond1 i = 1#1), ∀ a, (k0_off15 v159) a + S1x128.size a ≤ S1x3100.size a := fun i v159 k0_hw4 k0_h1 => k0_hw4.2.2.2.1 k0_h1
theorem k0_mult3_dvd : ∀ (i : grid0.Coords) (v159 : BitVec 32) (k0_hw4 : k0_chk4 i v159), ∀ (k0_h1 : k0_cond1 i = 1#1), 128 ∣ (k0_mult3 v159).toNat := fun i v159 k0_hw4 k0_h1 => k0_hw4.2.2.2.2.1 k0_h1
theorem k0_mult4_dvd : ∀ (i : grid0.Coords) (v159 : BitVec 32) (k0_hw4 : k0_chk4 i v159), ∀ (k0_h1 : k0_cond1 i = 1#1), 128 ∣ (k0_mult4 v159).toNat := fun i v159 k0_hw4 k0_h1 => k0_hw4.2.2.2.2.2 k0_h1

def k0_off16 (v157 : BitVec 32) : Fin 1 → Nat :=
  let v262 : Index := Scalar.indexCast v157
  ![v262.toNat]

def k0_chk3 (i : grid0.Coords) (v157 : BitVec 32) : Prop :=
  (∀ (k0_h1 : k0_cond1 i = 1#1), ∀ a, (k0_off13 v157) a + S1.size a ≤ S41.size a) ∧
  (∀ (k0_h1 : k0_cond1 i = 1#1), ∀ a, (k0_off16 v157) a + S1.size a ≤ S41.size a)
theorem k0_off13_inb : ∀ (i : grid0.Coords) (v157 : BitVec 32) (k0_hw3 : k0_chk3 i v157), ∀ (k0_h1 : k0_cond1 i = 1#1), ∀ a, (k0_off13 v157) a + S1.size a ≤ S41.size a := fun i v157 k0_hw3 k0_h1 => k0_hw3.1 k0_h1
theorem k0_off16_inb : ∀ (i : grid0.Coords) (v157 : BitVec 32) (k0_hw3 : k0_chk3 i v157), ∀ (k0_h1 : k0_cond1 i = 1#1), ∀ a, (k0_off16 v157) a + S1.size a ≤ S41.size a := fun i v157 k0_hw3 k0_h1 => k0_hw3.2 k0_h1

def k0_off17 (v269 : BitVec 32) : Fin 1 → Nat :=
  let v270 : Index := Scalar.indexCast v269
  ![v270.toNat]

def k0_mult5 (v271 : BitVec 32) : BitVec 32 :=
  let c2_i32_91 : BitVec 32 := 2#32
  let v276 : BitVec 32 := Scalar.shrui v271 c2_i32_91
  let c4_i32_97 : BitVec 32 := 4#32
  let v284 : BitVec 32 := Scalar.muli v276 c4_i32_97
  let c7_i32_99 : BitVec 32 := 7#32
  let v296 : BitVec 32 := Scalar.shrui v284 c7_i32_99
  let c128_i32_102 : BitVec 32 := 128#32
  let v303 : BitVec 32 := Scalar.muli v296 c128_i32_102
  v303

def k0_off18 (v271 : BitVec 32) : Fin 2 → Nat :=
  let c0_103 : Index := 0#32
  let c2_i32_91 : BitVec 32 := 2#32
  let v276 : BitVec 32 := Scalar.shrui v271 c2_i32_91
  let c4_i32_97 : BitVec 32 := 4#32
  let v284 : BitVec 32 := Scalar.muli v276 c4_i32_97
  let c7_i32_99 : BitVec 32 := 7#32
  let v296 : BitVec 32 := Scalar.shrui v284 c7_i32_99
  let c128_i32_102 : BitVec 32 := 128#32
  let v303 : BitVec 32 := Scalar.muli v296 c128_i32_102
  let v304 : BitVec 32 := v303
  let v305 : Index := Scalar.indexCast v304
  ![0, v305.toNat]
def k0_mult6 (v271 : BitVec 32) : BitVec 32 :=
  let c2_i32_91 : BitVec 32 := 2#32
  let v276 : BitVec 32 := Scalar.shrui v271 c2_i32_91
  let c4_i32_97 : BitVec 32 := 4#32
  let v284 : BitVec 32 := Scalar.muli v276 c4_i32_97
  let c7_i32_99 : BitVec 32 := 7#32
  let v296 : BitVec 32 := Scalar.shrui v284 c7_i32_99
  let c1_i32_104 : BitVec 32 := 1#32
  let v308 : BitVec 32 := Scalar.addi v296 c1_i32_104
  let c128_i32_105 : BitVec 32 := 128#32
  let v309 : BitVec 32 := Scalar.muli v308 c128_i32_105
  v309
def k0_off19 (v271 : BitVec 32) : Fin 2 → Nat :=
  let c0_106 : Index := 0#32
  let c2_i32_91 : BitVec 32 := 2#32
  let v276 : BitVec 32 := Scalar.shrui v271 c2_i32_91
  let c4_i32_97 : BitVec 32 := 4#32
  let v284 : BitVec 32 := Scalar.muli v276 c4_i32_97
  let c7_i32_99 : BitVec 32 := 7#32
  let v296 : BitVec 32 := Scalar.shrui v284 c7_i32_99
  let c1_i32_104 : BitVec 32 := 1#32
  let v308 : BitVec 32 := Scalar.addi v296 c1_i32_104
  let c128_i32_105 : BitVec 32 := 128#32
  let v309 : BitVec 32 := Scalar.muli v308 c128_i32_105
  let v310 : BitVec 32 := v309
  let v311 : Index := Scalar.indexCast v310
  ![0, v311.toNat]
def k0_mult7 (v271 : BitVec 32) : BitVec 32 :=
  let c2_i32_91 : BitVec 32 := 2#32
  let v276 : BitVec 32 := Scalar.shrui v271 c2_i32_91
  let c4_i32_97 : BitVec 32 := 4#32
  let v284 : BitVec 32 := Scalar.muli v276 c4_i32_97
  let c7_i32_99 : BitVec 32 := 7#32
  let v296 : BitVec 32 := Scalar.shrui v284 c7_i32_99
  let c128_i32_107 : BitVec 32 := 128#32
  let v328 : BitVec 32 := Scalar.muli v296 c128_i32_107
  v328
def k0_mult8 (v271 : BitVec 32) : BitVec 32 :=
  let c2_i32_91 : BitVec 32 := 2#32
  let v276 : BitVec 32 := Scalar.shrui v271 c2_i32_91
  let c4_i32_97 : BitVec 32 := 4#32
  let v284 : BitVec 32 := Scalar.muli v276 c4_i32_97
  let c7_i32_99 : BitVec 32 := 7#32
  let v296 : BitVec 32 := Scalar.shrui v284 c7_i32_99
  let c1_i32_109 : BitVec 32 := 1#32
  let v333 : BitVec 32 := Scalar.addi v296 c1_i32_109
  let c128_i32_110 : BitVec 32 := 128#32
  let v334 : BitVec 32 := Scalar.muli v333 c128_i32_110
  v334

def k0_chk6 (i : grid0.Coords) (v271 : BitVec 32) : Prop :=
  (∀ (k0_h1 : k0_cond1 i = 1#1), 128 ∣ (k0_mult5 v271).toNat) ∧
  (∀ (k0_h1 : k0_cond1 i = 1#1), ∀ a, (k0_off18 v271) a + S1x128.size a ≤ S1x3100.size a) ∧
  (∀ (k0_h1 : k0_cond1 i = 1#1), 128 ∣ (k0_mult6 v271).toNat) ∧
  (∀ (k0_h1 : k0_cond1 i = 1#1), ∀ a, (k0_off19 v271) a + S1x128.size a ≤ S1x3100.size a) ∧
  (∀ (k0_h1 : k0_cond1 i = 1#1), 128 ∣ (k0_mult7 v271).toNat) ∧
  (∀ (k0_h1 : k0_cond1 i = 1#1), 128 ∣ (k0_mult8 v271).toNat)
theorem k0_mult5_dvd : ∀ (i : grid0.Coords) (v271 : BitVec 32) (k0_hw6 : k0_chk6 i v271), ∀ (k0_h1 : k0_cond1 i = 1#1), 128 ∣ (k0_mult5 v271).toNat := fun i v271 k0_hw6 k0_h1 => k0_hw6.1 k0_h1
theorem k0_off18_inb : ∀ (i : grid0.Coords) (v271 : BitVec 32) (k0_hw6 : k0_chk6 i v271), ∀ (k0_h1 : k0_cond1 i = 1#1), ∀ a, (k0_off18 v271) a + S1x128.size a ≤ S1x3100.size a := fun i v271 k0_hw6 k0_h1 => k0_hw6.2.1 k0_h1
theorem k0_mult6_dvd : ∀ (i : grid0.Coords) (v271 : BitVec 32) (k0_hw6 : k0_chk6 i v271), ∀ (k0_h1 : k0_cond1 i = 1#1), 128 ∣ (k0_mult6 v271).toNat := fun i v271 k0_hw6 k0_h1 => k0_hw6.2.2.1 k0_h1
theorem k0_off19_inb : ∀ (i : grid0.Coords) (v271 : BitVec 32) (k0_hw6 : k0_chk6 i v271), ∀ (k0_h1 : k0_cond1 i = 1#1), ∀ a, (k0_off19 v271) a + S1x128.size a ≤ S1x3100.size a := fun i v271 k0_hw6 k0_h1 => k0_hw6.2.2.2.1 k0_h1
theorem k0_mult7_dvd : ∀ (i : grid0.Coords) (v271 : BitVec 32) (k0_hw6 : k0_chk6 i v271), ∀ (k0_h1 : k0_cond1 i = 1#1), 128 ∣ (k0_mult7 v271).toNat := fun i v271 k0_hw6 k0_h1 => k0_hw6.2.2.2.2.1 k0_h1
theorem k0_mult8_dvd : ∀ (i : grid0.Coords) (v271 : BitVec 32) (k0_hw6 : k0_chk6 i v271), ∀ (k0_h1 : k0_cond1 i = 1#1), 128 ∣ (k0_mult8 v271).toNat := fun i v271 k0_hw6 k0_h1 => k0_hw6.2.2.2.2.2 k0_h1

def k0_off20 (v269 : BitVec 32) : Fin 1 → Nat :=
  let v374 : Index := Scalar.indexCast v269
  ![v374.toNat]

def k0_chk5 (i : grid0.Coords) (v269 : BitVec 32) : Prop :=
  (∀ (k0_h1 : k0_cond1 i = 1#1), ∀ a, (k0_off17 v269) a + S1.size a ≤ S41.size a) ∧
  (∀ (k0_h1 : k0_cond1 i = 1#1), ∀ a, (k0_off20 v269) a + S1.size a ≤ S41.size a)
theorem k0_off17_inb : ∀ (i : grid0.Coords) (v269 : BitVec 32) (k0_hw5 : k0_chk5 i v269), ∀ (k0_h1 : k0_cond1 i = 1#1), ∀ a, (k0_off17 v269) a + S1.size a ≤ S41.size a := fun i v269 k0_hw5 k0_h1 => k0_hw5.1 k0_h1
theorem k0_off20_inb : ∀ (i : grid0.Coords) (v269 : BitVec 32) (k0_hw5 : k0_chk5 i v269), ∀ (k0_h1 : k0_cond1 i = 1#1), ∀ a, (k0_off20 v269) a + S1.size a ≤ S41.size a := fun i v269 k0_hw5 k0_h1 => k0_hw5.2 k0_h1

def k0_off21 (v381 : BitVec 32) : Fin 1 → Nat :=
  let v382 : Index := Scalar.indexCast v381
  ![v382.toNat]

def k0_mult9 (v383 : BitVec 32) : BitVec 32 :=
  let c2_i32_118 : BitVec 32 := 2#32
  let v388 : BitVec 32 := Scalar.shrui v383 c2_i32_118
  let c4_i32_124 : BitVec 32 := 4#32
  let v396 : BitVec 32 := Scalar.muli v388 c4_i32_124
  let c7_i32_126 : BitVec 32 := 7#32
  let v408 : BitVec 32 := Scalar.shrui v396 c7_i32_126
  let c128_i32_129 : BitVec 32 := 128#32
  let v415 : BitVec 32 := Scalar.muli v408 c128_i32_129
  v415

def k0_off22 (v383 : BitVec 32) : Fin 2 → Nat :=
  let c0_130 : Index := 0#32
  let c2_i32_118 : BitVec 32 := 2#32
  let v388 : BitVec 32 := Scalar.shrui v383 c2_i32_118
  let c4_i32_124 : BitVec 32 := 4#32
  let v396 : BitVec 32 := Scalar.muli v388 c4_i32_124
  let c7_i32_126 : BitVec 32 := 7#32
  let v408 : BitVec 32 := Scalar.shrui v396 c7_i32_126
  let c128_i32_129 : BitVec 32 := 128#32
  let v415 : BitVec 32 := Scalar.muli v408 c128_i32_129
  let v416 : BitVec 32 := v415
  let v417 : Index := Scalar.indexCast v416
  ![0, v417.toNat]
def k0_mult10 (v383 : BitVec 32) : BitVec 32 :=
  let c2_i32_118 : BitVec 32 := 2#32
  let v388 : BitVec 32 := Scalar.shrui v383 c2_i32_118
  let c4_i32_124 : BitVec 32 := 4#32
  let v396 : BitVec 32 := Scalar.muli v388 c4_i32_124
  let c7_i32_126 : BitVec 32 := 7#32
  let v408 : BitVec 32 := Scalar.shrui v396 c7_i32_126
  let c1_i32_131 : BitVec 32 := 1#32
  let v420 : BitVec 32 := Scalar.addi v408 c1_i32_131
  let c128_i32_132 : BitVec 32 := 128#32
  let v421 : BitVec 32 := Scalar.muli v420 c128_i32_132
  v421
def k0_off23 (v383 : BitVec 32) : Fin 2 → Nat :=
  let c0_133 : Index := 0#32
  let c2_i32_118 : BitVec 32 := 2#32
  let v388 : BitVec 32 := Scalar.shrui v383 c2_i32_118
  let c4_i32_124 : BitVec 32 := 4#32
  let v396 : BitVec 32 := Scalar.muli v388 c4_i32_124
  let c7_i32_126 : BitVec 32 := 7#32
  let v408 : BitVec 32 := Scalar.shrui v396 c7_i32_126
  let c1_i32_131 : BitVec 32 := 1#32
  let v420 : BitVec 32 := Scalar.addi v408 c1_i32_131
  let c128_i32_132 : BitVec 32 := 128#32
  let v421 : BitVec 32 := Scalar.muli v420 c128_i32_132
  let v422 : BitVec 32 := v421
  let v423 : Index := Scalar.indexCast v422
  ![0, v423.toNat]
def k0_mult11 (v383 : BitVec 32) : BitVec 32 :=
  let c2_i32_118 : BitVec 32 := 2#32
  let v388 : BitVec 32 := Scalar.shrui v383 c2_i32_118
  let c4_i32_124 : BitVec 32 := 4#32
  let v396 : BitVec 32 := Scalar.muli v388 c4_i32_124
  let c7_i32_126 : BitVec 32 := 7#32
  let v408 : BitVec 32 := Scalar.shrui v396 c7_i32_126
  let c128_i32_134 : BitVec 32 := 128#32
  let v440 : BitVec 32 := Scalar.muli v408 c128_i32_134
  v440
def k0_mult12 (v383 : BitVec 32) : BitVec 32 :=
  let c2_i32_118 : BitVec 32 := 2#32
  let v388 : BitVec 32 := Scalar.shrui v383 c2_i32_118
  let c4_i32_124 : BitVec 32 := 4#32
  let v396 : BitVec 32 := Scalar.muli v388 c4_i32_124
  let c7_i32_126 : BitVec 32 := 7#32
  let v408 : BitVec 32 := Scalar.shrui v396 c7_i32_126
  let c1_i32_136 : BitVec 32 := 1#32
  let v445 : BitVec 32 := Scalar.addi v408 c1_i32_136
  let c128_i32_137 : BitVec 32 := 128#32
  let v446 : BitVec 32 := Scalar.muli v445 c128_i32_137
  v446

def k0_chk8 (i : grid0.Coords) (v383 : BitVec 32) : Prop :=
  (∀ (k0_h1 : k0_cond1 i = 1#1), 128 ∣ (k0_mult9 v383).toNat) ∧
  (∀ (k0_h1 : k0_cond1 i = 1#1), ∀ a, (k0_off22 v383) a + S1x128.size a ≤ S1x3100.size a) ∧
  (∀ (k0_h1 : k0_cond1 i = 1#1), 128 ∣ (k0_mult10 v383).toNat) ∧
  (∀ (k0_h1 : k0_cond1 i = 1#1), ∀ a, (k0_off23 v383) a + S1x128.size a ≤ S1x3100.size a) ∧
  (∀ (k0_h1 : k0_cond1 i = 1#1), 128 ∣ (k0_mult11 v383).toNat) ∧
  (∀ (k0_h1 : k0_cond1 i = 1#1), 128 ∣ (k0_mult12 v383).toNat)
theorem k0_mult9_dvd : ∀ (i : grid0.Coords) (v383 : BitVec 32) (k0_hw8 : k0_chk8 i v383), ∀ (k0_h1 : k0_cond1 i = 1#1), 128 ∣ (k0_mult9 v383).toNat := fun i v383 k0_hw8 k0_h1 => k0_hw8.1 k0_h1
theorem k0_off22_inb : ∀ (i : grid0.Coords) (v383 : BitVec 32) (k0_hw8 : k0_chk8 i v383), ∀ (k0_h1 : k0_cond1 i = 1#1), ∀ a, (k0_off22 v383) a + S1x128.size a ≤ S1x3100.size a := fun i v383 k0_hw8 k0_h1 => k0_hw8.2.1 k0_h1
theorem k0_mult10_dvd : ∀ (i : grid0.Coords) (v383 : BitVec 32) (k0_hw8 : k0_chk8 i v383), ∀ (k0_h1 : k0_cond1 i = 1#1), 128 ∣ (k0_mult10 v383).toNat := fun i v383 k0_hw8 k0_h1 => k0_hw8.2.2.1 k0_h1
theorem k0_off23_inb : ∀ (i : grid0.Coords) (v383 : BitVec 32) (k0_hw8 : k0_chk8 i v383), ∀ (k0_h1 : k0_cond1 i = 1#1), ∀ a, (k0_off23 v383) a + S1x128.size a ≤ S1x3100.size a := fun i v383 k0_hw8 k0_h1 => k0_hw8.2.2.2.1 k0_h1
theorem k0_mult11_dvd : ∀ (i : grid0.Coords) (v383 : BitVec 32) (k0_hw8 : k0_chk8 i v383), ∀ (k0_h1 : k0_cond1 i = 1#1), 128 ∣ (k0_mult11 v383).toNat := fun i v383 k0_hw8 k0_h1 => k0_hw8.2.2.2.2.1 k0_h1
theorem k0_mult12_dvd : ∀ (i : grid0.Coords) (v383 : BitVec 32) (k0_hw8 : k0_chk8 i v383), ∀ (k0_h1 : k0_cond1 i = 1#1), 128 ∣ (k0_mult12 v383).toNat := fun i v383 k0_hw8 k0_h1 => k0_hw8.2.2.2.2.2 k0_h1

def k0_off24 (v381 : BitVec 32) : Fin 1 → Nat :=
  let v486 : Index := Scalar.indexCast v381
  ![v486.toNat]

def k0_chk7 (i : grid0.Coords) (v381 : BitVec 32) : Prop :=
  (∀ (k0_h1 : k0_cond1 i = 1#1), ∀ a, (k0_off21 v381) a + S1.size a ≤ S41.size a) ∧
  (∀ (k0_h1 : k0_cond1 i = 1#1), ∀ a, (k0_off24 v381) a + S1.size a ≤ S41.size a)
theorem k0_off21_inb : ∀ (i : grid0.Coords) (v381 : BitVec 32) (k0_hw7 : k0_chk7 i v381), ∀ (k0_h1 : k0_cond1 i = 1#1), ∀ a, (k0_off21 v381) a + S1.size a ≤ S41.size a := fun i v381 k0_hw7 k0_h1 => k0_hw7.1 k0_h1
theorem k0_off24_inb : ∀ (i : grid0.Coords) (v381 : BitVec 32) (k0_hw7 : k0_chk7 i v381), ∀ (k0_h1 : k0_cond1 i = 1#1), ∀ a, (k0_off24 v381) a + S1.size a ≤ S41.size a := fun i v381 k0_hw7 k0_h1 => k0_hw7.2 k0_h1

def k0_off25 (v493 : BitVec 32) : Fin 1 → Nat :=
  let v494 : Index := Scalar.indexCast v493
  ![v494.toNat]

def k0_mult13 (v495 : BitVec 32) : BitVec 32 :=
  let c2_i32_145 : BitVec 32 := 2#32
  let v500 : BitVec 32 := Scalar.shrui v495 c2_i32_145
  let c4_i32_151 : BitVec 32 := 4#32
  let v508 : BitVec 32 := Scalar.muli v500 c4_i32_151
  let c7_i32_153 : BitVec 32 := 7#32
  let v520 : BitVec 32 := Scalar.shrui v508 c7_i32_153
  let c128_i32_156 : BitVec 32 := 128#32
  let v527 : BitVec 32 := Scalar.muli v520 c128_i32_156
  v527

def k0_off26 (v495 : BitVec 32) : Fin 2 → Nat :=
  let c0_157 : Index := 0#32
  let c2_i32_145 : BitVec 32 := 2#32
  let v500 : BitVec 32 := Scalar.shrui v495 c2_i32_145
  let c4_i32_151 : BitVec 32 := 4#32
  let v508 : BitVec 32 := Scalar.muli v500 c4_i32_151
  let c7_i32_153 : BitVec 32 := 7#32
  let v520 : BitVec 32 := Scalar.shrui v508 c7_i32_153
  let c128_i32_156 : BitVec 32 := 128#32
  let v527 : BitVec 32 := Scalar.muli v520 c128_i32_156
  let v528 : BitVec 32 := v527
  let v529 : Index := Scalar.indexCast v528
  ![0, v529.toNat]
def k0_mult14 (v495 : BitVec 32) : BitVec 32 :=
  let c2_i32_145 : BitVec 32 := 2#32
  let v500 : BitVec 32 := Scalar.shrui v495 c2_i32_145
  let c4_i32_151 : BitVec 32 := 4#32
  let v508 : BitVec 32 := Scalar.muli v500 c4_i32_151
  let c7_i32_153 : BitVec 32 := 7#32
  let v520 : BitVec 32 := Scalar.shrui v508 c7_i32_153
  let c1_i32_158 : BitVec 32 := 1#32
  let v532 : BitVec 32 := Scalar.addi v520 c1_i32_158
  let c128_i32_159 : BitVec 32 := 128#32
  let v533 : BitVec 32 := Scalar.muli v532 c128_i32_159
  v533
def k0_off27 (v495 : BitVec 32) : Fin 2 → Nat :=
  let c0_160 : Index := 0#32
  let c2_i32_145 : BitVec 32 := 2#32
  let v500 : BitVec 32 := Scalar.shrui v495 c2_i32_145
  let c4_i32_151 : BitVec 32 := 4#32
  let v508 : BitVec 32 := Scalar.muli v500 c4_i32_151
  let c7_i32_153 : BitVec 32 := 7#32
  let v520 : BitVec 32 := Scalar.shrui v508 c7_i32_153
  let c1_i32_158 : BitVec 32 := 1#32
  let v532 : BitVec 32 := Scalar.addi v520 c1_i32_158
  let c128_i32_159 : BitVec 32 := 128#32
  let v533 : BitVec 32 := Scalar.muli v532 c128_i32_159
  let v534 : BitVec 32 := v533
  let v535 : Index := Scalar.indexCast v534
  ![0, v535.toNat]
def k0_mult15 (v495 : BitVec 32) : BitVec 32 :=
  let c2_i32_145 : BitVec 32 := 2#32
  let v500 : BitVec 32 := Scalar.shrui v495 c2_i32_145
  let c4_i32_151 : BitVec 32 := 4#32
  let v508 : BitVec 32 := Scalar.muli v500 c4_i32_151
  let c7_i32_153 : BitVec 32 := 7#32
  let v520 : BitVec 32 := Scalar.shrui v508 c7_i32_153
  let c128_i32_161 : BitVec 32 := 128#32
  let v552 : BitVec 32 := Scalar.muli v520 c128_i32_161
  v552
def k0_mult16 (v495 : BitVec 32) : BitVec 32 :=
  let c2_i32_145 : BitVec 32 := 2#32
  let v500 : BitVec 32 := Scalar.shrui v495 c2_i32_145
  let c4_i32_151 : BitVec 32 := 4#32
  let v508 : BitVec 32 := Scalar.muli v500 c4_i32_151
  let c7_i32_153 : BitVec 32 := 7#32
  let v520 : BitVec 32 := Scalar.shrui v508 c7_i32_153
  let c1_i32_163 : BitVec 32 := 1#32
  let v557 : BitVec 32 := Scalar.addi v520 c1_i32_163
  let c128_i32_164 : BitVec 32 := 128#32
  let v558 : BitVec 32 := Scalar.muli v557 c128_i32_164
  v558

def k0_chk10 (i : grid0.Coords) (v495 : BitVec 32) : Prop :=
  (∀ (k0_h1 : k0_cond1 i = 1#1), 128 ∣ (k0_mult13 v495).toNat) ∧
  (∀ (k0_h1 : k0_cond1 i = 1#1), ∀ a, (k0_off26 v495) a + S1x128.size a ≤ S1x3100.size a) ∧
  (∀ (k0_h1 : k0_cond1 i = 1#1), 128 ∣ (k0_mult14 v495).toNat) ∧
  (∀ (k0_h1 : k0_cond1 i = 1#1), ∀ a, (k0_off27 v495) a + S1x128.size a ≤ S1x3100.size a) ∧
  (∀ (k0_h1 : k0_cond1 i = 1#1), 128 ∣ (k0_mult15 v495).toNat) ∧
  (∀ (k0_h1 : k0_cond1 i = 1#1), 128 ∣ (k0_mult16 v495).toNat)
theorem k0_mult13_dvd : ∀ (i : grid0.Coords) (v495 : BitVec 32) (k0_hw10 : k0_chk10 i v495), ∀ (k0_h1 : k0_cond1 i = 1#1), 128 ∣ (k0_mult13 v495).toNat := fun i v495 k0_hw10 k0_h1 => k0_hw10.1 k0_h1
theorem k0_off26_inb : ∀ (i : grid0.Coords) (v495 : BitVec 32) (k0_hw10 : k0_chk10 i v495), ∀ (k0_h1 : k0_cond1 i = 1#1), ∀ a, (k0_off26 v495) a + S1x128.size a ≤ S1x3100.size a := fun i v495 k0_hw10 k0_h1 => k0_hw10.2.1 k0_h1
theorem k0_mult14_dvd : ∀ (i : grid0.Coords) (v495 : BitVec 32) (k0_hw10 : k0_chk10 i v495), ∀ (k0_h1 : k0_cond1 i = 1#1), 128 ∣ (k0_mult14 v495).toNat := fun i v495 k0_hw10 k0_h1 => k0_hw10.2.2.1 k0_h1
theorem k0_off27_inb : ∀ (i : grid0.Coords) (v495 : BitVec 32) (k0_hw10 : k0_chk10 i v495), ∀ (k0_h1 : k0_cond1 i = 1#1), ∀ a, (k0_off27 v495) a + S1x128.size a ≤ S1x3100.size a := fun i v495 k0_hw10 k0_h1 => k0_hw10.2.2.2.1 k0_h1
theorem k0_mult15_dvd : ∀ (i : grid0.Coords) (v495 : BitVec 32) (k0_hw10 : k0_chk10 i v495), ∀ (k0_h1 : k0_cond1 i = 1#1), 128 ∣ (k0_mult15 v495).toNat := fun i v495 k0_hw10 k0_h1 => k0_hw10.2.2.2.2.1 k0_h1
theorem k0_mult16_dvd : ∀ (i : grid0.Coords) (v495 : BitVec 32) (k0_hw10 : k0_chk10 i v495), ∀ (k0_h1 : k0_cond1 i = 1#1), 128 ∣ (k0_mult16 v495).toNat := fun i v495 k0_hw10 k0_h1 => k0_hw10.2.2.2.2.2 k0_h1

def k0_off28 (v493 : BitVec 32) : Fin 1 → Nat :=
  let v598 : Index := Scalar.indexCast v493
  ![v598.toNat]

def k0_chk9 (i : grid0.Coords) (v493 : BitVec 32) : Prop :=
  (∀ (k0_h1 : k0_cond1 i = 1#1), ∀ a, (k0_off25 v493) a + S1.size a ≤ S41.size a) ∧
  (∀ (k0_h1 : k0_cond1 i = 1#1), ∀ a, (k0_off28 v493) a + S1.size a ≤ S41.size a)
theorem k0_off25_inb : ∀ (i : grid0.Coords) (v493 : BitVec 32) (k0_hw9 : k0_chk9 i v493), ∀ (k0_h1 : k0_cond1 i = 1#1), ∀ a, (k0_off25 v493) a + S1.size a ≤ S41.size a := fun i v493 k0_hw9 k0_h1 => k0_hw9.1 k0_h1
theorem k0_off28_inb : ∀ (i : grid0.Coords) (v493 : BitVec 32) (k0_hw9 : k0_chk9 i v493), ∀ (k0_h1 : k0_cond1 i = 1#1), ∀ a, (k0_off28 v493) a + S1.size a ≤ S41.size a := fun i v493 k0_hw9 k0_h1 => k0_hw9.2 k0_h1

def k0_off29 (v605 : BitVec 32) : Fin 1 → Nat :=
  let v606 : Index := Scalar.indexCast v605
  ![v606.toNat]

def k0_mult17 (v607 : BitVec 32) : BitVec 32 :=
  let c2_i32_172 : BitVec 32 := 2#32
  let v612 : BitVec 32 := Scalar.shrui v607 c2_i32_172
  let c4_i32_178 : BitVec 32 := 4#32
  let v620 : BitVec 32 := Scalar.muli v612 c4_i32_178
  let c7_i32_180 : BitVec 32 := 7#32
  let v632 : BitVec 32 := Scalar.shrui v620 c7_i32_180
  let c128_i32_183 : BitVec 32 := 128#32
  let v639 : BitVec 32 := Scalar.muli v632 c128_i32_183
  v639

def k0_off30 (v607 : BitVec 32) : Fin 2 → Nat :=
  let c0_184 : Index := 0#32
  let c2_i32_172 : BitVec 32 := 2#32
  let v612 : BitVec 32 := Scalar.shrui v607 c2_i32_172
  let c4_i32_178 : BitVec 32 := 4#32
  let v620 : BitVec 32 := Scalar.muli v612 c4_i32_178
  let c7_i32_180 : BitVec 32 := 7#32
  let v632 : BitVec 32 := Scalar.shrui v620 c7_i32_180
  let c128_i32_183 : BitVec 32 := 128#32
  let v639 : BitVec 32 := Scalar.muli v632 c128_i32_183
  let v640 : BitVec 32 := v639
  let v641 : Index := Scalar.indexCast v640
  ![0, v641.toNat]
def k0_mult18 (v607 : BitVec 32) : BitVec 32 :=
  let c2_i32_172 : BitVec 32 := 2#32
  let v612 : BitVec 32 := Scalar.shrui v607 c2_i32_172
  let c4_i32_178 : BitVec 32 := 4#32
  let v620 : BitVec 32 := Scalar.muli v612 c4_i32_178
  let c7_i32_180 : BitVec 32 := 7#32
  let v632 : BitVec 32 := Scalar.shrui v620 c7_i32_180
  let c1_i32_185 : BitVec 32 := 1#32
  let v644 : BitVec 32 := Scalar.addi v632 c1_i32_185
  let c128_i32_186 : BitVec 32 := 128#32
  let v645 : BitVec 32 := Scalar.muli v644 c128_i32_186
  v645
def k0_off31 (v607 : BitVec 32) : Fin 2 → Nat :=
  let c0_187 : Index := 0#32
  let c2_i32_172 : BitVec 32 := 2#32
  let v612 : BitVec 32 := Scalar.shrui v607 c2_i32_172
  let c4_i32_178 : BitVec 32 := 4#32
  let v620 : BitVec 32 := Scalar.muli v612 c4_i32_178
  let c7_i32_180 : BitVec 32 := 7#32
  let v632 : BitVec 32 := Scalar.shrui v620 c7_i32_180
  let c1_i32_185 : BitVec 32 := 1#32
  let v644 : BitVec 32 := Scalar.addi v632 c1_i32_185
  let c128_i32_186 : BitVec 32 := 128#32
  let v645 : BitVec 32 := Scalar.muli v644 c128_i32_186
  let v646 : BitVec 32 := v645
  let v647 : Index := Scalar.indexCast v646
  ![0, v647.toNat]
def k0_mult19 (v607 : BitVec 32) : BitVec 32 :=
  let c2_i32_172 : BitVec 32 := 2#32
  let v612 : BitVec 32 := Scalar.shrui v607 c2_i32_172
  let c4_i32_178 : BitVec 32 := 4#32
  let v620 : BitVec 32 := Scalar.muli v612 c4_i32_178
  let c7_i32_180 : BitVec 32 := 7#32
  let v632 : BitVec 32 := Scalar.shrui v620 c7_i32_180
  let c128_i32_188 : BitVec 32 := 128#32
  let v664 : BitVec 32 := Scalar.muli v632 c128_i32_188
  v664
def k0_mult20 (v607 : BitVec 32) : BitVec 32 :=
  let c2_i32_172 : BitVec 32 := 2#32
  let v612 : BitVec 32 := Scalar.shrui v607 c2_i32_172
  let c4_i32_178 : BitVec 32 := 4#32
  let v620 : BitVec 32 := Scalar.muli v612 c4_i32_178
  let c7_i32_180 : BitVec 32 := 7#32
  let v632 : BitVec 32 := Scalar.shrui v620 c7_i32_180
  let c1_i32_190 : BitVec 32 := 1#32
  let v669 : BitVec 32 := Scalar.addi v632 c1_i32_190
  let c128_i32_191 : BitVec 32 := 128#32
  let v670 : BitVec 32 := Scalar.muli v669 c128_i32_191
  v670

def k0_chk12 (i : grid0.Coords) (v607 : BitVec 32) : Prop :=
  (∀ (k0_h1 : k0_cond1 i = 1#1), 128 ∣ (k0_mult17 v607).toNat) ∧
  (∀ (k0_h1 : k0_cond1 i = 1#1), ∀ a, (k0_off30 v607) a + S1x128.size a ≤ S1x3100.size a) ∧
  (∀ (k0_h1 : k0_cond1 i = 1#1), 128 ∣ (k0_mult18 v607).toNat) ∧
  (∀ (k0_h1 : k0_cond1 i = 1#1), ∀ a, (k0_off31 v607) a + S1x128.size a ≤ S1x3100.size a) ∧
  (∀ (k0_h1 : k0_cond1 i = 1#1), 128 ∣ (k0_mult19 v607).toNat) ∧
  (∀ (k0_h1 : k0_cond1 i = 1#1), 128 ∣ (k0_mult20 v607).toNat)
theorem k0_mult17_dvd : ∀ (i : grid0.Coords) (v607 : BitVec 32) (k0_hw12 : k0_chk12 i v607), ∀ (k0_h1 : k0_cond1 i = 1#1), 128 ∣ (k0_mult17 v607).toNat := fun i v607 k0_hw12 k0_h1 => k0_hw12.1 k0_h1
theorem k0_off30_inb : ∀ (i : grid0.Coords) (v607 : BitVec 32) (k0_hw12 : k0_chk12 i v607), ∀ (k0_h1 : k0_cond1 i = 1#1), ∀ a, (k0_off30 v607) a + S1x128.size a ≤ S1x3100.size a := fun i v607 k0_hw12 k0_h1 => k0_hw12.2.1 k0_h1
theorem k0_mult18_dvd : ∀ (i : grid0.Coords) (v607 : BitVec 32) (k0_hw12 : k0_chk12 i v607), ∀ (k0_h1 : k0_cond1 i = 1#1), 128 ∣ (k0_mult18 v607).toNat := fun i v607 k0_hw12 k0_h1 => k0_hw12.2.2.1 k0_h1
theorem k0_off31_inb : ∀ (i : grid0.Coords) (v607 : BitVec 32) (k0_hw12 : k0_chk12 i v607), ∀ (k0_h1 : k0_cond1 i = 1#1), ∀ a, (k0_off31 v607) a + S1x128.size a ≤ S1x3100.size a := fun i v607 k0_hw12 k0_h1 => k0_hw12.2.2.2.1 k0_h1
theorem k0_mult19_dvd : ∀ (i : grid0.Coords) (v607 : BitVec 32) (k0_hw12 : k0_chk12 i v607), ∀ (k0_h1 : k0_cond1 i = 1#1), 128 ∣ (k0_mult19 v607).toNat := fun i v607 k0_hw12 k0_h1 => k0_hw12.2.2.2.2.1 k0_h1
theorem k0_mult20_dvd : ∀ (i : grid0.Coords) (v607 : BitVec 32) (k0_hw12 : k0_chk12 i v607), ∀ (k0_h1 : k0_cond1 i = 1#1), 128 ∣ (k0_mult20 v607).toNat := fun i v607 k0_hw12 k0_h1 => k0_hw12.2.2.2.2.2 k0_h1

def k0_off32 (v605 : BitVec 32) : Fin 1 → Nat :=
  let v710 : Index := Scalar.indexCast v605
  ![v710.toNat]

def k0_chk11 (i : grid0.Coords) (v605 : BitVec 32) : Prop :=
  (∀ (k0_h1 : k0_cond1 i = 1#1), ∀ a, (k0_off29 v605) a + S1.size a ≤ S41.size a) ∧
  (∀ (k0_h1 : k0_cond1 i = 1#1), ∀ a, (k0_off32 v605) a + S1.size a ≤ S41.size a)
theorem k0_off29_inb : ∀ (i : grid0.Coords) (v605 : BitVec 32) (k0_hw11 : k0_chk11 i v605), ∀ (k0_h1 : k0_cond1 i = 1#1), ∀ a, (k0_off29 v605) a + S1.size a ≤ S41.size a := fun i v605 k0_hw11 k0_h1 => k0_hw11.1 k0_h1
theorem k0_off32_inb : ∀ (i : grid0.Coords) (v605 : BitVec 32) (k0_hw11 : k0_chk11 i v605), ∀ (k0_h1 : k0_cond1 i = 1#1), ∀ a, (k0_off32 v605) a + S1.size a ≤ S41.size a := fun i v605 k0_hw11 k0_h1 => k0_hw11.2 k0_h1

def k0_off33 (v717 : BitVec 32) : Fin 1 → Nat :=
  let v718 : Index := Scalar.indexCast v717
  ![v718.toNat]

def k0_mult21 (v719 : BitVec 32) : BitVec 32 :=
  let c2_i32_198 : BitVec 32 := 2#32
  let v724 : BitVec 32 := Scalar.shrui v719 c2_i32_198
  let c4_i32_204 : BitVec 32 := 4#32
  let v732 : BitVec 32 := Scalar.muli v724 c4_i32_204
  let c7_i32_206 : BitVec 32 := 7#32
  let v744 : BitVec 32 := Scalar.shrui v732 c7_i32_206
  let c128_i32_209 : BitVec 32 := 128#32
  let v751 : BitVec 32 := Scalar.muli v744 c128_i32_209
  v751

def k0_off34 (v719 : BitVec 32) : Fin 2 → Nat :=
  let c0_210 : Index := 0#32
  let c2_i32_198 : BitVec 32 := 2#32
  let v724 : BitVec 32 := Scalar.shrui v719 c2_i32_198
  let c4_i32_204 : BitVec 32 := 4#32
  let v732 : BitVec 32 := Scalar.muli v724 c4_i32_204
  let c7_i32_206 : BitVec 32 := 7#32
  let v744 : BitVec 32 := Scalar.shrui v732 c7_i32_206
  let c128_i32_209 : BitVec 32 := 128#32
  let v751 : BitVec 32 := Scalar.muli v744 c128_i32_209
  let v752 : BitVec 32 := v751
  let v753 : Index := Scalar.indexCast v752
  ![0, v753.toNat]
def k0_mult22 (v719 : BitVec 32) : BitVec 32 :=
  let c2_i32_198 : BitVec 32 := 2#32
  let v724 : BitVec 32 := Scalar.shrui v719 c2_i32_198
  let c4_i32_204 : BitVec 32 := 4#32
  let v732 : BitVec 32 := Scalar.muli v724 c4_i32_204
  let c7_i32_206 : BitVec 32 := 7#32
  let v744 : BitVec 32 := Scalar.shrui v732 c7_i32_206
  let c1_i32_211 : BitVec 32 := 1#32
  let v756 : BitVec 32 := Scalar.addi v744 c1_i32_211
  let c128_i32_212 : BitVec 32 := 128#32
  let v757 : BitVec 32 := Scalar.muli v756 c128_i32_212
  v757
def k0_off35 (v719 : BitVec 32) : Fin 2 → Nat :=
  let c0_213 : Index := 0#32
  let c2_i32_198 : BitVec 32 := 2#32
  let v724 : BitVec 32 := Scalar.shrui v719 c2_i32_198
  let c4_i32_204 : BitVec 32 := 4#32
  let v732 : BitVec 32 := Scalar.muli v724 c4_i32_204
  let c7_i32_206 : BitVec 32 := 7#32
  let v744 : BitVec 32 := Scalar.shrui v732 c7_i32_206
  let c1_i32_211 : BitVec 32 := 1#32
  let v756 : BitVec 32 := Scalar.addi v744 c1_i32_211
  let c128_i32_212 : BitVec 32 := 128#32
  let v757 : BitVec 32 := Scalar.muli v756 c128_i32_212
  let v758 : BitVec 32 := v757
  let v759 : Index := Scalar.indexCast v758
  ![0, v759.toNat]
def k0_mult23 (v719 : BitVec 32) : BitVec 32 :=
  let c2_i32_198 : BitVec 32 := 2#32
  let v724 : BitVec 32 := Scalar.shrui v719 c2_i32_198
  let c4_i32_204 : BitVec 32 := 4#32
  let v732 : BitVec 32 := Scalar.muli v724 c4_i32_204
  let c7_i32_206 : BitVec 32 := 7#32
  let v744 : BitVec 32 := Scalar.shrui v732 c7_i32_206
  let c128_i32_214 : BitVec 32 := 128#32
  let v776 : BitVec 32 := Scalar.muli v744 c128_i32_214
  v776
def k0_mult24 (v719 : BitVec 32) : BitVec 32 :=
  let c2_i32_198 : BitVec 32 := 2#32
  let v724 : BitVec 32 := Scalar.shrui v719 c2_i32_198
  let c4_i32_204 : BitVec 32 := 4#32
  let v732 : BitVec 32 := Scalar.muli v724 c4_i32_204
  let c7_i32_206 : BitVec 32 := 7#32
  let v744 : BitVec 32 := Scalar.shrui v732 c7_i32_206
  let c1_i32_216 : BitVec 32 := 1#32
  let v781 : BitVec 32 := Scalar.addi v744 c1_i32_216
  let c128_i32_217 : BitVec 32 := 128#32
  let v782 : BitVec 32 := Scalar.muli v781 c128_i32_217
  v782

def k0_chk14 (i : grid0.Coords) (v719 : BitVec 32) : Prop :=
  (∀ (k0_h1 : k0_cond1 i = 1#1), 128 ∣ (k0_mult21 v719).toNat) ∧
  (∀ (k0_h1 : k0_cond1 i = 1#1), ∀ a, (k0_off34 v719) a + S1x128.size a ≤ S1x3100.size a) ∧
  (∀ (k0_h1 : k0_cond1 i = 1#1), 128 ∣ (k0_mult22 v719).toNat) ∧
  (∀ (k0_h1 : k0_cond1 i = 1#1), ∀ a, (k0_off35 v719) a + S1x128.size a ≤ S1x3100.size a) ∧
  (∀ (k0_h1 : k0_cond1 i = 1#1), 128 ∣ (k0_mult23 v719).toNat) ∧
  (∀ (k0_h1 : k0_cond1 i = 1#1), 128 ∣ (k0_mult24 v719).toNat)
theorem k0_mult21_dvd : ∀ (i : grid0.Coords) (v719 : BitVec 32) (k0_hw14 : k0_chk14 i v719), ∀ (k0_h1 : k0_cond1 i = 1#1), 128 ∣ (k0_mult21 v719).toNat := fun i v719 k0_hw14 k0_h1 => k0_hw14.1 k0_h1
theorem k0_off34_inb : ∀ (i : grid0.Coords) (v719 : BitVec 32) (k0_hw14 : k0_chk14 i v719), ∀ (k0_h1 : k0_cond1 i = 1#1), ∀ a, (k0_off34 v719) a + S1x128.size a ≤ S1x3100.size a := fun i v719 k0_hw14 k0_h1 => k0_hw14.2.1 k0_h1
theorem k0_mult22_dvd : ∀ (i : grid0.Coords) (v719 : BitVec 32) (k0_hw14 : k0_chk14 i v719), ∀ (k0_h1 : k0_cond1 i = 1#1), 128 ∣ (k0_mult22 v719).toNat := fun i v719 k0_hw14 k0_h1 => k0_hw14.2.2.1 k0_h1
theorem k0_off35_inb : ∀ (i : grid0.Coords) (v719 : BitVec 32) (k0_hw14 : k0_chk14 i v719), ∀ (k0_h1 : k0_cond1 i = 1#1), ∀ a, (k0_off35 v719) a + S1x128.size a ≤ S1x3100.size a := fun i v719 k0_hw14 k0_h1 => k0_hw14.2.2.2.1 k0_h1
theorem k0_mult23_dvd : ∀ (i : grid0.Coords) (v719 : BitVec 32) (k0_hw14 : k0_chk14 i v719), ∀ (k0_h1 : k0_cond1 i = 1#1), 128 ∣ (k0_mult23 v719).toNat := fun i v719 k0_hw14 k0_h1 => k0_hw14.2.2.2.2.1 k0_h1
theorem k0_mult24_dvd : ∀ (i : grid0.Coords) (v719 : BitVec 32) (k0_hw14 : k0_chk14 i v719), ∀ (k0_h1 : k0_cond1 i = 1#1), 128 ∣ (k0_mult24 v719).toNat := fun i v719 k0_hw14 k0_h1 => k0_hw14.2.2.2.2.2 k0_h1

def k0_off36 (v717 : BitVec 32) : Fin 1 → Nat :=
  let v822 : Index := Scalar.indexCast v717
  ![v822.toNat]

def k0_chk13 (i : grid0.Coords) (v717 : BitVec 32) : Prop :=
  (∀ (k0_h1 : k0_cond1 i = 1#1), ∀ a, (k0_off33 v717) a + S1.size a ≤ S41.size a) ∧
  (∀ (k0_h1 : k0_cond1 i = 1#1), ∀ a, (k0_off36 v717) a + S1.size a ≤ S41.size a)
theorem k0_off33_inb : ∀ (i : grid0.Coords) (v717 : BitVec 32) (k0_hw13 : k0_chk13 i v717), ∀ (k0_h1 : k0_cond1 i = 1#1), ∀ a, (k0_off33 v717) a + S1.size a ≤ S41.size a := fun i v717 k0_hw13 k0_h1 => k0_hw13.1 k0_h1
theorem k0_off36_inb : ∀ (i : grid0.Coords) (v717 : BitVec 32) (k0_hw13 : k0_chk13 i v717), ∀ (k0_h1 : k0_cond1 i = 1#1), ∀ a, (k0_off36 v717) a + S1.size a ≤ S41.size a := fun i v717 k0_hw13 k0_h1 => k0_hw13.2 k0_h1

def k0_off37 (v829 : BitVec 32) : Fin 1 → Nat :=
  let v830 : Index := Scalar.indexCast v829
  ![v830.toNat]

def k0_mult25 (v831 : BitVec 32) : BitVec 32 :=
  let c2_i32_224 : BitVec 32 := 2#32
  let v836 : BitVec 32 := Scalar.shrui v831 c2_i32_224
  let c4_i32_230 : BitVec 32 := 4#32
  let v844 : BitVec 32 := Scalar.muli v836 c4_i32_230
  let c7_i32_232 : BitVec 32 := 7#32
  let v856 : BitVec 32 := Scalar.shrui v844 c7_i32_232
  let c128_i32_235 : BitVec 32 := 128#32
  let v863 : BitVec 32 := Scalar.muli v856 c128_i32_235
  v863

def k0_off38 (v831 : BitVec 32) : Fin 2 → Nat :=
  let c0_236 : Index := 0#32
  let c2_i32_224 : BitVec 32 := 2#32
  let v836 : BitVec 32 := Scalar.shrui v831 c2_i32_224
  let c4_i32_230 : BitVec 32 := 4#32
  let v844 : BitVec 32 := Scalar.muli v836 c4_i32_230
  let c7_i32_232 : BitVec 32 := 7#32
  let v856 : BitVec 32 := Scalar.shrui v844 c7_i32_232
  let c128_i32_235 : BitVec 32 := 128#32
  let v863 : BitVec 32 := Scalar.muli v856 c128_i32_235
  let v864 : BitVec 32 := v863
  let v865 : Index := Scalar.indexCast v864
  ![0, v865.toNat]
def k0_mult26 (v831 : BitVec 32) : BitVec 32 :=
  let c2_i32_224 : BitVec 32 := 2#32
  let v836 : BitVec 32 := Scalar.shrui v831 c2_i32_224
  let c4_i32_230 : BitVec 32 := 4#32
  let v844 : BitVec 32 := Scalar.muli v836 c4_i32_230
  let c7_i32_232 : BitVec 32 := 7#32
  let v856 : BitVec 32 := Scalar.shrui v844 c7_i32_232
  let c1_i32_237 : BitVec 32 := 1#32
  let v868 : BitVec 32 := Scalar.addi v856 c1_i32_237
  let c128_i32_238 : BitVec 32 := 128#32
  let v869 : BitVec 32 := Scalar.muli v868 c128_i32_238
  v869
def k0_off39 (v831 : BitVec 32) : Fin 2 → Nat :=
  let c0_239 : Index := 0#32
  let c2_i32_224 : BitVec 32 := 2#32
  let v836 : BitVec 32 := Scalar.shrui v831 c2_i32_224
  let c4_i32_230 : BitVec 32 := 4#32
  let v844 : BitVec 32 := Scalar.muli v836 c4_i32_230
  let c7_i32_232 : BitVec 32 := 7#32
  let v856 : BitVec 32 := Scalar.shrui v844 c7_i32_232
  let c1_i32_237 : BitVec 32 := 1#32
  let v868 : BitVec 32 := Scalar.addi v856 c1_i32_237
  let c128_i32_238 : BitVec 32 := 128#32
  let v869 : BitVec 32 := Scalar.muli v868 c128_i32_238
  let v870 : BitVec 32 := v869
  let v871 : Index := Scalar.indexCast v870
  ![0, v871.toNat]
def k0_mult27 (v831 : BitVec 32) : BitVec 32 :=
  let c2_i32_224 : BitVec 32 := 2#32
  let v836 : BitVec 32 := Scalar.shrui v831 c2_i32_224
  let c4_i32_230 : BitVec 32 := 4#32
  let v844 : BitVec 32 := Scalar.muli v836 c4_i32_230
  let c7_i32_232 : BitVec 32 := 7#32
  let v856 : BitVec 32 := Scalar.shrui v844 c7_i32_232
  let c128_i32_240 : BitVec 32 := 128#32
  let v888 : BitVec 32 := Scalar.muli v856 c128_i32_240
  v888
def k0_mult28 (v831 : BitVec 32) : BitVec 32 :=
  let c2_i32_224 : BitVec 32 := 2#32
  let v836 : BitVec 32 := Scalar.shrui v831 c2_i32_224
  let c4_i32_230 : BitVec 32 := 4#32
  let v844 : BitVec 32 := Scalar.muli v836 c4_i32_230
  let c7_i32_232 : BitVec 32 := 7#32
  let v856 : BitVec 32 := Scalar.shrui v844 c7_i32_232
  let c1_i32_242 : BitVec 32 := 1#32
  let v893 : BitVec 32 := Scalar.addi v856 c1_i32_242
  let c128_i32_243 : BitVec 32 := 128#32
  let v894 : BitVec 32 := Scalar.muli v893 c128_i32_243
  v894

def k0_chk16 (i : grid0.Coords) (v831 : BitVec 32) : Prop :=
  (∀ (k0_h1 : k0_cond1 i = 1#1), 128 ∣ (k0_mult25 v831).toNat) ∧
  (∀ (k0_h1 : k0_cond1 i = 1#1), ∀ a, (k0_off38 v831) a + S1x128.size a ≤ S1x3100.size a) ∧
  (∀ (k0_h1 : k0_cond1 i = 1#1), 128 ∣ (k0_mult26 v831).toNat) ∧
  (∀ (k0_h1 : k0_cond1 i = 1#1), ∀ a, (k0_off39 v831) a + S1x128.size a ≤ S1x3100.size a) ∧
  (∀ (k0_h1 : k0_cond1 i = 1#1), 128 ∣ (k0_mult27 v831).toNat) ∧
  (∀ (k0_h1 : k0_cond1 i = 1#1), 128 ∣ (k0_mult28 v831).toNat)
theorem k0_mult25_dvd : ∀ (i : grid0.Coords) (v831 : BitVec 32) (k0_hw16 : k0_chk16 i v831), ∀ (k0_h1 : k0_cond1 i = 1#1), 128 ∣ (k0_mult25 v831).toNat := fun i v831 k0_hw16 k0_h1 => k0_hw16.1 k0_h1
theorem k0_off38_inb : ∀ (i : grid0.Coords) (v831 : BitVec 32) (k0_hw16 : k0_chk16 i v831), ∀ (k0_h1 : k0_cond1 i = 1#1), ∀ a, (k0_off38 v831) a + S1x128.size a ≤ S1x3100.size a := fun i v831 k0_hw16 k0_h1 => k0_hw16.2.1 k0_h1
theorem k0_mult26_dvd : ∀ (i : grid0.Coords) (v831 : BitVec 32) (k0_hw16 : k0_chk16 i v831), ∀ (k0_h1 : k0_cond1 i = 1#1), 128 ∣ (k0_mult26 v831).toNat := fun i v831 k0_hw16 k0_h1 => k0_hw16.2.2.1 k0_h1
theorem k0_off39_inb : ∀ (i : grid0.Coords) (v831 : BitVec 32) (k0_hw16 : k0_chk16 i v831), ∀ (k0_h1 : k0_cond1 i = 1#1), ∀ a, (k0_off39 v831) a + S1x128.size a ≤ S1x3100.size a := fun i v831 k0_hw16 k0_h1 => k0_hw16.2.2.2.1 k0_h1
theorem k0_mult27_dvd : ∀ (i : grid0.Coords) (v831 : BitVec 32) (k0_hw16 : k0_chk16 i v831), ∀ (k0_h1 : k0_cond1 i = 1#1), 128 ∣ (k0_mult27 v831).toNat := fun i v831 k0_hw16 k0_h1 => k0_hw16.2.2.2.2.1 k0_h1
theorem k0_mult28_dvd : ∀ (i : grid0.Coords) (v831 : BitVec 32) (k0_hw16 : k0_chk16 i v831), ∀ (k0_h1 : k0_cond1 i = 1#1), 128 ∣ (k0_mult28 v831).toNat := fun i v831 k0_hw16 k0_h1 => k0_hw16.2.2.2.2.2 k0_h1

def k0_off40 (v829 : BitVec 32) : Fin 1 → Nat :=
  let v934 : Index := Scalar.indexCast v829
  ![v934.toNat]

def k0_chk15 (i : grid0.Coords) (v829 : BitVec 32) : Prop :=
  (∀ (k0_h1 : k0_cond1 i = 1#1), ∀ a, (k0_off37 v829) a + S1.size a ≤ S41.size a) ∧
  (∀ (k0_h1 : k0_cond1 i = 1#1), ∀ a, (k0_off40 v829) a + S1.size a ≤ S41.size a)
theorem k0_off37_inb : ∀ (i : grid0.Coords) (v829 : BitVec 32) (k0_hw15 : k0_chk15 i v829), ∀ (k0_h1 : k0_cond1 i = 1#1), ∀ a, (k0_off37 v829) a + S1.size a ≤ S41.size a := fun i v829 k0_hw15 k0_h1 => k0_hw15.1 k0_h1
theorem k0_off40_inb : ∀ (i : grid0.Coords) (v829 : BitVec 32) (k0_hw15 : k0_chk15 i v829), ∀ (k0_h1 : k0_cond1 i = 1#1), ∀ a, (k0_off40 v829) a + S1.size a ≤ S41.size a := fun i v829 k0_hw15 k0_h1 => k0_hw15.2 k0_h1

def k0_off41 (v941 : BitVec 32) : Fin 1 → Nat :=
  let v942 : Index := Scalar.indexCast v941
  ![v942.toNat]

def k0_mult29 (v943 : BitVec 32) : BitVec 32 :=
  let c2_i32_250 : BitVec 32 := 2#32
  let v948 : BitVec 32 := Scalar.shrui v943 c2_i32_250
  let c4_i32_256 : BitVec 32 := 4#32
  let v956 : BitVec 32 := Scalar.muli v948 c4_i32_256
  let c7_i32_258 : BitVec 32 := 7#32
  let v968 : BitVec 32 := Scalar.shrui v956 c7_i32_258
  let c128_i32_261 : BitVec 32 := 128#32
  let v975 : BitVec 32 := Scalar.muli v968 c128_i32_261
  v975

def k0_off42 (v943 : BitVec 32) : Fin 2 → Nat :=
  let c0_262 : Index := 0#32
  let c2_i32_250 : BitVec 32 := 2#32
  let v948 : BitVec 32 := Scalar.shrui v943 c2_i32_250
  let c4_i32_256 : BitVec 32 := 4#32
  let v956 : BitVec 32 := Scalar.muli v948 c4_i32_256
  let c7_i32_258 : BitVec 32 := 7#32
  let v968 : BitVec 32 := Scalar.shrui v956 c7_i32_258
  let c128_i32_261 : BitVec 32 := 128#32
  let v975 : BitVec 32 := Scalar.muli v968 c128_i32_261
  let v976 : BitVec 32 := v975
  let v977 : Index := Scalar.indexCast v976
  ![0, v977.toNat]
def k0_mult30 (v943 : BitVec 32) : BitVec 32 :=
  let c2_i32_250 : BitVec 32 := 2#32
  let v948 : BitVec 32 := Scalar.shrui v943 c2_i32_250
  let c4_i32_256 : BitVec 32 := 4#32
  let v956 : BitVec 32 := Scalar.muli v948 c4_i32_256
  let c7_i32_258 : BitVec 32 := 7#32
  let v968 : BitVec 32 := Scalar.shrui v956 c7_i32_258
  let c1_i32_263 : BitVec 32 := 1#32
  let v980 : BitVec 32 := Scalar.addi v968 c1_i32_263
  let c128_i32_264 : BitVec 32 := 128#32
  let v981 : BitVec 32 := Scalar.muli v980 c128_i32_264
  v981
def k0_off43 (v943 : BitVec 32) : Fin 2 → Nat :=
  let c0_265 : Index := 0#32
  let c2_i32_250 : BitVec 32 := 2#32
  let v948 : BitVec 32 := Scalar.shrui v943 c2_i32_250
  let c4_i32_256 : BitVec 32 := 4#32
  let v956 : BitVec 32 := Scalar.muli v948 c4_i32_256
  let c7_i32_258 : BitVec 32 := 7#32
  let v968 : BitVec 32 := Scalar.shrui v956 c7_i32_258
  let c1_i32_263 : BitVec 32 := 1#32
  let v980 : BitVec 32 := Scalar.addi v968 c1_i32_263
  let c128_i32_264 : BitVec 32 := 128#32
  let v981 : BitVec 32 := Scalar.muli v980 c128_i32_264
  let v982 : BitVec 32 := v981
  let v983 : Index := Scalar.indexCast v982
  ![0, v983.toNat]
def k0_mult31 (v943 : BitVec 32) : BitVec 32 :=
  let c2_i32_250 : BitVec 32 := 2#32
  let v948 : BitVec 32 := Scalar.shrui v943 c2_i32_250
  let c4_i32_256 : BitVec 32 := 4#32
  let v956 : BitVec 32 := Scalar.muli v948 c4_i32_256
  let c7_i32_258 : BitVec 32 := 7#32
  let v968 : BitVec 32 := Scalar.shrui v956 c7_i32_258
  let c128_i32_266 : BitVec 32 := 128#32
  let v1000 : BitVec 32 := Scalar.muli v968 c128_i32_266
  v1000
def k0_mult32 (v943 : BitVec 32) : BitVec 32 :=
  let c2_i32_250 : BitVec 32 := 2#32
  let v948 : BitVec 32 := Scalar.shrui v943 c2_i32_250
  let c4_i32_256 : BitVec 32 := 4#32
  let v956 : BitVec 32 := Scalar.muli v948 c4_i32_256
  let c7_i32_258 : BitVec 32 := 7#32
  let v968 : BitVec 32 := Scalar.shrui v956 c7_i32_258
  let c1_i32_268 : BitVec 32 := 1#32
  let v1005 : BitVec 32 := Scalar.addi v968 c1_i32_268
  let c128_i32_269 : BitVec 32 := 128#32
  let v1006 : BitVec 32 := Scalar.muli v1005 c128_i32_269
  v1006

def k0_chk18 (i : grid0.Coords) (v943 : BitVec 32) : Prop :=
  (∀ (k0_h1 : k0_cond1 i = 1#1), 128 ∣ (k0_mult29 v943).toNat) ∧
  (∀ (k0_h1 : k0_cond1 i = 1#1), ∀ a, (k0_off42 v943) a + S1x128.size a ≤ S1x3100.size a) ∧
  (∀ (k0_h1 : k0_cond1 i = 1#1), 128 ∣ (k0_mult30 v943).toNat) ∧
  (∀ (k0_h1 : k0_cond1 i = 1#1), ∀ a, (k0_off43 v943) a + S1x128.size a ≤ S1x3100.size a) ∧
  (∀ (k0_h1 : k0_cond1 i = 1#1), 128 ∣ (k0_mult31 v943).toNat) ∧
  (∀ (k0_h1 : k0_cond1 i = 1#1), 128 ∣ (k0_mult32 v943).toNat)
theorem k0_mult29_dvd : ∀ (i : grid0.Coords) (v943 : BitVec 32) (k0_hw18 : k0_chk18 i v943), ∀ (k0_h1 : k0_cond1 i = 1#1), 128 ∣ (k0_mult29 v943).toNat := fun i v943 k0_hw18 k0_h1 => k0_hw18.1 k0_h1
theorem k0_off42_inb : ∀ (i : grid0.Coords) (v943 : BitVec 32) (k0_hw18 : k0_chk18 i v943), ∀ (k0_h1 : k0_cond1 i = 1#1), ∀ a, (k0_off42 v943) a + S1x128.size a ≤ S1x3100.size a := fun i v943 k0_hw18 k0_h1 => k0_hw18.2.1 k0_h1
theorem k0_mult30_dvd : ∀ (i : grid0.Coords) (v943 : BitVec 32) (k0_hw18 : k0_chk18 i v943), ∀ (k0_h1 : k0_cond1 i = 1#1), 128 ∣ (k0_mult30 v943).toNat := fun i v943 k0_hw18 k0_h1 => k0_hw18.2.2.1 k0_h1
theorem k0_off43_inb : ∀ (i : grid0.Coords) (v943 : BitVec 32) (k0_hw18 : k0_chk18 i v943), ∀ (k0_h1 : k0_cond1 i = 1#1), ∀ a, (k0_off43 v943) a + S1x128.size a ≤ S1x3100.size a := fun i v943 k0_hw18 k0_h1 => k0_hw18.2.2.2.1 k0_h1
theorem k0_mult31_dvd : ∀ (i : grid0.Coords) (v943 : BitVec 32) (k0_hw18 : k0_chk18 i v943), ∀ (k0_h1 : k0_cond1 i = 1#1), 128 ∣ (k0_mult31 v943).toNat := fun i v943 k0_hw18 k0_h1 => k0_hw18.2.2.2.2.1 k0_h1
theorem k0_mult32_dvd : ∀ (i : grid0.Coords) (v943 : BitVec 32) (k0_hw18 : k0_chk18 i v943), ∀ (k0_h1 : k0_cond1 i = 1#1), 128 ∣ (k0_mult32 v943).toNat := fun i v943 k0_hw18 k0_h1 => k0_hw18.2.2.2.2.2 k0_h1

def k0_off44 (v941 : BitVec 32) : Fin 1 → Nat :=
  let v1046 : Index := Scalar.indexCast v941
  ![v1046.toNat]

def k0_chk17 (i : grid0.Coords) (v941 : BitVec 32) : Prop :=
  (∀ (k0_h1 : k0_cond1 i = 1#1), ∀ a, (k0_off41 v941) a + S1.size a ≤ S41.size a) ∧
  (∀ (k0_h1 : k0_cond1 i = 1#1), ∀ a, (k0_off44 v941) a + S1.size a ≤ S41.size a)
theorem k0_off41_inb : ∀ (i : grid0.Coords) (v941 : BitVec 32) (k0_hw17 : k0_chk17 i v941), ∀ (k0_h1 : k0_cond1 i = 1#1), ∀ a, (k0_off41 v941) a + S1.size a ≤ S41.size a := fun i v941 k0_hw17 k0_h1 => k0_hw17.1 k0_h1
theorem k0_off44_inb : ∀ (i : grid0.Coords) (v941 : BitVec 32) (k0_hw17 : k0_chk17 i v941), ∀ (k0_h1 : k0_cond1 i = 1#1), ∀ a, (k0_off44 v941) a + S1.size a ≤ S41.size a := fun i v941 k0_hw17 k0_h1 => k0_hw17.2 k0_h1

def k0_off45 (v1053 : BitVec 32) : Fin 1 → Nat :=
  let v1054 : Index := Scalar.indexCast v1053
  ![v1054.toNat]

def k0_mult33 (v1055 : BitVec 32) : BitVec 32 :=
  let c2_i32_276 : BitVec 32 := 2#32
  let v1060 : BitVec 32 := Scalar.shrui v1055 c2_i32_276
  let c4_i32_282 : BitVec 32 := 4#32
  let v1068 : BitVec 32 := Scalar.muli v1060 c4_i32_282
  let c7_i32_284 : BitVec 32 := 7#32
  let v1080 : BitVec 32 := Scalar.shrui v1068 c7_i32_284
  let c128_i32_287 : BitVec 32 := 128#32
  let v1087 : BitVec 32 := Scalar.muli v1080 c128_i32_287
  v1087

def k0_off46 (v1055 : BitVec 32) : Fin 2 → Nat :=
  let c0_288 : Index := 0#32
  let c2_i32_276 : BitVec 32 := 2#32
  let v1060 : BitVec 32 := Scalar.shrui v1055 c2_i32_276
  let c4_i32_282 : BitVec 32 := 4#32
  let v1068 : BitVec 32 := Scalar.muli v1060 c4_i32_282
  let c7_i32_284 : BitVec 32 := 7#32
  let v1080 : BitVec 32 := Scalar.shrui v1068 c7_i32_284
  let c128_i32_287 : BitVec 32 := 128#32
  let v1087 : BitVec 32 := Scalar.muli v1080 c128_i32_287
  let v1088 : BitVec 32 := v1087
  let v1089 : Index := Scalar.indexCast v1088
  ![0, v1089.toNat]
def k0_mult34 (v1055 : BitVec 32) : BitVec 32 :=
  let c2_i32_276 : BitVec 32 := 2#32
  let v1060 : BitVec 32 := Scalar.shrui v1055 c2_i32_276
  let c4_i32_282 : BitVec 32 := 4#32
  let v1068 : BitVec 32 := Scalar.muli v1060 c4_i32_282
  let c7_i32_284 : BitVec 32 := 7#32
  let v1080 : BitVec 32 := Scalar.shrui v1068 c7_i32_284
  let c1_i32_289 : BitVec 32 := 1#32
  let v1092 : BitVec 32 := Scalar.addi v1080 c1_i32_289
  let c128_i32_290 : BitVec 32 := 128#32
  let v1093 : BitVec 32 := Scalar.muli v1092 c128_i32_290
  v1093
def k0_off47 (v1055 : BitVec 32) : Fin 2 → Nat :=
  let c0_291 : Index := 0#32
  let c2_i32_276 : BitVec 32 := 2#32
  let v1060 : BitVec 32 := Scalar.shrui v1055 c2_i32_276
  let c4_i32_282 : BitVec 32 := 4#32
  let v1068 : BitVec 32 := Scalar.muli v1060 c4_i32_282
  let c7_i32_284 : BitVec 32 := 7#32
  let v1080 : BitVec 32 := Scalar.shrui v1068 c7_i32_284
  let c1_i32_289 : BitVec 32 := 1#32
  let v1092 : BitVec 32 := Scalar.addi v1080 c1_i32_289
  let c128_i32_290 : BitVec 32 := 128#32
  let v1093 : BitVec 32 := Scalar.muli v1092 c128_i32_290
  let v1094 : BitVec 32 := v1093
  let v1095 : Index := Scalar.indexCast v1094
  ![0, v1095.toNat]
def k0_mult35 (v1055 : BitVec 32) : BitVec 32 :=
  let c2_i32_276 : BitVec 32 := 2#32
  let v1060 : BitVec 32 := Scalar.shrui v1055 c2_i32_276
  let c4_i32_282 : BitVec 32 := 4#32
  let v1068 : BitVec 32 := Scalar.muli v1060 c4_i32_282
  let c7_i32_284 : BitVec 32 := 7#32
  let v1080 : BitVec 32 := Scalar.shrui v1068 c7_i32_284
  let c128_i32_292 : BitVec 32 := 128#32
  let v1112 : BitVec 32 := Scalar.muli v1080 c128_i32_292
  v1112
def k0_mult36 (v1055 : BitVec 32) : BitVec 32 :=
  let c2_i32_276 : BitVec 32 := 2#32
  let v1060 : BitVec 32 := Scalar.shrui v1055 c2_i32_276
  let c4_i32_282 : BitVec 32 := 4#32
  let v1068 : BitVec 32 := Scalar.muli v1060 c4_i32_282
  let c7_i32_284 : BitVec 32 := 7#32
  let v1080 : BitVec 32 := Scalar.shrui v1068 c7_i32_284
  let c1_i32_294 : BitVec 32 := 1#32
  let v1117 : BitVec 32 := Scalar.addi v1080 c1_i32_294
  let c128_i32_295 : BitVec 32 := 128#32
  let v1118 : BitVec 32 := Scalar.muli v1117 c128_i32_295
  v1118

def k0_chk20 (i : grid0.Coords) (v1055 : BitVec 32) : Prop :=
  (∀ (k0_h1 : k0_cond1 i = 1#1), 128 ∣ (k0_mult33 v1055).toNat) ∧
  (∀ (k0_h1 : k0_cond1 i = 1#1), ∀ a, (k0_off46 v1055) a + S1x128.size a ≤ S1x3100.size a) ∧
  (∀ (k0_h1 : k0_cond1 i = 1#1), 128 ∣ (k0_mult34 v1055).toNat) ∧
  (∀ (k0_h1 : k0_cond1 i = 1#1), ∀ a, (k0_off47 v1055) a + S1x128.size a ≤ S1x3100.size a) ∧
  (∀ (k0_h1 : k0_cond1 i = 1#1), 128 ∣ (k0_mult35 v1055).toNat) ∧
  (∀ (k0_h1 : k0_cond1 i = 1#1), 128 ∣ (k0_mult36 v1055).toNat)
theorem k0_mult33_dvd : ∀ (i : grid0.Coords) (v1055 : BitVec 32) (k0_hw20 : k0_chk20 i v1055), ∀ (k0_h1 : k0_cond1 i = 1#1), 128 ∣ (k0_mult33 v1055).toNat := fun i v1055 k0_hw20 k0_h1 => k0_hw20.1 k0_h1
theorem k0_off46_inb : ∀ (i : grid0.Coords) (v1055 : BitVec 32) (k0_hw20 : k0_chk20 i v1055), ∀ (k0_h1 : k0_cond1 i = 1#1), ∀ a, (k0_off46 v1055) a + S1x128.size a ≤ S1x3100.size a := fun i v1055 k0_hw20 k0_h1 => k0_hw20.2.1 k0_h1
theorem k0_mult34_dvd : ∀ (i : grid0.Coords) (v1055 : BitVec 32) (k0_hw20 : k0_chk20 i v1055), ∀ (k0_h1 : k0_cond1 i = 1#1), 128 ∣ (k0_mult34 v1055).toNat := fun i v1055 k0_hw20 k0_h1 => k0_hw20.2.2.1 k0_h1
theorem k0_off47_inb : ∀ (i : grid0.Coords) (v1055 : BitVec 32) (k0_hw20 : k0_chk20 i v1055), ∀ (k0_h1 : k0_cond1 i = 1#1), ∀ a, (k0_off47 v1055) a + S1x128.size a ≤ S1x3100.size a := fun i v1055 k0_hw20 k0_h1 => k0_hw20.2.2.2.1 k0_h1
theorem k0_mult35_dvd : ∀ (i : grid0.Coords) (v1055 : BitVec 32) (k0_hw20 : k0_chk20 i v1055), ∀ (k0_h1 : k0_cond1 i = 1#1), 128 ∣ (k0_mult35 v1055).toNat := fun i v1055 k0_hw20 k0_h1 => k0_hw20.2.2.2.2.1 k0_h1
theorem k0_mult36_dvd : ∀ (i : grid0.Coords) (v1055 : BitVec 32) (k0_hw20 : k0_chk20 i v1055), ∀ (k0_h1 : k0_cond1 i = 1#1), 128 ∣ (k0_mult36 v1055).toNat := fun i v1055 k0_hw20 k0_h1 => k0_hw20.2.2.2.2.2 k0_h1

def k0_off48 (v1053 : BitVec 32) : Fin 1 → Nat :=
  let v1158 : Index := Scalar.indexCast v1053
  ![v1158.toNat]

def k0_chk19 (i : grid0.Coords) (v1053 : BitVec 32) : Prop :=
  (∀ (k0_h1 : k0_cond1 i = 1#1), ∀ a, (k0_off45 v1053) a + S1.size a ≤ S41.size a) ∧
  (∀ (k0_h1 : k0_cond1 i = 1#1), ∀ a, (k0_off48 v1053) a + S1.size a ≤ S41.size a)
theorem k0_off45_inb : ∀ (i : grid0.Coords) (v1053 : BitVec 32) (k0_hw19 : k0_chk19 i v1053), ∀ (k0_h1 : k0_cond1 i = 1#1), ∀ a, (k0_off45 v1053) a + S1.size a ≤ S41.size a := fun i v1053 k0_hw19 k0_h1 => k0_hw19.1 k0_h1
theorem k0_off48_inb : ∀ (i : grid0.Coords) (v1053 : BitVec 32) (k0_hw19 : k0_chk19 i v1053), ∀ (k0_h1 : k0_cond1 i = 1#1), ∀ a, (k0_off48 v1053) a + S1.size a ≤ S41.size a := fun i v1053 k0_hw19 k0_h1 => k0_hw19.2 k0_h1

def k0_off49 (v1165 : BitVec 32) : Fin 1 → Nat :=
  let v1166 : Index := Scalar.indexCast v1165
  ![v1166.toNat]

def k0_mult37 (v1167 : BitVec 32) : BitVec 32 :=
  let c2_i32_302 : BitVec 32 := 2#32
  let v1172 : BitVec 32 := Scalar.shrui v1167 c2_i32_302
  let c4_i32_308 : BitVec 32 := 4#32
  let v1180 : BitVec 32 := Scalar.muli v1172 c4_i32_308
  let c7_i32_310 : BitVec 32 := 7#32
  let v1192 : BitVec 32 := Scalar.shrui v1180 c7_i32_310
  let c128_i32_313 : BitVec 32 := 128#32
  let v1199 : BitVec 32 := Scalar.muli v1192 c128_i32_313
  v1199

def k0_off50 (v1167 : BitVec 32) : Fin 2 → Nat :=
  let c0_314 : Index := 0#32
  let c2_i32_302 : BitVec 32 := 2#32
  let v1172 : BitVec 32 := Scalar.shrui v1167 c2_i32_302
  let c4_i32_308 : BitVec 32 := 4#32
  let v1180 : BitVec 32 := Scalar.muli v1172 c4_i32_308
  let c7_i32_310 : BitVec 32 := 7#32
  let v1192 : BitVec 32 := Scalar.shrui v1180 c7_i32_310
  let c128_i32_313 : BitVec 32 := 128#32
  let v1199 : BitVec 32 := Scalar.muli v1192 c128_i32_313
  let v1200 : BitVec 32 := v1199
  let v1201 : Index := Scalar.indexCast v1200
  ![0, v1201.toNat]
def k0_mult38 (v1167 : BitVec 32) : BitVec 32 :=
  let c2_i32_302 : BitVec 32 := 2#32
  let v1172 : BitVec 32 := Scalar.shrui v1167 c2_i32_302
  let c4_i32_308 : BitVec 32 := 4#32
  let v1180 : BitVec 32 := Scalar.muli v1172 c4_i32_308
  let c7_i32_310 : BitVec 32 := 7#32
  let v1192 : BitVec 32 := Scalar.shrui v1180 c7_i32_310
  let c1_i32_315 : BitVec 32 := 1#32
  let v1204 : BitVec 32 := Scalar.addi v1192 c1_i32_315
  let c128_i32_316 : BitVec 32 := 128#32
  let v1205 : BitVec 32 := Scalar.muli v1204 c128_i32_316
  v1205
def k0_off51 (v1167 : BitVec 32) : Fin 2 → Nat :=
  let c0_317 : Index := 0#32
  let c2_i32_302 : BitVec 32 := 2#32
  let v1172 : BitVec 32 := Scalar.shrui v1167 c2_i32_302
  let c4_i32_308 : BitVec 32 := 4#32
  let v1180 : BitVec 32 := Scalar.muli v1172 c4_i32_308
  let c7_i32_310 : BitVec 32 := 7#32
  let v1192 : BitVec 32 := Scalar.shrui v1180 c7_i32_310
  let c1_i32_315 : BitVec 32 := 1#32
  let v1204 : BitVec 32 := Scalar.addi v1192 c1_i32_315
  let c128_i32_316 : BitVec 32 := 128#32
  let v1205 : BitVec 32 := Scalar.muli v1204 c128_i32_316
  let v1206 : BitVec 32 := v1205
  let v1207 : Index := Scalar.indexCast v1206
  ![0, v1207.toNat]
def k0_mult39 (v1167 : BitVec 32) : BitVec 32 :=
  let c2_i32_302 : BitVec 32 := 2#32
  let v1172 : BitVec 32 := Scalar.shrui v1167 c2_i32_302
  let c4_i32_308 : BitVec 32 := 4#32
  let v1180 : BitVec 32 := Scalar.muli v1172 c4_i32_308
  let c7_i32_310 : BitVec 32 := 7#32
  let v1192 : BitVec 32 := Scalar.shrui v1180 c7_i32_310
  let c128_i32_318 : BitVec 32 := 128#32
  let v1224 : BitVec 32 := Scalar.muli v1192 c128_i32_318
  v1224
def k0_mult40 (v1167 : BitVec 32) : BitVec 32 :=
  let c2_i32_302 : BitVec 32 := 2#32
  let v1172 : BitVec 32 := Scalar.shrui v1167 c2_i32_302
  let c4_i32_308 : BitVec 32 := 4#32
  let v1180 : BitVec 32 := Scalar.muli v1172 c4_i32_308
  let c7_i32_310 : BitVec 32 := 7#32
  let v1192 : BitVec 32 := Scalar.shrui v1180 c7_i32_310
  let c1_i32_320 : BitVec 32 := 1#32
  let v1229 : BitVec 32 := Scalar.addi v1192 c1_i32_320
  let c128_i32_321 : BitVec 32 := 128#32
  let v1230 : BitVec 32 := Scalar.muli v1229 c128_i32_321
  v1230

def k0_chk22 (i : grid0.Coords) (v1167 : BitVec 32) : Prop :=
  (∀ (k0_h1 : k0_cond1 i = 1#1), 128 ∣ (k0_mult37 v1167).toNat) ∧
  (∀ (k0_h1 : k0_cond1 i = 1#1), ∀ a, (k0_off50 v1167) a + S1x128.size a ≤ S1x3100.size a) ∧
  (∀ (k0_h1 : k0_cond1 i = 1#1), 128 ∣ (k0_mult38 v1167).toNat) ∧
  (∀ (k0_h1 : k0_cond1 i = 1#1), ∀ a, (k0_off51 v1167) a + S1x128.size a ≤ S1x3100.size a) ∧
  (∀ (k0_h1 : k0_cond1 i = 1#1), 128 ∣ (k0_mult39 v1167).toNat) ∧
  (∀ (k0_h1 : k0_cond1 i = 1#1), 128 ∣ (k0_mult40 v1167).toNat)
theorem k0_mult37_dvd : ∀ (i : grid0.Coords) (v1167 : BitVec 32) (k0_hw22 : k0_chk22 i v1167), ∀ (k0_h1 : k0_cond1 i = 1#1), 128 ∣ (k0_mult37 v1167).toNat := fun i v1167 k0_hw22 k0_h1 => k0_hw22.1 k0_h1
theorem k0_off50_inb : ∀ (i : grid0.Coords) (v1167 : BitVec 32) (k0_hw22 : k0_chk22 i v1167), ∀ (k0_h1 : k0_cond1 i = 1#1), ∀ a, (k0_off50 v1167) a + S1x128.size a ≤ S1x3100.size a := fun i v1167 k0_hw22 k0_h1 => k0_hw22.2.1 k0_h1
theorem k0_mult38_dvd : ∀ (i : grid0.Coords) (v1167 : BitVec 32) (k0_hw22 : k0_chk22 i v1167), ∀ (k0_h1 : k0_cond1 i = 1#1), 128 ∣ (k0_mult38 v1167).toNat := fun i v1167 k0_hw22 k0_h1 => k0_hw22.2.2.1 k0_h1
theorem k0_off51_inb : ∀ (i : grid0.Coords) (v1167 : BitVec 32) (k0_hw22 : k0_chk22 i v1167), ∀ (k0_h1 : k0_cond1 i = 1#1), ∀ a, (k0_off51 v1167) a + S1x128.size a ≤ S1x3100.size a := fun i v1167 k0_hw22 k0_h1 => k0_hw22.2.2.2.1 k0_h1
theorem k0_mult39_dvd : ∀ (i : grid0.Coords) (v1167 : BitVec 32) (k0_hw22 : k0_chk22 i v1167), ∀ (k0_h1 : k0_cond1 i = 1#1), 128 ∣ (k0_mult39 v1167).toNat := fun i v1167 k0_hw22 k0_h1 => k0_hw22.2.2.2.2.1 k0_h1
theorem k0_mult40_dvd : ∀ (i : grid0.Coords) (v1167 : BitVec 32) (k0_hw22 : k0_chk22 i v1167), ∀ (k0_h1 : k0_cond1 i = 1#1), 128 ∣ (k0_mult40 v1167).toNat := fun i v1167 k0_hw22 k0_h1 => k0_hw22.2.2.2.2.2 k0_h1

def k0_off52 (v1165 : BitVec 32) : Fin 1 → Nat :=
  let v1270 : Index := Scalar.indexCast v1165
  ![v1270.toNat]

def k0_chk21 (i : grid0.Coords) (v1165 : BitVec 32) : Prop :=
  (∀ (k0_h1 : k0_cond1 i = 1#1), ∀ a, (k0_off49 v1165) a + S1.size a ≤ S41.size a) ∧
  (∀ (k0_h1 : k0_cond1 i = 1#1), ∀ a, (k0_off52 v1165) a + S1.size a ≤ S41.size a)
theorem k0_off49_inb : ∀ (i : grid0.Coords) (v1165 : BitVec 32) (k0_hw21 : k0_chk21 i v1165), ∀ (k0_h1 : k0_cond1 i = 1#1), ∀ a, (k0_off49 v1165) a + S1.size a ≤ S41.size a := fun i v1165 k0_hw21 k0_h1 => k0_hw21.1 k0_h1
theorem k0_off52_inb : ∀ (i : grid0.Coords) (v1165 : BitVec 32) (k0_hw21 : k0_chk21 i v1165), ∀ (k0_h1 : k0_cond1 i = 1#1), ∀ a, (k0_off52 v1165) a + S1.size a ≤ S41.size a := fun i v1165 k0_hw21 k0_h1 => k0_hw21.2 k0_h1

def k0_off53 (v1277 : BitVec 32) : Fin 1 → Nat :=
  let v1278 : Index := Scalar.indexCast v1277
  ![v1278.toNat]

def k0_mult41 (v1279 : BitVec 32) : BitVec 32 :=
  let c2_i32_328 : BitVec 32 := 2#32
  let v1284 : BitVec 32 := Scalar.shrui v1279 c2_i32_328
  let c4_i32_334 : BitVec 32 := 4#32
  let v1292 : BitVec 32 := Scalar.muli v1284 c4_i32_334
  let c7_i32_336 : BitVec 32 := 7#32
  let v1304 : BitVec 32 := Scalar.shrui v1292 c7_i32_336
  let c128_i32_339 : BitVec 32 := 128#32
  let v1311 : BitVec 32 := Scalar.muli v1304 c128_i32_339
  v1311

def k0_off54 (v1279 : BitVec 32) : Fin 2 → Nat :=
  let c0_340 : Index := 0#32
  let c2_i32_328 : BitVec 32 := 2#32
  let v1284 : BitVec 32 := Scalar.shrui v1279 c2_i32_328
  let c4_i32_334 : BitVec 32 := 4#32
  let v1292 : BitVec 32 := Scalar.muli v1284 c4_i32_334
  let c7_i32_336 : BitVec 32 := 7#32
  let v1304 : BitVec 32 := Scalar.shrui v1292 c7_i32_336
  let c128_i32_339 : BitVec 32 := 128#32
  let v1311 : BitVec 32 := Scalar.muli v1304 c128_i32_339
  let v1312 : BitVec 32 := v1311
  let v1313 : Index := Scalar.indexCast v1312
  ![0, v1313.toNat]
def k0_mult42 (v1279 : BitVec 32) : BitVec 32 :=
  let c2_i32_328 : BitVec 32 := 2#32
  let v1284 : BitVec 32 := Scalar.shrui v1279 c2_i32_328
  let c4_i32_334 : BitVec 32 := 4#32
  let v1292 : BitVec 32 := Scalar.muli v1284 c4_i32_334
  let c7_i32_336 : BitVec 32 := 7#32
  let v1304 : BitVec 32 := Scalar.shrui v1292 c7_i32_336
  let c1_i32_341 : BitVec 32 := 1#32
  let v1316 : BitVec 32 := Scalar.addi v1304 c1_i32_341
  let c128_i32_342 : BitVec 32 := 128#32
  let v1317 : BitVec 32 := Scalar.muli v1316 c128_i32_342
  v1317
def k0_off55 (v1279 : BitVec 32) : Fin 2 → Nat :=
  let c0_343 : Index := 0#32
  let c2_i32_328 : BitVec 32 := 2#32
  let v1284 : BitVec 32 := Scalar.shrui v1279 c2_i32_328
  let c4_i32_334 : BitVec 32 := 4#32
  let v1292 : BitVec 32 := Scalar.muli v1284 c4_i32_334
  let c7_i32_336 : BitVec 32 := 7#32
  let v1304 : BitVec 32 := Scalar.shrui v1292 c7_i32_336
  let c1_i32_341 : BitVec 32 := 1#32
  let v1316 : BitVec 32 := Scalar.addi v1304 c1_i32_341
  let c128_i32_342 : BitVec 32 := 128#32
  let v1317 : BitVec 32 := Scalar.muli v1316 c128_i32_342
  let v1318 : BitVec 32 := v1317
  let v1319 : Index := Scalar.indexCast v1318
  ![0, v1319.toNat]
def k0_mult43 (v1279 : BitVec 32) : BitVec 32 :=
  let c2_i32_328 : BitVec 32 := 2#32
  let v1284 : BitVec 32 := Scalar.shrui v1279 c2_i32_328
  let c4_i32_334 : BitVec 32 := 4#32
  let v1292 : BitVec 32 := Scalar.muli v1284 c4_i32_334
  let c7_i32_336 : BitVec 32 := 7#32
  let v1304 : BitVec 32 := Scalar.shrui v1292 c7_i32_336
  let c128_i32_344 : BitVec 32 := 128#32
  let v1336 : BitVec 32 := Scalar.muli v1304 c128_i32_344
  v1336
def k0_mult44 (v1279 : BitVec 32) : BitVec 32 :=
  let c2_i32_328 : BitVec 32 := 2#32
  let v1284 : BitVec 32 := Scalar.shrui v1279 c2_i32_328
  let c4_i32_334 : BitVec 32 := 4#32
  let v1292 : BitVec 32 := Scalar.muli v1284 c4_i32_334
  let c7_i32_336 : BitVec 32 := 7#32
  let v1304 : BitVec 32 := Scalar.shrui v1292 c7_i32_336
  let c1_i32_346 : BitVec 32 := 1#32
  let v1341 : BitVec 32 := Scalar.addi v1304 c1_i32_346
  let c128_i32_347 : BitVec 32 := 128#32
  let v1342 : BitVec 32 := Scalar.muli v1341 c128_i32_347
  v1342

def k0_chk24 (i : grid0.Coords) (v1279 : BitVec 32) : Prop :=
  (∀ (k0_h1 : k0_cond1 i = 1#1), 128 ∣ (k0_mult41 v1279).toNat) ∧
  (∀ (k0_h1 : k0_cond1 i = 1#1), ∀ a, (k0_off54 v1279) a + S1x128.size a ≤ S1x3100.size a) ∧
  (∀ (k0_h1 : k0_cond1 i = 1#1), 128 ∣ (k0_mult42 v1279).toNat) ∧
  (∀ (k0_h1 : k0_cond1 i = 1#1), ∀ a, (k0_off55 v1279) a + S1x128.size a ≤ S1x3100.size a) ∧
  (∀ (k0_h1 : k0_cond1 i = 1#1), 128 ∣ (k0_mult43 v1279).toNat) ∧
  (∀ (k0_h1 : k0_cond1 i = 1#1), 128 ∣ (k0_mult44 v1279).toNat)
theorem k0_mult41_dvd : ∀ (i : grid0.Coords) (v1279 : BitVec 32) (k0_hw24 : k0_chk24 i v1279), ∀ (k0_h1 : k0_cond1 i = 1#1), 128 ∣ (k0_mult41 v1279).toNat := fun i v1279 k0_hw24 k0_h1 => k0_hw24.1 k0_h1
theorem k0_off54_inb : ∀ (i : grid0.Coords) (v1279 : BitVec 32) (k0_hw24 : k0_chk24 i v1279), ∀ (k0_h1 : k0_cond1 i = 1#1), ∀ a, (k0_off54 v1279) a + S1x128.size a ≤ S1x3100.size a := fun i v1279 k0_hw24 k0_h1 => k0_hw24.2.1 k0_h1
theorem k0_mult42_dvd : ∀ (i : grid0.Coords) (v1279 : BitVec 32) (k0_hw24 : k0_chk24 i v1279), ∀ (k0_h1 : k0_cond1 i = 1#1), 128 ∣ (k0_mult42 v1279).toNat := fun i v1279 k0_hw24 k0_h1 => k0_hw24.2.2.1 k0_h1
theorem k0_off55_inb : ∀ (i : grid0.Coords) (v1279 : BitVec 32) (k0_hw24 : k0_chk24 i v1279), ∀ (k0_h1 : k0_cond1 i = 1#1), ∀ a, (k0_off55 v1279) a + S1x128.size a ≤ S1x3100.size a := fun i v1279 k0_hw24 k0_h1 => k0_hw24.2.2.2.1 k0_h1
theorem k0_mult43_dvd : ∀ (i : grid0.Coords) (v1279 : BitVec 32) (k0_hw24 : k0_chk24 i v1279), ∀ (k0_h1 : k0_cond1 i = 1#1), 128 ∣ (k0_mult43 v1279).toNat := fun i v1279 k0_hw24 k0_h1 => k0_hw24.2.2.2.2.1 k0_h1
theorem k0_mult44_dvd : ∀ (i : grid0.Coords) (v1279 : BitVec 32) (k0_hw24 : k0_chk24 i v1279), ∀ (k0_h1 : k0_cond1 i = 1#1), 128 ∣ (k0_mult44 v1279).toNat := fun i v1279 k0_hw24 k0_h1 => k0_hw24.2.2.2.2.2 k0_h1

def k0_off56 (v1277 : BitVec 32) : Fin 1 → Nat :=
  let v1382 : Index := Scalar.indexCast v1277
  ![v1382.toNat]

def k0_chk23 (i : grid0.Coords) (v1277 : BitVec 32) : Prop :=
  (∀ (k0_h1 : k0_cond1 i = 1#1), ∀ a, (k0_off53 v1277) a + S1.size a ≤ S41.size a) ∧
  (∀ (k0_h1 : k0_cond1 i = 1#1), ∀ a, (k0_off56 v1277) a + S1.size a ≤ S41.size a)
theorem k0_off53_inb : ∀ (i : grid0.Coords) (v1277 : BitVec 32) (k0_hw23 : k0_chk23 i v1277), ∀ (k0_h1 : k0_cond1 i = 1#1), ∀ a, (k0_off53 v1277) a + S1.size a ≤ S41.size a := fun i v1277 k0_hw23 k0_h1 => k0_hw23.1 k0_h1
theorem k0_off56_inb : ∀ (i : grid0.Coords) (v1277 : BitVec 32) (k0_hw23 : k0_chk23 i v1277), ∀ (k0_h1 : k0_cond1 i = 1#1), ∀ a, (k0_off56 v1277) a + S1.size a ≤ S41.size a := fun i v1277 k0_hw23 k0_h1 => k0_hw23.2 k0_h1

def k0_off57 (v1389 : BitVec 32) : Fin 1 → Nat :=
  let v1390 : Index := Scalar.indexCast v1389
  ![v1390.toNat]

def k0_mult45 (v1391 : BitVec 32) : BitVec 32 :=
  let c2_i32_354 : BitVec 32 := 2#32
  let v1396 : BitVec 32 := Scalar.shrui v1391 c2_i32_354
  let c4_i32_360 : BitVec 32 := 4#32
  let v1404 : BitVec 32 := Scalar.muli v1396 c4_i32_360
  let c7_i32_362 : BitVec 32 := 7#32
  let v1416 : BitVec 32 := Scalar.shrui v1404 c7_i32_362
  let c128_i32_365 : BitVec 32 := 128#32
  let v1423 : BitVec 32 := Scalar.muli v1416 c128_i32_365
  v1423

def k0_off58 (v1391 : BitVec 32) : Fin 2 → Nat :=
  let c0_366 : Index := 0#32
  let c2_i32_354 : BitVec 32 := 2#32
  let v1396 : BitVec 32 := Scalar.shrui v1391 c2_i32_354
  let c4_i32_360 : BitVec 32 := 4#32
  let v1404 : BitVec 32 := Scalar.muli v1396 c4_i32_360
  let c7_i32_362 : BitVec 32 := 7#32
  let v1416 : BitVec 32 := Scalar.shrui v1404 c7_i32_362
  let c128_i32_365 : BitVec 32 := 128#32
  let v1423 : BitVec 32 := Scalar.muli v1416 c128_i32_365
  let v1424 : BitVec 32 := v1423
  let v1425 : Index := Scalar.indexCast v1424
  ![0, v1425.toNat]
def k0_mult46 (v1391 : BitVec 32) : BitVec 32 :=
  let c2_i32_354 : BitVec 32 := 2#32
  let v1396 : BitVec 32 := Scalar.shrui v1391 c2_i32_354
  let c4_i32_360 : BitVec 32 := 4#32
  let v1404 : BitVec 32 := Scalar.muli v1396 c4_i32_360
  let c7_i32_362 : BitVec 32 := 7#32
  let v1416 : BitVec 32 := Scalar.shrui v1404 c7_i32_362
  let c1_i32_367 : BitVec 32 := 1#32
  let v1428 : BitVec 32 := Scalar.addi v1416 c1_i32_367
  let c128_i32_368 : BitVec 32 := 128#32
  let v1429 : BitVec 32 := Scalar.muli v1428 c128_i32_368
  v1429
def k0_off59 (v1391 : BitVec 32) : Fin 2 → Nat :=
  let c0_369 : Index := 0#32
  let c2_i32_354 : BitVec 32 := 2#32
  let v1396 : BitVec 32 := Scalar.shrui v1391 c2_i32_354
  let c4_i32_360 : BitVec 32 := 4#32
  let v1404 : BitVec 32 := Scalar.muli v1396 c4_i32_360
  let c7_i32_362 : BitVec 32 := 7#32
  let v1416 : BitVec 32 := Scalar.shrui v1404 c7_i32_362
  let c1_i32_367 : BitVec 32 := 1#32
  let v1428 : BitVec 32 := Scalar.addi v1416 c1_i32_367
  let c128_i32_368 : BitVec 32 := 128#32
  let v1429 : BitVec 32 := Scalar.muli v1428 c128_i32_368
  let v1430 : BitVec 32 := v1429
  let v1431 : Index := Scalar.indexCast v1430
  ![0, v1431.toNat]
def k0_mult47 (v1391 : BitVec 32) : BitVec 32 :=
  let c2_i32_354 : BitVec 32 := 2#32
  let v1396 : BitVec 32 := Scalar.shrui v1391 c2_i32_354
  let c4_i32_360 : BitVec 32 := 4#32
  let v1404 : BitVec 32 := Scalar.muli v1396 c4_i32_360
  let c7_i32_362 : BitVec 32 := 7#32
  let v1416 : BitVec 32 := Scalar.shrui v1404 c7_i32_362
  let c128_i32_370 : BitVec 32 := 128#32
  let v1448 : BitVec 32 := Scalar.muli v1416 c128_i32_370
  v1448
def k0_mult48 (v1391 : BitVec 32) : BitVec 32 :=
  let c2_i32_354 : BitVec 32 := 2#32
  let v1396 : BitVec 32 := Scalar.shrui v1391 c2_i32_354
  let c4_i32_360 : BitVec 32 := 4#32
  let v1404 : BitVec 32 := Scalar.muli v1396 c4_i32_360
  let c7_i32_362 : BitVec 32 := 7#32
  let v1416 : BitVec 32 := Scalar.shrui v1404 c7_i32_362
  let c1_i32_372 : BitVec 32 := 1#32
  let v1453 : BitVec 32 := Scalar.addi v1416 c1_i32_372
  let c128_i32_373 : BitVec 32 := 128#32
  let v1454 : BitVec 32 := Scalar.muli v1453 c128_i32_373
  v1454

def k0_chk26 (i : grid0.Coords) (v1391 : BitVec 32) : Prop :=
  (∀ (k0_h1 : k0_cond1 i = 1#1), 128 ∣ (k0_mult45 v1391).toNat) ∧
  (∀ (k0_h1 : k0_cond1 i = 1#1), ∀ a, (k0_off58 v1391) a + S1x128.size a ≤ S1x3100.size a) ∧
  (∀ (k0_h1 : k0_cond1 i = 1#1), 128 ∣ (k0_mult46 v1391).toNat) ∧
  (∀ (k0_h1 : k0_cond1 i = 1#1), ∀ a, (k0_off59 v1391) a + S1x128.size a ≤ S1x3100.size a) ∧
  (∀ (k0_h1 : k0_cond1 i = 1#1), 128 ∣ (k0_mult47 v1391).toNat) ∧
  (∀ (k0_h1 : k0_cond1 i = 1#1), 128 ∣ (k0_mult48 v1391).toNat)
theorem k0_mult45_dvd : ∀ (i : grid0.Coords) (v1391 : BitVec 32) (k0_hw26 : k0_chk26 i v1391), ∀ (k0_h1 : k0_cond1 i = 1#1), 128 ∣ (k0_mult45 v1391).toNat := fun i v1391 k0_hw26 k0_h1 => k0_hw26.1 k0_h1
theorem k0_off58_inb : ∀ (i : grid0.Coords) (v1391 : BitVec 32) (k0_hw26 : k0_chk26 i v1391), ∀ (k0_h1 : k0_cond1 i = 1#1), ∀ a, (k0_off58 v1391) a + S1x128.size a ≤ S1x3100.size a := fun i v1391 k0_hw26 k0_h1 => k0_hw26.2.1 k0_h1
theorem k0_mult46_dvd : ∀ (i : grid0.Coords) (v1391 : BitVec 32) (k0_hw26 : k0_chk26 i v1391), ∀ (k0_h1 : k0_cond1 i = 1#1), 128 ∣ (k0_mult46 v1391).toNat := fun i v1391 k0_hw26 k0_h1 => k0_hw26.2.2.1 k0_h1
theorem k0_off59_inb : ∀ (i : grid0.Coords) (v1391 : BitVec 32) (k0_hw26 : k0_chk26 i v1391), ∀ (k0_h1 : k0_cond1 i = 1#1), ∀ a, (k0_off59 v1391) a + S1x128.size a ≤ S1x3100.size a := fun i v1391 k0_hw26 k0_h1 => k0_hw26.2.2.2.1 k0_h1
theorem k0_mult47_dvd : ∀ (i : grid0.Coords) (v1391 : BitVec 32) (k0_hw26 : k0_chk26 i v1391), ∀ (k0_h1 : k0_cond1 i = 1#1), 128 ∣ (k0_mult47 v1391).toNat := fun i v1391 k0_hw26 k0_h1 => k0_hw26.2.2.2.2.1 k0_h1
theorem k0_mult48_dvd : ∀ (i : grid0.Coords) (v1391 : BitVec 32) (k0_hw26 : k0_chk26 i v1391), ∀ (k0_h1 : k0_cond1 i = 1#1), 128 ∣ (k0_mult48 v1391).toNat := fun i v1391 k0_hw26 k0_h1 => k0_hw26.2.2.2.2.2 k0_h1

def k0_off60 (v1389 : BitVec 32) : Fin 1 → Nat :=
  let v1494 : Index := Scalar.indexCast v1389
  ![v1494.toNat]

def k0_chk25 (i : grid0.Coords) (v1389 : BitVec 32) : Prop :=
  (∀ (k0_h1 : k0_cond1 i = 1#1), ∀ a, (k0_off57 v1389) a + S1.size a ≤ S41.size a) ∧
  (∀ (k0_h1 : k0_cond1 i = 1#1), ∀ a, (k0_off60 v1389) a + S1.size a ≤ S41.size a)
theorem k0_off57_inb : ∀ (i : grid0.Coords) (v1389 : BitVec 32) (k0_hw25 : k0_chk25 i v1389), ∀ (k0_h1 : k0_cond1 i = 1#1), ∀ a, (k0_off57 v1389) a + S1.size a ≤ S41.size a := fun i v1389 k0_hw25 k0_h1 => k0_hw25.1 k0_h1
theorem k0_off60_inb : ∀ (i : grid0.Coords) (v1389 : BitVec 32) (k0_hw25 : k0_chk25 i v1389), ∀ (k0_h1 : k0_cond1 i = 1#1), ∀ a, (k0_off60 v1389) a + S1.size a ≤ S41.size a := fun i v1389 k0_hw25 k0_h1 => k0_hw25.2 k0_h1

def k0_off61 (v1501 : BitVec 32) : Fin 1 → Nat :=
  let v1502 : Index := Scalar.indexCast v1501
  ![v1502.toNat]

def k0_mult49 (v1503 : BitVec 32) : BitVec 32 :=
  let c2_i32_380 : BitVec 32 := 2#32
  let v1508 : BitVec 32 := Scalar.shrui v1503 c2_i32_380
  let c4_i32_386 : BitVec 32 := 4#32
  let v1516 : BitVec 32 := Scalar.muli v1508 c4_i32_386
  let c7_i32_388 : BitVec 32 := 7#32
  let v1528 : BitVec 32 := Scalar.shrui v1516 c7_i32_388
  let c128_i32_391 : BitVec 32 := 128#32
  let v1535 : BitVec 32 := Scalar.muli v1528 c128_i32_391
  v1535

def k0_off62 (v1503 : BitVec 32) : Fin 2 → Nat :=
  let c0_392 : Index := 0#32
  let c2_i32_380 : BitVec 32 := 2#32
  let v1508 : BitVec 32 := Scalar.shrui v1503 c2_i32_380
  let c4_i32_386 : BitVec 32 := 4#32
  let v1516 : BitVec 32 := Scalar.muli v1508 c4_i32_386
  let c7_i32_388 : BitVec 32 := 7#32
  let v1528 : BitVec 32 := Scalar.shrui v1516 c7_i32_388
  let c128_i32_391 : BitVec 32 := 128#32
  let v1535 : BitVec 32 := Scalar.muli v1528 c128_i32_391
  let v1536 : BitVec 32 := v1535
  let v1537 : Index := Scalar.indexCast v1536
  ![0, v1537.toNat]
def k0_mult50 (v1503 : BitVec 32) : BitVec 32 :=
  let c2_i32_380 : BitVec 32 := 2#32
  let v1508 : BitVec 32 := Scalar.shrui v1503 c2_i32_380
  let c4_i32_386 : BitVec 32 := 4#32
  let v1516 : BitVec 32 := Scalar.muli v1508 c4_i32_386
  let c7_i32_388 : BitVec 32 := 7#32
  let v1528 : BitVec 32 := Scalar.shrui v1516 c7_i32_388
  let c1_i32_393 : BitVec 32 := 1#32
  let v1540 : BitVec 32 := Scalar.addi v1528 c1_i32_393
  let c128_i32_394 : BitVec 32 := 128#32
  let v1541 : BitVec 32 := Scalar.muli v1540 c128_i32_394
  v1541
def k0_off63 (v1503 : BitVec 32) : Fin 2 → Nat :=
  let c0_395 : Index := 0#32
  let c2_i32_380 : BitVec 32 := 2#32
  let v1508 : BitVec 32 := Scalar.shrui v1503 c2_i32_380
  let c4_i32_386 : BitVec 32 := 4#32
  let v1516 : BitVec 32 := Scalar.muli v1508 c4_i32_386
  let c7_i32_388 : BitVec 32 := 7#32
  let v1528 : BitVec 32 := Scalar.shrui v1516 c7_i32_388
  let c1_i32_393 : BitVec 32 := 1#32
  let v1540 : BitVec 32 := Scalar.addi v1528 c1_i32_393
  let c128_i32_394 : BitVec 32 := 128#32
  let v1541 : BitVec 32 := Scalar.muli v1540 c128_i32_394
  let v1542 : BitVec 32 := v1541
  let v1543 : Index := Scalar.indexCast v1542
  ![0, v1543.toNat]
def k0_mult51 (v1503 : BitVec 32) : BitVec 32 :=
  let c2_i32_380 : BitVec 32 := 2#32
  let v1508 : BitVec 32 := Scalar.shrui v1503 c2_i32_380
  let c4_i32_386 : BitVec 32 := 4#32
  let v1516 : BitVec 32 := Scalar.muli v1508 c4_i32_386
  let c7_i32_388 : BitVec 32 := 7#32
  let v1528 : BitVec 32 := Scalar.shrui v1516 c7_i32_388
  let c128_i32_396 : BitVec 32 := 128#32
  let v1560 : BitVec 32 := Scalar.muli v1528 c128_i32_396
  v1560
def k0_mult52 (v1503 : BitVec 32) : BitVec 32 :=
  let c2_i32_380 : BitVec 32 := 2#32
  let v1508 : BitVec 32 := Scalar.shrui v1503 c2_i32_380
  let c4_i32_386 : BitVec 32 := 4#32
  let v1516 : BitVec 32 := Scalar.muli v1508 c4_i32_386
  let c7_i32_388 : BitVec 32 := 7#32
  let v1528 : BitVec 32 := Scalar.shrui v1516 c7_i32_388
  let c1_i32_398 : BitVec 32 := 1#32
  let v1565 : BitVec 32 := Scalar.addi v1528 c1_i32_398
  let c128_i32_399 : BitVec 32 := 128#32
  let v1566 : BitVec 32 := Scalar.muli v1565 c128_i32_399
  v1566

def k0_chk28 (i : grid0.Coords) (v1503 : BitVec 32) : Prop :=
  (∀ (k0_h1 : k0_cond1 i = 1#1), 128 ∣ (k0_mult49 v1503).toNat) ∧
  (∀ (k0_h1 : k0_cond1 i = 1#1), ∀ a, (k0_off62 v1503) a + S1x128.size a ≤ S1x3100.size a) ∧
  (∀ (k0_h1 : k0_cond1 i = 1#1), 128 ∣ (k0_mult50 v1503).toNat) ∧
  (∀ (k0_h1 : k0_cond1 i = 1#1), ∀ a, (k0_off63 v1503) a + S1x128.size a ≤ S1x3100.size a) ∧
  (∀ (k0_h1 : k0_cond1 i = 1#1), 128 ∣ (k0_mult51 v1503).toNat) ∧
  (∀ (k0_h1 : k0_cond1 i = 1#1), 128 ∣ (k0_mult52 v1503).toNat)
theorem k0_mult49_dvd : ∀ (i : grid0.Coords) (v1503 : BitVec 32) (k0_hw28 : k0_chk28 i v1503), ∀ (k0_h1 : k0_cond1 i = 1#1), 128 ∣ (k0_mult49 v1503).toNat := fun i v1503 k0_hw28 k0_h1 => k0_hw28.1 k0_h1
theorem k0_off62_inb : ∀ (i : grid0.Coords) (v1503 : BitVec 32) (k0_hw28 : k0_chk28 i v1503), ∀ (k0_h1 : k0_cond1 i = 1#1), ∀ a, (k0_off62 v1503) a + S1x128.size a ≤ S1x3100.size a := fun i v1503 k0_hw28 k0_h1 => k0_hw28.2.1 k0_h1
theorem k0_mult50_dvd : ∀ (i : grid0.Coords) (v1503 : BitVec 32) (k0_hw28 : k0_chk28 i v1503), ∀ (k0_h1 : k0_cond1 i = 1#1), 128 ∣ (k0_mult50 v1503).toNat := fun i v1503 k0_hw28 k0_h1 => k0_hw28.2.2.1 k0_h1
theorem k0_off63_inb : ∀ (i : grid0.Coords) (v1503 : BitVec 32) (k0_hw28 : k0_chk28 i v1503), ∀ (k0_h1 : k0_cond1 i = 1#1), ∀ a, (k0_off63 v1503) a + S1x128.size a ≤ S1x3100.size a := fun i v1503 k0_hw28 k0_h1 => k0_hw28.2.2.2.1 k0_h1
theorem k0_mult51_dvd : ∀ (i : grid0.Coords) (v1503 : BitVec 32) (k0_hw28 : k0_chk28 i v1503), ∀ (k0_h1 : k0_cond1 i = 1#1), 128 ∣ (k0_mult51 v1503).toNat := fun i v1503 k0_hw28 k0_h1 => k0_hw28.2.2.2.2.1 k0_h1
theorem k0_mult52_dvd : ∀ (i : grid0.Coords) (v1503 : BitVec 32) (k0_hw28 : k0_chk28 i v1503), ∀ (k0_h1 : k0_cond1 i = 1#1), 128 ∣ (k0_mult52 v1503).toNat := fun i v1503 k0_hw28 k0_h1 => k0_hw28.2.2.2.2.2 k0_h1

def k0_off64 (v1501 : BitVec 32) : Fin 1 → Nat :=
  let v1606 : Index := Scalar.indexCast v1501
  ![v1606.toNat]

def k0_chk27 (i : grid0.Coords) (v1501 : BitVec 32) : Prop :=
  (∀ (k0_h1 : k0_cond1 i = 1#1), ∀ a, (k0_off61 v1501) a + S1.size a ≤ S41.size a) ∧
  (∀ (k0_h1 : k0_cond1 i = 1#1), ∀ a, (k0_off64 v1501) a + S1.size a ≤ S41.size a)
theorem k0_off61_inb : ∀ (i : grid0.Coords) (v1501 : BitVec 32) (k0_hw27 : k0_chk27 i v1501), ∀ (k0_h1 : k0_cond1 i = 1#1), ∀ a, (k0_off61 v1501) a + S1.size a ≤ S41.size a := fun i v1501 k0_hw27 k0_h1 => k0_hw27.1 k0_h1
theorem k0_off64_inb : ∀ (i : grid0.Coords) (v1501 : BitVec 32) (k0_hw27 : k0_chk27 i v1501), ∀ (k0_h1 : k0_cond1 i = 1#1), ∀ a, (k0_off64 v1501) a + S1.size a ≤ S41.size a := fun i v1501 k0_hw27 k0_h1 => k0_hw27.2 k0_h1

def k0_off65 (v1613 : BitVec 32) : Fin 1 → Nat :=
  let v1614 : Index := Scalar.indexCast v1613
  ![v1614.toNat]

def k0_mult53 (v1615 : BitVec 32) : BitVec 32 :=
  let c2_i32_406 : BitVec 32 := 2#32
  let v1620 : BitVec 32 := Scalar.shrui v1615 c2_i32_406
  let c4_i32_412 : BitVec 32 := 4#32
  let v1628 : BitVec 32 := Scalar.muli v1620 c4_i32_412
  let c7_i32_414 : BitVec 32 := 7#32
  let v1640 : BitVec 32 := Scalar.shrui v1628 c7_i32_414
  let c128_i32_417 : BitVec 32 := 128#32
  let v1647 : BitVec 32 := Scalar.muli v1640 c128_i32_417
  v1647

def k0_off66 (v1615 : BitVec 32) : Fin 2 → Nat :=
  let c0_418 : Index := 0#32
  let c2_i32_406 : BitVec 32 := 2#32
  let v1620 : BitVec 32 := Scalar.shrui v1615 c2_i32_406
  let c4_i32_412 : BitVec 32 := 4#32
  let v1628 : BitVec 32 := Scalar.muli v1620 c4_i32_412
  let c7_i32_414 : BitVec 32 := 7#32
  let v1640 : BitVec 32 := Scalar.shrui v1628 c7_i32_414
  let c128_i32_417 : BitVec 32 := 128#32
  let v1647 : BitVec 32 := Scalar.muli v1640 c128_i32_417
  let v1648 : BitVec 32 := v1647
  let v1649 : Index := Scalar.indexCast v1648
  ![0, v1649.toNat]
def k0_mult54 (v1615 : BitVec 32) : BitVec 32 :=
  let c2_i32_406 : BitVec 32 := 2#32
  let v1620 : BitVec 32 := Scalar.shrui v1615 c2_i32_406
  let c4_i32_412 : BitVec 32 := 4#32
  let v1628 : BitVec 32 := Scalar.muli v1620 c4_i32_412
  let c7_i32_414 : BitVec 32 := 7#32
  let v1640 : BitVec 32 := Scalar.shrui v1628 c7_i32_414
  let c1_i32_419 : BitVec 32 := 1#32
  let v1652 : BitVec 32 := Scalar.addi v1640 c1_i32_419
  let c128_i32_420 : BitVec 32 := 128#32
  let v1653 : BitVec 32 := Scalar.muli v1652 c128_i32_420
  v1653
def k0_off67 (v1615 : BitVec 32) : Fin 2 → Nat :=
  let c0_421 : Index := 0#32
  let c2_i32_406 : BitVec 32 := 2#32
  let v1620 : BitVec 32 := Scalar.shrui v1615 c2_i32_406
  let c4_i32_412 : BitVec 32 := 4#32
  let v1628 : BitVec 32 := Scalar.muli v1620 c4_i32_412
  let c7_i32_414 : BitVec 32 := 7#32
  let v1640 : BitVec 32 := Scalar.shrui v1628 c7_i32_414
  let c1_i32_419 : BitVec 32 := 1#32
  let v1652 : BitVec 32 := Scalar.addi v1640 c1_i32_419
  let c128_i32_420 : BitVec 32 := 128#32
  let v1653 : BitVec 32 := Scalar.muli v1652 c128_i32_420
  let v1654 : BitVec 32 := v1653
  let v1655 : Index := Scalar.indexCast v1654
  ![0, v1655.toNat]
def k0_mult55 (v1615 : BitVec 32) : BitVec 32 :=
  let c2_i32_406 : BitVec 32 := 2#32
  let v1620 : BitVec 32 := Scalar.shrui v1615 c2_i32_406
  let c4_i32_412 : BitVec 32 := 4#32
  let v1628 : BitVec 32 := Scalar.muli v1620 c4_i32_412
  let c7_i32_414 : BitVec 32 := 7#32
  let v1640 : BitVec 32 := Scalar.shrui v1628 c7_i32_414
  let c128_i32_422 : BitVec 32 := 128#32
  let v1672 : BitVec 32 := Scalar.muli v1640 c128_i32_422
  v1672
def k0_mult56 (v1615 : BitVec 32) : BitVec 32 :=
  let c2_i32_406 : BitVec 32 := 2#32
  let v1620 : BitVec 32 := Scalar.shrui v1615 c2_i32_406
  let c4_i32_412 : BitVec 32 := 4#32
  let v1628 : BitVec 32 := Scalar.muli v1620 c4_i32_412
  let c7_i32_414 : BitVec 32 := 7#32
  let v1640 : BitVec 32 := Scalar.shrui v1628 c7_i32_414
  let c1_i32_424 : BitVec 32 := 1#32
  let v1677 : BitVec 32 := Scalar.addi v1640 c1_i32_424
  let c128_i32_425 : BitVec 32 := 128#32
  let v1678 : BitVec 32 := Scalar.muli v1677 c128_i32_425
  v1678

def k0_chk30 (i : grid0.Coords) (v1615 : BitVec 32) : Prop :=
  (∀ (k0_h1 : k0_cond1 i = 1#1), 128 ∣ (k0_mult53 v1615).toNat) ∧
  (∀ (k0_h1 : k0_cond1 i = 1#1), ∀ a, (k0_off66 v1615) a + S1x128.size a ≤ S1x3100.size a) ∧
  (∀ (k0_h1 : k0_cond1 i = 1#1), 128 ∣ (k0_mult54 v1615).toNat) ∧
  (∀ (k0_h1 : k0_cond1 i = 1#1), ∀ a, (k0_off67 v1615) a + S1x128.size a ≤ S1x3100.size a) ∧
  (∀ (k0_h1 : k0_cond1 i = 1#1), 128 ∣ (k0_mult55 v1615).toNat) ∧
  (∀ (k0_h1 : k0_cond1 i = 1#1), 128 ∣ (k0_mult56 v1615).toNat)
theorem k0_mult53_dvd : ∀ (i : grid0.Coords) (v1615 : BitVec 32) (k0_hw30 : k0_chk30 i v1615), ∀ (k0_h1 : k0_cond1 i = 1#1), 128 ∣ (k0_mult53 v1615).toNat := fun i v1615 k0_hw30 k0_h1 => k0_hw30.1 k0_h1
theorem k0_off66_inb : ∀ (i : grid0.Coords) (v1615 : BitVec 32) (k0_hw30 : k0_chk30 i v1615), ∀ (k0_h1 : k0_cond1 i = 1#1), ∀ a, (k0_off66 v1615) a + S1x128.size a ≤ S1x3100.size a := fun i v1615 k0_hw30 k0_h1 => k0_hw30.2.1 k0_h1
theorem k0_mult54_dvd : ∀ (i : grid0.Coords) (v1615 : BitVec 32) (k0_hw30 : k0_chk30 i v1615), ∀ (k0_h1 : k0_cond1 i = 1#1), 128 ∣ (k0_mult54 v1615).toNat := fun i v1615 k0_hw30 k0_h1 => k0_hw30.2.2.1 k0_h1
theorem k0_off67_inb : ∀ (i : grid0.Coords) (v1615 : BitVec 32) (k0_hw30 : k0_chk30 i v1615), ∀ (k0_h1 : k0_cond1 i = 1#1), ∀ a, (k0_off67 v1615) a + S1x128.size a ≤ S1x3100.size a := fun i v1615 k0_hw30 k0_h1 => k0_hw30.2.2.2.1 k0_h1
theorem k0_mult55_dvd : ∀ (i : grid0.Coords) (v1615 : BitVec 32) (k0_hw30 : k0_chk30 i v1615), ∀ (k0_h1 : k0_cond1 i = 1#1), 128 ∣ (k0_mult55 v1615).toNat := fun i v1615 k0_hw30 k0_h1 => k0_hw30.2.2.2.2.1 k0_h1
theorem k0_mult56_dvd : ∀ (i : grid0.Coords) (v1615 : BitVec 32) (k0_hw30 : k0_chk30 i v1615), ∀ (k0_h1 : k0_cond1 i = 1#1), 128 ∣ (k0_mult56 v1615).toNat := fun i v1615 k0_hw30 k0_h1 => k0_hw30.2.2.2.2.2 k0_h1

def k0_off68 (v1613 : BitVec 32) : Fin 1 → Nat :=
  let v1718 : Index := Scalar.indexCast v1613
  ![v1718.toNat]

def k0_chk29 (i : grid0.Coords) (v1613 : BitVec 32) : Prop :=
  (∀ (k0_h1 : k0_cond1 i = 1#1), ∀ a, (k0_off65 v1613) a + S1.size a ≤ S41.size a) ∧
  (∀ (k0_h1 : k0_cond1 i = 1#1), ∀ a, (k0_off68 v1613) a + S1.size a ≤ S41.size a)
theorem k0_off65_inb : ∀ (i : grid0.Coords) (v1613 : BitVec 32) (k0_hw29 : k0_chk29 i v1613), ∀ (k0_h1 : k0_cond1 i = 1#1), ∀ a, (k0_off65 v1613) a + S1.size a ≤ S41.size a := fun i v1613 k0_hw29 k0_h1 => k0_hw29.1 k0_h1
theorem k0_off68_inb : ∀ (i : grid0.Coords) (v1613 : BitVec 32) (k0_hw29 : k0_chk29 i v1613), ∀ (k0_h1 : k0_cond1 i = 1#1), ∀ a, (k0_off68 v1613) a + S1.size a ≤ S41.size a := fun i v1613 k0_hw29 k0_h1 => k0_hw29.2 k0_h1

def k0_off69 (v1725 : BitVec 32) : Fin 1 → Nat :=
  let v1726 : Index := Scalar.indexCast v1725
  ![v1726.toNat]

def k0_mult57 (v1727 : BitVec 32) : BitVec 32 :=
  let c2_i32_432 : BitVec 32 := 2#32
  let v1732 : BitVec 32 := Scalar.shrui v1727 c2_i32_432
  let c4_i32_438 : BitVec 32 := 4#32
  let v1740 : BitVec 32 := Scalar.muli v1732 c4_i32_438
  let c7_i32_440 : BitVec 32 := 7#32
  let v1752 : BitVec 32 := Scalar.shrui v1740 c7_i32_440
  let c128_i32_443 : BitVec 32 := 128#32
  let v1759 : BitVec 32 := Scalar.muli v1752 c128_i32_443
  v1759

def k0_off70 (v1727 : BitVec 32) : Fin 2 → Nat :=
  let c0_444 : Index := 0#32
  let c2_i32_432 : BitVec 32 := 2#32
  let v1732 : BitVec 32 := Scalar.shrui v1727 c2_i32_432
  let c4_i32_438 : BitVec 32 := 4#32
  let v1740 : BitVec 32 := Scalar.muli v1732 c4_i32_438
  let c7_i32_440 : BitVec 32 := 7#32
  let v1752 : BitVec 32 := Scalar.shrui v1740 c7_i32_440
  let c128_i32_443 : BitVec 32 := 128#32
  let v1759 : BitVec 32 := Scalar.muli v1752 c128_i32_443
  let v1760 : BitVec 32 := v1759
  let v1761 : Index := Scalar.indexCast v1760
  ![0, v1761.toNat]
def k0_mult58 (v1727 : BitVec 32) : BitVec 32 :=
  let c2_i32_432 : BitVec 32 := 2#32
  let v1732 : BitVec 32 := Scalar.shrui v1727 c2_i32_432
  let c4_i32_438 : BitVec 32 := 4#32
  let v1740 : BitVec 32 := Scalar.muli v1732 c4_i32_438
  let c7_i32_440 : BitVec 32 := 7#32
  let v1752 : BitVec 32 := Scalar.shrui v1740 c7_i32_440
  let c1_i32_445 : BitVec 32 := 1#32
  let v1764 : BitVec 32 := Scalar.addi v1752 c1_i32_445
  let c128_i32_446 : BitVec 32 := 128#32
  let v1765 : BitVec 32 := Scalar.muli v1764 c128_i32_446
  v1765
def k0_off71 (v1727 : BitVec 32) : Fin 2 → Nat :=
  let c0_447 : Index := 0#32
  let c2_i32_432 : BitVec 32 := 2#32
  let v1732 : BitVec 32 := Scalar.shrui v1727 c2_i32_432
  let c4_i32_438 : BitVec 32 := 4#32
  let v1740 : BitVec 32 := Scalar.muli v1732 c4_i32_438
  let c7_i32_440 : BitVec 32 := 7#32
  let v1752 : BitVec 32 := Scalar.shrui v1740 c7_i32_440
  let c1_i32_445 : BitVec 32 := 1#32
  let v1764 : BitVec 32 := Scalar.addi v1752 c1_i32_445
  let c128_i32_446 : BitVec 32 := 128#32
  let v1765 : BitVec 32 := Scalar.muli v1764 c128_i32_446
  let v1766 : BitVec 32 := v1765
  let v1767 : Index := Scalar.indexCast v1766
  ![0, v1767.toNat]
def k0_mult59 (v1727 : BitVec 32) : BitVec 32 :=
  let c2_i32_432 : BitVec 32 := 2#32
  let v1732 : BitVec 32 := Scalar.shrui v1727 c2_i32_432
  let c4_i32_438 : BitVec 32 := 4#32
  let v1740 : BitVec 32 := Scalar.muli v1732 c4_i32_438
  let c7_i32_440 : BitVec 32 := 7#32
  let v1752 : BitVec 32 := Scalar.shrui v1740 c7_i32_440
  let c128_i32_448 : BitVec 32 := 128#32
  let v1784 : BitVec 32 := Scalar.muli v1752 c128_i32_448
  v1784
def k0_mult60 (v1727 : BitVec 32) : BitVec 32 :=
  let c2_i32_432 : BitVec 32 := 2#32
  let v1732 : BitVec 32 := Scalar.shrui v1727 c2_i32_432
  let c4_i32_438 : BitVec 32 := 4#32
  let v1740 : BitVec 32 := Scalar.muli v1732 c4_i32_438
  let c7_i32_440 : BitVec 32 := 7#32
  let v1752 : BitVec 32 := Scalar.shrui v1740 c7_i32_440
  let c1_i32_450 : BitVec 32 := 1#32
  let v1789 : BitVec 32 := Scalar.addi v1752 c1_i32_450
  let c128_i32_451 : BitVec 32 := 128#32
  let v1790 : BitVec 32 := Scalar.muli v1789 c128_i32_451
  v1790

def k0_chk32 (i : grid0.Coords) (v1727 : BitVec 32) : Prop :=
  (∀ (k0_h1 : k0_cond1 i = 1#1), 128 ∣ (k0_mult57 v1727).toNat) ∧
  (∀ (k0_h1 : k0_cond1 i = 1#1), ∀ a, (k0_off70 v1727) a + S1x128.size a ≤ S1x3100.size a) ∧
  (∀ (k0_h1 : k0_cond1 i = 1#1), 128 ∣ (k0_mult58 v1727).toNat) ∧
  (∀ (k0_h1 : k0_cond1 i = 1#1), ∀ a, (k0_off71 v1727) a + S1x128.size a ≤ S1x3100.size a) ∧
  (∀ (k0_h1 : k0_cond1 i = 1#1), 128 ∣ (k0_mult59 v1727).toNat) ∧
  (∀ (k0_h1 : k0_cond1 i = 1#1), 128 ∣ (k0_mult60 v1727).toNat)
theorem k0_mult57_dvd : ∀ (i : grid0.Coords) (v1727 : BitVec 32) (k0_hw32 : k0_chk32 i v1727), ∀ (k0_h1 : k0_cond1 i = 1#1), 128 ∣ (k0_mult57 v1727).toNat := fun i v1727 k0_hw32 k0_h1 => k0_hw32.1 k0_h1
theorem k0_off70_inb : ∀ (i : grid0.Coords) (v1727 : BitVec 32) (k0_hw32 : k0_chk32 i v1727), ∀ (k0_h1 : k0_cond1 i = 1#1), ∀ a, (k0_off70 v1727) a + S1x128.size a ≤ S1x3100.size a := fun i v1727 k0_hw32 k0_h1 => k0_hw32.2.1 k0_h1
theorem k0_mult58_dvd : ∀ (i : grid0.Coords) (v1727 : BitVec 32) (k0_hw32 : k0_chk32 i v1727), ∀ (k0_h1 : k0_cond1 i = 1#1), 128 ∣ (k0_mult58 v1727).toNat := fun i v1727 k0_hw32 k0_h1 => k0_hw32.2.2.1 k0_h1
theorem k0_off71_inb : ∀ (i : grid0.Coords) (v1727 : BitVec 32) (k0_hw32 : k0_chk32 i v1727), ∀ (k0_h1 : k0_cond1 i = 1#1), ∀ a, (k0_off71 v1727) a + S1x128.size a ≤ S1x3100.size a := fun i v1727 k0_hw32 k0_h1 => k0_hw32.2.2.2.1 k0_h1
theorem k0_mult59_dvd : ∀ (i : grid0.Coords) (v1727 : BitVec 32) (k0_hw32 : k0_chk32 i v1727), ∀ (k0_h1 : k0_cond1 i = 1#1), 128 ∣ (k0_mult59 v1727).toNat := fun i v1727 k0_hw32 k0_h1 => k0_hw32.2.2.2.2.1 k0_h1
theorem k0_mult60_dvd : ∀ (i : grid0.Coords) (v1727 : BitVec 32) (k0_hw32 : k0_chk32 i v1727), ∀ (k0_h1 : k0_cond1 i = 1#1), 128 ∣ (k0_mult60 v1727).toNat := fun i v1727 k0_hw32 k0_h1 => k0_hw32.2.2.2.2.2 k0_h1

def k0_off72 (v1725 : BitVec 32) : Fin 1 → Nat :=
  let v1830 : Index := Scalar.indexCast v1725
  ![v1830.toNat]

def k0_chk31 (i : grid0.Coords) (v1725 : BitVec 32) : Prop :=
  (∀ (k0_h1 : k0_cond1 i = 1#1), ∀ a, (k0_off69 v1725) a + S1.size a ≤ S41.size a) ∧
  (∀ (k0_h1 : k0_cond1 i = 1#1), ∀ a, (k0_off72 v1725) a + S1.size a ≤ S41.size a)
theorem k0_off69_inb : ∀ (i : grid0.Coords) (v1725 : BitVec 32) (k0_hw31 : k0_chk31 i v1725), ∀ (k0_h1 : k0_cond1 i = 1#1), ∀ a, (k0_off69 v1725) a + S1.size a ≤ S41.size a := fun i v1725 k0_hw31 k0_h1 => k0_hw31.1 k0_h1
theorem k0_off72_inb : ∀ (i : grid0.Coords) (v1725 : BitVec 32) (k0_hw31 : k0_chk31 i v1725), ∀ (k0_h1 : k0_cond1 i = 1#1), ∀ a, (k0_off72 v1725) a + S1.size a ≤ S41.size a := fun i v1725 k0_hw31 k0_h1 => k0_hw31.2 k0_h1

def k0_off73 (v1837 : BitVec 32) : Fin 1 → Nat :=
  let v1838 : Index := Scalar.indexCast v1837
  ![v1838.toNat]

def k0_mult61 (v1839 : BitVec 32) : BitVec 32 :=
  let c2_i32_458 : BitVec 32 := 2#32
  let v1844 : BitVec 32 := Scalar.shrui v1839 c2_i32_458
  let c4_i32_464 : BitVec 32 := 4#32
  let v1852 : BitVec 32 := Scalar.muli v1844 c4_i32_464
  let c7_i32_466 : BitVec 32 := 7#32
  let v1864 : BitVec 32 := Scalar.shrui v1852 c7_i32_466
  let c128_i32_469 : BitVec 32 := 128#32
  let v1871 : BitVec 32 := Scalar.muli v1864 c128_i32_469
  v1871

def k0_off74 (v1839 : BitVec 32) : Fin 2 → Nat :=
  let c0_470 : Index := 0#32
  let c2_i32_458 : BitVec 32 := 2#32
  let v1844 : BitVec 32 := Scalar.shrui v1839 c2_i32_458
  let c4_i32_464 : BitVec 32 := 4#32
  let v1852 : BitVec 32 := Scalar.muli v1844 c4_i32_464
  let c7_i32_466 : BitVec 32 := 7#32
  let v1864 : BitVec 32 := Scalar.shrui v1852 c7_i32_466
  let c128_i32_469 : BitVec 32 := 128#32
  let v1871 : BitVec 32 := Scalar.muli v1864 c128_i32_469
  let v1872 : BitVec 32 := v1871
  let v1873 : Index := Scalar.indexCast v1872
  ![0, v1873.toNat]
def k0_mult62 (v1839 : BitVec 32) : BitVec 32 :=
  let c2_i32_458 : BitVec 32 := 2#32
  let v1844 : BitVec 32 := Scalar.shrui v1839 c2_i32_458
  let c4_i32_464 : BitVec 32 := 4#32
  let v1852 : BitVec 32 := Scalar.muli v1844 c4_i32_464
  let c7_i32_466 : BitVec 32 := 7#32
  let v1864 : BitVec 32 := Scalar.shrui v1852 c7_i32_466
  let c1_i32_471 : BitVec 32 := 1#32
  let v1876 : BitVec 32 := Scalar.addi v1864 c1_i32_471
  let c128_i32_472 : BitVec 32 := 128#32
  let v1877 : BitVec 32 := Scalar.muli v1876 c128_i32_472
  v1877
def k0_off75 (v1839 : BitVec 32) : Fin 2 → Nat :=
  let c0_473 : Index := 0#32
  let c2_i32_458 : BitVec 32 := 2#32
  let v1844 : BitVec 32 := Scalar.shrui v1839 c2_i32_458
  let c4_i32_464 : BitVec 32 := 4#32
  let v1852 : BitVec 32 := Scalar.muli v1844 c4_i32_464
  let c7_i32_466 : BitVec 32 := 7#32
  let v1864 : BitVec 32 := Scalar.shrui v1852 c7_i32_466
  let c1_i32_471 : BitVec 32 := 1#32
  let v1876 : BitVec 32 := Scalar.addi v1864 c1_i32_471
  let c128_i32_472 : BitVec 32 := 128#32
  let v1877 : BitVec 32 := Scalar.muli v1876 c128_i32_472
  let v1878 : BitVec 32 := v1877
  let v1879 : Index := Scalar.indexCast v1878
  ![0, v1879.toNat]
def k0_mult63 (v1839 : BitVec 32) : BitVec 32 :=
  let c2_i32_458 : BitVec 32 := 2#32
  let v1844 : BitVec 32 := Scalar.shrui v1839 c2_i32_458
  let c4_i32_464 : BitVec 32 := 4#32
  let v1852 : BitVec 32 := Scalar.muli v1844 c4_i32_464
  let c7_i32_466 : BitVec 32 := 7#32
  let v1864 : BitVec 32 := Scalar.shrui v1852 c7_i32_466
  let c128_i32_474 : BitVec 32 := 128#32
  let v1896 : BitVec 32 := Scalar.muli v1864 c128_i32_474
  v1896
def k0_mult64 (v1839 : BitVec 32) : BitVec 32 :=
  let c2_i32_458 : BitVec 32 := 2#32
  let v1844 : BitVec 32 := Scalar.shrui v1839 c2_i32_458
  let c4_i32_464 : BitVec 32 := 4#32
  let v1852 : BitVec 32 := Scalar.muli v1844 c4_i32_464
  let c7_i32_466 : BitVec 32 := 7#32
  let v1864 : BitVec 32 := Scalar.shrui v1852 c7_i32_466
  let c1_i32_476 : BitVec 32 := 1#32
  let v1901 : BitVec 32 := Scalar.addi v1864 c1_i32_476
  let c128_i32_477 : BitVec 32 := 128#32
  let v1902 : BitVec 32 := Scalar.muli v1901 c128_i32_477
  v1902

def k0_chk34 (i : grid0.Coords) (v1839 : BitVec 32) : Prop :=
  (∀ (k0_h1 : k0_cond1 i = 1#1), 128 ∣ (k0_mult61 v1839).toNat) ∧
  (∀ (k0_h1 : k0_cond1 i = 1#1), ∀ a, (k0_off74 v1839) a + S1x128.size a ≤ S1x3100.size a) ∧
  (∀ (k0_h1 : k0_cond1 i = 1#1), 128 ∣ (k0_mult62 v1839).toNat) ∧
  (∀ (k0_h1 : k0_cond1 i = 1#1), ∀ a, (k0_off75 v1839) a + S1x128.size a ≤ S1x3100.size a) ∧
  (∀ (k0_h1 : k0_cond1 i = 1#1), 128 ∣ (k0_mult63 v1839).toNat) ∧
  (∀ (k0_h1 : k0_cond1 i = 1#1), 128 ∣ (k0_mult64 v1839).toNat)
theorem k0_mult61_dvd : ∀ (i : grid0.Coords) (v1839 : BitVec 32) (k0_hw34 : k0_chk34 i v1839), ∀ (k0_h1 : k0_cond1 i = 1#1), 128 ∣ (k0_mult61 v1839).toNat := fun i v1839 k0_hw34 k0_h1 => k0_hw34.1 k0_h1
theorem k0_off74_inb : ∀ (i : grid0.Coords) (v1839 : BitVec 32) (k0_hw34 : k0_chk34 i v1839), ∀ (k0_h1 : k0_cond1 i = 1#1), ∀ a, (k0_off74 v1839) a + S1x128.size a ≤ S1x3100.size a := fun i v1839 k0_hw34 k0_h1 => k0_hw34.2.1 k0_h1
theorem k0_mult62_dvd : ∀ (i : grid0.Coords) (v1839 : BitVec 32) (k0_hw34 : k0_chk34 i v1839), ∀ (k0_h1 : k0_cond1 i = 1#1), 128 ∣ (k0_mult62 v1839).toNat := fun i v1839 k0_hw34 k0_h1 => k0_hw34.2.2.1 k0_h1
theorem k0_off75_inb : ∀ (i : grid0.Coords) (v1839 : BitVec 32) (k0_hw34 : k0_chk34 i v1839), ∀ (k0_h1 : k0_cond1 i = 1#1), ∀ a, (k0_off75 v1839) a + S1x128.size a ≤ S1x3100.size a := fun i v1839 k0_hw34 k0_h1 => k0_hw34.2.2.2.1 k0_h1
theorem k0_mult63_dvd : ∀ (i : grid0.Coords) (v1839 : BitVec 32) (k0_hw34 : k0_chk34 i v1839), ∀ (k0_h1 : k0_cond1 i = 1#1), 128 ∣ (k0_mult63 v1839).toNat := fun i v1839 k0_hw34 k0_h1 => k0_hw34.2.2.2.2.1 k0_h1
theorem k0_mult64_dvd : ∀ (i : grid0.Coords) (v1839 : BitVec 32) (k0_hw34 : k0_chk34 i v1839), ∀ (k0_h1 : k0_cond1 i = 1#1), 128 ∣ (k0_mult64 v1839).toNat := fun i v1839 k0_hw34 k0_h1 => k0_hw34.2.2.2.2.2 k0_h1

def k0_off76 (v1837 : BitVec 32) : Fin 1 → Nat :=
  let v1942 : Index := Scalar.indexCast v1837
  ![v1942.toNat]

def k0_chk33 (i : grid0.Coords) (v1837 : BitVec 32) : Prop :=
  (∀ (k0_h1 : k0_cond1 i = 1#1), ∀ a, (k0_off73 v1837) a + S1.size a ≤ S41.size a) ∧
  (∀ (k0_h1 : k0_cond1 i = 1#1), ∀ a, (k0_off76 v1837) a + S1.size a ≤ S41.size a)
theorem k0_off73_inb : ∀ (i : grid0.Coords) (v1837 : BitVec 32) (k0_hw33 : k0_chk33 i v1837), ∀ (k0_h1 : k0_cond1 i = 1#1), ∀ a, (k0_off73 v1837) a + S1.size a ≤ S41.size a := fun i v1837 k0_hw33 k0_h1 => k0_hw33.1 k0_h1
theorem k0_off76_inb : ∀ (i : grid0.Coords) (v1837 : BitVec 32) (k0_hw33 : k0_chk33 i v1837), ∀ (k0_h1 : k0_cond1 i = 1#1), ∀ a, (k0_off76 v1837) a + S1.size a ≤ S41.size a := fun i v1837 k0_hw33 k0_h1 => k0_hw33.2 k0_h1

def k0_off77 (v1949 : BitVec 32) : Fin 1 → Nat :=
  let v1950 : Index := Scalar.indexCast v1949
  ![v1950.toNat]

def k0_mult65 (v1951 : BitVec 32) : BitVec 32 :=
  let c2_i32_484 : BitVec 32 := 2#32
  let v1956 : BitVec 32 := Scalar.shrui v1951 c2_i32_484
  let c4_i32_490 : BitVec 32 := 4#32
  let v1964 : BitVec 32 := Scalar.muli v1956 c4_i32_490
  let c7_i32_492 : BitVec 32 := 7#32
  let v1976 : BitVec 32 := Scalar.shrui v1964 c7_i32_492
  let c128_i32_495 : BitVec 32 := 128#32
  let v1983 : BitVec 32 := Scalar.muli v1976 c128_i32_495
  v1983

def k0_off78 (v1951 : BitVec 32) : Fin 2 → Nat :=
  let c0_496 : Index := 0#32
  let c2_i32_484 : BitVec 32 := 2#32
  let v1956 : BitVec 32 := Scalar.shrui v1951 c2_i32_484
  let c4_i32_490 : BitVec 32 := 4#32
  let v1964 : BitVec 32 := Scalar.muli v1956 c4_i32_490
  let c7_i32_492 : BitVec 32 := 7#32
  let v1976 : BitVec 32 := Scalar.shrui v1964 c7_i32_492
  let c128_i32_495 : BitVec 32 := 128#32
  let v1983 : BitVec 32 := Scalar.muli v1976 c128_i32_495
  let v1984 : BitVec 32 := v1983
  let v1985 : Index := Scalar.indexCast v1984
  ![0, v1985.toNat]
def k0_mult66 (v1951 : BitVec 32) : BitVec 32 :=
  let c2_i32_484 : BitVec 32 := 2#32
  let v1956 : BitVec 32 := Scalar.shrui v1951 c2_i32_484
  let c4_i32_490 : BitVec 32 := 4#32
  let v1964 : BitVec 32 := Scalar.muli v1956 c4_i32_490
  let c7_i32_492 : BitVec 32 := 7#32
  let v1976 : BitVec 32 := Scalar.shrui v1964 c7_i32_492
  let c1_i32_497 : BitVec 32 := 1#32
  let v1988 : BitVec 32 := Scalar.addi v1976 c1_i32_497
  let c128_i32_498 : BitVec 32 := 128#32
  let v1989 : BitVec 32 := Scalar.muli v1988 c128_i32_498
  v1989
def k0_off79 (v1951 : BitVec 32) : Fin 2 → Nat :=
  let c0_499 : Index := 0#32
  let c2_i32_484 : BitVec 32 := 2#32
  let v1956 : BitVec 32 := Scalar.shrui v1951 c2_i32_484
  let c4_i32_490 : BitVec 32 := 4#32
  let v1964 : BitVec 32 := Scalar.muli v1956 c4_i32_490
  let c7_i32_492 : BitVec 32 := 7#32
  let v1976 : BitVec 32 := Scalar.shrui v1964 c7_i32_492
  let c1_i32_497 : BitVec 32 := 1#32
  let v1988 : BitVec 32 := Scalar.addi v1976 c1_i32_497
  let c128_i32_498 : BitVec 32 := 128#32
  let v1989 : BitVec 32 := Scalar.muli v1988 c128_i32_498
  let v1990 : BitVec 32 := v1989
  let v1991 : Index := Scalar.indexCast v1990
  ![0, v1991.toNat]
def k0_mult67 (v1951 : BitVec 32) : BitVec 32 :=
  let c2_i32_484 : BitVec 32 := 2#32
  let v1956 : BitVec 32 := Scalar.shrui v1951 c2_i32_484
  let c4_i32_490 : BitVec 32 := 4#32
  let v1964 : BitVec 32 := Scalar.muli v1956 c4_i32_490
  let c7_i32_492 : BitVec 32 := 7#32
  let v1976 : BitVec 32 := Scalar.shrui v1964 c7_i32_492
  let c128_i32_500 : BitVec 32 := 128#32
  let v2008 : BitVec 32 := Scalar.muli v1976 c128_i32_500
  v2008
def k0_mult68 (v1951 : BitVec 32) : BitVec 32 :=
  let c2_i32_484 : BitVec 32 := 2#32
  let v1956 : BitVec 32 := Scalar.shrui v1951 c2_i32_484
  let c4_i32_490 : BitVec 32 := 4#32
  let v1964 : BitVec 32 := Scalar.muli v1956 c4_i32_490
  let c7_i32_492 : BitVec 32 := 7#32
  let v1976 : BitVec 32 := Scalar.shrui v1964 c7_i32_492
  let c1_i32_502 : BitVec 32 := 1#32
  let v2013 : BitVec 32 := Scalar.addi v1976 c1_i32_502
  let c128_i32_503 : BitVec 32 := 128#32
  let v2014 : BitVec 32 := Scalar.muli v2013 c128_i32_503
  v2014

def k0_chk36 (i : grid0.Coords) (v1951 : BitVec 32) : Prop :=
  (∀ (k0_h1 : k0_cond1 i = 1#1), 128 ∣ (k0_mult65 v1951).toNat) ∧
  (∀ (k0_h1 : k0_cond1 i = 1#1), ∀ a, (k0_off78 v1951) a + S1x128.size a ≤ S1x3100.size a) ∧
  (∀ (k0_h1 : k0_cond1 i = 1#1), 128 ∣ (k0_mult66 v1951).toNat) ∧
  (∀ (k0_h1 : k0_cond1 i = 1#1), ∀ a, (k0_off79 v1951) a + S1x128.size a ≤ S1x3100.size a) ∧
  (∀ (k0_h1 : k0_cond1 i = 1#1), 128 ∣ (k0_mult67 v1951).toNat) ∧
  (∀ (k0_h1 : k0_cond1 i = 1#1), 128 ∣ (k0_mult68 v1951).toNat)
theorem k0_mult65_dvd : ∀ (i : grid0.Coords) (v1951 : BitVec 32) (k0_hw36 : k0_chk36 i v1951), ∀ (k0_h1 : k0_cond1 i = 1#1), 128 ∣ (k0_mult65 v1951).toNat := fun i v1951 k0_hw36 k0_h1 => k0_hw36.1 k0_h1
theorem k0_off78_inb : ∀ (i : grid0.Coords) (v1951 : BitVec 32) (k0_hw36 : k0_chk36 i v1951), ∀ (k0_h1 : k0_cond1 i = 1#1), ∀ a, (k0_off78 v1951) a + S1x128.size a ≤ S1x3100.size a := fun i v1951 k0_hw36 k0_h1 => k0_hw36.2.1 k0_h1
theorem k0_mult66_dvd : ∀ (i : grid0.Coords) (v1951 : BitVec 32) (k0_hw36 : k0_chk36 i v1951), ∀ (k0_h1 : k0_cond1 i = 1#1), 128 ∣ (k0_mult66 v1951).toNat := fun i v1951 k0_hw36 k0_h1 => k0_hw36.2.2.1 k0_h1
theorem k0_off79_inb : ∀ (i : grid0.Coords) (v1951 : BitVec 32) (k0_hw36 : k0_chk36 i v1951), ∀ (k0_h1 : k0_cond1 i = 1#1), ∀ a, (k0_off79 v1951) a + S1x128.size a ≤ S1x3100.size a := fun i v1951 k0_hw36 k0_h1 => k0_hw36.2.2.2.1 k0_h1
theorem k0_mult67_dvd : ∀ (i : grid0.Coords) (v1951 : BitVec 32) (k0_hw36 : k0_chk36 i v1951), ∀ (k0_h1 : k0_cond1 i = 1#1), 128 ∣ (k0_mult67 v1951).toNat := fun i v1951 k0_hw36 k0_h1 => k0_hw36.2.2.2.2.1 k0_h1
theorem k0_mult68_dvd : ∀ (i : grid0.Coords) (v1951 : BitVec 32) (k0_hw36 : k0_chk36 i v1951), ∀ (k0_h1 : k0_cond1 i = 1#1), 128 ∣ (k0_mult68 v1951).toNat := fun i v1951 k0_hw36 k0_h1 => k0_hw36.2.2.2.2.2 k0_h1

def k0_off80 (v1949 : BitVec 32) : Fin 1 → Nat :=
  let v2054 : Index := Scalar.indexCast v1949
  ![v2054.toNat]

def k0_chk35 (i : grid0.Coords) (v1949 : BitVec 32) : Prop :=
  (∀ (k0_h1 : k0_cond1 i = 1#1), ∀ a, (k0_off77 v1949) a + S1.size a ≤ S41.size a) ∧
  (∀ (k0_h1 : k0_cond1 i = 1#1), ∀ a, (k0_off80 v1949) a + S1.size a ≤ S41.size a)
theorem k0_off77_inb : ∀ (i : grid0.Coords) (v1949 : BitVec 32) (k0_hw35 : k0_chk35 i v1949), ∀ (k0_h1 : k0_cond1 i = 1#1), ∀ a, (k0_off77 v1949) a + S1.size a ≤ S41.size a := fun i v1949 k0_hw35 k0_h1 => k0_hw35.1 k0_h1
theorem k0_off80_inb : ∀ (i : grid0.Coords) (v1949 : BitVec 32) (k0_hw35 : k0_chk35 i v1949), ∀ (k0_h1 : k0_cond1 i = 1#1), ∀ a, (k0_off80 v1949) a + S1.size a ≤ S41.size a := fun i v1949 k0_hw35 k0_h1 => k0_hw35.2 k0_h1

def k0_off81 (v2061 : BitVec 32) : Fin 1 → Nat :=
  let v2062 : Index := Scalar.indexCast v2061
  ![v2062.toNat]

def k0_mult69 (v2063 : BitVec 32) : BitVec 32 :=
  let c2_i32_510 : BitVec 32 := 2#32
  let v2068 : BitVec 32 := Scalar.shrui v2063 c2_i32_510
  let c4_i32_516 : BitVec 32 := 4#32
  let v2076 : BitVec 32 := Scalar.muli v2068 c4_i32_516
  let c7_i32_518 : BitVec 32 := 7#32
  let v2088 : BitVec 32 := Scalar.shrui v2076 c7_i32_518
  let c128_i32_521 : BitVec 32 := 128#32
  let v2095 : BitVec 32 := Scalar.muli v2088 c128_i32_521
  v2095

def k0_off82 (v2063 : BitVec 32) : Fin 2 → Nat :=
  let c0_522 : Index := 0#32
  let c2_i32_510 : BitVec 32 := 2#32
  let v2068 : BitVec 32 := Scalar.shrui v2063 c2_i32_510
  let c4_i32_516 : BitVec 32 := 4#32
  let v2076 : BitVec 32 := Scalar.muli v2068 c4_i32_516
  let c7_i32_518 : BitVec 32 := 7#32
  let v2088 : BitVec 32 := Scalar.shrui v2076 c7_i32_518
  let c128_i32_521 : BitVec 32 := 128#32
  let v2095 : BitVec 32 := Scalar.muli v2088 c128_i32_521
  let v2096 : BitVec 32 := v2095
  let v2097 : Index := Scalar.indexCast v2096
  ![0, v2097.toNat]
def k0_mult70 (v2063 : BitVec 32) : BitVec 32 :=
  let c2_i32_510 : BitVec 32 := 2#32
  let v2068 : BitVec 32 := Scalar.shrui v2063 c2_i32_510
  let c4_i32_516 : BitVec 32 := 4#32
  let v2076 : BitVec 32 := Scalar.muli v2068 c4_i32_516
  let c7_i32_518 : BitVec 32 := 7#32
  let v2088 : BitVec 32 := Scalar.shrui v2076 c7_i32_518
  let c1_i32_523 : BitVec 32 := 1#32
  let v2100 : BitVec 32 := Scalar.addi v2088 c1_i32_523
  let c128_i32_524 : BitVec 32 := 128#32
  let v2101 : BitVec 32 := Scalar.muli v2100 c128_i32_524
  v2101
def k0_off83 (v2063 : BitVec 32) : Fin 2 → Nat :=
  let c0_525 : Index := 0#32
  let c2_i32_510 : BitVec 32 := 2#32
  let v2068 : BitVec 32 := Scalar.shrui v2063 c2_i32_510
  let c4_i32_516 : BitVec 32 := 4#32
  let v2076 : BitVec 32 := Scalar.muli v2068 c4_i32_516
  let c7_i32_518 : BitVec 32 := 7#32
  let v2088 : BitVec 32 := Scalar.shrui v2076 c7_i32_518
  let c1_i32_523 : BitVec 32 := 1#32
  let v2100 : BitVec 32 := Scalar.addi v2088 c1_i32_523
  let c128_i32_524 : BitVec 32 := 128#32
  let v2101 : BitVec 32 := Scalar.muli v2100 c128_i32_524
  let v2102 : BitVec 32 := v2101
  let v2103 : Index := Scalar.indexCast v2102
  ![0, v2103.toNat]
def k0_mult71 (v2063 : BitVec 32) : BitVec 32 :=
  let c2_i32_510 : BitVec 32 := 2#32
  let v2068 : BitVec 32 := Scalar.shrui v2063 c2_i32_510
  let c4_i32_516 : BitVec 32 := 4#32
  let v2076 : BitVec 32 := Scalar.muli v2068 c4_i32_516
  let c7_i32_518 : BitVec 32 := 7#32
  let v2088 : BitVec 32 := Scalar.shrui v2076 c7_i32_518
  let c128_i32_526 : BitVec 32 := 128#32
  let v2120 : BitVec 32 := Scalar.muli v2088 c128_i32_526
  v2120
def k0_mult72 (v2063 : BitVec 32) : BitVec 32 :=
  let c2_i32_510 : BitVec 32 := 2#32
  let v2068 : BitVec 32 := Scalar.shrui v2063 c2_i32_510
  let c4_i32_516 : BitVec 32 := 4#32
  let v2076 : BitVec 32 := Scalar.muli v2068 c4_i32_516
  let c7_i32_518 : BitVec 32 := 7#32
  let v2088 : BitVec 32 := Scalar.shrui v2076 c7_i32_518
  let c1_i32_528 : BitVec 32 := 1#32
  let v2125 : BitVec 32 := Scalar.addi v2088 c1_i32_528
  let c128_i32_529 : BitVec 32 := 128#32
  let v2126 : BitVec 32 := Scalar.muli v2125 c128_i32_529
  v2126

def k0_chk38 (i : grid0.Coords) (v2063 : BitVec 32) : Prop :=
  (∀ (k0_h1 : k0_cond1 i = 1#1), 128 ∣ (k0_mult69 v2063).toNat) ∧
  (∀ (k0_h1 : k0_cond1 i = 1#1), ∀ a, (k0_off82 v2063) a + S1x128.size a ≤ S1x3100.size a) ∧
  (∀ (k0_h1 : k0_cond1 i = 1#1), 128 ∣ (k0_mult70 v2063).toNat) ∧
  (∀ (k0_h1 : k0_cond1 i = 1#1), ∀ a, (k0_off83 v2063) a + S1x128.size a ≤ S1x3100.size a) ∧
  (∀ (k0_h1 : k0_cond1 i = 1#1), 128 ∣ (k0_mult71 v2063).toNat) ∧
  (∀ (k0_h1 : k0_cond1 i = 1#1), 128 ∣ (k0_mult72 v2063).toNat)
theorem k0_mult69_dvd : ∀ (i : grid0.Coords) (v2063 : BitVec 32) (k0_hw38 : k0_chk38 i v2063), ∀ (k0_h1 : k0_cond1 i = 1#1), 128 ∣ (k0_mult69 v2063).toNat := fun i v2063 k0_hw38 k0_h1 => k0_hw38.1 k0_h1
theorem k0_off82_inb : ∀ (i : grid0.Coords) (v2063 : BitVec 32) (k0_hw38 : k0_chk38 i v2063), ∀ (k0_h1 : k0_cond1 i = 1#1), ∀ a, (k0_off82 v2063) a + S1x128.size a ≤ S1x3100.size a := fun i v2063 k0_hw38 k0_h1 => k0_hw38.2.1 k0_h1
theorem k0_mult70_dvd : ∀ (i : grid0.Coords) (v2063 : BitVec 32) (k0_hw38 : k0_chk38 i v2063), ∀ (k0_h1 : k0_cond1 i = 1#1), 128 ∣ (k0_mult70 v2063).toNat := fun i v2063 k0_hw38 k0_h1 => k0_hw38.2.2.1 k0_h1
theorem k0_off83_inb : ∀ (i : grid0.Coords) (v2063 : BitVec 32) (k0_hw38 : k0_chk38 i v2063), ∀ (k0_h1 : k0_cond1 i = 1#1), ∀ a, (k0_off83 v2063) a + S1x128.size a ≤ S1x3100.size a := fun i v2063 k0_hw38 k0_h1 => k0_hw38.2.2.2.1 k0_h1
theorem k0_mult71_dvd : ∀ (i : grid0.Coords) (v2063 : BitVec 32) (k0_hw38 : k0_chk38 i v2063), ∀ (k0_h1 : k0_cond1 i = 1#1), 128 ∣ (k0_mult71 v2063).toNat := fun i v2063 k0_hw38 k0_h1 => k0_hw38.2.2.2.2.1 k0_h1
theorem k0_mult72_dvd : ∀ (i : grid0.Coords) (v2063 : BitVec 32) (k0_hw38 : k0_chk38 i v2063), ∀ (k0_h1 : k0_cond1 i = 1#1), 128 ∣ (k0_mult72 v2063).toNat := fun i v2063 k0_hw38 k0_h1 => k0_hw38.2.2.2.2.2 k0_h1

def k0_off84 (v2061 : BitVec 32) : Fin 1 → Nat :=
  let v2166 : Index := Scalar.indexCast v2061
  ![v2166.toNat]

def k0_chk37 (i : grid0.Coords) (v2061 : BitVec 32) : Prop :=
  (∀ (k0_h1 : k0_cond1 i = 1#1), ∀ a, (k0_off81 v2061) a + S1.size a ≤ S41.size a) ∧
  (∀ (k0_h1 : k0_cond1 i = 1#1), ∀ a, (k0_off84 v2061) a + S1.size a ≤ S41.size a)
theorem k0_off81_inb : ∀ (i : grid0.Coords) (v2061 : BitVec 32) (k0_hw37 : k0_chk37 i v2061), ∀ (k0_h1 : k0_cond1 i = 1#1), ∀ a, (k0_off81 v2061) a + S1.size a ≤ S41.size a := fun i v2061 k0_hw37 k0_h1 => k0_hw37.1 k0_h1
theorem k0_off84_inb : ∀ (i : grid0.Coords) (v2061 : BitVec 32) (k0_hw37 : k0_chk37 i v2061), ∀ (k0_h1 : k0_cond1 i = 1#1), ∀ a, (k0_off84 v2061) a + S1.size a ≤ S41.size a := fun i v2061 k0_hw37 k0_h1 => k0_hw37.2 k0_h1

def k0_off85 (v2173 : BitVec 32) : Fin 1 → Nat :=
  let v2174 : Index := Scalar.indexCast v2173
  ![v2174.toNat]

def k0_mult73 (v2175 : BitVec 32) : BitVec 32 :=
  let c2_i32_536 : BitVec 32 := 2#32
  let v2180 : BitVec 32 := Scalar.shrui v2175 c2_i32_536
  let c4_i32_542 : BitVec 32 := 4#32
  let v2188 : BitVec 32 := Scalar.muli v2180 c4_i32_542
  let c7_i32_544 : BitVec 32 := 7#32
  let v2200 : BitVec 32 := Scalar.shrui v2188 c7_i32_544
  let c128_i32_547 : BitVec 32 := 128#32
  let v2207 : BitVec 32 := Scalar.muli v2200 c128_i32_547
  v2207

def k0_off86 (v2175 : BitVec 32) : Fin 2 → Nat :=
  let c0_548 : Index := 0#32
  let c2_i32_536 : BitVec 32 := 2#32
  let v2180 : BitVec 32 := Scalar.shrui v2175 c2_i32_536
  let c4_i32_542 : BitVec 32 := 4#32
  let v2188 : BitVec 32 := Scalar.muli v2180 c4_i32_542
  let c7_i32_544 : BitVec 32 := 7#32
  let v2200 : BitVec 32 := Scalar.shrui v2188 c7_i32_544
  let c128_i32_547 : BitVec 32 := 128#32
  let v2207 : BitVec 32 := Scalar.muli v2200 c128_i32_547
  let v2208 : BitVec 32 := v2207
  let v2209 : Index := Scalar.indexCast v2208
  ![0, v2209.toNat]
def k0_mult74 (v2175 : BitVec 32) : BitVec 32 :=
  let c2_i32_536 : BitVec 32 := 2#32
  let v2180 : BitVec 32 := Scalar.shrui v2175 c2_i32_536
  let c4_i32_542 : BitVec 32 := 4#32
  let v2188 : BitVec 32 := Scalar.muli v2180 c4_i32_542
  let c7_i32_544 : BitVec 32 := 7#32
  let v2200 : BitVec 32 := Scalar.shrui v2188 c7_i32_544
  let c1_i32_549 : BitVec 32 := 1#32
  let v2212 : BitVec 32 := Scalar.addi v2200 c1_i32_549
  let c128_i32_550 : BitVec 32 := 128#32
  let v2213 : BitVec 32 := Scalar.muli v2212 c128_i32_550
  v2213
def k0_off87 (v2175 : BitVec 32) : Fin 2 → Nat :=
  let c0_551 : Index := 0#32
  let c2_i32_536 : BitVec 32 := 2#32
  let v2180 : BitVec 32 := Scalar.shrui v2175 c2_i32_536
  let c4_i32_542 : BitVec 32 := 4#32
  let v2188 : BitVec 32 := Scalar.muli v2180 c4_i32_542
  let c7_i32_544 : BitVec 32 := 7#32
  let v2200 : BitVec 32 := Scalar.shrui v2188 c7_i32_544
  let c1_i32_549 : BitVec 32 := 1#32
  let v2212 : BitVec 32 := Scalar.addi v2200 c1_i32_549
  let c128_i32_550 : BitVec 32 := 128#32
  let v2213 : BitVec 32 := Scalar.muli v2212 c128_i32_550
  let v2214 : BitVec 32 := v2213
  let v2215 : Index := Scalar.indexCast v2214
  ![0, v2215.toNat]
def k0_mult75 (v2175 : BitVec 32) : BitVec 32 :=
  let c2_i32_536 : BitVec 32 := 2#32
  let v2180 : BitVec 32 := Scalar.shrui v2175 c2_i32_536
  let c4_i32_542 : BitVec 32 := 4#32
  let v2188 : BitVec 32 := Scalar.muli v2180 c4_i32_542
  let c7_i32_544 : BitVec 32 := 7#32
  let v2200 : BitVec 32 := Scalar.shrui v2188 c7_i32_544
  let c128_i32_552 : BitVec 32 := 128#32
  let v2232 : BitVec 32 := Scalar.muli v2200 c128_i32_552
  v2232
def k0_mult76 (v2175 : BitVec 32) : BitVec 32 :=
  let c2_i32_536 : BitVec 32 := 2#32
  let v2180 : BitVec 32 := Scalar.shrui v2175 c2_i32_536
  let c4_i32_542 : BitVec 32 := 4#32
  let v2188 : BitVec 32 := Scalar.muli v2180 c4_i32_542
  let c7_i32_544 : BitVec 32 := 7#32
  let v2200 : BitVec 32 := Scalar.shrui v2188 c7_i32_544
  let c1_i32_554 : BitVec 32 := 1#32
  let v2237 : BitVec 32 := Scalar.addi v2200 c1_i32_554
  let c128_i32_555 : BitVec 32 := 128#32
  let v2238 : BitVec 32 := Scalar.muli v2237 c128_i32_555
  v2238

def k0_chk40 (i : grid0.Coords) (v2175 : BitVec 32) : Prop :=
  (∀ (k0_h1 : k0_cond1 i = 1#1), 128 ∣ (k0_mult73 v2175).toNat) ∧
  (∀ (k0_h1 : k0_cond1 i = 1#1), ∀ a, (k0_off86 v2175) a + S1x128.size a ≤ S1x3100.size a) ∧
  (∀ (k0_h1 : k0_cond1 i = 1#1), 128 ∣ (k0_mult74 v2175).toNat) ∧
  (∀ (k0_h1 : k0_cond1 i = 1#1), ∀ a, (k0_off87 v2175) a + S1x128.size a ≤ S1x3100.size a) ∧
  (∀ (k0_h1 : k0_cond1 i = 1#1), 128 ∣ (k0_mult75 v2175).toNat) ∧
  (∀ (k0_h1 : k0_cond1 i = 1#1), 128 ∣ (k0_mult76 v2175).toNat)
theorem k0_mult73_dvd : ∀ (i : grid0.Coords) (v2175 : BitVec 32) (k0_hw40 : k0_chk40 i v2175), ∀ (k0_h1 : k0_cond1 i = 1#1), 128 ∣ (k0_mult73 v2175).toNat := fun i v2175 k0_hw40 k0_h1 => k0_hw40.1 k0_h1
theorem k0_off86_inb : ∀ (i : grid0.Coords) (v2175 : BitVec 32) (k0_hw40 : k0_chk40 i v2175), ∀ (k0_h1 : k0_cond1 i = 1#1), ∀ a, (k0_off86 v2175) a + S1x128.size a ≤ S1x3100.size a := fun i v2175 k0_hw40 k0_h1 => k0_hw40.2.1 k0_h1
theorem k0_mult74_dvd : ∀ (i : grid0.Coords) (v2175 : BitVec 32) (k0_hw40 : k0_chk40 i v2175), ∀ (k0_h1 : k0_cond1 i = 1#1), 128 ∣ (k0_mult74 v2175).toNat := fun i v2175 k0_hw40 k0_h1 => k0_hw40.2.2.1 k0_h1
theorem k0_off87_inb : ∀ (i : grid0.Coords) (v2175 : BitVec 32) (k0_hw40 : k0_chk40 i v2175), ∀ (k0_h1 : k0_cond1 i = 1#1), ∀ a, (k0_off87 v2175) a + S1x128.size a ≤ S1x3100.size a := fun i v2175 k0_hw40 k0_h1 => k0_hw40.2.2.2.1 k0_h1
theorem k0_mult75_dvd : ∀ (i : grid0.Coords) (v2175 : BitVec 32) (k0_hw40 : k0_chk40 i v2175), ∀ (k0_h1 : k0_cond1 i = 1#1), 128 ∣ (k0_mult75 v2175).toNat := fun i v2175 k0_hw40 k0_h1 => k0_hw40.2.2.2.2.1 k0_h1
theorem k0_mult76_dvd : ∀ (i : grid0.Coords) (v2175 : BitVec 32) (k0_hw40 : k0_chk40 i v2175), ∀ (k0_h1 : k0_cond1 i = 1#1), 128 ∣ (k0_mult76 v2175).toNat := fun i v2175 k0_hw40 k0_h1 => k0_hw40.2.2.2.2.2 k0_h1

def k0_off88 (v2173 : BitVec 32) : Fin 1 → Nat :=
  let v2278 : Index := Scalar.indexCast v2173
  ![v2278.toNat]

def k0_chk39 (i : grid0.Coords) (v2173 : BitVec 32) : Prop :=
  (∀ (k0_h1 : k0_cond1 i = 1#1), ∀ a, (k0_off85 v2173) a + S1.size a ≤ S41.size a) ∧
  (∀ (k0_h1 : k0_cond1 i = 1#1), ∀ a, (k0_off88 v2173) a + S1.size a ≤ S41.size a)
theorem k0_off85_inb : ∀ (i : grid0.Coords) (v2173 : BitVec 32) (k0_hw39 : k0_chk39 i v2173), ∀ (k0_h1 : k0_cond1 i = 1#1), ∀ a, (k0_off85 v2173) a + S1.size a ≤ S41.size a := fun i v2173 k0_hw39 k0_h1 => k0_hw39.1 k0_h1
theorem k0_off88_inb : ∀ (i : grid0.Coords) (v2173 : BitVec 32) (k0_hw39 : k0_chk39 i v2173), ∀ (k0_h1 : k0_cond1 i = 1#1), ∀ a, (k0_off88 v2173) a + S1.size a ≤ S41.size a := fun i v2173 k0_hw39 k0_h1 => k0_hw39.2 k0_h1

def k0_off89 (v2285 : BitVec 32) : Fin 1 → Nat :=
  let v2286 : Index := Scalar.indexCast v2285
  ![v2286.toNat]

def k0_mult77 (v2287 : BitVec 32) : BitVec 32 :=
  let c2_i32_562 : BitVec 32 := 2#32
  let v2292 : BitVec 32 := Scalar.shrui v2287 c2_i32_562
  let c4_i32_568 : BitVec 32 := 4#32
  let v2300 : BitVec 32 := Scalar.muli v2292 c4_i32_568
  let c7_i32_570 : BitVec 32 := 7#32
  let v2312 : BitVec 32 := Scalar.shrui v2300 c7_i32_570
  let c128_i32_573 : BitVec 32 := 128#32
  let v2319 : BitVec 32 := Scalar.muli v2312 c128_i32_573
  v2319

def k0_off90 (v2287 : BitVec 32) : Fin 2 → Nat :=
  let c0_574 : Index := 0#32
  let c2_i32_562 : BitVec 32 := 2#32
  let v2292 : BitVec 32 := Scalar.shrui v2287 c2_i32_562
  let c4_i32_568 : BitVec 32 := 4#32
  let v2300 : BitVec 32 := Scalar.muli v2292 c4_i32_568
  let c7_i32_570 : BitVec 32 := 7#32
  let v2312 : BitVec 32 := Scalar.shrui v2300 c7_i32_570
  let c128_i32_573 : BitVec 32 := 128#32
  let v2319 : BitVec 32 := Scalar.muli v2312 c128_i32_573
  let v2320 : BitVec 32 := v2319
  let v2321 : Index := Scalar.indexCast v2320
  ![0, v2321.toNat]
def k0_mult78 (v2287 : BitVec 32) : BitVec 32 :=
  let c2_i32_562 : BitVec 32 := 2#32
  let v2292 : BitVec 32 := Scalar.shrui v2287 c2_i32_562
  let c4_i32_568 : BitVec 32 := 4#32
  let v2300 : BitVec 32 := Scalar.muli v2292 c4_i32_568
  let c7_i32_570 : BitVec 32 := 7#32
  let v2312 : BitVec 32 := Scalar.shrui v2300 c7_i32_570
  let c1_i32_575 : BitVec 32 := 1#32
  let v2324 : BitVec 32 := Scalar.addi v2312 c1_i32_575
  let c128_i32_576 : BitVec 32 := 128#32
  let v2325 : BitVec 32 := Scalar.muli v2324 c128_i32_576
  v2325
def k0_off91 (v2287 : BitVec 32) : Fin 2 → Nat :=
  let c0_577 : Index := 0#32
  let c2_i32_562 : BitVec 32 := 2#32
  let v2292 : BitVec 32 := Scalar.shrui v2287 c2_i32_562
  let c4_i32_568 : BitVec 32 := 4#32
  let v2300 : BitVec 32 := Scalar.muli v2292 c4_i32_568
  let c7_i32_570 : BitVec 32 := 7#32
  let v2312 : BitVec 32 := Scalar.shrui v2300 c7_i32_570
  let c1_i32_575 : BitVec 32 := 1#32
  let v2324 : BitVec 32 := Scalar.addi v2312 c1_i32_575
  let c128_i32_576 : BitVec 32 := 128#32
  let v2325 : BitVec 32 := Scalar.muli v2324 c128_i32_576
  let v2326 : BitVec 32 := v2325
  let v2327 : Index := Scalar.indexCast v2326
  ![0, v2327.toNat]
def k0_mult79 (v2287 : BitVec 32) : BitVec 32 :=
  let c2_i32_562 : BitVec 32 := 2#32
  let v2292 : BitVec 32 := Scalar.shrui v2287 c2_i32_562
  let c4_i32_568 : BitVec 32 := 4#32
  let v2300 : BitVec 32 := Scalar.muli v2292 c4_i32_568
  let c7_i32_570 : BitVec 32 := 7#32
  let v2312 : BitVec 32 := Scalar.shrui v2300 c7_i32_570
  let c128_i32_578 : BitVec 32 := 128#32
  let v2344 : BitVec 32 := Scalar.muli v2312 c128_i32_578
  v2344
def k0_mult80 (v2287 : BitVec 32) : BitVec 32 :=
  let c2_i32_562 : BitVec 32 := 2#32
  let v2292 : BitVec 32 := Scalar.shrui v2287 c2_i32_562
  let c4_i32_568 : BitVec 32 := 4#32
  let v2300 : BitVec 32 := Scalar.muli v2292 c4_i32_568
  let c7_i32_570 : BitVec 32 := 7#32
  let v2312 : BitVec 32 := Scalar.shrui v2300 c7_i32_570
  let c1_i32_580 : BitVec 32 := 1#32
  let v2349 : BitVec 32 := Scalar.addi v2312 c1_i32_580
  let c128_i32_581 : BitVec 32 := 128#32
  let v2350 : BitVec 32 := Scalar.muli v2349 c128_i32_581
  v2350

def k0_chk42 (i : grid0.Coords) (v2287 : BitVec 32) : Prop :=
  (∀ (k0_h1 : k0_cond1 i = 1#1), 128 ∣ (k0_mult77 v2287).toNat) ∧
  (∀ (k0_h1 : k0_cond1 i = 1#1), ∀ a, (k0_off90 v2287) a + S1x128.size a ≤ S1x3100.size a) ∧
  (∀ (k0_h1 : k0_cond1 i = 1#1), 128 ∣ (k0_mult78 v2287).toNat) ∧
  (∀ (k0_h1 : k0_cond1 i = 1#1), ∀ a, (k0_off91 v2287) a + S1x128.size a ≤ S1x3100.size a) ∧
  (∀ (k0_h1 : k0_cond1 i = 1#1), 128 ∣ (k0_mult79 v2287).toNat) ∧
  (∀ (k0_h1 : k0_cond1 i = 1#1), 128 ∣ (k0_mult80 v2287).toNat)
theorem k0_mult77_dvd : ∀ (i : grid0.Coords) (v2287 : BitVec 32) (k0_hw42 : k0_chk42 i v2287), ∀ (k0_h1 : k0_cond1 i = 1#1), 128 ∣ (k0_mult77 v2287).toNat := fun i v2287 k0_hw42 k0_h1 => k0_hw42.1 k0_h1
theorem k0_off90_inb : ∀ (i : grid0.Coords) (v2287 : BitVec 32) (k0_hw42 : k0_chk42 i v2287), ∀ (k0_h1 : k0_cond1 i = 1#1), ∀ a, (k0_off90 v2287) a + S1x128.size a ≤ S1x3100.size a := fun i v2287 k0_hw42 k0_h1 => k0_hw42.2.1 k0_h1
theorem k0_mult78_dvd : ∀ (i : grid0.Coords) (v2287 : BitVec 32) (k0_hw42 : k0_chk42 i v2287), ∀ (k0_h1 : k0_cond1 i = 1#1), 128 ∣ (k0_mult78 v2287).toNat := fun i v2287 k0_hw42 k0_h1 => k0_hw42.2.2.1 k0_h1
theorem k0_off91_inb : ∀ (i : grid0.Coords) (v2287 : BitVec 32) (k0_hw42 : k0_chk42 i v2287), ∀ (k0_h1 : k0_cond1 i = 1#1), ∀ a, (k0_off91 v2287) a + S1x128.size a ≤ S1x3100.size a := fun i v2287 k0_hw42 k0_h1 => k0_hw42.2.2.2.1 k0_h1
theorem k0_mult79_dvd : ∀ (i : grid0.Coords) (v2287 : BitVec 32) (k0_hw42 : k0_chk42 i v2287), ∀ (k0_h1 : k0_cond1 i = 1#1), 128 ∣ (k0_mult79 v2287).toNat := fun i v2287 k0_hw42 k0_h1 => k0_hw42.2.2.2.2.1 k0_h1
theorem k0_mult80_dvd : ∀ (i : grid0.Coords) (v2287 : BitVec 32) (k0_hw42 : k0_chk42 i v2287), ∀ (k0_h1 : k0_cond1 i = 1#1), 128 ∣ (k0_mult80 v2287).toNat := fun i v2287 k0_hw42 k0_h1 => k0_hw42.2.2.2.2.2 k0_h1

def k0_off92 (v2285 : BitVec 32) : Fin 1 → Nat :=
  let v2390 : Index := Scalar.indexCast v2285
  ![v2390.toNat]

def k0_chk41 (i : grid0.Coords) (v2285 : BitVec 32) : Prop :=
  (∀ (k0_h1 : k0_cond1 i = 1#1), ∀ a, (k0_off89 v2285) a + S1.size a ≤ S41.size a) ∧
  (∀ (k0_h1 : k0_cond1 i = 1#1), ∀ a, (k0_off92 v2285) a + S1.size a ≤ S41.size a)
theorem k0_off89_inb : ∀ (i : grid0.Coords) (v2285 : BitVec 32) (k0_hw41 : k0_chk41 i v2285), ∀ (k0_h1 : k0_cond1 i = 1#1), ∀ a, (k0_off89 v2285) a + S1.size a ≤ S41.size a := fun i v2285 k0_hw41 k0_h1 => k0_hw41.1 k0_h1
theorem k0_off92_inb : ∀ (i : grid0.Coords) (v2285 : BitVec 32) (k0_hw41 : k0_chk41 i v2285), ∀ (k0_h1 : k0_cond1 i = 1#1), ∀ a, (k0_off92 v2285) a + S1.size a ≤ S41.size a := fun i v2285 k0_hw41 k0_h1 => k0_hw41.2 k0_h1

def k0_off93 (v2397 : BitVec 32) : Fin 1 → Nat :=
  let v2398 : Index := Scalar.indexCast v2397
  ![v2398.toNat]

def k0_mult81 (v2399 : BitVec 32) : BitVec 32 :=
  let c2_i32_588 : BitVec 32 := 2#32
  let v2404 : BitVec 32 := Scalar.shrui v2399 c2_i32_588
  let c4_i32_594 : BitVec 32 := 4#32
  let v2412 : BitVec 32 := Scalar.muli v2404 c4_i32_594
  let c7_i32_596 : BitVec 32 := 7#32
  let v2424 : BitVec 32 := Scalar.shrui v2412 c7_i32_596
  let c128_i32_599 : BitVec 32 := 128#32
  let v2431 : BitVec 32 := Scalar.muli v2424 c128_i32_599
  v2431

def k0_off94 (v2399 : BitVec 32) : Fin 2 → Nat :=
  let c0_600 : Index := 0#32
  let c2_i32_588 : BitVec 32 := 2#32
  let v2404 : BitVec 32 := Scalar.shrui v2399 c2_i32_588
  let c4_i32_594 : BitVec 32 := 4#32
  let v2412 : BitVec 32 := Scalar.muli v2404 c4_i32_594
  let c7_i32_596 : BitVec 32 := 7#32
  let v2424 : BitVec 32 := Scalar.shrui v2412 c7_i32_596
  let c128_i32_599 : BitVec 32 := 128#32
  let v2431 : BitVec 32 := Scalar.muli v2424 c128_i32_599
  let v2432 : BitVec 32 := v2431
  let v2433 : Index := Scalar.indexCast v2432
  ![0, v2433.toNat]
def k0_mult82 (v2399 : BitVec 32) : BitVec 32 :=
  let c2_i32_588 : BitVec 32 := 2#32
  let v2404 : BitVec 32 := Scalar.shrui v2399 c2_i32_588
  let c4_i32_594 : BitVec 32 := 4#32
  let v2412 : BitVec 32 := Scalar.muli v2404 c4_i32_594
  let c7_i32_596 : BitVec 32 := 7#32
  let v2424 : BitVec 32 := Scalar.shrui v2412 c7_i32_596
  let c1_i32_601 : BitVec 32 := 1#32
  let v2436 : BitVec 32 := Scalar.addi v2424 c1_i32_601
  let c128_i32_602 : BitVec 32 := 128#32
  let v2437 : BitVec 32 := Scalar.muli v2436 c128_i32_602
  v2437
def k0_off95 (v2399 : BitVec 32) : Fin 2 → Nat :=
  let c0_603 : Index := 0#32
  let c2_i32_588 : BitVec 32 := 2#32
  let v2404 : BitVec 32 := Scalar.shrui v2399 c2_i32_588
  let c4_i32_594 : BitVec 32 := 4#32
  let v2412 : BitVec 32 := Scalar.muli v2404 c4_i32_594
  let c7_i32_596 : BitVec 32 := 7#32
  let v2424 : BitVec 32 := Scalar.shrui v2412 c7_i32_596
  let c1_i32_601 : BitVec 32 := 1#32
  let v2436 : BitVec 32 := Scalar.addi v2424 c1_i32_601
  let c128_i32_602 : BitVec 32 := 128#32
  let v2437 : BitVec 32 := Scalar.muli v2436 c128_i32_602
  let v2438 : BitVec 32 := v2437
  let v2439 : Index := Scalar.indexCast v2438
  ![0, v2439.toNat]
def k0_mult83 (v2399 : BitVec 32) : BitVec 32 :=
  let c2_i32_588 : BitVec 32 := 2#32
  let v2404 : BitVec 32 := Scalar.shrui v2399 c2_i32_588
  let c4_i32_594 : BitVec 32 := 4#32
  let v2412 : BitVec 32 := Scalar.muli v2404 c4_i32_594
  let c7_i32_596 : BitVec 32 := 7#32
  let v2424 : BitVec 32 := Scalar.shrui v2412 c7_i32_596
  let c128_i32_604 : BitVec 32 := 128#32
  let v2456 : BitVec 32 := Scalar.muli v2424 c128_i32_604
  v2456
def k0_mult84 (v2399 : BitVec 32) : BitVec 32 :=
  let c2_i32_588 : BitVec 32 := 2#32
  let v2404 : BitVec 32 := Scalar.shrui v2399 c2_i32_588
  let c4_i32_594 : BitVec 32 := 4#32
  let v2412 : BitVec 32 := Scalar.muli v2404 c4_i32_594
  let c7_i32_596 : BitVec 32 := 7#32
  let v2424 : BitVec 32 := Scalar.shrui v2412 c7_i32_596
  let c1_i32_606 : BitVec 32 := 1#32
  let v2461 : BitVec 32 := Scalar.addi v2424 c1_i32_606
  let c128_i32_607 : BitVec 32 := 128#32
  let v2462 : BitVec 32 := Scalar.muli v2461 c128_i32_607
  v2462

def k0_chk44 (i : grid0.Coords) (v2399 : BitVec 32) : Prop :=
  (∀ (k0_h1 : k0_cond1 i = 1#1), 128 ∣ (k0_mult81 v2399).toNat) ∧
  (∀ (k0_h1 : k0_cond1 i = 1#1), ∀ a, (k0_off94 v2399) a + S1x128.size a ≤ S1x3100.size a) ∧
  (∀ (k0_h1 : k0_cond1 i = 1#1), 128 ∣ (k0_mult82 v2399).toNat) ∧
  (∀ (k0_h1 : k0_cond1 i = 1#1), ∀ a, (k0_off95 v2399) a + S1x128.size a ≤ S1x3100.size a) ∧
  (∀ (k0_h1 : k0_cond1 i = 1#1), 128 ∣ (k0_mult83 v2399).toNat) ∧
  (∀ (k0_h1 : k0_cond1 i = 1#1), 128 ∣ (k0_mult84 v2399).toNat)
theorem k0_mult81_dvd : ∀ (i : grid0.Coords) (v2399 : BitVec 32) (k0_hw44 : k0_chk44 i v2399), ∀ (k0_h1 : k0_cond1 i = 1#1), 128 ∣ (k0_mult81 v2399).toNat := fun i v2399 k0_hw44 k0_h1 => k0_hw44.1 k0_h1
theorem k0_off94_inb : ∀ (i : grid0.Coords) (v2399 : BitVec 32) (k0_hw44 : k0_chk44 i v2399), ∀ (k0_h1 : k0_cond1 i = 1#1), ∀ a, (k0_off94 v2399) a + S1x128.size a ≤ S1x3100.size a := fun i v2399 k0_hw44 k0_h1 => k0_hw44.2.1 k0_h1
theorem k0_mult82_dvd : ∀ (i : grid0.Coords) (v2399 : BitVec 32) (k0_hw44 : k0_chk44 i v2399), ∀ (k0_h1 : k0_cond1 i = 1#1), 128 ∣ (k0_mult82 v2399).toNat := fun i v2399 k0_hw44 k0_h1 => k0_hw44.2.2.1 k0_h1
theorem k0_off95_inb : ∀ (i : grid0.Coords) (v2399 : BitVec 32) (k0_hw44 : k0_chk44 i v2399), ∀ (k0_h1 : k0_cond1 i = 1#1), ∀ a, (k0_off95 v2399) a + S1x128.size a ≤ S1x3100.size a := fun i v2399 k0_hw44 k0_h1 => k0_hw44.2.2.2.1 k0_h1
theorem k0_mult83_dvd : ∀ (i : grid0.Coords) (v2399 : BitVec 32) (k0_hw44 : k0_chk44 i v2399), ∀ (k0_h1 : k0_cond1 i = 1#1), 128 ∣ (k0_mult83 v2399).toNat := fun i v2399 k0_hw44 k0_h1 => k0_hw44.2.2.2.2.1 k0_h1
theorem k0_mult84_dvd : ∀ (i : grid0.Coords) (v2399 : BitVec 32) (k0_hw44 : k0_chk44 i v2399), ∀ (k0_h1 : k0_cond1 i = 1#1), 128 ∣ (k0_mult84 v2399).toNat := fun i v2399 k0_hw44 k0_h1 => k0_hw44.2.2.2.2.2 k0_h1

def k0_off96 (v2397 : BitVec 32) : Fin 1 → Nat :=
  let v2502 : Index := Scalar.indexCast v2397
  ![v2502.toNat]

def k0_chk43 (i : grid0.Coords) (v2397 : BitVec 32) : Prop :=
  (∀ (k0_h1 : k0_cond1 i = 1#1), ∀ a, (k0_off93 v2397) a + S1.size a ≤ S41.size a) ∧
  (∀ (k0_h1 : k0_cond1 i = 1#1), ∀ a, (k0_off96 v2397) a + S1.size a ≤ S41.size a)
theorem k0_off93_inb : ∀ (i : grid0.Coords) (v2397 : BitVec 32) (k0_hw43 : k0_chk43 i v2397), ∀ (k0_h1 : k0_cond1 i = 1#1), ∀ a, (k0_off93 v2397) a + S1.size a ≤ S41.size a := fun i v2397 k0_hw43 k0_h1 => k0_hw43.1 k0_h1
theorem k0_off96_inb : ∀ (i : grid0.Coords) (v2397 : BitVec 32) (k0_hw43 : k0_chk43 i v2397), ∀ (k0_h1 : k0_cond1 i = 1#1), ∀ a, (k0_off96 v2397) a + S1.size a ≤ S41.size a := fun i v2397 k0_hw43 k0_h1 => k0_hw43.2 k0_h1

def k0_off97 (v2509 : BitVec 32) : Fin 1 → Nat :=
  let v2510 : Index := Scalar.indexCast v2509
  ![v2510.toNat]

def k0_mult85 (v2511 : BitVec 32) : BitVec 32 :=
  let c2_i32_614 : BitVec 32 := 2#32
  let v2516 : BitVec 32 := Scalar.shrui v2511 c2_i32_614
  let c4_i32_620 : BitVec 32 := 4#32
  let v2524 : BitVec 32 := Scalar.muli v2516 c4_i32_620
  let c7_i32_622 : BitVec 32 := 7#32
  let v2536 : BitVec 32 := Scalar.shrui v2524 c7_i32_622
  let c128_i32_625 : BitVec 32 := 128#32
  let v2543 : BitVec 32 := Scalar.muli v2536 c128_i32_625
  v2543

def k0_off98 (v2511 : BitVec 32) : Fin 2 → Nat :=
  let c0_626 : Index := 0#32
  let c2_i32_614 : BitVec 32 := 2#32
  let v2516 : BitVec 32 := Scalar.shrui v2511 c2_i32_614
  let c4_i32_620 : BitVec 32 := 4#32
  let v2524 : BitVec 32 := Scalar.muli v2516 c4_i32_620
  let c7_i32_622 : BitVec 32 := 7#32
  let v2536 : BitVec 32 := Scalar.shrui v2524 c7_i32_622
  let c128_i32_625 : BitVec 32 := 128#32
  let v2543 : BitVec 32 := Scalar.muli v2536 c128_i32_625
  let v2544 : BitVec 32 := v2543
  let v2545 : Index := Scalar.indexCast v2544
  ![0, v2545.toNat]
def k0_mult86 (v2511 : BitVec 32) : BitVec 32 :=
  let c2_i32_614 : BitVec 32 := 2#32
  let v2516 : BitVec 32 := Scalar.shrui v2511 c2_i32_614
  let c4_i32_620 : BitVec 32 := 4#32
  let v2524 : BitVec 32 := Scalar.muli v2516 c4_i32_620
  let c7_i32_622 : BitVec 32 := 7#32
  let v2536 : BitVec 32 := Scalar.shrui v2524 c7_i32_622
  let c1_i32_627 : BitVec 32 := 1#32
  let v2548 : BitVec 32 := Scalar.addi v2536 c1_i32_627
  let c128_i32_628 : BitVec 32 := 128#32
  let v2549 : BitVec 32 := Scalar.muli v2548 c128_i32_628
  v2549
def k0_off99 (v2511 : BitVec 32) : Fin 2 → Nat :=
  let c0_629 : Index := 0#32
  let c2_i32_614 : BitVec 32 := 2#32
  let v2516 : BitVec 32 := Scalar.shrui v2511 c2_i32_614
  let c4_i32_620 : BitVec 32 := 4#32
  let v2524 : BitVec 32 := Scalar.muli v2516 c4_i32_620
  let c7_i32_622 : BitVec 32 := 7#32
  let v2536 : BitVec 32 := Scalar.shrui v2524 c7_i32_622
  let c1_i32_627 : BitVec 32 := 1#32
  let v2548 : BitVec 32 := Scalar.addi v2536 c1_i32_627
  let c128_i32_628 : BitVec 32 := 128#32
  let v2549 : BitVec 32 := Scalar.muli v2548 c128_i32_628
  let v2550 : BitVec 32 := v2549
  let v2551 : Index := Scalar.indexCast v2550
  ![0, v2551.toNat]
def k0_mult87 (v2511 : BitVec 32) : BitVec 32 :=
  let c2_i32_614 : BitVec 32 := 2#32
  let v2516 : BitVec 32 := Scalar.shrui v2511 c2_i32_614
  let c4_i32_620 : BitVec 32 := 4#32
  let v2524 : BitVec 32 := Scalar.muli v2516 c4_i32_620
  let c7_i32_622 : BitVec 32 := 7#32
  let v2536 : BitVec 32 := Scalar.shrui v2524 c7_i32_622
  let c128_i32_630 : BitVec 32 := 128#32
  let v2568 : BitVec 32 := Scalar.muli v2536 c128_i32_630
  v2568
def k0_mult88 (v2511 : BitVec 32) : BitVec 32 :=
  let c2_i32_614 : BitVec 32 := 2#32
  let v2516 : BitVec 32 := Scalar.shrui v2511 c2_i32_614
  let c4_i32_620 : BitVec 32 := 4#32
  let v2524 : BitVec 32 := Scalar.muli v2516 c4_i32_620
  let c7_i32_622 : BitVec 32 := 7#32
  let v2536 : BitVec 32 := Scalar.shrui v2524 c7_i32_622
  let c1_i32_632 : BitVec 32 := 1#32
  let v2573 : BitVec 32 := Scalar.addi v2536 c1_i32_632
  let c128_i32_633 : BitVec 32 := 128#32
  let v2574 : BitVec 32 := Scalar.muli v2573 c128_i32_633
  v2574

def k0_chk46 (i : grid0.Coords) (v2511 : BitVec 32) : Prop :=
  (∀ (k0_h1 : k0_cond1 i = 1#1), 128 ∣ (k0_mult85 v2511).toNat) ∧
  (∀ (k0_h1 : k0_cond1 i = 1#1), ∀ a, (k0_off98 v2511) a + S1x128.size a ≤ S1x3100.size a) ∧
  (∀ (k0_h1 : k0_cond1 i = 1#1), 128 ∣ (k0_mult86 v2511).toNat) ∧
  (∀ (k0_h1 : k0_cond1 i = 1#1), ∀ a, (k0_off99 v2511) a + S1x128.size a ≤ S1x3100.size a) ∧
  (∀ (k0_h1 : k0_cond1 i = 1#1), 128 ∣ (k0_mult87 v2511).toNat) ∧
  (∀ (k0_h1 : k0_cond1 i = 1#1), 128 ∣ (k0_mult88 v2511).toNat)
theorem k0_mult85_dvd : ∀ (i : grid0.Coords) (v2511 : BitVec 32) (k0_hw46 : k0_chk46 i v2511), ∀ (k0_h1 : k0_cond1 i = 1#1), 128 ∣ (k0_mult85 v2511).toNat := fun i v2511 k0_hw46 k0_h1 => k0_hw46.1 k0_h1
theorem k0_off98_inb : ∀ (i : grid0.Coords) (v2511 : BitVec 32) (k0_hw46 : k0_chk46 i v2511), ∀ (k0_h1 : k0_cond1 i = 1#1), ∀ a, (k0_off98 v2511) a + S1x128.size a ≤ S1x3100.size a := fun i v2511 k0_hw46 k0_h1 => k0_hw46.2.1 k0_h1
theorem k0_mult86_dvd : ∀ (i : grid0.Coords) (v2511 : BitVec 32) (k0_hw46 : k0_chk46 i v2511), ∀ (k0_h1 : k0_cond1 i = 1#1), 128 ∣ (k0_mult86 v2511).toNat := fun i v2511 k0_hw46 k0_h1 => k0_hw46.2.2.1 k0_h1
theorem k0_off99_inb : ∀ (i : grid0.Coords) (v2511 : BitVec 32) (k0_hw46 : k0_chk46 i v2511), ∀ (k0_h1 : k0_cond1 i = 1#1), ∀ a, (k0_off99 v2511) a + S1x128.size a ≤ S1x3100.size a := fun i v2511 k0_hw46 k0_h1 => k0_hw46.2.2.2.1 k0_h1
theorem k0_mult87_dvd : ∀ (i : grid0.Coords) (v2511 : BitVec 32) (k0_hw46 : k0_chk46 i v2511), ∀ (k0_h1 : k0_cond1 i = 1#1), 128 ∣ (k0_mult87 v2511).toNat := fun i v2511 k0_hw46 k0_h1 => k0_hw46.2.2.2.2.1 k0_h1
theorem k0_mult88_dvd : ∀ (i : grid0.Coords) (v2511 : BitVec 32) (k0_hw46 : k0_chk46 i v2511), ∀ (k0_h1 : k0_cond1 i = 1#1), 128 ∣ (k0_mult88 v2511).toNat := fun i v2511 k0_hw46 k0_h1 => k0_hw46.2.2.2.2.2 k0_h1

def k0_off100 (v2509 : BitVec 32) : Fin 1 → Nat :=
  let v2614 : Index := Scalar.indexCast v2509
  ![v2614.toNat]

def k0_chk45 (i : grid0.Coords) (v2509 : BitVec 32) : Prop :=
  (∀ (k0_h1 : k0_cond1 i = 1#1), ∀ a, (k0_off97 v2509) a + S1.size a ≤ S41.size a) ∧
  (∀ (k0_h1 : k0_cond1 i = 1#1), ∀ a, (k0_off100 v2509) a + S1.size a ≤ S41.size a)
theorem k0_off97_inb : ∀ (i : grid0.Coords) (v2509 : BitVec 32) (k0_hw45 : k0_chk45 i v2509), ∀ (k0_h1 : k0_cond1 i = 1#1), ∀ a, (k0_off97 v2509) a + S1.size a ≤ S41.size a := fun i v2509 k0_hw45 k0_h1 => k0_hw45.1 k0_h1
theorem k0_off100_inb : ∀ (i : grid0.Coords) (v2509 : BitVec 32) (k0_hw45 : k0_chk45 i v2509), ∀ (k0_h1 : k0_cond1 i = 1#1), ∀ a, (k0_off100 v2509) a + S1.size a ≤ S41.size a := fun i v2509 k0_hw45 k0_h1 => k0_hw45.2 k0_h1

def k0_off101 (v2621 : BitVec 32) : Fin 1 → Nat :=
  let v2622 : Index := Scalar.indexCast v2621
  ![v2622.toNat]

def k0_mult89 (v2623 : BitVec 32) : BitVec 32 :=
  let c2_i32_640 : BitVec 32 := 2#32
  let v2628 : BitVec 32 := Scalar.shrui v2623 c2_i32_640
  let c4_i32_646 : BitVec 32 := 4#32
  let v2636 : BitVec 32 := Scalar.muli v2628 c4_i32_646
  let c7_i32_648 : BitVec 32 := 7#32
  let v2648 : BitVec 32 := Scalar.shrui v2636 c7_i32_648
  let c128_i32_651 : BitVec 32 := 128#32
  let v2655 : BitVec 32 := Scalar.muli v2648 c128_i32_651
  v2655

def k0_off102 (v2623 : BitVec 32) : Fin 2 → Nat :=
  let c0_652 : Index := 0#32
  let c2_i32_640 : BitVec 32 := 2#32
  let v2628 : BitVec 32 := Scalar.shrui v2623 c2_i32_640
  let c4_i32_646 : BitVec 32 := 4#32
  let v2636 : BitVec 32 := Scalar.muli v2628 c4_i32_646
  let c7_i32_648 : BitVec 32 := 7#32
  let v2648 : BitVec 32 := Scalar.shrui v2636 c7_i32_648
  let c128_i32_651 : BitVec 32 := 128#32
  let v2655 : BitVec 32 := Scalar.muli v2648 c128_i32_651
  let v2656 : BitVec 32 := v2655
  let v2657 : Index := Scalar.indexCast v2656
  ![0, v2657.toNat]
def k0_mult90 (v2623 : BitVec 32) : BitVec 32 :=
  let c2_i32_640 : BitVec 32 := 2#32
  let v2628 : BitVec 32 := Scalar.shrui v2623 c2_i32_640
  let c4_i32_646 : BitVec 32 := 4#32
  let v2636 : BitVec 32 := Scalar.muli v2628 c4_i32_646
  let c7_i32_648 : BitVec 32 := 7#32
  let v2648 : BitVec 32 := Scalar.shrui v2636 c7_i32_648
  let c1_i32_653 : BitVec 32 := 1#32
  let v2660 : BitVec 32 := Scalar.addi v2648 c1_i32_653
  let c128_i32_654 : BitVec 32 := 128#32
  let v2661 : BitVec 32 := Scalar.muli v2660 c128_i32_654
  v2661
def k0_off103 (v2623 : BitVec 32) : Fin 2 → Nat :=
  let c0_655 : Index := 0#32
  let c2_i32_640 : BitVec 32 := 2#32
  let v2628 : BitVec 32 := Scalar.shrui v2623 c2_i32_640
  let c4_i32_646 : BitVec 32 := 4#32
  let v2636 : BitVec 32 := Scalar.muli v2628 c4_i32_646
  let c7_i32_648 : BitVec 32 := 7#32
  let v2648 : BitVec 32 := Scalar.shrui v2636 c7_i32_648
  let c1_i32_653 : BitVec 32 := 1#32
  let v2660 : BitVec 32 := Scalar.addi v2648 c1_i32_653
  let c128_i32_654 : BitVec 32 := 128#32
  let v2661 : BitVec 32 := Scalar.muli v2660 c128_i32_654
  let v2662 : BitVec 32 := v2661
  let v2663 : Index := Scalar.indexCast v2662
  ![0, v2663.toNat]
def k0_mult91 (v2623 : BitVec 32) : BitVec 32 :=
  let c2_i32_640 : BitVec 32 := 2#32
  let v2628 : BitVec 32 := Scalar.shrui v2623 c2_i32_640
  let c4_i32_646 : BitVec 32 := 4#32
  let v2636 : BitVec 32 := Scalar.muli v2628 c4_i32_646
  let c7_i32_648 : BitVec 32 := 7#32
  let v2648 : BitVec 32 := Scalar.shrui v2636 c7_i32_648
  let c128_i32_656 : BitVec 32 := 128#32
  let v2680 : BitVec 32 := Scalar.muli v2648 c128_i32_656
  v2680
def k0_mult92 (v2623 : BitVec 32) : BitVec 32 :=
  let c2_i32_640 : BitVec 32 := 2#32
  let v2628 : BitVec 32 := Scalar.shrui v2623 c2_i32_640
  let c4_i32_646 : BitVec 32 := 4#32
  let v2636 : BitVec 32 := Scalar.muli v2628 c4_i32_646
  let c7_i32_648 : BitVec 32 := 7#32
  let v2648 : BitVec 32 := Scalar.shrui v2636 c7_i32_648
  let c1_i32_658 : BitVec 32 := 1#32
  let v2685 : BitVec 32 := Scalar.addi v2648 c1_i32_658
  let c128_i32_659 : BitVec 32 := 128#32
  let v2686 : BitVec 32 := Scalar.muli v2685 c128_i32_659
  v2686

def k0_chk48 (i : grid0.Coords) (v2623 : BitVec 32) : Prop :=
  (∀ (k0_h1 : k0_cond1 i = 1#1), 128 ∣ (k0_mult89 v2623).toNat) ∧
  (∀ (k0_h1 : k0_cond1 i = 1#1), ∀ a, (k0_off102 v2623) a + S1x128.size a ≤ S1x3100.size a) ∧
  (∀ (k0_h1 : k0_cond1 i = 1#1), 128 ∣ (k0_mult90 v2623).toNat) ∧
  (∀ (k0_h1 : k0_cond1 i = 1#1), ∀ a, (k0_off103 v2623) a + S1x128.size a ≤ S1x3100.size a) ∧
  (∀ (k0_h1 : k0_cond1 i = 1#1), 128 ∣ (k0_mult91 v2623).toNat) ∧
  (∀ (k0_h1 : k0_cond1 i = 1#1), 128 ∣ (k0_mult92 v2623).toNat)
theorem k0_mult89_dvd : ∀ (i : grid0.Coords) (v2623 : BitVec 32) (k0_hw48 : k0_chk48 i v2623), ∀ (k0_h1 : k0_cond1 i = 1#1), 128 ∣ (k0_mult89 v2623).toNat := fun i v2623 k0_hw48 k0_h1 => k0_hw48.1 k0_h1
theorem k0_off102_inb : ∀ (i : grid0.Coords) (v2623 : BitVec 32) (k0_hw48 : k0_chk48 i v2623), ∀ (k0_h1 : k0_cond1 i = 1#1), ∀ a, (k0_off102 v2623) a + S1x128.size a ≤ S1x3100.size a := fun i v2623 k0_hw48 k0_h1 => k0_hw48.2.1 k0_h1
theorem k0_mult90_dvd : ∀ (i : grid0.Coords) (v2623 : BitVec 32) (k0_hw48 : k0_chk48 i v2623), ∀ (k0_h1 : k0_cond1 i = 1#1), 128 ∣ (k0_mult90 v2623).toNat := fun i v2623 k0_hw48 k0_h1 => k0_hw48.2.2.1 k0_h1
theorem k0_off103_inb : ∀ (i : grid0.Coords) (v2623 : BitVec 32) (k0_hw48 : k0_chk48 i v2623), ∀ (k0_h1 : k0_cond1 i = 1#1), ∀ a, (k0_off103 v2623) a + S1x128.size a ≤ S1x3100.size a := fun i v2623 k0_hw48 k0_h1 => k0_hw48.2.2.2.1 k0_h1
theorem k0_mult91_dvd : ∀ (i : grid0.Coords) (v2623 : BitVec 32) (k0_hw48 : k0_chk48 i v2623), ∀ (k0_h1 : k0_cond1 i = 1#1), 128 ∣ (k0_mult91 v2623).toNat := fun i v2623 k0_hw48 k0_h1 => k0_hw48.2.2.2.2.1 k0_h1
theorem k0_mult92_dvd : ∀ (i : grid0.Coords) (v2623 : BitVec 32) (k0_hw48 : k0_chk48 i v2623), ∀ (k0_h1 : k0_cond1 i = 1#1), 128 ∣ (k0_mult92 v2623).toNat := fun i v2623 k0_hw48 k0_h1 => k0_hw48.2.2.2.2.2 k0_h1

def k0_off104 (v2621 : BitVec 32) : Fin 1 → Nat :=
  let v2726 : Index := Scalar.indexCast v2621
  ![v2726.toNat]

def k0_chk47 (i : grid0.Coords) (v2621 : BitVec 32) : Prop :=
  (∀ (k0_h1 : k0_cond1 i = 1#1), ∀ a, (k0_off101 v2621) a + S1.size a ≤ S41.size a) ∧
  (∀ (k0_h1 : k0_cond1 i = 1#1), ∀ a, (k0_off104 v2621) a + S1.size a ≤ S41.size a)
theorem k0_off101_inb : ∀ (i : grid0.Coords) (v2621 : BitVec 32) (k0_hw47 : k0_chk47 i v2621), ∀ (k0_h1 : k0_cond1 i = 1#1), ∀ a, (k0_off101 v2621) a + S1.size a ≤ S41.size a := fun i v2621 k0_hw47 k0_h1 => k0_hw47.1 k0_h1
theorem k0_off104_inb : ∀ (i : grid0.Coords) (v2621 : BitVec 32) (k0_hw47 : k0_chk47 i v2621), ∀ (k0_h1 : k0_cond1 i = 1#1), ∀ a, (k0_off104 v2621) a + S1.size a ≤ S41.size a := fun i v2621 k0_hw47 k0_h1 => k0_hw47.2 k0_h1

def k0_off105 (v2733 : BitVec 32) : Fin 1 → Nat :=
  let v2734 : Index := Scalar.indexCast v2733
  ![v2734.toNat]

def k0_mult93 (v2735 : BitVec 32) : BitVec 32 :=
  let c2_i32_666 : BitVec 32 := 2#32
  let v2740 : BitVec 32 := Scalar.shrui v2735 c2_i32_666
  let c4_i32_672 : BitVec 32 := 4#32
  let v2748 : BitVec 32 := Scalar.muli v2740 c4_i32_672
  let c7_i32_674 : BitVec 32 := 7#32
  let v2760 : BitVec 32 := Scalar.shrui v2748 c7_i32_674
  let c128_i32_677 : BitVec 32 := 128#32
  let v2767 : BitVec 32 := Scalar.muli v2760 c128_i32_677
  v2767

def k0_off106 (v2735 : BitVec 32) : Fin 2 → Nat :=
  let c0_678 : Index := 0#32
  let c2_i32_666 : BitVec 32 := 2#32
  let v2740 : BitVec 32 := Scalar.shrui v2735 c2_i32_666
  let c4_i32_672 : BitVec 32 := 4#32
  let v2748 : BitVec 32 := Scalar.muli v2740 c4_i32_672
  let c7_i32_674 : BitVec 32 := 7#32
  let v2760 : BitVec 32 := Scalar.shrui v2748 c7_i32_674
  let c128_i32_677 : BitVec 32 := 128#32
  let v2767 : BitVec 32 := Scalar.muli v2760 c128_i32_677
  let v2768 : BitVec 32 := v2767
  let v2769 : Index := Scalar.indexCast v2768
  ![0, v2769.toNat]
def k0_mult94 (v2735 : BitVec 32) : BitVec 32 :=
  let c2_i32_666 : BitVec 32 := 2#32
  let v2740 : BitVec 32 := Scalar.shrui v2735 c2_i32_666
  let c4_i32_672 : BitVec 32 := 4#32
  let v2748 : BitVec 32 := Scalar.muli v2740 c4_i32_672
  let c7_i32_674 : BitVec 32 := 7#32
  let v2760 : BitVec 32 := Scalar.shrui v2748 c7_i32_674
  let c1_i32_679 : BitVec 32 := 1#32
  let v2772 : BitVec 32 := Scalar.addi v2760 c1_i32_679
  let c128_i32_680 : BitVec 32 := 128#32
  let v2773 : BitVec 32 := Scalar.muli v2772 c128_i32_680
  v2773
def k0_off107 (v2735 : BitVec 32) : Fin 2 → Nat :=
  let c0_681 : Index := 0#32
  let c2_i32_666 : BitVec 32 := 2#32
  let v2740 : BitVec 32 := Scalar.shrui v2735 c2_i32_666
  let c4_i32_672 : BitVec 32 := 4#32
  let v2748 : BitVec 32 := Scalar.muli v2740 c4_i32_672
  let c7_i32_674 : BitVec 32 := 7#32
  let v2760 : BitVec 32 := Scalar.shrui v2748 c7_i32_674
  let c1_i32_679 : BitVec 32 := 1#32
  let v2772 : BitVec 32 := Scalar.addi v2760 c1_i32_679
  let c128_i32_680 : BitVec 32 := 128#32
  let v2773 : BitVec 32 := Scalar.muli v2772 c128_i32_680
  let v2774 : BitVec 32 := v2773
  let v2775 : Index := Scalar.indexCast v2774
  ![0, v2775.toNat]
def k0_mult95 (v2735 : BitVec 32) : BitVec 32 :=
  let c2_i32_666 : BitVec 32 := 2#32
  let v2740 : BitVec 32 := Scalar.shrui v2735 c2_i32_666
  let c4_i32_672 : BitVec 32 := 4#32
  let v2748 : BitVec 32 := Scalar.muli v2740 c4_i32_672
  let c7_i32_674 : BitVec 32 := 7#32
  let v2760 : BitVec 32 := Scalar.shrui v2748 c7_i32_674
  let c128_i32_682 : BitVec 32 := 128#32
  let v2792 : BitVec 32 := Scalar.muli v2760 c128_i32_682
  v2792
def k0_mult96 (v2735 : BitVec 32) : BitVec 32 :=
  let c2_i32_666 : BitVec 32 := 2#32
  let v2740 : BitVec 32 := Scalar.shrui v2735 c2_i32_666
  let c4_i32_672 : BitVec 32 := 4#32
  let v2748 : BitVec 32 := Scalar.muli v2740 c4_i32_672
  let c7_i32_674 : BitVec 32 := 7#32
  let v2760 : BitVec 32 := Scalar.shrui v2748 c7_i32_674
  let c1_i32_684 : BitVec 32 := 1#32
  let v2797 : BitVec 32 := Scalar.addi v2760 c1_i32_684
  let c128_i32_685 : BitVec 32 := 128#32
  let v2798 : BitVec 32 := Scalar.muli v2797 c128_i32_685
  v2798

def k0_chk50 (i : grid0.Coords) (v2735 : BitVec 32) : Prop :=
  (∀ (k0_h1 : k0_cond1 i = 1#1), 128 ∣ (k0_mult93 v2735).toNat) ∧
  (∀ (k0_h1 : k0_cond1 i = 1#1), ∀ a, (k0_off106 v2735) a + S1x128.size a ≤ S1x3100.size a) ∧
  (∀ (k0_h1 : k0_cond1 i = 1#1), 128 ∣ (k0_mult94 v2735).toNat) ∧
  (∀ (k0_h1 : k0_cond1 i = 1#1), ∀ a, (k0_off107 v2735) a + S1x128.size a ≤ S1x3100.size a) ∧
  (∀ (k0_h1 : k0_cond1 i = 1#1), 128 ∣ (k0_mult95 v2735).toNat) ∧
  (∀ (k0_h1 : k0_cond1 i = 1#1), 128 ∣ (k0_mult96 v2735).toNat)
theorem k0_mult93_dvd : ∀ (i : grid0.Coords) (v2735 : BitVec 32) (k0_hw50 : k0_chk50 i v2735), ∀ (k0_h1 : k0_cond1 i = 1#1), 128 ∣ (k0_mult93 v2735).toNat := fun i v2735 k0_hw50 k0_h1 => k0_hw50.1 k0_h1
theorem k0_off106_inb : ∀ (i : grid0.Coords) (v2735 : BitVec 32) (k0_hw50 : k0_chk50 i v2735), ∀ (k0_h1 : k0_cond1 i = 1#1), ∀ a, (k0_off106 v2735) a + S1x128.size a ≤ S1x3100.size a := fun i v2735 k0_hw50 k0_h1 => k0_hw50.2.1 k0_h1
theorem k0_mult94_dvd : ∀ (i : grid0.Coords) (v2735 : BitVec 32) (k0_hw50 : k0_chk50 i v2735), ∀ (k0_h1 : k0_cond1 i = 1#1), 128 ∣ (k0_mult94 v2735).toNat := fun i v2735 k0_hw50 k0_h1 => k0_hw50.2.2.1 k0_h1
theorem k0_off107_inb : ∀ (i : grid0.Coords) (v2735 : BitVec 32) (k0_hw50 : k0_chk50 i v2735), ∀ (k0_h1 : k0_cond1 i = 1#1), ∀ a, (k0_off107 v2735) a + S1x128.size a ≤ S1x3100.size a := fun i v2735 k0_hw50 k0_h1 => k0_hw50.2.2.2.1 k0_h1
theorem k0_mult95_dvd : ∀ (i : grid0.Coords) (v2735 : BitVec 32) (k0_hw50 : k0_chk50 i v2735), ∀ (k0_h1 : k0_cond1 i = 1#1), 128 ∣ (k0_mult95 v2735).toNat := fun i v2735 k0_hw50 k0_h1 => k0_hw50.2.2.2.2.1 k0_h1
theorem k0_mult96_dvd : ∀ (i : grid0.Coords) (v2735 : BitVec 32) (k0_hw50 : k0_chk50 i v2735), ∀ (k0_h1 : k0_cond1 i = 1#1), 128 ∣ (k0_mult96 v2735).toNat := fun i v2735 k0_hw50 k0_h1 => k0_hw50.2.2.2.2.2 k0_h1

def k0_off108 (v2733 : BitVec 32) : Fin 1 → Nat :=
  let v2838 : Index := Scalar.indexCast v2733
  ![v2838.toNat]

def k0_chk49 (i : grid0.Coords) (v2733 : BitVec 32) : Prop :=
  (∀ (k0_h1 : k0_cond1 i = 1#1), ∀ a, (k0_off105 v2733) a + S1.size a ≤ S41.size a) ∧
  (∀ (k0_h1 : k0_cond1 i = 1#1), ∀ a, (k0_off108 v2733) a + S1.size a ≤ S41.size a)
theorem k0_off105_inb : ∀ (i : grid0.Coords) (v2733 : BitVec 32) (k0_hw49 : k0_chk49 i v2733), ∀ (k0_h1 : k0_cond1 i = 1#1), ∀ a, (k0_off105 v2733) a + S1.size a ≤ S41.size a := fun i v2733 k0_hw49 k0_h1 => k0_hw49.1 k0_h1
theorem k0_off108_inb : ∀ (i : grid0.Coords) (v2733 : BitVec 32) (k0_hw49 : k0_chk49 i v2733), ∀ (k0_h1 : k0_cond1 i = 1#1), ∀ a, (k0_off108 v2733) a + S1.size a ≤ S41.size a := fun i v2733 k0_hw49 k0_h1 => k0_hw49.2 k0_h1

def k0_off109 (v2845 : BitVec 32) : Fin 1 → Nat :=
  let v2846 : Index := Scalar.indexCast v2845
  ![v2846.toNat]

def k0_mult97 (v2847 : BitVec 32) : BitVec 32 :=
  let c2_i32_692 : BitVec 32 := 2#32
  let v2852 : BitVec 32 := Scalar.shrui v2847 c2_i32_692
  let c4_i32_698 : BitVec 32 := 4#32
  let v2860 : BitVec 32 := Scalar.muli v2852 c4_i32_698
  let c7_i32_700 : BitVec 32 := 7#32
  let v2872 : BitVec 32 := Scalar.shrui v2860 c7_i32_700
  let c128_i32_703 : BitVec 32 := 128#32
  let v2879 : BitVec 32 := Scalar.muli v2872 c128_i32_703
  v2879

def k0_off110 (v2847 : BitVec 32) : Fin 2 → Nat :=
  let c0_704 : Index := 0#32
  let c2_i32_692 : BitVec 32 := 2#32
  let v2852 : BitVec 32 := Scalar.shrui v2847 c2_i32_692
  let c4_i32_698 : BitVec 32 := 4#32
  let v2860 : BitVec 32 := Scalar.muli v2852 c4_i32_698
  let c7_i32_700 : BitVec 32 := 7#32
  let v2872 : BitVec 32 := Scalar.shrui v2860 c7_i32_700
  let c128_i32_703 : BitVec 32 := 128#32
  let v2879 : BitVec 32 := Scalar.muli v2872 c128_i32_703
  let v2880 : BitVec 32 := v2879
  let v2881 : Index := Scalar.indexCast v2880
  ![0, v2881.toNat]
def k0_mult98 (v2847 : BitVec 32) : BitVec 32 :=
  let c2_i32_692 : BitVec 32 := 2#32
  let v2852 : BitVec 32 := Scalar.shrui v2847 c2_i32_692
  let c4_i32_698 : BitVec 32 := 4#32
  let v2860 : BitVec 32 := Scalar.muli v2852 c4_i32_698
  let c7_i32_700 : BitVec 32 := 7#32
  let v2872 : BitVec 32 := Scalar.shrui v2860 c7_i32_700
  let c1_i32_705 : BitVec 32 := 1#32
  let v2884 : BitVec 32 := Scalar.addi v2872 c1_i32_705
  let c128_i32_706 : BitVec 32 := 128#32
  let v2885 : BitVec 32 := Scalar.muli v2884 c128_i32_706
  v2885
def k0_off111 (v2847 : BitVec 32) : Fin 2 → Nat :=
  let c0_707 : Index := 0#32
  let c2_i32_692 : BitVec 32 := 2#32
  let v2852 : BitVec 32 := Scalar.shrui v2847 c2_i32_692
  let c4_i32_698 : BitVec 32 := 4#32
  let v2860 : BitVec 32 := Scalar.muli v2852 c4_i32_698
  let c7_i32_700 : BitVec 32 := 7#32
  let v2872 : BitVec 32 := Scalar.shrui v2860 c7_i32_700
  let c1_i32_705 : BitVec 32 := 1#32
  let v2884 : BitVec 32 := Scalar.addi v2872 c1_i32_705
  let c128_i32_706 : BitVec 32 := 128#32
  let v2885 : BitVec 32 := Scalar.muli v2884 c128_i32_706
  let v2886 : BitVec 32 := v2885
  let v2887 : Index := Scalar.indexCast v2886
  ![0, v2887.toNat]
def k0_mult99 (v2847 : BitVec 32) : BitVec 32 :=
  let c2_i32_692 : BitVec 32 := 2#32
  let v2852 : BitVec 32 := Scalar.shrui v2847 c2_i32_692
  let c4_i32_698 : BitVec 32 := 4#32
  let v2860 : BitVec 32 := Scalar.muli v2852 c4_i32_698
  let c7_i32_700 : BitVec 32 := 7#32
  let v2872 : BitVec 32 := Scalar.shrui v2860 c7_i32_700
  let c128_i32_708 : BitVec 32 := 128#32
  let v2904 : BitVec 32 := Scalar.muli v2872 c128_i32_708
  v2904
def k0_mult100 (v2847 : BitVec 32) : BitVec 32 :=
  let c2_i32_692 : BitVec 32 := 2#32
  let v2852 : BitVec 32 := Scalar.shrui v2847 c2_i32_692
  let c4_i32_698 : BitVec 32 := 4#32
  let v2860 : BitVec 32 := Scalar.muli v2852 c4_i32_698
  let c7_i32_700 : BitVec 32 := 7#32
  let v2872 : BitVec 32 := Scalar.shrui v2860 c7_i32_700
  let c1_i32_710 : BitVec 32 := 1#32
  let v2909 : BitVec 32 := Scalar.addi v2872 c1_i32_710
  let c128_i32_711 : BitVec 32 := 128#32
  let v2910 : BitVec 32 := Scalar.muli v2909 c128_i32_711
  v2910

def k0_chk52 (i : grid0.Coords) (v2847 : BitVec 32) : Prop :=
  (∀ (k0_h1 : k0_cond1 i = 1#1), 128 ∣ (k0_mult97 v2847).toNat) ∧
  (∀ (k0_h1 : k0_cond1 i = 1#1), ∀ a, (k0_off110 v2847) a + S1x128.size a ≤ S1x3100.size a) ∧
  (∀ (k0_h1 : k0_cond1 i = 1#1), 128 ∣ (k0_mult98 v2847).toNat) ∧
  (∀ (k0_h1 : k0_cond1 i = 1#1), ∀ a, (k0_off111 v2847) a + S1x128.size a ≤ S1x3100.size a) ∧
  (∀ (k0_h1 : k0_cond1 i = 1#1), 128 ∣ (k0_mult99 v2847).toNat) ∧
  (∀ (k0_h1 : k0_cond1 i = 1#1), 128 ∣ (k0_mult100 v2847).toNat)
theorem k0_mult97_dvd : ∀ (i : grid0.Coords) (v2847 : BitVec 32) (k0_hw52 : k0_chk52 i v2847), ∀ (k0_h1 : k0_cond1 i = 1#1), 128 ∣ (k0_mult97 v2847).toNat := fun i v2847 k0_hw52 k0_h1 => k0_hw52.1 k0_h1
theorem k0_off110_inb : ∀ (i : grid0.Coords) (v2847 : BitVec 32) (k0_hw52 : k0_chk52 i v2847), ∀ (k0_h1 : k0_cond1 i = 1#1), ∀ a, (k0_off110 v2847) a + S1x128.size a ≤ S1x3100.size a := fun i v2847 k0_hw52 k0_h1 => k0_hw52.2.1 k0_h1
theorem k0_mult98_dvd : ∀ (i : grid0.Coords) (v2847 : BitVec 32) (k0_hw52 : k0_chk52 i v2847), ∀ (k0_h1 : k0_cond1 i = 1#1), 128 ∣ (k0_mult98 v2847).toNat := fun i v2847 k0_hw52 k0_h1 => k0_hw52.2.2.1 k0_h1
theorem k0_off111_inb : ∀ (i : grid0.Coords) (v2847 : BitVec 32) (k0_hw52 : k0_chk52 i v2847), ∀ (k0_h1 : k0_cond1 i = 1#1), ∀ a, (k0_off111 v2847) a + S1x128.size a ≤ S1x3100.size a := fun i v2847 k0_hw52 k0_h1 => k0_hw52.2.2.2.1 k0_h1
theorem k0_mult99_dvd : ∀ (i : grid0.Coords) (v2847 : BitVec 32) (k0_hw52 : k0_chk52 i v2847), ∀ (k0_h1 : k0_cond1 i = 1#1), 128 ∣ (k0_mult99 v2847).toNat := fun i v2847 k0_hw52 k0_h1 => k0_hw52.2.2.2.2.1 k0_h1
theorem k0_mult100_dvd : ∀ (i : grid0.Coords) (v2847 : BitVec 32) (k0_hw52 : k0_chk52 i v2847), ∀ (k0_h1 : k0_cond1 i = 1#1), 128 ∣ (k0_mult100 v2847).toNat := fun i v2847 k0_hw52 k0_h1 => k0_hw52.2.2.2.2.2 k0_h1

def k0_off112 (v2845 : BitVec 32) : Fin 1 → Nat :=
  let v2950 : Index := Scalar.indexCast v2845
  ![v2950.toNat]

def k0_chk51 (i : grid0.Coords) (v2845 : BitVec 32) : Prop :=
  (∀ (k0_h1 : k0_cond1 i = 1#1), ∀ a, (k0_off109 v2845) a + S1.size a ≤ S41.size a) ∧
  (∀ (k0_h1 : k0_cond1 i = 1#1), ∀ a, (k0_off112 v2845) a + S1.size a ≤ S41.size a)
theorem k0_off109_inb : ∀ (i : grid0.Coords) (v2845 : BitVec 32) (k0_hw51 : k0_chk51 i v2845), ∀ (k0_h1 : k0_cond1 i = 1#1), ∀ a, (k0_off109 v2845) a + S1.size a ≤ S41.size a := fun i v2845 k0_hw51 k0_h1 => k0_hw51.1 k0_h1
theorem k0_off112_inb : ∀ (i : grid0.Coords) (v2845 : BitVec 32) (k0_hw51 : k0_chk51 i v2845), ∀ (k0_h1 : k0_cond1 i = 1#1), ∀ a, (k0_off112 v2845) a + S1.size a ≤ S41.size a := fun i v2845 k0_hw51 k0_h1 => k0_hw51.2 k0_h1

def k0_off113 (v2957 : BitVec 32) : Fin 1 → Nat :=
  let v2958 : Index := Scalar.indexCast v2957
  ![v2958.toNat]

def k0_mult101 (v2959 : BitVec 32) : BitVec 32 :=
  let c2_i32_718 : BitVec 32 := 2#32
  let v2964 : BitVec 32 := Scalar.shrui v2959 c2_i32_718
  let c4_i32_724 : BitVec 32 := 4#32
  let v2972 : BitVec 32 := Scalar.muli v2964 c4_i32_724
  let c7_i32_726 : BitVec 32 := 7#32
  let v2984 : BitVec 32 := Scalar.shrui v2972 c7_i32_726
  let c128_i32_729 : BitVec 32 := 128#32
  let v2991 : BitVec 32 := Scalar.muli v2984 c128_i32_729
  v2991

def k0_off114 (v2959 : BitVec 32) : Fin 2 → Nat :=
  let c0_730 : Index := 0#32
  let c2_i32_718 : BitVec 32 := 2#32
  let v2964 : BitVec 32 := Scalar.shrui v2959 c2_i32_718
  let c4_i32_724 : BitVec 32 := 4#32
  let v2972 : BitVec 32 := Scalar.muli v2964 c4_i32_724
  let c7_i32_726 : BitVec 32 := 7#32
  let v2984 : BitVec 32 := Scalar.shrui v2972 c7_i32_726
  let c128_i32_729 : BitVec 32 := 128#32
  let v2991 : BitVec 32 := Scalar.muli v2984 c128_i32_729
  let v2992 : BitVec 32 := v2991
  let v2993 : Index := Scalar.indexCast v2992
  ![0, v2993.toNat]
def k0_mult102 (v2959 : BitVec 32) : BitVec 32 :=
  let c2_i32_718 : BitVec 32 := 2#32
  let v2964 : BitVec 32 := Scalar.shrui v2959 c2_i32_718
  let c4_i32_724 : BitVec 32 := 4#32
  let v2972 : BitVec 32 := Scalar.muli v2964 c4_i32_724
  let c7_i32_726 : BitVec 32 := 7#32
  let v2984 : BitVec 32 := Scalar.shrui v2972 c7_i32_726
  let c1_i32_731 : BitVec 32 := 1#32
  let v2996 : BitVec 32 := Scalar.addi v2984 c1_i32_731
  let c128_i32_732 : BitVec 32 := 128#32
  let v2997 : BitVec 32 := Scalar.muli v2996 c128_i32_732
  v2997
def k0_off115 (v2959 : BitVec 32) : Fin 2 → Nat :=
  let c0_733 : Index := 0#32
  let c2_i32_718 : BitVec 32 := 2#32
  let v2964 : BitVec 32 := Scalar.shrui v2959 c2_i32_718
  let c4_i32_724 : BitVec 32 := 4#32
  let v2972 : BitVec 32 := Scalar.muli v2964 c4_i32_724
  let c7_i32_726 : BitVec 32 := 7#32
  let v2984 : BitVec 32 := Scalar.shrui v2972 c7_i32_726
  let c1_i32_731 : BitVec 32 := 1#32
  let v2996 : BitVec 32 := Scalar.addi v2984 c1_i32_731
  let c128_i32_732 : BitVec 32 := 128#32
  let v2997 : BitVec 32 := Scalar.muli v2996 c128_i32_732
  let v2998 : BitVec 32 := v2997
  let v2999 : Index := Scalar.indexCast v2998
  ![0, v2999.toNat]
def k0_mult103 (v2959 : BitVec 32) : BitVec 32 :=
  let c2_i32_718 : BitVec 32 := 2#32
  let v2964 : BitVec 32 := Scalar.shrui v2959 c2_i32_718
  let c4_i32_724 : BitVec 32 := 4#32
  let v2972 : BitVec 32 := Scalar.muli v2964 c4_i32_724
  let c7_i32_726 : BitVec 32 := 7#32
  let v2984 : BitVec 32 := Scalar.shrui v2972 c7_i32_726
  let c128_i32_734 : BitVec 32 := 128#32
  let v3016 : BitVec 32 := Scalar.muli v2984 c128_i32_734
  v3016
def k0_mult104 (v2959 : BitVec 32) : BitVec 32 :=
  let c2_i32_718 : BitVec 32 := 2#32
  let v2964 : BitVec 32 := Scalar.shrui v2959 c2_i32_718
  let c4_i32_724 : BitVec 32 := 4#32
  let v2972 : BitVec 32 := Scalar.muli v2964 c4_i32_724
  let c7_i32_726 : BitVec 32 := 7#32
  let v2984 : BitVec 32 := Scalar.shrui v2972 c7_i32_726
  let c1_i32_736 : BitVec 32 := 1#32
  let v3021 : BitVec 32 := Scalar.addi v2984 c1_i32_736
  let c128_i32_737 : BitVec 32 := 128#32
  let v3022 : BitVec 32 := Scalar.muli v3021 c128_i32_737
  v3022

def k0_chk54 (i : grid0.Coords) (v2959 : BitVec 32) : Prop :=
  (∀ (k0_h1 : k0_cond1 i = 1#1), 128 ∣ (k0_mult101 v2959).toNat) ∧
  (∀ (k0_h1 : k0_cond1 i = 1#1), ∀ a, (k0_off114 v2959) a + S1x128.size a ≤ S1x3100.size a) ∧
  (∀ (k0_h1 : k0_cond1 i = 1#1), 128 ∣ (k0_mult102 v2959).toNat) ∧
  (∀ (k0_h1 : k0_cond1 i = 1#1), ∀ a, (k0_off115 v2959) a + S1x128.size a ≤ S1x3100.size a) ∧
  (∀ (k0_h1 : k0_cond1 i = 1#1), 128 ∣ (k0_mult103 v2959).toNat) ∧
  (∀ (k0_h1 : k0_cond1 i = 1#1), 128 ∣ (k0_mult104 v2959).toNat)
theorem k0_mult101_dvd : ∀ (i : grid0.Coords) (v2959 : BitVec 32) (k0_hw54 : k0_chk54 i v2959), ∀ (k0_h1 : k0_cond1 i = 1#1), 128 ∣ (k0_mult101 v2959).toNat := fun i v2959 k0_hw54 k0_h1 => k0_hw54.1 k0_h1
theorem k0_off114_inb : ∀ (i : grid0.Coords) (v2959 : BitVec 32) (k0_hw54 : k0_chk54 i v2959), ∀ (k0_h1 : k0_cond1 i = 1#1), ∀ a, (k0_off114 v2959) a + S1x128.size a ≤ S1x3100.size a := fun i v2959 k0_hw54 k0_h1 => k0_hw54.2.1 k0_h1
theorem k0_mult102_dvd : ∀ (i : grid0.Coords) (v2959 : BitVec 32) (k0_hw54 : k0_chk54 i v2959), ∀ (k0_h1 : k0_cond1 i = 1#1), 128 ∣ (k0_mult102 v2959).toNat := fun i v2959 k0_hw54 k0_h1 => k0_hw54.2.2.1 k0_h1
theorem k0_off115_inb : ∀ (i : grid0.Coords) (v2959 : BitVec 32) (k0_hw54 : k0_chk54 i v2959), ∀ (k0_h1 : k0_cond1 i = 1#1), ∀ a, (k0_off115 v2959) a + S1x128.size a ≤ S1x3100.size a := fun i v2959 k0_hw54 k0_h1 => k0_hw54.2.2.2.1 k0_h1
theorem k0_mult103_dvd : ∀ (i : grid0.Coords) (v2959 : BitVec 32) (k0_hw54 : k0_chk54 i v2959), ∀ (k0_h1 : k0_cond1 i = 1#1), 128 ∣ (k0_mult103 v2959).toNat := fun i v2959 k0_hw54 k0_h1 => k0_hw54.2.2.2.2.1 k0_h1
theorem k0_mult104_dvd : ∀ (i : grid0.Coords) (v2959 : BitVec 32) (k0_hw54 : k0_chk54 i v2959), ∀ (k0_h1 : k0_cond1 i = 1#1), 128 ∣ (k0_mult104 v2959).toNat := fun i v2959 k0_hw54 k0_h1 => k0_hw54.2.2.2.2.2 k0_h1

def k0_off116 (v2957 : BitVec 32) : Fin 1 → Nat :=
  let v3062 : Index := Scalar.indexCast v2957
  ![v3062.toNat]

def k0_chk53 (i : grid0.Coords) (v2957 : BitVec 32) : Prop :=
  (∀ (k0_h1 : k0_cond1 i = 1#1), ∀ a, (k0_off113 v2957) a + S1.size a ≤ S41.size a) ∧
  (∀ (k0_h1 : k0_cond1 i = 1#1), ∀ a, (k0_off116 v2957) a + S1.size a ≤ S41.size a)
theorem k0_off113_inb : ∀ (i : grid0.Coords) (v2957 : BitVec 32) (k0_hw53 : k0_chk53 i v2957), ∀ (k0_h1 : k0_cond1 i = 1#1), ∀ a, (k0_off113 v2957) a + S1.size a ≤ S41.size a := fun i v2957 k0_hw53 k0_h1 => k0_hw53.1 k0_h1
theorem k0_off116_inb : ∀ (i : grid0.Coords) (v2957 : BitVec 32) (k0_hw53 : k0_chk53 i v2957), ∀ (k0_h1 : k0_cond1 i = 1#1), ∀ a, (k0_off116 v2957) a + S1.size a ≤ S41.size a := fun i v2957 k0_hw53 k0_h1 => k0_hw53.2 k0_h1

def k0_off117 (v3069 : BitVec 32) : Fin 1 → Nat :=
  let v3070 : Index := Scalar.indexCast v3069
  ![v3070.toNat]

def k0_mult105 (v3071 : BitVec 32) : BitVec 32 :=
  let c2_i32_744 : BitVec 32 := 2#32
  let v3076 : BitVec 32 := Scalar.shrui v3071 c2_i32_744
  let c4_i32_750 : BitVec 32 := 4#32
  let v3084 : BitVec 32 := Scalar.muli v3076 c4_i32_750
  let c7_i32_752 : BitVec 32 := 7#32
  let v3096 : BitVec 32 := Scalar.shrui v3084 c7_i32_752
  let c128_i32_755 : BitVec 32 := 128#32
  let v3103 : BitVec 32 := Scalar.muli v3096 c128_i32_755
  v3103

def k0_off118 (v3071 : BitVec 32) : Fin 2 → Nat :=
  let c0_756 : Index := 0#32
  let c2_i32_744 : BitVec 32 := 2#32
  let v3076 : BitVec 32 := Scalar.shrui v3071 c2_i32_744
  let c4_i32_750 : BitVec 32 := 4#32
  let v3084 : BitVec 32 := Scalar.muli v3076 c4_i32_750
  let c7_i32_752 : BitVec 32 := 7#32
  let v3096 : BitVec 32 := Scalar.shrui v3084 c7_i32_752
  let c128_i32_755 : BitVec 32 := 128#32
  let v3103 : BitVec 32 := Scalar.muli v3096 c128_i32_755
  let v3104 : BitVec 32 := v3103
  let v3105 : Index := Scalar.indexCast v3104
  ![0, v3105.toNat]
def k0_mult106 (v3071 : BitVec 32) : BitVec 32 :=
  let c2_i32_744 : BitVec 32 := 2#32
  let v3076 : BitVec 32 := Scalar.shrui v3071 c2_i32_744
  let c4_i32_750 : BitVec 32 := 4#32
  let v3084 : BitVec 32 := Scalar.muli v3076 c4_i32_750
  let c7_i32_752 : BitVec 32 := 7#32
  let v3096 : BitVec 32 := Scalar.shrui v3084 c7_i32_752
  let c1_i32_757 : BitVec 32 := 1#32
  let v3108 : BitVec 32 := Scalar.addi v3096 c1_i32_757
  let c128_i32_758 : BitVec 32 := 128#32
  let v3109 : BitVec 32 := Scalar.muli v3108 c128_i32_758
  v3109
def k0_off119 (v3071 : BitVec 32) : Fin 2 → Nat :=
  let c0_759 : Index := 0#32
  let c2_i32_744 : BitVec 32 := 2#32
  let v3076 : BitVec 32 := Scalar.shrui v3071 c2_i32_744
  let c4_i32_750 : BitVec 32 := 4#32
  let v3084 : BitVec 32 := Scalar.muli v3076 c4_i32_750
  let c7_i32_752 : BitVec 32 := 7#32
  let v3096 : BitVec 32 := Scalar.shrui v3084 c7_i32_752
  let c1_i32_757 : BitVec 32 := 1#32
  let v3108 : BitVec 32 := Scalar.addi v3096 c1_i32_757
  let c128_i32_758 : BitVec 32 := 128#32
  let v3109 : BitVec 32 := Scalar.muli v3108 c128_i32_758
  let v3110 : BitVec 32 := v3109
  let v3111 : Index := Scalar.indexCast v3110
  ![0, v3111.toNat]
def k0_mult107 (v3071 : BitVec 32) : BitVec 32 :=
  let c2_i32_744 : BitVec 32 := 2#32
  let v3076 : BitVec 32 := Scalar.shrui v3071 c2_i32_744
  let c4_i32_750 : BitVec 32 := 4#32
  let v3084 : BitVec 32 := Scalar.muli v3076 c4_i32_750
  let c7_i32_752 : BitVec 32 := 7#32
  let v3096 : BitVec 32 := Scalar.shrui v3084 c7_i32_752
  let c128_i32_760 : BitVec 32 := 128#32
  let v3128 : BitVec 32 := Scalar.muli v3096 c128_i32_760
  v3128
def k0_mult108 (v3071 : BitVec 32) : BitVec 32 :=
  let c2_i32_744 : BitVec 32 := 2#32
  let v3076 : BitVec 32 := Scalar.shrui v3071 c2_i32_744
  let c4_i32_750 : BitVec 32 := 4#32
  let v3084 : BitVec 32 := Scalar.muli v3076 c4_i32_750
  let c7_i32_752 : BitVec 32 := 7#32
  let v3096 : BitVec 32 := Scalar.shrui v3084 c7_i32_752
  let c1_i32_762 : BitVec 32 := 1#32
  let v3133 : BitVec 32 := Scalar.addi v3096 c1_i32_762
  let c128_i32_763 : BitVec 32 := 128#32
  let v3134 : BitVec 32 := Scalar.muli v3133 c128_i32_763
  v3134

def k0_chk56 (i : grid0.Coords) (v3071 : BitVec 32) : Prop :=
  (∀ (k0_h1 : k0_cond1 i = 1#1), 128 ∣ (k0_mult105 v3071).toNat) ∧
  (∀ (k0_h1 : k0_cond1 i = 1#1), ∀ a, (k0_off118 v3071) a + S1x128.size a ≤ S1x3100.size a) ∧
  (∀ (k0_h1 : k0_cond1 i = 1#1), 128 ∣ (k0_mult106 v3071).toNat) ∧
  (∀ (k0_h1 : k0_cond1 i = 1#1), ∀ a, (k0_off119 v3071) a + S1x128.size a ≤ S1x3100.size a) ∧
  (∀ (k0_h1 : k0_cond1 i = 1#1), 128 ∣ (k0_mult107 v3071).toNat) ∧
  (∀ (k0_h1 : k0_cond1 i = 1#1), 128 ∣ (k0_mult108 v3071).toNat)
theorem k0_mult105_dvd : ∀ (i : grid0.Coords) (v3071 : BitVec 32) (k0_hw56 : k0_chk56 i v3071), ∀ (k0_h1 : k0_cond1 i = 1#1), 128 ∣ (k0_mult105 v3071).toNat := fun i v3071 k0_hw56 k0_h1 => k0_hw56.1 k0_h1
theorem k0_off118_inb : ∀ (i : grid0.Coords) (v3071 : BitVec 32) (k0_hw56 : k0_chk56 i v3071), ∀ (k0_h1 : k0_cond1 i = 1#1), ∀ a, (k0_off118 v3071) a + S1x128.size a ≤ S1x3100.size a := fun i v3071 k0_hw56 k0_h1 => k0_hw56.2.1 k0_h1
theorem k0_mult106_dvd : ∀ (i : grid0.Coords) (v3071 : BitVec 32) (k0_hw56 : k0_chk56 i v3071), ∀ (k0_h1 : k0_cond1 i = 1#1), 128 ∣ (k0_mult106 v3071).toNat := fun i v3071 k0_hw56 k0_h1 => k0_hw56.2.2.1 k0_h1
theorem k0_off119_inb : ∀ (i : grid0.Coords) (v3071 : BitVec 32) (k0_hw56 : k0_chk56 i v3071), ∀ (k0_h1 : k0_cond1 i = 1#1), ∀ a, (k0_off119 v3071) a + S1x128.size a ≤ S1x3100.size a := fun i v3071 k0_hw56 k0_h1 => k0_hw56.2.2.2.1 k0_h1
theorem k0_mult107_dvd : ∀ (i : grid0.Coords) (v3071 : BitVec 32) (k0_hw56 : k0_chk56 i v3071), ∀ (k0_h1 : k0_cond1 i = 1#1), 128 ∣ (k0_mult107 v3071).toNat := fun i v3071 k0_hw56 k0_h1 => k0_hw56.2.2.2.2.1 k0_h1
theorem k0_mult108_dvd : ∀ (i : grid0.Coords) (v3071 : BitVec 32) (k0_hw56 : k0_chk56 i v3071), ∀ (k0_h1 : k0_cond1 i = 1#1), 128 ∣ (k0_mult108 v3071).toNat := fun i v3071 k0_hw56 k0_h1 => k0_hw56.2.2.2.2.2 k0_h1

def k0_off120 (v3069 : BitVec 32) : Fin 1 → Nat :=
  let v3174 : Index := Scalar.indexCast v3069
  ![v3174.toNat]

def k0_chk55 (i : grid0.Coords) (v3069 : BitVec 32) : Prop :=
  (∀ (k0_h1 : k0_cond1 i = 1#1), ∀ a, (k0_off117 v3069) a + S1.size a ≤ S41.size a) ∧
  (∀ (k0_h1 : k0_cond1 i = 1#1), ∀ a, (k0_off120 v3069) a + S1.size a ≤ S41.size a)
theorem k0_off117_inb : ∀ (i : grid0.Coords) (v3069 : BitVec 32) (k0_hw55 : k0_chk55 i v3069), ∀ (k0_h1 : k0_cond1 i = 1#1), ∀ a, (k0_off117 v3069) a + S1.size a ≤ S41.size a := fun i v3069 k0_hw55 k0_h1 => k0_hw55.1 k0_h1
theorem k0_off120_inb : ∀ (i : grid0.Coords) (v3069 : BitVec 32) (k0_hw55 : k0_chk55 i v3069), ∀ (k0_h1 : k0_cond1 i = 1#1), ∀ a, (k0_off120 v3069) a + S1.size a ≤ S41.size a := fun i v3069 k0_hw55 k0_h1 => k0_hw55.2 k0_h1

@[reducible] def k0_t4_loop (v136 : BitVec 32) : Scf.Loop 32 :=
  let c0_i32_808 : BitVec 32 := 0#32
  let v3326 : BitVec 32 := Scalar.subi v136 c0_i32_808
  let c1_i32_809 : BitVec 32 := 1#32
  let v3328 : BitVec 32 := Scalar.divsi v3326 c1_i32_809
  let v3329 : BitVec 32 := Scalar.muli v3328 c1_i32_809
  let v3330 : BitVec 32 := Scalar.addi c0_i32_808 v3329
  let c1_i32_810 : BitVec 32 := 1#32
  ⟨c0_i32_808, v3330, c1_i32_810⟩

def k0_off121 (v136 : BitVec 32) (k0_t4 : Fin (k0_t4_loop v136).trips) : Fin 2 → Nat :=
  let c0_i32_808 : BitVec 32 := 0#32
  let c1_i32_810 : BitVec 32 := 1#32
  let arg25 : BitVec 32 := Scf.iv c0_i32_808 c1_i32_810 k0_t4
  let c4_i32_824 : BitVec 32 := 4#32
  let v3348 : BitVec 32 := Scalar.muli arg25 c4_i32_824
  let c0_i32_825 : BitVec 32 := 0#32
  ![v3348.toNat, 0]
def k0_off122 (v136 : BitVec 32) (k0_t4 : Fin (k0_t4_loop v136).trips) : Fin 2 → Nat :=
  let c0_i32_808 : BitVec 32 := 0#32
  let c1_i32_810 : BitVec 32 := 1#32
  let arg25 : BitVec 32 := Scf.iv c0_i32_808 c1_i32_810 k0_t4
  let c4_i32_828 : BitVec 32 := 4#32
  let v3351 : BitVec 32 := Scalar.muli arg25 c4_i32_828
  let c0_i32_829 : BitVec 32 := 0#32
  ![v3351.toNat, 0]
@[reducible] def k0_t5_loop (v136 : BitVec 32) : Scf.Loop 32 :=
  let c0_i32_808 : BitVec 32 := 0#32
  let v3326 : BitVec 32 := Scalar.subi v136 c0_i32_808
  let c1_i32_809 : BitVec 32 := 1#32
  let v3328 : BitVec 32 := Scalar.divsi v3326 c1_i32_809
  let v3329 : BitVec 32 := Scalar.muli v3328 c1_i32_809
  let v3330 : BitVec 32 := Scalar.addi c0_i32_808 v3329
  let v3327 : BitVec 32 := Scalar.addi c0_i32_808 v3326
  let c1_i32_811 : BitVec 32 := 1#32
  ⟨v3330, v3327, c1_i32_811⟩
def k0_off123 (v136 : BitVec 32) (k0_t5 : Fin (k0_t5_loop v136).trips) : Fin 2 → Nat :=
  let c0_i32_808 : BitVec 32 := 0#32
  let v3326 : BitVec 32 := Scalar.subi v136 c0_i32_808
  let c1_i32_809 : BitVec 32 := 1#32
  let v3328 : BitVec 32 := Scalar.divsi v3326 c1_i32_809
  let v3329 : BitVec 32 := Scalar.muli v3328 c1_i32_809
  let v3330 : BitVec 32 := Scalar.addi c0_i32_808 v3329
  let c1_i32_811 : BitVec 32 := 1#32
  let arg25 : BitVec 32 := Scf.iv v3330 c1_i32_811 k0_t5
  let c4_i32_824 : BitVec 32 := 4#32
  let v3348 : BitVec 32 := Scalar.muli arg25 c4_i32_824
  let c0_i32_825 : BitVec 32 := 0#32
  ![v3348.toNat, 0]
def k0_off124 (v136 : BitVec 32) (k0_t5 : Fin (k0_t5_loop v136).trips) : Fin 2 → Nat :=
  let c0_i32_808 : BitVec 32 := 0#32
  let v3326 : BitVec 32 := Scalar.subi v136 c0_i32_808
  let c1_i32_809 : BitVec 32 := 1#32
  let v3328 : BitVec 32 := Scalar.divsi v3326 c1_i32_809
  let v3329 : BitVec 32 := Scalar.muli v3328 c1_i32_809
  let v3330 : BitVec 32 := Scalar.addi c0_i32_808 v3329
  let c1_i32_811 : BitVec 32 := 1#32
  let arg25 : BitVec 32 := Scf.iv v3330 c1_i32_811 k0_t5
  let c4_i32_828 : BitVec 32 := 4#32
  let v3351 : BitVec 32 := Scalar.muli arg25 c4_i32_828
  let c0_i32_829 : BitVec 32 := 0#32
  ![v3351.toNat, 0]
@[reducible] def k0_t6_loop (v136 : BitVec 32) : Scf.Loop 32 :=
  let c0_i32_818 : BitVec 32 := 0#32
  let c4_i32_816 : BitVec 32 := 4#32
  let v3335 : BitVec 32 := Scalar.muli v136 c4_i32_816
  let c255_i32 : BitVec 32 := 255#32
  let v3336 : BitVec 32 := Scalar.addi v3335 c255_i32
  let c8_i32 : BitVec 32 := 8#32
  let v3337 : BitVec 32 := Scalar.shrui v3336 c8_i32
  let v3339 : BitVec 32 := Scalar.subi v3337 c0_i32_818
  let c1_i32_819 : BitVec 32 := 1#32
  let v3341 : BitVec 32 := Scalar.divsi v3339 c1_i32_819
  let v3342 : BitVec 32 := Scalar.muli v3341 c1_i32_819
  let v3343 : BitVec 32 := Scalar.addi c0_i32_818 v3342
  let c1_i32_820 : BitVec 32 := 1#32
  ⟨c0_i32_818, v3343, c1_i32_820⟩
def k0_mult109 (v136 : BitVec 32) (k0_t6 : Fin (k0_t6_loop v136).trips) : BitVec 32 :=
  let c0_i32_818 : BitVec 32 := 0#32
  let c1_i32_820 : BitVec 32 := 1#32
  let arg25 : BitVec 32 := Scf.iv c0_i32_818 c1_i32_820 k0_t6
  let c256_i32_825 : BitVec 32 := 256#32
  let v3349 : BitVec 32 := Scalar.muli arg25 c256_i32_825
  v3349
def k0_off125 (v136 : BitVec 32) (k0_t6 : Fin (k0_t6_loop v136).trips) : Fin 2 → Nat :=
  let c0_i32_818 : BitVec 32 := 0#32
  let c1_i32_820 : BitVec 32 := 1#32
  let arg25 : BitVec 32 := Scf.iv c0_i32_818 c1_i32_820 k0_t6
  let c256_i32_825 : BitVec 32 := 256#32
  let v3349 : BitVec 32 := Scalar.muli arg25 c256_i32_825
  let v3350 : BitVec 32 := v3349
  let v3351 : Index := Scalar.indexCast v3350
  let c0_826 : Index := 0#32
  ![v3351.toNat, 0]
def k0_off126 (v136 : BitVec 32) (k0_t6 : Fin (k0_t6_loop v136).trips) : Fin 2 → Nat :=
  let c0_i32_818 : BitVec 32 := 0#32
  let c1_i32_820 : BitVec 32 := 1#32
  let arg25 : BitVec 32 := Scf.iv c0_i32_818 c1_i32_820 k0_t6
  let c256_i32_825 : BitVec 32 := 256#32
  let v3349 : BitVec 32 := Scalar.muli arg25 c256_i32_825
  let v3350 : BitVec 32 := v3349
  let v3358 : Index := Scalar.indexCast v3350
  let c1024_830 : Index := 1024#32
  ![v3358.toNat, 1024]
def k0_off127 (v136 : BitVec 32) (k0_t6 : Fin (k0_t6_loop v136).trips) : Fin 2 → Nat :=
  let c0_i32_818 : BitVec 32 := 0#32
  let c1_i32_820 : BitVec 32 := 1#32
  let arg25 : BitVec 32 := Scf.iv c0_i32_818 c1_i32_820 k0_t6
  let c256_i32_825 : BitVec 32 := 256#32
  let v3349 : BitVec 32 := Scalar.muli arg25 c256_i32_825
  let v3350 : BitVec 32 := v3349
  let v3365 : Index := Scalar.indexCast v3350
  let c2048 : Index := 2048#32
  ![v3365.toNat, 2048]
def k0_off128 (v136 : BitVec 32) (k0_t6 : Fin (k0_t6_loop v136).trips) : Fin 2 → Nat :=
  let c0_i32_818 : BitVec 32 := 0#32
  let c1_i32_820 : BitVec 32 := 1#32
  let arg25 : BitVec 32 := Scf.iv c0_i32_818 c1_i32_820 k0_t6
  let c256_i32_825 : BitVec 32 := 256#32
  let v3349 : BitVec 32 := Scalar.muli arg25 c256_i32_825
  let v3350 : BitVec 32 := v3349
  let v3372 : Index := Scalar.indexCast v3350
  let c3072 : Index := 3072#32
  ![v3372.toNat, 3072]
def k0_off129 (v136 : BitVec 32) (k0_t6 : Fin (k0_t6_loop v136).trips) : Fin 2 → Nat :=
  let c0_i32_818 : BitVec 32 := 0#32
  let c1_i32_820 : BitVec 32 := 1#32
  let arg25 : BitVec 32 := Scf.iv c0_i32_818 c1_i32_820 k0_t6
  let c256_i32_825 : BitVec 32 := 256#32
  let v3349 : BitVec 32 := Scalar.muli arg25 c256_i32_825
  let v3350 : BitVec 32 := v3349
  let v3379 : Index := Scalar.indexCast v3350
  let c4096 : Index := 4096#32
  ![v3379.toNat, 4096]
def k0_off130 (v136 : BitVec 32) (k0_t6 : Fin (k0_t6_loop v136).trips) : Fin 2 → Nat :=
  let c0_i32_818 : BitVec 32 := 0#32
  let c1_i32_820 : BitVec 32 := 1#32
  let arg25 : BitVec 32 := Scf.iv c0_i32_818 c1_i32_820 k0_t6
  let c256_i32_825 : BitVec 32 := 256#32
  let v3349 : BitVec 32 := Scalar.muli arg25 c256_i32_825
  let v3350 : BitVec 32 := v3349
  let v3386 : Index := Scalar.indexCast v3350
  let c5120 : Index := 5120#32
  ![v3386.toNat, 5120]
def k0_off131 (v136 : BitVec 32) (k0_t6 : Fin (k0_t6_loop v136).trips) : Fin 2 → Nat :=
  let c0_i32_818 : BitVec 32 := 0#32
  let c1_i32_820 : BitVec 32 := 1#32
  let arg25 : BitVec 32 := Scf.iv c0_i32_818 c1_i32_820 k0_t6
  let c256_i32_825 : BitVec 32 := 256#32
  let v3349 : BitVec 32 := Scalar.muli arg25 c256_i32_825
  let v3350 : BitVec 32 := v3349
  let v3393 : Index := Scalar.indexCast v3350
  let c6144 : Index := 6144#32
  ![v3393.toNat, 6144]
def k0_off132 (v136 : BitVec 32) (k0_t6 : Fin (k0_t6_loop v136).trips) (c0_i32_850 : BitVec 32) : Fin 2 → Nat :=
  let c0_i32_818 : BitVec 32 := 0#32
  let c1_i32_820 : BitVec 32 := 1#32
  let arg25 : BitVec 32 := Scf.iv c0_i32_818 c1_i32_820 k0_t6
  let c2_i32_849 : BitVec 32 := 2#32
  let v3400 : BitVec 32 := Scalar.muli arg25 c2_i32_849
  let v3401 : BitVec 32 := Scalar.addi v3400 c0_i32_850
  let v3408 : Index := Scalar.indexCast v3401
  let c0_852 : Index := 0#32
  ![v3408.toNat, 0]
def k0_off133 (v136 : BitVec 32) (k0_t6 : Fin (k0_t6_loop v136).trips) : Fin 3 → Nat :=
  let c0_i32_818 : BitVec 32 := 0#32
  let c1_i32_820 : BitVec 32 := 1#32
  let arg25 : BitVec 32 := Scf.iv c0_i32_818 c1_i32_820 k0_t6
  let v3470 : Index := Scalar.indexCast arg25
  let c0_883 : Index := 0#32
  let c0_884 : Index := 0#32
  ![v3470.toNat, 0, 0]
@[reducible] def k0_t7_loop (v136 : BitVec 32) : Scf.Loop 32 :=
  let c0_i32_818 : BitVec 32 := 0#32
  let c4_i32_816 : BitVec 32 := 4#32
  let v3335 : BitVec 32 := Scalar.muli v136 c4_i32_816
  let c255_i32 : BitVec 32 := 255#32
  let v3336 : BitVec 32 := Scalar.addi v3335 c255_i32
  let c8_i32 : BitVec 32 := 8#32
  let v3337 : BitVec 32 := Scalar.shrui v3336 c8_i32
  let v3339 : BitVec 32 := Scalar.subi v3337 c0_i32_818
  let c1_i32_819 : BitVec 32 := 1#32
  let v3341 : BitVec 32 := Scalar.divsi v3339 c1_i32_819
  let v3342 : BitVec 32 := Scalar.muli v3341 c1_i32_819
  let v3343 : BitVec 32 := Scalar.addi c0_i32_818 v3342
  let v3340 : BitVec 32 := Scalar.addi c0_i32_818 v3339
  let c1_i32_821 : BitVec 32 := 1#32
  ⟨v3343, v3340, c1_i32_821⟩
def k0_mult110 (v136 : BitVec 32) (k0_t7 : Fin (k0_t7_loop v136).trips) : BitVec 32 :=
  let c0_i32_818 : BitVec 32 := 0#32
  let c4_i32_816 : BitVec 32 := 4#32
  let v3335 : BitVec 32 := Scalar.muli v136 c4_i32_816
  let c255_i32 : BitVec 32 := 255#32
  let v3336 : BitVec 32 := Scalar.addi v3335 c255_i32
  let c8_i32 : BitVec 32 := 8#32
  let v3337 : BitVec 32 := Scalar.shrui v3336 c8_i32
  let v3339 : BitVec 32 := Scalar.subi v3337 c0_i32_818
  let c1_i32_819 : BitVec 32 := 1#32
  let v3341 : BitVec 32 := Scalar.divsi v3339 c1_i32_819
  let v3342 : BitVec 32 := Scalar.muli v3341 c1_i32_819
  let v3343 : BitVec 32 := Scalar.addi c0_i32_818 v3342
  let c1_i32_821 : BitVec 32 := 1#32
  let arg25 : BitVec 32 := Scf.iv v3343 c1_i32_821 k0_t7
  let c256_i32_825 : BitVec 32 := 256#32
  let v3349 : BitVec 32 := Scalar.muli arg25 c256_i32_825
  v3349
def k0_off134 (v136 : BitVec 32) (k0_t7 : Fin (k0_t7_loop v136).trips) : Fin 2 → Nat :=
  let c0_i32_818 : BitVec 32 := 0#32
  let c4_i32_816 : BitVec 32 := 4#32
  let v3335 : BitVec 32 := Scalar.muli v136 c4_i32_816
  let c255_i32 : BitVec 32 := 255#32
  let v3336 : BitVec 32 := Scalar.addi v3335 c255_i32
  let c8_i32 : BitVec 32 := 8#32
  let v3337 : BitVec 32 := Scalar.shrui v3336 c8_i32
  let v3339 : BitVec 32 := Scalar.subi v3337 c0_i32_818
  let c1_i32_819 : BitVec 32 := 1#32
  let v3341 : BitVec 32 := Scalar.divsi v3339 c1_i32_819
  let v3342 : BitVec 32 := Scalar.muli v3341 c1_i32_819
  let v3343 : BitVec 32 := Scalar.addi c0_i32_818 v3342
  let c1_i32_821 : BitVec 32 := 1#32
  let arg25 : BitVec 32 := Scf.iv v3343 c1_i32_821 k0_t7
  let c256_i32_825 : BitVec 32 := 256#32
  let v3349 : BitVec 32 := Scalar.muli arg25 c256_i32_825
  let v3350 : BitVec 32 := v3349
  let v3351 : Index := Scalar.indexCast v3350
  let c0_826 : Index := 0#32
  ![v3351.toNat, 0]
def k0_off135 (v136 : BitVec 32) (k0_t7 : Fin (k0_t7_loop v136).trips) : Fin 2 → Nat :=
  let c0_i32_818 : BitVec 32 := 0#32
  let c4_i32_816 : BitVec 32 := 4#32
  let v3335 : BitVec 32 := Scalar.muli v136 c4_i32_816
  let c255_i32 : BitVec 32 := 255#32
  let v3336 : BitVec 32 := Scalar.addi v3335 c255_i32
  let c8_i32 : BitVec 32 := 8#32
  let v3337 : BitVec 32 := Scalar.shrui v3336 c8_i32
  let v3339 : BitVec 32 := Scalar.subi v3337 c0_i32_818
  let c1_i32_819 : BitVec 32 := 1#32
  let v3341 : BitVec 32 := Scalar.divsi v3339 c1_i32_819
  let v3342 : BitVec 32 := Scalar.muli v3341 c1_i32_819
  let v3343 : BitVec 32 := Scalar.addi c0_i32_818 v3342
  let c1_i32_821 : BitVec 32 := 1#32
  let arg25 : BitVec 32 := Scf.iv v3343 c1_i32_821 k0_t7
  let c256_i32_825 : BitVec 32 := 256#32
  let v3349 : BitVec 32 := Scalar.muli arg25 c256_i32_825
  let v3350 : BitVec 32 := v3349
  let v3358 : Index := Scalar.indexCast v3350
  let c1024_830 : Index := 1024#32
  ![v3358.toNat, 1024]
def k0_off136 (v136 : BitVec 32) (k0_t7 : Fin (k0_t7_loop v136).trips) : Fin 2 → Nat :=
  let c0_i32_818 : BitVec 32 := 0#32
  let c4_i32_816 : BitVec 32 := 4#32
  let v3335 : BitVec 32 := Scalar.muli v136 c4_i32_816
  let c255_i32 : BitVec 32 := 255#32
  let v3336 : BitVec 32 := Scalar.addi v3335 c255_i32
  let c8_i32 : BitVec 32 := 8#32
  let v3337 : BitVec 32 := Scalar.shrui v3336 c8_i32
  let v3339 : BitVec 32 := Scalar.subi v3337 c0_i32_818
  let c1_i32_819 : BitVec 32 := 1#32
  let v3341 : BitVec 32 := Scalar.divsi v3339 c1_i32_819
  let v3342 : BitVec 32 := Scalar.muli v3341 c1_i32_819
  let v3343 : BitVec 32 := Scalar.addi c0_i32_818 v3342
  let c1_i32_821 : BitVec 32 := 1#32
  let arg25 : BitVec 32 := Scf.iv v3343 c1_i32_821 k0_t7
  let c256_i32_825 : BitVec 32 := 256#32
  let v3349 : BitVec 32 := Scalar.muli arg25 c256_i32_825
  let v3350 : BitVec 32 := v3349
  let v3365 : Index := Scalar.indexCast v3350
  let c2048 : Index := 2048#32
  ![v3365.toNat, 2048]
def k0_off137 (v136 : BitVec 32) (k0_t7 : Fin (k0_t7_loop v136).trips) : Fin 2 → Nat :=
  let c0_i32_818 : BitVec 32 := 0#32
  let c4_i32_816 : BitVec 32 := 4#32
  let v3335 : BitVec 32 := Scalar.muli v136 c4_i32_816
  let c255_i32 : BitVec 32 := 255#32
  let v3336 : BitVec 32 := Scalar.addi v3335 c255_i32
  let c8_i32 : BitVec 32 := 8#32
  let v3337 : BitVec 32 := Scalar.shrui v3336 c8_i32
  let v3339 : BitVec 32 := Scalar.subi v3337 c0_i32_818
  let c1_i32_819 : BitVec 32 := 1#32
  let v3341 : BitVec 32 := Scalar.divsi v3339 c1_i32_819
  let v3342 : BitVec 32 := Scalar.muli v3341 c1_i32_819
  let v3343 : BitVec 32 := Scalar.addi c0_i32_818 v3342
  let c1_i32_821 : BitVec 32 := 1#32
  let arg25 : BitVec 32 := Scf.iv v3343 c1_i32_821 k0_t7
  let c256_i32_825 : BitVec 32 := 256#32
  let v3349 : BitVec 32 := Scalar.muli arg25 c256_i32_825
  let v3350 : BitVec 32 := v3349
  let v3372 : Index := Scalar.indexCast v3350
  let c3072 : Index := 3072#32
  ![v3372.toNat, 3072]
def k0_off138 (v136 : BitVec 32) (k0_t7 : Fin (k0_t7_loop v136).trips) : Fin 2 → Nat :=
  let c0_i32_818 : BitVec 32 := 0#32
  let c4_i32_816 : BitVec 32 := 4#32
  let v3335 : BitVec 32 := Scalar.muli v136 c4_i32_816
  let c255_i32 : BitVec 32 := 255#32
  let v3336 : BitVec 32 := Scalar.addi v3335 c255_i32
  let c8_i32 : BitVec 32 := 8#32
  let v3337 : BitVec 32 := Scalar.shrui v3336 c8_i32
  let v3339 : BitVec 32 := Scalar.subi v3337 c0_i32_818
  let c1_i32_819 : BitVec 32 := 1#32
  let v3341 : BitVec 32 := Scalar.divsi v3339 c1_i32_819
  let v3342 : BitVec 32 := Scalar.muli v3341 c1_i32_819
  let v3343 : BitVec 32 := Scalar.addi c0_i32_818 v3342
  let c1_i32_821 : BitVec 32 := 1#32
  let arg25 : BitVec 32 := Scf.iv v3343 c1_i32_821 k0_t7
  let c256_i32_825 : BitVec 32 := 256#32
  let v3349 : BitVec 32 := Scalar.muli arg25 c256_i32_825
  let v3350 : BitVec 32 := v3349
  let v3379 : Index := Scalar.indexCast v3350
  let c4096 : Index := 4096#32
  ![v3379.toNat, 4096]
def k0_off139 (v136 : BitVec 32) (k0_t7 : Fin (k0_t7_loop v136).trips) : Fin 2 → Nat :=
  let c0_i32_818 : BitVec 32 := 0#32
  let c4_i32_816 : BitVec 32 := 4#32
  let v3335 : BitVec 32 := Scalar.muli v136 c4_i32_816
  let c255_i32 : BitVec 32 := 255#32
  let v3336 : BitVec 32 := Scalar.addi v3335 c255_i32
  let c8_i32 : BitVec 32 := 8#32
  let v3337 : BitVec 32 := Scalar.shrui v3336 c8_i32
  let v3339 : BitVec 32 := Scalar.subi v3337 c0_i32_818
  let c1_i32_819 : BitVec 32 := 1#32
  let v3341 : BitVec 32 := Scalar.divsi v3339 c1_i32_819
  let v3342 : BitVec 32 := Scalar.muli v3341 c1_i32_819
  let v3343 : BitVec 32 := Scalar.addi c0_i32_818 v3342
  let c1_i32_821 : BitVec 32 := 1#32
  let arg25 : BitVec 32 := Scf.iv v3343 c1_i32_821 k0_t7
  let c256_i32_825 : BitVec 32 := 256#32
  let v3349 : BitVec 32 := Scalar.muli arg25 c256_i32_825
  let v3350 : BitVec 32 := v3349
  let v3386 : Index := Scalar.indexCast v3350
  let c5120 : Index := 5120#32
  ![v3386.toNat, 5120]
def k0_off140 (v136 : BitVec 32) (k0_t7 : Fin (k0_t7_loop v136).trips) : Fin 2 → Nat :=
  let c0_i32_818 : BitVec 32 := 0#32
  let c4_i32_816 : BitVec 32 := 4#32
  let v3335 : BitVec 32 := Scalar.muli v136 c4_i32_816
  let c255_i32 : BitVec 32 := 255#32
  let v3336 : BitVec 32 := Scalar.addi v3335 c255_i32
  let c8_i32 : BitVec 32 := 8#32
  let v3337 : BitVec 32 := Scalar.shrui v3336 c8_i32
  let v3339 : BitVec 32 := Scalar.subi v3337 c0_i32_818
  let c1_i32_819 : BitVec 32 := 1#32
  let v3341 : BitVec 32 := Scalar.divsi v3339 c1_i32_819
  let v3342 : BitVec 32 := Scalar.muli v3341 c1_i32_819
  let v3343 : BitVec 32 := Scalar.addi c0_i32_818 v3342
  let c1_i32_821 : BitVec 32 := 1#32
  let arg25 : BitVec 32 := Scf.iv v3343 c1_i32_821 k0_t7
  let c256_i32_825 : BitVec 32 := 256#32
  let v3349 : BitVec 32 := Scalar.muli arg25 c256_i32_825
  let v3350 : BitVec 32 := v3349
  let v3393 : Index := Scalar.indexCast v3350
  let c6144 : Index := 6144#32
  ![v3393.toNat, 6144]
def k0_off141 (v136 : BitVec 32) (k0_t7 : Fin (k0_t7_loop v136).trips) (c0_i32_850 : BitVec 32) : Fin 2 → Nat :=
  let c0_i32_818 : BitVec 32 := 0#32
  let c4_i32_816 : BitVec 32 := 4#32
  let v3335 : BitVec 32 := Scalar.muli v136 c4_i32_816
  let c255_i32 : BitVec 32 := 255#32
  let v3336 : BitVec 32 := Scalar.addi v3335 c255_i32
  let c8_i32 : BitVec 32 := 8#32
  let v3337 : BitVec 32 := Scalar.shrui v3336 c8_i32
  let v3339 : BitVec 32 := Scalar.subi v3337 c0_i32_818
  let c1_i32_819 : BitVec 32 := 1#32
  let v3341 : BitVec 32 := Scalar.divsi v3339 c1_i32_819
  let v3342 : BitVec 32 := Scalar.muli v3341 c1_i32_819
  let v3343 : BitVec 32 := Scalar.addi c0_i32_818 v3342
  let c1_i32_821 : BitVec 32 := 1#32
  let arg25 : BitVec 32 := Scf.iv v3343 c1_i32_821 k0_t7
  let c2_i32_849 : BitVec 32 := 2#32
  let v3400 : BitVec 32 := Scalar.muli arg25 c2_i32_849
  let v3401 : BitVec 32 := Scalar.addi v3400 c0_i32_850
  let v3408 : Index := Scalar.indexCast v3401
  let c0_852 : Index := 0#32
  ![v3408.toNat, 0]
def k0_off142 (v136 : BitVec 32) (k0_t7 : Fin (k0_t7_loop v136).trips) : Fin 3 → Nat :=
  let c0_i32_818 : BitVec 32 := 0#32
  let c4_i32_816 : BitVec 32 := 4#32
  let v3335 : BitVec 32 := Scalar.muli v136 c4_i32_816
  let c255_i32 : BitVec 32 := 255#32
  let v3336 : BitVec 32 := Scalar.addi v3335 c255_i32
  let c8_i32 : BitVec 32 := 8#32
  let v3337 : BitVec 32 := Scalar.shrui v3336 c8_i32
  let v3339 : BitVec 32 := Scalar.subi v3337 c0_i32_818
  let c1_i32_819 : BitVec 32 := 1#32
  let v3341 : BitVec 32 := Scalar.divsi v3339 c1_i32_819
  let v3342 : BitVec 32 := Scalar.muli v3341 c1_i32_819
  let v3343 : BitVec 32 := Scalar.addi c0_i32_818 v3342
  let c1_i32_821 : BitVec 32 := 1#32
  let arg25 : BitVec 32 := Scf.iv v3343 c1_i32_821 k0_t7
  let v3470 : Index := Scalar.indexCast arg25
  let c0_883 : Index := 0#32
  let c0_884 : Index := 0#32
  ![v3470.toNat, 0, 0]

def k0_chk57_0 (i : grid0.Coords) (v136 : BitVec 32) : Prop :=
  (∀ (k0_h1 : k0_cond1 i = 1#1), (k0_t4_loop v136).OK) ∧
  (∀ k0_t4 : Fin (k0_t4_loop v136).trips, ∀ (k0_h1 : k0_cond1 i = 1#1), ∀ a, (k0_off121 v136 k0_t4) a + S4x7168.size a ≤ S1536x7168.size a) ∧
  (∀ k0_t4 : Fin (k0_t4_loop v136).trips, ∀ (k0_h1 : k0_cond1 i = 1#1), ∀ (hinb : ∀ a, (k0_off121 v136 k0_t4) a + S4x7168.size a ≤ S1536x7168.size a), (Rect.unit (s := S1536x7168) (k0_off121 v136 k0_t4) S4x7168.size hinb).WholeWords (EltTy.packing .i8)) ∧
  (∀ k0_t4 : Fin (k0_t4_loop v136).trips, ∀ (k0_h1 : k0_cond1 i = 1#1), ∀ a, (k0_off122 v136 k0_t4) a + S4x18432.size a ≤ S1536x18432.size a) ∧
  (∀ k0_t4 : Fin (k0_t4_loop v136).trips, ∀ (k0_h1 : k0_cond1 i = 1#1), ∀ (hinb : ∀ a, (k0_off122 v136 k0_t4) a + S4x18432.size a ≤ S1536x18432.size a), (Rect.unit (s := S1536x18432) (k0_off122 v136 k0_t4) S4x18432.size hinb).WholeWords (EltTy.packing .i8)) ∧
  (∀ (k0_h1 : k0_cond1 i = 1#1), (k0_t5_loop v136).OK) ∧
  (∀ k0_t5 : Fin (k0_t5_loop v136).trips, ∀ (k0_h1 : k0_cond1 i = 1#1), ∀ a, (k0_off123 v136 k0_t5) a + S4x7168.size a ≤ S1536x7168.size a) ∧
  (∀ k0_t5 : Fin (k0_t5_loop v136).trips, ∀ (k0_h1 : k0_cond1 i = 1#1), ∀ (hinb : ∀ a, (k0_off123 v136 k0_t5) a + S4x7168.size a ≤ S1536x7168.size a), (Rect.unit (s := S1536x7168) (k0_off123 v136 k0_t5) S4x7168.size hinb).WholeWords (EltTy.packing .i8)) ∧
  (∀ k0_t5 : Fin (k0_t5_loop v136).trips, ∀ (k0_h1 : k0_cond1 i = 1#1), ∀ a, (k0_off124 v136 k0_t5) a + S4x18432.size a ≤ S1536x18432.size a) ∧
  (∀ k0_t5 : Fin (k0_t5_loop v136).trips, ∀ (k0_h1 : k0_cond1 i = 1#1), ∀ (hinb : ∀ a, (k0_off124 v136 k0_t5) a + S4x18432.size a ≤ S1536x18432.size a), (Rect.unit (s := S1536x18432) (k0_off124 v136 k0_t5) S4x18432.size hinb).WholeWords (EltTy.packing .i8)) ∧
  (∀ (k0_h1 : k0_cond1 i = 1#1), (k0_t6_loop v136).OK) ∧
  (∀ k0_t6 : Fin (k0_t6_loop v136).trips, ∀ (k0_h1 : k0_cond1 i = 1#1), 256 ∣ (k0_mult109 v136 k0_t6).toNat) ∧
  (∀ k0_t6 : Fin (k0_t6_loop v136).trips, ∀ (k0_h1 : k0_cond1 i = 1#1), ∀ a, (k0_off125 v136 k0_t6) a + S256x1024.size a ≤ S1536x7168.size a) ∧
  (∀ k0_t6 : Fin (k0_t6_loop v136).trips, ∀ (k0_h1 : k0_cond1 i = 1#1), ∀ a, (k0_off126 v136 k0_t6) a + S256x1024.size a ≤ S1536x7168.size a) ∧
  (∀ k0_t6 : Fin (k0_t6_loop v136).trips, ∀ (k0_h1 : k0_cond1 i = 1#1), ∀ a, (k0_off127 v136 k0_t6) a + S256x1024.size a ≤ S1536x7168.size a) ∧
  (∀ k0_t6 : Fin (k0_t6_loop v136).trips, ∀ (k0_h1 : k0_cond1 i = 1#1), ∀ a, (k0_off128 v136 k0_t6) a + S256x1024.size a ≤ S1536x7168.size a) ∧
  (∀ k0_t6 : Fin (k0_t6_loop v136).trips, ∀ (k0_h1 : k0_cond1 i = 1#1), ∀ a, (k0_off129 v136 k0_t6) a + S256x1024.size a ≤ S1536x7168.size a) ∧
  (∀ k0_t6 : Fin (k0_t6_loop v136).trips, ∀ (k0_h1 : k0_cond1 i = 1#1), ∀ a, (k0_off130 v136 k0_t6) a + S256x1024.size a ≤ S1536x7168.size a) ∧
  (∀ k0_t6 : Fin (k0_t6_loop v136).trips, ∀ (k0_h1 : k0_cond1 i = 1#1), ∀ a, (k0_off131 v136 k0_t6) a + S256x1024.size a ≤ S1536x7168.size a) ∧
  (∀ k0_t6 : Fin (k0_t6_loop v136).trips, ∀ (k0_h1 : k0_cond1 i = 1#1), ∀ (r : Fin 2), ∀ a, (k0_off132 v136 k0_t6 (BitVec.ofNat 32 r.val)) a + S1x128.size a ≤ S16x128.size a) ∧
  (∀ k0_t6 : Fin (k0_t6_loop v136).trips, ∀ (k0_h1 : k0_cond1 i = 1#1), ∀ a, (k0_off133 v136 k0_t6) a + S1x256x256.size a ≤ S6x256x256.size a) ∧
  (∀ k0_t6 : Fin (k0_t6_loop v136).trips, ∀ (k0_h1 : k0_cond1 i = 1#1), ∀ (hinb : ∀ a, (k0_off133 v136 k0_t6) a + S1x256x256.size a ≤ S6x256x256.size a), (Rect.unit (s := S6x256x256) (k0_off133 v136 k0_t6) S1x256x256.size hinb).PackedRows (EltTy.packing .bf16)) ∧
  (∀ (k0_h1 : k0_cond1 i = 1#1), (k0_t7_loop v136).OK) ∧
  (∀ k0_t7 : Fin (k0_t7_loop v136).trips, ∀ (k0_h1 : k0_cond1 i = 1#1), 256 ∣ (k0_mult110 v136 k0_t7).toNat) ∧
  (∀ k0_t7 : Fin (k0_t7_loop v136).trips, ∀ (k0_h1 : k0_cond1 i = 1#1), ∀ a, (k0_off134 v136 k0_t7) a + S256x1024.size a ≤ S1536x7168.size a) ∧
  (∀ k0_t7 : Fin (k0_t7_loop v136).trips, ∀ (k0_h1 : k0_cond1 i = 1#1), ∀ a, (k0_off135 v136 k0_t7) a + S256x1024.size a ≤ S1536x7168.size a) ∧
  (∀ k0_t7 : Fin (k0_t7_loop v136).trips, ∀ (k0_h1 : k0_cond1 i = 1#1), ∀ a, (k0_off136 v136 k0_t7) a + S256x1024.size a ≤ S1536x7168.size a) ∧
  (∀ k0_t7 : Fin (k0_t7_loop v136).trips, ∀ (k0_h1 : k0_cond1 i = 1#1), ∀ a, (k0_off137 v136 k0_t7) a + S256x1024.size a ≤ S1536x7168.size a) ∧
  (∀ k0_t7 : Fin (k0_t7_loop v136).trips, ∀ (k0_h1 : k0_cond1 i = 1#1), ∀ a, (k0_off138 v136 k0_t7) a + S256x1024.size a ≤ S1536x7168.size a) ∧
  (∀ k0_t7 : Fin (k0_t7_loop v136).trips, ∀ (k0_h1 : k0_cond1 i = 1#1), ∀ a, (k0_off139 v136 k0_t7) a + S256x1024.size a ≤ S1536x7168.size a) ∧
  (∀ k0_t7 : Fin (k0_t7_loop v136).trips, ∀ (k0_h1 : k0_cond1 i = 1#1), ∀ a, (k0_off140 v136 k0_t7) a + S256x1024.size a ≤ S1536x7168.size a) ∧
  (∀ k0_t7 : Fin (k0_t7_loop v136).trips, ∀ (k0_h1 : k0_cond1 i = 1#1), ∀ (r : Fin 2), ∀ a, (k0_off141 v136 k0_t7 (BitVec.ofNat 32 r.val)) a + S1x128.size a ≤ S16x128.size a)
def k0_chk57_1 (i : grid0.Coords) (v136 : BitVec 32) : Prop :=
  (∀ k0_t7 : Fin (k0_t7_loop v136).trips, ∀ (k0_h1 : k0_cond1 i = 1#1), ∀ a, (k0_off142 v136 k0_t7) a + S1x256x256.size a ≤ S6x256x256.size a) ∧
  (∀ k0_t7 : Fin (k0_t7_loop v136).trips, ∀ (k0_h1 : k0_cond1 i = 1#1), ∀ (hinb : ∀ a, (k0_off142 v136 k0_t7) a + S1x256x256.size a ≤ S6x256x256.size a), (Rect.unit (s := S6x256x256) (k0_off142 v136 k0_t7) S1x256x256.size hinb).PackedRows (EltTy.packing .bf16))
def k0_chk57 (i : grid0.Coords) (v136 : BitVec 32) : Prop :=
  k0_chk57_0 i v136 ∧
  k0_chk57_1 i v136
theorem k0_t4_ok : ∀ (i : grid0.Coords) (v136 : BitVec 32) (k0_hw57 : k0_chk57 i v136), ∀ (k0_h1 : k0_cond1 i = 1#1), (k0_t4_loop v136).OK := fun i v136 k0_hw57 k0_h1 => k0_hw57.1.1 k0_h1
theorem k0_off121_inb : ∀ (i : grid0.Coords) (v136 : BitVec 32) (k0_hw57 : k0_chk57 i v136) (k0_t4 : Fin (k0_t4_loop v136).trips), ∀ (k0_h1 : k0_cond1 i = 1#1), ∀ a, (k0_off121 v136 k0_t4) a + S4x7168.size a ≤ S1536x7168.size a := fun i v136 k0_hw57 k0_t4 k0_h1 => k0_hw57.1.2.1 k0_t4 k0_h1
theorem k0_off121_wordsi8 : ∀ (i : grid0.Coords) (v136 : BitVec 32) (k0_hw57 : k0_chk57 i v136) (k0_t4 : Fin (k0_t4_loop v136).trips), ∀ (k0_h1 : k0_cond1 i = 1#1), (Rect.unit (s := S1536x7168) (k0_off121 v136 k0_t4) S4x7168.size (k0_off121_inb i v136 k0_hw57 k0_t4 k0_h1)).WholeWords (EltTy.packing .i8) := fun i v136 k0_hw57 k0_t4 k0_h1 => k0_hw57.1.2.2.1 k0_t4 k0_h1 (k0_off121_inb i v136 k0_hw57 k0_t4 k0_h1)
theorem k0_off122_inb : ∀ (i : grid0.Coords) (v136 : BitVec 32) (k0_hw57 : k0_chk57 i v136) (k0_t4 : Fin (k0_t4_loop v136).trips), ∀ (k0_h1 : k0_cond1 i = 1#1), ∀ a, (k0_off122 v136 k0_t4) a + S4x18432.size a ≤ S1536x18432.size a := fun i v136 k0_hw57 k0_t4 k0_h1 => k0_hw57.1.2.2.2.1 k0_t4 k0_h1
theorem k0_off122_wordsi8 : ∀ (i : grid0.Coords) (v136 : BitVec 32) (k0_hw57 : k0_chk57 i v136) (k0_t4 : Fin (k0_t4_loop v136).trips), ∀ (k0_h1 : k0_cond1 i = 1#1), (Rect.unit (s := S1536x18432) (k0_off122 v136 k0_t4) S4x18432.size (k0_off122_inb i v136 k0_hw57 k0_t4 k0_h1)).WholeWords (EltTy.packing .i8) := fun i v136 k0_hw57 k0_t4 k0_h1 => k0_hw57.1.2.2.2.2.1 k0_t4 k0_h1 (k0_off122_inb i v136 k0_hw57 k0_t4 k0_h1)
theorem k0_t5_ok : ∀ (i : grid0.Coords) (v136 : BitVec 32) (k0_hw57 : k0_chk57 i v136), ∀ (k0_h1 : k0_cond1 i = 1#1), (k0_t5_loop v136).OK := fun i v136 k0_hw57 k0_h1 => k0_hw57.1.2.2.2.2.2.1 k0_h1
theorem k0_off123_inb : ∀ (i : grid0.Coords) (v136 : BitVec 32) (k0_hw57 : k0_chk57 i v136) (k0_t5 : Fin (k0_t5_loop v136).trips), ∀ (k0_h1 : k0_cond1 i = 1#1), ∀ a, (k0_off123 v136 k0_t5) a + S4x7168.size a ≤ S1536x7168.size a := fun i v136 k0_hw57 k0_t5 k0_h1 => k0_hw57.1.2.2.2.2.2.2.1 k0_t5 k0_h1
theorem k0_off123_wordsi8 : ∀ (i : grid0.Coords) (v136 : BitVec 32) (k0_hw57 : k0_chk57 i v136) (k0_t5 : Fin (k0_t5_loop v136).trips), ∀ (k0_h1 : k0_cond1 i = 1#1), (Rect.unit (s := S1536x7168) (k0_off123 v136 k0_t5) S4x7168.size (k0_off123_inb i v136 k0_hw57 k0_t5 k0_h1)).WholeWords (EltTy.packing .i8) := fun i v136 k0_hw57 k0_t5 k0_h1 => k0_hw57.1.2.2.2.2.2.2.2.1 k0_t5 k0_h1 (k0_off123_inb i v136 k0_hw57 k0_t5 k0_h1)
theorem k0_off124_inb : ∀ (i : grid0.Coords) (v136 : BitVec 32) (k0_hw57 : k0_chk57 i v136) (k0_t5 : Fin (k0_t5_loop v136).trips), ∀ (k0_h1 : k0_cond1 i = 1#1), ∀ a, (k0_off124 v136 k0_t5) a + S4x18432.size a ≤ S1536x18432.size a := fun i v136 k0_hw57 k0_t5 k0_h1 => k0_hw57.1.2.2.2.2.2.2.2.2.1 k0_t5 k0_h1
theorem k0_off124_wordsi8 : ∀ (i : grid0.Coords) (v136 : BitVec 32) (k0_hw57 : k0_chk57 i v136) (k0_t5 : Fin (k0_t5_loop v136).trips), ∀ (k0_h1 : k0_cond1 i = 1#1), (Rect.unit (s := S1536x18432) (k0_off124 v136 k0_t5) S4x18432.size (k0_off124_inb i v136 k0_hw57 k0_t5 k0_h1)).WholeWords (EltTy.packing .i8) := fun i v136 k0_hw57 k0_t5 k0_h1 => k0_hw57.1.2.2.2.2.2.2.2.2.2.1 k0_t5 k0_h1 (k0_off124_inb i v136 k0_hw57 k0_t5 k0_h1)
theorem k0_t6_ok : ∀ (i : grid0.Coords) (v136 : BitVec 32) (k0_hw57 : k0_chk57 i v136), ∀ (k0_h1 : k0_cond1 i = 1#1), (k0_t6_loop v136).OK := fun i v136 k0_hw57 k0_h1 => k0_hw57.1.2.2.2.2.2.2.2.2.2.2.1 k0_h1
theorem k0_mult109_dvd : ∀ (i : grid0.Coords) (v136 : BitVec 32) (k0_hw57 : k0_chk57 i v136) (k0_t6 : Fin (k0_t6_loop v136).trips), ∀ (k0_h1 : k0_cond1 i = 1#1), 256 ∣ (k0_mult109 v136 k0_t6).toNat := fun i v136 k0_hw57 k0_t6 k0_h1 => k0_hw57.1.2.2.2.2.2.2.2.2.2.2.2.1 k0_t6 k0_h1
theorem k0_off125_inb : ∀ (i : grid0.Coords) (v136 : BitVec 32) (k0_hw57 : k0_chk57 i v136) (k0_t6 : Fin (k0_t6_loop v136).trips), ∀ (k0_h1 : k0_cond1 i = 1#1), ∀ a, (k0_off125 v136 k0_t6) a + S256x1024.size a ≤ S1536x7168.size a := fun i v136 k0_hw57 k0_t6 k0_h1 => k0_hw57.1.2.2.2.2.2.2.2.2.2.2.2.2.1 k0_t6 k0_h1
theorem k0_off126_inb : ∀ (i : grid0.Coords) (v136 : BitVec 32) (k0_hw57 : k0_chk57 i v136) (k0_t6 : Fin (k0_t6_loop v136).trips), ∀ (k0_h1 : k0_cond1 i = 1#1), ∀ a, (k0_off126 v136 k0_t6) a + S256x1024.size a ≤ S1536x7168.size a := fun i v136 k0_hw57 k0_t6 k0_h1 => k0_hw57.1.2.2.2.2.2.2.2.2.2.2.2.2.2.1 k0_t6 k0_h1
theorem k0_off127_inb : ∀ (i : grid0.Coords) (v136 : BitVec 32) (k0_hw57 : k0_chk57 i v136) (k0_t6 : Fin (k0_t6_loop v136).trips), ∀ (k0_h1 : k0_cond1 i = 1#1), ∀ a, (k0_off127 v136 k0_t6) a + S256x1024.size a ≤ S1536x7168.size a := fun i v136 k0_hw57 k0_t6 k0_h1 => k0_hw57.1.2.2.2.2.2.2.2.2.2.2.2.2.2.2.1 k0_t6 k0_h1
theorem k0_off128_inb : ∀ (i : grid0.Coords) (v136 : BitVec 32) (k0_hw57 : k0_chk57 i v136) (k0_t6 : Fin (k0_t6_loop v136).trips), ∀ (k0_h1 : k0_cond1 i = 1#1), ∀ a, (k0_off128 v136 k0_t6) a + S256x1024.size a ≤ S1536x7168.size a := fun i v136 k0_hw57 k0_t6 k0_h1 => k0_hw57.1.2.2.2.2.2.2.2.2.2.2.2.2.2.2.2.1 k0_t6 k0_h1
theorem k0_off129_inb : ∀ (i : grid0.Coords) (v136 : BitVec 32) (k0_hw57 : k0_chk57 i v136) (k0_t6 : Fin (k0_t6_loop v136).trips), ∀ (k0_h1 : k0_cond1 i = 1#1), ∀ a, (k0_off129 v136 k0_t6) a + S256x1024.size a ≤ S1536x7168.size a := fun i v136 k0_hw57 k0_t6 k0_h1 => k0_hw57.1.2.2.2.2.2.2.2.2.2.2.2.2.2.2.2.2.1 k0_t6 k0_h1
theorem k0_off130_inb : ∀ (i : grid0.Coords) (v136 : BitVec 32) (k0_hw57 : k0_chk57 i v136) (k0_t6 : Fin (k0_t6_loop v136).trips), ∀ (k0_h1 : k0_cond1 i = 1#1), ∀ a, (k0_off130 v136 k0_t6) a + S256x1024.size a ≤ S1536x7168.size a := fun i v136 k0_hw57 k0_t6 k0_h1 => k0_hw57.1.2.2.2.2.2.2.2.2.2.2.2.2.2.2.2.2.2.1 k0_t6 k0_h1
theorem k0_off131_inb : ∀ (i : grid0.Coords) (v136 : BitVec 32) (k0_hw57 : k0_chk57 i v136) (k0_t6 : Fin (k0_t6_loop v136).trips), ∀ (k0_h1 : k0_cond1 i = 1#1), ∀ a, (k0_off131 v136 k0_t6) a + S256x1024.size a ≤ S1536x7168.size a := fun i v136 k0_hw57 k0_t6 k0_h1 => k0_hw57.1.2.2.2.2.2.2.2.2.2.2.2.2.2.2.2.2.2.2.1 k0_t6 k0_h1
theorem k0_off132_inb : ∀ (i : grid0.Coords) (v136 : BitVec 32) (k0_hw57 : k0_chk57 i v136) (k0_t6 : Fin (k0_t6_loop v136).trips), ∀ (k0_h1 : k0_cond1 i = 1#1), ∀ (r : Fin 2), ∀ a, (k0_off132 v136 k0_t6 (BitVec.ofNat 32 r.val)) a + S1x128.size a ≤ S16x128.size a := fun i v136 k0_hw57 k0_t6 k0_h1 r => k0_hw57.1.2.2.2.2.2.2.2.2.2.2.2.2.2.2.2.2.2.2.2.1 k0_t6 k0_h1 r
theorem k0_off133_inb : ∀ (i : grid0.Coords) (v136 : BitVec 32) (k0_hw57 : k0_chk57 i v136) (k0_t6 : Fin (k0_t6_loop v136).trips), ∀ (k0_h1 : k0_cond1 i = 1#1), ∀ a, (k0_off133 v136 k0_t6) a + S1x256x256.size a ≤ S6x256x256.size a := fun i v136 k0_hw57 k0_t6 k0_h1 => k0_hw57.1.2.2.2.2.2.2.2.2.2.2.2.2.2.2.2.2.2.2.2.2.1 k0_t6 k0_h1
theorem k0_off133_packedbf16 : ∀ (i : grid0.Coords) (v136 : BitVec 32) (k0_hw57 : k0_chk57 i v136) (k0_t6 : Fin (k0_t6_loop v136).trips), ∀ (k0_h1 : k0_cond1 i = 1#1), (Rect.unit (s := S6x256x256) (k0_off133 v136 k0_t6) S1x256x256.size (k0_off133_inb i v136 k0_hw57 k0_t6 k0_h1)).PackedRows (EltTy.packing .bf16) := fun i v136 k0_hw57 k0_t6 k0_h1 => k0_hw57.1.2.2.2.2.2.2.2.2.2.2.2.2.2.2.2.2.2.2.2.2.2.1 k0_t6 k0_h1 (k0_off133_inb i v136 k0_hw57 k0_t6 k0_h1)
theorem k0_t7_ok : ∀ (i : grid0.Coords) (v136 : BitVec 32) (k0_hw57 : k0_chk57 i v136), ∀ (k0_h1 : k0_cond1 i = 1#1), (k0_t7_loop v136).OK := fun i v136 k0_hw57 k0_h1 => k0_hw57.1.2.2.2.2.2.2.2.2.2.2.2.2.2.2.2.2.2.2.2.2.2.2.1 k0_h1
theorem k0_mult110_dvd : ∀ (i : grid0.Coords) (v136 : BitVec 32) (k0_hw57 : k0_chk57 i v136) (k0_t7 : Fin (k0_t7_loop v136).trips), ∀ (k0_h1 : k0_cond1 i = 1#1), 256 ∣ (k0_mult110 v136 k0_t7).toNat := fun i v136 k0_hw57 k0_t7 k0_h1 => k0_hw57.1.2.2.2.2.2.2.2.2.2.2.2.2.2.2.2.2.2.2.2.2.2.2.2.1 k0_t7 k0_h1
theorem k0_off134_inb : ∀ (i : grid0.Coords) (v136 : BitVec 32) (k0_hw57 : k0_chk57 i v136) (k0_t7 : Fin (k0_t7_loop v136).trips), ∀ (k0_h1 : k0_cond1 i = 1#1), ∀ a, (k0_off134 v136 k0_t7) a + S256x1024.size a ≤ S1536x7168.size a := fun i v136 k0_hw57 k0_t7 k0_h1 => k0_hw57.1.2.2.2.2.2.2.2.2.2.2.2.2.2.2.2.2.2.2.2.2.2.2.2.2.1 k0_t7 k0_h1
theorem k0_off135_inb : ∀ (i : grid0.Coords) (v136 : BitVec 32) (k0_hw57 : k0_chk57 i v136) (k0_t7 : Fin (k0_t7_loop v136).trips), ∀ (k0_h1 : k0_cond1 i = 1#1), ∀ a, (k0_off135 v136 k0_t7) a + S256x1024.size a ≤ S1536x7168.size a := fun i v136 k0_hw57 k0_t7 k0_h1 => k0_hw57.1.2.2.2.2.2.2.2.2.2.2.2.2.2.2.2.2.2.2.2.2.2.2.2.2.2.1 k0_t7 k0_h1
theorem k0_off136_inb : ∀ (i : grid0.Coords) (v136 : BitVec 32) (k0_hw57 : k0_chk57 i v136) (k0_t7 : Fin (k0_t7_loop v136).trips), ∀ (k0_h1 : k0_cond1 i = 1#1), ∀ a, (k0_off136 v136 k0_t7) a + S256x1024.size a ≤ S1536x7168.size a := fun i v136 k0_hw57 k0_t7 k0_h1 => k0_hw57.1.2.2.2.2.2.2.2.2.2.2.2.2.2.2.2.2.2.2.2.2.2.2.2.2.2.2.1 k0_t7 k0_h1
theorem k0_off137_inb : ∀ (i : grid0.Coords) (v136 : BitVec 32) (k0_hw57 : k0_chk57 i v136) (k0_t7 : Fin (k0_t7_loop v136).trips), ∀ (k0_h1 : k0_cond1 i = 1#1), ∀ a, (k0_off137 v136 k0_t7) a + S256x1024.size a ≤ S1536x7168.size a := fun i v136 k0_hw57 k0_t7 k0_h1 => k0_hw57.1.2.2.2.2.2.2.2.2.2.2.2.2.2.2.2.2.2.2.2.2.2.2.2.2.2.2.2.1 k0_t7 k0_h1
theorem k0_off138_inb : ∀ (i : grid0.Coords) (v136 : BitVec 32) (k0_hw57 : k0_chk57 i v136) (k0_t7 : Fin (k0_t7_loop v136).trips), ∀ (k0_h1 : k0_cond1 i = 1#1), ∀ a, (k0_off138 v136 k0_t7) a + S256x1024.size a ≤ S1536x7168.size a := fun i v136 k0_hw57 k0_t7 k0_h1 => k0_hw57.1.2.2.2.2.2.2.2.2.2.2.2.2.2.2.2.2.2.2.2.2.2.2.2.2.2.2.2.2.1 k0_t7 k0_h1
theorem k0_off139_inb : ∀ (i : grid0.Coords) (v136 : BitVec 32) (k0_hw57 : k0_chk57 i v136) (k0_t7 : Fin (k0_t7_loop v136).trips), ∀ (k0_h1 : k0_cond1 i = 1#1), ∀ a, (k0_off139 v136 k0_t7) a + S256x1024.size a ≤ S1536x7168.size a := fun i v136 k0_hw57 k0_t7 k0_h1 => k0_hw57.1.2.2.2.2.2.2.2.2.2.2.2.2.2.2.2.2.2.2.2.2.2.2.2.2.2.2.2.2.2.1 k0_t7 k0_h1
theorem k0_off140_inb : ∀ (i : grid0.Coords) (v136 : BitVec 32) (k0_hw57 : k0_chk57 i v136) (k0_t7 : Fin (k0_t7_loop v136).trips), ∀ (k0_h1 : k0_cond1 i = 1#1), ∀ a, (k0_off140 v136 k0_t7) a + S256x1024.size a ≤ S1536x7168.size a := fun i v136 k0_hw57 k0_t7 k0_h1 => k0_hw57.1.2.2.2.2.2.2.2.2.2.2.2.2.2.2.2.2.2.2.2.2.2.2.2.2.2.2.2.2.2.2.1 k0_t7 k0_h1
theorem k0_off141_inb : ∀ (i : grid0.Coords) (v136 : BitVec 32) (k0_hw57 : k0_chk57 i v136) (k0_t7 : Fin (k0_t7_loop v136).trips), ∀ (k0_h1 : k0_cond1 i = 1#1), ∀ (r : Fin 2), ∀ a, (k0_off141 v136 k0_t7 (BitVec.ofNat 32 r.val)) a + S1x128.size a ≤ S16x128.size a := fun i v136 k0_hw57 k0_t7 k0_h1 r => k0_hw57.1.2.2.2.2.2.2.2.2.2.2.2.2.2.2.2.2.2.2.2.2.2.2.2.2.2.2.2.2.2.2.2 k0_t7 k0_h1 r
theorem k0_off142_inb : ∀ (i : grid0.Coords) (v136 : BitVec 32) (k0_hw57 : k0_chk57 i v136) (k0_t7 : Fin (k0_t7_loop v136).trips), ∀ (k0_h1 : k0_cond1 i = 1#1), ∀ a, (k0_off142 v136 k0_t7) a + S1x256x256.size a ≤ S6x256x256.size a := fun i v136 k0_hw57 k0_t7 k0_h1 => k0_hw57.2.1 k0_t7 k0_h1
theorem k0_off142_packedbf16 : ∀ (i : grid0.Coords) (v136 : BitVec 32) (k0_hw57 : k0_chk57 i v136) (k0_t7 : Fin (k0_t7_loop v136).trips), ∀ (k0_h1 : k0_cond1 i = 1#1), (Rect.unit (s := S6x256x256) (k0_off142 v136 k0_t7) S1x256x256.size (k0_off142_inb i v136 k0_hw57 k0_t7 k0_h1)).PackedRows (EltTy.packing .bf16) := fun i v136 k0_hw57 k0_t7 k0_h1 => k0_hw57.2.2 k0_t7 k0_h1 (k0_off142_inb i v136 k0_hw57 k0_t7 k0_h1)

def k0_mult111 (i : grid0.Coords) : BitVec 32 :=
  let arg0 : BitVec 32 := BitVec.ofNat 32 (i 0).val
  let c1024_i32 : BitVec 32 := 1024#32
  let v28 : BitVec 32 := Scalar.muli arg0 c1024_i32
  v28
def k0_off143 (i : grid0.Coords) : Fin 2 → Nat :=
  let c0_8 : Index := 0#32
  let arg0 : BitVec 32 := BitVec.ofNat 32 (i 0).val
  let c1024_i32 : BitVec 32 := 1024#32
  let v28 : BitVec 32 := Scalar.muli arg0 c1024_i32
  let v29 : BitVec 32 := v28
  let v31 : Index := Scalar.indexCast v29
  ![0, v31.toNat]
def k0_off144 (i : grid0.Coords) : Fin 2 → Nat :=
  let c256 : Index := 256#32
  let arg0 : BitVec 32 := BitVec.ofNat 32 (i 0).val
  let c1024_i32 : BitVec 32 := 1024#32
  let v28 : BitVec 32 := Scalar.muli arg0 c1024_i32
  let v29 : BitVec 32 := v28
  let v48 : Index := Scalar.indexCast v29
  ![256, v48.toNat]
def k0_off145 (i : grid0.Coords) : Fin 2 → Nat :=
  let c512 : Index := 512#32
  let arg0 : BitVec 32 := BitVec.ofNat 32 (i 0).val
  let c1024_i32 : BitVec 32 := 1024#32
  let v28 : BitVec 32 := Scalar.muli arg0 c1024_i32
  let v29 : BitVec 32 := v28
  let v65 : Index := Scalar.indexCast v29
  ![512, v65.toNat]
def k0_off146 (i : grid0.Coords) : Fin 2 → Nat :=
  let c768 : Index := 768#32
  let arg0 : BitVec 32 := BitVec.ofNat 32 (i 0).val
  let c1024_i32 : BitVec 32 := 1024#32
  let v28 : BitVec 32 := Scalar.muli arg0 c1024_i32
  let v29 : BitVec 32 := v28
  let v82 : Index := Scalar.indexCast v29
  ![768, v82.toNat]
def k0_off147 (i : grid0.Coords) : Fin 2 → Nat :=
  let c1024 : Index := 1024#32
  let arg0 : BitVec 32 := BitVec.ofNat 32 (i 0).val
  let c1024_i32 : BitVec 32 := 1024#32
  let v28 : BitVec 32 := Scalar.muli arg0 c1024_i32
  let v29 : BitVec 32 := v28
  let v99 : Index := Scalar.indexCast v29
  ![1024, v99.toNat]
def k0_off148 (i : grid0.Coords) : Fin 2 → Nat :=
  let c1280 : Index := 1280#32
  let arg0 : BitVec 32 := BitVec.ofNat 32 (i 0).val
  let c1024_i32 : BitVec 32 := 1024#32
  let v28 : BitVec 32 := Scalar.muli arg0 c1024_i32
  let v29 : BitVec 32 := v28
  let v116 : Index := Scalar.indexCast v29
  ![1280, v116.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S41 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S896x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2x128x7168 : Shape := ⟨3, ![2, 128, 7168]⟩
abbrev S896x18432 : Shape := ⟨2, ![896, 18432]⟩
abbrev S56x18432 : Shape := ⟨2, ![56, 18432]⟩
abbrev S3100x7168 : Shape := ⟨2, ![3100, 7168]⟩
abbrev S3100 : Shape := ⟨1, ![3100]⟩
abbrev S3100x18432 : Shape := ⟨2, ![3100, 18432]⟩
abbrev S41 : Shape := ⟨1, ![41]⟩
abbrev S28 : Shape := ⟨1, ![28]⟩
abbrev S27 : Shape := ⟨1, ![27]⟩
abbrev S256x7168 : Shape := ⟨2, ![256, 7168]⟩
abbrev S56x16x18432 : Shape := ⟨3, ![56, 16, 18432]⟩
abbrev S_ : Shape := ⟨0, ![]⟩
abbrev S256x18432 : Shape := ⟨2, ![256, 18432]⟩
abbrev S256x896 : Shape := ⟨2, ![256, 896]⟩
abbrev S27x1 : Shape := ⟨2, ![27, 1]⟩
abbrev S64 : Shape := ⟨1, ![64]⟩
abbrev S1x64 : Shape := ⟨2, ![1, 64]⟩
abbrev S27x64 : Shape := ⟨2, ![27, 64]⟩
abbrev S27x64x1 : Shape := ⟨3, ![27, 64, 1]⟩
abbrev S27x64x7168 : Shape := ⟨3, ![27, 64, 7168]⟩
abbrev S27x64x18432 : Shape := ⟨3, ![27, 64, 18432]⟩
abbrev S256 : Shape := ⟨1, ![256]⟩
abbrev S1x256 : Shape := ⟨2, ![1, 256]⟩
abbrev S27x256 : Shape := ⟨2, ![27, 256]⟩
abbrev S27x64x256 : Shape := ⟨3, ![27, 64, 256]⟩
abbrev S27x256x64 : Shape := ⟨3, ![27, 256, 64]⟩
abbrev S27x1x64 : Shape := ⟨3, ![27, 1, 64]⟩
abbrev S27x1x1 : Shape := ⟨3, ![27, 1, 1]⟩
abbrev S27x256x1 : Shape := ⟨3, ![27, 256, 1]⟩
abbrev S256x64 : Shape := ⟨2, ![256, 64]⟩
abbrev S64x256 : Shape := ⟨2, ![64, 256]⟩

abbrev nBuf : Space → Nat
  | .hbm => 290
  | .vmem => 0
  | .smem => 0
  | _ => 0

abbrev hbmTy0_0 (i : Nat) : BufTy := match i % 128 with
  | 0 => ⟨S2x128x7168, .bf16⟩
  | 1 => ⟨S896x18432, .i32⟩
  | 2 => ⟨S56x18432, .bf16⟩
  | 3 => ⟨S3100x7168, .i8⟩
  | 4 => ⟨S3100, .f32⟩
  | 5 => ⟨S3100x18432, .i8⟩
  | 6 => ⟨S3100, .f32⟩
  | 7 => ⟨S41, .i32⟩
  | 8 => ⟨S41, .i32⟩
  | 9 => ⟨S41, .f32⟩
  | 10 => ⟨S28, .i32⟩
  | 11 => ⟨S27, .i32⟩
  | 12 => ⟨S256x7168, .bf16⟩
  | 13 => ⟨S56x16x18432, .bf16⟩
  | 14 => ⟨S896x18432, .bf16⟩
  | 15 => ⟨S_, .f32⟩
  | 16 => ⟨S256x18432, .f32⟩
  | 17 => ⟨S_, .i32⟩
  | 18 => ⟨S896x18432, .i32⟩
  | 19 => ⟨S896x18432, .i32⟩
  | 20 => ⟨S_, .i32⟩
  | 21 => ⟨S896x18432, .i32⟩
  | 22 => ⟨S896x18432, .i32⟩
  | 23 => ⟨S_, .i32⟩
  | 24 => ⟨S896x18432, .i32⟩
  | 25 => ⟨S896x18432, .i1⟩
  | 26 => ⟨S896x18432, .i32⟩
  | 27 => ⟨S_, .i32⟩
  | 28 => ⟨S896x18432, .i32⟩
  | 29 => ⟨S896x18432, .i32⟩
  | 30 => ⟨S896x18432, .i32⟩
  | 31 => ⟨S896x18432, .bf16⟩
  | 32 => ⟨S896x18432, .bf16⟩
  | 33 => ⟨S256x896, .bf16⟩
  | 34 => ⟨S256x18432, .f32⟩
  | 35 => ⟨S256x18432, .f32⟩
  | 36 => ⟨S_, .i32⟩
  | 37 => ⟨S896x18432, .i32⟩
  | 38 => ⟨S896x18432, .i32⟩
  | 39 => ⟨S_, .i32⟩
  | 40 => ⟨S896x18432, .i32⟩
  | 41 => ⟨S896x18432, .i32⟩
  | 42 => ⟨S_, .i32⟩
  | 43 => ⟨S896x18432, .i32⟩
  | 44 => ⟨S896x18432, .i1⟩
  | 45 => ⟨S896x18432, .i32⟩
  | 46 => ⟨S_, .i32⟩
  | 47 => ⟨S896x18432, .i32⟩
  | 48 => ⟨S896x18432, .i32⟩
  | 49 => ⟨S896x18432, .i32⟩
  | 50 => ⟨S896x18432, .bf16⟩
  | 51 => ⟨S896x18432, .bf16⟩
  | 52 => ⟨S256x896, .bf16⟩
  | 53 => ⟨S256x18432, .f32⟩
  | 54 => ⟨S256x18432, .f32⟩
  | 55 => ⟨S_, .i32⟩
  | 56 => ⟨S896x18432, .i32⟩
  | 57 => ⟨S896x18432, .i32⟩
  | 58 => ⟨S_, .i32⟩
  | 59 => ⟨S896x18432, .i32⟩
  | 60 => ⟨S896x18432, .i32⟩
  | 61 => ⟨S_, .i32⟩
  | 62 => ⟨S896x18432, .i32⟩
  | 63 => ⟨S896x18432, .i1⟩
  | 64 => ⟨S896x18432, .i32⟩
  | 65 => ⟨S_, .i32⟩
  | 66 => ⟨S896x18432, .i32⟩
  | 67 => ⟨S896x18432, .i32⟩
  | 68 => ⟨S896x18432, .i32⟩
  | 69 => ⟨S896x18432, .bf16⟩
  | 70 => ⟨S896x18432, .bf16⟩
  | 71 => ⟨S256x896, .bf16⟩
  | 72 => ⟨S256x18432, .f32⟩
  | 73 => ⟨S256x18432, .f32⟩
  | 74 => ⟨S_, .i32⟩
  | 75 => ⟨S896x18432, .i32⟩
  | 76 => ⟨S896x18432, .i32⟩
  | 77 => ⟨S_, .i32⟩
  | 78 => ⟨S896x18432, .i32⟩
  | 79 => ⟨S896x18432, .i32⟩
  | 80 => ⟨S_, .i32⟩
  | 81 => ⟨S896x18432, .i32⟩
  | 82 => ⟨S896x18432, .i1⟩
  | 83 => ⟨S896x18432, .i32⟩
  | 84 => ⟨S_, .i32⟩
  | 85 => ⟨S896x18432, .i32⟩
  | 86 => ⟨S896x18432, .i32⟩
  | 87 => ⟨S896x18432, .i32⟩
  | 88 => ⟨S896x18432, .bf16⟩
  | 89 => ⟨S896x18432, .bf16⟩
  | 90 => ⟨S256x896, .bf16⟩
  | 91 => ⟨S256x18432, .f32⟩
  | 92 => ⟨S256x18432, .f32⟩
  | 93 => ⟨S_, .i32⟩
  | 94 => ⟨S896x18432, .i32⟩
  | 95 => ⟨S896x18432, .i32⟩
  | 96 => ⟨S_, .i32⟩
  | 97 => ⟨S896x18432, .i32⟩
  | 98 => ⟨S896x18432, .i32⟩
  | 99 => ⟨S_, .i32⟩
  | 100 => ⟨S896x18432, .i32⟩
  | 101 => ⟨S896x18432, .i1⟩
  | 102 => ⟨S896x18432, .i32⟩
  | 103 => ⟨S_, .i32⟩
  | 104 => ⟨S896x18432, .i32⟩
  | 105 => ⟨S896x18432, .i32⟩
  | 106 => ⟨S896x18432, .i32⟩
  | 107 => ⟨S896x18432, .bf16⟩
  | 108 => ⟨S896x18432, .bf16⟩
  | 109 => ⟨S256x896, .bf16⟩
  | 110 => ⟨S256x18432, .f32⟩
  | 111 => ⟨S256x18432, .f32⟩
  | 112 => ⟨S_, .i32⟩
  | 113 => ⟨S896x18432, .i32⟩
  | 114 => ⟨S896x18432, .i32⟩
  | 115 => ⟨S_, .i32⟩
  | 116 => ⟨S896x18432, .i32⟩
  | 117 => ⟨S896x18432, .i32⟩
  | 118 => ⟨S_, .i32⟩
  | 119 => ⟨S896x18432, .i32⟩
  | 120 => ⟨S896x18432, .i1⟩
  | 121 => ⟨S896x18432, .i32⟩
  | 122 => ⟨S_, .i32⟩
  | 123 => ⟨S896x18432, .i32⟩
  | 124 => ⟨S896x18432, .i32⟩
  | 125 => ⟨S896x18432, .i32⟩
  | 126 => ⟨S896x18432, .bf16⟩
  | 127 => ⟨S896x18432, .bf16⟩
  | _ => ⟨S2x128x7168, .bf16⟩

abbrev hbmTy0_1 (i : Nat) : BufTy := match i % 128 with
  | 0 => ⟨S256x896, .bf16⟩
  | 1 => ⟨S256x18432, .f32⟩
  | 2 => ⟨S256x18432, .f32⟩
  | 3 => ⟨S_, .i32⟩
  | 4 => ⟨S896x18432, .i32⟩
  | 5 => ⟨S896x18432, .i32⟩
  | 6 => ⟨S_, .i32⟩
  | 7 => ⟨S896x18432, .i32⟩
  | 8 => ⟨S896x18432, .i32⟩
  | 9 => ⟨S_, .i32⟩
  | 10 => ⟨S896x18432, .i32⟩
  | 11 => ⟨S896x18432, .i1⟩
  | 12 => ⟨S896x18432, .i32⟩
  | 13 => ⟨S_, .i32⟩
  | 14 => ⟨S896x18432, .i32⟩
  | 15 => ⟨S896x18432, .i32⟩
  | 16 => ⟨S896x18432, .i32⟩
  | 17 => ⟨S896x18432, .bf16⟩
  | 18 => ⟨S896x18432, .bf16⟩
  | 19 => ⟨S256x896, .bf16⟩
  | 20 => ⟨S256x18432, .f32⟩
  | 21 => ⟨S256x18432, .f32⟩
  | 22 => ⟨S_, .i32⟩
  | 23 => ⟨S896x18432, .i32⟩
  | 24 => ⟨S896x18432, .i32⟩
  | 25 => ⟨S_, .i32⟩
  | 26 => ⟨S896x18432, .i32⟩
  | 27 => ⟨S896x18432, .i32⟩
  | 28 => ⟨S_, .i32⟩
  | 29 => ⟨S896x18432, .i32⟩
  | 30 => ⟨S896x18432, .i1⟩
  | 31 => ⟨S896x18432, .i32⟩
  | 32 => ⟨S_, .i32⟩
  | 33 => ⟨S896x18432, .i32⟩
  | 34 => ⟨S896x18432, .i32⟩
  | 35 => ⟨S896x18432, .i32⟩
  | 36 => ⟨S896x18432, .bf16⟩
  | 37 => ⟨S896x18432, .bf16⟩
  | 38 => ⟨S256x896, .bf16⟩
  | 39 => ⟨S256x18432, .f32⟩
  | 40 => ⟨S256x18432, .f32⟩
  | 41 => ⟨S_, .i32⟩
  | 42 => ⟨S27, .i32⟩
  | 43 => ⟨S27, .i1⟩
  | 44 => ⟨S_, .i32⟩
  | 45 => ⟨S27, .i32⟩
  | 46 => ⟨S27, .i32⟩
  | 47 => ⟨S27, .i32⟩
  | 48 => ⟨S27x1, .i32⟩
  | 49 => ⟨S27, .i32⟩
  | 50 => ⟨S27x1, .i32⟩
  | 51 => ⟨S64, .i32⟩
  | 52 => ⟨S1x64, .i32⟩
  | 53 => ⟨S27x64, .i32⟩
  | 54 => ⟨S27x64, .i32⟩
  | 55 => ⟨S27x64, .i32⟩
  | 56 => ⟨S_, .i32⟩
  | 57 => ⟨S27x64, .i32⟩
  | 58 => ⟨S27x64, .i1⟩
  | 59 => ⟨S_, .i32⟩
  | 60 => ⟨S27x64, .i32⟩
  | 61 => ⟨S27x64, .i32⟩
  | 62 => ⟨S27x64, .i32⟩
  | 63 => ⟨S27x64x1, .i32⟩
  | 64 => ⟨S27x64x7168, .i8⟩
  | 65 => ⟨S27x64x7168, .i32⟩
  | 66 => ⟨S27x64x7168, .bf16⟩
  | 67 => ⟨S_, .i32⟩
  | 68 => ⟨S27x64, .i32⟩
  | 69 => ⟨S27x64, .i1⟩
  | 70 => ⟨S_, .i32⟩
  | 71 => ⟨S27x64, .i32⟩
  | 72 => ⟨S27x64, .i32⟩
  | 73 => ⟨S27x64, .i32⟩
  | 74 => ⟨S27x64x1, .i32⟩
  | 75 => ⟨S27x64x18432, .i8⟩
  | 76 => ⟨S27x64x18432, .i32⟩
  | 77 => ⟨S27x64x18432, .bf16⟩
  | 78 => ⟨S_, .i32⟩
  | 79 => ⟨S27x64, .i32⟩
  | 80 => ⟨S27x64, .i1⟩
  | 81 => ⟨S_, .i32⟩
  | 82 => ⟨S27x64, .i32⟩
  | 83 => ⟨S27x64, .i32⟩
  | 84 => ⟨S27x64, .i32⟩
  | 85 => ⟨S27x64x1, .i32⟩
  | 86 => ⟨S27x64, .f32⟩
  | 87 => ⟨S_, .i32⟩
  | 88 => ⟨S27x64, .i32⟩
  | 89 => ⟨S27x64, .i1⟩
  | 90 => ⟨S_, .i32⟩
  | 91 => ⟨S27x64, .i32⟩
  | 92 => ⟨S27x64, .i32⟩
  | 93 => ⟨S27x64, .i32⟩
  | 94 => ⟨S27x64x1, .i32⟩
  | 95 => ⟨S27x64, .f32⟩
  | 96 => ⟨S256, .i32⟩
  | 97 => ⟨S1x256, .i32⟩
  | 98 => ⟨S27, .i32⟩
  | 99 => ⟨S27x1, .i32⟩
  | 100 => ⟨S27x256, .i32⟩
  | 101 => ⟨S27x256, .i32⟩
  | 102 => ⟨S27x256, .i1⟩
  | 103 => ⟨S27, .i32⟩
  | 104 => ⟨S27x1, .i32⟩
  | 105 => ⟨S27x256, .i32⟩
  | 106 => ⟨S27x256, .i32⟩
  | 107 => ⟨S27x256, .i1⟩
  | 108 => ⟨S27x256, .i1⟩
  | 109 => ⟨S27x64x256, .f32⟩
  | 110 => ⟨S27x256x64, .f32⟩
  | 111 => ⟨S27x1x64, .f32⟩
  | 112 => ⟨S27x256x64, .f32⟩
  | 113 => ⟨S27x256x64, .f32⟩
  | 114 => ⟨S_, .i32⟩
  | 115 => ⟨S27, .i32⟩
  | 116 => ⟨S27, .i1⟩
  | 117 => ⟨S_, .i32⟩
  | 118 => ⟨S27, .i32⟩
  | 119 => ⟨S27, .i32⟩
  | 120 => ⟨S27, .i32⟩
  | 121 => ⟨S27x1, .i32⟩
  | 122 => ⟨S27, .f32⟩
  | 123 => ⟨S27x1x1, .f32⟩
  | 124 => ⟨S27x256x64, .f32⟩
  | 125 => ⟨S27x256x64, .f32⟩
  | 126 => ⟨S64, .i32⟩
  | 127 => ⟨S27x256x1, .i1⟩
  | _ => ⟨S2x128x7168, .bf16⟩

abbrev hbmTy0_2 (i : Nat) : BufTy := match i % 128 with
  | 0 => ⟨S_, .i32⟩
  | 1 => ⟨S27, .i32⟩
  | 2 => ⟨S27, .i1⟩
  | 3 => ⟨S_, .i32⟩
  | 4 => ⟨S27, .i32⟩
  | 5 => ⟨S27, .i32⟩
  | 6 => ⟨S27, .i32⟩
  | 7 => ⟨S27x1, .i32⟩
  | 8 => ⟨S27, .i32⟩
  | 9 => ⟨S27x1, .i32⟩
  | 10 => ⟨S1x64, .i32⟩
  | 11 => ⟨S27x64, .i32⟩
  | 12 => ⟨S27x64, .i32⟩
  | 13 => ⟨S27x64, .i1⟩
  | 14 => ⟨S27x1x64, .i1⟩
  | 15 => ⟨S27x256x64, .i1⟩
  | 16 => ⟨S27x256x64, .i1⟩
  | 17 => ⟨S27x256x64, .i1⟩
  | 18 => ⟨S27x256x64, .bf16⟩
  | 19 => ⟨S_, .bf16⟩
  | 20 => ⟨S27x256x64, .bf16⟩
  | 21 => ⟨S27x256x64, .bf16⟩
  | 22 => ⟨S27x64x1, .f32⟩
  | 23 => ⟨S27x64x1, .bf16⟩
  | 24 => ⟨S27x64x18432, .bf16⟩
  | 25 => ⟨S27x64x18432, .bf16⟩
  | 26 => ⟨S256x18432, .f32⟩
  | 27 => ⟨S256x18432, .f32⟩
  | 28 => ⟨S256x18432, .bf16⟩
  | 29 => ⟨S27x256x64, .f32⟩
  | 30 => ⟨S_, .f32⟩
  | 31 => ⟨S256x64, .f32⟩
  | 32 => ⟨S256x64, .bf16⟩
  | 33 => ⟨S64x256, .bf16⟩
  | _ => ⟨S2x128x7168, .bf16⟩

abbrev hbmTy (i : Nat) : BufTy := match i / 128 with
  | 0 => hbmTy0_0 i
  | 1 => hbmTy0_1 i
  | 2 => hbmTy0_2 i
  | _ => ⟨S2x128x7168, .bf16⟩

abbrev bufTy : (tb : Table) → Fin (tcTables nBuf tb) → BufTy
  | .hbm, ⟨i, _⟩ => hbmTy i
  | _, _ => ⟨S2x128x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_v52 : Ref sig .tc := ⟨.hbm, 79, rfl⟩
abbrev main_c_13 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_14 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_18 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_c_20 : Ref sig .tc := ⟨.hbm, 115, rfl⟩
abbrev main_v81 : Ref sig .tc := ⟨.hbm, 116, rfl⟩
abbrev main_v82 : Ref sig .tc := ⟨.hbm, 117, rfl⟩
abbrev main_c_21 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_22 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_23 : Ref sig .tc := ⟨.hbm, 131, rfl⟩
abbrev main_v94 : Ref sig .tc := ⟨.hbm, 132, rfl⟩
abbrev main_v95 : Ref sig .tc := ⟨.hbm, 133, rfl⟩
abbrev main_c_24 : Ref sig .tc := ⟨.hbm, 134, rfl⟩
abbrev main_v96 : Ref sig .tc := ⟨.hbm, 135, rfl⟩
abbrev main_v97 : Ref sig .tc := ⟨.hbm, 136, rfl⟩
abbrev main_c_25 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_c_26 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_c_27 : Ref sig .tc := ⟨.hbm, 150, rfl⟩
abbrev main_v109 : Ref sig .tc := ⟨.hbm, 151, rfl⟩
abbrev main_v110 : Ref sig .tc := ⟨.hbm, 152, rfl⟩
abbrev main_c_28 : Ref sig .tc := ⟨.hbm, 153, rfl⟩
abbrev main_v111 : Ref sig .tc := ⟨.hbm, 154, rfl⟩
abbrev main_v112 : Ref sig .tc := ⟨.hbm, 155, rfl⟩
abbrev main_c_29 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_c_30 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_c_31 : Ref sig .tc := ⟨.hbm, 169, rfl⟩
abbrev main_v124 : Ref sig .tc := ⟨.hbm, 170, rfl⟩
abbrev main_v125 : Ref sig .tc := ⟨.hbm, 171, rfl⟩
abbrev main_c_32 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_c_33 : Ref sig .tc := ⟨.hbm, 184, rfl⟩
abbrev main_v137 : Ref sig .tc := ⟨.hbm, 185, rfl⟩
abbrev main_v138 : Ref sig .tc := ⟨.hbm, 186, rfl⟩
abbrev main_c_34 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_c_35 : Ref sig .tc := ⟨.hbm, 195, rfl⟩
abbrev main_v146 : Ref sig .tc := ⟨.hbm, 196, rfl⟩
abbrev main_v147 : Ref sig .tc := ⟨.hbm, 197, rfl⟩
abbrev main_c_36 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_c_37 : Ref sig .tc := ⟨.hbm, 206, rfl⟩
abbrev main_v155 : Ref sig .tc := ⟨.hbm, 207, rfl⟩
abbrev main_v156 : Ref sig .tc := ⟨.hbm, 208, rfl⟩
abbrev main_c_38 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_c_39 : Ref sig .tc := ⟨.hbm, 215, rfl⟩
abbrev main_v162 : Ref sig .tc := ⟨.hbm, 216, rfl⟩
abbrev main_v163 : Ref sig .tc := ⟨.hbm, 217, rfl⟩
abbrev main_c_40 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_c_41 : Ref sig .tc := ⟨.hbm, 242, rfl⟩
abbrev main_v187 : Ref sig .tc := ⟨.hbm, 243, rfl⟩
abbrev main_v188 : Ref sig .tc := ⟨.hbm, 244, rfl⟩
abbrev main_c_42 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_c_43 : Ref sig .tc := ⟨.hbm, 256, rfl⟩
abbrev main_v199 : Ref sig .tc := ⟨.hbm, 257, rfl⟩
abbrev main_v200 : Ref sig .tc := ⟨.hbm, 258, rfl⟩
abbrev main_c_44 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_cst_45 : Ref sig .tc := ⟨.hbm, 275, rfl⟩
abbrev main_call0_v0 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_cst_46 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩

abbrev nD : Nat := 1
abbrev τ : Topo := Topo.v7x

variable {F : FTy → Type} [FloatOps F]
-- ==== BaseKernel.lean ====
abbrev S2x128x7168 : Shape := ⟨3, ![2, 128, 7168]⟩
abbrev S896x18432 : Shape := ⟨2, ![896, 18432]⟩
abbrev S56x18432 : Shape := ⟨2, ![56, 18432]⟩
abbrev S256x7168 : Shape := ⟨2, ![256, 7168]⟩
abbrev S256x18432 : Shape := ⟨2, ![256, 18432]⟩
abbrev S896x1024 : Shape := ⟨2, ![896, 1024]⟩
abbrev S56x1024 : Shape := ⟨2, ![56, 1024]⟩
abbrev S256x1024 : Shape := ⟨2, ![256, 1024]⟩
abbrev S896x1x1024 : Shape := ⟨3, ![896, 1, 1024]⟩
abbrev S896x8x1024 : Shape := ⟨3, ![896, 8, 1024]⟩
abbrev S7168x1024 : Shape := ⟨2, ![7168, 1024]⟩
abbrev S56x1x1024 : Shape := ⟨3, ![56, 1, 1024]⟩
abbrev S56x128x1024 : Shape := ⟨3, ![56, 128, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x128x7168, .bf16⟩
  | .hbm, ⟨1, _⟩ => ⟨S896x18432, .i32⟩
  | .hbm, ⟨2, _⟩ => ⟨S56x18432, .bf16⟩
  | .hbm, ⟨3, _⟩ => ⟨S256x7168, .bf16⟩
  | .hbm, ⟨4, _⟩ => ⟨S256x18432, .bf16⟩
  | .local _ .vmem, ⟨0, _⟩ => ⟨S256x7168, .bf16⟩
  | .local _ .vmem, ⟨1, _⟩ => ⟨S896x1024, .i32⟩
  | .local _ .vmem, ⟨2, _⟩ => ⟨S896x1024, .i32⟩
  | .local _ .vmem, ⟨3, _⟩ => ⟨S56x1024, .bf16⟩
  | .local _ .vmem, ⟨4, _⟩ => ⟨S56x1024, .bf16⟩
  | .local _ .vmem, ⟨5, _⟩ => ⟨S256x1024, .bf16⟩
  | .local _ .vmem, ⟨6, _⟩ => ⟨S256x1024, .bf16⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S896x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== BaseReferenceIdeal.lean ====
abbrev S2x128x7168 : Shape := ⟨3, ![2, 128, 7168]⟩
abbrev S896x18432 : Shape := ⟨2, ![896, 18432]⟩
abbrev S56x18432 : Shape := ⟨2, ![56, 18432]⟩
abbrev S256x7168 : Shape := ⟨2, ![256, 7168]⟩
abbrev S56x16x18432 : Shape := ⟨3, ![56, 16, 18432]⟩
abbrev S_ : Shape := ⟨0, ![]⟩
abbrev S256x18432 : Shape := ⟨2, ![256, 18432]⟩
abbrev S256x896 : Shape := ⟨2, ![256, 896]⟩

abbrev nBuf : Space → Nat
  | .hbm => 161
  | .vmem => 0
  | .smem => 0
  | _ => 0

abbrev hbmTy0_0 (i : Nat) : BufTy := match i % 128 with
  | 0 => ⟨S2x128x7168, .bf16⟩
  | 1 => ⟨S896x18432, .i32⟩
  | 2 => ⟨S56x18432, .bf16⟩
  | 3 => ⟨S256x7168, .bf16⟩
  | 4 => ⟨S56x16x18432, .bf16⟩
  | 5 => ⟨S896x18432, .bf16⟩
  | 6 => ⟨S_, .f32⟩
  | 7 => ⟨S256x18432, .f32⟩
  | 8 => ⟨S_, .i32⟩
  | 9 => ⟨S896x18432, .i32⟩
  | 10 => ⟨S896x18432, .i32⟩
  | 11 => ⟨S_, .i32⟩
  | 12 => ⟨S896x18432, .i32⟩
  | 13 => ⟨S896x18432, .i32⟩
  | 14 => ⟨S_, .i32⟩
  | 15 => ⟨S896x18432, .i32⟩
  | 16 => ⟨S896x18432, .i1⟩
  | 17 => ⟨S896x18432, .i32⟩
  | 18 => ⟨S_, .i32⟩
  | 19 => ⟨S896x18432, .i32⟩
  | 20 => ⟨S896x18432, .i32⟩
  | 21 => ⟨S896x18432, .i32⟩
  | 22 => ⟨S896x18432, .bf16⟩
  | 23 => ⟨S896x18432, .bf16⟩
  | 24 => ⟨S256x896, .bf16⟩
  | 25 => ⟨S256x18432, .f32⟩
  | 26 => ⟨S256x18432, .f32⟩
  | 27 => ⟨S_, .i32⟩
  | 28 => ⟨S896x18432, .i32⟩
  | 29 => ⟨S896x18432, .i32⟩
  | 30 => ⟨S_, .i32⟩
  | 31 => ⟨S896x18432, .i32⟩
  | 32 => ⟨S896x18432, .i32⟩
  | 33 => ⟨S_, .i32⟩
  | 34 => ⟨S896x18432, .i32⟩
  | 35 => ⟨S896x18432, .i1⟩
  | 36 => ⟨S896x18432, .i32⟩
  | 37 => ⟨S_, .i32⟩
  | 38 => ⟨S896x18432, .i32⟩
  | 39 => ⟨S896x18432, .i32⟩
  | 40 => ⟨S896x18432, .i32⟩
  | 41 => ⟨S896x18432, .bf16⟩
  | 42 => ⟨S896x18432, .bf16⟩
  | 43 => ⟨S256x896, .bf16⟩
  | 44 => ⟨S256x18432, .f32⟩
  | 45 => ⟨S256x18432, .f32⟩
  | 46 => ⟨S_, .i32⟩
  | 47 => ⟨S896x18432, .i32⟩
  | 48 => ⟨S896x18432, .i32⟩
  | 49 => ⟨S_, .i32⟩
  | 50 => ⟨S896x18432, .i32⟩
  | 51 => ⟨S896x18432, .i32⟩
  | 52 => ⟨S_, .i32⟩
  | 53 => ⟨S896x18432, .i32⟩
  | 54 => ⟨S896x18432, .i1⟩
  | 55 => ⟨S896x18432, .i32⟩
  | 56 => ⟨S_, .i32⟩
  | 57 => ⟨S896x18432, .i32⟩
  | 58 => ⟨S896x18432, .i32⟩
  | 59 => ⟨S896x18432, .i32⟩
  | 60 => ⟨S896x18432, .bf16⟩
  | 61 => ⟨S896x18432, .bf16⟩
  | 62 => ⟨S256x896, .bf16⟩
  | 63 => ⟨S256x18432, .f32⟩
  | 64 => ⟨S256x18432, .f32⟩
  | 65 => ⟨S_, .i32⟩
  | 66 => ⟨S896x18432, .i32⟩
  | 67 => ⟨S896x18432, .i32⟩
  | 68 => ⟨S_, .i32⟩
  | 69 => ⟨S896x18432, .i32⟩
  | 70 => ⟨S896x18432, .i32⟩
  | 71 => ⟨S_, .i32⟩
  | 72 => ⟨S896x18432, .i32⟩
  | 73 => ⟨S896x18432, .i1⟩
  | 74 => ⟨S896x18432, .i32⟩
  | 75 => ⟨S_, .i32⟩
  | 76 => ⟨S896x18432, .i32⟩
  | 77 => ⟨S896x18432, .i32⟩
  | 78 => ⟨S896x18432, .i32⟩
  | 79 => ⟨S896x18432, .bf16⟩
  | 80 => ⟨S896x18432, .bf16⟩
  | 81 => ⟨S256x896, .bf16⟩
  | 82 => ⟨S256x18432, .f32⟩
  | 83 => ⟨S256x18432, .f32⟩
  | 84 => ⟨S_, .i32⟩
  | 85 => ⟨S896x18432, .i32⟩
  | 86 => ⟨S896x18432, .i32⟩
  | 87 => ⟨S_, .i32⟩
  | 88 => ⟨S896x18432, .i32⟩
  | 89 => ⟨S896x18432, .i32⟩
  | 90 => ⟨S_, .i32⟩
  | 91 => ⟨S896x18432, .i32⟩
  | 92 => ⟨S896x18432, .i1⟩
  | 93 => ⟨S896x18432, .i32⟩
  | 94 => ⟨S_, .i32⟩
  | 95 => ⟨S896x18432, .i32⟩
  | 96 => ⟨S896x18432, .i32⟩
  | 97 => ⟨S896x18432, .i32⟩
  | 98 => ⟨S896x18432, .bf16⟩
  | 99 => ⟨S896x18432, .bf16⟩
  | 100 => ⟨S256x896, .bf16⟩
  | 101 => ⟨S256x18432, .f32⟩
  | 102 => ⟨S256x18432, .f32⟩
  | 103 => ⟨S_, .i32⟩
  | 104 => ⟨S896x18432, .i32⟩
  | 105 => ⟨S896x18432, .i32⟩
  | 106 => ⟨S_, .i32⟩
  | 107 => ⟨S896x18432, .i32⟩
  | 108 => ⟨S896x18432, .i32⟩
  | 109 => ⟨S_, .i32⟩
  | 110 => ⟨S896x18432, .i32⟩
  | 111 => ⟨S896x18432, .i1⟩
  | 112 => ⟨S896x18432, .i32⟩
  | 113 => ⟨S_, .i32⟩
  | 114 => ⟨S896x18432, .i32⟩
  | 115 => ⟨S896x18432, .i32⟩
  | 116 => ⟨S896x18432, .i32⟩
  | 117 => ⟨S896x18432, .bf16⟩
  | 118 => ⟨S896x18432, .bf16⟩
  | 119 => ⟨S256x896, .bf16⟩
  | 120 => ⟨S256x18432, .f32⟩
  | 121 => ⟨S256x18432, .f32⟩
  | 122 => ⟨S_, .i32⟩
  | 123 => ⟨S896x18432, .i32⟩
  | 124 => ⟨S896x18432, .i32⟩
  | 125 => ⟨S_, .i32⟩
  | 126 => ⟨S896x18432, .i32⟩
  | 127 => ⟨S896x18432, .i32⟩
  | _ => ⟨S2x128x7168, .bf16⟩

abbrev hbmTy0_1 (i : Nat) : BufTy := match i % 128 with
  | 0 => ⟨S_, .i32⟩
  | 1 => ⟨S896x18432, .i32⟩
  | 2 => ⟨S896x18432, .i1⟩
  | 3 => ⟨S896x18432, .i32⟩
  | 4 => ⟨S_, .i32⟩
  | 5 => ⟨S896x18432, .i32⟩
  | 6 => ⟨S896x18432, .i32⟩
  | 7 => ⟨S896x18432, .i32⟩
  | 8 => ⟨S896x18432, .bf16⟩
  | 9 => ⟨S896x18432, .bf16⟩
  | 10 => ⟨S256x896, .bf16⟩
  | 11 => ⟨S256x18432, .f32⟩
  | 12 => ⟨S256x18432, .f32⟩
  | 13 => ⟨S_, .i32⟩
  | 14 => ⟨S896x18432, .i32⟩
  | 15 => ⟨S896x18432, .i32⟩
  | 16 => ⟨S_, .i32⟩
  | 17 => ⟨S896x18432, .i32⟩
  | 18 => ⟨S896x18432, .i32⟩
  | 19 => ⟨S_, .i32⟩
  | 20 => ⟨S896x18432, .i32⟩
  | 21 => ⟨S896x18432, .i1⟩
  | 22 => ⟨S896x18432, .i32⟩
  | 23 => ⟨S_, .i32⟩
  | 24 => ⟨S896x18432, .i32⟩
  | 25 => ⟨S896x18432, .i32⟩
  | 26 => ⟨S896x18432, .i32⟩
  | 27 => ⟨S896x18432, .bf16⟩
  | 28 => ⟨S896x18432, .bf16⟩
  | 29 => ⟨S256x896, .bf16⟩
  | 30 => ⟨S256x18432, .f32⟩
  | 31 => ⟨S256x18432, .f32⟩
  | 32 => ⟨S256x18432, .bf16⟩
  | _ => ⟨S2x128x7168, .bf16⟩

abbrev hbmTy (i : Nat) : BufTy := match i / 128 with
  | 0 => hbmTy0_0 i
  | 1 => hbmTy0_1 i
  | _ => ⟨S2x128x7168, .bf16⟩

abbrev bufTy : (tb : Table) → Fin (tcTables nBuf tb) → BufTy
  | .hbm, ⟨i, _⟩ => hbmTy i
  | _, _ => ⟨S2x128x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_c_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_11 : Ref sig .tc := ⟨.hbm, 65, rfl⟩
abbrev main_v49 : Ref sig .tc := ⟨.hbm, 66, rfl⟩
abbrev main_v50 : Ref sig .tc := ⟨.hbm, 67, rfl⟩
abbrev main_c_12 : Ref sig .tc := ⟨.hbm, 68, rfl⟩
abbrev main_v51 : Ref sig .tc := ⟨.hbm, 69, rfl⟩
abbrev main_v52 : Ref sig .tc := ⟨.hbm, 70, rfl⟩
abbrev main_c_13 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_14 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_15 : Ref sig .tc := ⟨.hbm, 84, rfl⟩
abbrev main_v64 : Ref sig .tc := ⟨.hbm, 85, rfl⟩
abbrev main_v65 : Ref sig .tc := ⟨.hbm, 86, rfl⟩
abbrev main_c_16 : Ref sig .tc := ⟨.hbm, 87, rfl⟩
abbrev main_v66 : Ref sig .tc := ⟨.hbm, 88, rfl⟩
abbrev main_v67 : Ref sig .tc := ⟨.hbm, 89, rfl⟩
abbrev main_c_17 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_18 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_19 : Ref sig .tc := ⟨.hbm, 103, rfl⟩
abbrev main_v79 : Ref sig .tc := ⟨.hbm, 104, rfl⟩
abbrev main_v80 : Ref sig .tc := ⟨.hbm, 105, rfl⟩
abbrev main_c_20 : Ref sig .tc := ⟨.hbm, 106, rfl⟩
abbrev main_v81 : Ref sig .tc := ⟨.hbm, 107, rfl⟩
abbrev main_v82 : Ref sig .tc := ⟨.hbm, 108, rfl⟩
abbrev main_c_21 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_22 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_c_23 : Ref sig .tc := ⟨.hbm, 122, rfl⟩
abbrev main_v94 : Ref sig .tc := ⟨.hbm, 123, rfl⟩
abbrev main_v95 : Ref sig .tc := ⟨.hbm, 124, rfl⟩
abbrev main_c_24 : Ref sig .tc := ⟨.hbm, 125, rfl⟩
abbrev main_v96 : Ref sig .tc := ⟨.hbm, 126, rfl⟩
abbrev main_v97 : Ref sig .tc := ⟨.hbm, 127, rfl⟩
abbrev main_c_25 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_c_26 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_c_27 : Ref sig .tc := ⟨.hbm, 141, rfl⟩
abbrev main_v109 : Ref sig .tc := ⟨.hbm, 142, rfl⟩
abbrev main_v110 : Ref sig .tc := ⟨.hbm, 143, rfl⟩
abbrev main_c_28 : Ref sig .tc := ⟨.hbm, 144, rfl⟩
abbrev main_v111 : Ref sig .tc := ⟨.hbm, 145, rfl⟩
abbrev main_v112 : Ref sig .tc := ⟨.hbm, 146, rfl⟩
abbrev main_c_29 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_c_30 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩

abbrev nD : Nat := 1
abbrev τ : Topo := Topo.v7x

variable {F : FTy → Type} [FloatOps F]
-- ==== ExpandKernel.lean ====
abbrev S2x128x7168 : Shape := ⟨3, ![2, 128, 7168]⟩
abbrev S896x18432 : Shape := ⟨2, ![896, 18432]⟩
abbrev S56x18432 : Shape := ⟨2, ![56, 18432]⟩
abbrev S6x256x256 : Shape := ⟨3, ![6, 256, 256]⟩
abbrev S1536x18432 : Shape := ⟨2, ![1536, 18432]⟩
abbrev S1536x128 : Shape := ⟨2, ![1536, 128]⟩
abbrev S1 : Shape := ⟨1, ![1]⟩
abbrev S256x7168 : Shape := ⟨2, ![256, 7168]⟩
abbrev S256x18432 : Shape := ⟨2, ![256, 18432]⟩
abbrev S896x1024 : Shape := ⟨2, ![896, 1024]⟩
abbrev S56x1024 : Shape := ⟨2, ![56, 1024]⟩
abbrev S1536x1024 : Shape := ⟨2, ![1536, 1024]⟩
abbrev S256x1024 : Shape := ⟨2, ![256, 1024]⟩
abbrev S896x1x1024 : Shape := ⟨3, ![896, 1, 1024]⟩
abbrev S896x8x1024 : Shape := ⟨3, ![896, 8, 1024]⟩
abbrev S7168x1024 : Shape := ⟨2, ![7168, 1024]⟩
abbrev S56x1x1024 : Shape := ⟨3, ![56, 1, 1024]⟩
abbrev S56x128x1024 : Shape := ⟨3, ![56, 128, 1024]⟩
abbrev S256x128 : Shape := ⟨2, ![256, 128]⟩
abbrev S1x256x256 : Shape := ⟨3, ![1, 256, 256]⟩
abbrev S256x256 : Shape := ⟨2, ![256, 256]⟩

abbrev nBuf : Space → Nat
  | .hbm => 9
  | .vmem => 11
  | .smem => 1
  | _ => 0

abbrev bufTy : (tb : Table) → Fin (tcTables nBuf tb) → BufTy
  | .hbm, ⟨0, _⟩ => ⟨S2x128x7168, .bf16⟩
  | .hbm, ⟨1, _⟩ => ⟨S896x18432, .i32⟩
  | .hbm, ⟨2, _⟩ => ⟨S56x18432, .bf16⟩
  | .hbm, ⟨3, _⟩ => ⟨S6x256x256, .bf16⟩
  | .hbm, ⟨4, _⟩ => ⟨S1536x18432, .i8⟩
  | .hbm, ⟨5, _⟩ => ⟨S1536x128, .bf16⟩
  | .hbm, ⟨6, _⟩ => ⟨S1, .i32⟩
  | .hbm, ⟨7, _⟩ => ⟨S256x7168, .bf16⟩
  | .hbm, ⟨8, _⟩ => ⟨S256x18432, .bf16⟩
  | .local _ .vmem, ⟨0, _⟩ => ⟨S256x7168, .bf16⟩
  | .local _ .vmem, ⟨1, _⟩ => ⟨S896x1024, .i32⟩
  | .local _ .vmem, ⟨2, _⟩ => ⟨S896x1024, .i32⟩
  | .local _ .vmem, ⟨3, _⟩ => ⟨S56x1024, .bf16⟩
  | .local _ .vmem, ⟨4, _⟩ => ⟨S56x1024, .bf16⟩
  | .local _ .vmem, ⟨5, _⟩ => ⟨S6x256x256, .bf16⟩
  | .local _ .vmem, ⟨6, _⟩ => ⟨S1536x1024, .i8⟩
  | .local _ .vmem, ⟨7, _⟩ => ⟨S1536x1024, .i8⟩
  | .local _ .vmem, ⟨8, _⟩ => ⟨S1536x128, .bf16⟩
  | .local _ .vmem, ⟨9, _⟩ => ⟨S256x1024, .bf16⟩
  | .local _ .vmem, ⟨10, _⟩ => ⟨S256x1024, .bf16⟩
  | .local _ .smem, ⟨0, _⟩ => ⟨S1, .i32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![18], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S896x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1536x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpandReferenceIdeal.lean ====
abbrev S2x128x7168 : Shape := ⟨3, ![2, 128, 7168]⟩
abbrev S896x18432 : Shape := ⟨2, ![896, 18432]⟩
abbrev S56x18432 : Shape := ⟨2, ![56, 18432]⟩
abbrev S6x256x256 : Shape := ⟨3, ![6, 256, 256]⟩
abbrev S1536x18432 : Shape := ⟨2, ![1536, 18432]⟩
abbrev S1536x128 : Shape := ⟨2, ![1536, 128]⟩
abbrev S1 : Shape := ⟨1, ![1]⟩
abbrev S256x7168 : Shape := ⟨2, ![256, 7168]⟩
abbrev S56x16x18432 : Shape := ⟨3, ![56, 16, 18432]⟩
abbrev S_ : Shape := ⟨0, ![]⟩
abbrev S256x18432 : Shape := ⟨2, ![256, 18432]⟩
abbrev S256x896 : Shape := ⟨2, ![256, 896]⟩
abbrev S1x1536x1x128 : Shape := ⟨4, ![1, 1536, 1, 128]⟩
abbrev S1x1536x144x128 : Shape := ⟨4, ![1, 1536, 144, 128]⟩
abbrev S1536 : Shape := ⟨1, ![1536]⟩
abbrev S1536x1 : Shape := ⟨2, ![1536, 1]⟩
abbrev S256x6x256 : Shape := ⟨3, ![256, 6, 256]⟩
abbrev S256x1536 : Shape := ⟨2, ![256, 1536]⟩

abbrev nBuf : Space → Nat
  | .hbm => 184
  | .vmem => 0
  | .smem => 0
  | _ => 0

abbrev hbmTy0_0 (i : Nat) : BufTy := match i % 128 with
  | 0 => ⟨S2x128x7168, .bf16⟩
  | 1 => ⟨S896x18432, .i32⟩
  | 2 => ⟨S56x18432, .bf16⟩
  | 3 => ⟨S6x256x256, .bf16⟩
  | 4 => ⟨S1536x18432, .i8⟩
  | 5 => ⟨S1536x128, .bf16⟩
  | 6 => ⟨S1, .i32⟩
  | 7 => ⟨S256x7168, .bf16⟩
  | 8 => ⟨S56x16x18432, .bf16⟩
  | 9 => ⟨S896x18432, .bf16⟩
  | 10 => ⟨S_, .f32⟩
  | 11 => ⟨S256x18432, .f32⟩
  | 12 => ⟨S_, .i32⟩
  | 13 => ⟨S896x18432, .i32⟩
  | 14 => ⟨S896x18432, .i32⟩
  | 15 => ⟨S_, .i32⟩
  | 16 => ⟨S896x18432, .i32⟩
  | 17 => ⟨S896x18432, .i32⟩
  | 18 => ⟨S_, .i32⟩
  | 19 => ⟨S896x18432, .i32⟩
  | 20 => ⟨S896x18432, .i1⟩
  | 21 => ⟨S896x18432, .i32⟩
  | 22 => ⟨S_, .i32⟩
  | 23 => ⟨S896x18432, .i32⟩
  | 24 => ⟨S896x18432, .i32⟩
  | 25 => ⟨S896x18432, .i32⟩
  | 26 => ⟨S896x18432, .bf16⟩
  | 27 => ⟨S896x18432, .bf16⟩
  | 28 => ⟨S256x896, .bf16⟩
  | 29 => ⟨S256x18432, .f32⟩
  | 30 => ⟨S256x18432, .f32⟩
  | 31 => ⟨S_, .i32⟩
  | 32 => ⟨S896x18432, .i32⟩
  | 33 => ⟨S896x18432, .i32⟩
  | 34 => ⟨S_, .i32⟩
  | 35 => ⟨S896x18432, .i32⟩
  | 36 => ⟨S896x18432, .i32⟩
  | 37 => ⟨S_, .i32⟩
  | 38 => ⟨S896x18432, .i32⟩
  | 39 => ⟨S896x18432, .i1⟩
  | 40 => ⟨S896x18432, .i32⟩
  | 41 => ⟨S_, .i32⟩
  | 42 => ⟨S896x18432, .i32⟩
  | 43 => ⟨S896x18432, .i32⟩
  | 44 => ⟨S896x18432, .i32⟩
  | 45 => ⟨S896x18432, .bf16⟩
  | 46 => ⟨S896x18432, .bf16⟩
  | 47 => ⟨S256x896, .bf16⟩
  | 48 => ⟨S256x18432, .f32⟩
  | 49 => ⟨S256x18432, .f32⟩
  | 50 => ⟨S_, .i32⟩
  | 51 => ⟨S896x18432, .i32⟩
  | 52 => ⟨S896x18432, .i32⟩
  | 53 => ⟨S_, .i32⟩
  | 54 => ⟨S896x18432, .i32⟩
  | 55 => ⟨S896x18432, .i32⟩
  | 56 => ⟨S_, .i32⟩
  | 57 => ⟨S896x18432, .i32⟩
  | 58 => ⟨S896x18432, .i1⟩
  | 59 => ⟨S896x18432, .i32⟩
  | 60 => ⟨S_, .i32⟩
  | 61 => ⟨S896x18432, .i32⟩
  | 62 => ⟨S896x18432, .i32⟩
  | 63 => ⟨S896x18432, .i32⟩
  | 64 => ⟨S896x18432, .bf16⟩
  | 65 => ⟨S896x18432, .bf16⟩
  | 66 => ⟨S256x896, .bf16⟩
  | 67 => ⟨S256x18432, .f32⟩
  | 68 => ⟨S256x18432, .f32⟩
  | 69 => ⟨S_, .i32⟩
  | 70 => ⟨S896x18432, .i32⟩
  | 71 => ⟨S896x18432, .i32⟩
  | 72 => ⟨S_, .i32⟩
  | 73 => ⟨S896x18432, .i32⟩
  | 74 => ⟨S896x18432, .i32⟩
  | 75 => ⟨S_, .i32⟩
  | 76 => ⟨S896x18432, .i32⟩
  | 77 => ⟨S896x18432, .i1⟩
  | 78 => ⟨S896x18432, .i32⟩
  | 79 => ⟨S_, .i32⟩
  | 80 => ⟨S896x18432, .i32⟩
  | 81 => ⟨S896x18432, .i32⟩
  | 82 => ⟨S896x18432, .i32⟩
  | 83 => ⟨S896x18432, .bf16⟩
  | 84 => ⟨S896x18432, .bf16⟩
  | 85 => ⟨S256x896, .bf16⟩
  | 86 => ⟨S256x18432, .f32⟩
  | 87 => ⟨S256x18432, .f32⟩
  | 88 => ⟨S_, .i32⟩
  | 89 => ⟨S896x18432, .i32⟩
  | 90 => ⟨S896x18432, .i32⟩
  | 91 => ⟨S_, .i32⟩
  | 92 => ⟨S896x18432, .i32⟩
  | 93 => ⟨S896x18432, .i32⟩
  | 94 => ⟨S_, .i32⟩
  | 95 => ⟨S896x18432, .i32⟩
  | 96 => ⟨S896x18432, .i1⟩
  | 97 => ⟨S896x18432, .i32⟩
  | 98 => ⟨S_, .i32⟩
  | 99 => ⟨S896x18432, .i32⟩
  | 100 => ⟨S896x18432, .i32⟩
  | 101 => ⟨S896x18432, .i32⟩
  | 102 => ⟨S896x18432, .bf16⟩
  | 103 => ⟨S896x18432, .bf16⟩
  | 104 => ⟨S256x896, .bf16⟩
  | 105 => ⟨S256x18432, .f32⟩
  | 106 => ⟨S256x18432, .f32⟩
  | 107 => ⟨S_, .i32⟩
  | 108 => ⟨S896x18432, .i32⟩
  | 109 => ⟨S896x18432, .i32⟩
  | 110 => ⟨S_, .i32⟩
  | 111 => ⟨S896x18432, .i32⟩
  | 112 => ⟨S896x18432, .i32⟩
  | 113 => ⟨S_, .i32⟩
  | 114 => ⟨S896x18432, .i32⟩
  | 115 => ⟨S896x18432, .i1⟩
  | 116 => ⟨S896x18432, .i32⟩
  | 117 => ⟨S_, .i32⟩
  | 118 => ⟨S896x18432, .i32⟩
  | 119 => ⟨S896x18432, .i32⟩
  | 120 => ⟨S896x18432, .i32⟩
  | 121 => ⟨S896x18432, .bf16⟩
  | 122 => ⟨S896x18432, .bf16⟩
  | 123 => ⟨S256x896, .bf16⟩
  | 124 => ⟨S256x18432, .f32⟩
  | 125 => ⟨S256x18432, .f32⟩
  | 126 => ⟨S_, .i32⟩
  | 127 => ⟨S896x18432, .i32⟩
  | _ => ⟨S2x128x7168, .bf16⟩

abbrev hbmTy0_1 (i : Nat) : BufTy := match i % 128 with
  | 0 => ⟨S896x18432, .i32⟩
  | 1 => ⟨S_, .i32⟩
  | 2 => ⟨S896x18432, .i32⟩
  | 3 => ⟨S896x18432, .i32⟩
  | 4 => ⟨S_, .i32⟩
  | 5 => ⟨S896x18432, .i32⟩
  | 6 => ⟨S896x18432, .i1⟩
  | 7 => ⟨S896x18432, .i32⟩
  | 8 => ⟨S_, .i32⟩
  | 9 => ⟨S896x18432, .i32⟩
  | 10 => ⟨S896x18432, .i32⟩
  | 11 => ⟨S896x18432, .i32⟩
  | 12 => ⟨S896x18432, .bf16⟩
  | 13 => ⟨S896x18432, .bf16⟩
  | 14 => ⟨S256x896, .bf16⟩
  | 15 => ⟨S256x18432, .f32⟩
  | 16 => ⟨S256x18432, .f32⟩
  | 17 => ⟨S_, .i32⟩
  | 18 => ⟨S896x18432, .i32⟩
  | 19 => ⟨S896x18432, .i32⟩
  | 20 => ⟨S_, .i32⟩
  | 21 => ⟨S896x18432, .i32⟩
  | 22 => ⟨S896x18432, .i32⟩
  | 23 => ⟨S_, .i32⟩
  | 24 => ⟨S896x18432, .i32⟩
  | 25 => ⟨S896x18432, .i1⟩
  | 26 => ⟨S896x18432, .i32⟩
  | 27 => ⟨S_, .i32⟩
  | 28 => ⟨S896x18432, .i32⟩
  | 29 => ⟨S896x18432, .i32⟩
  | 30 => ⟨S896x18432, .i32⟩
  | 31 => ⟨S896x18432, .bf16⟩
  | 32 => ⟨S896x18432, .bf16⟩
  | 33 => ⟨S256x896, .bf16⟩
  | 34 => ⟨S256x18432, .f32⟩
  | 35 => ⟨S256x18432, .f32⟩
  | 36 => ⟨S1536x18432, .i32⟩
  | 37 => ⟨S1536x18432, .bf16⟩
  | 38 => ⟨S1x1536x1x128, .bf16⟩
  | 39 => ⟨S1x1536x144x128, .bf16⟩
  | 40 => ⟨S1536x18432, .bf16⟩
  | 41 => ⟨S1536x18432, .bf16⟩
  | 42 => ⟨S1536, .i32⟩
  | 43 => ⟨S1536x1, .i32⟩
  | 44 => ⟨S_, .i32⟩
  | 45 => ⟨S1536x1, .i32⟩
  | 46 => ⟨S1536x1, .i1⟩
  | 47 => ⟨S_, .bf16⟩
  | 48 => ⟨S1536x18432, .i1⟩
  | 49 => ⟨S1536x18432, .bf16⟩
  | 50 => ⟨S1536x18432, .bf16⟩
  | 51 => ⟨S256x6x256, .bf16⟩
  | 52 => ⟨S256x1536, .bf16⟩
  | 53 => ⟨S256x18432, .f32⟩
  | 54 => ⟨S256x18432, .f32⟩
  | 55 => ⟨S256x18432, .bf16⟩
  | _ => ⟨S2x128x7168, .bf16⟩

abbrev hbmTy (i : Nat) : BufTy := match i / 128 with
  | 0 => hbmTy0_0 i
  | 1 => hbmTy0_1 i
  | _ => ⟨S2x128x7168, .bf16⟩

abbrev bufTy : (tb : Table) → Fin (tcTables nBuf tb) → BufTy
  | .hbm, ⟨i, _⟩ => hbmTy i
  | _, _ => ⟨S2x128x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_11 : Ref sig .tc := ⟨.hbm, 69, rfl⟩
abbrev main_v49 : Ref sig .tc := ⟨.hbm, 70, rfl⟩
abbrev main_v50 : Ref sig .tc := ⟨.hbm, 71, rfl⟩
abbrev main_c_12 : Ref sig .tc := ⟨.hbm, 72, rfl⟩
abbrev main_v51 : Ref sig .tc := ⟨.hbm, 73, rfl⟩
abbrev main_v52 : Ref sig .tc := ⟨.hbm, 74, rfl⟩
abbrev main_c_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_14 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_15 : Ref sig .tc := ⟨.hbm, 88, rfl⟩
abbrev main_v64 : Ref sig .tc := ⟨.hbm, 89, rfl⟩
abbrev main_v65 : Ref sig .tc := ⟨.hbm, 90, rfl⟩
abbrev main_c_16 : Ref sig .tc := ⟨.hbm, 91, rfl⟩
abbrev main_v66 : Ref sig .tc := ⟨.hbm, 92, rfl⟩
abbrev main_v67 : Ref sig .tc := ⟨.hbm, 93, rfl⟩
abbrev main_c_17 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_18 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_19 : Ref sig .tc := ⟨.hbm, 107, rfl⟩
abbrev main_v79 : Ref sig .tc := ⟨.hbm, 108, rfl⟩
abbrev main_v80 : Ref sig .tc := ⟨.hbm, 109, rfl⟩
abbrev main_c_20 : Ref sig .tc := ⟨.hbm, 110, rfl⟩
abbrev main_v81 : Ref sig .tc := ⟨.hbm, 111, rfl⟩
abbrev main_v82 : Ref sig .tc := ⟨.hbm, 112, rfl⟩
abbrev main_c_21 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_22 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_23 : Ref sig .tc := ⟨.hbm, 126, rfl⟩
abbrev main_v94 : Ref sig .tc := ⟨.hbm, 127, rfl⟩
abbrev main_v95 : Ref sig .tc := ⟨.hbm, 128, rfl⟩
abbrev main_c_24 : Ref sig .tc := ⟨.hbm, 129, rfl⟩
abbrev main_v96 : Ref sig .tc := ⟨.hbm, 130, rfl⟩
abbrev main_v97 : Ref sig .tc := ⟨.hbm, 131, rfl⟩
abbrev main_c_25 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_c_26 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_c_27 : Ref sig .tc := ⟨.hbm, 145, rfl⟩
abbrev main_v109 : Ref sig .tc := ⟨.hbm, 146, rfl⟩
abbrev main_v110 : Ref sig .tc := ⟨.hbm, 147, rfl⟩
abbrev main_c_28 : Ref sig .tc := ⟨.hbm, 148, rfl⟩
abbrev main_v111 : Ref sig .tc := ⟨.hbm, 149, rfl⟩
abbrev main_v112 : Ref sig .tc := ⟨.hbm, 150, rfl⟩
abbrev main_c_29 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_c_30 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_cst_31 : Ref sig .tc := ⟨.hbm, 175, rfl⟩
abbrev main_call0_v0 : Ref sig .tc := ⟨.hbm, 176, rfl⟩
abbrev main_call0_v1 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩

abbrev nD : Nat := 1
abbrev τ : Topo := Topo.v7x

variable {F : FTy → Type} [FloatOps F]
-- ==== ShrinkKernel.lean ====
abbrev S2x128x7168 : Shape := ⟨3, ![2, 128, 7168]⟩
abbrev S1536x7168 : Shape := ⟨2, ![1536, 7168]⟩
abbrev S16x128 : Shape := ⟨2, ![16, 128]⟩
abbrev S3x256x128 : Shape := ⟨3, ![3, 256, 128]⟩
abbrev S1 : Shape := ⟨1, ![1]⟩
abbrev S256x7168 : Shape := ⟨2, ![256, 7168]⟩
abbrev S6x256x256 : Shape := ⟨3, ![6, 256, 256]⟩
abbrev S64x256 : Shape := ⟨2, ![64, 256]⟩
abbrev S256x256 : Shape := ⟨2, ![256, 256]⟩
abbrev S256x1024 : Shape := ⟨2, ![256, 1024]⟩
abbrev S256x128 : Shape := ⟨2, ![256, 128]⟩
abbrev S1x128 : Shape := ⟨2, ![1, 128]⟩
abbrev S1x256x128 : Shape := ⟨3, ![1, 256, 128]⟩
abbrev S64x128 : Shape := ⟨2, ![64, 128]⟩
abbrev S1x256x256 : Shape := ⟨3, ![1, 256, 256]⟩

abbrev nBuf : Space → Nat
  | .hbm => 9
  | .vmem => 7
  | .smem => 1
  | _ => 0

abbrev bufTy : (tb : Table) → Fin (tcTables nBuf tb) → BufTy
  | .hbm, ⟨0, _⟩ => ⟨S2x128x7168, .bf16⟩
  | .hbm, ⟨1, _⟩ => ⟨S1536x7168, .i8⟩
  | .hbm, ⟨2, _⟩ => ⟨S16x128, .f32⟩
  | .hbm, ⟨3, _⟩ => ⟨S3x256x128, .f32⟩
  | .hbm, ⟨4, _⟩ => ⟨S16x128, .i32⟩
  | .hbm, ⟨5, _⟩ => ⟨S1, .i32⟩
  | .hbm, ⟨6, _⟩ => ⟨S256x7168, .bf16⟩
  | .hbm, ⟨7, _⟩ => ⟨S6x256x256, .bf16⟩
  | .hbm, ⟨8, _⟩ => ⟨S64x256, .bf16⟩
  | .local _ .vmem, ⟨0, _⟩ => ⟨S256x7168, .bf16⟩
  | .local _ .vmem, ⟨1, _⟩ => ⟨S1536x7168, .i8⟩
  | .local _ .vmem, ⟨2, _⟩ => ⟨S16x128, .f32⟩
  | .local _ .vmem, ⟨3, _⟩ => ⟨S3x256x128, .f32⟩
  | .local _ .vmem, ⟨4, _⟩ => ⟨S16x128, .i32⟩
  | .local _ .vmem, ⟨5, _⟩ => ⟨S6x256x256, .bf16⟩
  | .local _ .vmem, ⟨6, _⟩ => ⟨S64x256, .bf16⟩
  | .local _ .smem, ⟨0, _⟩ => ⟨S1, .i32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

@[reducible] def k0_t1_loop (v2 : BitVec 32) : Scf.Loop 32 :=
  let c0_i32 : BitVec 32 := 0#32
  let c255_i32 : BitVec 32 := 255#32
  let v3 : BitVec 32 := Scalar.addi v2 c255_i32
  let c8_i32 : BitVec 32 := 8#32
  let v4 : BitVec 32 := Scalar.shrui v3 c8_i32
  let v6 : BitVec 32 := Scalar.subi v4 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_4 : BitVec 32 := 1#32
  ⟨c0_i32, v10, c1_i32_4⟩

def k0_mult1 (v2 : BitVec 32) (k0_t1 : Fin (k0_t1_loop v2).trips) : BitVec 32 :=
  let c0_i32 : BitVec 32 := 0#32
  let c1_i32_4 : BitVec 32 := 1#32
  let arg9 : BitVec 32 := Scf.iv c0_i32 c1_i32_4 k0_t1
  let c256_i32 : BitVec 32 := 256#32
  let v16 : BitVec 32 := Scalar.muli arg9 c256_i32
  v16
def k0_off1 (v2 : BitVec 32) (k0_t1 : Fin (k0_t1_loop v2).trips) : Fin 2 → Nat :=
  let c0_i32 : BitVec 32 := 0#32
  let c1_i32_4 : BitVec 32 := 1#32
  let arg9 : BitVec 32 := Scf.iv c0_i32 c1_i32_4 k0_t1
  let c256_i32 : BitVec 32 := 256#32
  let v16 : BitVec 32 := Scalar.muli arg9 c256_i32
  let v17 : BitVec 32 := v16
  let v18 : Index := Scalar.indexCast v17
  let c0_9 : Index := 0#32
  ![v18.toNat, 0]
def k0_off2 (v2 : BitVec 32) (k0_t1 : Fin (k0_t1_loop v2).trips) : Fin 2 → Nat :=
  let c0_i32 : BitVec 32 := 0#32
  let c1_i32_4 : BitVec 32 := 1#32
  let arg9 : BitVec 32 := Scf.iv c0_i32 c1_i32_4 k0_t1
  let c256_i32 : BitVec 32 := 256#32
  let v16 : BitVec 32 := Scalar.muli arg9 c256_i32
  let v17 : BitVec 32 := v16
  let v25 : Index := Scalar.indexCast v17
  let c1024 : Index := 1024#32
  ![v25.toNat, 1024]
def k0_off3 (v2 : BitVec 32) (k0_t1 : Fin (k0_t1_loop v2).trips) : Fin 2 → Nat :=
  let c0_i32 : BitVec 32 := 0#32
  let c1_i32_4 : BitVec 32 := 1#32
  let arg9 : BitVec 32 := Scf.iv c0_i32 c1_i32_4 k0_t1
  let c256_i32 : BitVec 32 := 256#32
  let v16 : BitVec 32 := Scalar.muli arg9 c256_i32
  let v17 : BitVec 32 := v16
  let v32 : Index := Scalar.indexCast v17
  let c2048 : Index := 2048#32
  ![v32.toNat, 2048]
def k0_off4 (v2 : BitVec 32) (k0_t1 : Fin (k0_t1_loop v2).trips) : Fin 2 → Nat :=
  let c0_i32 : BitVec 32 := 0#32
  let c1_i32_4 : BitVec 32 := 1#32
  let arg9 : BitVec 32 := Scf.iv c0_i32 c1_i32_4 k0_t1
  let c256_i32 : BitVec 32 := 256#32
  let v16 : BitVec 32 := Scalar.muli arg9 c256_i32
  let v17 : BitVec 32 := v16
  let v39 : Index := Scalar.indexCast v17
  let c3072 : Index := 3072#32
  ![v39.toNat, 3072]
def k0_off5 (v2 : BitVec 32) (k0_t1 : Fin (k0_t1_loop v2).trips) : Fin 2 → Nat :=
  let c0_i32 : BitVec 32 := 0#32
  let c1_i32_4 : BitVec 32 := 1#32
  let arg9 : BitVec 32 := Scf.iv c0_i32 c1_i32_4 k0_t1
  let c256_i32 : BitVec 32 := 256#32
  let v16 : BitVec 32 := Scalar.muli arg9 c256_i32
  let v17 : BitVec 32 := v16
  let v46 : Index := Scalar.indexCast v17
  let c4096 : Index := 4096#32
  ![v46.toNat, 4096]
def k0_off6 (v2 : BitVec 32) (k0_t1 : Fin (k0_t1_loop v2).trips) : Fin 2 → Nat :=
  let c0_i32 : BitVec 32 := 0#32
  let c1_i32_4 : BitVec 32 := 1#32
  let arg9 : BitVec 32 := Scf.iv c0_i32 c1_i32_4 k0_t1
  let c256_i32 : BitVec 32 := 256#32
  let v16 : BitVec 32 := Scalar.muli arg9 c256_i32
  let v17 : BitVec 32 := v16
  let v53 : Index := Scalar.indexCast v17
  let c5120 : Index := 5120#32
  ![v53.toNat, 5120]
def k0_off7 (v2 : BitVec 32) (k0_t1 : Fin (k0_t1_loop v2).trips) : Fin 2 → Nat :=
  let c0_i32 : BitVec 32 := 0#32
  let c1_i32_4 : BitVec 32 := 1#32
  let arg9 : BitVec 32 := Scf.iv c0_i32 c1_i32_4 k0_t1
  let c256_i32 : BitVec 32 := 256#32
  let v16 : BitVec 32 := Scalar.muli arg9 c256_i32
  let v17 : BitVec 32 := v16
  let v60 : Index := Scalar.indexCast v17
  let c6144 : Index := 6144#32
  ![v60.toNat, 6144]
def k0_off8 (v2 : BitVec 32) (k0_t1 : Fin (k0_t1_loop v2).trips) (c0_i32_31 : BitVec 32) : Fin 2 → Nat :=
  let c0_i32 : BitVec 32 := 0#32
  let c1_i32_4 : BitVec 32 := 1#32
  let arg9 : BitVec 32 := Scf.iv c0_i32 c1_i32_4 k0_t1
  let c2_i32 : BitVec 32 := 2#32
  let v67 : BitVec 32 := Scalar.muli arg9 c2_i32
  let v68 : BitVec 32 := Scalar.addi v67 c0_i32_31
  let v75 : Index := Scalar.indexCast v68
  let c0_32 : Index := 0#32
  ![v75.toNat, 0]
def k0_off9 (v2 : BitVec 32) (k0_t1 : Fin (k0_t1_loop v2).trips) : Fin 3 → Nat :=
  let c0_i32 : BitVec 32 := 0#32
  let c1_i32_4 : BitVec 32 := 1#32
  let arg9 : BitVec 32 := Scf.iv c0_i32 c1_i32_4 k0_t1
  let v137 : Index := Scalar.indexCast arg9
  let c0_61 : Index := 0#32
  let c0_62 : Index := 0#32
  ![v137.toNat, 0, 0]
@[reducible] def k0_t2_loop (v2 : BitVec 32) : Scf.Loop 32 :=
  let c0_i32 : BitVec 32 := 0#32
  let c255_i32 : BitVec 32 := 255#32
  let v3 : BitVec 32 := Scalar.addi v2 c255_i32
  let c8_i32 : BitVec 32 := 8#32
  let v4 : BitVec 32 := Scalar.shrui v3 c8_i32
  let v6 : BitVec 32 := Scalar.subi v4 c0_i32
  let c1_i32 : BitVec 32 := 1#32
  let v8 : BitVec 32 := Scalar.divsi v6 c1_i32
  let v9 : BitVec 32 := Scalar.muli v8 c1_i32
  let v10 : BitVec 32 := Scalar.addi c0_i32 v9
  let v7 : BitVec 32 := Scalar.addi c0_i32 v6
  let c1_i32_5 : BitVec 32 := 1#32
  ⟨v10, v7, c1_i32_5⟩
def k0_mult2 (v2 : BitVec 32) (k0_t2 : Fin (k0_t2_loop v2).trips) : BitVec 32 :=
  let c0_i32 : BitVec 32 := 0#32
  let c255_i32 : BitVec 32 := 255#32
  let v3 : BitVec 32 := Scalar.addi v2 c255_i32
  let c8_i32 : BitVec 32 := 8#32
  let v4 : BitVec 32 := Scalar.shrui v3 c8_i32
  let v6 : BitVec 32 := Scalar.subi v4 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_5 : BitVec 32 := 1#32
  let arg9 : BitVec 32 := Scf.iv v10 c1_i32_5 k0_t2
  let c256_i32 : BitVec 32 := 256#32
  let v16 : BitVec 32 := Scalar.muli arg9 c256_i32
  v16
def k0_off10 (v2 : BitVec 32) (k0_t2 : Fin (k0_t2_loop v2).trips) : Fin 2 → Nat :=
  let c0_i32 : BitVec 32 := 0#32
  let c255_i32 : BitVec 32 := 255#32
  let v3 : BitVec 32 := Scalar.addi v2 c255_i32
  let c8_i32 : BitVec 32 := 8#32
  let v4 : BitVec 32 := Scalar.shrui v3 c8_i32
  let v6 : BitVec 32 := Scalar.subi v4 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_5 : BitVec 32 := 1#32
  let arg9 : BitVec 32 := Scf.iv v10 c1_i32_5 k0_t2
  let c256_i32 : BitVec 32 := 256#32
  let v16 : BitVec 32 := Scalar.muli arg9 c256_i32
  let v17 : BitVec 32 := v16
  let v18 : Index := Scalar.indexCast v17
  let c0_9 : Index := 0#32
  ![v18.toNat, 0]
def k0_off11 (v2 : BitVec 32) (k0_t2 : Fin (k0_t2_loop v2).trips) : Fin 2 → Nat :=
  let c0_i32 : BitVec 32 := 0#32
  let c255_i32 : BitVec 32 := 255#32
  let v3 : BitVec 32 := Scalar.addi v2 c255_i32
  let c8_i32 : BitVec 32 := 8#32
  let v4 : BitVec 32 := Scalar.shrui v3 c8_i32
  let v6 : BitVec 32 := Scalar.subi v4 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_5 : BitVec 32 := 1#32
  let arg9 : BitVec 32 := Scf.iv v10 c1_i32_5 k0_t2
  let c256_i32 : BitVec 32 := 256#32
  let v16 : BitVec 32 := Scalar.muli arg9 c256_i32
  let v17 : BitVec 32 := v16
  let v25 : Index := Scalar.indexCast v17
  let c1024 : Index := 1024#32
  ![v25.toNat, 1024]
def k0_off12 (v2 : BitVec 32) (k0_t2 : Fin (k0_t2_loop v2).trips) : Fin 2 → Nat :=
  let c0_i32 : BitVec 32 := 0#32
  let c255_i32 : BitVec 32 := 255#32
  let v3 : BitVec 32 := Scalar.addi v2 c255_i32
  let c8_i32 : BitVec 32 := 8#32
  let v4 : BitVec 32 := Scalar.shrui v3 c8_i32
  let v6 : BitVec 32 := Scalar.subi v4 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_5 : BitVec 32 := 1#32
  let arg9 : BitVec 32 := Scf.iv v10 c1_i32_5 k0_t2
  let c256_i32 : BitVec 32 := 256#32
  let v16 : BitVec 32 := Scalar.muli arg9 c256_i32
  let v17 : BitVec 32 := v16
  let v32 : Index := Scalar.indexCast v17
  let c2048 : Index := 2048#32
  ![v32.toNat, 2048]
def k0_off13 (v2 : BitVec 32) (k0_t2 : Fin (k0_t2_loop v2).trips) : Fin 2 → Nat :=
  let c0_i32 : BitVec 32 := 0#32
  let c255_i32 : BitVec 32 := 255#32
  let v3 : BitVec 32 := Scalar.addi v2 c255_i32
  let c8_i32 : BitVec 32 := 8#32
  let v4 : BitVec 32 := Scalar.shrui v3 c8_i32
  let v6 : BitVec 32 := Scalar.subi v4 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_5 : BitVec 32 := 1#32
  let arg9 : BitVec 32 := Scf.iv v10 c1_i32_5 k0_t2
  let c256_i32 : BitVec 32 := 256#32
  let v16 : BitVec 32 := Scalar.muli arg9 c256_i32
  let v17 : BitVec 32 := v16
  let v39 : Index := Scalar.indexCast v17
  let c3072 : Index := 3072#32
  ![v39.toNat, 3072]
def k0_off14 (v2 : BitVec 32) (k0_t2 : Fin (k0_t2_loop v2).trips) : Fin 2 → Nat :=
  let c0_i32 : BitVec 32 := 0#32
  let c255_i32 : BitVec 32 := 255#32
  let v3 : BitVec 32 := Scalar.addi v2 c255_i32
  let c8_i32 : BitVec 32 := 8#32
  let v4 : BitVec 32 := Scalar.shrui v3 c8_i32
  let v6 : BitVec 32 := Scalar.subi v4 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_5 : BitVec 32 := 1#32
  let arg9 : BitVec 32 := Scf.iv v10 c1_i32_5 k0_t2
  let c256_i32 : BitVec 32 := 256#32
  let v16 : BitVec 32 := Scalar.muli arg9 c256_i32
  let v17 : BitVec 32 := v16
  let v46 : Index := Scalar.indexCast v17
  let c4096 : Index := 4096#32
  ![v46.toNat, 4096]
def k0_off15 (v2 : BitVec 32) (k0_t2 : Fin (k0_t2_loop v2).trips) : Fin 2 → Nat :=
  let c0_i32 : BitVec 32 := 0#32
  let c255_i32 : BitVec 32 := 255#32
  let v3 : BitVec 32 := Scalar.addi v2 c255_i32
  let c8_i32 : BitVec 32 := 8#32
  let v4 : BitVec 32 := Scalar.shrui v3 c8_i32
  let v6 : BitVec 32 := Scalar.subi v4 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_5 : BitVec 32 := 1#32
  let arg9 : BitVec 32 := Scf.iv v10 c1_i32_5 k0_t2
  let c256_i32 : BitVec 32 := 256#32
  let v16 : BitVec 32 := Scalar.muli arg9 c256_i32
  let v17 : BitVec 32 := v16
  let v53 : Index := Scalar.indexCast v17
  let c5120 : Index := 5120#32
  ![v53.toNat, 5120]
def k0_off16 (v2 : BitVec 32) (k0_t2 : Fin (k0_t2_loop v2).trips) : Fin 2 → Nat :=
  let c0_i32 : BitVec 32 := 0#32
  let c255_i32 : BitVec 32 := 255#32
  let v3 : BitVec 32 := Scalar.addi v2 c255_i32
  let c8_i32 : BitVec 32 := 8#32
  let v4 : BitVec 32 := Scalar.shrui v3 c8_i32
  let v6 : BitVec 32 := Scalar.subi v4 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_5 : BitVec 32 := 1#32
  let arg9 : BitVec 32 := Scf.iv v10 c1_i32_5 k0_t2
  let c256_i32 : BitVec 32 := 256#32
  let v16 : BitVec 32 := Scalar.muli arg9 c256_i32
  let v17 : BitVec 32 := v16
  let v60 : Index := Scalar.indexCast v17
  let c6144 : Index := 6144#32
  ![v60.toNat, 6144]
def k0_off17 (v2 : BitVec 32) (k0_t2 : Fin (k0_t2_loop v2).trips) (c0_i32_31 : BitVec 32) : Fin 2 → Nat :=
  let c0_i32 : BitVec 32 := 0#32
  let c255_i32 : BitVec 32 := 255#32
  let v3 : BitVec 32 := Scalar.addi v2 c255_i32
  let c8_i32 : BitVec 32 := 8#32
  let v4 : BitVec 32 := Scalar.shrui v3 c8_i32
  let v6 : BitVec 32 := Scalar.subi v4 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_5 : BitVec 32 := 1#32
  let arg9 : BitVec 32 := Scf.iv v10 c1_i32_5 k0_t2
  let c2_i32 : BitVec 32 := 2#32
  let v67 : BitVec 32 := Scalar.muli arg9 c2_i32
  let v68 : BitVec 32 := Scalar.addi v67 c0_i32_31
  let v75 : Index := Scalar.indexCast v68
  let c0_32 : Index := 0#32
  ![v75.toNat, 0]
def k0_off18 (v2 : BitVec 32) (k0_t2 : Fin (k0_t2_loop v2).trips) : Fin 3 → Nat :=
  let c0_i32 : BitVec 32 := 0#32
  let c255_i32 : BitVec 32 := 255#32
  let v3 : BitVec 32 := Scalar.addi v2 c255_i32
  let c8_i32 : BitVec 32 := 8#32
  let v4 : BitVec 32 := Scalar.shrui v3 c8_i32
  let v6 : BitVec 32 := Scalar.subi v4 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_5 : BitVec 32 := 1#32
  let arg9 : BitVec 32 := Scf.iv v10 c1_i32_5 k0_t2
  let v137 : Index := Scalar.indexCast arg9
  let c0_61 : Index := 0#32
  let c0_62 : Index := 0#32
  ![v137.toNat, 0, 0]

def k0_chk1 (v2 : BitVec 32) : Prop :=
  ((k0_t1_loop v2).OK) ∧
  (∀ k0_t1 : Fin (k0_t1_loop v2).trips, 256 ∣ (k0_mult1 v2 k0_t1).toNat) ∧
  (∀ k0_t1 : Fin (k0_t1_loop v2).trips, ∀ a, (k0_off1 v2 k0_t1) a + S256x1024.size a ≤ S1536x7168.size a) ∧
  (∀ k0_t1 : Fin (k0_t1_loop v2).trips, ∀ a, (k0_off2 v2 k0_t1) a + S256x1024.size a ≤ S1536x7168.size a) ∧
  (∀ k0_t1 : Fin (k0_t1_loop v2).trips, ∀ a, (k0_off3 v2 k0_t1) a + S256x1024.size a ≤ S1536x7168.size a) ∧
  (∀ k0_t1 : Fin (k0_t1_loop v2).trips, ∀ a, (k0_off4 v2 k0_t1) a + S256x1024.size a ≤ S1536x7168.size a) ∧
  (∀ k0_t1 : Fin (k0_t1_loop v2).trips, ∀ a, (k0_off5 v2 k0_t1) a + S256x1024.size a ≤ S1536x7168.size a) ∧
  (∀ k0_t1 : Fin (k0_t1_loop v2).trips, ∀ a, (k0_off6 v2 k0_t1) a + S256x1024.size a ≤ S1536x7168.size a) ∧
  (∀ k0_t1 : Fin (k0_t1_loop v2).trips, ∀ a, (k0_off7 v2 k0_t1) a + S256x1024.size a ≤ S1536x7168.size a) ∧
  (∀ k0_t1 : Fin (k0_t1_loop v2).trips, ∀ (r : Fin 2), ∀ a, (k0_off8 v2 k0_t1 (BitVec.ofNat 32 r.val)) a + S1x128.size a ≤ S16x128.size a) ∧
  (∀ k0_t1 : Fin (k0_t1_loop v2).trips, ∀ a, (k0_off9 v2 k0_t1) a + S1x256x256.size a ≤ S6x256x256.size a) ∧
  (∀ k0_t1 : Fin (k0_t1_loop v2).trips, ∀ (hinb : ∀ a, (k0_off9 v2 k0_t1) a + S1x256x256.size a ≤ S6x256x256.size a), (Rect.unit (s := S6x256x256) (k0_off9 v2 k0_t1) S1x256x256.size hinb).PackedRows (EltTy.packing .bf16)) ∧
  ((k0_t2_loop v2).OK) ∧
  (∀ k0_t2 : Fin (k0_t2_loop v2).trips, 256 ∣ (k0_mult2 v2 k0_t2).toNat) ∧
  (∀ k0_t2 : Fin (k0_t2_loop v2).trips, ∀ a, (k0_off10 v2 k0_t2) a + S256x1024.size a ≤ S1536x7168.size a) ∧
  (∀ k0_t2 : Fin (k0_t2_loop v2).trips, ∀ a, (k0_off11 v2 k0_t2) a + S256x1024.size a ≤ S1536x7168.size a) ∧
  (∀ k0_t2 : Fin (k0_t2_loop v2).trips, ∀ a, (k0_off12 v2 k0_t2) a + S256x1024.size a ≤ S1536x7168.size a) ∧
  (∀ k0_t2 : Fin (k0_t2_loop v2).trips, ∀ a, (k0_off13 v2 k0_t2) a + S256x1024.size a ≤ S1536x7168.size a) ∧
  (∀ k0_t2 : Fin (k0_t2_loop v2).trips, ∀ a, (k0_off14 v2 k0_t2) a + S256x1024.size a ≤ S1536x7168.size a) ∧
  (∀ k0_t2 : Fin (k0_t2_loop v2).trips, ∀ a, (k0_off15 v2 k0_t2) a + S256x1024.size a ≤ S1536x7168.size a) ∧
  (∀ k0_t2 : Fin (k0_t2_loop v2).trips, ∀ a, (k0_off16 v2 k0_t2) a + S256x1024.size a ≤ S1536x7168.size a) ∧
  (∀ k0_t2 : Fin (k0_t2_loop v2).trips, ∀ (r : Fin 2), ∀ a, (k0_off17 v2 k0_t2 (BitVec.ofNat 32 r.val)) a + S1x128.size a ≤ S16x128.size a) ∧
  (∀ k0_t2 : Fin (k0_t2_loop v2).trips, ∀ a, (k0_off18 v2 k0_t2) a + S1x256x256.size a ≤ S6x256x256.size a) ∧
  (∀ k0_t2 : Fin (k0_t2_loop v2).trips, ∀ (hinb : ∀ a, (k0_off18 v2 k0_t2) a + S1x256x256.size a ≤ S6x256x256.size a), (Rect.unit (s := S6x256x256) (k0_off18 v2 k0_t2) S1x256x256.size hinb).PackedRows (EltTy.packing .bf16))
theorem k0_t1_ok : ∀ (v2 : BitVec 32) (k0_hw1 : k0_chk1 v2), (k0_t1_loop v2).OK := fun v2 k0_hw1 => k0_hw1.1
theorem k0_mult1_dvd : ∀ (v2 : BitVec 32) (k0_hw1 : k0_chk1 v2) (k0_t1 : Fin (k0_t1_loop v2).trips), 256 ∣ (k0_mult1 v2 k0_t1).toNat := fun v2 k0_hw1 k0_t1 => k0_hw1.2.1 k0_t1
theorem k0_off1_inb : ∀ (v2 : BitVec 32) (k0_hw1 : k0_chk1 v2) (k0_t1 : Fin (k0_t1_loop v2).trips), ∀ a, (k0_off1 v2 k0_t1) a + S256x1024.size a ≤ S1536x7168.size a := fun v2 k0_hw1 k0_t1 => k0_hw1.2.2.1 k0_t1
theorem k0_off2_inb : ∀ (v2 : BitVec 32) (k0_hw1 : k0_chk1 v2) (k0_t1 : Fin (k0_t1_loop v2).trips), ∀ a, (k0_off2 v2 k0_t1) a + S256x1024.size a ≤ S1536x7168.size a := fun v2 k0_hw1 k0_t1 => k0_hw1.2.2.2.1 k0_t1
theorem k0_off3_inb : ∀ (v2 : BitVec 32) (k0_hw1 : k0_chk1 v2) (k0_t1 : Fin (k0_t1_loop v2).trips), ∀ a, (k0_off3 v2 k0_t1) a + S256x1024.size a ≤ S1536x7168.size a := fun v2 k0_hw1 k0_t1 => k0_hw1.2.2.2.2.1 k0_t1
theorem k0_off4_inb : ∀ (v2 : BitVec 32) (k0_hw1 : k0_chk1 v2) (k0_t1 : Fin (k0_t1_loop v2).trips), ∀ a, (k0_off4 v2 k0_t1) a + S256x1024.size a ≤ S1536x7168.size a := fun v2 k0_hw1 k0_t1 => k0_hw1.2.2.2.2.2.1 k0_t1
theorem k0_off5_inb : ∀ (v2 : BitVec 32) (k0_hw1 : k0_chk1 v2) (k0_t1 : Fin (k0_t1_loop v2).trips), ∀ a, (k0_off5 v2 k0_t1) a + S256x1024.size a ≤ S1536x7168.size a := fun v2 k0_hw1 k0_t1 => k0_hw1.2.2.2.2.2.2.1 k0_t1
theorem k0_off6_inb : ∀ (v2 : BitVec 32) (k0_hw1 : k0_chk1 v2) (k0_t1 : Fin (k0_t1_loop v2).trips), ∀ a, (k0_off6 v2 k0_t1) a + S256x1024.size a ≤ S1536x7168.size a := fun v2 k0_hw1 k0_t1 => k0_hw1.2.2.2.2.2.2.2.1 k0_t1
theorem k0_off7_inb : ∀ (v2 : BitVec 32) (k0_hw1 : k0_chk1 v2) (k0_t1 : Fin (k0_t1_loop v2).trips), ∀ a, (k0_off7 v2 k0_t1) a + S256x1024.size a ≤ S1536x7168.size a := fun v2 k0_hw1 k0_t1 => k0_hw1.2.2.2.2.2.2.2.2.1 k0_t1
theorem k0_off8_inb : ∀ (v2 : BitVec 32) (k0_hw1 : k0_chk1 v2) (k0_t1 : Fin (k0_t1_loop v2).trips), ∀ (r : Fin 2), ∀ a, (k0_off8 v2 k0_t1 (BitVec.ofNat 32 r.val)) a + S1x128.size a ≤ S16x128.size a := fun v2 k0_hw1 k0_t1 r => k0_hw1.2.2.2.2.2.2.2.2.2.1 k0_t1 r
theorem k0_off9_inb : ∀ (v2 : BitVec 32) (k0_hw1 : k0_chk1 v2) (k0_t1 : Fin (k0_t1_loop v2).trips), ∀ a, (k0_off9 v2 k0_t1) a + S1x256x256.size a ≤ S6x256x256.size a := fun v2 k0_hw1 k0_t1 => k0_hw1.2.2.2.2.2.2.2.2.2.2.1 k0_t1
theorem k0_off9_packedbf16 : ∀ (v2 : BitVec 32) (k0_hw1 : k0_chk1 v2) (k0_t1 : Fin (k0_t1_loop v2).trips), (Rect.unit (s := S6x256x256) (k0_off9 v2 k0_t1) S1x256x256.size (k0_off9_inb v2 k0_hw1 k0_t1)).PackedRows (EltTy.packing .bf16) := fun v2 k0_hw1 k0_t1 => k0_hw1.2.2.2.2.2.2.2.2.2.2.2.1 k0_t1 (k0_off9_inb v2 k0_hw1 k0_t1)
theorem k0_t2_ok : ∀ (v2 : BitVec 32) (k0_hw1 : k0_chk1 v2), (k0_t2_loop v2).OK := fun v2 k0_hw1 => k0_hw1.2.2.2.2.2.2.2.2.2.2.2.2.1
theorem k0_mult2_dvd : ∀ (v2 : BitVec 32) (k0_hw1 : k0_chk1 v2) (k0_t2 : Fin (k0_t2_loop v2).trips), 256 ∣ (k0_mult2 v2 k0_t2).toNat := fun v2 k0_hw1 k0_t2 => k0_hw1.2.2.2.2.2.2.2.2.2.2.2.2.2.1 k0_t2
theorem k0_off10_inb : ∀ (v2 : BitVec 32) (k0_hw1 : k0_chk1 v2) (k0_t2 : Fin (k0_t2_loop v2).trips), ∀ a, (k0_off10 v2 k0_t2) a + S256x1024.size a ≤ S1536x7168.size a := fun v2 k0_hw1 k0_t2 => k0_hw1.2.2.2.2.2.2.2.2.2.2.2.2.2.2.1 k0_t2
theorem k0_off11_inb : ∀ (v2 : BitVec 32) (k0_hw1 : k0_chk1 v2) (k0_t2 : Fin (k0_t2_loop v2).trips), ∀ a, (k0_off11 v2 k0_t2) a + S256x1024.size a ≤ S1536x7168.size a := fun v2 k0_hw1 k0_t2 => k0_hw1.2.2.2.2.2.2.2.2.2.2.2.2.2.2.2.1 k0_t2
theorem k0_off12_inb : ∀ (v2 : BitVec 32) (k0_hw1 : k0_chk1 v2) (k0_t2 : Fin (k0_t2_loop v2).trips), ∀ a, (k0_off12 v2 k0_t2) a + S256x1024.size a ≤ S1536x7168.size a := fun v2 k0_hw1 k0_t2 => k0_hw1.2.2.2.2.2.2.2.2.2.2.2.2.2.2.2.2.1 k0_t2
theorem k0_off13_inb : ∀ (v2 : BitVec 32) (k0_hw1 : k0_chk1 v2) (k0_t2 : Fin (k0_t2_loop v2).trips), ∀ a, (k0_off13 v2 k0_t2) a + S256x1024.size a ≤ S1536x7168.size a := fun v2 k0_hw1 k0_t2 => k0_hw1.2.2.2.2.2.2.2.2.2.2.2.2.2.2.2.2.2.1 k0_t2
theorem k0_off14_inb : ∀ (v2 : BitVec 32) (k0_hw1 : k0_chk1 v2) (k0_t2 : Fin (k0_t2_loop v2).trips), ∀ a, (k0_off14 v2 k0_t2) a + S256x1024.size a ≤ S1536x7168.size a := fun v2 k0_hw1 k0_t2 => k0_hw1.2.2.2.2.2.2.2.2.2.2.2.2.2.2.2.2.2.2.1 k0_t2
theorem k0_off15_inb : ∀ (v2 : BitVec 32) (k0_hw1 : k0_chk1 v2) (k0_t2 : Fin (k0_t2_loop v2).trips), ∀ a, (k0_off15 v2 k0_t2) a + S256x1024.size a ≤ S1536x7168.size a := fun v2 k0_hw1 k0_t2 => k0_hw1.2.2.2.2.2.2.2.2.2.2.2.2.2.2.2.2.2.2.2.1 k0_t2
theorem k0_off16_inb : ∀ (v2 : BitVec 32) (k0_hw1 : k0_chk1 v2) (k0_t2 : Fin (k0_t2_loop v2).trips), ∀ a, (k0_off16 v2 k0_t2) a + S256x1024.size a ≤ S1536x7168.size a := fun v2 k0_hw1 k0_t2 => k0_hw1.2.2.2.2.2.2.2.2.2.2.2.2.2.2.2.2.2.2.2.2.1 k0_t2
theorem k0_off17_inb : ∀ (v2 : BitVec 32) (k0_hw1 : k0_chk1 v2) (k0_t2 : Fin (k0_t2_loop v2).trips), ∀ (r : Fin 2), ∀ a, (k0_off17 v2 k0_t2 (BitVec.ofNat 32 r.val)) a + S1x128.size a ≤ S16x128.size a := fun v2 k0_hw1 k0_t2 r => k0_hw1.2.2.2.2.2.2.2.2.2.2.2.2.2.2.2.2.2.2.2.2.2.1 k0_t2 r
theorem k0_off18_inb : ∀ (v2 : BitVec 32) (k0_hw1 : k0_chk1 v2) (k0_t2 : Fin (k0_t2_loop v2).trips), ∀ a, (k0_off18 v2 k0_t2) a + S1x256x256.size a ≤ S6x256x256.size a := fun v2 k0_hw1 k0_t2 => k0_hw1.2.2.2.2.2.2.2.2.2.2.2.2.2.2.2.2.2.2.2.2.2.2.1 k0_t2
theorem k0_off18_packedbf16 : ∀ (v2 : BitVec 32) (k0_hw1 : k0_chk1 v2) (k0_t2 : Fin (k0_t2_loop v2).trips), (Rect.unit (s := S6x256x256) (k0_off18 v2 k0_t2) S1x256x256.size (k0_off18_inb v2 k0_hw1 k0_t2)).PackedRows (EltTy.packing .bf16) := fun v2 k0_hw1 k0_t2 => k0_hw1.2.2.2.2.2.2.2.2.2.2.2.2.2.2.2.2.2.2.2.2.2.2.2 k0_t2 (k0_off18_inb v2 k0_hw1 k0_t2)

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x7168 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ShrinkReferenceIdeal.lean ====
abbrev S2x128x7168 : Shape := ⟨3, ![2, 128, 7168]⟩
abbrev S1536x7168 : Shape := ⟨2, ![1536, 7168]⟩
abbrev S16x128 : Shape := ⟨2, ![16, 128]⟩
abbrev S3x256x128 : Shape := ⟨3, ![3, 256, 128]⟩
abbrev S1 : Shape := ⟨1, ![1]⟩
abbrev S256x7168 : Shape := ⟨2, ![256, 7168]⟩
abbrev S7168x1536 : Shape := ⟨2, ![7168, 1536]⟩
abbrev S256x1536 : Shape := ⟨2, ![256, 1536]⟩
abbrev S1x256x128 : Shape := ⟨3, ![1, 256, 128]⟩
abbrev S256x128 : Shape := ⟨2, ![256, 128]⟩
abbrev S1x256x1x128 : Shape := ⟨4, ![1, 256, 1, 128]⟩
abbrev S1x256x12x128 : Shape := ⟨4, ![1, 256, 12, 128]⟩
abbrev S1536 : Shape := ⟨1, ![1536]⟩
abbrev S1x1536 : Shape := ⟨2, ![1, 1536]⟩
abbrev S_ : Shape := ⟨0, ![]⟩
abbrev S12x128 : Shape := ⟨2, ![12, 128]⟩
abbrev S64 : Shape := ⟨1, ![64]⟩
abbrev S64x1 : Shape := ⟨2, ![64, 1]⟩
abbrev S64x1536 : Shape := ⟨2, ![64, 1536]⟩
abbrev S1536x256 : Shape := ⟨2, ![1536, 256]⟩
abbrev S64x256 : Shape := ⟨2, ![64, 256]⟩
abbrev S256x6x256 : Shape := ⟨3, ![256, 6, 256]⟩
abbrev S6x256x256 : Shape := ⟨3, ![6, 256, 256]⟩

abbrev nBuf : Space → Nat
  | .hbm => 68
  | .vmem => 0
  | .smem => 0
  | _ => 0

abbrev bufTy : (tb : Table) → Fin (tcTables nBuf tb) → BufTy
  | .hbm, ⟨0, _⟩ => ⟨S2x128x7168, .bf16⟩
  | .hbm, ⟨1, _⟩ => ⟨S1536x7168, .i8⟩
  | .hbm, ⟨2, _⟩ => ⟨S16x128, .f32⟩
  | .hbm, ⟨3, _⟩ => ⟨S3x256x128, .f32⟩
  | .hbm, ⟨4, _⟩ => ⟨S16x128, .i32⟩
  | .hbm, ⟨5, _⟩ => ⟨S1, .i32⟩
  | .hbm, ⟨6, _⟩ => ⟨S256x7168, .bf16⟩
  | .hbm, ⟨7, _⟩ => ⟨S1536x7168, .i32⟩
  | .hbm, ⟨8, _⟩ => ⟨S1536x7168, .bf16⟩
  | .hbm, ⟨9, _⟩ => ⟨S7168x1536, .bf16⟩
  | .hbm, ⟨10, _⟩ => ⟨S256x1536, .f32⟩
  | .hbm, ⟨11, _⟩ => ⟨S1x256x128, .f32⟩
  | .hbm, ⟨12, _⟩ => ⟨S256x128, .f32⟩
  | .hbm, ⟨13, _⟩ => ⟨S1x256x1x128, .f32⟩
  | .hbm, ⟨14, _⟩ => ⟨S1x256x12x128, .f32⟩
  | .hbm, ⟨15, _⟩ => ⟨S256x1536, .f32⟩
  | .hbm, ⟨16, _⟩ => ⟨S1x256x128, .f32⟩
  | .hbm, ⟨17, _⟩ => ⟨S256x128, .f32⟩
  | .hbm, ⟨18, _⟩ => ⟨S1x256x1x128, .f32⟩
  | .hbm, ⟨19, _⟩ => ⟨S1x256x12x128, .f32⟩
  | .hbm, ⟨20, _⟩ => ⟨S256x1536, .f32⟩
  | .hbm, ⟨21, _⟩ => ⟨S1x256x128, .f32⟩
  | .hbm, ⟨22, _⟩ => ⟨S256x128, .f32⟩
  | .hbm, ⟨23, _⟩ => ⟨S1x256x1x128, .f32⟩
  | .hbm, ⟨24, _⟩ => ⟨S1x256x12x128, .f32⟩
  | .hbm, ⟨25, _⟩ => ⟨S256x1536, .f32⟩
  | .hbm, ⟨26, _⟩ => ⟨S1536, .i32⟩
  | .hbm, ⟨27, _⟩ => ⟨S1536, .f32⟩
  | .hbm, ⟨28, _⟩ => ⟨S1x1536, .f32⟩
  | .hbm, ⟨29, _⟩ => ⟨S256x1536, .f32⟩
  | .hbm, ⟨30, _⟩ => ⟨S256x1536, .i1⟩
  | .hbm, ⟨31, _⟩ => ⟨S1536, .f32⟩
  | .hbm, ⟨32, _⟩ => ⟨S1x1536, .f32⟩
  | .hbm, ⟨33, _⟩ => ⟨S256x1536, .f32⟩
  | .hbm, ⟨34, _⟩ => ⟨S256x1536, .i1⟩
  | .hbm, ⟨35, _⟩ => ⟨S256x1536, .i1⟩
  | .hbm, ⟨36, _⟩ => ⟨S_, .i32⟩
  | .hbm, ⟨37, _⟩ => ⟨S1536, .i32⟩
  | .hbm, ⟨38, _⟩ => ⟨S1536, .i32⟩
  | .hbm, ⟨39, _⟩ => ⟨S_, .i32⟩
  | .hbm, ⟨40, _⟩ => ⟨S1536, .i32⟩
  | .hbm, ⟨41, _⟩ => ⟨S1536, .i1⟩
  | .hbm, ⟨42, _⟩ => ⟨S1x1536, .i1⟩
  | .hbm, ⟨43, _⟩ => ⟨S256x1536, .i1⟩
  | .hbm, ⟨44, _⟩ => ⟨S256x1536, .i1⟩
  | .hbm, ⟨45, _⟩ => ⟨S12x128, .f32⟩
  | .hbm, ⟨46, _⟩ => ⟨S1x1536, .f32⟩
  | .hbm, ⟨47, _⟩ => ⟨S256x1536, .f32⟩
  | .hbm, ⟨48, _⟩ => ⟨S256x1536, .f32⟩
  | .hbm, ⟨49, _⟩ => ⟨S256x1536, .f32⟩
  | .hbm, ⟨50, _⟩ => ⟨S_, .f32⟩
  | .hbm, ⟨51, _⟩ => ⟨S_, .f32⟩
  | .hbm, ⟨52, _⟩ => ⟨S256x1536, .f32⟩
  | .hbm, ⟨53, _⟩ => ⟨S256x1536, .f32⟩
  | .hbm, ⟨54, _⟩ => ⟨S256x1536, .bf16⟩
  | .hbm, ⟨55, _⟩ => ⟨S64, .i32⟩
  | .hbm, ⟨56, _⟩ => ⟨S64x1, .i32⟩
  | .hbm, ⟨57, _⟩ => ⟨S12x128, .i32⟩
  | .hbm, ⟨58, _⟩ => ⟨S1x1536, .i32⟩
  | .hbm, ⟨59, _⟩ => ⟨S64x1536, .i32⟩
  | .hbm, ⟨60, _⟩ => ⟨S64x1536, .i32⟩
  | .hbm, ⟨61, _⟩ => ⟨S64x1536, .i1⟩
  | .hbm, ⟨62, _⟩ => ⟨S64x1536, .bf16⟩
  | .hbm, ⟨63, _⟩ => ⟨S1536x256, .bf16⟩
  | .hbm, ⟨64, _⟩ => ⟨S64x256, .f32⟩
  | .hbm, ⟨65, _⟩ => ⟨S64x256, .bf16⟩
  | .hbm, ⟨66, _⟩ => ⟨S256x6x256, .bf16⟩
  | .hbm, ⟨67, _⟩ => ⟨S6x256x256, .bf16⟩
  | _, _ => ⟨S2x128x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst : Ref sig .tc := ⟨.hbm, 50, rfl⟩
abbrev main_call0_v0 : Ref sig .tc := ⟨.hbm, 51, rfl⟩
abbrev main_call0_v1 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩

abbrev nD : Nat := 1
abbrev τ : Topo := Topo.v7x

variable {F : FTy → Type} [FloatOps F]
-- ==== Proof.Tab.lean ====
module

public import Idealize.ShloMosaic.Lib.Tactic
public import Idealize.ShloMosaic.Lib.WordCmp

@[expose] public section

namespace Cert.Math

open Idealize.ShloMosaic

/-- Entry `k` of a table of `n` words (zero past the end). -/
def get {n : ℕ} (f : (⟨1, ![n]⟩ : Shape).Idx → BitVec 32) (k : ℕ) : BitVec 32 :=
  if h : k < n then f (fun a => ⟨k, by fin_cases a; exact h⟩) else 0

theorem get_eq {n : ℕ} (f : (⟨1, ![n]⟩ : Shape).Idx → BitVec 32) (x : (⟨1, ![n]⟩ : Shape).Idx) (k : ℕ)
    (h : (x 0).val = k) : f x = get f k := by
  subst h
  have hl : (x 0).val < n := (x 0).2
  unfold get
  rw [dif_pos hl]
  congr 1
  funext a
  fin_cases a
  rfl

/-- The word rows a segment of tokens `[lo, hi)` takes, for an adapter starting at row `st` with `rk` rows. -/
def wordsW (lo hi st rk : BitVec 32) : BitVec 32 :=
  if lo.toInt < hi.toInt then ((st &&& 3#32) + rk + 3#32) >>> 2 else 0#32

/-- The four tables of words: adapter starts and ranks, segment bounds, segment adapters. -/
structure Tb where
  st0 : (⟨1, ![41]⟩ : Shape).Idx → BitVec 32
  rk0 : (⟨1, ![41]⟩ : Shape).Idx → BitVec 32
  so0 : (⟨1, ![28]⟩ : Shape).Idx → BitVec 32
  sg0 : (⟨1, ![27]⟩ : Shape).Idx → BitVec 32

namespace Tb
variable (T : Tb)
/-- The first token of segment `e`. -/
def lo (e : ℕ) : BitVec 32 := get T.so0 e
/-- The token past segment `e`. -/
def hi (e : ℕ) : BitVec 32 := get T.so0 (e + 1)
/-- The adapter of segment `e`. -/
def sg (e : ℕ) : BitVec 32 := get T.sg0 e
/-- The first pool row of segment `e`'s adapter. -/
def st (e : ℕ) : BitVec 32 := get T.st0 (T.sg e).toNat
/-- The rank of segment `e`'s adapter. -/
def rk (e : ℕ) : BitVec 32 := get T.rk0 (T.sg e).toNat
/-- The word rows of segment `e`. -/
def nw (e : ℕ) : ℕ := (wordsW (T.lo e) (T.hi e) (T.st e) (T.rk e)).toNat
/-- The word rows before segment `e`. -/
def off (e : ℕ) : ℕ := ∑ k ∈ Finset.range e, T.nw k
/-- All word rows. -/
def n : ℕ := T.off 27
/-- The pool's word row that word row `t` is copied from. -/
def src (t : ℕ) : ℕ :=
  ∑ e ∈ Finset.range 27, if T.off e ≤ t ∧ t < T.off (e + 1) then (T.st e).toNat / 4 + (t - T.off e) else 0
end Tb

/-- What the precondition says of the tables. -/
structure Fits (T : Tb) : Prop where
  sg : ∀ e < 27, (T.sg e).toNat < 41
  st : ∀ e < 27, (T.st e).toNat ≤ 2943
  mono : ∀ e < 27, (T.lo e).toInt ≤ (T.hi e).toInt
  rk : ∀ e < 27, (T.lo e).toInt < (T.hi e).toInt → (T.rk e).toNat ≤ 64
  tot : T.n ≤ 384

theorem wordsW_toNat (lo hi st rk : BitVec 32) (hr : lo.toInt < hi.toInt → rk.toNat ≤ 64) :
    (wordsW lo hi st rk).toNat = if lo.toInt < hi.toInt then (st.toNat % 4 + rk.toNat + 3) / 4 else 0 := by
  unfold wordsW
  split
  · rename_i h
    have := hr h
    have h3 : (st &&& 3#32).toNat = st.toNat % 4 := by
      rw [BitVec.toNat_and]; exact Nat.and_two_pow_sub_one_eq_mod st.toNat 2
    have := st.isLt
    have h1 : ((st &&& 3#32) + rk + 3#32).toNat = st.toNat % 4 + rk.toNat + 3 := by
      rw [BitVec.toNat_add, BitVec.toNat_add, h3]; simp; omega
    rw [BitVec.toNat_ushiftRight, h1, Nat.shiftRight_eq_div_pow];
  · rfl

namespace Fits
variable {T : Tb} (h : Fits T)
include h

theorem nw_eq (e : ℕ) (he : e < 27) :
    T.nw e = if (T.lo e).toInt < (T.hi e).toInt then ((T.st e).toNat % 4 + (T.rk e).toNat + 3) / 4 else 0 :=
  wordsW_toNat _ _ _ _ (h.rk e he)

theorem nw_le (e : ℕ) (he : e < 27) : T.nw e ≤ 17 := by
  rw [h.nw_eq e he]; split
  · have := h.rk e he ‹_›; omega
  · omega

omit h in
theorem off_succ (e : ℕ) : T.off (e + 1) = T.off e + T.nw e := Finset.sum_range_succ _ _

omit h in
theorem off_mono {a b : ℕ} (hab : a ≤ b) : T.off a ≤ T.off b :=
  Finset.sum_le_sum_of_subset (Finset.range_mono hab)

omit h in
theorem off_le_n {e : ℕ} (he : e ≤ 27) : T.off e ≤ T.n := off_mono he

theorem off_le (e : ℕ) (he : e ≤ 27) : T.off e ≤ 384 := (off_mono he).trans h.tot

omit h in
theorem src_eq (e : ℕ) (he : e < 27) (t : ℕ) (h1 : T.off e ≤ t) (h2 : t < T.off (e + 1)) :
    T.src t = (T.st e).toNat / 4 + (t - T.off e) := by
  unfold Tb.src
  rw [Finset.sum_eq_single e, if_pos ⟨h1, h2⟩]
  · intro b hb hne
    rw [if_neg]
    rintro ⟨h3, h4⟩
    rcases Nat.lt_or_gt_of_ne hne with hlt | hlt
    · have := off_mono (T := T) (show b + 1 ≤ e by omega); omega
    · have := off_mono (T := T) (show e + 1 ≤ b by omega); omega
  · intro hn; exact absurd (Finset.mem_range.mpr he) hn

omit h in
theorem src_off (e : ℕ) (he : e < 27) (k : ℕ) (hk : k < T.nw e) : T.src (T.off e + k) = (T.st e).toNat / 4 + k := by
  rw [src_eq e he _ (Nat.le_add_right _ _) (by rw [off_succ]; omega)]; omega

omit h in
/-- Every word row lies in a segment. -/
theorem seg_of (t : ℕ) (ht : t < T.n) : ∃ e < 27, T.off e ≤ t ∧ t < T.off (e + 1) := by
  unfold Tb.n at ht
  have : ∀ m, m ≤ 27 → t < T.off m → ∃ e < 27, T.off e ≤ t ∧ t < T.off (e + 1) := by
    intro m
    induction m with
    | zero => intro _ h0; simp [Tb.off] at h0
    | succ m ih =>
      intro hm h0
      by_cases hlt : t < T.off m
      · exact ih (by omega) hlt
      · exact ⟨m, by omega, by omega, h0⟩
  exact this 27 le_rfl ht

theorem src_le (t : ℕ) (ht : t < T.n) : T.src t ≤ 751 := by
  obtain ⟨e, he, h1, h2⟩ := seg_of t ht
  rw [src_eq e he t h1 h2]
  have := h.st e he; have := h.nw_le e he; rw [off_succ] at h2; omega
end Fits

end Cert.Math
-- ==== Proof.Rows.lean ====
module

public import proofs.«01_k».proof.Proof.Tab
public import Idealize.ShloMosaic.Lib.Tactic
public import Idealize.ShloMosaic.Lib.Batch
public import Idealize.ShloMosaic.Lib.Ring
public import Idealize.ShloMosaic.Lib.Pipeline.Frame
public import Idealize.ShloMosaic.Lib.Claim

@[expose] public section

set_option maxRecDepth 16384

noncomputable section

namespace Cert.Math

open Idealize.ShloMosaic

/-- Entry `(r, j)` of a matrix of `M` rows; `d` past the last row. -/
def rowAt {M W : ℕ} {α : Type} (f : (⟨2, ![M, W]⟩ : Shape).Idx → α) (d : α) (r : ℕ) (j : Fin W) : α :=
  if h : r < M then f (fun a => ⟨(![r, j.val] : Fin 2 → ℕ) a, by fin_cases a; exacts [h, j.2]⟩) else d

theorem rowAt_eq {M W : ℕ} {α : Type} (f : (⟨2, ![M, W]⟩ : Shape).Idx → α) (d : α) (r : ℕ) (j : Fin W)
    (x : (⟨2, ![M, W]⟩ : Shape).Idx) (h0 : (x 0).val = r) (h1 : (x 1).val = j.val) : rowAt f d r j = f x := by
  have hr : r < M := h0 ▸ (x 0).2
  unfold rowAt
  rw [dif_pos hr]
  congr 1
  funext a
  apply Fin.ext
  fin_cases a
  · exact h0.symm
  · exact h1.symm

/-- The gathered matrix: its first `4 n` rows from the pool `p`, the rest as it was. -/
def gath {W : ℕ} {α : Type} (T : Tb) (p : (⟨2, ![3100, W]⟩ : Shape).Idx → α) (o : (⟨2, ![1536, W]⟩ : Shape).Idx → α)
    (i : (⟨2, ![1536, W]⟩ : Shape).Idx) : α :=
  if (i 0).val < 4 * T.n then rowAt p (o i) (4 * T.src ((i 0).val / 4) + (i 0).val % 4) (i 1) else o i

/-- Rows `[4 t, 4 t + 4)` of a matrix. -/
def rows4 {M W : ℕ} (t : ℕ) : Finset (⟨2, ![M, W]⟩ : Shape).Idx :=
  Finset.univ.filter fun i => 4 * t ≤ (i 0).val ∧ (i 0).val < 4 * t + 4

theorem mem_rows4 {M W : ℕ} (t : ℕ) (i : (⟨2, ![M, W]⟩ : Shape).Idx) :
    i ∈ rows4 t ↔ 4 * t ≤ (i 0).val ∧ (i 0).val < 4 * t + 4 := by simp [rows4]

end Cert.Math
-- ==== Proof.Checks.lean ====
module

public import proofs.«01_k».proof.Proof.Tab
public import proofs.«01_k».proof.Proof.Gen.Kernel.Skeleton
public import Idealize.ShloMosaic.Lib.Affine

@[expose] public section

namespace Cert.Kernel

open Idealize.ShloMosaic Idealize.ShloMosaic.Affine Cert.Math

theorem ub_id (x : BitVec 32) :
    Scalar.addi 0#32 (Scalar.muli (Scalar.divsi (Scalar.subi x 0#32) 1#32) 1#32) = x := by
  simp [Scalar.addi, Scalar.muli, Scalar.divsi, Scalar.subi, IntOp.addi, IntOp.muli, IntOp.divsi, IntOp.subi, IntOp.SDivCorner]

theorem ub_id' (x : BitVec 32) : Scalar.addi 0#32 (Scalar.subi x 0#32) = x := by
  simp [Scalar.addi, Scalar.subi, IntOp.addi, IntOp.subi]

theorem words_eq (lo hi st rk : BitVec 32) :
    Scalar.select (Scalar.cmpi .sgt hi lo) (Scalar.shrui (Scalar.addi (Scalar.addi (Scalar.andi st 3#32)
      (Scalar.select (Scalar.cmpi .sgt hi lo) rk 0#32)) 3#32) 2#32) 0#32 = wordsW lo hi st rk := by
  unfold wordsW
  by_cases h : lo.toInt < hi.toInt
  · have : Scalar.cmpi .sgt hi lo = 1#1 := IntOp.cmpi_sgt.mpr h
    rw [this, if_pos h]
    simp [Scalar.select, Scalar.shrui, Scalar.addi, Scalar.andi, IntOp.shrui, IntOp.addi, IntOp.andi]
  · have : ¬ Scalar.cmpi .sgt hi lo = 1#1 := fun hh => h (IntOp.cmpi_sgt.mp hh)
    rw [if_neg h]
    simp [Scalar.select, this]

theorem trips_up (x : BitVec 32) (h : x.toNat < 2 ^ 31) : Scf.trips 0#32 x 1#32 = x.toNat := by
  have : x.toInt = x.toNat := BitVec.toInt_eq_toNat_of_lt (by omega)
  unfold Scf.trips
  rw [this]; simp

theorem ok_up (x : BitVec 32) (h : x.toNat < 2 ^ 31) : Scf.OK 0#32 x 1#32 := by
  refine ⟨by decide, ?_⟩
  rw [trips_up x h]; simp; omega

theorem trips_none (x : BitVec 32) : Scf.trips x x 1#32 = 0 := by
  unfold Scf.trips; simp

theorem ok_none (x : BitVec 32) : Scf.OK x x 1#32 := by
  refine ⟨by decide, ?_⟩
  rw [trips_none]; have := x.toInt_lt; simpa using this

theorem iv_toNat (k : ℕ) (h : k < 2 ^ 32) : (Scf.iv 0#32 1#32 k).toNat = k := by
  simp [Scf.iv]; omega

theorem t2_ub (lo hi st rk : BitVec 32) : (k0_t2_loop lo hi st rk).ub = wordsW lo hi st rk :=
  (ub_id _).trans (words_eq lo hi st rk)
theorem t3_lb (lo hi st rk : BitVec 32) : (k0_t3_loop lo hi st rk).lb = wordsW lo hi st rk :=
  (ub_id _).trans (words_eq lo hi st rk)
theorem t3_ub (lo hi st rk : BitVec 32) : (k0_t3_loop lo hi st rk).ub = wordsW lo hi st rk :=
  (ub_id' _).trans (words_eq lo hi st rk)
theorem t4_ub (x : BitVec 32) : (k0_t4_loop x).ub = x := ub_id x
theorem t5_lb (x : BitVec 32) : (k0_t5_loop x).lb = x := ub_id x
theorem t5_ub (x : BitVec 32) : (k0_t5_loop x).ub = x := ub_id' x
/-- The blocks of 256 rows. -/
def nbW (x : BitVec 32) : BitVec 32 := Scalar.shrui (Scalar.addi (Scalar.muli x 4#32) 255#32) 8#32
theorem t6_ub (x : BitVec 32) : (k0_t6_loop x).ub = nbW x := ub_id _
theorem t7_lb (x : BitVec 32) : (k0_t7_loop x).lb = nbW x := ub_id _
theorem t7_ub (x : BitVec 32) : (k0_t7_loop x).ub = nbW x := ub_id' _

theorem t3_trips (lo hi st rk : BitVec 32) : (k0_t3_loop lo hi st rk).trips = 0 := by
  show Scf.trips (k0_t3_loop lo hi st rk).lb (k0_t3_loop lo hi st rk).ub 1#32 = 0
  rw [t3_lb, t3_ub, trips_none]
theorem t5_trips (x : BitVec 32) : (k0_t5_loop x).trips = 0 := by
  show Scf.trips (k0_t5_loop x).lb (k0_t5_loop x).ub 1#32 = 0
  rw [t5_lb, t5_ub, trips_none]
theorem t7_trips (x : BitVec 32) : (k0_t7_loop x).trips = 0 := by
  show Scf.trips (k0_t7_loop x).lb (k0_t7_loop x).ub 1#32 = 0
  rw [t7_lb, t7_ub, trips_none]

theorem t2_trips (lo hi st rk : BitVec 32) (h : (wordsW lo hi st rk).toNat < 2 ^ 31) :
    (k0_t2_loop lo hi st rk).trips = (wordsW lo hi st rk).toNat := by
  show Scf.trips 0#32 (k0_t2_loop lo hi st rk).ub 1#32 = _
  rw [t2_ub, trips_up _ h]
theorem t4_trips (x : BitVec 32) (h : x.toNat < 2 ^ 31) : (k0_t4_loop x).trips = x.toNat := by
  show Scf.trips 0#32 (k0_t4_loop x).ub 1#32 = _
  rw [t4_ub, trips_up _ h]

theorem nbW_toNat (x : BitVec 32) (h : x.toNat ≤ 384) : (nbW x).toNat = (4 * x.toNat + 255) / 256 := by
  have h1 : (Scalar.addi (Scalar.muli x 4#32) 255#32).toNat = 4 * x.toNat + 255 := by
    simp [Scalar.addi, Scalar.muli, IntOp.addi, IntOp.muli]; omega
  unfold nbW
  simp only [Scalar.shrui, IntOp.shrui]
  simp [h1, Nat.shiftRight_eq_div_pow]
theorem t6_trips (x : BitVec 32) (h : x.toNat ≤ 384) : (k0_t6_loop x).trips = (4 * x.toNat + 255) / 256 := by
  show Scf.trips 0#32 (k0_t6_loop x).ub 1#32 = _
  rw [t6_ub, trips_up _ (by rw [nbW_toNat x h]; omega), nbW_toNat x h]

theorem rowOff (a : BitVec 32) (k : ℕ) (h : a.toNat + k ≤ 800) :
    (Scalar.muli (Scalar.addi a (Scf.iv 0#32 1#32 k)) 4#32).toNat = 4 * (a.toNat + k) := by
  have := iv_toNat k (by omega)
  simp only [Scalar.muli, Scalar.addi, IntOp.muli, IntOp.addi, BitVec.toNat_mul, BitVec.toNat_add, this]
  simp; omega

theorem ivOff (m : BitVec 32) (k : ℕ) (h : k ≤ 800) (hm : m.toNat ≤ 256) :
    (Scalar.muli (Scf.iv 0#32 1#32 k) m).toNat = k * m.toNat := by
  have := iv_toNat k (by omega)
  simp only [Scalar.muli, IntOp.muli, BitVec.toNat_mul, this]
  have : k * m.toNat ≤ 800 * 256 := Nat.mul_le_mul h hm
  omega

theorem srcW (st : BitVec 32) : (Scalar.shrui st 2#32).toNat = st.toNat / 4 := by
  simp [Scalar.shrui, IntOp.shrui, Nat.shiftRight_eq_div_pow]

theorem inb2 {m w W : ℕ} {M : ℕ} (o : ℕ) (h : o + m ≤ M) (hw : w ≤ W) :
    ∀ a, (![o, 0] : Fin 2 → ℕ) a + (⟨2, ![m, w]⟩ : Shape).size a ≤ (⟨2, ![M, W]⟩ : Shape).size a := by
  intro a; fin_cases a
  · exact h
  · simpa using hw

theorem words2 {m W M : ℕ} (o : ℕ) (h : ∀ a, (![o, 0] : Fin 2 → ℕ) a + (⟨2, ![m, W]⟩ : Shape).size a ≤ (⟨2, ![M, W]⟩ : Shape).size a)
    (ho : 4 ∣ o) (hm : 4 ∣ m) :
    (Rect.unit (s := ⟨2, ![M, W]⟩) ![o, 0] (⟨2, ![m, W]⟩ : Shape).size h).WholeWords (EltTy.packing .i8) := by
  refine Or.inl (packed_dvd (le_refl 2) ?_ ?_)
  · exact ho
  · exact hm

theorem in41 {o : ℕ} (h : o < 41) : ∀ a, (![o] : Fin 1 → ℕ) a + S1.size a ≤ S41.size a := by
  intro a; fin_cases a; show o + 1 ≤ 41; omega

theorem odd_chk (i : grid0.Coords) (v : BitVec 32) (h : v.toNat < 41) : k0_chk3 i v :=
  ⟨fun _ => in41 h, fun _ => in41 h⟩

theorem chk1 (i : grid0.Coords) (v : BitVec 32) (h : v.toNat < 41) : k0_chk1 i v := fun _ => in41 h

theorem d0 (v : BitVec 32) (h : v.toNat ≤ 2943) :
    (Scalar.shrui (Scalar.muli (Scalar.shrui v 2#32) 4#32) 7#32).toNat = v.toNat / 128 := by
  have h1 : (Scalar.muli (Scalar.shrui v 2#32) 4#32).toNat = v.toNat / 4 * 4 := by
    have := srcW v
    simp only [Scalar.muli, IntOp.muli, BitVec.toNat_mul, this]; simp; omega
  simp only [Scalar.shrui, IntOp.shrui] at h1 ⊢
  simp [Nat.shiftRight_eq_div_pow, h1]; simp at h1; omega

theorem d0m (v : BitVec 32) (h : v.toNat ≤ 2943) :
    (Scalar.muli (Scalar.shrui (Scalar.muli (Scalar.shrui v 2#32) 4#32) 7#32) 128#32).toNat = 128 * (v.toNat / 128) := by
  have := d0 v h
  simp only [Scalar.muli, IntOp.muli, BitVec.toNat_mul] at this ⊢
  rw [this]; simp; omega

theorem d1m (v : BitVec 32) (h : v.toNat ≤ 2943) :
    (Scalar.muli (Scalar.addi (Scalar.shrui (Scalar.muli (Scalar.shrui v 2#32) 4#32) 7#32) 1#32) 128#32).toNat
      = 128 * (v.toNat / 128 + 1) := by
  have := d0 v h
  simp only [Scalar.muli, IntOp.muli, Scalar.addi, IntOp.addi, BitVec.toNat_mul, BitVec.toNat_add] at this ⊢
  rw [this]; simp; omega

theorem in3100 {o : ℕ} (h : o + 128 ≤ 3100) : ∀ a, (![0, o] : Fin 2 → ℕ) a + S1x128.size a ≤ S1x3100.size a := by
  intro a; fin_cases a
  · show 0 + 1 ≤ 1; omega
  · show o + 128 ≤ 3100; omega

theorem even_chk (i : grid0.Coords) (v : BitVec 32) (h : v.toNat ≤ 2943) : k0_chk4 i v := by
  have e0 := d0m v h
  have e1 := d1m v h
  refine ⟨fun _ => ?_, fun _ => in3100 ?_, fun _ => ?_, fun _ => in3100 ?_, fun _ => ?_, fun _ => ?_⟩
  · exact ⟨_, e0⟩
  · exact (Nat.add_le_add_right e0.le 128).trans (by omega)
  · exact ⟨_, e1⟩
  · exact (Nat.add_le_add_right e1.le 128).trans (by omega)
  · exact ⟨_, e0⟩
  · exact ⟨_, e1⟩

theorem off5_eq (a lo hi st rk : BitVec 32) (k : Fin (k0_t2_loop lo hi st rk).trips) (h : a.toNat + k ≤ 800) :
    k0_off5 a lo hi st rk k = ![4 * (a.toNat + k), 0] := congrArg (fun o => ![o, 0]) (rowOff a k h)
theorem off7_eq (a lo hi st rk : BitVec 32) (k : Fin (k0_t2_loop lo hi st rk).trips) (h : a.toNat + k ≤ 800) :
    k0_off7 a lo hi st rk k = ![4 * (a.toNat + k), 0] := congrArg (fun o => ![o, 0]) (rowOff a k h)
theorem off6_eq (lo hi st rk : BitVec 32) (k : Fin (k0_t2_loop lo hi st rk).trips) (h : st.toNat / 4 + k ≤ 800) :
    k0_off6 lo hi st rk k = ![4 * (st.toNat / 4 + k), 0] := by
  have := rowOff (Scalar.shrui st 2#32) k (by rw [srcW]; exact h)
  rw [srcW] at this
  exact congrArg (fun o => ![o, 0]) this
theorem off8_eq (lo hi st rk : BitVec 32) (k : Fin (k0_t2_loop lo hi st rk).trips) (h : st.toNat / 4 + k ≤ 800) :
    k0_off8 lo hi st rk k = ![4 * (st.toNat / 4 + k), 0] := by
  have := rowOff (Scalar.shrui st 2#32) k (by rw [srcW]; exact h)
  rw [srcW] at this
  exact congrArg (fun o => ![o, 0]) this

theorem chk2 (i : grid0.Coords) (a lo hi st rk : BitVec 32) (hst : st.toNat ≤ 2943)
    (hw : (wordsW lo hi st rk).toNat ≤ 17) (ha : a.toNat + (wordsW lo hi st rk).toNat ≤ 384) : k0_chk2 i a lo hi st rk := by
  have ht := t2_trips lo hi st rk (by omega)
  have hno : ∀ k : Fin (k0_t3_loop lo hi st rk).trips, False := fun k =>
    absurd (lt_of_lt_of_eq k.2 (t3_trips lo hi st rk)) (Nat.not_lt_zero _)
  refine ⟨fun _ => ?_, fun k _ => ?_, fun k _ => ?_, fun k _ => ?_, fun k _ => ?_, fun k _ => ?_, fun k _ => ?_, fun k _ => ?_,
    fun k _ => ?_, fun _ => ?_, fun k => (hno k).elim, fun k => (hno k).elim, fun k => (hno k).elim, fun k => (hno k).elim,
    fun k => (hno k).elim, fun k => (hno k).elim, fun k => (hno k).elim, fun k => (hno k).elim⟩
  · show Scf.OK 0#32 (k0_t2_loop lo hi st rk).ub 1#32
    rw [t2_ub]; exact ok_up _ (by omega)
  all_goals try have hk : k.val < (wordsW lo hi st rk).toNat := ht ▸ k.2
  · rw [off5_eq a lo hi st rk k (by omega)]; exact inb2 _ (by omega) le_rfl
  · rw [off6_eq lo hi st rk k (by omega)]; exact inb2 _ (by omega) le_rfl
  · rw [off6_eq lo hi st rk k (by omega)]; exact fun h => words2 _ h (Nat.dvd_mul_right ..) (by decide)
  · rw [off5_eq a lo hi st rk k (by omega)]; exact fun h => words2 _ h (Nat.dvd_mul_right ..) (by decide)
  · rw [off7_eq a lo hi st rk k (by omega)]; exact inb2 _ (by omega) le_rfl
  · rw [off8_eq lo hi st rk k (by omega)]; exact inb2 _ (by omega) le_rfl
  · rw [off8_eq lo hi st rk k (by omega)]; exact fun h => words2 _ h (Nat.dvd_mul_right ..) (by decide)
  · rw [off7_eq a lo hi st rk k (by omega)]; exact fun h => words2 _ h (Nat.dvd_mul_right ..) (by decide)
  · show Scf.OK (k0_t3_loop lo hi st rk).lb (k0_t3_loop lo hi st rk).ub 1#32
    rw [t3_lb, t3_ub]; exact ok_none _

theorem off121_eq (v : BitVec 32) (k : Fin (k0_t4_loop v).trips) (h : k.val ≤ 800) :
    k0_off121 v k = ![4 * k.val, 0] := by
  have := ivOff 4#32 k.val h (by decide)
  exact congrArg (fun o => ![o, 0]) (this.trans (Nat.mul_comm _ _))
theorem off122_eq (v : BitVec 32) (k : Fin (k0_t4_loop v).trips) (h : k.val ≤ 800) :
    k0_off122 v k = ![4 * k.val, 0] := by
  have := ivOff 4#32 k.val h (by decide)
  exact congrArg (fun o => ![o, 0]) (this.trans (Nat.mul_comm _ _))

theorem blkOff (k : ℕ) (h : k ≤ 800) : (Scalar.muli (Scf.iv 0#32 1#32 k) 256#32).toNat = 256 * k :=
  (ivOff 256#32 k h (by decide)).trans (Nat.mul_comm _ _)
theorem off125_eq (v : BitVec 32) (k : Fin (k0_t6_loop v).trips) (h : k.val ≤ 800) : k0_off125 v k = ![256 * k.val, 0] :=
  congrArg (fun o => ![o, 0]) (blkOff k.val h)
theorem off126_eq (v : BitVec 32) (k : Fin (k0_t6_loop v).trips) (h : k.val ≤ 800) : k0_off126 v k = ![256 * k.val, 1024] :=
  congrArg (fun o => ![o, 1024]) (blkOff k.val h)
theorem off127_eq (v : BitVec 32) (k : Fin (k0_t6_loop v).trips) (h : k.val ≤ 800) : k0_off127 v k = ![256 * k.val, 2048] :=
  congrArg (fun o => ![o, 2048]) (blkOff k.val h)
theorem off128_eq (v : BitVec 32) (k : Fin (k0_t6_loop v).trips) (h : k.val ≤ 800) : k0_off128 v k = ![256 * k.val, 3072] :=
  congrArg (fun o => ![o, 3072]) (blkOff k.val h)
theorem off129_eq (v : BitVec 32) (k : Fin (k0_t6_loop v).trips) (h : k.val ≤ 800) : k0_off129 v k = ![256 * k.val, 4096] :=
  congrArg (fun o => ![o, 4096]) (blkOff k.val h)
theorem off130_eq (v : BitVec 32) (k : Fin (k0_t6_loop v).trips) (h : k.val ≤ 800) : k0_off130 v k = ![256 * k.val, 5120] :=
  congrArg (fun o => ![o, 5120]) (blkOff k.val h)
theorem off131_eq (v : BitVec 32) (k : Fin (k0_t6_loop v).trips) (h : k.val ≤ 800) : k0_off131 v k = ![256 * k.val, 6144] :=
  congrArg (fun o => ![o, 6144]) (blkOff k.val h)

theorem off132_eq (v : BitVec 32) (k : Fin (k0_t6_loop v).trips) (r : Fin 2) (h : k.val ≤ 800) :
    k0_off132 v k (BitVec.ofNat 32 r.val) = ![2 * k.val + r.val, 0] := by
  have h1 := ivOff 2#32 k.val h (by decide)
  have : (Scalar.addi (Scalar.muli (Scf.iv 0#32 1#32 k.val) 2#32) (BitVec.ofNat 32 r.val)).toNat = 2 * k.val + r.val := by
    simp only [Scalar.addi, IntOp.addi, BitVec.toNat_add, h1]
    simp; omega
  exact congrArg (fun o => ![o, 0]) this
theorem off133_eq (v : BitVec 32) (k : Fin (k0_t6_loop v).trips) (h : k.val ≤ 800) :
    k0_off133 v k = ![k.val, 0, 0] :=
  congrArg (fun o => ![o, 0, 0]) (iv_toNat k.val (by omega))

theorem inbA {o c : ℕ} (h : o + 256 ≤ 1536) (hc : c + 1024 ≤ 7168) :
    ∀ a, (![o, c] : Fin 2 → ℕ) a + S256x1024.size a ≤ S1536x7168.size a := by
  intro a; fin_cases a
  · exact h
  · exact hc

theorem chk57 (i : grid0.Coords) (v : BitVec 32) (h : v.toNat ≤ 384) : k0_chk57 i v := by
  have h4 := t4_trips v (by omega)
  have h6 := t6_trips v h
  have n5 : ∀ k : Fin (k0_t5_loop v).trips, False := fun k =>
    absurd (lt_of_lt_of_eq k.2 (t5_trips v)) (Nat.not_lt_zero _)
  have n7 : ∀ k : Fin (k0_t7_loop v).trips, False := fun k =>
    absurd (lt_of_lt_of_eq k.2 (t7_trips v)) (Nat.not_lt_zero _)
  refine ⟨⟨fun _ => ?_, fun k _ => ?_, fun k _ => ?_, fun k _ => ?_, fun k _ => ?_, fun _ => ?_,
    fun k => (n5 k).elim, fun k => (n5 k).elim, fun k => (n5 k).elim, fun k => (n5 k).elim, fun _ => ?_, fun k _ => ?_,
    fun k _ => ?_, fun k _ => ?_, fun k _ => ?_, fun k _ => ?_, fun k _ => ?_, fun k _ => ?_, fun k _ => ?_, fun k _ r => ?_,
    fun k _ => ?_, fun k _ => ?_, fun _ => ?_, fun k => (n7 k).elim, fun k => (n7 k).elim, fun k => (n7 k).elim,
    fun k => (n7 k).elim, fun k => (n7 k).elim, fun k => (n7 k).elim, fun k => (n7 k).elim, fun k => (n7 k).elim,
    fun k => (n7 k).elim⟩, fun k => (n7 k).elim, fun k => (n7 k).elim⟩
  · show Scf.OK 0#32 (k0_t4_loop v).ub 1#32
    rw [t4_ub]; exact ok_up _ (by omega)
  · have hk : k.val < v.toNat := h4 ▸ k.2
    rw [off121_eq v k (by omega)]; exact inb2 _ (by omega) le_rfl
  · have hk : k.val < v.toNat := h4 ▸ k.2
    rw [off121_eq v k (by omega)]; exact fun h => words2 _ h (Nat.dvd_mul_right ..) (by decide)
  · have hk : k.val < v.toNat := h4 ▸ k.2
    rw [off122_eq v k (by omega)]; exact inb2 _ (by omega) le_rfl
  · have hk : k.val < v.toNat := h4 ▸ k.2
    rw [off122_eq v k (by omega)]; exact fun h => words2 _ h (Nat.dvd_mul_right ..) (by decide)
  · show Scf.OK (k0_t5_loop v).lb (k0_t5_loop v).ub 1#32
    rw [t5_lb, t5_ub]; exact ok_none _
  · show Scf.OK 0#32 (k0_t6_loop v).ub 1#32
    rw [t6_ub]; exact ok_up _ (by rw [nbW_toNat v h]; omega)
  all_goals try have hk : k.val < (4 * v.toNat + 255) / 256 := h6 ▸ k.2
  · exact ⟨k.val, blkOff k.val (by omega)⟩
  · rw [off125_eq v k (by omega)]; exact inbA (by omega) (by omega)
  · rw [off126_eq v k (by omega)]; exact inbA (by omega) (by omega)
  · rw [off127_eq v k (by omega)]; exact inbA (by omega) (by omega)
  · rw [off128_eq v k (by omega)]; exact inbA (by omega) (by omega)
  · rw [off129_eq v k (by omega)]; exact inbA (by omega) (by omega)
  · rw [off130_eq v k (by omega)]; exact inbA (by omega) (by omega)
  · rw [off131_eq v k (by omega)]; exact inbA (by omega) (by omega)
  · rw [off132_eq v k r (by omega)]
    intro a; fin_cases a
    · show 2 * k.val + r.val + 1 ≤ 16; omega
    · show 0 + 128 ≤ 128; omega
  · rw [off133_eq v k (by omega)]
    intro a; fin_cases a
    · show k.val + 1 ≤ 6; omega
    · show 0 + 256 ≤ 256; omega
    · show 0 + 256 ≤ 256; omega
  · intro hinb
    refine packed_dvd (by decide) ?_ ?_
    · rw [off133_eq v k (by omega)]; exact ⟨0, rfl⟩
    · exact ⟨128, rfl⟩
  · show Scf.OK (k0_t7_loop v).lb (k0_t7_loop v).ub 1#32
    rw [t7_lb, t7_ub]; exact ok_none _

end Cert.Kernel
-- ==== Proof.Gather.lean ====
module

public import proofs.«01_k».proof.Proof.Rows
public import proofs.«01_k».proof.Proof.Checks
public import proofs.«01_k».proof.Proof.Gen.Kernel.Launch
public import Idealize.ShloMosaic.Lib.Tactic
public import Idealize.ShloMosaic.Lib.Batch
public import Idealize.ShloMosaic.Lib.Ring
public import Idealize.ShloMosaic.Lib.Pipeline.Frame
public import Idealize.ShloMosaic.Lib.Claim

@[expose] public section

set_option maxRecDepth 16384

noncomputable section

namespace Cert.Kernel.Body

open Cert.Kernel Cert.Kernel.Gen Cert.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The certificate's algebra: the pipeline's rounds beside the transfers' counters. -/
abbrev UD : Type := Pipeline.UD sig nD τ
local notation "𝕄" => MT nD τ sig Unit (Elt F) ℕ UD ℕ

/-- The transfers' counters in the machine's algebra. -/
abbrev EC : UEmb Counters 𝕄 := countersEmb (U := UD)

/-- The transfers already issued. -/
def issued {n : ℕ} (j : ℕ) : Finset (Fin n) := Finset.univ.filter fun t => t.val < j

theorem issued_succ {n j : ℕ} (hj : j < n) : issued (n := n) (j + 1) = insert ⟨j, hj⟩ (issued j) := by
  ext t; simp only [issued, Finset.mem_filter, Finset.mem_univ, true_and, Finset.mem_insert, Fin.ext_iff]; omega
theorem not_mem_issued {n j : ℕ} (hj : j < n) : (⟨j, hj⟩ : Fin n) ∉ issued (n := n) j := by simp [issued]
theorem issued_zero {n : ℕ} : issued (n := n) 0 = ∅ := by simp [issued]
theorem issued_all {n : ℕ} : issued (n := n) n = Finset.univ := by
  unfold issued; exact Finset.filter_true_of_mem fun t _ => t.2
theorem pending_all {n : ℕ} : Transfers.pending (n := n) n = ∅ := by
  unfold Transfers.pending; exact Finset.filter_false_of_mem fun t _ => by have := t.2; omega

attribute [local irreducible] Tb.n Tb.off

/-- The elements outside `I`. -/
def keep {ℓ : Loc nD τ sig} (I : Finset (Idx ℓ)) : Finset (Idx ℓ) := Finset.univ \ I

theorem split_keep {ℓ : Loc nD τ sig} (I : Finset (Idx ℓ)) {q : PosShare TreeShare} {f : Buf (Elt F) ℓ} :
    (ℓ ↦{q} f : sProp 𝕄) ⊣⊢ iprop((ℓ ↦[I]{q} f) ∗ ℓ ↦[keep I]{q} f) :=
  pointsTo_split_subset (Finset.subset_univ I)

theorem issued_take {n j : ℕ} {Φ : Fin n → sProp 𝕄} (hj : j < n) :
    iprop(Φ ⟨j, hj⟩ ∗ bigSep (issued j) Φ) ⊢ bigSep (issued (j + 1)) Φ :=
  Entails.of_eq (by rw [issued_succ hj, bigSep_insert (not_mem_issued hj)]; rfl)

theorem pending_take {n j : ℕ} {Φ : Fin n → sProp 𝕄} (hj : j < n) :
    bigSep (Transfers.pending j) Φ ⊢ iprop(Φ ⟨j, hj⟩ ∗ bigSep (Transfers.pending (j + 1)) Φ) :=
  Entails.of_eq (by rw [Transfers.pending_succ hj, bigSep_insert (Transfers.not_mem_pending_succ hj)]; rfl)

/-! ## The rows gathered into cc0_scratch0 -/

abbrev mA : Memref sig .tc .vmem S1536x7168 .i8 := Memref.whole cc0_scratch0
abbrev pA : Memref sig .tc .hbm S3100x7168 .i8 := Memref.whole main_arg3
abbrev LA (c : Dev nD) : Loc nD τ sig := mA.view.loc (c : Thread nD τ)
abbrev PA (c : Dev nD) : Loc nD τ sig := pA.view.loc (c : Thread nD τ)
/-- One transfer's credit. -/
abbrev NA : ℕ := cc0_scratch0.dmaCredit S4x7168 .i8

theorem set_mA (o : Fin 2 → ℕ) (t : ℕ) (ho : o = ![4 * t, 0])
    (h : ∀ a, o a + S4x7168.size a ≤ S1536x7168.size a) :
    (mA.slice (Rect.unit (s := S1536x7168) o S4x7168.size h) (fun _ => rfl)).view.set = rows4 t := by
  subst ho
  refine (View.set_slice_whole cc0_scratch0 (Rect.unit (s := S1536x7168) ![4 * t, 0] S4x7168.size h)).trans ?_
  ext i
  rw [Rect.mem_set_unit, mem_rows4]
  constructor
  · intro hh; exact hh 0
  · intro hh a
    fin_cases a
    · exact hh
    · exact ⟨Nat.zero_le _, lt_of_lt_of_eq (i 1).2 (Nat.zero_add _).symm⟩

theorem set_pA (o : Fin 2 → ℕ) (t : ℕ) (ho : o = ![4 * t, 0])
    (h : ∀ a, o a + S4x7168.size a ≤ S3100x7168.size a) :
    (pA.slice (Rect.unit (s := S3100x7168) o S4x7168.size h) (fun _ => rfl)).view.set = rows4 t := by
  subst ho
  refine (View.set_slice_whole main_arg3 (Rect.unit (s := S3100x7168) ![4 * t, 0] S4x7168.size h)).trans ?_
  ext i
  rw [Rect.mem_set_unit, mem_rows4]
  constructor
  · intro hh; exact hh 0
  · intro hh a
    fin_cases a
    · exact hh
    · exact ⟨Nat.zero_le _, lt_of_lt_of_eq (i 1).2 (Nat.zero_add _).symm⟩

theorem emb_mA (o : Fin 2 → ℕ) (h : ∀ a, o a + S4x7168.size a ≤ S1536x7168.size a) (x : S4x7168.Idx) (a : Fin 2) :
    ((mA.slice (Rect.unit (s := S1536x7168) o S4x7168.size h) (fun _ => rfl)).view.emb x a).val = o a + (x a).val :=
  (Rect.emb_apply (Rect.unit (s := S1536x7168) o S4x7168.size h) x a).trans (congrArg (o a + ·) (Nat.one_mul _))

theorem emb_pA (o : Fin 2 → ℕ) (h : ∀ a, o a + S4x7168.size a ≤ S3100x7168.size a) (x : S4x7168.Idx) (a : Fin 2) :
    ((pA.slice (Rect.unit (s := S3100x7168) o S4x7168.size h) (fun _ => rfl)).view.emb x a).val = o a + (x a).val :=
  (Rect.emb_apply (Rect.unit (s := S3100x7168) o S4x7168.size h) x a).trans (congrArg (o a + ·) (Nat.one_mul _))

theorem write_mA (T : Tb) (hT : Fits T) (o o' : Fin 2 → ℕ) (t : ℕ) (ht : t < T.n) (ho : o = ![4 * t, 0]) (ho' : o' = ![4 * T.src t, 0])
    (h : ∀ a, o a + S4x7168.size a ≤ S1536x7168.size a) (h' : ∀ a, o' a + S4x7168.size a ≤ S3100x7168.size a)
    (a0 : S1536x7168.Idx → Elt F .i8) (p0 : S3100x7168.Idx → Elt F .i8) (i : S1536x7168.Idx) (hi : i ∈ rows4 t) :
    (mA.slice (Rect.unit (s := S1536x7168) o S4x7168.size h) (fun _ => rfl)).view.write (Elt F) a0
      ((pA.slice (Rect.unit (s := S3100x7168) o' S4x7168.size h') (fun _ => rfl)).view.read (Elt F) p0) Finset.univ i
      = gath T p0 a0 i := by
  have hm := (mem_rows4 t i).mp hi
  have hset := set_mA o t ho h
  rw [← hset] at hi
  obtain ⟨x, -, hx⟩ := Finset.mem_map.mp hi
  have o0 : o 0 = 4 * t := congrFun ho 0
  have o1 : o 1 = 0 := congrFun ho 1
  have o0' : o' 0 = 4 * T.src t := congrFun ho' 0
  have o1' : o' 1 = 0 := congrFun ho' 1
  have e0 : (i 0).val = 4 * t + (x 0).val := by
    have := emb_mA o h x 0
    rw [hx] at this; omega
  have e1 : (i 1).val = (x 1).val := by
    have := emb_mA o h x 1
    rw [hx] at this; omega
  have hx0 : (x 0).val < 4 := (x 0).2
  have hg : gath T p0 a0 i = rowAt p0 (a0 i) (4 * T.src t + (x 0).val) (i 1) := by
    unfold gath
    rw [if_pos (by omega)]
    exact congrArg (fun r => rowAt p0 (a0 i) r (i 1)) (by rw [show (i 0).val / 4 = t by omega]; omega)
  rw [hg]
  have hw := (mA.slice (Rect.unit (s := S1536x7168) o S4x7168.size h) (fun _ => rfl)).view.write_emb (Val := Elt F) a0
      ((pA.slice (Rect.unit (s := S3100x7168) o' S4x7168.size h') (fun _ => rfl)).view.read (Elt F) p0) Finset.univ x
  rw [hx, if_pos (Finset.mem_univ _)] at hw
  refine hw.trans ?_
  refine (rowAt_eq p0 (a0 i) _ (i 1) _ ?_ ?_).symm
  · exact (emb_pA o' h' x 0).trans (congrArg (· + (x 0).val) o0')
  · exact (emb_pA o' h' x 1).trans (by rw [e1]; omega)

/-- What transfer `t` delivers: its four rows gathered, and its share of the rows it read. -/
def DA (c : Dev nD) (T : Tb) (a0 : Buf (Elt F) (LA c)) (p0 : Buf (Elt F) (PA c)) (t : Fin T.n) : sProp 𝕄 :=
  iprop((LA c ↦[rows4 t.val]{fullShare} (gath T p0 a0 : Buf (Elt F) (LA c)))
    ∗ (PA c ↦[rows4 (T.src t.val)]{Transfers.shareTokN fullShare t.val} p0))

instance DA_storable (c : Dev nD) (T : Tb) (a0 : Buf (Elt F) (LA c)) (p0 : Buf (Elt F) (PA c)) (t : Fin T.n) :
    BI.Storable (upEmb : UEmb _ 𝕄) (DA c T a0 p0 t) := by unfold DA; infer_instance

/-- The batch on its cell. -/
abbrev BA (c : Dev nD) (T : Tb) (a0 : Buf (Elt F) (LA c)) (p0 : Buf (Elt F) (PA c)) (j u : ℕ) : sProp 𝕄 :=
  Transfers.Batch (EC (F := F)) (c : Thread nD τ) (.dma cc0_scratch8.sem) () NA (DA c T a0 p0) j u

/-- What transfer `t` takes: the rows it writes, and its share of the whole pool. -/
def toDoA (c : Dev nD) (T : Tb) (a0 : Buf (Elt F) (LA c)) (p0 : Buf (Elt F) (PA c)) (t : Fin T.n) : sProp 𝕄 :=
  iprop((LA c ↦[rows4 t.val]{fullShare} a0) ∗ (PA c ↦{Transfers.shareTokN fullShare t.val} p0))

/-- What is kept of the share lent to transfer `t`. -/
def keptPA (c : Dev nD) (T : Tb) (p0 : Buf (Elt F) (PA c)) (t : Fin T.n) : sProp 𝕄 :=
  iprop(PA c ↦[keep (rows4 (T.src t.val))]{Transfers.shareTokN fullShare t.val} p0)

/-- What is kept of all shares lent. -/
@[irreducible] def keptSA (c : Dev nD) (T : Tb) (p0 : Buf (Elt F) (PA c)) (j : ℕ) : sProp 𝕄 :=
  bigSep (issued (n := T.n) j) (keptPA c T p0)

theorem keptSA_eq (c : Dev nD) (T : Tb) (p0 : Buf (Elt F) (PA c)) (j : ℕ) :
    keptSA c T p0 j = bigSep (issued (n := T.n) j) (keptPA c T p0) := by unfold keptSA; rfl

theorem keptSA_succ (c : Dev nD) (T : Tb) (p0 : Buf (Elt F) (PA c)) (j : ℕ) (hj : j < T.n) :
    iprop(keptPA c T p0 ⟨j, hj⟩ ∗ keptSA c T p0 j) ⊢ keptSA c T p0 (j + 1) := by
  rw [keptSA_eq, keptSA_eq]
  exact issued_take (F := F) (n := T.n) (j := j) (Φ := keptPA c T p0) hj

/-- With `j` transfers issued: the rows and shares of those to come, what is kept of the shares lent, the batch. -/
def GA (c : Dev nD) (T : Tb) (a0 : Buf (Elt F) (LA c)) (p0 : Buf (Elt F) (PA c)) (j : ℕ) : sProp 𝕄 :=
  iprop(bigSep (Transfers.pending (n := T.n) j) (toDoA c T a0 p0)
    ∗ keptSA c T p0 j
    ∗ BA c T a0 p0 j 0)

set_option maxHeartbeats 1000000 in
theorem issueA (c : Dev nD) (T : Tb) (hT : Fits T) (a0 : Buf (Elt F) (LA c)) (p0 : Buf (Elt F) (PA c)) (j : ℕ) (hj : j < T.n)
    (o o' : Fin 2 → ℕ) (ho : o = ![4 * j, 0]) (ho' : o' = ![4 * T.src j, 0])
    (h : ∀ a, o a + S4x7168.size a ≤ S1536x7168.size a) (h' : ∀ a, o' a + S4x7168.size a ≤ S3100x7168.size a)
    {hsrc hdst hsem} {α : Type} {k : PUnit → Prog (TpuEff nD τ sig (Elt F) Λ₀ .tc) α} {Q : α → sProp 𝕄} :
    GA c T a0 p0 j ⊢ iprop((GA c T a0 p0 (j + 1) -∗ wp frame (wpE (defs₀ (F := F)) Variants.none (c : Thread nD τ) none) Set.univ (k ⟨⟩) Q)
      -∗ wp frame (wpE (defs₀ (F := F)) Variants.none (c : Thread nD τ) none) Set.univ
        (.op (.enqueueDma (pA.slice (Rect.unit (s := S3100x7168) o' S4x7168.size h') (fun _ => rfl))
          (.here (mA.slice (Rect.unit (s := S1536x7168) o S4x7168.size h) (fun _ => rfl))) (.dma cc0_scratch8.sem) hsrc hdst hsem) k) Q) := by
  unfold GA
  iintro ⟨HP, Hi, HB⟩ Hk
  ihave HP' := (pending_take (Φ := toDoA c T a0 p0) hj) $$ HP
  icases HP' with ⟨Hds, Hp⟩
  unfold toDoA
  icases Hds with ⟨Hd, Hs⟩
  ihave Hs' := (split_keep (ℓ := PA c) (rows4 (T.src j))).1 $$ Hs
  icases Hs' with ⟨Hs1, Hs2⟩
  have hps := set_pA o' (T.src j) ho' h'
  have hD : iprop(((mA.slice (Rect.unit (s := S1536x7168) o S4x7168.size h) (fun _ => rfl)).view.loc (c : Thread nD τ) ↦[rows4 j]{fullShare}
          ((mA.slice (Rect.unit (s := S1536x7168) o S4x7168.size h) (fun _ => rfl)).view.write (Elt F) a0
            ((ReadAs.same).apply ((pA.slice (Rect.unit (s := S3100x7168) o' S4x7168.size h') (fun _ => rfl)).view.read (Elt F) p0)) Finset.univ))
        ∗ ((pA.slice (Rect.unit (s := S3100x7168) o' S4x7168.size h') (fun _ => rfl)).view.loc (c : Thread nD τ)
            ↦[(pA.slice (Rect.unit (s := S3100x7168) o' S4x7168.size h') (fun _ => rfl)).view.set]{Transfers.shareTokN fullShare j} p0))
      ⊢ DA (F := F) c T a0 p0 ⟨j, hj⟩ := by
    rw [hps]
    unfold DA
    refine sep_mono_left (Entails.of_eq (pointsTo_congr fun i hi => ?_))
    exact write_mA T hT o o' j hj ho ho' h h' a0 p0 i hi
  iapply (Transfers.wp_dmaBatch (EC (F := F)) Variants.none (c : Thread nD τ) none (D := DA c T a0 p0) (j := j) (u := 0) (Sd := rows4 j)
    (src := pA.slice (Rect.unit (s := S3100x7168) o' S4x7168.size h') (fun _ => rfl)) (via := ReadAs.same) (q := Transfers.shareTokN fullShare j)
    (dst := mA.slice (Rect.unit (s := S1536x7168) o S4x7168.size h) (fun _ => rfl)) (fs := p0) (fd := a0) (sm := .dma cc0_scratch8.sem) (k := k) (Q := Q) (hsrc := hsrc) (hdst := hdst) (hsem := hsem) () NA rfl
    (set_mA o j ho h).le hj (Nat.zero_le _) hD) $$ [Hd Hs1 HB]
  · isplitl [Hs1]; · rw [hps]; iexact Hs1
    isplitl [Hd]; · iexact Hd
    iexact HB
  iintro HB
  iapply Hk
  isplitl [Hp]; · iexact Hp
  isplitl [Hi Hs2]
  · ihave Hw := (keptSA_succ c T p0 j hj) $$ [Hi Hs2]
    · isplitl [Hs2]; · unfold keptPA; iexact Hs2
      iexact Hi
    iexact Hw
  iexact HB

/-! ## The rows gathered into cc0_scratch1 -/

abbrev mB : Memref sig .tc .vmem S1536x18432 .i8 := Memref.whole cc0_scratch1
abbrev pB : Memref sig .tc .hbm S3100x18432 .i8 := Memref.whole main_arg5
abbrev LB (c : Dev nD) : Loc nD τ sig := mB.view.loc (c : Thread nD τ)
abbrev PB (c : Dev nD) : Loc nD τ sig := pB.view.loc (c : Thread nD τ)
/-- One transfer's credit. -/
abbrev NB : ℕ := cc0_scratch1.dmaCredit S4x18432 .i8

theorem set_mB (o : Fin 2 → ℕ) (t : ℕ) (ho : o = ![4 * t, 0])
    (h : ∀ a, o a + S4x18432.size a ≤ S1536x18432.size a) :
    (mB.slice (Rect.unit (s := S1536x18432) o S4x18432.size h) (fun _ => rfl)).view.set = rows4 t := by
  subst ho
  refine (View.set_slice_whole cc0_scratch1 (Rect.unit (s := S1536x18432) ![4 * t, 0] S4x18432.size h)).trans ?_
  ext i
  rw [Rect.mem_set_unit, mem_rows4]
  constructor
  · intro hh; exact hh 0
  · intro hh a
    fin_cases a
    · exact hh
    · exact ⟨Nat.zero_le _, lt_of_lt_of_eq (i 1).2 (Nat.zero_add _).symm⟩

theorem set_pB (o : Fin 2 → ℕ) (t : ℕ) (ho : o = ![4 * t, 0])
    (h : ∀ a, o a + S4x18432.size a ≤ S3100x18432.size a) :
    (pB.slice (Rect.unit (s := S3100x18432) o S4x18432.size h) (fun _ => rfl)).view.set = rows4 t := by
  subst ho
  refine (View.set_slice_whole main_arg5 (Rect.unit (s := S3100x18432) ![4 * t, 0] S4x18432.size h)).trans ?_
  ext i
  rw [Rect.mem_set_unit, mem_rows4]
  constructor
  · intro hh; exact hh 0
  · intro hh a
    fin_cases a
    · exact hh
    · exact ⟨Nat.zero_le _, lt_of_lt_of_eq (i 1).2 (Nat.zero_add _).symm⟩

theorem emb_mB (o : Fin 2 → ℕ) (h : ∀ a, o a + S4x18432.size a ≤ S1536x18432.size a) (x : S4x18432.Idx) (a : Fin 2) :
    ((mB.slice (Rect.unit (s := S1536x18432) o S4x18432.size h) (fun _ => rfl)).view.emb x a).val = o a + (x a).val :=
  (Rect.emb_apply (Rect.unit (s := S1536x18432) o S4x18432.size h) x a).trans (congrArg (o a + ·) (Nat.one_mul _))

theorem emb_pB (o : Fin 2 → ℕ) (h : ∀ a, o a + S4x18432.size a ≤ S3100x18432.size a) (x : S4x18432.Idx) (a : Fin 2) :
    ((pB.slice (Rect.unit (s := S3100x18432) o S4x18432.size h) (fun _ => rfl)).view.emb x a).val = o a + (x a).val :=
  (Rect.emb_apply (Rect.unit (s := S3100x18432) o S4x18432.size h) x a).trans (congrArg (o a + ·) (Nat.one_mul _))

theorem write_mB (T : Tb) (hT : Fits T) (o o' : Fin 2 → ℕ) (t : ℕ) (ht : t < T.n) (ho : o = ![4 * t, 0]) (ho' : o' = ![4 * T.src t, 0])
    (h : ∀ a, o a + S4x18432.size a ≤ S1536x18432.size a) (h' : ∀ a, o' a + S4x18432.size a ≤ S3100x18432.size a)
    (a0 : S1536x18432.Idx → Elt F .i8) (p0 : S3100x18432.Idx → Elt F .i8) (i : S1536x18432.Idx) (hi : i ∈ rows4 t) :
    (mB.slice (Rect.unit (s := S1536x18432) o S4x18432.size h) (fun _ => rfl)).view.write (Elt F) a0
      ((pB.slice (Rect.unit (s := S3100x18432) o' S4x18432.size h') (fun _ => rfl)).view.read (Elt F) p0) Finset.univ i
      = gath T p0 a0 i := by
  have hm := (mem_rows4 t i).mp hi
  have hset := set_mB o t ho h
  rw [← hset] at hi
  obtain ⟨x, -, hx⟩ := Finset.mem_map.mp hi
  have o0 : o 0 = 4 * t := congrFun ho 0
  have o1 : o 1 = 0 := congrFun ho 1
  have o0' : o' 0 = 4 * T.src t := congrFun ho' 0
  have o1' : o' 1 = 0 := congrFun ho' 1
  have e0 : (i 0).val = 4 * t + (x 0).val := by
    have := emb_mB o h x 0
    rw [hx] at this; omega
  have e1 : (i 1).val = (x 1).val := by
    have := emb_mB o h x 1
    rw [hx] at this; omega
  have hx0 : (x 0).val < 4 := (x 0).2
  have hg : gath T p0 a0 i = rowAt p0 (a0 i) (4 * T.src t + (x 0).val) (i 1) := by
    unfold gath
    rw [if_pos (by omega)]
    exact congrArg (fun r => rowAt p0 (a0 i) r (i 1)) (by rw [show (i 0).val / 4 = t by omega]; omega)
  rw [hg]
  have hw := (mB.slice (Rect.unit (s := S1536x18432) o S4x18432.size h) (fun _ => rfl)).view.write_emb (Val := Elt F) a0
      ((pB.slice (Rect.unit (s := S3100x18432) o' S4x18432.size h') (fun _ => rfl)).view.read (Elt F) p0) Finset.univ x
  rw [hx, if_pos (Finset.mem_univ _)] at hw
  refine hw.trans ?_
  refine (rowAt_eq p0 (a0 i) _ (i 1) _ ?_ ?_).symm
  · exact (emb_pB o' h' x 0).trans (congrArg (· + (x 0).val) o0')
  · exact (emb_pB o' h' x 1).trans (by rw [e1]; omega)

/-- What transfer `t` delivers: its four rows gathered, and its share of the rows it read. -/
def DB (c : Dev nD) (T : Tb) (a0 : Buf (Elt F) (LB c)) (p0 : Buf (Elt F) (PB c)) (t : Fin T.n) : sProp 𝕄 :=
  iprop((LB c ↦[rows4 t.val]{fullShare} (gath T p0 a0 : Buf (Elt F) (LB c)))
    ∗ (PB c ↦[rows4 (T.src t.val)]{Transfers.shareTokN fullShare t.val} p0))

instance DB_storable (c : Dev nD) (T : Tb) (a0 : Buf (Elt F) (LB c)) (p0 : Buf (Elt F) (PB c)) (t : Fin T.n) :
    BI.Storable (upEmb : UEmb _ 𝕄) (DB c T a0 p0 t) := by unfold DB; infer_instance

/-- The batch on its cell. -/
abbrev BB (c : Dev nD) (T : Tb) (a0 : Buf (Elt F) (LB c)) (p0 : Buf (Elt F) (PB c)) (j u : ℕ) : sProp 𝕄 :=
  Transfers.Batch (EC (F := F)) (c : Thread nD τ) (.dma cc0_scratch9.sem) () NB (DB c T a0 p0) j u

/-- What transfer `t` takes: the rows it writes, and its share of the whole pool. -/
def toDoB (c : Dev nD) (T : Tb) (a0 : Buf (Elt F) (LB c)) (p0 : Buf (Elt F) (PB c)) (t : Fin T.n) : sProp 𝕄 :=
  iprop((LB c ↦[rows4 t.val]{fullShare} a0) ∗ (PB c ↦{Transfers.shareTokN fullShare t.val} p0))

/-- What is kept of the share lent to transfer `t`. -/
def keptPB (c : Dev nD) (T : Tb) (p0 : Buf (Elt F) (PB c)) (t : Fin T.n) : sProp 𝕄 :=
  iprop(PB c ↦[keep (rows4 (T.src t.val))]{Transfers.shareTokN fullShare t.val} p0)

/-- What is kept of all shares lent. -/
@[irreducible] def keptSB (c : Dev nD) (T : Tb) (p0 : Buf (Elt F) (PB c)) (j : ℕ) : sProp 𝕄 :=
  bigSep (issued (n := T.n) j) (keptPB c T p0)

theorem keptSB_eq (c : Dev nD) (T : Tb) (p0 : Buf (Elt F) (PB c)) (j : ℕ) :
    keptSB c T p0 j = bigSep (issued (n := T.n) j) (keptPB c T p0) := by unfold keptSB; rfl

theorem keptSB_succ (c : Dev nD) (T : Tb) (p0 : Buf (Elt F) (PB c)) (j : ℕ) (hj : j < T.n) :
    iprop(keptPB c T p0 ⟨j, hj⟩ ∗ keptSB c T p0 j) ⊢ keptSB c T p0 (j + 1) := by
  rw [keptSB_eq, keptSB_eq]
  exact issued_take (F := F) (n := T.n) (j := j) (Φ := keptPB c T p0) hj

/-- With `j` transfers issued: the rows and shares of those to come, what is kept of the shares lent, the batch. -/
def GB (c : Dev nD) (T : Tb) (a0 : Buf (Elt F) (LB c)) (p0 : Buf (Elt F) (PB c)) (j : ℕ) : sProp 𝕄 :=
  iprop(bigSep (Transfers.pending (n := T.n) j) (toDoB c T a0 p0)
    ∗ keptSB c T p0 j
    ∗ BB c T a0 p0 j 0)

set_option maxHeartbeats 1000000 in
theorem issueB (c : Dev nD) (T : Tb) (hT : Fits T) (a0 : Buf (Elt F) (LB c)) (p0 : Buf (Elt F) (PB c)) (j : ℕ) (hj : j < T.n)
    (o o' : Fin 2 → ℕ) (ho : o = ![4 * j, 0]) (ho' : o' = ![4 * T.src j, 0])
    (h : ∀ a, o a + S4x18432.size a ≤ S1536x18432.size a) (h' : ∀ a, o' a + S4x18432.size a ≤ S3100x18432.size a)
    {hsrc hdst hsem} {α : Type} {k : PUnit → Prog (TpuEff nD τ sig (Elt F) Λ₀ .tc) α} {Q : α → sProp 𝕄} :
    GB c T a0 p0 j ⊢ iprop((GB c T a0 p0 (j + 1) -∗ wp frame (wpE (defs₀ (F := F)) Variants.none (c : Thread nD τ) none) Set.univ (k ⟨⟩) Q)
      -∗ wp frame (wpE (defs₀ (F := F)) Variants.none (c : Thread nD τ) none) Set.univ
        (.op (.enqueueDma (pB.slice (Rect.unit (s := S3100x18432) o' S4x18432.size h') (fun _ => rfl))
          (.here (mB.slice (Rect.unit (s := S1536x18432) o S4x18432.size h) (fun _ => rfl))) (.dma cc0_scratch9.sem) hsrc hdst hsem) k) Q) := by
  unfold GB
  iintro ⟨HP, Hi, HB⟩ Hk
  ihave HP' := (pending_take (Φ := toDoB c T a0 p0) hj) $$ HP
  icases HP' with ⟨Hds, Hp⟩
  unfold toDoB
  icases Hds with ⟨Hd, Hs⟩
  ihave Hs' := (split_keep (ℓ := PB c) (rows4 (T.src j))).1 $$ Hs
  icases Hs' with ⟨Hs1, Hs2⟩
  have hps := set_pB o' (T.src j) ho' h'
  have hD : iprop(((mB.slice (Rect.unit (s := S1536x18432) o S4x18432.size h) (fun _ => rfl)).view.loc (c : Thread nD τ) ↦[rows4 j]{fullShare}
          ((mB.slice (Rect.unit (s := S1536x18432) o S4x18432.size h) (fun _ => rfl)).view.write (Elt F) a0
            ((ReadAs.same).apply ((pB.slice (Rect.unit (s := S3100x18432) o' S4x18432.size h') (fun _ => rfl)).view.read (Elt F) p0)) Finset.univ))
        ∗ ((pB.slice (Rect.unit (s := S3100x18432) o' S4x18432.size h') (fun _ => rfl)).view.loc (c : Thread nD τ)
            ↦[(pB.slice (Rect.unit (s := S3100x18432) o' S4x18432.size h') (fun _ => rfl)).view.set]{Transfers.shareTokN fullShare j} p0))
      ⊢ DB (F := F) c T a0 p0 ⟨j, hj⟩ := by
    rw [hps]
    unfold DB
    refine sep_mono_left (Entails.of_eq (pointsTo_congr fun i hi => ?_))
    exact write_mB T hT o o' j hj ho ho' h h' a0 p0 i hi
  iapply (Transfers.wp_dmaBatch (EC (F := F)) Variants.none (c : Thread nD τ) none (D := DB c T a0 p0) (j := j) (u := 0) (Sd := rows4 j)
    (src := pB.slice (Rect.unit (s := S3100x18432) o' S4x18432.size h') (fun _ => rfl)) (via := ReadAs.same) (q := Transfers.shareTokN fullShare j)
    (dst := mB.slice (Rect.unit (s := S1536x18432) o S4x18432.size h) (fun _ => rfl)) (fs := p0) (fd := a0) (sm := .dma cc0_scratch9.sem) (k := k) (Q := Q) (hsrc := hsrc) (hdst := hdst) (hsem := hsem) () NB rfl
    (set_mB o j ho h).le hj (Nat.zero_le _) hD) $$ [Hd Hs1 HB]
  · isplitl [Hs1]; · rw [hps]; iexact Hs1
    isplitl [Hd]; · iexact Hd
    iexact HB
  iintro HB
  iapply Hk
  isplitl [Hp]; · iexact Hp
  isplitl [Hi Hs2]
  · ihave Hw := (keptSB_succ c T p0 j hj) $$ [Hi Hs2]
    · isplitl [Hs2]; · unfold keptPB; iexact Hs2
      iexact Hi
    iexact Hw
  iexact HB

end Cert.Kernel.Body

end
-- ==== Proof.Issue.lean ====
module

public import proofs.«01_k».proof.Proof.Gather
public import proofs.«01_k».proof.Proof.Gen.Kernel.Loops

@[expose] public section

noncomputable section

set_option maxRecDepth 16384

namespace Cert.Kernel.Body

open Cert.Kernel Cert.Kernel.Gen Cert.Math
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]
local notation "𝕄" => MT nD τ sig Unit (Elt F) ℕ UD ℕ

attribute [local irreducible] Tb.n Tb.off

theorem t2_facts0 (T : Tb) (hT : Fits T) (e : ℕ) (he : e < 27) (a st : BitVec 32) (ha : a.toNat = T.off e)
    (hst : st = T.st e) (k : ℕ) (hk : k < T.nw e) :
    T.off e + k < T.n ∧ T.src (T.off e + k) = st.toNat / 4 + k ∧ a.toNat + k ≤ 800 ∧ st.toNat / 4 + k ≤ 800 := by
  have h17 := hT.nw_le e he
  have hs := Fits.off_succ (T := T) e
  have hoff := hT.off_le e he.le
  have hm : T.off (e + 1) ≤ T.n := Fits.off_le_n (show e + 1 ≤ 27 by omega)
  have hst' : st.toNat ≤ 2943 := by rw [hst]; exact hT.st e he
  refine ⟨by omega, ?_, by omega, by omega⟩
  rw [Fits.src_off e he k hk, hst]

theorem t2_lt (T : Tb) (hT : Fits T) (e : ℕ) (he : e < 27) (lo hi st rk : BitVec 32) (hlo : lo = T.lo e)
    (hhi : hi = T.hi e) (hst : st = T.st e) (hrk : rk = T.rk e) : (k0_t2_loop lo hi st rk).trips = T.nw e := by
  have h1 : (wordsW lo hi st rk).toNat = T.nw e := by subst hlo hhi hst hrk; rfl
  exact (t2_trips lo hi st rk (lt_of_le_of_lt (h1.le.trans (hT.nw_le e he)) (by decide))).trans h1

theorem off_add (T : Tb) (hT : Fits T) (e : ℕ) (he : e < 27) (a : BitVec 32) (ha : a.toNat = T.off e) :
    (a + wordsW (T.lo e) (T.hi e) (T.st e) (T.rk e)).toNat = T.off (e + 1) := by
  have h1 := hT.off_le (e + 1) he
  have h2 := Fits.off_succ (T := T) e
  have h3 : (wordsW (T.lo e) (T.hi e) (T.st e) (T.rk e)).toNat = T.nw e := rfl
  rw [BitVec.toNat_add, h3, ha, ← h2]
  exact Nat.mod_eq_of_lt (by omega)

theorem idx1 {n : ℕ} (o : Fin 1 → ℕ) (h : ∀ a, o a + S1.size a ≤ (⟨1, ![n]⟩ : Shape).size a) (hf) :
    ((Rect.unit (s := ⟨1, ![n]⟩) o S1.size h).idx (Shape.Idx.first hf) 0).val = o 0 := by
  have h0 : ((Shape.Idx.first (s := S1) hf) 0).val < 1 := ((Shape.Idx.first (s := S1) hf) 0).2
  show o 0 + 1 * ((Shape.Idx.first (s := S1) hf) 0).val = o 0
  omega
theorem off1_eq : ∀ k : Fin k0_t1_loop.trips, k0_off1 k 0 = k.val := by decide +kernel
theorem off2_eq : ∀ k : Fin k0_t1_loop.trips, k0_off2 k 0 = k.val + 1 := by decide +kernel

section
variable (i : grid0.Coords) (arg5 : Memref sig .tc .smem S41 .f32) (harg5 : arg5.IsWhole) (arg6 : Memref sig .tc .vmem S256x7168 .bf16) (harg6 : arg6.IsWhole) (arg7 : Memref sig .tc .vmem S896x1024 .i32) (harg7 : arg7.IsWhole) (arg8 : Memref sig .tc .vmem S56x1024 .bf16) (harg8 : arg8.IsWhole) (arg9 : Memref sig .tc .vmem S1x3100 .f32) (harg9 : arg9.IsWhole) (arg10 : Memref sig .tc .vmem S1x3100 .f32) (harg10 : arg10.IsWhole) (arg13 : Memref sig .tc .vmem S256x1024 .bf16) (harg13 : arg13.IsWhole) (arg14 : Memref sig .tc .vmem S64x256 .bf16) (harg14 : arg14.IsWhole)
variable (k0_h1 : k0_cond1 i = 1#1)
variable (c : Dev nD) (T : Tb) (hT : Fits T) (a0 : Buf (Elt F) (LA c)) (p0 : Buf (Elt F) (PA c)) (b0 : Buf (Elt F) (LB c)) (q0 : Buf (Elt F) (PB c))

/-- The transfers of both pools with `j` word rows issued. -/
def GG (j : ℕ) : sProp 𝕄 := iprop(GA c T a0 p0 j ∗ GB c T b0 q0 j)

include hT in
set_option maxHeartbeats 1000000 in
/-- One word row's two transfers. -/
theorem t2_step (e : ℕ) (he : e < 27) (a lo hi st rk : BitVec 32) (ha : a.toNat = T.off e) (hlo : lo = T.lo e) (hhi : hi = T.hi e)
    (hst : st = T.st e) (hrk : rk = T.rk e) (hw : k0_chk2 i a lo hi st rk)
    (k : Fin (k0_t2_loop lo hi st rk).trips) (acc : Unit) :
    GG c T a0 p0 b0 q0 (T.off e + k.val) ⊢ wp frame (wpE (defs₀ (F := F)) Variants.none (c : Thread nD τ) none) Set.univ
      (k0_t2_body (F := F) i (Memref.whole main_arg7) (Memref.isWhole_whole _) (Memref.whole main_arg8) (Memref.isWhole_whole _) (Memref.whole main_arg10) (Memref.isWhole_whole _) (Memref.whole main_arg11) (Memref.isWhole_whole _) arg5 harg5 arg6 harg6 arg7 harg7 arg8 harg8 arg9 harg9 arg10 harg10 (Memref.whole main_arg3) (Memref.isWhole_whole _) (Memref.whole main_arg5) (Memref.isWhole_whole _) arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 k0_h1 a lo hi st rk hw k acc) (fun _ => GG c T a0 p0 b0 q0 (T.off e + (k.val + 1))) := by
  obtain ⟨hj, hsrc, hb1, hb2⟩ := t2_facts0 T hT e he a st ha hst k.val (lt_of_lt_of_eq k.2 (t2_lt T hT e he lo hi st rk hlo hhi hst hrk))
  have e5 := off5_eq a lo hi st rk k hb1
  have e6 := off6_eq lo hi st rk k hb2
  have e7 := off7_eq a lo hi st rk k hb1
  have e8 := off8_eq lo hi st rk k hb2
  rw [ha] at e5 e7
  rw [← hsrc] at e6 e8
  unfold GG k0_t2_body
  iintro ⟨HA, HB⟩
  iapply (issueA c T hT a0 p0 _ hj _ _ e5 e6 (k0_off5_inb i a lo hi st rk hw k k0_h1) (k0_off6_inb i a lo hi st rk hw k k0_h1)) $$ [HA]
  · iexact HA
  iintro HA
  iapply (issueB c T hT b0 q0 _ hj _ _ e7 e8 (k0_off7_inb i a lo hi st rk hw k k0_h1) (k0_off8_inb i a lo hi st rk hw k k0_h1)) $$ [HB]
  · iexact HB
  iintro HB
  simp only [Prog.bind]
  sl_step
  isplitl [HA]; · iexact HA
  iexact HB

/-- The four tables, at any shares. -/
def TT (tq : Fin 4 → PosShare TreeShare) : sProp 𝕄 :=
  iprop(((Memref.whole main_arg7).view.loc (c : Thread nD τ) ↦{tq 0} (T.st0 : Buf (Elt F) ((Memref.whole main_arg7).view.loc (c : Thread nD τ))))
    ∗ ((Memref.whole main_arg8).view.loc (c : Thread nD τ) ↦{tq 1} (T.rk0 : Buf (Elt F) ((Memref.whole main_arg8).view.loc (c : Thread nD τ))))
    ∗ ((Memref.whole main_arg10).view.loc (c : Thread nD τ) ↦{tq 2} (T.so0 : Buf (Elt F) ((Memref.whole main_arg10).view.loc (c : Thread nD τ))))
    ∗ ((Memref.whole main_arg11).view.loc (c : Thread nD τ) ↦{tq 3} (T.sg0 : Buf (Elt F) ((Memref.whole main_arg11).view.loc (c : Thread nD τ)))))

variable (tq : Fin 4 → PosShare TreeShare)

include hT in
/-- One segment's word rows, asked of the pools. -/
theorem t1_step (e : ℕ) (he : e < k0_t1_loop.trips) (acc : BitVec 32) :
    iprop(⌜acc.toNat = T.off e⌝ ∗ TT (F := F) c T tq ∗ GG c T a0 p0 b0 q0 (T.off e)) ⊢ wp frame (wpE (defs₀ (F := F)) Variants.none (c : Thread nD τ) none) Set.univ
      (k0_t1_body (F := F) i (Memref.whole main_arg7) (Memref.isWhole_whole _) (Memref.whole main_arg8) (Memref.isWhole_whole _) (Memref.whole main_arg10) (Memref.isWhole_whole _) (Memref.whole main_arg11) (Memref.isWhole_whole _) arg5 harg5 arg6 harg6 arg7 harg7 arg8 harg8 arg9 harg9 arg10 harg10 (Memref.whole main_arg3) (Memref.isWhole_whole _) (Memref.whole main_arg5) (Memref.isWhole_whole _) arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 k0_h1 ⟨e, he⟩ acc)
      (fun acc => iprop(⌜acc.toNat = T.off (e + 1)⌝ ∗ TT (F := F) c T tq ∗ GG c T a0 p0 b0 q0 (T.off (e + 1)))) := by
  unfold TT k0_t1_body
  iintro ⟨%ha, ⟨H1, H2, H3, H4⟩, HG⟩
  sl_exec
  have he' : e < 27 := he
  have hr0 : t1_step.sl.r (F := F) i k0_h1 T e he = T.lo e := by
    unfold t1_step.sl.r
    exact get_eq T.so0 _ e ((idx1 _ _ _).trans (off1_eq ⟨e, he⟩))
  have hr1 : t1_step.sl.r_1 (F := F) i k0_h1 T e he = T.hi e := by
    unfold t1_step.sl.r_1
    exact get_eq T.so0 _ (e + 1) ((idx1 _ _ _).trans (off2_eq ⟨e, he⟩))
  have hr2 : t1_step.sl.r_2 (F := F) i k0_h1 T e he = T.sg e := by
    unfold t1_step.sl.r_2
    exact get_eq T.sg0 _ e ((idx1 _ _ _).trans (off1_eq ⟨e, he⟩))
  have h41 := hT.sg e he'
  rw [← hr2] at h41
  sl_exec (disch := exact chk1 i _ h41)
  have hr3 : t1_step.sl.r_3 (F := F) i k0_h1 T e he h41 = T.st e := by
    unfold t1_step.sl.r_3
    refine get_eq T.st0 _ _ ((idx1 _ _ _).trans ?_)
    rw [← hr2]; rfl
  have hr4 : t1_step.sl.r_4 (F := F) i k0_h1 T e he h41 = T.rk e := by
    unfold t1_step.sl.r_4
    refine get_eq T.rk0 _ _ ((idx1 _ _ _).trans ?_)
    rw [← hr2]; rfl
  have hcw : (wordsW (t1_step.sl.r (F := F) i k0_h1 T e he) (t1_step.sl.r_1 (F := F) i k0_h1 T e he)
      (t1_step.sl.r_3 (F := F) i k0_h1 T e he h41) (t1_step.sl.r_4 (F := F) i k0_h1 T e he h41)) = wordsW (T.lo e) (T.hi e) (T.st e) (T.rk e) := by
    rw [hr0, hr1, hr3, hr4]
  have hc2 : k0_chk2 i acc (t1_step.sl.r (F := F) i k0_h1 T e he) (t1_step.sl.r_1 (F := F) i k0_h1 T e he)
      (t1_step.sl.r_3 (F := F) i k0_h1 T e he h41) (t1_step.sl.r_4 (F := F) i k0_h1 T e he h41) := by
    refine chk2 i acc _ _ _ _ ?_ ?_ ?_
    · rw [hr3]; exact hT.st e he'
    · rw [hcw]; exact hT.nw_le e he'
    · rw [hcw, ha]; exact le_of_eq_of_le (Fits.off_succ e).symm (hT.off_le (e + 1) he')
  have htr := t3_trips (t1_step.sl.r (F := F) i k0_h1 T e he) (t1_step.sl.r_1 (F := F) i k0_h1 T e he)
      (t1_step.sl.r_3 (F := F) i k0_h1 T e he h41) (t1_step.sl.r_4 (F := F) i k0_h1 T e he h41)
  sl_exec (disch := exact hc2)
  sl_for (fun k _ => GG c T a0 p0 b0 q0 (T.off e + k)) $$ [HG]
  · intro k acc'
    exact t2_step i arg5 harg5 arg6 harg6 arg7 harg7 arg8 harg8 arg9 harg9 arg10 harg10 arg13 harg13 arg14 harg14 k0_h1 c T hT a0 p0 b0 q0 e he' acc _ _ _ _ ha hr0 hr1 hr3 hr4 hc2 k acc'
  · iexact HG
  iintro %_ HG
  have h2' : Scf.trips (k0_t2_loop (t1_step.sl.r (F := F) i k0_h1 T e he) (t1_step.sl.r_1 (F := F) i k0_h1 T e he)
      (t1_step.sl.r_3 (F := F) i k0_h1 T e he h41) (t1_step.sl.r_4 (F := F) i k0_h1 T e he h41)).lb
      (k0_t2_loop (t1_step.sl.r (F := F) i k0_h1 T e he) (t1_step.sl.r_1 (F := F) i k0_h1 T e he)
      (t1_step.sl.r_3 (F := F) i k0_h1 T e he h41) (t1_step.sl.r_4 (F := F) i k0_h1 T e he h41)).ub
      (k0_t2_loop (t1_step.sl.r (F := F) i k0_h1 T e he) (t1_step.sl.r_1 (F := F) i k0_h1 T e he)
      (t1_step.sl.r_3 (F := F) i k0_h1 T e he h41) (t1_step.sl.r_4 (F := F) i k0_h1 T e he h41)).st = T.nw e :=
    t2_lt T hT e he' _ _ _ _ hr0 hr1 hr3 hr4
  rw [h2', ← Fits.off_succ]
  sl_for0 htr
  sl_exec
  sl_step
  isplitr
  · ipureintro
    have hv : t1_step.sl.v3367 (F := F) i k0_h1 T e he h41 = wordsW (T.lo e) (T.hi e) (T.st e) (T.rk e) := (words_eq _ _ _ _).trans hcw
    show (acc + t1_step.sl.v3367 (F := F) i k0_h1 T e he h41).toNat = T.off (e + 1)
    rw [hv]
    exact off_add T hT e he' acc ha
  isplitl [H1 H2 H3 H4]
  · isplitl [H1]; · iexact H1
    isplitl [H2]; · iexact H2
    isplitl [H3]; · iexact H3
    iexact H4
  iexact HG

end

end Cert.Kernel.Body
-- ==== Proof.Wait.lean ====
module

public import proofs.«01_k».proof.Proof.Issue
public import proofs.«01_k».proof.Proof.Gen.Kernel.Loops

@[expose] public section

noncomputable section

set_option maxRecDepth 16384

namespace Cert.Kernel.Body

open Cert.Kernel Cert.Kernel.Gen Cert.Math
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]
local notation "𝕄" => MT nD τ sig Unit (Elt F) ℕ UD ℕ

attribute [local irreducible] Tb.n Tb.off

section Generic
variable {ℓ : Loc nD τ sig} {n : ℕ} (I : Fin n → Finset (Idx ℓ))

theorem split_blocks (hd : ∀ b b', b ≠ b' → Disjoint (I b) (I b')) {q : PosShare TreeShare} {f : Buf (Elt F) ℓ} :
    (ℓ ↦{q} f : sProp 𝕄) ⊣⊢ iprop(bigSep Finset.univ (fun t => ℓ ↦[I t]{q} f) ∗ ℓ ↦[keep (Finset.univ.biUnion I)]{q} f) := by
  have h := split_keep (F := F) (ℓ := ℓ) (Finset.univ.biUnion I) (q := q) (f := f)
  rw [Ring.pointsTo_sub_blocks I hd _ rfl f] at h
  exact h

theorem mem_keep {J : Finset (Idx ℓ)} {i : Idx ℓ} (h : i ∈ keep J) : i ∉ J := by
  unfold keep at h; exact (Finset.mem_sdiff.mp h).2
end Generic

theorem disj4 {M W : ℕ} {a b : ℕ} (h : a ≠ b) : Disjoint (rows4 (M := M) (W := W) a) (rows4 b) := by
  rw [Finset.disjoint_left]
  intro i hi hj
  rw [mem_rows4] at hi hj
  omega

theorem bigSep_toDo {n : ℕ} {A B : Fin n → sProp 𝕄} :
    iprop(bigSep Finset.univ A ∗ bigSep Finset.univ B) ⊣⊢ bigSep Finset.univ (fun t => iprop(A t ∗ B t)) :=
  ⟨Entails.of_eq (BI.bigSep_sep _ _ _).symm, Entails.of_eq (BI.bigSep_sep _ _ _)⟩

/-! ## Opening and closing the transfers into cc0_scratch0 -/

/-- What the transfers do not touch: the other rows, and what is left of the pool's share. -/
def RA (c : Dev nD) (T : Tb) (a0 : Buf (Elt F) (LA c)) (p0 : Buf (Elt F) (PA c)) : sProp 𝕄 :=
  iprop((LA c ↦[keep (ℓ := LA c) (Finset.univ.biUnion fun t : Fin T.n => rows4 t.val)]{fullShare} a0)
    ∗ (PA c ↦{Transfers.shareDrop fullShare T.n} p0))

theorem blkA (c : Dev nD) (T : Tb) (f : Buf (Elt F) (LA c)) :
    (LA c ↦{fullShare} f : sProp 𝕄) ⊣⊢ iprop(bigSep Finset.univ (fun t : Fin T.n => LA c ↦[rows4 t.val]{fullShare} f)
      ∗ LA c ↦[keep (ℓ := LA c) (Finset.univ.biUnion fun t : Fin T.n => rows4 t.val)]{fullShare} f) :=
  split_blocks (F := F) (ℓ := LA c) (fun t : Fin T.n => rows4 t.val) (fun b b' h => disj4 (fun e => h (Fin.ext e)))

theorem tokA (c : Dev nD) (T : Tb) (p0 : Buf (Elt F) (PA c)) :
    (PA c ↦{fullShare} p0 : sProp 𝕄) ⊣⊢ iprop((PA c ↦{Transfers.shareDrop fullShare T.n} p0)
      ∗ bigSep Finset.univ (fun t : Fin T.n => PA c ↦{Transfers.shareTokN fullShare t.val} p0)) :=
  Transfers.pointsTo_toks fullShare T.n

theorem todo0A (c : Dev nD) (T : Tb) (a0 : Buf (Elt F) (LA c)) (p0 : Buf (Elt F) (PA c)) :
    iprop((LA c ↦{fullShare} a0) ∗ (PA c ↦{fullShare} p0)) ⊢ iprop(bigSep (Transfers.pending (n := T.n) 0) (toDoA c T a0 p0) ∗ RA c T a0 p0) := by
  rw [Transfers.pending_zero]
  unfold RA toDoA
  iintro ⟨HL, HP⟩
  ihave HL' := (blkA c T a0).1 $$ HL
  ihave HP' := (tokA c T p0).1 $$ HP
  icases HL' with ⟨HL1, HL2⟩
  icases HP' with ⟨HP1, HP2⟩
  isplitl [HL1 HP2]
  · iapply (bigSep_toDo (F := F)).1
    isplitl [HL1]; · iexact HL1
    iexact HP2
  isplitl [HL2]; · iexact HL2
  iexact HP1

theorem kept0A (c : Dev nD) (T : Tb) (p0 : Buf (Elt F) (PA c)) : (emp : sProp 𝕄) ⊢ keptSA c T p0 0 := by
  rw [keptSA_eq, issued_zero, bigSep_empty]; exact .rfl

/-- The transfers opened: nothing issued yet. -/
theorem openA (c : Dev nD) (T : Tb) (a0 : Buf (Elt F) (LA c)) (p0 : Buf (Elt F) (PA c)) :
    iprop((LA c ↦{fullShare} a0) ∗ (PA c ↦{fullShare} p0) ∗ semVal ((c : Thread nD τ), SemLoc.dma cc0_scratch8.sem) 0)
      ⊢ (|={Set.univ}=> iprop(GA c T a0 p0 0 ∗ RA c T a0 p0) : sProp 𝕄) := by
  iintro ⟨HL, HP, HS⟩
  imod (Transfers.batch_alloc' (EC (F := F)) (c : Thread nD τ) () NA (DA c T a0 p0) (E := Set.univ)) $$ HS with HB
  imodintro
  ihave HT := (todo0A c T a0 p0) $$ [HL HP]
  · isplitl [HL]; · iexact HL
    iexact HP
  icases HT with ⟨HT, HR⟩
  isplitr [HR]
  · unfold GA
    isplitl [HT]; · iexact HT
    isplitr
    · iapply (kept0A c T p0); iempintro
    iexact HB
  iexact HR

/-- All issued: what is kept of the shares, and the batch. -/
theorem allA (c : Dev nD) (T : Tb) (a0 : Buf (Elt F) (LA c)) (p0 : Buf (Elt F) (PA c)) :
    GA c T a0 p0 T.n ⊢ iprop(keptSA c T p0 T.n ∗ BA c T a0 p0 T.n 0) := by
  unfold GA
  iintro ⟨-, HK, HB⟩
  isplitl [HK]; · iexact HK
  iexact HB

theorem gath_keepA (c : Dev nD) (T : Tb) (a0 : Buf (Elt F) (LA c)) (p0 : Buf (Elt F) (PA c)) (i : S1536x7168.Idx)
    (hi : i ∉ (Finset.univ.biUnion fun t : Fin T.n => rows4 t.val)) : gath T p0 a0 i = a0 i := by
  unfold gath
  rw [if_neg]
  intro h
  refine hi (Finset.mem_biUnion.mpr ⟨⟨(i 0).val / 4, by omega⟩, Finset.mem_univ _, ?_⟩)
  rw [mem_rows4]; simp only; omega

theorem deliverA (c : Dev nD) (T : Tb) (a0 : Buf (Elt F) (LA c)) (p0 : Buf (Elt F) (PA c)) :
    iprop(bigSep Finset.univ (DA c T a0 p0) ∗ bigSep Finset.univ (keptPA c T p0) ∗ RA c T a0 p0)
      ⊢ (iprop((LA c ↦{fullShare} (gath T p0 a0 : Buf (Elt F) (LA c))) ∗ (PA c ↦{fullShare} p0)) : sProp 𝕄) := by
  unfold DA RA keptPA
  iintro ⟨HD, HK, HL2, HP1⟩
  ihave HD' := (bigSep_toDo (F := F)).2 $$ HD
  icases HD' with ⟨HL1, HP2⟩
  isplitl [HL1 HL2]
  · iapply (blkA c T (gath T p0 a0)).2
    isplitl [HL1]; · iexact HL1
    rw [pointsTo_congr (g := a0) (fun i hi => gath_keepA c T a0 p0 i (mem_keep (ℓ := LA c) hi))]
    iexact HL2
  iapply (tokA c T p0).2
  isplitl [HP1]; · iexact HP1
  iapply (show iprop(bigSep Finset.univ (fun t : Fin T.n => PA c ↦[rows4 (T.src t.val)]{Transfers.shareTokN fullShare t.val} p0)
      ∗ bigSep Finset.univ (fun t : Fin T.n => PA c ↦[keep (rows4 (T.src t.val))]{Transfers.shareTokN fullShare t.val} p0))
    ⊢ (bigSep Finset.univ (fun t : Fin T.n => PA c ↦{Transfers.shareTokN fullShare t.val} p0) : sProp 𝕄) from
    (bigSep_toDo (F := F)).1.trans (BI.bigSep_mono fun t _ => (split_keep (ℓ := PA c) (rows4 (T.src t.val))).2))
  isplitl [HP2]; · iexact HP2
  iexact HK

/-- The transfers closed: the rows gathered, the pool whole, the semaphore at zero. -/
theorem closeA (c : Dev nD) (T : Tb) (a0 : Buf (Elt F) (LA c)) (p0 : Buf (Elt F) (PA c)) :
    iprop(keptSA c T p0 T.n ∗ BA c T a0 p0 T.n (NA * T.n) ∗ RA c T a0 p0)
      ⊢ (|={Set.univ}=> iprop((LA c ↦{fullShare} (gath T p0 a0 : Buf (Elt F) (LA c))) ∗ (PA c ↦{fullShare} p0)
          ∗ semVal ((c : Thread nD τ), SemLoc.dma cc0_scratch8.sem) 0) : sProp 𝕄) := by
  rw [keptSA_eq, issued_all]
  iintro ⟨HK, HB, HR⟩
  imod (Transfers.batch_collect' (EC (F := F)) (c : Thread nD τ) (N := NA) (by decide)) $$ HB with ⟨HD, HS⟩
  imodintro
  ihave HX := (deliverA c T a0 p0) $$ [HD HK HR]
  · isplitl [HD]; · iexact HD
    isplitl [HK]; · iexact HK
    iexact HR
  icases HX with ⟨H1, H2⟩
  isplitl [H1]; · iexact H1
  isplitl [H2]; · iexact H2
  iexact HS

/-! ## Opening and closing the transfers into cc0_scratch1 -/

/-- What the transfers do not touch: the other rows, and what is left of the pool's share. -/
def RB (c : Dev nD) (T : Tb) (a0 : Buf (Elt F) (LB c)) (p0 : Buf (Elt F) (PB c)) : sProp 𝕄 :=
  iprop((LB c ↦[keep (ℓ := LB c) (Finset.univ.biUnion fun t : Fin T.n => rows4 t.val)]{fullShare} a0)
    ∗ (PB c ↦{Transfers.shareDrop fullShare T.n} p0))

theorem blkB (c : Dev nD) (T : Tb) (f : Buf (Elt F) (LB c)) :
    (LB c ↦{fullShare} f : sProp 𝕄) ⊣⊢ iprop(bigSep Finset.univ (fun t : Fin T.n => LB c ↦[rows4 t.val]{fullShare} f)
      ∗ LB c ↦[keep (ℓ := LB c) (Finset.univ.biUnion fun t : Fin T.n => rows4 t.val)]{fullShare} f) :=
  split_blocks (F := F) (ℓ := LB c) (fun t : Fin T.n => rows4 t.val) (fun b b' h => disj4 (fun e => h (Fin.ext e)))

theorem tokB (c : Dev nD) (T : Tb) (p0 : Buf (Elt F) (PB c)) :
    (PB c ↦{fullShare} p0 : sProp 𝕄) ⊣⊢ iprop((PB c ↦{Transfers.shareDrop fullShare T.n} p0)
      ∗ bigSep Finset.univ (fun t : Fin T.n => PB c ↦{Transfers.shareTokN fullShare t.val} p0)) :=
  Transfers.pointsTo_toks fullShare T.n

theorem todo0B (c : Dev nD) (T : Tb) (a0 : Buf (Elt F) (LB c)) (p0 : Buf (Elt F) (PB c)) :
    iprop((LB c ↦{fullShare} a0) ∗ (PB c ↦{fullShare} p0)) ⊢ iprop(bigSep (Transfers.pending (n := T.n) 0) (toDoB c T a0 p0) ∗ RB c T a0 p0) := by
  rw [Transfers.pending_zero]
  unfold RB toDoB
  iintro ⟨HL, HP⟩
  ihave HL' := (blkB c T a0).1 $$ HL
  ihave HP' := (tokB c T p0).1 $$ HP
  icases HL' with ⟨HL1, HL2⟩
  icases HP' with ⟨HP1, HP2⟩
  isplitl [HL1 HP2]
  · iapply (bigSep_toDo (F := F)).1
    isplitl [HL1]; · iexact HL1
    iexact HP2
  isplitl [HL2]; · iexact HL2
  iexact HP1

theorem kept0B (c : Dev nD) (T : Tb) (p0 : Buf (Elt F) (PB c)) : (emp : sProp 𝕄) ⊢ keptSB c T p0 0 := by
  rw [keptSB_eq, issued_zero, bigSep_empty]; exact .rfl

/-- The transfers opened: nothing issued yet. -/
theorem openB (c : Dev nD) (T : Tb) (a0 : Buf (Elt F) (LB c)) (p0 : Buf (Elt F) (PB c)) :
    iprop((LB c ↦{fullShare} a0) ∗ (PB c ↦{fullShare} p0) ∗ semVal ((c : Thread nD τ), SemLoc.dma cc0_scratch9.sem) 0)
      ⊢ (|={Set.univ}=> iprop(GB c T a0 p0 0 ∗ RB c T a0 p0) : sProp 𝕄) := by
  iintro ⟨HL, HP, HS⟩
  imod (Transfers.batch_alloc' (EC (F := F)) (c : Thread nD τ) () NB (DB c T a0 p0) (E := Set.univ)) $$ HS with HB
  imodintro
  ihave HT := (todo0B c T a0 p0) $$ [HL HP]
  · isplitl [HL]; · iexact HL
    iexact HP
  icases HT with ⟨HT, HR⟩
  isplitr [HR]
  · unfold GB
    isplitl [HT]; · iexact HT
    isplitr
    · iapply (kept0B c T p0); iempintro
    iexact HB
  iexact HR

/-- All issued: what is kept of the shares, and the batch. -/
theorem allB (c : Dev nD) (T : Tb) (a0 : Buf (Elt F) (LB c)) (p0 : Buf (Elt F) (PB c)) :
    GB c T a0 p0 T.n ⊢ iprop(keptSB c T p0 T.n ∗ BB c T a0 p0 T.n 0) := by
  unfold GB
  iintro ⟨-, HK, HB⟩
  isplitl [HK]; · iexact HK
  iexact HB

theorem gath_keepB (c : Dev nD) (T : Tb) (a0 : Buf (Elt F) (LB c)) (p0 : Buf (Elt F) (PB c)) (i : S1536x18432.Idx)
    (hi : i ∉ (Finset.univ.biUnion fun t : Fin T.n => rows4 t.val)) : gath T p0 a0 i = a0 i := by
  unfold gath
  rw [if_neg]
  intro h
  refine hi (Finset.mem_biUnion.mpr ⟨⟨(i 0).val / 4, by omega⟩, Finset.mem_univ _, ?_⟩)
  rw [mem_rows4]; simp only; omega

theorem deliverB (c : Dev nD) (T : Tb) (a0 : Buf (Elt F) (LB c)) (p0 : Buf (Elt F) (PB c)) :
    iprop(bigSep Finset.univ (DB c T a0 p0) ∗ bigSep Finset.univ (keptPB c T p0) ∗ RB c T a0 p0)
      ⊢ (iprop((LB c ↦{fullShare} (gath T p0 a0 : Buf (Elt F) (LB c))) ∗ (PB c ↦{fullShare} p0)) : sProp 𝕄) := by
  unfold DB RB keptPB
  iintro ⟨HD, HK, HL2, HP1⟩
  ihave HD' := (bigSep_toDo (F := F)).2 $$ HD
  icases HD' with ⟨HL1, HP2⟩
  isplitl [HL1 HL2]
  · iapply (blkB c T (gath T p0 a0)).2
    isplitl [HL1]; · iexact HL1
    rw [pointsTo_congr (g := a0) (fun i hi => gath_keepB c T a0 p0 i (mem_keep (ℓ := LB c) hi))]
    iexact HL2
  iapply (tokB c T p0).2
  isplitl [HP1]; · iexact HP1
  iapply (show iprop(bigSep Finset.univ (fun t : Fin T.n => PB c ↦[rows4 (T.src t.val)]{Transfers.shareTokN fullShare t.val} p0)
      ∗ bigSep Finset.univ (fun t : Fin T.n => PB c ↦[keep (rows4 (T.src t.val))]{Transfers.shareTokN fullShare t.val} p0))
    ⊢ (bigSep Finset.univ (fun t : Fin T.n => PB c ↦{Transfers.shareTokN fullShare t.val} p0) : sProp 𝕄) from
    (bigSep_toDo (F := F)).1.trans (BI.bigSep_mono fun t _ => (split_keep (ℓ := PB c) (rows4 (T.src t.val))).2))
  isplitl [HP2]; · iexact HP2
  iexact HK

/-- The transfers closed: the rows gathered, the pool whole, the semaphore at zero. -/
theorem closeB (c : Dev nD) (T : Tb) (a0 : Buf (Elt F) (LB c)) (p0 : Buf (Elt F) (PB c)) :
    iprop(keptSB c T p0 T.n ∗ BB c T a0 p0 T.n (NB * T.n) ∗ RB c T a0 p0)
      ⊢ (|={Set.univ}=> iprop((LB c ↦{fullShare} (gath T p0 a0 : Buf (Elt F) (LB c))) ∗ (PB c ↦{fullShare} p0)
          ∗ semVal ((c : Thread nD τ), SemLoc.dma cc0_scratch9.sem) 0) : sProp 𝕄) := by
  rw [keptSB_eq, issued_all]
  iintro ⟨HK, HB, HR⟩
  imod (Transfers.batch_collect' (EC (F := F)) (c : Thread nD τ) (N := NB) (by decide)) $$ HB with ⟨HD, HS⟩
  imodintro
  ihave HX := (deliverB c T a0 p0) $$ [HD HK HR]
  · isplitl [HD]; · iexact HD
    isplitl [HK]; · iexact HK
    iexact HR
  icases HX with ⟨H1, H2⟩
  isplitl [H1]; · iexact H1
  isplitl [H2]; · iexact H2
  iexact HS

section
variable (i : grid0.Coords) (arg5 : Memref sig .tc .smem S41 .f32) (harg5 : arg5.IsWhole) (arg6 : Memref sig .tc .vmem S256x7168 .bf16) (harg6 : arg6.IsWhole) (arg7 : Memref sig .tc .vmem S896x1024 .i32) (harg7 : arg7.IsWhole) (arg8 : Memref sig .tc .vmem S56x1024 .bf16) (harg8 : arg8.IsWhole) (arg9 : Memref sig .tc .vmem S1x3100 .f32) (harg9 : arg9.IsWhole) (arg10 : Memref sig .tc .vmem S1x3100 .f32) (harg10 : arg10.IsWhole) (arg13 : Memref sig .tc .vmem S256x1024 .bf16) (harg13 : arg13.IsWhole) (arg14 : Memref sig .tc .vmem S64x256 .bf16) (harg14 : arg14.IsWhole)
variable (k0_h1 : k0_cond1 i = 1#1)
variable (c : Dev nD) (T : Tb) (a0 : Buf (Elt F) (LA c)) (p0 : Buf (Elt F) (PA c)) (b0 : Buf (Elt F) (LB c)) (q0 : Buf (Elt F) (PB c))

/-- With `k` word rows of each pool awaited. -/
def WW (k : ℕ) : sProp 𝕄 :=
  iprop((∃ W, owes (c : Thread nD τ) 0 W) ∗ BA c T a0 p0 T.n (k * NA) ∗ BB c T b0 q0 T.n (k * NB))

theorem waits_le {N k n : ℕ} (h : k < n) : k * N + 1 * N ≤ N * n := by
  have h1 : (k + 1) * N ≤ n * N := Nat.mul_le_mul_right N h
  rw [Nat.mul_comm n N, Nat.add_mul] at h1
  exact h1

theorem t4_step (v136 : BitVec 32) (hv : v136.toNat = T.n) (hn : T.n ≤ 384) (hw : k0_chk57 i v136) (x1 : IVec S8x128 32) (x2 : IVec S8x128 32) (x3 : FVec F S8x128 .f32) (x4 : FVec F S128x128 .f32)
    (k : Fin (k0_t4_loop v136).trips) (acc : Unit) :
    WW c T a0 p0 b0 q0 k.val ⊢ wp frame (wpE (defs₀ (F := F)) Variants.none (c : Thread nD τ) none) Set.univ
      (k0_t4_body (F := F) i (Memref.whole main_arg7) (Memref.isWhole_whole _) (Memref.whole main_arg8) (Memref.isWhole_whole _) (Memref.whole main_arg10) (Memref.isWhole_whole _) (Memref.whole main_arg11) (Memref.isWhole_whole _) arg5 harg5 arg6 harg6 arg7 harg7 arg8 harg8 arg9 harg9 arg10 harg10 (Memref.whole main_arg3) (Memref.isWhole_whole _) (Memref.whole main_arg5) (Memref.isWhole_whole _) arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 k0_h1 v136 hw x1 x2 x3 x4 k acc) (fun _ => WW c T a0 p0 b0 q0 (k.val + 1)) := by
  have hk : k.val < T.n := lt_of_lt_of_eq k.2 ((t4_trips v136 (lt_of_le_of_lt (hv.le.trans hn) (by decide))).trans hv)
  unfold WW k0_t4_body
  iintro ⟨⟨%W, HO⟩, HA, HB⟩
  iapply (Transfers.wp_waitBatchMul (EC (F := F)) Variants.none (c : Thread nD τ) none () (N := NA) 1 (hJ := (Nat.one_mul _).symm) (waits_le hk)) $$ [HA HO]
  · isplitl [HA]; · iexact HA
    iexact HO
  iintro ⟨HA, HO⟩
  iapply (Transfers.wp_waitBatchMul (EC (F := F)) Variants.none (c : Thread nD τ) none () (N := NB) 1 (hJ := (Nat.one_mul _).symm) (waits_le hk)) $$ [HB HO]
  · isplitl [HB]; · iexact HB
    iexact HO
  iintro ⟨HB, HO⟩
  simp only [Prog.bind]
  sl_step
  isplitl [HO]; · iexists _; iexact HO
  rw [Nat.add_mul k.val 1 NA, Nat.add_mul k.val 1 NB]
  isplitl [HA]; · iexact HA
  iexact HB

end

end Cert.Kernel.Body
-- ==== Proof.Shrink.lean ====
module

public import proofs.«01_k».proof.Proof.Gather
public import proofs.«01_k».proof.Proof.Gen.Kernel.Loops

@[expose] public section

noncomputable section

set_option maxRecDepth 16384

namespace Cert.Kernel.Body

open Cert.Kernel Cert.Kernel.Gen Cert.Math
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]
local notation "𝕄" => MT nD τ sig Unit (Elt F) ℕ UD ℕ

attribute [local irreducible] Tb.n Tb.off

/-- A memref's whole buffer at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

section
variable (i : grid0.Coords) (arg5 : Memref sig .tc .smem S41 .f32) (harg5 : arg5.IsWhole) (arg6 : Memref sig .tc .vmem S256x7168 .bf16) (harg6 : arg6.IsWhole) (arg7 : Memref sig .tc .vmem S896x1024 .i32) (harg7 : arg7.IsWhole) (arg8 : Memref sig .tc .vmem S56x1024 .bf16) (harg8 : arg8.IsWhole) (arg9 : Memref sig .tc .vmem S1x3100 .f32) (harg9 : arg9.IsWhole) (arg10 : Memref sig .tc .vmem S1x3100 .f32) (harg10 : arg10.IsWhole) (arg13 : Memref sig .tc .vmem S256x1024 .bf16) (harg13 : arg13.IsWhole) (arg14 : Memref sig .tc .vmem S64x256 .bf16) (harg14 : arg14.IsWhole)
variable (k0_h1 : k0_cond1 i = 1#1) (v136 : BitVec 32) (hw : k0_chk57 i v136) (c : Dev nD)
variable (x6 : Bf (F := F) c arg6) (x15 : Bf (F := F) c (Memref.whole cc0_scratch0)) (x18 : Bf (F := F) c (Memref.whole cc0_scratch3))
  (x19 : Bf (F := F) c (Memref.whole cc0_scratch4)) (x21 : Bf (F := F) c (Memref.whole cc0_scratch6))

/-- What one block of the shrink reads and writes. -/
def Trip6 (f17 : Bf (F := F) c (Memref.whole cc0_scratch2)) : sProp 𝕄 :=
  iprop(pt c arg6 x6 ∗ pt c (Memref.whole cc0_scratch0) x15 ∗ pt c (Memref.whole cc0_scratch3) x18 ∗ pt c (Memref.whole cc0_scratch4) x19
    ∗ pt c (Memref.whole cc0_scratch6) x21 ∗ pt c (Memref.whole cc0_scratch2) f17)

set_option sl_exec.resultNames true in
/-- One block of the shrink: the value carried on, and the piece of the shrunk tile it stores. -/
@[irreducible] def trip6 (k : Fin (k0_t6_loop v136).trips) :
    Σ' (R : FVec F S64x256 .f32 → FVec F S64x256 .f32), { L : FVec F S64x256 .f32 → List (View.Piece (Elt F) S6x256x256 .bf16) //
      ∀ (acc : FVec F S64x256 .f32) (f17 : Bf (F := F) c (Memref.whole cc0_scratch2)),
      Trip6 arg6 c x6 x15 x18 x19 x21 f17
      ⊢ wp frame (wpE (defs₀ (F := F)) Variants.none (c : Thread nD τ) none) Set.univ
        (k0_t6_body (F := F) i (Memref.whole main_arg7) (Memref.isWhole_whole _) (Memref.whole main_arg8) (Memref.isWhole_whole _) (Memref.whole main_arg10) (Memref.isWhole_whole _) (Memref.whole main_arg11) (Memref.isWhole_whole _) arg5 harg5 arg6 harg6 arg7 harg7 arg8 harg8 arg9 harg9 arg10 harg10 (Memref.whole main_arg3) (Memref.isWhole_whole _) (Memref.whole main_arg5) (Memref.isWhole_whole _) arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 k0_h1 v136 hw k acc)
        (fun yld => iprop(⌜yld = R acc⌝ ∗ Trip6 arg6 c x6 x15 x18 x19 x21 ((Memref.whole cc0_scratch2).view.writes (Elt F) f17 (L acc)))) } := by
  refine ⟨?_, ?_, fun acc f17 => ?run⟩
  case run =>
    unfold Trip6 k0_t6_body
    iintro ⟨H6, H15, H18, H19, H21, H17⟩
    sl_exec
    sl_step
    sl_close

/-- The carried value and the pieces stored before block `k`. -/
def st6 : ℕ → FVec F S64x256 .f32 × List (View.Piece (Elt F) S6x256x256 .bf16)
  | 0 => (k0_pay382 (F := F), [])
  | k + 1 => if h : k < (k0_t6_loop v136).trips then
      ((trip6 i arg5 harg5 arg6 harg6 arg7 harg7 arg8 harg8 arg9 harg9 arg10 harg10 arg13 harg13 arg14 harg14 k0_h1 v136 hw c x6 x15 x18 x19 x21 ⟨k, h⟩).1 (st6 k).1,
        (trip6 i arg5 harg5 arg6 harg6 arg7 harg7 arg8 harg8 arg9 harg9 arg10 harg10 arg13 harg13 arg14 harg14 k0_h1 v136 hw c x6 x15 x18 x19 x21 ⟨k, h⟩).2.1 (st6 k).1 ++ (st6 k).2)
    else st6 k

theorem st6_succ (k : Fin (k0_t6_loop v136).trips) : st6 i arg5 harg5 arg6 harg6 arg7 harg7 arg8 harg8 arg9 harg9 arg10 harg10 arg13 harg13 arg14 harg14 k0_h1 v136 hw c x6 x15 x18 x19 x21 (k.val + 1) =
    ((trip6 i arg5 harg5 arg6 harg6 arg7 harg7 arg8 harg8 arg9 harg9 arg10 harg10 arg13 harg13 arg14 harg14 k0_h1 v136 hw c x6 x15 x18 x19 x21 k).1 (st6 i arg5 harg5 arg6 harg6 arg7 harg7 arg8 harg8 arg9 harg9 arg10 harg10 arg13 harg13 arg14 harg14 k0_h1 v136 hw c x6 x15 x18 x19 x21 k.val).1,
      (trip6 i arg5 harg5 arg6 harg6 arg7 harg7 arg8 harg8 arg9 harg9 arg10 harg10 arg13 harg13 arg14 harg14 k0_h1 v136 hw c x6 x15 x18 x19 x21 k).2.1 (st6 i arg5 harg5 arg6 harg6 arg7 harg7 arg8 harg8 arg9 harg9 arg10 harg10 arg13 harg13 arg14 harg14 k0_h1 v136 hw c x6 x15 x18 x19 x21 k.val).1
        ++ (st6 i arg5 harg5 arg6 harg6 arg7 harg7 arg8 harg8 arg9 harg9 arg10 harg10 arg13 harg13 arg14 harg14 k0_h1 v136 hw c x6 x15 x18 x19 x21 k.val).2) := by
  rw [st6.eq_2]; exact dif_pos k.isLt

/-- Before block `k` of the shrink. -/
def Inv6 (f17 : Bf (F := F) c (Memref.whole cc0_scratch2)) (k : ℕ) (acc : FVec F S64x256 .f32) : sProp 𝕄 :=
  iprop(⌜acc = (st6 i arg5 harg5 arg6 harg6 arg7 harg7 arg8 harg8 arg9 harg9 arg10 harg10 arg13 harg13 arg14 harg14 k0_h1 v136 hw c x6 x15 x18 x19 x21 k).1⌝ ∗ Trip6 arg6 c x6 x15 x18 x19 x21
    ((Memref.whole cc0_scratch2).view.writes (Elt F) f17 (st6 i arg5 harg5 arg6 harg6 arg7 harg7 arg8 harg8 arg9 harg9 arg10 harg10 arg13 harg13 arg14 harg14 k0_h1 v136 hw c x6 x15 x18 x19 x21 k).2))

theorem t6_step (f17 : Bf (F := F) c (Memref.whole cc0_scratch2)) (k : Fin (k0_t6_loop v136).trips) (acc : FVec F S64x256 .f32) :
    Inv6 i arg5 harg5 arg6 harg6 arg7 harg7 arg8 harg8 arg9 harg9 arg10 harg10 arg13 harg13 arg14 harg14 k0_h1 v136 hw c x6 x15 x18 x19 x21 f17 k.val acc
      ⊢ wp frame (wpE (defs₀ (F := F)) Variants.none (c : Thread nD τ) none) Set.univ
        (k0_t6_body (F := F) i (Memref.whole main_arg7) (Memref.isWhole_whole _) (Memref.whole main_arg8) (Memref.isWhole_whole _) (Memref.whole main_arg10) (Memref.isWhole_whole _) (Memref.whole main_arg11) (Memref.isWhole_whole _) arg5 harg5 arg6 harg6 arg7 harg7 arg8 harg8 arg9 harg9 arg10 harg10 (Memref.whole main_arg3) (Memref.isWhole_whole _) (Memref.whole main_arg5) (Memref.isWhole_whole _) arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 k0_h1 v136 hw k acc)
        (fun acc => Inv6 i arg5 harg5 arg6 harg6 arg7 harg7 arg8 harg8 arg9 harg9 arg10 harg10 arg13 harg13 arg14 harg14 k0_h1 v136 hw c x6 x15 x18 x19 x21 f17 (k.val + 1) acc) := by
  unfold Inv6
  iintro ⟨%ha, HT⟩
  subst ha
  iapply (wp_wand_r Idealize.ShloMosaic.frame (wpE (defs₀ (F := F)) Variants.none (c : Thread nD τ) none) Set.univ)
  isplitl [HT]
  · iapply ((trip6 i arg5 harg5 arg6 harg6 arg7 harg7 arg8 harg8 arg9 harg9 arg10 harg10 arg13 harg13 arg14 harg14 k0_h1 v136 hw c x6 x15 x18 x19 x21 k).2.2 (st6 i arg5 harg5 arg6 harg6 arg7 harg7 arg8 harg8 arg9 harg9 arg10 harg10 arg13 harg13 arg14 harg14 k0_h1 v136 hw c x6 x15 x18 x19 x21 k.val).1 _)
    iexact HT
  iintro %yld ⟨%hy, HT⟩
  rw [st6_succ, View.writes_append]
  isplitr; · ipureintro; exact hy
  iexact HT

end

end Cert.Kernel.Body
-- ==== Proof.X1.lean ====
module

public import proofs.«01_k».proof.Proof.Wait
public import proofs.«01_k».proof.Proof.Shrink
public import proofs.«01_k».proof.Proof.Gen.Kernel.Loops

@[expose] public section

noncomputable section

set_option maxRecDepth 16384

namespace Cert.Kernel.Body

open Cert.Kernel Cert.Kernel.Gen Cert.Math
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]
local notation "𝕄" => MT nD τ sig Unit (Elt F) ℕ UD ℕ

attribute [local irreducible] Tb.n Tb.off

theorem chk_sg (T : Tb) (hT : Fits T) (e : ℕ) (he : e < 27) (x : S27.Idx) (hx : (x 0).val = e) : (T.sg0 x).toNat < 41 := by
  rw [get_eq T.sg0 x e hx]; exact hT.sg e he

theorem chk_st (T : Tb) (hT : Fits T) (e : ℕ) (he : e < 27) (x : S27.Idx) (hx : (x 0).val = e) (y : S41.Idx)
    (hy : (y 0).val = (T.sg0 x).toNat) : (T.st0 y).toNat ≤ 2943 := by
  rw [get_eq T.st0 y _ hy, get_eq T.sg0 x e hx]; exact hT.st e he

theorem toNat_n (T : Tb) (hn : T.n ≤ 384) : (BitVec.ofNat 32 T.n).toNat = T.n := by
  rw [BitVec.toNat_ofNat]; exact Nat.mod_eq_of_lt (lt_of_le_of_lt hn (by decide))

section
variable (i : grid0.Coords) (arg5 : Memref sig .tc .smem S41 .f32) (harg5 : arg5.IsWhole) (arg6 : Memref sig .tc .vmem S256x7168 .bf16) (harg6 : arg6.IsWhole) (arg7 : Memref sig .tc .vmem S896x1024 .i32) (harg7 : arg7.IsWhole) (arg8 : Memref sig .tc .vmem S56x1024 .bf16) (harg8 : arg8.IsWhole) (arg9 : Memref sig .tc .vmem S1x3100 .f32) (harg9 : arg9.IsWhole) (arg10 : Memref sig .tc .vmem S1x3100 .f32) (harg10 : arg10.IsWhole) (arg13 : Memref sig .tc .vmem S256x1024 .bf16) (harg13 : arg13.IsWhole) (arg14 : Memref sig .tc .vmem S64x256 .bf16) (harg14 : arg14.IsWhole)
variable (k0_h1 : k0_cond1 i = 1#1)
variable (c : Dev nD) (T : Tb) (hT : Fits T) (a0 : Buf (Elt F) (LA c)) (p0 : Buf (Elt F) (PA c)) (b0 : Buf (Elt F) (LB c)) (q0 : Buf (Elt F) (PB c))
  (tq : Fin 4 → PosShare TreeShare)
  (x5 : Bf (F := F) c arg5) (x6 : Bf (F := F) c arg6) (x7 : Bf (F := F) c arg7) (x8 : Bf (F := F) c arg8) (x9 : Bf (F := F) c arg9) (x10 : Bf (F := F) c arg10)
  (f13 : Bf (F := F) c arg13) (f14 : Bf (F := F) c arg14)
  (f17 : Bf (F := F) c (Memref.whole cc0_scratch2)) (f18 : Bf (F := F) c (Memref.whole cc0_scratch3)) (f19 : Bf (F := F) c (Memref.whole cc0_scratch4))
  (f20 : Bf (F := F) c (Memref.whole cc0_scratch5)) (f21 : Bf (F := F) c (Memref.whole cc0_scratch6)) (f22 : Bf (F := F) c (Memref.whole cc0_scratch7))

/-- The run's state: the tables, the scratch buffers and the pools, the two semaphores at zero, and what is owed. -/
def Scr : sProp 𝕄 :=
  iprop(TT (F := F) c T tq ∗ (∃ a : Buf (Elt F) (LA c), LA c ↦{fullShare} a) ∗ (PA c ↦{fullShare} p0) ∗ semVal ((c : Thread nD τ), SemLoc.dma cc0_scratch8.sem) 0
      ∗ (∃ b : Buf (Elt F) (LB c), LB c ↦{fullShare} b) ∗ (PB c ↦{fullShare} q0) ∗ semVal ((c : Thread nD τ), SemLoc.dma cc0_scratch9.sem) 0
      ∗ (∃ f, pt c (Memref.whole cc0_scratch2) f) ∗ (∃ f, pt c (Memref.whole cc0_scratch3) f) ∗ (∃ f, pt c (Memref.whole cc0_scratch4) f)
      ∗ (∃ f, pt c (Memref.whole cc0_scratch5) f) ∗ (∃ f, pt c (Memref.whole cc0_scratch6) f) ∗ (∃ f, pt c (Memref.whole cc0_scratch7) f)
      ∗ (∃ W, owes (c : Thread nD τ) 0 W))

/-- The windows' blocks, each held at some contents. -/
def Win : sProp 𝕄 :=
  iprop((∃ f, pt (F := F) c arg5 f) ∗ (∃ f, pt (F := F) c arg6 f) ∗ (∃ f, pt (F := F) c arg7 f) ∗ (∃ f, pt (F := F) c arg8 f) ∗ (∃ f, pt (F := F) c arg9 f) ∗ (∃ f, pt (F := F) c arg10 f)
    ∗ (∃ f, pt (F := F) c arg13 f) ∗ (∃ f, pt (F := F) c arg14 f))

set_option pp.deepTerms.threshold 2 in
set_option pp.maxSteps 400 in
set_option sl_exec.resultNames true in
set_option maxHeartbeats 1600000 in
include k0_h1 hT in
/-- The body at the first grid point. -/
theorem runA (Q : PUnit → sProp 𝕄) :
    iprop(Win (F := F) arg5 arg6 arg7 arg8 arg9 arg10 arg13 arg14 c ∗ Scr (F := F) c T p0 q0 tq
      ∗ (iprop(Win (F := F) arg5 arg6 arg7 arg8 arg9 arg10 arg13 arg14 c ∗ Scr (F := F) c T p0 q0 tq) -∗ Q ⟨⟩))
    ⊢ wp frame (wpE (defs₀ (F := F)) Variants.none (c : Thread nD τ) none) Set.univ ((cc0_multi_lora (F := F) i (Memref.whole main_arg7) (Memref.isWhole_whole _) (Memref.whole main_arg8) (Memref.isWhole_whole _) (Memref.whole main_arg10) (Memref.isWhole_whole _) (Memref.whole main_arg11) (Memref.isWhole_whole _) arg5 harg5 arg6 harg6 arg7 harg7 arg8 harg8 arg9 harg9 arg10 harg10 (Memref.whole main_arg3) (Memref.isWhole_whole _) (Memref.whole main_arg5) (Memref.isWhole_whole _) arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9)) Q := by
  unfold Win Scr TT
  iintro ⟨⟨⟨%x5, H5⟩, ⟨%x6, H6⟩, ⟨%x7, H7⟩, ⟨%x8, H8⟩, ⟨%x9, H9⟩, ⟨%x10, H10⟩, ⟨%f13, H13⟩, ⟨%f14, H14⟩⟩, ⟨⟨T1, T2, T3, T4⟩, ⟨%a0, HLA⟩, HPA, HSA, ⟨%b0, HLB⟩, HPB, HSB, ⟨%f17, H17⟩, ⟨%f18, H18⟩, ⟨%f19, H19⟩, ⟨%f20, H20⟩, ⟨%f21, H21⟩, ⟨%f22, H22⟩, HO⟩, HK⟩
  imod (openA (F := F) c T a0 p0) $$ [HLA HPA HSA] with ⟨HGA, HRA⟩
  · isplitl [HLA]; · iexact HLA
    isplitl [HPA]; · iexact HPA
    iexact HSA
  imod (openB (F := F) c T b0 q0) $$ [HLB HPB HSB] with ⟨HGB, HRB⟩
  · isplitl [HLB]; · iexact HLB
    isplitl [HPB]; · iexact HPB
    iexact HSB
  sl_unfold [cc0_multi_lora, k0_part76]
  sl_exec
  have hz : T.off 0 = 0 := by unfold Tb.off; rfl
  sl_for (fun k (acc : BitVec 32) => iprop(⌜acc.toNat = T.off k⌝ ∗ TT (F := F) c T tq ∗ GG c T a0 p0 b0 q0 (T.off k))) $$ [T1 T2 T3 T4 HGA HGB]
  · intro k acc
    exact t1_step i arg5 harg5 arg6 harg6 arg7 harg7 arg8 harg8 arg9 harg9 arg10 harg10 arg13 harg13 arg14 harg14 k0_h1 c T hT a0 p0 b0 q0 tq k.1 k.2 acc
  · isplitr; · ipureintro; exact hz.symm
    isplitl [T1 T2 T3 T4]
    · unfold TT
      isplitl [T1]; · iexact T1
      isplitl [T2]; · iexact T2
      isplitl [T3]; · iexact T3
      iexact T4
    unfold GG
    rw [hz]
    isplitl [HGA]; · iexact HGA
    iexact HGB
  iintro %acc ⟨%hacc, HT, HG⟩
  have hn : T.n ≤ 384 := by have := hT.off_le 27 (Nat.le_refl _); unfold Tb.n; exact this
  have h27 : T.off (Scf.trips k0_t1_loop.lb k0_t1_loop.ub k0_t1_loop.st) = T.n := by unfold Tb.n; rfl
  rw [h27]
  rw [h27] at hacc
  obtain rfl : acc = BitVec.ofNat 32 T.n := BitVec.eq_of_toNat_eq (hacc.trans (toNat_n T hn).symm)
  have hv := toNat_n T hn
  have h57 : (BitVec.ofNat 32 T.n).toNat ≤ 384 := hv.le.trans hn
  unfold TT
  icases HT with ⟨T1, T2, T3, T4⟩
  sl_exec_parts (disch := first | exact chk57 _ _ h57 | exact odd_chk _ _ (chk_sg T hT _ (by decide) _ rfl) | exact even_chk _ _ (chk_st T hT _ (by decide) _ rfl _ rfl))
  unfold GG
  icases HG with ⟨HGA, HGB⟩
  ihave HGA := (allA (F := F) c T a0 p0) $$ HGA
  ihave HGB := (allB (F := F) c T b0 q0) $$ HGB
  icases HGA with ⟨HKA, HBA⟩
  icases HGB with ⟨HKB, HBB⟩
  sl_for (fun k _ => WW c T a0 p0 b0 q0 k) $$ [HO HBA HBB]
  · intro k acc
    exact t4_step i arg5 harg5 arg6 harg6 arg7 harg7 arg8 harg8 arg9 harg9 arg10 harg10 arg13 harg13 arg14 harg14 k0_h1 c T a0 p0 b0 q0 _ hv hn _ _ _ _ _ k acc
  · unfold WW
    rw [Nat.zero_mul, Nat.zero_mul]
    isplitl [HO]; · iexact HO
    isplitl [HBA]; · iexact HBA
    iexact HBB
  iintro %_ HW
  have h4 : Scf.trips (k0_t4_loop (BitVec.ofNat 32 T.n)).lb (k0_t4_loop (BitVec.ofNat 32 T.n)).ub (k0_t4_loop (BitVec.ofNat 32 T.n)).st = T.n :=
    (t4_trips _ (lt_of_le_of_lt h57 (by decide))).trans hv
  rw [h4]
  unfold WW
  rw [Nat.mul_comm T.n NA, Nat.mul_comm T.n NB]
  icases HW with ⟨HO, HBA, HBB⟩
  imod (closeA (F := F) c T a0 p0) $$ [HKA HBA HRA] with ⟨HLA, HPA, HSA⟩
  · isplitl [HKA]; · iexact HKA
    isplitl [HBA]; · iexact HBA
    iexact HRA
  imod (closeB (F := F) c T b0 q0) $$ [HKB HBB HRB] with ⟨HLB, HPB, HSB⟩
  · isplitl [HKB]; · iexact HKB
    isplitl [HBB]; · iexact HBB
    iexact HRB
  sl_for0 (t5_trips (BitVec.ofNat 32 T.n))
  sl_exec
  sl_for (Inv6 i arg5 harg5 arg6 harg6 arg7 harg7 arg8 harg8 arg9 harg9 arg10 harg10 arg13 harg13 arg14 harg14 k0_h1 (BitVec.ofNat 32 T.n) (chk57 i _ h57) c x6 (gath T p0 a0 : Buf (Elt F) (LA c))
      ((Memref.whole cc0_scratch3).view.writes (Elt F) (Memref.whole cc0_scratch3).view.junk (runA.sl.H18_1 (F := F) i k0_h1 T hT))
      ((Memref.whole cc0_scratch4).view.writes (Elt F) (Memref.whole cc0_scratch4).view.junk (runA.sl.H19_1 (F := F) i arg9 k0_h1 c T hT x9))
      ((Memref.whole cc0_scratch6).view.writes (Elt F) (Memref.whole cc0_scratch6).view.junk (runA.sl.H21_6 (F := F) i arg5 k0_h1 c T hT x5))
      ((Memref.whole cc0_scratch2).view.writes (Elt F) (Memref.whole cc0_scratch2).view.junk (runA.sl.H17_1 (F := F)))) $$ [H6 HLA H18 H19 H21 H17]
  · intro k acc
    exact t6_step i arg5 harg5 arg6 harg6 arg7 harg7 arg8 harg8 arg9 harg9 arg10 harg10 arg13 harg13 arg14 harg14 k0_h1 _ _ c _ _ _ _ _ _ k acc
  · unfold Inv6 Trip6
    isplitr; · ipureintro; rfl
    isplitl [H6]; · iexact H6
    isplitl [HLA]; · iexact HLA
    isplitl [H18]; · iexact H18
    isplitl [H19]; · iexact H19
    isplitl [H21]; · iexact H21
    iexact H17
  iintro %acc HI
  unfold Inv6
  icases HI with ⟨%hacc6, HT⟩
  subst hacc6
  unfold Trip6
  icases HT with ⟨H6, HLA, H18, H19, H21, H17⟩
  sl_exec
  sl_for (fun (_ : ℕ) (acc : FVec F S64x256 .f32) => (iprop(⌜acc = (st6 i arg5 harg5 arg6 harg6 arg7 harg7 arg8 harg8 arg9 harg9 arg10 harg10 arg13 harg13 arg14 harg14 k0_h1 (BitVec.ofNat 32 T.n) (chk57 i _ h57) c x6 (gath T p0 a0 : Buf (Elt F) (LA c))
      ((Memref.whole cc0_scratch3).view.writes (Elt F) (Memref.whole cc0_scratch3).view.junk (runA.sl.H18_1 (F := F) i k0_h1 T hT))
      ((Memref.whole cc0_scratch4).view.writes (Elt F) (Memref.whole cc0_scratch4).view.junk (runA.sl.H19_1 (F := F) i arg9 k0_h1 c T hT x9))
      ((Memref.whole cc0_scratch6).view.writes (Elt F) (Memref.whole cc0_scratch6).view.junk (runA.sl.H21_6 (F := F) i arg5 k0_h1 c T hT x5))
      (Scf.trips (k0_t6_loop (BitVec.ofNat 32 T.n)).lb (k0_t6_loop (BitVec.ofNat 32 T.n)).ub (k0_t6_loop (BitVec.ofNat 32 T.n)).st)).1⌝) : sProp 𝕄)) $$ []
  · intro k acc
    exact absurd (lt_of_lt_of_eq k.2 (t7_trips (BitVec.ofNat 32 T.n))) (Nat.not_lt_zero _)
  · ipureintro; rfl
  iintro %acc %h7
  subst h7
  ihave HLB := (show (LB c ↦{fullShare} (gath T q0 b0 : Buf (Elt F) (LB c)) : sProp 𝕄) ⊢ pt c (Memref.whole cc0_scratch1) (gath T q0 b0 : Buf (Elt F) (LB c)) from .rfl) $$ HLB
  sl_exec_parts
  sl_step
  iapply HK
  isplitl [H5 H6 H7 H8 H9 H10 H13 H14]
  · isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H13]; · iexists _; iexact H13
    iexists _; iexact H14
  isplitl [T1 T2 T3 T4]
  · isplitl [T1]; · iexact T1
    isplitl [T2]; · iexact T2
    isplitl [T3]; · iexact T3
    iexact T4
  isplitl [HLA]; · iexists _; iexact HLA
  isplitl [HPA]; · iexact HPA
  isplitl [HSA]; · iexact HSA
  isplitl [HLB]; · iexists _; iexact HLB
  isplitl [HPB]; · iexact HPB
  isplitl [HSB]; · iexact HSB
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iexact HO

end
end Cert.Kernel.Body
-- ==== Proof.X2.lean ====
module

public import proofs.«01_k».proof.Proof.X1

@[expose] public section

noncomputable section

set_option maxRecDepth 16384

namespace Cert.Kernel.Body

open Cert.Kernel Cert.Kernel.Gen Cert.Math
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]
local notation "𝕄" => MT nD τ sig Unit (Elt F) ℕ UD ℕ

attribute [local irreducible] Tb.n Tb.off

section
variable (i : grid0.Coords) (arg5 : Memref sig .tc .smem S41 .f32) (harg5 : arg5.IsWhole) (arg6 : Memref sig .tc .vmem S256x7168 .bf16) (harg6 : arg6.IsWhole) (arg7 : Memref sig .tc .vmem S896x1024 .i32) (harg7 : arg7.IsWhole) (arg8 : Memref sig .tc .vmem S56x1024 .bf16) (harg8 : arg8.IsWhole) (arg9 : Memref sig .tc .vmem S1x3100 .f32) (harg9 : arg9.IsWhole) (arg10 : Memref sig .tc .vmem S1x3100 .f32) (harg10 : arg10.IsWhole) (arg13 : Memref sig .tc .vmem S256x1024 .bf16) (harg13 : arg13.IsWhole) (arg14 : Memref sig .tc .vmem S64x256 .bf16) (harg14 : arg14.IsWhole)
variable (k0_h1 : k0_cond1 i = 1#1)
variable (c : Dev nD) (T : Tb) (hT : Fits T) (a0 : Buf (Elt F) (LA c)) (p0 : Buf (Elt F) (PA c)) (b0 : Buf (Elt F) (LB c)) (q0 : Buf (Elt F) (PB c))
  (tq : Fin 4 → PosShare TreeShare)
  (x5 : Bf (F := F) c arg5) (x6 : Bf (F := F) c arg6) (x7 : Bf (F := F) c arg7) (x8 : Bf (F := F) c arg8) (x9 : Bf (F := F) c arg9) (x10 : Bf (F := F) c arg10)
  (f13 : Bf (F := F) c arg13) (f14 : Bf (F := F) c arg14)
  (f17 : Bf (F := F) c (Memref.whole cc0_scratch2)) (f18 : Bf (F := F) c (Memref.whole cc0_scratch3)) (f19 : Bf (F := F) c (Memref.whole cc0_scratch4))
  (f20 : Bf (F := F) c (Memref.whole cc0_scratch5)) (f21 : Bf (F := F) c (Memref.whole cc0_scratch6)) (f22 : Bf (F := F) c (Memref.whole cc0_scratch7))

set_option pp.deepTerms.threshold 2 in
set_option pp.maxSteps 400 in
set_option sl_exec.resultNames true in
set_option maxHeartbeats 1600000 in
/-- The body at the other grid points. -/
theorem runB (hc : ¬ k0_cond1 i = 1#1) (Q : PUnit → sProp 𝕄) :
    iprop(Win (F := F) arg5 arg6 arg7 arg8 arg9 arg10 arg13 arg14 c ∗ Scr (F := F) c T p0 q0 tq
      ∗ (iprop(Win (F := F) arg5 arg6 arg7 arg8 arg9 arg10 arg13 arg14 c ∗ Scr (F := F) c T p0 q0 tq) -∗ Q ⟨⟩))
    ⊢ wp frame (wpE (defs₀ (F := F)) Variants.none (c : Thread nD τ) none) Set.univ ((cc0_multi_lora (F := F) i (Memref.whole main_arg7) (Memref.isWhole_whole _) (Memref.whole main_arg8) (Memref.isWhole_whole _) (Memref.whole main_arg10) (Memref.isWhole_whole _) (Memref.whole main_arg11) (Memref.isWhole_whole _) arg5 harg5 arg6 harg6 arg7 harg7 arg8 harg8 arg9 harg9 arg10 harg10 (Memref.whole main_arg3) (Memref.isWhole_whole _) (Memref.whole main_arg5) (Memref.isWhole_whole _) arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9)) Q := by
  unfold Win Scr TT
  iintro ⟨⟨⟨%x5, H5⟩, ⟨%x6, H6⟩, ⟨%x7, H7⟩, ⟨%x8, H8⟩, ⟨%x9, H9⟩, ⟨%x10, H10⟩, ⟨%f13, H13⟩, ⟨%f14, H14⟩⟩, ⟨⟨T1, T2, T3, T4⟩, ⟨%a0, HLA⟩, HPA, HSA, ⟨%b0, HLB⟩, HPB, HSB, ⟨%f17, H17⟩, ⟨%f18, H18⟩, ⟨%f19, H19⟩, ⟨%f20, H20⟩, ⟨%f21, H21⟩, ⟨%f22, H22⟩, HO⟩, HK⟩
  sl_unfold [cc0_multi_lora, k0_part76]
  ihave HLB := (show (LB c ↦{fullShare} (b0 : Buf (Elt F) (LB c)) : sProp 𝕄) ⊢ pt c (Memref.whole cc0_scratch1) (b0 : Buf (Elt F) (LB c)) from .rfl) $$ HLB
  sl_exec_parts
  sl_step
  iapply HK
  isplitl [H5 H6 H7 H8 H9 H10 H13 H14]
  · isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H13]; · iexists _; iexact H13
    iexists _; iexact H14
  isplitl [T1 T2 T3 T4]
  · isplitl [T1]; · iexact T1
    isplitl [T2]; · iexact T2
    isplitl [T3]; · iexact T3
    iexact T4
  isplitl [HLA]; · iexists _; iexact HLA
  isplitl [HPA]; · iexact HPA
  isplitl [HSA]; · iexact HSA
  isplitl [HLB]; · iexists _; iexact HLB
  isplitl [HPB]; · iexact HPB
  isplitl [HSB]; · iexact HSB
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iexact HO

end
end Cert.Kernel.Body
-- ==== Proof.PreFits.lean ====
module

public import proofs.«01_k».proof.Proof.Tab
public import proofs.«01_k».proof.Pre_tables_fit
public import Idealize.ShloMosaic.Lib.StableHlo.Predicate

@[expose] public section

namespace Cert.Math

open Idealize.ShloMosaic Cert.Pre_tables_fit

section
variable [Facts]

/-- The index of a table at word `k`. -/
def ix27 (k : Fin 27) : S27.Idx := Shape.Idx.ofFin k

theorem sge_one (a b : BitVec 32) : IntOp.cmpi .sge a b = 1#1 ↔ b.toInt ≤ a.toInt := by
  rw [WordCmp.cmpi_sge_eq, WordCmp.ofBool_decide_eq_one_iff]
theorem sle_one (a b : BitVec 32) : IntOp.cmpi .sle a b = 1#1 ↔ a.toInt ≤ b.toInt := by
  rw [WordCmp.cmpi_sle_eq, WordCmp.ofBool_decide_eq_one_iff]
theorem slt_one (a b : BitVec 32) : IntOp.cmpi .slt a b = 1#1 ↔ a.toInt < b.toInt := by
  rw [WordCmp.cmpi_slt_eq, WordCmp.ofBool_decide_eq_one_iff]
theorem sgt_one (a b : BitVec 32) : IntOp.cmpi .sgt a b = 1#1 ↔ b.toInt < a.toInt := by
  rw [WordCmp.cmpi_sgt_eq, WordCmp.ofBool_decide_eq_one_iff]
theorem zero_of_ne_one {b : BitVec 1} (h : ¬ b = 1#1) : b = 0#1 := by revert b; decide
theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide

/-- A word between zero and a small bound has that value. -/
theorem nat_of_int (w : BitVec 32) (n : ℕ) (h0 : 0 ≤ w.toInt) (h1 : w.toInt ≤ n) : w.toNat ≤ n := by
  have h2 := BitVec.toInt_eq_toNat_cond w
  have h3 := w.isLt
  rcases Nat.lt_or_ge (2 * w.toNat) (2 ^ 32) with h | h
  · rw [if_pos h] at h2; omega
  · rw [if_neg (Nat.not_lt.mpr h)] at h2; omega

/-- The gather at an adapter index that lies in the table. -/
theorem gat (x : IVec S41 32) (f : IVec S27 32) (k : Fin 27) (h0 : 0 ≤ (f (ix27 k)).toInt) (h1 : (f (ix27 k)).toInt < 41) :
    Host.gather gather_S41_S27x1_S27_n_0_n_n_0_1_1 x
      (broadcastInDim S27x1 ![0] Facts.bcast_S27_S27x1_0 (select (cmpi .slt f (broadcastInDim S27 ![] Facts.bcast_S_S27 (constantI S_ 32 0#32))) (addi f (broadcastInDim S27 ![] Facts.bcast_S_S27 (constantI S_ 32 41#32))) f)) (ix27 k) = get x (f (ix27 k)).toNat := by
  have hle := nat_of_int (f (ix27 k)) 40 h0 (by omega)
  unfold ix27
  rw [StableHlo.Predicate.gather_take _ rfl rfl rfl rfl x _ k (by decide)]
  refine get_eq x _ _ ?_
  have hs : (broadcastInDim S27x1 ![0] Facts.bcast_S27_S27x1_0 (select (cmpi .slt f (broadcastInDim S27 ![] Facts.bcast_S_S27 (constantI S_ 32 0#32))) (addi f (broadcastInDim S27 ![] Facts.bcast_S_S27 (constantI S_ 32 41#32))) f)) (StableHlo.Predicate.ixP k) = f (ix27 k) := by
    have hi : ∀ (g : IVec S27 32), (broadcastInDim S27x1 ![0] Facts.bcast_S27_S27x1_0 g) (StableHlo.Predicate.ixP k) = g (ix27 k) := by
      intro g
      unfold broadcastInDim
      congr 1
      funext a
      obtain rfl : a = 0 := Subsingleton.elim _ _
      rfl
    rw [hi]
    show Scalar.select (IntOp.cmpi .slt (f (ix27 k)) 0#32) _ (f (ix27 k)) = _
    have hz : ¬ IntOp.cmpi .slt (f (ix27 k)) 0#32 = 1#1 := by
      rw [slt_one]; simpa using h0
    rw [zero_of_ne_one hz]; rfl
  show min _ _ = _
  rw [hs]
  have h2 := BitVec.toInt_eq_toNat_cond (f (ix27 k))
  rw [if_pos (by omega)] at h2
  rw [h2]
  unfold ix27 at hle ⊢
  simp only [Int.toNat_natCast]
  omega

/-- A table's word at `k`. -/
theorem getk {n : ℕ} (f : (⟨1, ![n]⟩ : Shape).Idx → BitVec 32) (k : ℕ) (hk : k < n) (x : (⟨1, ![n]⟩ : Shape).Idx) (h : (x 0).val = k) :
    get f k = f x := (get_eq f x k h).symm

/-- What the predicate says of the tables. -/
theorem fits {F : FTy → Type} [FloatOps F] (a0 : FVec F S2x128x7168 .bf16) (a1 : IVec S896x18432 32) (a2 : FVec F S56x18432 .bf16) (a3 : IVec S3100x7168 8) (a4 : FVec F S3100 .f32) (a5 : IVec S3100x18432 8) (a6 : FVec F S3100 .f32) (a7 : IVec S41 32) (a8 : IVec S41 32) (a9 : FVec F S41 .f32) (a10 : IVec S28 32) (a11 : IVec S27 32)
    (h : fn a0 a1 a2 a3 a4 a5 a6 a7 a8 a9 a10 a11 = fun _ => 1#1) : Fits ⟨a7, a8, a10, a11⟩ := by
  have hst := gat a7 a11
  have hrk := gat a8 a11
  have pre := fun i : S27.Idx => congrFun h i
  simp only [fn, fn_part1, fn_part2] at pre
  generalize Host.gather gather_S41_S27x1_S27_n_0_n_n_0_1_1 a7 _ = st at pre hst
  generalize Host.gather gather_S41_S27x1_S27_n_0_n_n_0_1_1 a8 _ = rk at pre hrk
  generalize hlo : extractStridedSlice S27 ![0] a10 Facts.slices_S28_S27_0 = lo at pre
  generalize hhi : extractStridedSlice S27 ![1] a10 Facts.slices_S28_S27_1 = hi at pre
  have elo : ∀ k : Fin 27, lo (ix27 k) = get a10 k := by
    intro k; subst hlo
    exact (get_eq a10 _ _ (by show 0 + k.val = k.val; omega))
  have ehi : ∀ k : Fin 27, hi (ix27 k) = get a10 (k + 1) := by
    intro k; subst hhi
    exact (get_eq a10 _ _ (by show 1 + k.val = k.val + 1; omega))
  have esg : ∀ k : Fin 27, a11 (ix27 k) = get a11 k := fun k => get_eq a11 _ _ rfl
  generalize hw : fn_where (F := F) _ _ _ = w at pre
  simp only [andi, cmpi, ori, broadcastInDim, constantI, andi_one, ori_one, sge_one, sle_one, slt_one, sgt_one] at pre
  have pk := fun k : Fin 27 => pre (ix27 k)
  simp only [elo, ehi, esg] at pk hst hrk
  have hsg0 : ∀ k : Fin 27, 0 ≤ (get a11 k).toInt := fun k => by have := (pk k).1.1.1.1.1.1; simpa using this
  have hsg1 : ∀ k : Fin 27, (get a11 k).toInt < 41 := fun k => by have := (pk k).1.1.1.1.1.2; simpa using this
  have hst' := fun k => hst k (hsg0 k) (hsg1 k)
  have hrk' := fun k => hrk k (hsg0 k) (hsg1 k)
  simp only [hst', hrk'] at pk
  have hr : ∀ k : Fin 27, (get a10 k).toInt < (get a10 (k + 1)).toInt → (get a8 (get a11 k).toNat).toNat ≤ 64 := fun k hlt => by
    rcases (pk k).1.2 with h1 | ⟨h1, h2⟩
    · exact absurd hlt (Int.not_lt.mpr h1)
    · exact nat_of_int _ 64 (by simpa using h1) (by simpa using h2)
  have hwk : ∀ k : Fin 27, w (ix27 k) = wordsW (get a10 k) (get a10 (k + 1)) (get a7 (get a11 k).toNat) (get a8 (get a11 k).toNat) := by
    intro k
    subst hw
    show Scalar.select (IntOp.cmpi .sgt (hi (ix27 k)) (lo (ix27 k))) (IntOp.shrui .host (IntOp.addi (IntOp.addi (IntOp.andi (st (ix27 k)) 3#32) (rk (ix27 k))) 3#32) 2#32) 0#32 = _
    rw [hst', hrk', elo, ehi]
    unfold wordsW
    by_cases hc : (get a10 k).toInt < (get a10 (k + 1)).toInt
    · rw [if_pos hc, (sgt_one _ _).mpr hc]; rfl
    · rw [if_neg hc, zero_of_ne_one (fun h1 => hc ((sgt_one _ _).mp h1))]; rfl
  have hwn : ∀ k : Fin 27, (w (ix27 k)).toNat = (⟨a7, a8, a10, a11⟩ : Tb).nw k := fun k => by rw [hwk k]; rfl
  have hle : ∀ k : Fin 27, (w (ix27 k)).toNat ≤ 17 := by
    intro k
    rw [hwk k, wordsW_toNat _ _ _ _ (hr k)]
    split
    · have := hr k ‹_›; omega
    · omega
  refine ⟨?_, ?_, ?_, ?_, ?_⟩
  · intro e he
    have h1 := hsg1 ⟨e, he⟩
    exact Nat.lt_succ_of_le (nat_of_int (get a11 e) 40 (hsg0 ⟨e, he⟩) (Int.le_of_lt_add_one h1))
  · intro e he
    exact nat_of_int (get a7 (get a11 e).toNat) 2943 (by have := (pk ⟨e, he⟩).1.1.1.1.2; simpa using this) (by have := (pk ⟨e, he⟩).1.1.1.2; simpa using this)
  · intro e he
    exact (pk ⟨e, he⟩).1.1.2
  · intro e he
    exact hr ⟨e, he⟩
  · have ht := (pk 0).2
    have hsum : ∑ i : S27.Idx, (w i).toNat = (⟨a7, a8, a10, a11⟩ : Tb).n := by
      unfold Tb.n Tb.off
      rw [Finset.sum_range]
      refine (Fintype.sum_equiv (Equiv.ofBijective ix27 ⟨?_, ?_⟩) _ _ fun k => (hwn k).symm).symm
      · intro a b hab; exact Fin.ext (congrArg (fun x : S27.Idx => (x 0).val) hab)
      · intro y; exact ⟨y 0, by funext a; obtain rfl : a = 0 := Subsingleton.elim _ _; rfl⟩
    have hb : (⟨a7, a8, a10, a11⟩ : Tb).n ≤ 459 := by
      unfold Tb.n Tb.off
      rw [Finset.sum_range]
      refine (Finset.sum_le_sum fun k _ => (hwn k).symm.le.trans (hle k)).trans ?_
      simp
    rw [Host.reduce_eq_fold, Finset.filter_true_of_mem (fun i _ => funext fun a => absurd a.2 (Nat.not_lt_zero _))] at ht
    have hf := StableHlo.Predicate.toNat_fold_addi Finset.univ w (by rw [hsum]; omega)
    rw [hsum] at hf
    have h2 := BitVec.toInt_eq_toNat_cond (Finset.fold IntOp.addi 0#32 w Finset.univ)
    rw [hf, if_pos (by omega)] at h2
    have h3 : (Finset.fold IntOp.addi 0#32 w Finset.univ).toInt ≤ (384#32).toInt := ht
    rw [h2] at h3
    have h4 : (384#32).toInt = 384 := by decide
    omega
end

end Cert.Math
-- ==== Proof.Frame.lean ====
module

public import proofs.«01_k».proof.Proof.X2
public import proofs.«01_k».proof.Proof.PreFits
public import proofs.«01_k».proof.Proof.Gen.Kernel.Launch

@[expose] public section

noncomputable section

set_option maxRecDepth 16384

namespace Cert.Kernel.Body

open Cert.Kernel Cert.Kernel.Gen Cert.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]
local notation "𝕄" => MT nD τ sig Unit (Elt F) ℕ UD ℕ

variable (m : (ℓ : Loc nD τ sig) → Buf (Elt F) ℓ) (ρ : Dev nD → PrngReg)

/-- Every buffer's contents when the kernel starts. -/
abbrev V (c : Dev nD) (b : Ref sig .tc) : Buf (Elt F) ((c : Thread nD τ).loc b) :=
  StableHlo.after (hostOps0 (F := F)) (fun b => m (c, b)) b

/-- The tables the run goes by. -/
def TV (c : Dev nD) : Tb := ⟨V m c main_arg7, V m c main_arg8, V m c main_arg10, V m c main_arg11⟩

theorem dev_eq (c c' : Dev nD) : c = c' := by
  have : Subsingleton (Dev nD) := by unfold nD; infer_instance
  exact Subsingleton.elim _ _

/-- The tables' contents, as the pipeline takes them. -/
def av : (p : Fin 1) → (pcfgs (F := F) p).Adm := fun _ => ⟨fun k => V m 0 (pre0.ref k), trivial⟩

abbrev osem0 : Fin 2 → SemLoc sig := ![SemLoc.dma cc0_scratch8.sem, SemLoc.dma cc0_scratch9.sem]
theorem osem_facts : Pipeline.OwnSemFacts spec0 osem0 := by decide
/-- The pools the kernel copies rows out of. -/
def H0 : Finset (Ref sig .tc) := {main_arg3, main_arg5}
theorem H0_sub : H0 ⊆ Pipeline.restRefsP sig pre0 spec0 := by decide

/-- The invariant: what the kernel holds beside the windows. -/
def Inv (c : Dev nD) : sProp 𝕄 :=
  iprop(Pipeline.ΦD osem0 spec0 H0 (V m) c ∗ Pipeline.ΦT pre0 (av m 0).1 c)

theorem inv_eq (c : Dev nD) : Inv m c = iprop(((
        (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
        ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)
        ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f))
      ∗ (∃ r, prngReg c r)
      ∗ (semVal ((c : Thread nD τ), SemLoc.dma cc0_scratch8.sem) 0 ∗ semVal ((c : Thread nD τ), SemLoc.dma cc0_scratch9.sem) 0)
      ∗ ((((c : Thread nD τ).loc main_arg3) ↦{fullShare} V m c main_arg3) ∗ (((c : Thread nD τ).loc main_arg5) ↦{fullShare} V m c main_arg5)))
    ∗ ((((c : Thread nD τ).loc main_arg7) ↦{fullShare.right} V m c main_arg7) ∗ (((c : Thread nD τ).loc main_arg8) ↦{fullShare.right} V m c main_arg8)
      ∗ (((c : Thread nD τ).loc main_arg10) ↦{fullShare.right} V m c main_arg10) ∗ (((c : Thread nD τ).loc main_arg11) ↦{fullShare.right} V m c main_arg11))) := by
  obtain rfl := dev_eq c 0
  unfold Inv
  rw [Pipeline.ΦD_eq, scopedRest0_eq, Pipeline.ownSems0_eq_of_list _ osem0 [0, 1] (by decide) (by decide)]
  rw [BI.bigSep_eq_bigSepL_of_eq [main_arg3, main_arg5] (by decide) (by decide)]
  unfold Pipeline.ΦT Pipeline.prefHeld
  rw [BI.bigSep_univ_eq_bigSepL [(0 : Fin 4), (1 : Fin 4), (2 : Fin 4), (3 : Fin 4)] (by decide) (by decide)]
  rfl

/-- The body at point `t`. -/
def bodyAt (t : Fin grid0.N) (s : (w : Fin 8) → Fin (spec0 w).nbuf) : Prog (TpuEff nD τ sig (Elt F) Λ₀ .tc) PUnit :=
  cc0_multi_lora (grid0.coords t) (Memref.whole main_arg7) (Memref.isWhole_whole _) (Memref.whole main_arg8) (Memref.isWhole_whole _) (Memref.whole main_arg10) (Memref.isWhole_whole _) (Memref.whole main_arg11) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (Memref.whole main_arg3) (Memref.isWhole_whole _) (Memref.whole main_arg5) (Memref.isWhole_whole _) (spec0_6.stage (s 6)) (hstage0_6 ((s 6).cast nbuf0_6)) (spec0_7.stage (s 7)) (hstage0_7 ((s 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9

/-- The proof data: the windows' blocks at anything, the invariant above. -/
def rdat (c : Dev nD) : RDat τ (Elt F) Unit ℕ UD ℕ (Pipeline.pin (pcfgs (F := F)) (av m) 0) c where
  A w := V m c (Pipeline.arrRef spec0 w)
  after _ _ _ _ := True
  Φ _ := Inv m c
  q _ := fullShare
  owed _ := 0

theorem own_pt (c : Dev nD) {sp : Space} {S : Shape} {e : EltTy} (M : Memref sig .tc sp S e) (h : M.IsWhole) (X : S.Idx → Elt F e) :
    (owns (c : Thread nD τ) M fullShare X : sProp 𝕄) ⊢ iprop(∃ f, pt (F := F) c M f) := by
  have h1 := (Memref.IsWhole.exists_owns_eq (Ix := Unit) (Name := ℕ) (U := UD) (Lvl := ℕ) (Val := Elt F) (c := (c : Thread nD τ)) (m := M) h fullShare)
  show _ ⊢ (iprop(∃ f : Buf (Elt F) (M.view.loc (c : Thread nD τ)), (M.view.loc (c : Thread nD τ)) ↦{fullShare} f) : sProp 𝕄)
  rw [← h1]
  iintro H
  iexists X
  iexact H

theorem pt_own (c : Dev nD) {sp : Space} {S : Shape} {e : EltTy} (M : Memref sig .tc sp S e) (h : M.IsWhole) :
    (iprop(∃ f, pt (F := F) c M f) : sProp 𝕄) ⊢ iprop(∃ X, ⌜True⌝ ∗ owns (c : Thread nD τ) M fullShare X) := by
  have h1 := (Memref.IsWhole.exists_owns_eq (Ix := Unit) (Name := ℕ) (U := UD) (Lvl := ℕ) (Val := Elt F) (c := (c : Thread nD τ)) (m := M) h fullShare)
  show (iprop(∃ f : Buf (Elt F) (M.view.loc (c : Thread nD τ)), (M.view.loc (c : Thread nD τ)) ↦{fullShare} f) : sProp 𝕄) ⊢ _
  rw [← h1]
  iintro ⟨%X, H⟩
  iexists X
  isplitr
  · ipureintro; trivial
  iexact H

/-- The body at any point: the windows and the run's state, kept. -/
theorem body_run (c : Dev nD) (T : Tb) (hT : Fits T) (p0 : Buf (Elt F) (PA c)) (q0 : Buf (Elt F) (PB c)) (tq : Fin 4 → PosShare TreeShare)
    (t : Fin grid0.N) (s : (w : Fin 8) → Fin (spec0 w).nbuf) (Q : PUnit → sProp 𝕄) :
    iprop(Win (F := F) (spec0_0.stage (s 0)) (spec0_1.stage (s 1)) (spec0_2.stage (s 2)) (spec0_3.stage (s 3)) (spec0_4.stage (s 4)) (spec0_5.stage (s 5)) (spec0_6.stage (s 6)) (spec0_7.stage (s 7)) c ∗ Scr (F := F) c T p0 q0 tq
      ∗ (iprop(Win (F := F) (spec0_0.stage (s 0)) (spec0_1.stage (s 1)) (spec0_2.stage (s 2)) (spec0_3.stage (s 3)) (spec0_4.stage (s 4)) (spec0_5.stage (s 5)) (spec0_6.stage (s 6)) (spec0_7.stage (s 7)) c ∗ Scr (F := F) c T p0 q0 tq) -∗ Q ⟨⟩))
    ⊢ wp frame (wpE (defs₀ (F := F)) Variants.none (c : Thread nD τ) none) Set.univ (bodyAt (F := F) t s) Q := by
  unfold bodyAt
  by_cases hc : k0_cond1 (grid0.coords t) = 1#1
  · exact runA (grid0.coords t) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) hc c T hT p0 q0 tq Q
  · exact runB (grid0.coords t) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) c T p0 q0 tq hc Q

theorem body_obl (c : Dev nD) (hT : Fits (TV m c)) : (rdat m c).BodyObligation (defs₀ (F := F)) Variants.none () Set.univ := by
  intro t Y _
  rw [bigSep_W0, bigSep_W0]
  show iprop(Inv m c ∗ (rdat m c).owesAt () t.castSucc ∗ _) ⊢ wp frame (wpE (defs₀ (F := F)) Variants.none (c : Thread nD τ) none) Set.univ (bodyAt (F := F) t ((Pipeline.pin (pcfgs (F := F)) (av m) 0).slots t)) fun _ => iprop(Inv m c ∗ (rdat m c).owesAt () t.succ ∗ _)
  unfold RDat.owesAt Pipeline.owesWithin
  rw [inv_eq]
  rw [show (rdat m c).owed t.castSucc = 0 from rfl, show (rdat m c).owed t.succ = 0 from rfl]
  iintro ⟨⟨⟨⟨S0, S1, S2, S3, S4, S5, S6, S7⟩, Hg, ⟨Ha, Hb⟩, ⟨P3, P5⟩⟩, ⟨T7, T8, T10, T11⟩⟩, ⟨%W, -, HW⟩, ⟨W0, W1, W2, W3, W4, W5, W6, W7⟩⟩
  iapply (body_run (F := F) c (TV m c) hT (V m c main_arg3) (V m c main_arg5) (fun _ => fullShare.right) t _ _)
  isplitl [W0 W1 W2 W3 W4 W5 W6 W7]
  · unfold Win
    isplitl [W0]; · iapply (own_pt (F := F) c _ (hstage0_0 ((((Pipeline.pin (pcfgs (F := F)) (av m) 0).slots t 0)).cast nbuf0_0)) (Y 0)); iexact W0
    isplitl [W1]; · iapply (own_pt (F := F) c _ (hstage0_1 ((((Pipeline.pin (pcfgs (F := F)) (av m) 0).slots t 1)).cast nbuf0_1)) (Y 1)); iexact W1
    isplitl [W2]; · iapply (own_pt (F := F) c _ (hstage0_2 ((((Pipeline.pin (pcfgs (F := F)) (av m) 0).slots t 2)).cast nbuf0_2)) (Y 2)); iexact W2
    isplitl [W3]; · iapply (own_pt (F := F) c _ (hstage0_3 ((((Pipeline.pin (pcfgs (F := F)) (av m) 0).slots t 3)).cast nbuf0_3)) (Y 3)); iexact W3
    isplitl [W4]; · iapply (own_pt (F := F) c _ (hstage0_4 ((((Pipeline.pin (pcfgs (F := F)) (av m) 0).slots t 4)).cast nbuf0_4)) (Y 4)); iexact W4
    isplitl [W5]; · iapply (own_pt (F := F) c _ (hstage0_5 ((((Pipeline.pin (pcfgs (F := F)) (av m) 0).slots t 5)).cast nbuf0_5)) (Y 5)); iexact W5
    isplitl [W6]; · iapply (own_pt (F := F) c _ (hstage0_6 ((((Pipeline.pin (pcfgs (F := F)) (av m) 0).slots t 6)).cast nbuf0_6)) (Y 6)); iexact W6
    iapply (own_pt (F := F) c _ (hstage0_7 ((((Pipeline.pin (pcfgs (F := F)) (av m) 0).slots t 7)).cast nbuf0_7)) (Y 7)); iexact W7
  isplitl [S0 S1 S2 S3 S4 S5 S6 S7 Ha Hb P3 P5 T7 T8 T10 T11 HW]
  · unfold Scr TT
    isplitl [T7 T8 T10 T11]
    · isplitl [T7]; · iexact T7
      isplitl [T8]; · iexact T8
      isplitl [T10]; · iexact T10
      iexact T11
    isplitl [S0]; · iexact S0
    isplitl [P3]; · iexact P3
    isplitl [Ha]; · iexact Ha
    isplitl [S1]; · iexact S1
    isplitl [P5]; · iexact P5
    isplitl [Hb]; · iexact Hb
    isplitl [S2]; · iexact S2
    isplitl [S3]; · iexact S3
    isplitl [S4]; · iexact S4
    isplitl [S5]; · iexact S5
    isplitl [S6]; · iexact S6
    isplitl [S7]; · iexact S7
    iexists W; iexact HW
  unfold Win Scr TT
  iintro ⟨⟨W0, W1, W2, W3, W4, W5, W6, W7⟩, ⟨T7, T8, T10, T11⟩, S0, P3, Ha, S1, P5, Hb, S2, S3, S4, S5, S6, S7, ⟨%W', HW⟩⟩
  isplitl [S0 S1 S2 S3 S4 S5 S6 S7 Ha Hb P3 P5 T7 T8 T10 T11 Hg]
  · isplitr [T7 T8 T10 T11]
    · isplitl [S0 S1 S2 S3 S4 S5 S6 S7]
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
      isplitl [Hg]; · iexact Hg
      isplitl [Ha Hb]
      · isplitl [Ha]; · iexact Ha
        iexact Hb
      isplitl [P3]; · iexact P3
      iexact P5
    isplitl [T7]; · iexact T7
    isplitl [T8]; · iexact T8
    isplitl [T10]; · iexact T10
    iexact T11
  isplitl [HW]
  · iexists W'
    isplitr
    · ipureintro; exact fun _ _ => Or.inl trivial
    iexact HW
  isplitl [W0]; · iapply (pt_own (F := F) c _ (hstage0_0 ((((Pipeline.pin (pcfgs (F := F)) (av m) 0).slots t 0)).cast nbuf0_0))); iexact W0
  isplitl [W1]; · iapply (pt_own (F := F) c _ (hstage0_1 ((((Pipeline.pin (pcfgs (F := F)) (av m) 0).slots t 1)).cast nbuf0_1))); iexact W1
  isplitl [W2]; · iapply (pt_own (F := F) c _ (hstage0_2 ((((Pipeline.pin (pcfgs (F := F)) (av m) 0).slots t 2)).cast nbuf0_2))); iexact W2
  isplitl [W3]; · iapply (pt_own (F := F) c _ (hstage0_3 ((((Pipeline.pin (pcfgs (F := F)) (av m) 0).slots t 3)).cast nbuf0_3))); iexact W3
  isplitl [W4]; · iapply (pt_own (F := F) c _ (hstage0_4 ((((Pipeline.pin (pcfgs (F := F)) (av m) 0).slots t 4)).cast nbuf0_4))); iexact W4
  isplitl [W5]; · iapply (pt_own (F := F) c _ (hstage0_5 ((((Pipeline.pin (pcfgs (F := F)) (av m) 0).slots t 5)).cast nbuf0_5))); iexact W5
  isplitl [W6]; · iapply (pt_own (F := F) c _ (hstage0_6 ((((Pipeline.pin (pcfgs (F := F)) (av m) 0).slots t 6)).cast nbuf0_6))); iexact W6
  iapply (pt_own (F := F) c _ (hstage0_7 ((((Pipeline.pin (pcfgs (F := F)) (av m) 0).slots t 7)).cast nbuf0_7))); iexact W7

theorem hmain (𝒱₀ : Variants) : Pipeline.HMainP (Ix := Unit) (Name := ℕ) (U := UD) (Lvl := ℕ) (pcfgs (F := F)) 0 defs₀ 𝒱₀ m (main (F := F)) (V m) :=
  Pipeline.hmainP_prefix _ 0 defs₀ 𝒱₀ m main (hostOps0 (F := F)) hostOps0_sub ⟨rfl, rfl, rfl⟩ main_chain

set_option backward.isDefEq.respectTransparency.types false in
theorem run_main (hT : ∀ c, Fits (TV m c)) : θ_run defs (onTc (τ := τ) (main (F := F))) (s₀ m ρ)
    (fun r => Pipeline.RDat.FramePost (Pipeline.pin (pcfgs (F := F)) (av m) 0) (rdat m) (V m) r ∧ r.2.sem = fun _ => 0) :=
  Pipeline.RDat.θ_run_frameP_dma (Q' := _) (pcfgs (F := F)) (av m) (0 : Fin 1) launch0 osem0 defs₀ Variants.none (rdat m) osem_facts H0 H0_sub m ρ main
    (hbody := fun c => body_obl m c (hT c)) (hshare := fun c => (rdat m c).share_full fun _ => rfl)
    (howed := fun _ _ => rfl) (V := V m) (hmain := hmain m Variants.none) (hA := fun _ _ => rfl)
    (hpf := fun c k => by obtain rfl := dev_eq c 0; rfl)
    (hin := fun _ => .rfl) (hout := fun c => by
      show Inv m c ⊢ _
      unfold Inv
      iintro ⟨H, -⟩
      iexact H)

/-- The frame of the whole kernel: from tables that fit, the run ends, the arguments as they were and every counter at zero. -/
theorem frame_all (hT : ∀ c, Fits (TV m c)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(h.1 c).2 main_arg0 (Pipeline.mem_restRefs_of (win := spec0) main_arg0 (by decide) (by decide)),
      Pipeline.RDat.FramePost.arr_in h.1 c 2 rfl,
      Pipeline.RDat.FramePost.arr_in h.1 c 3 rfl,
      (h.1 c).2 main_arg3 (Pipeline.mem_restRefs_of (win := spec0) main_arg3 (by decide) (by decide)),
      (h.1 c).2 main_arg4 (Pipeline.mem_restRefs_of (win := spec0) main_arg4 (by decide) (by decide)),
      (h.1 c).2 main_arg5 (Pipeline.mem_restRefs_of (win := spec0) main_arg5 (by decide) (by decide)),
      (h.1 c).2 main_arg6 (Pipeline.mem_restRefs_of (win := spec0) main_arg6 (by decide) (by decide)),
      (h.1 c).2 main_arg7 (Pipeline.mem_restRefs_of (win := spec0) main_arg7 (by decide) (by decide)),
      (h.1 c).2 main_arg8 (Pipeline.mem_restRefs_of (win := spec0) main_arg8 (by decide) (by decide)),
      Pipeline.RDat.FramePost.arr_in h.1 c 0 rfl,
      (h.1 c).2 main_arg10 (Pipeline.mem_restRefs_of (win := spec0) main_arg10 (by decide) (by decide)),
      (h.1 c).2 main_arg11 (Pipeline.mem_restRefs_of (win := spec0) main_arg11 (by decide) (by decide))⟩, h.2⟩) (run_main m ρ hT)

end Cert.Kernel.Body
-- ==== Proof.IChecks.lean ====
module

public import proofs.«01_k».proof.Proof.Tab
public import proofs.«01_k».proof.Proof.Gen.KernelIdeal.Skeleton
public import Idealize.ShloMosaic.Lib.Affine

@[expose] public section

namespace Cert.KernelIdeal

open Idealize.ShloMosaic Idealize.ShloMosaic.Affine Cert.Math

theorem ub_id (x : BitVec 32) :
    Scalar.addi 0#32 (Scalar.muli (Scalar.divsi (Scalar.subi x 0#32) 1#32) 1#32) = x := by
  simp [Scalar.addi, Scalar.muli, Scalar.divsi, Scalar.subi, IntOp.addi, IntOp.muli, IntOp.divsi, IntOp.subi, IntOp.SDivCorner]

theorem ub_id' (x : BitVec 32) : Scalar.addi 0#32 (Scalar.subi x 0#32) = x := by
  simp [Scalar.addi, Scalar.subi, IntOp.addi, IntOp.subi]

theorem words_eq (lo hi st rk : BitVec 32) :
    Scalar.select (Scalar.cmpi .sgt hi lo) (Scalar.shrui (Scalar.addi (Scalar.addi (Scalar.andi st 3#32)
      (Scalar.select (Scalar.cmpi .sgt hi lo) rk 0#32)) 3#32) 2#32) 0#32 = wordsW lo hi st rk := by
  unfold wordsW
  by_cases h : lo.toInt < hi.toInt
  · have : Scalar.cmpi .sgt hi lo = 1#1 := IntOp.cmpi_sgt.mpr h
    rw [this, if_pos h]
    simp [Scalar.select, Scalar.shrui, Scalar.addi, Scalar.andi, IntOp.shrui, IntOp.addi, IntOp.andi]
  · have : ¬ Scalar.cmpi .sgt hi lo = 1#1 := fun hh => h (IntOp.cmpi_sgt.mp hh)
    rw [if_neg h]
    simp [Scalar.select, this]

theorem trips_up (x : BitVec 32) (h : x.toNat < 2 ^ 31) : Scf.trips 0#32 x 1#32 = x.toNat := by
  have : x.toInt = x.toNat := BitVec.toInt_eq_toNat_of_lt (by omega)
  unfold Scf.trips
  rw [this]; simp

theorem ok_up (x : BitVec 32) (h : x.toNat < 2 ^ 31) : Scf.OK 0#32 x 1#32 := by
  refine ⟨by decide, ?_⟩
  rw [trips_up x h]; simp; omega

theorem trips_none (x : BitVec 32) : Scf.trips x x 1#32 = 0 := by
  unfold Scf.trips; simp

theorem ok_none (x : BitVec 32) : Scf.OK x x 1#32 := by
  refine ⟨by decide, ?_⟩
  rw [trips_none]; have := x.toInt_lt; simpa using this

theorem iv_toNat (k : ℕ) (h : k < 2 ^ 32) : (Scf.iv 0#32 1#32 k).toNat = k := by
  simp [Scf.iv]; omega

theorem t2_ub (lo hi st rk : BitVec 32) : (k0_t2_loop lo hi st rk).ub = wordsW lo hi st rk :=
  (ub_id _).trans (words_eq lo hi st rk)
theorem t3_lb (lo hi st rk : BitVec 32) : (k0_t3_loop lo hi st rk).lb = wordsW lo hi st rk :=
  (ub_id _).trans (words_eq lo hi st rk)
theorem t3_ub (lo hi st rk : BitVec 32) : (k0_t3_loop lo hi st rk).ub = wordsW lo hi st rk :=
  (ub_id' _).trans (words_eq lo hi st rk)
theorem t4_ub (x : BitVec 32) : (k0_t4_loop x).ub = x := ub_id x
theorem t5_lb (x : BitVec 32) : (k0_t5_loop x).lb = x := ub_id x
theorem t5_ub (x : BitVec 32) : (k0_t5_loop x).ub = x := ub_id' x
/-- The blocks of 256 rows. -/
def nbW (x : BitVec 32) : BitVec 32 := Scalar.shrui (Scalar.addi (Scalar.muli x 4#32) 255#32) 8#32
theorem t6_ub (x : BitVec 32) : (k0_t6_loop x).ub = nbW x := ub_id _
theorem t7_lb (x : BitVec 32) : (k0_t7_loop x).lb = nbW x := ub_id _
theorem t7_ub (x : BitVec 32) : (k0_t7_loop x).ub = nbW x := ub_id' _

theorem t3_trips (lo hi st rk : BitVec 32) : (k0_t3_loop lo hi st rk).trips = 0 := by
  show Scf.trips (k0_t3_loop lo hi st rk).lb (k0_t3_loop lo hi st rk).ub 1#32 = 0
  rw [t3_lb, t3_ub, trips_none]
theorem t5_trips (x : BitVec 32) : (k0_t5_loop x).trips = 0 := by
  show Scf.trips (k0_t5_loop x).lb (k0_t5_loop x).ub 1#32 = 0
  rw [t5_lb, t5_ub, trips_none]
theorem t7_trips (x : BitVec 32) : (k0_t7_loop x).trips = 0 := by
  show Scf.trips (k0_t7_loop x).lb (k0_t7_loop x).ub 1#32 = 0
  rw [t7_lb, t7_ub, trips_none]

theorem t2_trips (lo hi st rk : BitVec 32) (h : (wordsW lo hi st rk).toNat < 2 ^ 31) :
    (k0_t2_loop lo hi st rk).trips = (wordsW lo hi st rk).toNat := by
  show Scf.trips 0#32 (k0_t2_loop lo hi st rk).ub 1#32 = _
  rw [t2_ub, trips_up _ h]
theorem t4_trips (x : BitVec 32) (h : x.toNat < 2 ^ 31) : (k0_t4_loop x).trips = x.toNat := by
  show Scf.trips 0#32 (k0_t4_loop x).ub 1#32 = _
  rw [t4_ub, trips_up _ h]

theorem nbW_toNat (x : BitVec 32) (h : x.toNat ≤ 384) : (nbW x).toNat = (4 * x.toNat + 255) / 256 := by
  have h1 : (Scalar.addi (Scalar.muli x 4#32) 255#32).toNat = 4 * x.toNat + 255 := by
    simp [Scalar.addi, Scalar.muli, IntOp.addi, IntOp.muli]; omega
  unfold nbW
  simp only [Scalar.shrui, IntOp.shrui]
  simp [h1, Nat.shiftRight_eq_div_pow]
theorem t6_trips (x : BitVec 32) (h : x.toNat ≤ 384) : (k0_t6_loop x).trips = (4 * x.toNat + 255) / 256 := by
  show Scf.trips 0#32 (k0_t6_loop x).ub 1#32 = _
  rw [t6_ub, trips_up _ (by rw [nbW_toNat x h]; omega), nbW_toNat x h]

theorem rowOff (a : BitVec 32) (k : ℕ) (h : a.toNat + k ≤ 800) :
    (Scalar.muli (Scalar.addi a (Scf.iv 0#32 1#32 k)) 4#32).toNat = 4 * (a.toNat + k) := by
  have := iv_toNat k (by omega)
  simp only [Scalar.muli, Scalar.addi, IntOp.muli, IntOp.addi, BitVec.toNat_mul, BitVec.toNat_add, this]
  simp; omega

theorem ivOff (m : BitVec 32) (k : ℕ) (h : k ≤ 800) (hm : m.toNat ≤ 256) :
    (Scalar.muli (Scf.iv 0#32 1#32 k) m).toNat = k * m.toNat := by
  have := iv_toNat k (by omega)
  simp only [Scalar.muli, IntOp.muli, BitVec.toNat_mul, this]
  have : k * m.toNat ≤ 800 * 256 := Nat.mul_le_mul h hm
  omega

theorem srcW (st : BitVec 32) : (Scalar.shrui st 2#32).toNat = st.toNat / 4 := by
  simp [Scalar.shrui, IntOp.shrui, Nat.shiftRight_eq_div_pow]

theorem inb2 {m w W : ℕ} {M : ℕ} (o : ℕ) (h : o + m ≤ M) (hw : w ≤ W) :
    ∀ a, (![o, 0] : Fin 2 → ℕ) a + (⟨2, ![m, w]⟩ : Shape).size a ≤ (⟨2, ![M, W]⟩ : Shape).size a := by
  intro a; fin_cases a
  · exact h
  · simpa using hw

theorem words2 {m W M : ℕ} (o : ℕ) (h : ∀ a, (![o, 0] : Fin 2 → ℕ) a + (⟨2, ![m, W]⟩ : Shape).size a ≤ (⟨2, ![M, W]⟩ : Shape).size a)
    (ho : 4 ∣ o) (hm : 4 ∣ m) :
    (Rect.unit (s := ⟨2, ![M, W]⟩) ![o, 0] (⟨2, ![m, W]⟩ : Shape).size h).WholeWords (EltTy.packing .i8) := by
  refine Or.inl (packed_dvd (le_refl 2) ?_ ?_)
  · exact ho
  · exact hm

theorem in41 {o : ℕ} (h : o < 41) : ∀ a, (![o] : Fin 1 → ℕ) a + S1.size a ≤ S41.size a := by
  intro a; fin_cases a; show o + 1 ≤ 41; omega

theorem odd_chk (i : grid0.Coords) (v : BitVec 32) (h : v.toNat < 41) : k0_chk3 i v :=
  ⟨fun _ => in41 h, fun _ => in41 h⟩

theorem chk1 (i : grid0.Coords) (v : BitVec 32) (h : v.toNat < 41) : k0_chk1 i v := fun _ => in41 h

theorem d0 (v : BitVec 32) (h : v.toNat ≤ 2943) :
    (Scalar.shrui (Scalar.muli (Scalar.shrui v 2#32) 4#32) 7#32).toNat = v.toNat / 128 := by
  have h1 : (Scalar.muli (Scalar.shrui v 2#32) 4#32).toNat = v.toNat / 4 * 4 := by
    have := srcW v
    simp only [Scalar.muli, IntOp.muli, BitVec.toNat_mul, this]; simp; omega
  simp only [Scalar.shrui, IntOp.shrui] at h1 ⊢
  simp [Nat.shiftRight_eq_div_pow, h1]; simp at h1; omega

theorem d0m (v : BitVec 32) (h : v.toNat ≤ 2943) :
    (Scalar.muli (Scalar.shrui (Scalar.muli (Scalar.shrui v 2#32) 4#32) 7#32) 128#32).toNat = 128 * (v.toNat / 128) := by
  have := d0 v h
  simp only [Scalar.muli, IntOp.muli, BitVec.toNat_mul] at this ⊢
  rw [this]; simp; omega

theorem d1m (v : BitVec 32) (h : v.toNat ≤ 2943) :
    (Scalar.muli (Scalar.addi (Scalar.shrui (Scalar.muli (Scalar.shrui v 2#32) 4#32) 7#32) 1#32) 128#32).toNat
      = 128 * (v.toNat / 128 + 1) := by
  have := d0 v h
  simp only [Scalar.muli, IntOp.muli, Scalar.addi, IntOp.addi, BitVec.toNat_mul, BitVec.toNat_add] at this ⊢
  rw [this]; simp; omega

theorem in3100 {o : ℕ} (h : o + 128 ≤ 3100) : ∀ a, (![0, o] : Fin 2 → ℕ) a + S1x128.size a ≤ S1x3100.size a := by
  intro a; fin_cases a
  · show 0 + 1 ≤ 1; omega
  · show o + 128 ≤ 3100; omega

theorem even_chk (i : grid0.Coords) (v : BitVec 32) (h : v.toNat ≤ 2943) : k0_chk4 i v := by
  have e0 := d0m v h
  have e1 := d1m v h
  refine ⟨fun _ => ?_, fun _ => in3100 ?_, fun _ => ?_, fun _ => in3100 ?_, fun _ => ?_, fun _ => ?_⟩
  · exact ⟨_, e0⟩
  · exact (Nat.add_le_add_right e0.le 128).trans (by omega)
  · exact ⟨_, e1⟩
  · exact (Nat.add_le_add_right e1.le 128).trans (by omega)
  · exact ⟨_, e0⟩
  · exact ⟨_, e1⟩

theorem off5_eq (a lo hi st rk : BitVec 32) (k : Fin (k0_t2_loop lo hi st rk).trips) (h : a.toNat + k ≤ 800) :
    k0_off5 a lo hi st rk k = ![4 * (a.toNat + k), 0] := congrArg (fun o => ![o, 0]) (rowOff a k h)
theorem off7_eq (a lo hi st rk : BitVec 32) (k : Fin (k0_t2_loop lo hi st rk).trips) (h : a.toNat + k ≤ 800) :
    k0_off7 a lo hi st rk k = ![4 * (a.toNat + k), 0] := congrArg (fun o => ![o, 0]) (rowOff a k h)
theorem off6_eq (lo hi st rk : BitVec 32) (k : Fin (k0_t2_loop lo hi st rk).trips) (h : st.toNat / 4 + k ≤ 800) :
    k0_off6 lo hi st rk k = ![4 * (st.toNat / 4 + k), 0] := by
  have := rowOff (Scalar.shrui st 2#32) k (by rw [srcW]; exact h)
  rw [srcW] at this
  exact congrArg (fun o => ![o, 0]) this
theorem off8_eq (lo hi st rk : BitVec 32) (k : Fin (k0_t2_loop lo hi st rk).trips) (h : st.toNat / 4 + k ≤ 800) :
    k0_off8 lo hi st rk k = ![4 * (st.toNat / 4 + k), 0] := by
  have := rowOff (Scalar.shrui st 2#32) k (by rw [srcW]; exact h)
  rw [srcW] at this
  exact congrArg (fun o => ![o, 0]) this

theorem chk2 (i : grid0.Coords) (a lo hi st rk : BitVec 32) (hst : st.toNat ≤ 2943)
    (hw : (wordsW lo hi st rk).toNat ≤ 17) (ha : a.toNat + (wordsW lo hi st rk).toNat ≤ 384) : k0_chk2 i a lo hi st rk := by
  have ht := t2_trips lo hi st rk (by omega)
  have hno : ∀ k : Fin (k0_t3_loop lo hi st rk).trips, False := fun k =>
    absurd (lt_of_lt_of_eq k.2 (t3_trips lo hi st rk)) (Nat.not_lt_zero _)
  refine ⟨fun _ => ?_, fun k _ => ?_, fun k _ => ?_, fun k _ => ?_, fun k _ => ?_, fun k _ => ?_, fun k _ => ?_, fun k _ => ?_,
    fun k _ => ?_, fun _ => ?_, fun k => (hno k).elim, fun k => (hno k).elim, fun k => (hno k).elim, fun k => (hno k).elim,
    fun k => (hno k).elim, fun k => (hno k).elim, fun k => (hno k).elim, fun k => (hno k).elim⟩
  · show Scf.OK 0#32 (k0_t2_loop lo hi st rk).ub 1#32
    rw [t2_ub]; exact ok_up _ (by omega)
  all_goals try have hk : k.val < (wordsW lo hi st rk).toNat := ht ▸ k.2
  · rw [off5_eq a lo hi st rk k (by omega)]; exact inb2 _ (by omega) le_rfl
  · rw [off6_eq lo hi st rk k (by omega)]; exact inb2 _ (by omega) le_rfl
  · rw [off6_eq lo hi st rk k (by omega)]; exact fun h => words2 _ h (Nat.dvd_mul_right ..) (by decide)
  · rw [off5_eq a lo hi st rk k (by omega)]; exact fun h => words2 _ h (Nat.dvd_mul_right ..) (by decide)
  · rw [off7_eq a lo hi st rk k (by omega)]; exact inb2 _ (by omega) le_rfl
  · rw [off8_eq lo hi st rk k (by omega)]; exact inb2 _ (by omega) le_rfl
  · rw [off8_eq lo hi st rk k (by omega)]; exact fun h => words2 _ h (Nat.dvd_mul_right ..) (by decide)
  · rw [off7_eq a lo hi st rk k (by omega)]; exact fun h => words2 _ h (Nat.dvd_mul_right ..) (by decide)
  · show Scf.OK (k0_t3_loop lo hi st rk).lb (k0_t3_loop lo hi st rk).ub 1#32
    rw [t3_lb, t3_ub]; exact ok_none _

theorem off121_eq (v : BitVec 32) (k : Fin (k0_t4_loop v).trips) (h : k.val ≤ 800) :
    k0_off121 v k = ![4 * k.val, 0] := by
  have := ivOff 4#32 k.val h (by decide)
  exact congrArg (fun o => ![o, 0]) (this.trans (Nat.mul_comm _ _))
theorem off122_eq (v : BitVec 32) (k : Fin (k0_t4_loop v).trips) (h : k.val ≤ 800) :
    k0_off122 v k = ![4 * k.val, 0] := by
  have := ivOff 4#32 k.val h (by decide)
  exact congrArg (fun o => ![o, 0]) (this.trans (Nat.mul_comm _ _))

theorem blkOff (k : ℕ) (h : k ≤ 800) : (Scalar.muli (Scf.iv 0#32 1#32 k) 256#32).toNat = 256 * k :=
  (ivOff 256#32 k h (by decide)).trans (Nat.mul_comm _ _)
theorem off125_eq (v : BitVec 32) (k : Fin (k0_t6_loop v).trips) (h : k.val ≤ 800) : k0_off125 v k = ![256 * k.val, 0] :=
  congrArg (fun o => ![o, 0]) (blkOff k.val h)
theorem off126_eq (v : BitVec 32) (k : Fin (k0_t6_loop v).trips) (h : k.val ≤ 800) : k0_off126 v k = ![256 * k.val, 1024] :=
  congrArg (fun o => ![o, 1024]) (blkOff k.val h)
theorem off127_eq (v : BitVec 32) (k : Fin (k0_t6_loop v).trips) (h : k.val ≤ 800) : k0_off127 v k = ![256 * k.val, 2048] :=
  congrArg (fun o => ![o, 2048]) (blkOff k.val h)
theorem off128_eq (v : BitVec 32) (k : Fin (k0_t6_loop v).trips) (h : k.val ≤ 800) : k0_off128 v k = ![256 * k.val, 3072] :=
  congrArg (fun o => ![o, 3072]) (blkOff k.val h)
theorem off129_eq (v : BitVec 32) (k : Fin (k0_t6_loop v).trips) (h : k.val ≤ 800) : k0_off129 v k = ![256 * k.val, 4096] :=
  congrArg (fun o => ![o, 4096]) (blkOff k.val h)
theorem off130_eq (v : BitVec 32) (k : Fin (k0_t6_loop v).trips) (h : k.val ≤ 800) : k0_off130 v k = ![256 * k.val, 5120] :=
  congrArg (fun o => ![o, 5120]) (blkOff k.val h)
theorem off131_eq (v : BitVec 32) (k : Fin (k0_t6_loop v).trips) (h : k.val ≤ 800) : k0_off131 v k = ![256 * k.val, 6144] :=
  congrArg (fun o => ![o, 6144]) (blkOff k.val h)

theorem off132_eq (v : BitVec 32) (k : Fin (k0_t6_loop v).trips) (r : Fin 2) (h : k.val ≤ 800) :
    k0_off132 v k (BitVec.ofNat 32 r.val) = ![2 * k.val + r.val, 0] := by
  have h1 := ivOff 2#32 k.val h (by decide)
  have : (Scalar.addi (Scalar.muli (Scf.iv 0#32 1#32 k.val) 2#32) (BitVec.ofNat 32 r.val)).toNat = 2 * k.val + r.val := by
    simp only [Scalar.addi, IntOp.addi, BitVec.toNat_add, h1]
    simp; omega
  exact congrArg (fun o => ![o, 0]) this
theorem off133_eq (v : BitVec 32) (k : Fin (k0_t6_loop v).trips) (h : k.val ≤ 800) :
    k0_off133 v k = ![k.val, 0, 0] :=
  congrArg (fun o => ![o, 0, 0]) (iv_toNat k.val (by omega))

theorem inbA {o c : ℕ} (h : o + 256 ≤ 1536) (hc : c + 1024 ≤ 7168) :
    ∀ a, (![o, c] : Fin 2 → ℕ) a + S256x1024.size a ≤ S1536x7168.size a := by
  intro a; fin_cases a
  · exact h
  · exact hc

theorem chk57 (i : grid0.Coords) (v : BitVec 32) (h : v.toNat ≤ 384) : k0_chk57 i v := by
  have h4 := t4_trips v (by omega)
  have h6 := t6_trips v h
  have n5 : ∀ k : Fin (k0_t5_loop v).trips, False := fun k =>
    absurd (lt_of_lt_of_eq k.2 (t5_trips v)) (Nat.not_lt_zero _)
  have n7 : ∀ k : Fin (k0_t7_loop v).trips, False := fun k =>
    absurd (lt_of_lt_of_eq k.2 (t7_trips v)) (Nat.not_lt_zero _)
  refine ⟨⟨fun _ => ?_, fun k _ => ?_, fun k _ => ?_, fun k _ => ?_, fun k _ => ?_, fun _ => ?_,
    fun k => (n5 k).elim, fun k => (n5 k).elim, fun k => (n5 k).elim, fun k => (n5 k).elim, fun _ => ?_, fun k _ => ?_,
    fun k _ => ?_, fun k _ => ?_, fun k _ => ?_, fun k _ => ?_, fun k _ => ?_, fun k _ => ?_, fun k _ => ?_, fun k _ r => ?_,
    fun k _ => ?_, fun k _ => ?_, fun _ => ?_, fun k => (n7 k).elim, fun k => (n7 k).elim, fun k => (n7 k).elim,
    fun k => (n7 k).elim, fun k => (n7 k).elim, fun k => (n7 k).elim, fun k => (n7 k).elim, fun k => (n7 k).elim,
    fun k => (n7 k).elim⟩, fun k => (n7 k).elim, fun k => (n7 k).elim⟩
  · show Scf.OK 0#32 (k0_t4_loop v).ub 1#32
    rw [t4_ub]; exact ok_up _ (by omega)
  · have hk : k.val < v.toNat := h4 ▸ k.2
    rw [off121_eq v k (by omega)]; exact inb2 _ (by omega) le_rfl
  · have hk : k.val < v.toNat := h4 ▸ k.2
    rw [off121_eq v k (by omega)]; exact fun h => words2 _ h (Nat.dvd_mul_right ..) (by decide)
  · have hk : k.val < v.toNat := h4 ▸ k.2
    rw [off122_eq v k (by omega)]; exact inb2 _ (by omega) le_rfl
  · have hk : k.val < v.toNat := h4 ▸ k.2
    rw [off122_eq v k (by omega)]; exact fun h => words2 _ h (Nat.dvd_mul_right ..) (by decide)
  · show Scf.OK (k0_t5_loop v).lb (k0_t5_loop v).ub 1#32
    rw [t5_lb, t5_ub]; exact ok_none _
  · show Scf.OK 0#32 (k0_t6_loop v).ub 1#32
    rw [t6_ub]; exact ok_up _ (by rw [nbW_toNat v h]; omega)
  all_goals try have hk : k.val < (4 * v.toNat + 255) / 256 := h6 ▸ k.2
  · exact ⟨k.val, blkOff k.val (by omega)⟩
  · rw [off125_eq v k (by omega)]; exact inbA (by omega) (by omega)
  · rw [off126_eq v k (by omega)]; exact inbA (by omega) (by omega)
  · rw [off127_eq v k (by omega)]; exact inbA (by omega) (by omega)
  · rw [off128_eq v k (by omega)]; exact inbA (by omega) (by omega)
  · rw [off129_eq v k (by omega)]; exact inbA (by omega) (by omega)
  · rw [off130_eq v k (by omega)]; exact inbA (by omega) (by omega)
  · rw [off131_eq v k (by omega)]; exact inbA (by omega) (by omega)
  · rw [off132_eq v k r (by omega)]
    intro a; fin_cases a
    · show 2 * k.val + r.val + 1 ≤ 16; omega
    · show 0 + 128 ≤ 128; omega
  · rw [off133_eq v k (by omega)]
    intro a; fin_cases a
    · show k.val + 1 ≤ 6; omega
    · show 0 + 256 ≤ 256; omega
    · show 0 + 256 ≤ 256; omega
  · intro hinb
    refine packed_dvd (by decide) ?_ ?_
    · rw [off133_eq v k (by omega)]; exact ⟨0, rfl⟩
    · exact ⟨128, rfl⟩
  · show Scf.OK (k0_t7_loop v).lb (k0_t7_loop v).ub 1#32
    rw [t7_lb, t7_ub]; exact ok_none _

end Cert.KernelIdeal
-- ==== Proof.IGather.lean ====
module

public import proofs.«01_k».proof.Proof.Rows
public import proofs.«01_k».proof.Proof.IChecks
public import proofs.«01_k».proof.Proof.Gen.KernelIdeal.Launch
public import Idealize.ShloMosaic.Lib.Tactic
public import Idealize.ShloMosaic.Lib.Batch
public import Idealize.ShloMosaic.Lib.Ring
public import Idealize.ShloMosaic.Lib.Pipeline.Frame
public import Idealize.ShloMosaic.Lib.Claim

@[expose] public section

set_option maxRecDepth 16384

noncomputable section

namespace Cert.KernelIdeal.Body

open Cert.KernelIdeal Cert.KernelIdeal.Gen Cert.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The certificate's algebra: the pipeline's rounds beside the transfers' counters. -/
abbrev UD : Type := Pipeline.UD sig nD τ
local notation "𝕄" => MT nD τ sig Unit (Elt F) ℕ UD ℕ

/-- The transfers' counters in the machine's algebra. -/
abbrev EC : UEmb Counters 𝕄 := countersEmb (U := UD)

/-- The transfers already issued. -/
def issued {n : ℕ} (j : ℕ) : Finset (Fin n) := Finset.univ.filter fun t => t.val < j

theorem issued_succ {n j : ℕ} (hj : j < n) : issued (n := n) (j + 1) = insert ⟨j, hj⟩ (issued j) := by
  ext t; simp only [issued, Finset.mem_filter, Finset.mem_univ, true_and, Finset.mem_insert, Fin.ext_iff]; omega
theorem not_mem_issued {n j : ℕ} (hj : j < n) : (⟨j, hj⟩ : Fin n) ∉ issued (n := n) j := by simp [issued]
theorem issued_zero {n : ℕ} : issued (n := n) 0 = ∅ := by simp [issued]
theorem issued_all {n : ℕ} : issued (n := n) n = Finset.univ := by
  unfold issued; exact Finset.filter_true_of_mem fun t _ => t.2
theorem pending_all {n : ℕ} : Transfers.pending (n := n) n = ∅ := by
  unfold Transfers.pending; exact Finset.filter_false_of_mem fun t _ => by have := t.2; omega

attribute [local irreducible] Tb.n Tb.off

/-- The elements outside `I`. -/
def keep {ℓ : Loc nD τ sig} (I : Finset (Idx ℓ)) : Finset (Idx ℓ) := Finset.univ \ I

theorem split_keep {ℓ : Loc nD τ sig} (I : Finset (Idx ℓ)) {q : PosShare TreeShare} {f : Buf (Elt F) ℓ} :
    (ℓ ↦{q} f : sProp 𝕄) ⊣⊢ iprop((ℓ ↦[I]{q} f) ∗ ℓ ↦[keep I]{q} f) :=
  pointsTo_split_subset (Finset.subset_univ I)

theorem issued_take {n j : ℕ} {Φ : Fin n → sProp 𝕄} (hj : j < n) :
    iprop(Φ ⟨j, hj⟩ ∗ bigSep (issued j) Φ) ⊢ bigSep (issued (j + 1)) Φ :=
  Entails.of_eq (by rw [issued_succ hj, bigSep_insert (not_mem_issued hj)]; rfl)

theorem pending_take {n j : ℕ} {Φ : Fin n → sProp 𝕄} (hj : j < n) :
    bigSep (Transfers.pending j) Φ ⊢ iprop(Φ ⟨j, hj⟩ ∗ bigSep (Transfers.pending (j + 1)) Φ) :=
  Entails.of_eq (by rw [Transfers.pending_succ hj, bigSep_insert (Transfers.not_mem_pending_succ hj)]; rfl)

/-! ## The rows gathered into cc0_scratch0 -/

abbrev mA : Memref sig .tc .vmem S1536x7168 .i8 := Memref.whole cc0_scratch0
abbrev pA : Memref sig .tc .hbm S3100x7168 .i8 := Memref.whole main_arg3
abbrev LA (c : Dev nD) : Loc nD τ sig := mA.view.loc (c : Thread nD τ)
abbrev PA (c : Dev nD) : Loc nD τ sig := pA.view.loc (c : Thread nD τ)
/-- One transfer's credit. -/
abbrev NA : ℕ := cc0_scratch0.dmaCredit S4x7168 .i8

theorem set_mA (o : Fin 2 → ℕ) (t : ℕ) (ho : o = ![4 * t, 0])
    (h : ∀ a, o a + S4x7168.size a ≤ S1536x7168.size a) :
    (mA.slice (Rect.unit (s := S1536x7168) o S4x7168.size h) (fun _ => rfl)).view.set = rows4 t := by
  subst ho
  refine (View.set_slice_whole cc0_scratch0 (Rect.unit (s := S1536x7168) ![4 * t, 0] S4x7168.size h)).trans ?_
  ext i
  rw [Rect.mem_set_unit, mem_rows4]
  constructor
  · intro hh; exact hh 0
  · intro hh a
    fin_cases a
    · exact hh
    · exact ⟨Nat.zero_le _, lt_of_lt_of_eq (i 1).2 (Nat.zero_add _).symm⟩

theorem set_pA (o : Fin 2 → ℕ) (t : ℕ) (ho : o = ![4 * t, 0])
    (h : ∀ a, o a + S4x7168.size a ≤ S3100x7168.size a) :
    (pA.slice (Rect.unit (s := S3100x7168) o S4x7168.size h) (fun _ => rfl)).view.set = rows4 t := by
  subst ho
  refine (View.set_slice_whole main_arg3 (Rect.unit (s := S3100x7168) ![4 * t, 0] S4x7168.size h)).trans ?_
  ext i
  rw [Rect.mem_set_unit, mem_rows4]
  constructor
  · intro hh; exact hh 0
  · intro hh a
    fin_cases a
    · exact hh
    · exact ⟨Nat.zero_le _, lt_of_lt_of_eq (i 1).2 (Nat.zero_add _).symm⟩

theorem emb_mA (o : Fin 2 → ℕ) (h : ∀ a, o a + S4x7168.size a ≤ S1536x7168.size a) (x : S4x7168.Idx) (a : Fin 2) :
    ((mA.slice (Rect.unit (s := S1536x7168) o S4x7168.size h) (fun _ => rfl)).view.emb x a).val = o a + (x a).val :=
  (Rect.emb_apply (Rect.unit (s := S1536x7168) o S4x7168.size h) x a).trans (congrArg (o a + ·) (Nat.one_mul _))

theorem emb_pA (o : Fin 2 → ℕ) (h : ∀ a, o a + S4x7168.size a ≤ S3100x7168.size a) (x : S4x7168.Idx) (a : Fin 2) :
    ((pA.slice (Rect.unit (s := S3100x7168) o S4x7168.size h) (fun _ => rfl)).view.emb x a).val = o a + (x a).val :=
  (Rect.emb_apply (Rect.unit (s := S3100x7168) o S4x7168.size h) x a).trans (congrArg (o a + ·) (Nat.one_mul _))

theorem write_mA (T : Tb) (hT : Fits T) (o o' : Fin 2 → ℕ) (t : ℕ) (ht : t < T.n) (ho : o = ![4 * t, 0]) (ho' : o' = ![4 * T.src t, 0])
    (h : ∀ a, o a + S4x7168.size a ≤ S1536x7168.size a) (h' : ∀ a, o' a + S4x7168.size a ≤ S3100x7168.size a)
    (a0 : S1536x7168.Idx → Elt F .i8) (p0 : S3100x7168.Idx → Elt F .i8) (i : S1536x7168.Idx) (hi : i ∈ rows4 t) :
    (mA.slice (Rect.unit (s := S1536x7168) o S4x7168.size h) (fun _ => rfl)).view.write (Elt F) a0
      ((pA.slice (Rect.unit (s := S3100x7168) o' S4x7168.size h') (fun _ => rfl)).view.read (Elt F) p0) Finset.univ i
      = gath T p0 a0 i := by
  have hm := (mem_rows4 t i).mp hi
  have hset := set_mA o t ho h
  rw [← hset] at hi
  obtain ⟨x, -, hx⟩ := Finset.mem_map.mp hi
  have o0 : o 0 = 4 * t := congrFun ho 0
  have o1 : o 1 = 0 := congrFun ho 1
  have o0' : o' 0 = 4 * T.src t := congrFun ho' 0
  have o1' : o' 1 = 0 := congrFun ho' 1
  have e0 : (i 0).val = 4 * t + (x 0).val := by
    have := emb_mA o h x 0
    rw [hx] at this; omega
  have e1 : (i 1).val = (x 1).val := by
    have := emb_mA o h x 1
    rw [hx] at this; omega
  have hx0 : (x 0).val < 4 := (x 0).2
  have hg : gath T p0 a0 i = rowAt p0 (a0 i) (4 * T.src t + (x 0).val) (i 1) := by
    unfold gath
    rw [if_pos (by omega)]
    exact congrArg (fun r => rowAt p0 (a0 i) r (i 1)) (by rw [show (i 0).val / 4 = t by omega]; omega)
  rw [hg]
  have hw := (mA.slice (Rect.unit (s := S1536x7168) o S4x7168.size h) (fun _ => rfl)).view.write_emb (Val := Elt F) a0
      ((pA.slice (Rect.unit (s := S3100x7168) o' S4x7168.size h') (fun _ => rfl)).view.read (Elt F) p0) Finset.univ x
  rw [hx, if_pos (Finset.mem_univ _)] at hw
  refine hw.trans ?_
  refine (rowAt_eq p0 (a0 i) _ (i 1) _ ?_ ?_).symm
  · exact (emb_pA o' h' x 0).trans (congrArg (· + (x 0).val) o0')
  · exact (emb_pA o' h' x 1).trans (by rw [e1]; omega)

/-- What transfer `t` delivers: its four rows gathered, and its share of the rows it read. -/
def DA (c : Dev nD) (T : Tb) (a0 : Buf (Elt F) (LA c)) (p0 : Buf (Elt F) (PA c)) (t : Fin T.n) : sProp 𝕄 :=
  iprop((LA c ↦[rows4 t.val]{fullShare} (gath T p0 a0 : Buf (Elt F) (LA c)))
    ∗ (PA c ↦[rows4 (T.src t.val)]{Transfers.shareTokN fullShare t.val} p0))

instance DA_storable (c : Dev nD) (T : Tb) (a0 : Buf (Elt F) (LA c)) (p0 : Buf (Elt F) (PA c)) (t : Fin T.n) :
    BI.Storable (upEmb : UEmb _ 𝕄) (DA c T a0 p0 t) := by unfold DA; infer_instance

/-- The batch on its cell. -/
abbrev BA (c : Dev nD) (T : Tb) (a0 : Buf (Elt F) (LA c)) (p0 : Buf (Elt F) (PA c)) (j u : ℕ) : sProp 𝕄 :=
  Transfers.Batch (EC (F := F)) (c : Thread nD τ) (.dma cc0_scratch8.sem) () NA (DA c T a0 p0) j u

/-- What transfer `t` takes: the rows it writes, and its share of the whole pool. -/
def toDoA (c : Dev nD) (T : Tb) (a0 : Buf (Elt F) (LA c)) (p0 : Buf (Elt F) (PA c)) (t : Fin T.n) : sProp 𝕄 :=
  iprop((LA c ↦[rows4 t.val]{fullShare} a0) ∗ (PA c ↦{Transfers.shareTokN fullShare t.val} p0))

/-- What is kept of the share lent to transfer `t`. -/
def keptPA (c : Dev nD) (T : Tb) (p0 : Buf (Elt F) (PA c)) (t : Fin T.n) : sProp 𝕄 :=
  iprop(PA c ↦[keep (rows4 (T.src t.val))]{Transfers.shareTokN fullShare t.val} p0)

/-- What is kept of all shares lent. -/
@[irreducible] def keptSA (c : Dev nD) (T : Tb) (p0 : Buf (Elt F) (PA c)) (j : ℕ) : sProp 𝕄 :=
  bigSep (issued (n := T.n) j) (keptPA c T p0)

theorem keptSA_eq (c : Dev nD) (T : Tb) (p0 : Buf (Elt F) (PA c)) (j : ℕ) :
    keptSA c T p0 j = bigSep (issued (n := T.n) j) (keptPA c T p0) := by unfold keptSA; rfl

theorem keptSA_succ (c : Dev nD) (T : Tb) (p0 : Buf (Elt F) (PA c)) (j : ℕ) (hj : j < T.n) :
    iprop(keptPA c T p0 ⟨j, hj⟩ ∗ keptSA c T p0 j) ⊢ keptSA c T p0 (j + 1) := by
  rw [keptSA_eq, keptSA_eq]
  exact issued_take (F := F) (n := T.n) (j := j) (Φ := keptPA c T p0) hj

/-- With `j` transfers issued: the rows and shares of those to come, what is kept of the shares lent, the batch. -/
def GA (c : Dev nD) (T : Tb) (a0 : Buf (Elt F) (LA c)) (p0 : Buf (Elt F) (PA c)) (j : ℕ) : sProp 𝕄 :=
  iprop(bigSep (Transfers.pending (n := T.n) j) (toDoA c T a0 p0)
    ∗ keptSA c T p0 j
    ∗ BA c T a0 p0 j 0)

set_option maxHeartbeats 1000000 in
theorem issueA (c : Dev nD) (T : Tb) (hT : Fits T) (a0 : Buf (Elt F) (LA c)) (p0 : Buf (Elt F) (PA c)) (j : ℕ) (hj : j < T.n)
    (o o' : Fin 2 → ℕ) (ho : o = ![4 * j, 0]) (ho' : o' = ![4 * T.src j, 0])
    (h : ∀ a, o a + S4x7168.size a ≤ S1536x7168.size a) (h' : ∀ a, o' a + S4x7168.size a ≤ S3100x7168.size a)
    {hsrc hdst hsem} {α : Type} {k : PUnit → Prog (TpuEff nD τ sig (Elt F) Λ₀ .tc) α} {Q : α → sProp 𝕄} :
    GA c T a0 p0 j ⊢ iprop((GA c T a0 p0 (j + 1) -∗ wp frame (wpE (defs₀ (F := F)) Variants.none (c : Thread nD τ) none) Set.univ (k ⟨⟩) Q)
      -∗ wp frame (wpE (defs₀ (F := F)) Variants.none (c : Thread nD τ) none) Set.univ
        (.op (.enqueueDma (pA.slice (Rect.unit (s := S3100x7168) o' S4x7168.size h') (fun _ => rfl))
          (.here (mA.slice (Rect.unit (s := S1536x7168) o S4x7168.size h) (fun _ => rfl))) (.dma cc0_scratch8.sem) hsrc hdst hsem) k) Q) := by
  unfold GA
  iintro ⟨HP, Hi, HB⟩ Hk
  ihave HP' := (pending_take (Φ := toDoA c T a0 p0) hj) $$ HP
  icases HP' with ⟨Hds, Hp⟩
  unfold toDoA
  icases Hds with ⟨Hd, Hs⟩
  ihave Hs' := (split_keep (ℓ := PA c) (rows4 (T.src j))).1 $$ Hs
  icases Hs' with ⟨Hs1, Hs2⟩
  have hps := set_pA o' (T.src j) ho' h'
  have hD : iprop(((mA.slice (Rect.unit (s := S1536x7168) o S4x7168.size h) (fun _ => rfl)).view.loc (c : Thread nD τ) ↦[rows4 j]{fullShare}
          ((mA.slice (Rect.unit (s := S1536x7168) o S4x7168.size h) (fun _ => rfl)).view.write (Elt F) a0
            ((ReadAs.same).apply ((pA.slice (Rect.unit (s := S3100x7168) o' S4x7168.size h') (fun _ => rfl)).view.read (Elt F) p0)) Finset.univ))
        ∗ ((pA.slice (Rect.unit (s := S3100x7168) o' S4x7168.size h') (fun _ => rfl)).view.loc (c : Thread nD τ)
            ↦[(pA.slice (Rect.unit (s := S3100x7168) o' S4x7168.size h') (fun _ => rfl)).view.set]{Transfers.shareTokN fullShare j} p0))
      ⊢ DA (F := F) c T a0 p0 ⟨j, hj⟩ := by
    rw [hps]
    unfold DA
    refine sep_mono_left (Entails.of_eq (pointsTo_congr fun i hi => ?_))
    exact write_mA T hT o o' j hj ho ho' h h' a0 p0 i hi
  iapply (Transfers.wp_dmaBatch (EC (F := F)) Variants.none (c : Thread nD τ) none (D := DA c T a0 p0) (j := j) (u := 0) (Sd := rows4 j)
    (src := pA.slice (Rect.unit (s := S3100x7168) o' S4x7168.size h') (fun _ => rfl)) (via := ReadAs.same) (q := Transfers.shareTokN fullShare j)
    (dst := mA.slice (Rect.unit (s := S1536x7168) o S4x7168.size h) (fun _ => rfl)) (fs := p0) (fd := a0) (sm := .dma cc0_scratch8.sem) (k := k) (Q := Q) (hsrc := hsrc) (hdst := hdst) (hsem := hsem) () NA rfl
    (set_mA o j ho h).le hj (Nat.zero_le _) hD) $$ [Hd Hs1 HB]
  · isplitl [Hs1]; · rw [hps]; iexact Hs1
    isplitl [Hd]; · iexact Hd
    iexact HB
  iintro HB
  iapply Hk
  isplitl [Hp]; · iexact Hp
  isplitl [Hi Hs2]
  · ihave Hw := (keptSA_succ c T p0 j hj) $$ [Hi Hs2]
    · isplitl [Hs2]; · unfold keptPA; iexact Hs2
      iexact Hi
    iexact Hw
  iexact HB

/-! ## The rows gathered into cc0_scratch1 -/

abbrev mB : Memref sig .tc .vmem S1536x18432 .i8 := Memref.whole cc0_scratch1
abbrev pB : Memref sig .tc .hbm S3100x18432 .i8 := Memref.whole main_arg5
abbrev LB (c : Dev nD) : Loc nD τ sig := mB.view.loc (c : Thread nD τ)
abbrev PB (c : Dev nD) : Loc nD τ sig := pB.view.loc (c : Thread nD τ)
/-- One transfer's credit. -/
abbrev NB : ℕ := cc0_scratch1.dmaCredit S4x18432 .i8

theorem set_mB (o : Fin 2 → ℕ) (t : ℕ) (ho : o = ![4 * t, 0])
    (h : ∀ a, o a + S4x18432.size a ≤ S1536x18432.size a) :
    (mB.slice (Rect.unit (s := S1536x18432) o S4x18432.size h) (fun _ => rfl)).view.set = rows4 t := by
  subst ho
  refine (View.set_slice_whole cc0_scratch1 (Rect.unit (s := S1536x18432) ![4 * t, 0] S4x18432.size h)).trans ?_
  ext i
  rw [Rect.mem_set_unit, mem_rows4]
  constructor
  · intro hh; exact hh 0
  · intro hh a
    fin_cases a
    · exact hh
    · exact ⟨Nat.zero_le _, lt_of_lt_of_eq (i 1).2 (Nat.zero_add _).symm⟩

theorem set_pB (o : Fin 2 → ℕ) (t : ℕ) (ho : o = ![4 * t, 0])
    (h : ∀ a, o a + S4x18432.size a ≤ S3100x18432.size a) :
    (pB.slice (Rect.unit (s := S3100x18432) o S4x18432.size h) (fun _ => rfl)).view.set = rows4 t := by
  subst ho
  refine (View.set_slice_whole main_arg5 (Rect.unit (s := S3100x18432) ![4 * t, 0] S4x18432.size h)).trans ?_
  ext i
  rw [Rect.mem_set_unit, mem_rows4]
  constructor
  · intro hh; exact hh 0
  · intro hh a
    fin_cases a
    · exact hh
    · exact ⟨Nat.zero_le _, lt_of_lt_of_eq (i 1).2 (Nat.zero_add _).symm⟩

theorem emb_mB (o : Fin 2 → ℕ) (h : ∀ a, o a + S4x18432.size a ≤ S1536x18432.size a) (x : S4x18432.Idx) (a : Fin 2) :
    ((mB.slice (Rect.unit (s := S1536x18432) o S4x18432.size h) (fun _ => rfl)).view.emb x a).val = o a + (x a).val :=
  (Rect.emb_apply (Rect.unit (s := S1536x18432) o S4x18432.size h) x a).trans (congrArg (o a + ·) (Nat.one_mul _))

theorem emb_pB (o : Fin 2 → ℕ) (h : ∀ a, o a + S4x18432.size a ≤ S3100x18432.size a) (x : S4x18432.Idx) (a : Fin 2) :
    ((pB.slice (Rect.unit (s := S3100x18432) o S4x18432.size h) (fun _ => rfl)).view.emb x a).val = o a + (x a).val :=
  (Rect.emb_apply (Rect.unit (s := S3100x18432) o S4x18432.size h) x a).trans (congrArg (o a + ·) (Nat.one_mul _))

theorem write_mB (T : Tb) (hT : Fits T) (o o' : Fin 2 → ℕ) (t : ℕ) (ht : t < T.n) (ho : o = ![4 * t, 0]) (ho' : o' = ![4 * T.src t, 0])
    (h : ∀ a, o a + S4x18432.size a ≤ S1536x18432.size a) (h' : ∀ a, o' a + S4x18432.size a ≤ S3100x18432.size a)
    (a0 : S1536x18432.Idx → Elt F .i8) (p0 : S3100x18432.Idx → Elt F .i8) (i : S1536x18432.Idx) (hi : i ∈ rows4 t) :
    (mB.slice (Rect.unit (s := S1536x18432) o S4x18432.size h) (fun _ => rfl)).view.write (Elt F) a0
      ((pB.slice (Rect.unit (s := S3100x18432) o' S4x18432.size h') (fun _ => rfl)).view.read (Elt F) p0) Finset.univ i
      = gath T p0 a0 i := by
  have hm := (mem_rows4 t i).mp hi
  have hset := set_mB o t ho h
  rw [← hset] at hi
  obtain ⟨x, -, hx⟩ := Finset.mem_map.mp hi
  have o0 : o 0 = 4 * t := congrFun ho 0
  have o1 : o 1 = 0 := congrFun ho 1
  have o0' : o' 0 = 4 * T.src t := congrFun ho' 0
  have o1' : o' 1 = 0 := congrFun ho' 1
  have e0 : (i 0).val = 4 * t + (x 0).val := by
    have := emb_mB o h x 0
    rw [hx] at this; omega
  have e1 : (i 1).val = (x 1).val := by
    have := emb_mB o h x 1
    rw [hx] at this; omega
  have hx0 : (x 0).val < 4 := (x 0).2
  have hg : gath T p0 a0 i = rowAt p0 (a0 i) (4 * T.src t + (x 0).val) (i 1) := by
    unfold gath
    rw [if_pos (by omega)]
    exact congrArg (fun r => rowAt p0 (a0 i) r (i 1)) (by rw [show (i 0).val / 4 = t by omega]; omega)
  rw [hg]
  have hw := (mB.slice (Rect.unit (s := S1536x18432) o S4x18432.size h) (fun _ => rfl)).view.write_emb (Val := Elt F) a0
      ((pB.slice (Rect.unit (s := S3100x18432) o' S4x18432.size h') (fun _ => rfl)).view.read (Elt F) p0) Finset.univ x
  rw [hx, if_pos (Finset.mem_univ _)] at hw
  refine hw.trans ?_
  refine (rowAt_eq p0 (a0 i) _ (i 1) _ ?_ ?_).symm
  · exact (emb_pB o' h' x 0).trans (congrArg (· + (x 0).val) o0')
  · exact (emb_pB o' h' x 1).trans (by rw [e1]; omega)

/-- What transfer `t` delivers: its four rows gathered, and its share of the rows it read. -/
def DB (c : Dev nD) (T : Tb) (a0 : Buf (Elt F) (LB c)) (p0 : Buf (Elt F) (PB c)) (t : Fin T.n) : sProp 𝕄 :=
  iprop((LB c ↦[rows4 t.val]{fullShare} (gath T p0 a0 : Buf (Elt F) (LB c)))
    ∗ (PB c ↦[rows4 (T.src t.val)]{Transfers.shareTokN fullShare t.val} p0))

instance DB_storable (c : Dev nD) (T : Tb) (a0 : Buf (Elt F) (LB c)) (p0 : Buf (Elt F) (PB c)) (t : Fin T.n) :
    BI.Storable (upEmb : UEmb _ 𝕄) (DB c T a0 p0 t) := by unfold DB; infer_instance

/-- The batch on its cell. -/
abbrev BB (c : Dev nD) (T : Tb) (a0 : Buf (Elt F) (LB c)) (p0 : Buf (Elt F) (PB c)) (j u : ℕ) : sProp 𝕄 :=
  Transfers.Batch (EC (F := F)) (c : Thread nD τ) (.dma cc0_scratch9.sem) () NB (DB c T a0 p0) j u

/-- What transfer `t` takes: the rows it writes, and its share of the whole pool. -/
def toDoB (c : Dev nD) (T : Tb) (a0 : Buf (Elt F) (LB c)) (p0 : Buf (Elt F) (PB c)) (t : Fin T.n) : sProp 𝕄 :=
  iprop((LB c ↦[rows4 t.val]{fullShare} a0) ∗ (PB c ↦{Transfers.shareTokN fullShare t.val} p0))

/-- What is kept of the share lent to transfer `t`. -/
def keptPB (c : Dev nD) (T : Tb) (p0 : Buf (Elt F) (PB c)) (t : Fin T.n) : sProp 𝕄 :=
  iprop(PB c ↦[keep (rows4 (T.src t.val))]{Transfers.shareTokN fullShare t.val} p0)

/-- What is kept of all shares lent. -/
@[irreducible] def keptSB (c : Dev nD) (T : Tb) (p0 : Buf (Elt F) (PB c)) (j : ℕ) : sProp 𝕄 :=
  bigSep (issued (n := T.n) j) (keptPB c T p0)

theorem keptSB_eq (c : Dev nD) (T : Tb) (p0 : Buf (Elt F) (PB c)) (j : ℕ) :
    keptSB c T p0 j = bigSep (issued (n := T.n) j) (keptPB c T p0) := by unfold keptSB; rfl

theorem keptSB_succ (c : Dev nD) (T : Tb) (p0 : Buf (Elt F) (PB c)) (j : ℕ) (hj : j < T.n) :
    iprop(keptPB c T p0 ⟨j, hj⟩ ∗ keptSB c T p0 j) ⊢ keptSB c T p0 (j + 1) := by
  rw [keptSB_eq, keptSB_eq]
  exact issued_take (F := F) (n := T.n) (j := j) (Φ := keptPB c T p0) hj

/-- With `j` transfers issued: the rows and shares of those to come, what is kept of the shares lent, the batch. -/
def GB (c : Dev nD) (T : Tb) (a0 : Buf (Elt F) (LB c)) (p0 : Buf (Elt F) (PB c)) (j : ℕ) : sProp 𝕄 :=
  iprop(bigSep (Transfers.pending (n := T.n) j) (toDoB c T a0 p0)
    ∗ keptSB c T p0 j
    ∗ BB c T a0 p0 j 0)

set_option maxHeartbeats 1000000 in
theorem issueB (c : Dev nD) (T : Tb) (hT : Fits T) (a0 : Buf (Elt F) (LB c)) (p0 : Buf (Elt F) (PB c)) (j : ℕ) (hj : j < T.n)
    (o o' : Fin 2 → ℕ) (ho : o = ![4 * j, 0]) (ho' : o' = ![4 * T.src j, 0])
    (h : ∀ a, o a + S4x18432.size a ≤ S1536x18432.size a) (h' : ∀ a, o' a + S4x18432.size a ≤ S3100x18432.size a)
    {hsrc hdst hsem} {α : Type} {k : PUnit → Prog (TpuEff nD τ sig (Elt F) Λ₀ .tc) α} {Q : α → sProp 𝕄} :
    GB c T a0 p0 j ⊢ iprop((GB c T a0 p0 (j + 1) -∗ wp frame (wpE (defs₀ (F := F)) Variants.none (c : Thread nD τ) none) Set.univ (k ⟨⟩) Q)
      -∗ wp frame (wpE (defs₀ (F := F)) Variants.none (c : Thread nD τ) none) Set.univ
        (.op (.enqueueDma (pB.slice (Rect.unit (s := S3100x18432) o' S4x18432.size h') (fun _ => rfl))
          (.here (mB.slice (Rect.unit (s := S1536x18432) o S4x18432.size h) (fun _ => rfl))) (.dma cc0_scratch9.sem) hsrc hdst hsem) k) Q) := by
  unfold GB
  iintro ⟨HP, Hi, HB⟩ Hk
  ihave HP' := (pending_take (Φ := toDoB c T a0 p0) hj) $$ HP
  icases HP' with ⟨Hds, Hp⟩
  unfold toDoB
  icases Hds with ⟨Hd, Hs⟩
  ihave Hs' := (split_keep (ℓ := PB c) (rows4 (T.src j))).1 $$ Hs
  icases Hs' with ⟨Hs1, Hs2⟩
  have hps := set_pB o' (T.src j) ho' h'
  have hD : iprop(((mB.slice (Rect.unit (s := S1536x18432) o S4x18432.size h) (fun _ => rfl)).view.loc (c : Thread nD τ) ↦[rows4 j]{fullShare}
          ((mB.slice (Rect.unit (s := S1536x18432) o S4x18432.size h) (fun _ => rfl)).view.write (Elt F) a0
            ((ReadAs.same).apply ((pB.slice (Rect.unit (s := S3100x18432) o' S4x18432.size h') (fun _ => rfl)).view.read (Elt F) p0)) Finset.univ))
        ∗ ((pB.slice (Rect.unit (s := S3100x18432) o' S4x18432.size h') (fun _ => rfl)).view.loc (c : Thread nD τ)
            ↦[(pB.slice (Rect.unit (s := S3100x18432) o' S4x18432.size h') (fun _ => rfl)).view.set]{Transfers.shareTokN fullShare j} p0))
      ⊢ DB (F := F) c T a0 p0 ⟨j, hj⟩ := by
    rw [hps]
    unfold DB
    refine sep_mono_left (Entails.of_eq (pointsTo_congr fun i hi => ?_))
    exact write_mB T hT o o' j hj ho ho' h h' a0 p0 i hi
  iapply (Transfers.wp_dmaBatch (EC (F := F)) Variants.none (c : Thread nD τ) none (D := DB c T a0 p0) (j := j) (u := 0) (Sd := rows4 j)
    (src := pB.slice (Rect.unit (s := S3100x18432) o' S4x18432.size h') (fun _ => rfl)) (via := ReadAs.same) (q := Transfers.shareTokN fullShare j)
    (dst := mB.slice (Rect.unit (s := S1536x18432) o S4x18432.size h) (fun _ => rfl)) (fs := p0) (fd := a0) (sm := .dma cc0_scratch9.sem) (k := k) (Q := Q) (hsrc := hsrc) (hdst := hdst) (hsem := hsem) () NB rfl
    (set_mB o j ho h).le hj (Nat.zero_le _) hD) $$ [Hd Hs1 HB]
  · isplitl [Hs1]; · rw [hps]; iexact Hs1
    isplitl [Hd]; · iexact Hd
    iexact HB
  iintro HB
  iapply Hk
  isplitl [Hp]; · iexact Hp
  isplitl [Hi Hs2]
  · ihave Hw := (keptSB_succ c T p0 j hj) $$ [Hi Hs2]
    · isplitl [Hs2]; · unfold keptPB; iexact Hs2
      iexact Hi
    iexact Hw
  iexact HB

end Cert.KernelIdeal.Body

end
-- ==== Proof.IIssue.lean ====
module

public import proofs.«01_k».proof.Proof.IGather
public import proofs.«01_k».proof.Proof.Gen.KernelIdeal.Loops

@[expose] public section

noncomputable section

set_option maxRecDepth 16384

namespace Cert.KernelIdeal.Body

open Cert.KernelIdeal Cert.KernelIdeal.Gen Cert.Math
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]
local notation "𝕄" => MT nD τ sig Unit (Elt F) ℕ UD ℕ

attribute [local irreducible] Tb.n Tb.off

theorem t2_facts0 (T : Tb) (hT : Fits T) (e : ℕ) (he : e < 27) (a st : BitVec 32) (ha : a.toNat = T.off e)
    (hst : st = T.st e) (k : ℕ) (hk : k < T.nw e) :
    T.off e + k < T.n ∧ T.src (T.off e + k) = st.toNat / 4 + k ∧ a.toNat + k ≤ 800 ∧ st.toNat / 4 + k ≤ 800 := by
  have h17 := hT.nw_le e he
  have hs := Fits.off_succ (T := T) e
  have hoff := hT.off_le e he.le
  have hm : T.off (e + 1) ≤ T.n := Fits.off_le_n (show e + 1 ≤ 27 by omega)
  have hst' : st.toNat ≤ 2943 := by rw [hst]; exact hT.st e he
  refine ⟨by omega, ?_, by omega, by omega⟩
  rw [Fits.src_off e he k hk, hst]

theorem t2_lt (T : Tb) (hT : Fits T) (e : ℕ) (he : e < 27) (lo hi st rk : BitVec 32) (hlo : lo = T.lo e)
    (hhi : hi = T.hi e) (hst : st = T.st e) (hrk : rk = T.rk e) : (k0_t2_loop lo hi st rk).trips = T.nw e := by
  have h1 : (wordsW lo hi st rk).toNat = T.nw e := by subst hlo hhi hst hrk; rfl
  exact (t2_trips lo hi st rk (lt_of_le_of_lt (h1.le.trans (hT.nw_le e he)) (by decide))).trans h1

theorem off_add (T : Tb) (hT : Fits T) (e : ℕ) (he : e < 27) (a : BitVec 32) (ha : a.toNat = T.off e) :
    (a + wordsW (T.lo e) (T.hi e) (T.st e) (T.rk e)).toNat = T.off (e + 1) := by
  have h1 := hT.off_le (e + 1) he
  have h2 := Fits.off_succ (T := T) e
  have h3 : (wordsW (T.lo e) (T.hi e) (T.st e) (T.rk e)).toNat = T.nw e := rfl
  rw [BitVec.toNat_add, h3, ha, ← h2]
  exact Nat.mod_eq_of_lt (by omega)

theorem idx1 {n : ℕ} (o : Fin 1 → ℕ) (h : ∀ a, o a + S1.size a ≤ (⟨1, ![n]⟩ : Shape).size a) (hf) :
    ((Rect.unit (s := ⟨1, ![n]⟩) o S1.size h).idx (Shape.Idx.first hf) 0).val = o 0 := by
  have h0 : ((Shape.Idx.first (s := S1) hf) 0).val < 1 := ((Shape.Idx.first (s := S1) hf) 0).2
  show o 0 + 1 * ((Shape.Idx.first (s := S1) hf) 0).val = o 0
  omega
theorem off1_eq : ∀ k : Fin k0_t1_loop.trips, k0_off1 k 0 = k.val := by decide +kernel
theorem off2_eq : ∀ k : Fin k0_t1_loop.trips, k0_off2 k 0 = k.val + 1 := by decide +kernel

section
variable (i : grid0.Coords) (arg5 : Memref sig .tc .smem S41 .f32) (harg5 : arg5.IsWhole) (arg6 : Memref sig .tc .vmem S256x7168 .bf16) (harg6 : arg6.IsWhole) (arg7 : Memref sig .tc .vmem S896x1024 .i32) (harg7 : arg7.IsWhole) (arg8 : Memref sig .tc .vmem S56x1024 .bf16) (harg8 : arg8.IsWhole) (arg9 : Memref sig .tc .vmem S1x3100 .f32) (harg9 : arg9.IsWhole) (arg10 : Memref sig .tc .vmem S1x3100 .f32) (harg10 : arg10.IsWhole) (arg13 : Memref sig .tc .vmem S256x1024 .bf16) (harg13 : arg13.IsWhole) (arg14 : Memref sig .tc .vmem S64x256 .bf16) (harg14 : arg14.IsWhole)
variable (k0_h1 : k0_cond1 i = 1#1)
variable (c : Dev nD) (T : Tb) (hT : Fits T) (a0 : Buf (Elt F) (LA c)) (p0 : Buf (Elt F) (PA c)) (b0 : Buf (Elt F) (LB c)) (q0 : Buf (Elt F) (PB c))

/-- The transfers of both pools with `j` word rows issued. -/
def GG (j : ℕ) : sProp 𝕄 := iprop(GA c T a0 p0 j ∗ GB c T b0 q0 j)

include hT in
set_option maxHeartbeats 1000000 in
/-- One word row's two transfers. -/
theorem t2_step (e : ℕ) (he : e < 27) (a lo hi st rk : BitVec 32) (ha : a.toNat = T.off e) (hlo : lo = T.lo e) (hhi : hi = T.hi e)
    (hst : st = T.st e) (hrk : rk = T.rk e) (hw : k0_chk2 i a lo hi st rk)
    (k : Fin (k0_t2_loop lo hi st rk).trips) (acc : Unit) :
    GG c T a0 p0 b0 q0 (T.off e + k.val) ⊢ wp frame (wpE (defs₀ (F := F)) Variants.none (c : Thread nD τ) none) Set.univ
      (k0_t2_body (F := F) i (Memref.whole main_arg7) (Memref.isWhole_whole _) (Memref.whole main_arg8) (Memref.isWhole_whole _) (Memref.whole main_arg10) (Memref.isWhole_whole _) (Memref.whole main_arg11) (Memref.isWhole_whole _) arg5 harg5 arg6 harg6 arg7 harg7 arg8 harg8 arg9 harg9 arg10 harg10 (Memref.whole main_arg3) (Memref.isWhole_whole _) (Memref.whole main_arg5) (Memref.isWhole_whole _) arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 k0_h1 a lo hi st rk hw k acc) (fun _ => GG c T a0 p0 b0 q0 (T.off e + (k.val + 1))) := by
  obtain ⟨hj, hsrc, hb1, hb2⟩ := t2_facts0 T hT e he a st ha hst k.val (lt_of_lt_of_eq k.2 (t2_lt T hT e he lo hi st rk hlo hhi hst hrk))
  have e5 := off5_eq a lo hi st rk k hb1
  have e6 := off6_eq lo hi st rk k hb2
  have e7 := off7_eq a lo hi st rk k hb1
  have e8 := off8_eq lo hi st rk k hb2
  rw [ha] at e5 e7
  rw [← hsrc] at e6 e8
  unfold GG k0_t2_body
  iintro ⟨HA, HB⟩
  iapply (issueA c T hT a0 p0 _ hj _ _ e5 e6 (k0_off5_inb i a lo hi st rk hw k k0_h1) (k0_off6_inb i a lo hi st rk hw k k0_h1)) $$ [HA]
  · iexact HA
  iintro HA
  iapply (issueB c T hT b0 q0 _ hj _ _ e7 e8 (k0_off7_inb i a lo hi st rk hw k k0_h1) (k0_off8_inb i a lo hi st rk hw k k0_h1)) $$ [HB]
  · iexact HB
  iintro HB
  simp only [Prog.bind]
  sl_step
  isplitl [HA]; · iexact HA
  iexact HB

/-- The four tables, at any shares. -/
def TT (tq : Fin 4 → PosShare TreeShare) : sProp 𝕄 :=
  iprop(((Memref.whole main_arg7).view.loc (c : Thread nD τ) ↦{tq 0} (T.st0 : Buf (Elt F) ((Memref.whole main_arg7).view.loc (c : Thread nD τ))))
    ∗ ((Memref.whole main_arg8).view.loc (c : Thread nD τ) ↦{tq 1} (T.rk0 : Buf (Elt F) ((Memref.whole main_arg8).view.loc (c : Thread nD τ))))
    ∗ ((Memref.whole main_arg10).view.loc (c : Thread nD τ) ↦{tq 2} (T.so0 : Buf (Elt F) ((Memref.whole main_arg10).view.loc (c : Thread nD τ))))
    ∗ ((Memref.whole main_arg11).view.loc (c : Thread nD τ) ↦{tq 3} (T.sg0 : Buf (Elt F) ((Memref.whole main_arg11).view.loc (c : Thread nD τ)))))

variable (tq : Fin 4 → PosShare TreeShare)

include hT in
/-- One segment's word rows, asked of the pools. -/
theorem t1_step (e : ℕ) (he : e < k0_t1_loop.trips) (acc : BitVec 32) :
    iprop(⌜acc.toNat = T.off e⌝ ∗ TT (F := F) c T tq ∗ GG c T a0 p0 b0 q0 (T.off e)) ⊢ wp frame (wpE (defs₀ (F := F)) Variants.none (c : Thread nD τ) none) Set.univ
      (k0_t1_body (F := F) i (Memref.whole main_arg7) (Memref.isWhole_whole _) (Memref.whole main_arg8) (Memref.isWhole_whole _) (Memref.whole main_arg10) (Memref.isWhole_whole _) (Memref.whole main_arg11) (Memref.isWhole_whole _) arg5 harg5 arg6 harg6 arg7 harg7 arg8 harg8 arg9 harg9 arg10 harg10 (Memref.whole main_arg3) (Memref.isWhole_whole _) (Memref.whole main_arg5) (Memref.isWhole_whole _) arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 k0_h1 ⟨e, he⟩ acc)
      (fun acc => iprop(⌜acc.toNat = T.off (e + 1)⌝ ∗ TT (F := F) c T tq ∗ GG c T a0 p0 b0 q0 (T.off (e + 1)))) := by
  unfold TT k0_t1_body
  iintro ⟨%ha, ⟨H1, H2, H3, H4⟩, HG⟩
  sl_exec
  have he' : e < 27 := he
  have hr0 : t1_step.sl.r (F := F) i k0_h1 T e he = T.lo e := by
    unfold t1_step.sl.r
    exact get_eq T.so0 _ e ((idx1 _ _ _).trans (off1_eq ⟨e, he⟩))
  have hr1 : t1_step.sl.r_1 (F := F) i k0_h1 T e he = T.hi e := by
    unfold t1_step.sl.r_1
    exact get_eq T.so0 _ (e + 1) ((idx1 _ _ _).trans (off2_eq ⟨e, he⟩))
  have hr2 : t1_step.sl.r_2 (F := F) i k0_h1 T e he = T.sg e := by
    unfold t1_step.sl.r_2
    exact get_eq T.sg0 _ e ((idx1 _ _ _).trans (off1_eq ⟨e, he⟩))
  have h41 := hT.sg e he'
  rw [← hr2] at h41
  sl_exec (disch := exact chk1 i _ h41)
  have hr3 : t1_step.sl.r_3 (F := F) i k0_h1 T e he h41 = T.st e := by
    unfold t1_step.sl.r_3
    refine get_eq T.st0 _ _ ((idx1 _ _ _).trans ?_)
    rw [← hr2]; rfl
  have hr4 : t1_step.sl.r_4 (F := F) i k0_h1 T e he h41 = T.rk e := by
    unfold t1_step.sl.r_4
    refine get_eq T.rk0 _ _ ((idx1 _ _ _).trans ?_)
    rw [← hr2]; rfl
  have hcw : (wordsW (t1_step.sl.r (F := F) i k0_h1 T e he) (t1_step.sl.r_1 (F := F) i k0_h1 T e he)
      (t1_step.sl.r_3 (F := F) i k0_h1 T e he h41) (t1_step.sl.r_4 (F := F) i k0_h1 T e he h41)) = wordsW (T.lo e) (T.hi e) (T.st e) (T.rk e) := by
    rw [hr0, hr1, hr3, hr4]
  have hc2 : k0_chk2 i acc (t1_step.sl.r (F := F) i k0_h1 T e he) (t1_step.sl.r_1 (F := F) i k0_h1 T e he)
      (t1_step.sl.r_3 (F := F) i k0_h1 T e he h41) (t1_step.sl.r_4 (F := F) i k0_h1 T e he h41) := by
    refine chk2 i acc _ _ _ _ ?_ ?_ ?_
    · rw [hr3]; exact hT.st e he'
    · rw [hcw]; exact hT.nw_le e he'
    · rw [hcw, ha]; exact le_of_eq_of_le (Fits.off_succ e).symm (hT.off_le (e + 1) he')
  have htr := t3_trips (t1_step.sl.r (F := F) i k0_h1 T e he) (t1_step.sl.r_1 (F := F) i k0_h1 T e he)
      (t1_step.sl.r_3 (F := F) i k0_h1 T e he h41) (t1_step.sl.r_4 (F := F) i k0_h1 T e he h41)
  sl_exec (disch := exact hc2)
  sl_for (fun k _ => GG c T a0 p0 b0 q0 (T.off e + k)) $$ [HG]
  · intro k acc'
    exact t2_step i arg5 harg5 arg6 harg6 arg7 harg7 arg8 harg8 arg9 harg9 arg10 harg10 arg13 harg13 arg14 harg14 k0_h1 c T hT a0 p0 b0 q0 e he' acc _ _ _ _ ha hr0 hr1 hr3 hr4 hc2 k acc'
  · iexact HG
  iintro %_ HG
  have h2' : Scf.trips (k0_t2_loop (t1_step.sl.r (F := F) i k0_h1 T e he) (t1_step.sl.r_1 (F := F) i k0_h1 T e he)
      (t1_step.sl.r_3 (F := F) i k0_h1 T e he h41) (t1_step.sl.r_4 (F := F) i k0_h1 T e he h41)).lb
      (k0_t2_loop (t1_step.sl.r (F := F) i k0_h1 T e he) (t1_step.sl.r_1 (F := F) i k0_h1 T e he)
      (t1_step.sl.r_3 (F := F) i k0_h1 T e he h41) (t1_step.sl.r_4 (F := F) i k0_h1 T e he h41)).ub
      (k0_t2_loop (t1_step.sl.r (F := F) i k0_h1 T e he) (t1_step.sl.r_1 (F := F) i k0_h1 T e he)
      (t1_step.sl.r_3 (F := F) i k0_h1 T e he h41) (t1_step.sl.r_4 (F := F) i k0_h1 T e he h41)).st = T.nw e :=
    t2_lt T hT e he' _ _ _ _ hr0 hr1 hr3 hr4
  rw [h2', ← Fits.off_succ]
  sl_for0 htr
  sl_exec
  sl_step
  isplitr
  · ipureintro
    have hv : t1_step.sl.v3367 (F := F) i k0_h1 T e he h41 = wordsW (T.lo e) (T.hi e) (T.st e) (T.rk e) := (words_eq _ _ _ _).trans hcw
    show (acc + t1_step.sl.v3367 (F := F) i k0_h1 T e he h41).toNat = T.off (e + 1)
    rw [hv]
    exact off_add T hT e he' acc ha
  isplitl [H1 H2 H3 H4]
  · isplitl [H1]; · iexact H1
    isplitl [H2]; · iexact H2
    isplitl [H3]; · iexact H3
    iexact H4
  iexact HG

end

end Cert.KernelIdeal.Body
-- ==== Proof.IWait.lean ====
module

public import proofs.«01_k».proof.Proof.IIssue
public import proofs.«01_k».proof.Proof.Gen.KernelIdeal.Loops

@[expose] public section

noncomputable section

set_option maxRecDepth 16384

namespace Cert.KernelIdeal.Body

open Cert.KernelIdeal Cert.KernelIdeal.Gen Cert.Math
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]
local notation "𝕄" => MT nD τ sig Unit (Elt F) ℕ UD ℕ

attribute [local irreducible] Tb.n Tb.off

section Generic
variable {ℓ : Loc nD τ sig} {n : ℕ} (I : Fin n → Finset (Idx ℓ))

theorem split_blocks (hd : ∀ b b', b ≠ b' → Disjoint (I b) (I b')) {q : PosShare TreeShare} {f : Buf (Elt F) ℓ} :
    (ℓ ↦{q} f : sProp 𝕄) ⊣⊢ iprop(bigSep Finset.univ (fun t => ℓ ↦[I t]{q} f) ∗ ℓ ↦[keep (Finset.univ.biUnion I)]{q} f) := by
  have h := split_keep (F := F) (ℓ := ℓ) (Finset.univ.biUnion I) (q := q) (f := f)
  rw [Ring.pointsTo_sub_blocks I hd _ rfl f] at h
  exact h

theorem mem_keep {J : Finset (Idx ℓ)} {i : Idx ℓ} (h : i ∈ keep J) : i ∉ J := by
  unfold keep at h; exact (Finset.mem_sdiff.mp h).2
end Generic

theorem disj4 {M W : ℕ} {a b : ℕ} (h : a ≠ b) : Disjoint (rows4 (M := M) (W := W) a) (rows4 b) := by
  rw [Finset.disjoint_left]
  intro i hi hj
  rw [mem_rows4] at hi hj
  omega

theorem bigSep_toDo {n : ℕ} {A B : Fin n → sProp 𝕄} :
    iprop(bigSep Finset.univ A ∗ bigSep Finset.univ B) ⊣⊢ bigSep Finset.univ (fun t => iprop(A t ∗ B t)) :=
  ⟨Entails.of_eq (BI.bigSep_sep _ _ _).symm, Entails.of_eq (BI.bigSep_sep _ _ _)⟩

/-! ## Opening and closing the transfers into cc0_scratch0 -/

/-- What the transfers do not touch: the other rows, and what is left of the pool's share. -/
def RA (c : Dev nD) (T : Tb) (a0 : Buf (Elt F) (LA c)) (p0 : Buf (Elt F) (PA c)) : sProp 𝕄 :=
  iprop((LA c ↦[keep (ℓ := LA c) (Finset.univ.biUnion fun t : Fin T.n => rows4 t.val)]{fullShare} a0)
    ∗ (PA c ↦{Transfers.shareDrop fullShare T.n} p0))

theorem blkA (c : Dev nD) (T : Tb) (f : Buf (Elt F) (LA c)) :
    (LA c ↦{fullShare} f : sProp 𝕄) ⊣⊢ iprop(bigSep Finset.univ (fun t : Fin T.n => LA c ↦[rows4 t.val]{fullShare} f)
      ∗ LA c ↦[keep (ℓ := LA c) (Finset.univ.biUnion fun t : Fin T.n => rows4 t.val)]{fullShare} f) :=
  split_blocks (F := F) (ℓ := LA c) (fun t : Fin T.n => rows4 t.val) (fun b b' h => disj4 (fun e => h (Fin.ext e)))

theorem tokA (c : Dev nD) (T : Tb) (p0 : Buf (Elt F) (PA c)) :
    (PA c ↦{fullShare} p0 : sProp 𝕄) ⊣⊢ iprop((PA c ↦{Transfers.shareDrop fullShare T.n} p0)
      ∗ bigSep Finset.univ (fun t : Fin T.n => PA c ↦{Transfers.shareTokN fullShare t.val} p0)) :=
  Transfers.pointsTo_toks fullShare T.n

theorem todo0A (c : Dev nD) (T : Tb) (a0 : Buf (Elt F) (LA c)) (p0 : Buf (Elt F) (PA c)) :
    iprop((LA c ↦{fullShare} a0) ∗ (PA c ↦{fullShare} p0)) ⊢ iprop(bigSep (Transfers.pending (n := T.n) 0) (toDoA c T a0 p0) ∗ RA c T a0 p0) := by
  rw [Transfers.pending_zero]
  unfold RA toDoA
  iintro ⟨HL, HP⟩
  ihave HL' := (blkA c T a0).1 $$ HL
  ihave HP' := (tokA c T p0).1 $$ HP
  icases HL' with ⟨HL1, HL2⟩
  icases HP' with ⟨HP1, HP2⟩
  isplitl [HL1 HP2]
  · iapply (bigSep_toDo (F := F)).1
    isplitl [HL1]; · iexact HL1
    iexact HP2
  isplitl [HL2]; · iexact HL2
  iexact HP1

theorem kept0A (c : Dev nD) (T : Tb) (p0 : Buf (Elt F) (PA c)) : (emp : sProp 𝕄) ⊢ keptSA c T p0 0 := by
  rw [keptSA_eq, issued_zero, bigSep_empty]; exact .rfl

/-- The transfers opened: nothing issued yet. -/
theorem openA (c : Dev nD) (T : Tb) (a0 : Buf (Elt F) (LA c)) (p0 : Buf (Elt F) (PA c)) :
    iprop((LA c ↦{fullShare} a0) ∗ (PA c ↦{fullShare} p0) ∗ semVal ((c : Thread nD τ), SemLoc.dma cc0_scratch8.sem) 0)
      ⊢ (|={Set.univ}=> iprop(GA c T a0 p0 0 ∗ RA c T a0 p0) : sProp 𝕄) := by
  iintro ⟨HL, HP, HS⟩
  imod (Transfers.batch_alloc' (EC (F := F)) (c : Thread nD τ) () NA (DA c T a0 p0) (E := Set.univ)) $$ HS with HB
  imodintro
  ihave HT := (todo0A c T a0 p0) $$ [HL HP]
  · isplitl [HL]; · iexact HL
    iexact HP
  icases HT with ⟨HT, HR⟩
  isplitr [HR]
  · unfold GA
    isplitl [HT]; · iexact HT
    isplitr
    · iapply (kept0A c T p0); iempintro
    iexact HB
  iexact HR

/-- All issued: what is kept of the shares, and the batch. -/
theorem allA (c : Dev nD) (T : Tb) (a0 : Buf (Elt F) (LA c)) (p0 : Buf (Elt F) (PA c)) :
    GA c T a0 p0 T.n ⊢ iprop(keptSA c T p0 T.n ∗ BA c T a0 p0 T.n 0) := by
  unfold GA
  iintro ⟨-, HK, HB⟩
  isplitl [HK]; · iexact HK
  iexact HB

theorem gath_keepA (c : Dev nD) (T : Tb) (a0 : Buf (Elt F) (LA c)) (p0 : Buf (Elt F) (PA c)) (i : S1536x7168.Idx)
    (hi : i ∉ (Finset.univ.biUnion fun t : Fin T.n => rows4 t.val)) : gath T p0 a0 i = a0 i := by
  unfold gath
  rw [if_neg]
  intro h
  refine hi (Finset.mem_biUnion.mpr ⟨⟨(i 0).val / 4, by omega⟩, Finset.mem_univ _, ?_⟩)
  rw [mem_rows4]; simp only; omega

theorem deliverA (c : Dev nD) (T : Tb) (a0 : Buf (Elt F) (LA c)) (p0 : Buf (Elt F) (PA c)) :
    iprop(bigSep Finset.univ (DA c T a0 p0) ∗ bigSep Finset.univ (keptPA c T p0) ∗ RA c T a0 p0)
      ⊢ (iprop((LA c ↦{fullShare} (gath T p0 a0 : Buf (Elt F) (LA c))) ∗ (PA c ↦{fullShare} p0)) : sProp 𝕄) := by
  unfold DA RA keptPA
  iintro ⟨HD, HK, HL2, HP1⟩
  ihave HD' := (bigSep_toDo (F := F)).2 $$ HD
  icases HD' with ⟨HL1, HP2⟩
  isplitl [HL1 HL2]
  · iapply (blkA c T (gath T p0 a0)).2
    isplitl [HL1]; · iexact HL1
    rw [pointsTo_congr (g := a0) (fun i hi => gath_keepA c T a0 p0 i (mem_keep (ℓ := LA c) hi))]
    iexact HL2
  iapply (tokA c T p0).2
  isplitl [HP1]; · iexact HP1
  iapply (show iprop(bigSep Finset.univ (fun t : Fin T.n => PA c ↦[rows4 (T.src t.val)]{Transfers.shareTokN fullShare t.val} p0)
      ∗ bigSep Finset.univ (fun t : Fin T.n => PA c ↦[keep (rows4 (T.src t.val))]{Transfers.shareTokN fullShare t.val} p0))
    ⊢ (bigSep Finset.univ (fun t : Fin T.n => PA c ↦{Transfers.shareTokN fullShare t.val} p0) : sProp 𝕄) from
    (bigSep_toDo (F := F)).1.trans (BI.bigSep_mono fun t _ => (split_keep (ℓ := PA c) (rows4 (T.src t.val))).2))
  isplitl [HP2]; · iexact HP2
  iexact HK

/-- The transfers closed: the rows gathered, the pool whole, the semaphore at zero. -/
theorem closeA (c : Dev nD) (T : Tb) (a0 : Buf (Elt F) (LA c)) (p0 : Buf (Elt F) (PA c)) :
    iprop(keptSA c T p0 T.n ∗ BA c T a0 p0 T.n (NA * T.n) ∗ RA c T a0 p0)
      ⊢ (|={Set.univ}=> iprop((LA c ↦{fullShare} (gath T p0 a0 : Buf (Elt F) (LA c))) ∗ (PA c ↦{fullShare} p0)
          ∗ semVal ((c : Thread nD τ), SemLoc.dma cc0_scratch8.sem) 0) : sProp 𝕄) := by
  rw [keptSA_eq, issued_all]
  iintro ⟨HK, HB, HR⟩
  imod (Transfers.batch_collect' (EC (F := F)) (c : Thread nD τ) (N := NA) (by decide)) $$ HB with ⟨HD, HS⟩
  imodintro
  ihave HX := (deliverA c T a0 p0) $$ [HD HK HR]
  · isplitl [HD]; · iexact HD
    isplitl [HK]; · iexact HK
    iexact HR
  icases HX with ⟨H1, H2⟩
  isplitl [H1]; · iexact H1
  isplitl [H2]; · iexact H2
  iexact HS

/-! ## Opening and closing the transfers into cc0_scratch1 -/

/-- What the transfers do not touch: the other rows, and what is left of the pool's share. -/
def RB (c : Dev nD) (T : Tb) (a0 : Buf (Elt F) (LB c)) (p0 : Buf (Elt F) (PB c)) : sProp 𝕄 :=
  iprop((LB c ↦[keep (ℓ := LB c) (Finset.univ.biUnion fun t : Fin T.n => rows4 t.val)]{fullShare} a0)
    ∗ (PB c ↦{Transfers.shareDrop fullShare T.n} p0))

theorem blkB (c : Dev nD) (T : Tb) (f : Buf (Elt F) (LB c)) :
    (LB c ↦{fullShare} f : sProp 𝕄) ⊣⊢ iprop(bigSep Finset.univ (fun t : Fin T.n => LB c ↦[rows4 t.val]{fullShare} f)
      ∗ LB c ↦[keep (ℓ := LB c) (Finset.univ.biUnion fun t : Fin T.n => rows4 t.val)]{fullShare} f) :=
  split_blocks (F := F) (ℓ := LB c) (fun t : Fin T.n => rows4 t.val) (fun b b' h => disj4 (fun e => h (Fin.ext e)))

theorem tokB (c : Dev nD) (T : Tb) (p0 : Buf (Elt F) (PB c)) :
    (PB c ↦{fullShare} p0 : sProp 𝕄) ⊣⊢ iprop((PB c ↦{Transfers.shareDrop fullShare T.n} p0)
      ∗ bigSep Finset.univ (fun t : Fin T.n => PB c ↦{Transfers.shareTokN fullShare t.val} p0)) :=
  Transfers.pointsTo_toks fullShare T.n

theorem todo0B (c : Dev nD) (T : Tb) (a0 : Buf (Elt F) (LB c)) (p0 : Buf (Elt F) (PB c)) :
    iprop((LB c ↦{fullShare} a0) ∗ (PB c ↦{fullShare} p0)) ⊢ iprop(bigSep (Transfers.pending (n := T.n) 0) (toDoB c T a0 p0) ∗ RB c T a0 p0) := by
  rw [Transfers.pending_zero]
  unfold RB toDoB
  iintro ⟨HL, HP⟩
  ihave HL' := (blkB c T a0).1 $$ HL
  ihave HP' := (tokB c T p0).1 $$ HP
  icases HL' with ⟨HL1, HL2⟩
  icases HP' with ⟨HP1, HP2⟩
  isplitl [HL1 HP2]
  · iapply (bigSep_toDo (F := F)).1
    isplitl [HL1]; · iexact HL1
    iexact HP2
  isplitl [HL2]; · iexact HL2
  iexact HP1

theorem kept0B (c : Dev nD) (T : Tb) (p0 : Buf (Elt F) (PB c)) : (emp : sProp 𝕄) ⊢ keptSB c T p0 0 := by
  rw [keptSB_eq, issued_zero, bigSep_empty]; exact .rfl

/-- The transfers opened: nothing issued yet. -/
theorem openB (c : Dev nD) (T : Tb) (a0 : Buf (Elt F) (LB c)) (p0 : Buf (Elt F) (PB c)) :
    iprop((LB c ↦{fullShare} a0) ∗ (PB c ↦{fullShare} p0) ∗ semVal ((c : Thread nD τ), SemLoc.dma cc0_scratch9.sem) 0)
      ⊢ (|={Set.univ}=> iprop(GB c T a0 p0 0 ∗ RB c T a0 p0) : sProp 𝕄) := by
  iintro ⟨HL, HP, HS⟩
  imod (Transfers.batch_alloc' (EC (F := F)) (c : Thread nD τ) () NB (DB c T a0 p0) (E := Set.univ)) $$ HS with HB
  imodintro
  ihave HT := (todo0B c T a0 p0) $$ [HL HP]
  · isplitl [HL]; · iexact HL
    iexact HP
  icases HT with ⟨HT, HR⟩
  isplitr [HR]
  · unfold GB
    isplitl [HT]; · iexact HT
    isplitr
    · iapply (kept0B c T p0); iempintro
    iexact HB
  iexact HR

/-- All issued: what is kept of the shares, and the batch. -/
theorem allB (c : Dev nD) (T : Tb) (a0 : Buf (Elt F) (LB c)) (p0 : Buf (Elt F) (PB c)) :
    GB c T a0 p0 T.n ⊢ iprop(keptSB c T p0 T.n ∗ BB c T a0 p0 T.n 0) := by
  unfold GB
  iintro ⟨-, HK, HB⟩
  isplitl [HK]; · iexact HK
  iexact HB

theorem gath_keepB (c : Dev nD) (T : Tb) (a0 : Buf (Elt F) (LB c)) (p0 : Buf (Elt F) (PB c)) (i : S1536x18432.Idx)
    (hi : i ∉ (Finset.univ.biUnion fun t : Fin T.n => rows4 t.val)) : gath T p0 a0 i = a0 i := by
  unfold gath
  rw [if_neg]
  intro h
  refine hi (Finset.mem_biUnion.mpr ⟨⟨(i 0).val / 4, by omega⟩, Finset.mem_univ _, ?_⟩)
  rw [mem_rows4]; simp only; omega

theorem deliverB (c : Dev nD) (T : Tb) (a0 : Buf (Elt F) (LB c)) (p0 : Buf (Elt F) (PB c)) :
    iprop(bigSep Finset.univ (DB c T a0 p0) ∗ bigSep Finset.univ (keptPB c T p0) ∗ RB c T a0 p0)
      ⊢ (iprop((LB c ↦{fullShare} (gath T p0 a0 : Buf (Elt F) (LB c))) ∗ (PB c ↦{fullShare} p0)) : sProp 𝕄) := by
  unfold DB RB keptPB
  iintro ⟨HD, HK, HL2, HP1⟩
  ihave HD' := (bigSep_toDo (F := F)).2 $$ HD
  icases HD' with ⟨HL1, HP2⟩
  isplitl [HL1 HL2]
  · iapply (blkB c T (gath T p0 a0)).2
    isplitl [HL1]; · iexact HL1
    rw [pointsTo_congr (g := a0) (fun i hi => gath_keepB c T a0 p0 i (mem_keep (ℓ := LB c) hi))]
    iexact HL2
  iapply (tokB c T p0).2
  isplitl [HP1]; · iexact HP1
  iapply (show iprop(bigSep Finset.univ (fun t : Fin T.n => PB c ↦[rows4 (T.src t.val)]{Transfers.shareTokN fullShare t.val} p0)
      ∗ bigSep Finset.univ (fun t : Fin T.n => PB c ↦[keep (rows4 (T.src t.val))]{Transfers.shareTokN fullShare t.val} p0))
    ⊢ (bigSep Finset.univ (fun t : Fin T.n => PB c ↦{Transfers.shareTokN fullShare t.val} p0) : sProp 𝕄) from
    (bigSep_toDo (F := F)).1.trans (BI.bigSep_mono fun t _ => (split_keep (ℓ := PB c) (rows4 (T.src t.val))).2))
  isplitl [HP2]; · iexact HP2
  iexact HK

/-- The transfers closed: the rows gathered, the pool whole, the semaphore at zero. -/
theorem closeB (c : Dev nD) (T : Tb) (a0 : Buf (Elt F) (LB c)) (p0 : Buf (Elt F) (PB c)) :
    iprop(keptSB c T p0 T.n ∗ BB c T a0 p0 T.n (NB * T.n) ∗ RB c T a0 p0)
      ⊢ (|={Set.univ}=> iprop((LB c ↦{fullShare} (gath T p0 a0 : Buf (Elt F) (LB c))) ∗ (PB c ↦{fullShare} p0)
          ∗ semVal ((c : Thread nD τ), SemLoc.dma cc0_scratch9.sem) 0) : sProp 𝕄) := by
  rw [keptSB_eq, issued_all]
  iintro ⟨HK, HB, HR⟩
  imod (Transfers.batch_collect' (EC (F := F)) (c : Thread nD τ) (N := NB) (by decide)) $$ HB with ⟨HD, HS⟩
  imodintro
  ihave HX := (deliverB c T a0 p0) $$ [HD HK HR]
  · isplitl [HD]; · iexact HD
    isplitl [HK]; · iexact HK
    iexact HR
  icases HX with ⟨H1, H2⟩
  isplitl [H1]; · iexact H1
  isplitl [H2]; · iexact H2
  iexact HS

section
variable (i : grid0.Coords) (arg5 : Memref sig .tc .smem S41 .f32) (harg5 : arg5.IsWhole) (arg6 : Memref sig .tc .vmem S256x7168 .bf16) (harg6 : arg6.IsWhole) (arg7 : Memref sig .tc .vmem S896x1024 .i32) (harg7 : arg7.IsWhole) (arg8 : Memref sig .tc .vmem S56x1024 .bf16) (harg8 : arg8.IsWhole) (arg9 : Memref sig .tc .vmem S1x3100 .f32) (harg9 : arg9.IsWhole) (arg10 : Memref sig .tc .vmem S1x3100 .f32) (harg10 : arg10.IsWhole) (arg13 : Memref sig .tc .vmem S256x1024 .bf16) (harg13 : arg13.IsWhole) (arg14 : Memref sig .tc .vmem S64x256 .bf16) (harg14 : arg14.IsWhole)
variable (k0_h1 : k0_cond1 i = 1#1)
variable (c : Dev nD) (T : Tb) (a0 : Buf (Elt F) (LA c)) (p0 : Buf (Elt F) (PA c)) (b0 : Buf (Elt F) (LB c)) (q0 : Buf (Elt F) (PB c))

/-- With `k` word rows of each pool awaited. -/
def WW (k : ℕ) : sProp 𝕄 :=
  iprop((∃ W, owes (c : Thread nD τ) 0 W) ∗ BA c T a0 p0 T.n (k * NA) ∗ BB c T b0 q0 T.n (k * NB))

theorem waits_le {N k n : ℕ} (h : k < n) : k * N + 1 * N ≤ N * n := by
  have h1 : (k + 1) * N ≤ n * N := Nat.mul_le_mul_right N h
  rw [Nat.mul_comm n N, Nat.add_mul] at h1
  exact h1

theorem t4_step (v136 : BitVec 32) (hv : v136.toNat = T.n) (hn : T.n ≤ 384) (hw : k0_chk57 i v136) (x1 : IVec S8x128 32) (x2 : IVec S8x128 32) (x3 : FVec F S8x128 .f32) (x4 : FVec F S128x128 .f32)
    (k : Fin (k0_t4_loop v136).trips) (acc : Unit) :
    WW c T a0 p0 b0 q0 k.val ⊢ wp frame (wpE (defs₀ (F := F)) Variants.none (c : Thread nD τ) none) Set.univ
      (k0_t4_body (F := F) i (Memref.whole main_arg7) (Memref.isWhole_whole _) (Memref.whole main_arg8) (Memref.isWhole_whole _) (Memref.whole main_arg10) (Memref.isWhole_whole _) (Memref.whole main_arg11) (Memref.isWhole_whole _) arg5 harg5 arg6 harg6 arg7 harg7 arg8 harg8 arg9 harg9 arg10 harg10 (Memref.whole main_arg3) (Memref.isWhole_whole _) (Memref.whole main_arg5) (Memref.isWhole_whole _) arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 k0_h1 v136 hw x1 x2 x3 x4 k acc) (fun _ => WW c T a0 p0 b0 q0 (k.val + 1)) := by
  have hk : k.val < T.n := lt_of_lt_of_eq k.2 ((t4_trips v136 (lt_of_le_of_lt (hv.le.trans hn) (by decide))).trans hv)
  unfold WW k0_t4_body
  iintro ⟨⟨%W, HO⟩, HA, HB⟩
  iapply (Transfers.wp_waitBatchMul (EC (F := F)) Variants.none (c : Thread nD τ) none () (N := NA) 1 (hJ := (Nat.one_mul _).symm) (waits_le hk)) $$ [HA HO]
  · isplitl [HA]; · iexact HA
    iexact HO
  iintro ⟨HA, HO⟩
  iapply (Transfers.wp_waitBatchMul (EC (F := F)) Variants.none (c : Thread nD τ) none () (N := NB) 1 (hJ := (Nat.one_mul _).symm) (waits_le hk)) $$ [HB HO]
  · isplitl [HB]; · iexact HB
    iexact HO
  iintro ⟨HB, HO⟩
  simp only [Prog.bind]
  sl_step
  isplitl [HO]; · iexists _; iexact HO
  rw [Nat.add_mul k.val 1 NA, Nat.add_mul k.val 1 NB]
  isplitl [HA]; · iexact HA
  iexact HB

end

end Cert.KernelIdeal.Body
-- ==== Proof.IShrink.lean ====
module

public import proofs.«01_k».proof.Proof.IGather
public import proofs.«01_k».proof.Proof.Gen.KernelIdeal.Loops

@[expose] public section

noncomputable section

set_option maxRecDepth 16384

namespace Cert.KernelIdeal.Body

open Cert.KernelIdeal Cert.KernelIdeal.Gen Cert.Math
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]
local notation "𝕄" => MT nD τ sig Unit (Elt F) ℕ UD ℕ

attribute [local irreducible] Tb.n Tb.off

/-- A memref's whole buffer at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

section
variable (i : grid0.Coords) (arg5 : Memref sig .tc .smem S41 .f32) (harg5 : arg5.IsWhole) (arg6 : Memref sig .tc .vmem S256x7168 .bf16) (harg6 : arg6.IsWhole) (arg7 : Memref sig .tc .vmem S896x1024 .i32) (harg7 : arg7.IsWhole) (arg8 : Memref sig .tc .vmem S56x1024 .bf16) (harg8 : arg8.IsWhole) (arg9 : Memref sig .tc .vmem S1x3100 .f32) (harg9 : arg9.IsWhole) (arg10 : Memref sig .tc .vmem S1x3100 .f32) (harg10 : arg10.IsWhole) (arg13 : Memref sig .tc .vmem S256x1024 .bf16) (harg13 : arg13.IsWhole) (arg14 : Memref sig .tc .vmem S64x256 .bf16) (harg14 : arg14.IsWhole)
variable (k0_h1 : k0_cond1 i = 1#1) (v136 : BitVec 32) (hw : k0_chk57 i v136) (c : Dev nD)
variable (x6 : Bf (F := F) c arg6) (x15 : Bf (F := F) c (Memref.whole cc0_scratch0)) (x18 : Bf (F := F) c (Memref.whole cc0_scratch3))
  (x19 : Bf (F := F) c (Memref.whole cc0_scratch4)) (x21 : Bf (F := F) c (Memref.whole cc0_scratch6))

/-- What one block of the shrink reads and writes. -/
def Trip6 (f17 : Bf (F := F) c (Memref.whole cc0_scratch2)) : sProp 𝕄 :=
  iprop(pt c arg6 x6 ∗ pt c (Memref.whole cc0_scratch0) x15 ∗ pt c (Memref.whole cc0_scratch3) x18 ∗ pt c (Memref.whole cc0_scratch4) x19
    ∗ pt c (Memref.whole cc0_scratch6) x21 ∗ pt c (Memref.whole cc0_scratch2) f17)

set_option sl_exec.resultNames true in
/-- One block of the shrink: the value carried on, and the piece of the shrunk tile it stores. -/
@[irreducible] def trip6 (k : Fin (k0_t6_loop v136).trips) :
    Σ' (R : FVec F S64x256 .f32 → FVec F S64x256 .f32), { L : FVec F S64x256 .f32 → List (View.Piece (Elt F) S6x256x256 .bf16) //
      ∀ (acc : FVec F S64x256 .f32) (f17 : Bf (F := F) c (Memref.whole cc0_scratch2)),
      Trip6 arg6 c x6 x15 x18 x19 x21 f17
      ⊢ wp frame (wpE (defs₀ (F := F)) Variants.none (c : Thread nD τ) none) Set.univ
        (k0_t6_body (F := F) i (Memref.whole main_arg7) (Memref.isWhole_whole _) (Memref.whole main_arg8) (Memref.isWhole_whole _) (Memref.whole main_arg10) (Memref.isWhole_whole _) (Memref.whole main_arg11) (Memref.isWhole_whole _) arg5 harg5 arg6 harg6 arg7 harg7 arg8 harg8 arg9 harg9 arg10 harg10 (Memref.whole main_arg3) (Memref.isWhole_whole _) (Memref.whole main_arg5) (Memref.isWhole_whole _) arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 k0_h1 v136 hw k acc)
        (fun yld => iprop(⌜yld = R acc⌝ ∗ Trip6 arg6 c x6 x15 x18 x19 x21 ((Memref.whole cc0_scratch2).view.writes (Elt F) f17 (L acc)))) } := by
  refine ⟨?_, ?_, fun acc f17 => ?run⟩
  case run =>
    unfold Trip6 k0_t6_body
    iintro ⟨H6, H15, H18, H19, H21, H17⟩
    sl_exec
    sl_step
    sl_close

/-- The carried value and the pieces stored before block `k`. -/
def st6 : ℕ → FVec F S64x256 .f32 × List (View.Piece (Elt F) S6x256x256 .bf16)
  | 0 => (k0_pay382 (F := F), [])
  | k + 1 => if h : k < (k0_t6_loop v136).trips then
      ((trip6 i arg5 harg5 arg6 harg6 arg7 harg7 arg8 harg8 arg9 harg9 arg10 harg10 arg13 harg13 arg14 harg14 k0_h1 v136 hw c x6 x15 x18 x19 x21 ⟨k, h⟩).1 (st6 k).1,
        (trip6 i arg5 harg5 arg6 harg6 arg7 harg7 arg8 harg8 arg9 harg9 arg10 harg10 arg13 harg13 arg14 harg14 k0_h1 v136 hw c x6 x15 x18 x19 x21 ⟨k, h⟩).2.1 (st6 k).1 ++ (st6 k).2)
    else st6 k

theorem st6_succ (k : Fin (k0_t6_loop v136).trips) : st6 i arg5 harg5 arg6 harg6 arg7 harg7 arg8 harg8 arg9 harg9 arg10 harg10 arg13 harg13 arg14 harg14 k0_h1 v136 hw c x6 x15 x18 x19 x21 (k.val + 1) =
    ((trip6 i arg5 harg5 arg6 harg6 arg7 harg7 arg8 harg8 arg9 harg9 arg10 harg10 arg13 harg13 arg14 harg14 k0_h1 v136 hw c x6 x15 x18 x19 x21 k).1 (st6 i arg5 harg5 arg6 harg6 arg7 harg7 arg8 harg8 arg9 harg9 arg10 harg10 arg13 harg13 arg14 harg14 k0_h1 v136 hw c x6 x15 x18 x19 x21 k.val).1,
      (trip6 i arg5 harg5 arg6 harg6 arg7 harg7 arg8 harg8 arg9 harg9 arg10 harg10 arg13 harg13 arg14 harg14 k0_h1 v136 hw c x6 x15 x18 x19 x21 k).2.1 (st6 i arg5 harg5 arg6 harg6 arg7 harg7 arg8 harg8 arg9 harg9 arg10 harg10 arg13 harg13 arg14 harg14 k0_h1 v136 hw c x6 x15 x18 x19 x21 k.val).1
        ++ (st6 i arg5 harg5 arg6 harg6 arg7 harg7 arg8 harg8 arg9 harg9 arg10 harg10 arg13 harg13 arg14 harg14 k0_h1 v136 hw c x6 x15 x18 x19 x21 k.val).2) := by
  rw [st6.eq_2]; exact dif_pos k.isLt

/-- Before block `k` of the shrink. -/
def Inv6 (f17 : Bf (F := F) c (Memref.whole cc0_scratch2)) (k : ℕ) (acc : FVec F S64x256 .f32) : sProp 𝕄 :=
  iprop(⌜acc = (st6 i arg5 harg5 arg6 harg6 arg7 harg7 arg8 harg8 arg9 harg9 arg10 harg10 arg13 harg13 arg14 harg14 k0_h1 v136 hw c x6 x15 x18 x19 x21 k).1⌝ ∗ Trip6 arg6 c x6 x15 x18 x19 x21
    ((Memref.whole cc0_scratch2).view.writes (Elt F) f17 (st6 i arg5 harg5 arg6 harg6 arg7 harg7 arg8 harg8 arg9 harg9 arg10 harg10 arg13 harg13 arg14 harg14 k0_h1 v136 hw c x6 x15 x18 x19 x21 k).2))

theorem t6_step (f17 : Bf (F := F) c (Memref.whole cc0_scratch2)) (k : Fin (k0_t6_loop v136).trips) (acc : FVec F S64x256 .f32) :
    Inv6 i arg5 harg5 arg6 harg6 arg7 harg7 arg8 harg8 arg9 harg9 arg10 harg10 arg13 harg13 arg14 harg14 k0_h1 v136 hw c x6 x15 x18 x19 x21 f17 k.val acc
      ⊢ wp frame (wpE (defs₀ (F := F)) Variants.none (c : Thread nD τ) none) Set.univ
        (k0_t6_body (F := F) i (Memref.whole main_arg7) (Memref.isWhole_whole _) (Memref.whole main_arg8) (Memref.isWhole_whole _) (Memref.whole main_arg10) (Memref.isWhole_whole _) (Memref.whole main_arg11) (Memref.isWhole_whole _) arg5 harg5 arg6 harg6 arg7 harg7 arg8 harg8 arg9 harg9 arg10 harg10 (Memref.whole main_arg3) (Memref.isWhole_whole _) (Memref.whole main_arg5) (Memref.isWhole_whole _) arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 k0_h1 v136 hw k acc)
        (fun acc => Inv6 i arg5 harg5 arg6 harg6 arg7 harg7 arg8 harg8 arg9 harg9 arg10 harg10 arg13 harg13 arg14 harg14 k0_h1 v136 hw c x6 x15 x18 x19 x21 f17 (k.val + 1) acc) := by
  unfold Inv6
  iintro ⟨%ha, HT⟩
  subst ha
  iapply (wp_wand_r Idealize.ShloMosaic.frame (wpE (defs₀ (F := F)) Variants.none (c : Thread nD τ) none) Set.univ)
  isplitl [HT]
  · iapply ((trip6 i arg5 harg5 arg6 harg6 arg7 harg7 arg8 harg8 arg9 harg9 arg10 harg10 arg13 harg13 arg14 harg14 k0_h1 v136 hw c x6 x15 x18 x19 x21 k).2.2 (st6 i arg5 harg5 arg6 harg6 arg7 harg7 arg8 harg8 arg9 harg9 arg10 harg10 arg13 harg13 arg14 harg14 k0_h1 v136 hw c x6 x15 x18 x19 x21 k.val).1 _)
    iexact HT
  iintro %yld ⟨%hy, HT⟩
  rw [st6_succ, View.writes_append]
  isplitr; · ipureintro; exact hy
  iexact HT

end

end Cert.KernelIdeal.Body
-- ==== Proof.IX1.lean ====
module

public import proofs.«01_k».proof.Proof.IWait
public import proofs.«01_k».proof.Proof.IShrink
public import proofs.«01_k».proof.Proof.Gen.KernelIdeal.Loops

@[expose] public section

noncomputable section

set_option maxRecDepth 16384

namespace Cert.KernelIdeal.Body

open Cert.KernelIdeal Cert.KernelIdeal.Gen Cert.Math
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]
local notation "𝕄" => MT nD τ sig Unit (Elt F) ℕ UD ℕ

attribute [local irreducible] Tb.n Tb.off

theorem chk_sg (T : Tb) (hT : Fits T) (e : ℕ) (he : e < 27) (x : S27.Idx) (hx : (x 0).val = e) : (T.sg0 x).toNat < 41 := by
  rw [get_eq T.sg0 x e hx]; exact hT.sg e he

theorem chk_st (T : Tb) (hT : Fits T) (e : ℕ) (he : e < 27) (x : S27.Idx) (hx : (x 0).val = e) (y : S41.Idx)
    (hy : (y 0).val = (T.sg0 x).toNat) : (T.st0 y).toNat ≤ 2943 := by
  rw [get_eq T.st0 y _ hy, get_eq T.sg0 x e hx]; exact hT.st e he

theorem toNat_n (T : Tb) (hn : T.n ≤ 384) : (BitVec.ofNat 32 T.n).toNat = T.n := by
  rw [BitVec.toNat_ofNat]; exact Nat.mod_eq_of_lt (lt_of_le_of_lt hn (by decide))

section
variable (i : grid0.Coords) (arg5 : Memref sig .tc .smem S41 .f32) (harg5 : arg5.IsWhole) (arg6 : Memref sig .tc .vmem S256x7168 .bf16) (harg6 : arg6.IsWhole) (arg7 : Memref sig .tc .vmem S896x1024 .i32) (harg7 : arg7.IsWhole) (arg8 : Memref sig .tc .vmem S56x1024 .bf16) (harg8 : arg8.IsWhole) (arg9 : Memref sig .tc .vmem S1x3100 .f32) (harg9 : arg9.IsWhole) (arg10 : Memref sig .tc .vmem S1x3100 .f32) (harg10 : arg10.IsWhole) (arg13 : Memref sig .tc .vmem S256x1024 .bf16) (harg13 : arg13.IsWhole) (arg14 : Memref sig .tc .vmem S64x256 .bf16) (harg14 : arg14.IsWhole)
variable (k0_h1 : k0_cond1 i = 1#1)
variable (c : Dev nD) (T : Tb) (hT : Fits T) (a0 : Buf (Elt F) (LA c)) (p0 : Buf (Elt F) (PA c)) (b0 : Buf (Elt F) (LB c)) (q0 : Buf (Elt F) (PB c))
  (tq : Fin 4 → PosShare TreeShare)
  (x5 : Bf (F := F) c arg5) (x6 : Bf (F := F) c arg6) (x7 : Bf (F := F) c arg7) (x8 : Bf (F := F) c arg8) (x9 : Bf (F := F) c arg9) (x10 : Bf (F := F) c arg10)
  (f13 : Bf (F := F) c arg13) (f14 : Bf (F := F) c arg14)
  (f17 : Bf (F := F) c (Memref.whole cc0_scratch2)) (f18 : Bf (F := F) c (Memref.whole cc0_scratch3)) (f19 : Bf (F := F) c (Memref.whole cc0_scratch4))
  (f20 : Bf (F := F) c (Memref.whole cc0_scratch5)) (f21 : Bf (F := F) c (Memref.whole cc0_scratch6)) (f22 : Bf (F := F) c (Memref.whole cc0_scratch7))

/-- The run's state: the tables, the scratch buffers and the pools, the two semaphores at zero, and what is owed. -/
def Scr : sProp 𝕄 :=
  iprop(TT (F := F) c T tq ∗ (∃ a : Buf (Elt F) (LA c), LA c ↦{fullShare} a) ∗ (PA c ↦{fullShare} p0) ∗ semVal ((c : Thread nD τ), SemLoc.dma cc0_scratch8.sem) 0
      ∗ (∃ b : Buf (Elt F) (LB c), LB c ↦{fullShare} b) ∗ (PB c ↦{fullShare} q0) ∗ semVal ((c : Thread nD τ), SemLoc.dma cc0_scratch9.sem) 0
      ∗ (∃ f, pt c (Memref.whole cc0_scratch2) f) ∗ (∃ f, pt c (Memref.whole cc0_scratch3) f) ∗ (∃ f, pt c (Memref.whole cc0_scratch4) f)
      ∗ (∃ f, pt c (Memref.whole cc0_scratch5) f) ∗ (∃ f, pt c (Memref.whole cc0_scratch6) f) ∗ (∃ f, pt c (Memref.whole cc0_scratch7) f)
      ∗ (∃ W, owes (c : Thread nD τ) 0 W))

/-- The windows' blocks, each held at some contents. -/
def Win : sProp 𝕄 :=
  iprop((∃ f, pt (F := F) c arg5 f) ∗ (∃ f, pt (F := F) c arg6 f) ∗ (∃ f, pt (F := F) c arg7 f) ∗ (∃ f, pt (F := F) c arg8 f) ∗ (∃ f, pt (F := F) c arg9 f) ∗ (∃ f, pt (F := F) c arg10 f)
    ∗ (∃ f, pt (F := F) c arg13 f) ∗ (∃ f, pt (F := F) c arg14 f))

set_option pp.deepTerms.threshold 2 in
set_option pp.maxSteps 400 in
set_option sl_exec.resultNames true in
set_option maxHeartbeats 1600000 in
include k0_h1 hT in
/-- The body at the first grid point. -/
theorem runA (Q : PUnit → sProp 𝕄) :
    iprop(Win (F := F) arg5 arg6 arg7 arg8 arg9 arg10 arg13 arg14 c ∗ Scr (F := F) c T p0 q0 tq
      ∗ (iprop(Win (F := F) arg5 arg6 arg7 arg8 arg9 arg10 arg13 arg14 c ∗ Scr (F := F) c T p0 q0 tq) -∗ Q ⟨⟩))
    ⊢ wp frame (wpE (defs₀ (F := F)) Variants.none (c : Thread nD τ) none) Set.univ ((cc0_multi_lora (F := F) i (Memref.whole main_arg7) (Memref.isWhole_whole _) (Memref.whole main_arg8) (Memref.isWhole_whole _) (Memref.whole main_arg10) (Memref.isWhole_whole _) (Memref.whole main_arg11) (Memref.isWhole_whole _) arg5 harg5 arg6 harg6 arg7 harg7 arg8 harg8 arg9 harg9 arg10 harg10 (Memref.whole main_arg3) (Memref.isWhole_whole _) (Memref.whole main_arg5) (Memref.isWhole_whole _) arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9)) Q := by
  unfold Win Scr TT
  iintro ⟨⟨⟨%x5, H5⟩, ⟨%x6, H6⟩, ⟨%x7, H7⟩, ⟨%x8, H8⟩, ⟨%x9, H9⟩, ⟨%x10, H10⟩, ⟨%f13, H13⟩, ⟨%f14, H14⟩⟩, ⟨⟨T1, T2, T3, T4⟩, ⟨%a0, HLA⟩, HPA, HSA, ⟨%b0, HLB⟩, HPB, HSB, ⟨%f17, H17⟩, ⟨%f18, H18⟩, ⟨%f19, H19⟩, ⟨%f20, H20⟩, ⟨%f21, H21⟩, ⟨%f22, H22⟩, HO⟩, HK⟩
  imod (openA (F := F) c T a0 p0) $$ [HLA HPA HSA] with ⟨HGA, HRA⟩
  · isplitl [HLA]; · iexact HLA
    isplitl [HPA]; · iexact HPA
    iexact HSA
  imod (openB (F := F) c T b0 q0) $$ [HLB HPB HSB] with ⟨HGB, HRB⟩
  · isplitl [HLB]; · iexact HLB
    isplitl [HPB]; · iexact HPB
    iexact HSB
  sl_unfold [cc0_multi_lora, k0_part76]
  sl_exec
  have hz : T.off 0 = 0 := by unfold Tb.off; rfl
  sl_for (fun k (acc : BitVec 32) => iprop(⌜acc.toNat = T.off k⌝ ∗ TT (F := F) c T tq ∗ GG c T a0 p0 b0 q0 (T.off k))) $$ [T1 T2 T3 T4 HGA HGB]
  · intro k acc
    exact t1_step i arg5 harg5 arg6 harg6 arg7 harg7 arg8 harg8 arg9 harg9 arg10 harg10 arg13 harg13 arg14 harg14 k0_h1 c T hT a0 p0 b0 q0 tq k.1 k.2 acc
  · isplitr; · ipureintro; exact hz.symm
    isplitl [T1 T2 T3 T4]
    · unfold TT
      isplitl [T1]; · iexact T1
      isplitl [T2]; · iexact T2
      isplitl [T3]; · iexact T3
      iexact T4
    unfold GG
    rw [hz]
    isplitl [HGA]; · iexact HGA
    iexact HGB
  iintro %acc ⟨%hacc, HT, HG⟩
  have hn : T.n ≤ 384 := by have := hT.off_le 27 (Nat.le_refl _); unfold Tb.n; exact this
  have h27 : T.off (Scf.trips k0_t1_loop.lb k0_t1_loop.ub k0_t1_loop.st) = T.n := by unfold Tb.n; rfl
  rw [h27]
  rw [h27] at hacc
  obtain rfl : acc = BitVec.ofNat 32 T.n := BitVec.eq_of_toNat_eq (hacc.trans (toNat_n T hn).symm)
  have hv := toNat_n T hn
  have h57 : (BitVec.ofNat 32 T.n).toNat ≤ 384 := hv.le.trans hn
  unfold TT
  icases HT with ⟨T1, T2, T3, T4⟩
  sl_exec_parts (disch := first | exact chk57 _ _ h57 | exact odd_chk _ _ (chk_sg T hT _ (by decide) _ rfl) | exact even_chk _ _ (chk_st T hT _ (by decide) _ rfl _ rfl))
  unfold GG
  icases HG with ⟨HGA, HGB⟩
  ihave HGA := (allA (F := F) c T a0 p0) $$ HGA
  ihave HGB := (allB (F := F) c T b0 q0) $$ HGB
  icases HGA with ⟨HKA, HBA⟩
  icases HGB with ⟨HKB, HBB⟩
  sl_for (fun k _ => WW c T a0 p0 b0 q0 k) $$ [HO HBA HBB]
  · intro k acc
    exact t4_step i arg5 harg5 arg6 harg6 arg7 harg7 arg8 harg8 arg9 harg9 arg10 harg10 arg13 harg13 arg14 harg14 k0_h1 c T a0 p0 b0 q0 _ hv hn _ _ _ _ _ k acc
  · unfold WW
    rw [Nat.zero_mul, Nat.zero_mul]
    isplitl [HO]; · iexact HO
    isplitl [HBA]; · iexact HBA
    iexact HBB
  iintro %_ HW
  have h4 : Scf.trips (k0_t4_loop (BitVec.ofNat 32 T.n)).lb (k0_t4_loop (BitVec.ofNat 32 T.n)).ub (k0_t4_loop (BitVec.ofNat 32 T.n)).st = T.n :=
    (t4_trips _ (lt_of_le_of_lt h57 (by decide))).trans hv
  rw [h4]
  unfold WW
  rw [Nat.mul_comm T.n NA, Nat.mul_comm T.n NB]
  icases HW with ⟨HO, HBA, HBB⟩
  imod (closeA (F := F) c T a0 p0) $$ [HKA HBA HRA] with ⟨HLA, HPA, HSA⟩
  · isplitl [HKA]; · iexact HKA
    isplitl [HBA]; · iexact HBA
    iexact HRA
  imod (closeB (F := F) c T b0 q0) $$ [HKB HBB HRB] with ⟨HLB, HPB, HSB⟩
  · isplitl [HKB]; · iexact HKB
    isplitl [HBB]; · iexact HBB
    iexact HRB
  sl_for0 (t5_trips (BitVec.ofNat 32 T.n))
  sl_exec
  sl_for (Inv6 i arg5 harg5 arg6 harg6 arg7 harg7 arg8 harg8 arg9 harg9 arg10 harg10 arg13 harg13 arg14 harg14 k0_h1 (BitVec.ofNat 32 T.n) (chk57 i _ h57) c x6 (gath T p0 a0 : Buf (Elt F) (LA c))
      ((Memref.whole cc0_scratch3).view.writes (Elt F) (Memref.whole cc0_scratch3).view.junk (runA.sl.H18_1 (F := F) i k0_h1 T hT))
      ((Memref.whole cc0_scratch4).view.writes (Elt F) (Memref.whole cc0_scratch4).view.junk (runA.sl.H19_1 (F := F) i arg9 k0_h1 c T hT x9))
      ((Memref.whole cc0_scratch6).view.writes (Elt F) (Memref.whole cc0_scratch6).view.junk (runA.sl.H21_6 (F := F) i arg5 k0_h1 c T hT x5))
      ((Memref.whole cc0_scratch2).view.writes (Elt F) (Memref.whole cc0_scratch2).view.junk (runA.sl.H17_1 (F := F)))) $$ [H6 HLA H18 H19 H21 H17]
  · intro k acc
    exact t6_step i arg5 harg5 arg6 harg6 arg7 harg7 arg8 harg8 arg9 harg9 arg10 harg10 arg13 harg13 arg14 harg14 k0_h1 _ _ c _ _ _ _ _ _ k acc
  · unfold Inv6 Trip6
    isplitr; · ipureintro; rfl
    isplitl [H6]; · iexact H6
    isplitl [HLA]; · iexact HLA
    isplitl [H18]; · iexact H18
    isplitl [H19]; · iexact H19
    isplitl [H21]; · iexact H21
    iexact H17
  iintro %acc HI
  unfold Inv6
  icases HI with ⟨%hacc6, HT⟩
  subst hacc6
  unfold Trip6
  icases HT with ⟨H6, HLA, H18, H19, H21, H17⟩
  sl_exec
  sl_for (fun (_ : ℕ) (acc : FVec F S64x256 .f32) => (iprop(⌜acc = (st6 i arg5 harg5 arg6 harg6 arg7 harg7 arg8 harg8 arg9 harg9 arg10 harg10 arg13 harg13 arg14 harg14 k0_h1 (BitVec.ofNat 32 T.n) (chk57 i _ h57) c x6 (gath T p0 a0 : Buf (Elt F) (LA c))
      ((Memref.whole cc0_scratch3).view.writes (Elt F) (Memref.whole cc0_scratch3).view.junk (runA.sl.H18_1 (F := F) i k0_h1 T hT))
      ((Memref.whole cc0_scratch4).view.writes (Elt F) (Memref.whole cc0_scratch4).view.junk (runA.sl.H19_1 (F := F) i arg9 k0_h1 c T hT x9))
      ((Memref.whole cc0_scratch6).view.writes (Elt F) (Memref.whole cc0_scratch6).view.junk (runA.sl.H21_6 (F := F) i arg5 k0_h1 c T hT x5))
      (Scf.trips (k0_t6_loop (BitVec.ofNat 32 T.n)).lb (k0_t6_loop (BitVec.ofNat 32 T.n)).ub (k0_t6_loop (BitVec.ofNat 32 T.n)).st)).1⌝) : sProp 𝕄)) $$ []
  · intro k acc
    exact absurd (lt_of_lt_of_eq k.2 (t7_trips (BitVec.ofNat 32 T.n))) (Nat.not_lt_zero _)
  · ipureintro; rfl
  iintro %acc %h7
  subst h7
  ihave HLB := (show (LB c ↦{fullShare} (gath T q0 b0 : Buf (Elt F) (LB c)) : sProp 𝕄) ⊢ pt c (Memref.whole cc0_scratch1) (gath T q0 b0 : Buf (Elt F) (LB c)) from .rfl) $$ HLB
  sl_exec_parts
  sl_step
  iapply HK
  isplitl [H5 H6 H7 H8 H9 H10 H13 H14]
  · isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H13]; · iexists _; iexact H13
    iexists _; iexact H14
  isplitl [T1 T2 T3 T4]
  · isplitl [T1]; · iexact T1
    isplitl [T2]; · iexact T2
    isplitl [T3]; · iexact T3
    iexact T4
  isplitl [HLA]; · iexists _; iexact HLA
  isplitl [HPA]; · iexact HPA
  isplitl [HSA]; · iexact HSA
  isplitl [HLB]; · iexists _; iexact HLB
  isplitl [HPB]; · iexact HPB
  isplitl [HSB]; · iexact HSB
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iexact HO

end
end Cert.KernelIdeal.Body
-- ==== Proof.IX2.lean ====
module

public import proofs.«01_k».proof.Proof.IX1

@[expose] public section

noncomputable section

set_option maxRecDepth 16384

namespace Cert.KernelIdeal.Body

open Cert.KernelIdeal Cert.KernelIdeal.Gen Cert.Math
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]
local notation "𝕄" => MT nD τ sig Unit (Elt F) ℕ UD ℕ

attribute [local irreducible] Tb.n Tb.off

section
variable (i : grid0.Coords) (arg5 : Memref sig .tc .smem S41 .f32) (harg5 : arg5.IsWhole) (arg6 : Memref sig .tc .vmem S256x7168 .bf16) (harg6 : arg6.IsWhole) (arg7 : Memref sig .tc .vmem S896x1024 .i32) (harg7 : arg7.IsWhole) (arg8 : Memref sig .tc .vmem S56x1024 .bf16) (harg8 : arg8.IsWhole) (arg9 : Memref sig .tc .vmem S1x3100 .f32) (harg9 : arg9.IsWhole) (arg10 : Memref sig .tc .vmem S1x3100 .f32) (harg10 : arg10.IsWhole) (arg13 : Memref sig .tc .vmem S256x1024 .bf16) (harg13 : arg13.IsWhole) (arg14 : Memref sig .tc .vmem S64x256 .bf16) (harg14 : arg14.IsWhole)
variable (k0_h1 : k0_cond1 i = 1#1)
variable (c : Dev nD) (T : Tb) (hT : Fits T) (a0 : Buf (Elt F) (LA c)) (p0 : Buf (Elt F) (PA c)) (b0 : Buf (Elt F) (LB c)) (q0 : Buf (Elt F) (PB c))
  (tq : Fin 4 → PosShare TreeShare)
  (x5 : Bf (F := F) c arg5) (x6 : Bf (F := F) c arg6) (x7 : Bf (F := F) c arg7) (x8 : Bf (F := F) c arg8) (x9 : Bf (F := F) c arg9) (x10 : Bf (F := F) c arg10)
  (f13 : Bf (F := F) c arg13) (f14 : Bf (F := F) c arg14)
  (f17 : Bf (F := F) c (Memref.whole cc0_scratch2)) (f18 : Bf (F := F) c (Memref.whole cc0_scratch3)) (f19 : Bf (F := F) c (Memref.whole cc0_scratch4))
  (f20 : Bf (F := F) c (Memref.whole cc0_scratch5)) (f21 : Bf (F := F) c (Memref.whole cc0_scratch6)) (f22 : Bf (F := F) c (Memref.whole cc0_scratch7))

set_option pp.deepTerms.threshold 2 in
set_option pp.maxSteps 400 in
set_option sl_exec.resultNames true in
set_option maxHeartbeats 1600000 in
/-- The body at the other grid points. -/
theorem runB (hc : ¬ k0_cond1 i = 1#1) (Q : PUnit → sProp 𝕄) :
    iprop(Win (F := F) arg5 arg6 arg7 arg8 arg9 arg10 arg13 arg14 c ∗ Scr (F := F) c T p0 q0 tq
      ∗ (iprop(Win (F := F) arg5 arg6 arg7 arg8 arg9 arg10 arg13 arg14 c ∗ Scr (F := F) c T p0 q0 tq) -∗ Q ⟨⟩))
    ⊢ wp frame (wpE (defs₀ (F := F)) Variants.none (c : Thread nD τ) none) Set.univ ((cc0_multi_lora (F := F) i (Memref.whole main_arg7) (Memref.isWhole_whole _) (Memref.whole main_arg8) (Memref.isWhole_whole _) (Memref.whole main_arg10) (Memref.isWhole_whole _) (Memref.whole main_arg11) (Memref.isWhole_whole _) arg5 harg5 arg6 harg6 arg7 harg7 arg8 harg8 arg9 harg9 arg10 harg10 (Memref.whole main_arg3) (Memref.isWhole_whole _) (Memref.whole main_arg5) (Memref.isWhole_whole _) arg13 harg13 arg14 harg14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9)) Q := by
  unfold Win Scr TT
  iintro ⟨⟨⟨%x5, H5⟩, ⟨%x6, H6⟩, ⟨%x7, H7⟩, ⟨%x8, H8⟩, ⟨%x9, H9⟩, ⟨%x10, H10⟩, ⟨%f13, H13⟩, ⟨%f14, H14⟩⟩, ⟨⟨T1, T2, T3, T4⟩, ⟨%a0, HLA⟩, HPA, HSA, ⟨%b0, HLB⟩, HPB, HSB, ⟨%f17, H17⟩, ⟨%f18, H18⟩, ⟨%f19, H19⟩, ⟨%f20, H20⟩, ⟨%f21, H21⟩, ⟨%f22, H22⟩, HO⟩, HK⟩
  sl_unfold [cc0_multi_lora, k0_part76]
  ihave HLB := (show (LB c ↦{fullShare} (b0 : Buf (Elt F) (LB c)) : sProp 𝕄) ⊢ pt c (Memref.whole cc0_scratch1) (b0 : Buf (Elt F) (LB c)) from .rfl) $$ HLB
  sl_exec_parts
  sl_step
  iapply HK
  isplitl [H5 H6 H7 H8 H9 H10 H13 H14]
  · isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H13]; · iexists _; iexact H13
    iexists _; iexact H14
  isplitl [T1 T2 T3 T4]
  · isplitl [T1]; · iexact T1
    isplitl [T2]; · iexact T2
    isplitl [T3]; · iexact T3
    iexact T4
  isplitl [HLA]; · iexists _; iexact HLA
  isplitl [HPA]; · iexact HPA
  isplitl [HSA]; · iexact HSA
  isplitl [HLB]; · iexists _; iexact HLB
  isplitl [HPB]; · iexact HPB
  isplitl [HSB]; · iexact HSB
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iexact HO

end
end Cert.KernelIdeal.Body
-- ==== Proof.IFrame.lean ====
module

public import proofs.«01_k».proof.Proof.IX2
public import proofs.«01_k».proof.Proof.PreFits
public import proofs.«01_k».proof.Proof.Gen.KernelIdeal.Launch

@[expose] public section

noncomputable section

set_option maxRecDepth 16384

namespace Cert.KernelIdeal.Body

open Cert.KernelIdeal Cert.KernelIdeal.Gen Cert.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]
local notation "𝕄" => MT nD τ sig Unit (Elt F) ℕ UD ℕ

variable (m : (ℓ : Loc nD τ sig) → Buf (Elt F) ℓ) (ρ : Dev nD → PrngReg)

/-- Every buffer's contents when the kernel starts. -/
abbrev V (c : Dev nD) (b : Ref sig .tc) : Buf (Elt F) ((c : Thread nD τ).loc b) :=
  StableHlo.after (hostOps0 (F := F)) (fun b => m (c, b)) b

/-- The tables the run goes by. -/
def TV (c : Dev nD) : Tb := ⟨V m c main_arg7, V m c main_arg8, V m c main_arg10, V m c main_arg11⟩

theorem dev_eq (c c' : Dev nD) : c = c' := by
  have : Subsingleton (Dev nD) := by unfold nD; infer_instance
  exact Subsingleton.elim _ _

/-- The tables' contents, as the pipeline takes them. -/
def av : (p : Fin 1) → (pcfgs (F := F) p).Adm := fun _ => ⟨fun k => V m 0 (pre0.ref k), trivial⟩

abbrev osem0 : Fin 2 → SemLoc sig := ![SemLoc.dma cc0_scratch8.sem, SemLoc.dma cc0_scratch9.sem]
theorem osem_facts : Pipeline.OwnSemFacts spec0 osem0 := by decide
/-- The pools the kernel copies rows out of. -/
def H0 : Finset (Ref sig .tc) := {main_arg3, main_arg5}
theorem H0_sub : H0 ⊆ Pipeline.restRefsP sig pre0 spec0 := by decide

/-- The invariant: what the kernel holds beside the windows. -/
def Inv (c : Dev nD) : sProp 𝕄 :=
  iprop(Pipeline.ΦD osem0 spec0 H0 (V m) c ∗ Pipeline.ΦT pre0 (av m 0).1 c)

theorem inv_eq (c : Dev nD) : Inv m c = iprop(((
        (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
        ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)
        ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f))
      ∗ (∃ r, prngReg c r)
      ∗ (semVal ((c : Thread nD τ), SemLoc.dma cc0_scratch8.sem) 0 ∗ semVal ((c : Thread nD τ), SemLoc.dma cc0_scratch9.sem) 0)
      ∗ ((((c : Thread nD τ).loc main_arg3) ↦{fullShare} V m c main_arg3) ∗ (((c : Thread nD τ).loc main_arg5) ↦{fullShare} V m c main_arg5)))
    ∗ ((((c : Thread nD τ).loc main_arg7) ↦{fullShare.right} V m c main_arg7) ∗ (((c : Thread nD τ).loc main_arg8) ↦{fullShare.right} V m c main_arg8)
      ∗ (((c : Thread nD τ).loc main_arg10) ↦{fullShare.right} V m c main_arg10) ∗ (((c : Thread nD τ).loc main_arg11) ↦{fullShare.right} V m c main_arg11))) := by
  obtain rfl := dev_eq c 0
  unfold Inv
  rw [Pipeline.ΦD_eq, scopedRest0_eq, Pipeline.ownSems0_eq_of_list _ osem0 [0, 1] (by decide) (by decide)]
  rw [BI.bigSep_eq_bigSepL_of_eq [main_arg3, main_arg5] (by decide) (by decide)]
  unfold Pipeline.ΦT Pipeline.prefHeld
  rw [BI.bigSep_univ_eq_bigSepL [(0 : Fin 4), (1 : Fin 4), (2 : Fin 4), (3 : Fin 4)] (by decide) (by decide)]
  rfl

/-- The body at point `t`. -/
def bodyAt (t : Fin grid0.N) (s : (w : Fin 8) → Fin (spec0 w).nbuf) : Prog (TpuEff nD τ sig (Elt F) Λ₀ .tc) PUnit :=
  cc0_multi_lora (grid0.coords t) (Memref.whole main_arg7) (Memref.isWhole_whole _) (Memref.whole main_arg8) (Memref.isWhole_whole _) (Memref.whole main_arg10) (Memref.isWhole_whole _) (Memref.whole main_arg11) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (Memref.whole main_arg3) (Memref.isWhole_whole _) (Memref.whole main_arg5) (Memref.isWhole_whole _) (spec0_6.stage (s 6)) (hstage0_6 ((s 6).cast nbuf0_6)) (spec0_7.stage (s 7)) (hstage0_7 ((s 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9

/-- The proof data: the windows' blocks at anything, the invariant above. -/
def rdat (c : Dev nD) : RDat τ (Elt F) Unit ℕ UD ℕ (Pipeline.pin (pcfgs (F := F)) (av m) 0) c where
  A w := V m c (Pipeline.arrRef spec0 w)
  after _ _ _ _ := True
  Φ _ := Inv m c
  q _ := fullShare
  owed _ := 0

theorem own_pt (c : Dev nD) {sp : Space} {S : Shape} {e : EltTy} (M : Memref sig .tc sp S e) (h : M.IsWhole) (X : S.Idx → Elt F e) :
    (owns (c : Thread nD τ) M fullShare X : sProp 𝕄) ⊢ iprop(∃ f, pt (F := F) c M f) := by
  have h1 := (Memref.IsWhole.exists_owns_eq (Ix := Unit) (Name := ℕ) (U := UD) (Lvl := ℕ) (Val := Elt F) (c := (c : Thread nD τ)) (m := M) h fullShare)
  show _ ⊢ (iprop(∃ f : Buf (Elt F) (M.view.loc (c : Thread nD τ)), (M.view.loc (c : Thread nD τ)) ↦{fullShare} f) : sProp 𝕄)
  rw [← h1]
  iintro H
  iexists X
  iexact H

theorem pt_own (c : Dev nD) {sp : Space} {S : Shape} {e : EltTy} (M : Memref sig .tc sp S e) (h : M.IsWhole) :
    (iprop(∃ f, pt (F := F) c M f) : sProp 𝕄) ⊢ iprop(∃ X, ⌜True⌝ ∗ owns (c : Thread nD τ) M fullShare X) := by
  have h1 := (Memref.IsWhole.exists_owns_eq (Ix := Unit) (Name := ℕ) (U := UD) (Lvl := ℕ) (Val := Elt F) (c := (c : Thread nD τ)) (m := M) h fullShare)
  show (iprop(∃ f : Buf (Elt F) (M.view.loc (c : Thread nD τ)), (M.view.loc (c : Thread nD τ)) ↦{fullShare} f) : sProp 𝕄) ⊢ _
  rw [← h1]
  iintro ⟨%X, H⟩
  iexists X
  isplitr
  · ipureintro; trivial
  iexact H

/-- The body at any point: the windows and the run's state, kept. -/
theorem body_run (c : Dev nD) (T : Tb) (hT : Fits T) (p0 : Buf (Elt F) (PA c)) (q0 : Buf (Elt F) (PB c)) (tq : Fin 4 → PosShare TreeShare)
    (t : Fin grid0.N) (s : (w : Fin 8) → Fin (spec0 w).nbuf) (Q : PUnit → sProp 𝕄) :
    iprop(Win (F := F) (spec0_0.stage (s 0)) (spec0_1.stage (s 1)) (spec0_2.stage (s 2)) (spec0_3.stage (s 3)) (spec0_4.stage (s 4)) (spec0_5.stage (s 5)) (spec0_6.stage (s 6)) (spec0_7.stage (s 7)) c ∗ Scr (F := F) c T p0 q0 tq
      ∗ (iprop(Win (F := F) (spec0_0.stage (s 0)) (spec0_1.stage (s 1)) (spec0_2.stage (s 2)) (spec0_3.stage (s 3)) (spec0_4.stage (s 4)) (spec0_5.stage (s 5)) (spec0_6.stage (s 6)) (spec0_7.stage (s 7)) c ∗ Scr (F := F) c T p0 q0 tq) -∗ Q ⟨⟩))
    ⊢ wp frame (wpE (defs₀ (F := F)) Variants.none (c : Thread nD τ) none) Set.univ (bodyAt (F := F) t s) Q := by
  unfold bodyAt
  by_cases hc : k0_cond1 (grid0.coords t) = 1#1
  · exact runA (grid0.coords t) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) hc c T hT p0 q0 tq Q
  · exact runB (grid0.coords t) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) c T p0 q0 tq hc Q

theorem body_obl (c : Dev nD) (hT : Fits (TV m c)) : (rdat m c).BodyObligation (defs₀ (F := F)) Variants.none () Set.univ := by
  intro t Y _
  rw [bigSep_W0, bigSep_W0]
  show iprop(Inv m c ∗ (rdat m c).owesAt () t.castSucc ∗ _) ⊢ wp frame (wpE (defs₀ (F := F)) Variants.none (c : Thread nD τ) none) Set.univ (bodyAt (F := F) t ((Pipeline.pin (pcfgs (F := F)) (av m) 0).slots t)) fun _ => iprop(Inv m c ∗ (rdat m c).owesAt () t.succ ∗ _)
  unfold RDat.owesAt Pipeline.owesWithin
  rw [inv_eq]
  rw [show (rdat m c).owed t.castSucc = 0 from rfl, show (rdat m c).owed t.succ = 0 from rfl]
  iintro ⟨⟨⟨⟨S0, S1, S2, S3, S4, S5, S6, S7⟩, Hg, ⟨Ha, Hb⟩, ⟨P3, P5⟩⟩, ⟨T7, T8, T10, T11⟩⟩, ⟨%W, -, HW⟩, ⟨W0, W1, W2, W3, W4, W5, W6, W7⟩⟩
  iapply (body_run (F := F) c (TV m c) hT (V m c main_arg3) (V m c main_arg5) (fun _ => fullShare.right) t _ _)
  isplitl [W0 W1 W2 W3 W4 W5 W6 W7]
  · unfold Win
    isplitl [W0]; · iapply (own_pt (F := F) c _ (hstage0_0 ((((Pipeline.pin (pcfgs (F := F)) (av m) 0).slots t 0)).cast nbuf0_0)) (Y 0)); iexact W0
    isplitl [W1]; · iapply (own_pt (F := F) c _ (hstage0_1 ((((Pipeline.pin (pcfgs (F := F)) (av m) 0).slots t 1)).cast nbuf0_1)) (Y 1)); iexact W1
    isplitl [W2]; · iapply (own_pt (F := F) c _ (hstage0_2 ((((Pipeline.pin (pcfgs (F := F)) (av m) 0).slots t 2)).cast nbuf0_2)) (Y 2)); iexact W2
    isplitl [W3]; · iapply (own_pt (F := F) c _ (hstage0_3 ((((Pipeline.pin (pcfgs (F := F)) (av m) 0).slots t 3)).cast nbuf0_3)) (Y 3)); iexact W3
    isplitl [W4]; · iapply (own_pt (F := F) c _ (hstage0_4 ((((Pipeline.pin (pcfgs (F := F)) (av m) 0).slots t 4)).cast nbuf0_4)) (Y 4)); iexact W4
    isplitl [W5]; · iapply (own_pt (F := F) c _ (hstage0_5 ((((Pipeline.pin (pcfgs (F := F)) (av m) 0).slots t 5)).cast nbuf0_5)) (Y 5)); iexact W5
    isplitl [W6]; · iapply (own_pt (F := F) c _ (hstage0_6 ((((Pipeline.pin (pcfgs (F := F)) (av m) 0).slots t 6)).cast nbuf0_6)) (Y 6)); iexact W6
    iapply (own_pt (F := F) c _ (hstage0_7 ((((Pipeline.pin (pcfgs (F := F)) (av m) 0).slots t 7)).cast nbuf0_7)) (Y 7)); iexact W7
  isplitl [S0 S1 S2 S3 S4 S5 S6 S7 Ha Hb P3 P5 T7 T8 T10 T11 HW]
  · unfold Scr TT
    isplitl [T7 T8 T10 T11]
    · isplitl [T7]; · iexact T7
      isplitl [T8]; · iexact T8
      isplitl [T10]; · iexact T10
      iexact T11
    isplitl [S0]; · iexact S0
    isplitl [P3]; · iexact P3
    isplitl [Ha]; · iexact Ha
    isplitl [S1]; · iexact S1
    isplitl [P5]; · iexact P5
    isplitl [Hb]; · iexact Hb
    isplitl [S2]; · iexact S2
    isplitl [S3]; · iexact S3
    isplitl [S4]; · iexact S4
    isplitl [S5]; · iexact S5
    isplitl [S6]; · iexact S6
    isplitl [S7]; · iexact S7
    iexists W; iexact HW
  unfold Win Scr TT
  iintro ⟨⟨W0, W1, W2, W3, W4, W5, W6, W7⟩, ⟨T7, T8, T10, T11⟩, S0, P3, Ha, S1, P5, Hb, S2, S3, S4, S5, S6, S7, ⟨%W', HW⟩⟩
  isplitl [S0 S1 S2 S3 S4 S5 S6 S7 Ha Hb P3 P5 T7 T8 T10 T11 Hg]
  · isplitr [T7 T8 T10 T11]
    · isplitl [S0 S1 S2 S3 S4 S5 S6 S7]
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
      isplitl [Hg]; · iexact Hg
      isplitl [Ha Hb]
      · isplitl [Ha]; · iexact Ha
        iexact Hb
      isplitl [P3]; · iexact P3
      iexact P5
    isplitl [T7]; · iexact T7
    isplitl [T8]; · iexact T8
    isplitl [T10]; · iexact T10
    iexact T11
  isplitl [HW]
  · iexists W'
    isplitr
    · ipureintro; exact fun _ _ => Or.inl trivial
    iexact HW
  isplitl [W0]; · iapply (pt_own (F := F) c _ (hstage0_0 ((((Pipeline.pin (pcfgs (F := F)) (av m) 0).slots t 0)).cast nbuf0_0))); iexact W0
  isplitl [W1]; · iapply (pt_own (F := F) c _ (hstage0_1 ((((Pipeline.pin (pcfgs (F := F)) (av m) 0).slots t 1)).cast nbuf0_1))); iexact W1
  isplitl [W2]; · iapply (pt_own (F := F) c _ (hstage0_2 ((((Pipeline.pin (pcfgs (F := F)) (av m) 0).slots t 2)).cast nbuf0_2))); iexact W2
  isplitl [W3]; · iapply (pt_own (F := F) c _ (hstage0_3 ((((Pipeline.pin (pcfgs (F := F)) (av m) 0).slots t 3)).cast nbuf0_3))); iexact W3
  isplitl [W4]; · iapply (pt_own (F := F) c _ (hstage0_4 ((((Pipeline.pin (pcfgs (F := F)) (av m) 0).slots t 4)).cast nbuf0_4))); iexact W4
  isplitl [W5]; · iapply (pt_own (F := F) c _ (hstage0_5 ((((Pipeline.pin (pcfgs (F := F)) (av m) 0).slots t 5)).cast nbuf0_5))); iexact W5
  isplitl [W6]; · iapply (pt_own (F := F) c _ (hstage0_6 ((((Pipeline.pin (pcfgs (F := F)) (av m) 0).slots t 6)).cast nbuf0_6))); iexact W6
  iapply (pt_own (F := F) c _ (hstage0_7 ((((Pipeline.pin (pcfgs (F := F)) (av m) 0).slots t 7)).cast nbuf0_7))); iexact W7

theorem hmain (𝒱₀ : Variants) : Pipeline.HMainP (Ix := Unit) (Name := ℕ) (U := UD) (Lvl := ℕ) (pcfgs (F := F)) 0 defs₀ 𝒱₀ m (main (F := F)) (V m) :=
  Pipeline.hmainP_prefix _ 0 defs₀ 𝒱₀ m main (hostOps0 (F := F)) hostOps0_sub ⟨rfl, rfl, rfl⟩ main_chain

set_option backward.isDefEq.respectTransparency.types false in
theorem run_main (hT : ∀ c, Fits (TV m c)) : θ_run defs (onTc (τ := τ) (main (F := F))) (s₀ m ρ)
    (fun r => Pipeline.RDat.FramePost (Pipeline.pin (pcfgs (F := F)) (av m) 0) (rdat m) (V m) r ∧ r.2.sem = fun _ => 0) :=
  Pipeline.RDat.θ_run_frameP_dma (Q' := _) (pcfgs (F := F)) (av m) (0 : Fin 1) launch0 osem0 defs₀ Variants.none (rdat m) osem_facts H0 H0_sub m ρ main
    (hbody := fun c => body_obl m c (hT c)) (hshare := fun c => (rdat m c).share_full fun _ => rfl)
    (howed := fun _ _ => rfl) (V := V m) (hmain := hmain m Variants.none) (hA := fun _ _ => rfl)
    (hpf := fun c k => by obtain rfl := dev_eq c 0; rfl)
    (hin := fun _ => .rfl) (hout := fun c => by
      show Inv m c ⊢ _
      unfold Inv
      iintro ⟨H, -⟩
      iexact H)

/-- The frame of the whole kernel: from tables that fit, the run ends, the arguments as they were and every counter at zero. -/
theorem frame_all (hT : ∀ c, Fits (TV m c)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(h.1 c).2 main_arg0 (Pipeline.mem_restRefs_of (win := spec0) main_arg0 (by decide) (by decide)),
      Pipeline.RDat.FramePost.arr_in h.1 c 2 rfl,
      Pipeline.RDat.FramePost.arr_in h.1 c 3 rfl,
      (h.1 c).2 main_arg3 (Pipeline.mem_restRefs_of (win := spec0) main_arg3 (by decide) (by decide)),
      (h.1 c).2 main_arg4 (Pipeline.mem_restRefs_of (win := spec0) main_arg4 (by decide) (by decide)),
      (h.1 c).2 main_arg5 (Pipeline.mem_restRefs_of (win := spec0) main_arg5 (by decide) (by decide)),
      (h.1 c).2 main_arg6 (Pipeline.mem_restRefs_of (win := spec0) main_arg6 (by decide) (by decide)),
      (h.1 c).2 main_arg7 (Pipeline.mem_restRefs_of (win := spec0) main_arg7 (by decide) (by decide)),
      (h.1 c).2 main_arg8 (Pipeline.mem_restRefs_of (win := spec0) main_arg8 (by decide) (by decide)),
      Pipeline.RDat.FramePost.arr_in h.1 c 0 rfl,
      (h.1 c).2 main_arg10 (Pipeline.mem_restRefs_of (win := spec0) main_arg10 (by decide) (by decide)),
      (h.1 c).2 main_arg11 (Pipeline.mem_restRefs_of (win := spec0) main_arg11 (by decide) (by decide))⟩, h.2⟩) (run_main m ρ hT)

end Cert.KernelIdeal.Body
-- ==== Proof.Base.lean ====
/-
  The base product: the packed four-bit codes read at one entry, in the kernel and in the reference, and the kernel's result array as the
  sum over the input columns. Hand-written, untrusted.
-/
module
public import proofs.«01_k».proof.Proof.Gen.BaseKernelIdeal.Value
public import proofs.«01_k».proof.Proof.Gen.BaseReferenceIdeal.Run
public import Idealize.ShloMosaic.Lib.Pointwise
public import Idealize.ShloMosaic.Lib.Pipeline.ValueKit
@[expose] public section
set_option maxRecDepth 16384
noncomputable section
open Idealize.ShloMosaic Idealize.ShloMosaic.TcCoe Idealize.SL.Sem

namespace Cert.Math

/-- The word of the 4-bit code number `j % 8` of a packed word, as the kernel shifts it out. -/
def codeW (w : BitVec 32) (j : Nat) : BitVec 32 :=
  IntOp.shrsi ArithUnit.vector
    (IntOp.shli ArithUnit.vector w
      (IntOp.subi (28#32) (IntOp.muli (4#32) (IntOp.andi (BitVec.ofNat 32 j) 7#32)))) 28#32

theorem amount_eq (j : Nat) :
    IntOp.subi (28#32) (IntOp.muli (4#32) (IntOp.andi (BitVec.ofNat 32 j) 7#32)) = BitVec.ofNat 32 (28 - 4 * (j % 8)) := by
  have key : ∀ j : Fin 8, IntOp.subi (28#32) (IntOp.muli (4#32) (BitVec.ofNat 32 j.val)) = BitVec.ofNat 32 (28 - 4 * j.val) := by decide
  have hj : j % 8 < 8 := Nat.mod_lt _ (by omega)
  have h : IntOp.andi (BitVec.ofNat 32 j) 7#32 = BitVec.ofNat 32 (j % 8) := by
    apply BitVec.eq_of_toNat_eq
    unfold IntOp.andi
    rw [BitVec.toNat_and, BitVec.toNat_ofNat, BitVec.toNat_ofNat, BitVec.toNat_ofNat,
      show 7 % 2 ^ 32 = 2 ^ 3 - 1 from rfl, Nat.and_two_pow_sub_one_eq_mod]
    omega
  rw [h, key ⟨j % 8, hj⟩]

/-- The code depends on the position within its packed word only. -/
theorem codeW_mod (w : BitVec 32) (j : Nat) : codeW w j = codeW w (j % 8) := by
  unfold codeW; rw [amount_eq, amount_eq, Nat.mod_mod]

theorem codeW_nat (w : BitVec 32) (j : Nat) (hj : j < 8) :
    codeW w j = (w <<< (28 - 4 * j)).sshiftRight 28 := by
  unfold codeW
  rw [amount_eq, Nat.mod_eq_of_lt hj]
  have h1 : (BitVec.ofNat 32 (28 - 4 * j)).toNat = 28 - 4 * j := by
    rw [BitVec.toNat_ofNat]; omega
  unfold IntOp.shli IntOp.shrsi
  rw [if_pos (by decide), if_pos (by rw [h1]; omega), BitVec.shiftLeft_eq', h1]
  rfl

theorem field_code : ∀ k : Fin 16, IntOp.subi (BitVec.ofNat 32 k.val) (IntOp.muli 16#32 ((IntOp.cmpi .sge (BitVec.ofNat 32 k.val) 8#32).setWidth 32))
      = ((BitVec.ofNat 32 k.val) <<< 28).sshiftRight 28 := by decide

/-- The reference's signed field is the kernel's code. -/
theorem field_eq (w : BitVec 32) (j : Nat) (hj : j < 8) :
    IntOp.subi (IntOp.andi (IntOp.shrsi ArithUnit.host w (BitVec.ofNat 32 (4 * j))) 15#32)
      (IntOp.muli 16#32 ((IntOp.cmpi .sge (IntOp.andi (IntOp.shrsi ArithUnit.host w (BitVec.ofNat 32 (4 * j))) 15#32) 8#32).setWidth 32))
      = codeW w j := by
  have h1 : (BitVec.ofNat 32 (4 * j)).toNat = 4 * j := by
    rw [BitVec.toNat_ofNat]; omega
  have hs : IntOp.shrsi ArithUnit.host w (BitVec.ofNat 32 (4 * j)) = w.sshiftRight (4 * j) := by
    unfold IntOp.shrsi; rw [if_pos (by rw [h1]; omega), BitVec.sshiftRight', h1]
  rw [hs, codeW_nat w j hj]
  obtain ⟨k, hk⟩ : ∃ k : Fin 16, IntOp.andi (w.sshiftRight (4 * j)) 15#32 = BitVec.ofNat 32 k.val := by
    refine ⟨⟨(IntOp.andi (w.sshiftRight (4 * j)) 15#32).toNat, ?_⟩, ?_⟩
    · unfold IntOp.andi
      rw [BitVec.toNat_and, show (15#32).toNat = 2 ^ 4 - 1 from rfl, Nat.and_two_pow_sub_one_eq_mod]
      exact Nat.mod_lt _ (by decide)
    · simp
  have hb : ∀ i : Nat, i < 4 → (w <<< (28 - 4 * j)).getLsbD (28 + i) =
      ((IntOp.andi (w.sshiftRight (4 * j)) 15#32) <<< 28).getLsbD (28 + i) := by
    intro i hi
    have h15 : (15#32).getLsbD i = true := by
      have : ∀ i : Fin 4, (15#32).getLsbD i.val = true := by decide
      exact this ⟨i, hi⟩
    have e1 : 28 + i - (28 - 4 * j) = 4 * j + i := by omega
    have e2 : 28 + i - 28 = i := by omega
    unfold IntOp.andi
    rw [BitVec.getLsbD_shiftLeft, BitVec.getLsbD_shiftLeft, BitVec.getLsbD_and, e1, e2, h15,
      BitVec.getLsbD_sshiftRight]
    have c1 : (28 + i < 32) := by omega
    have c2 : ¬ (28 + i < 28 - 4 * j) := by omega
    have c3 : ¬ (28 + i < 28) := by omega
    have c4 : ¬ (32 ≤ i) := by omega
    have c5 : 4 * j + i < 32 := by omega
    simp [c1, c2, c4, c5]
  have hsl : (w <<< (28 - 4 * j)).sshiftRight 28 =
      ((IntOp.andi (w.sshiftRight (4 * j)) 15#32) <<< 28).sshiftRight 28 := by
    apply BitVec.eq_of_getLsbD_eq
    intro i hi
    rw [BitVec.getLsbD_sshiftRight, BitVec.getLsbD_sshiftRight]
    have h3 := hb 3 (by decide)
    by_cases h : 28 + i < 32
    · rw [if_pos h, if_pos h, hb i (by omega)]
    · rw [if_neg h, if_neg h, BitVec.msb_eq_getLsbD_last, BitVec.msb_eq_getLsbD_last]
      exact congrArg (fun b => !decide (32 ≤ i) && b) h3
  rw [hsl, hk]
  exact field_code k
end Cert.Math
namespace Cert.BaseReferenceIdeal.Base
open Cert.BaseReferenceIdeal Cert.BaseReferenceIdeal.Gen Cert.Math

/-- One product of the base sum: token `t`, output column `n`, input column `k`. -/
def G (x : FVec Ideal S2x128x7168 .bf16) (w : IVec S896x18432 32) (s : FVec Ideal S56x18432 .bf16)
    (t : Fin 256) (n : Fin 18432) (k : Fin 7168) : EReal :=
  x (ix3 ⟨t.val / 128, by omega⟩ ⟨t.val % 128, by omega⟩ k)
    * ((FloatOps.sitofp .bf16 (codeW (w (ix2 ⟨k.val / 8, by omega⟩ n)) k.val) : Ideal .bf16)
        * s (ix2 ⟨k.val / 128, by omega⟩ n))

theorem term_eq (x : FVec Ideal S2x128x7168 .bf16) (w : IVec S896x18432 32) (s : FVec Ideal S56x18432 .bf16)
    (t : Fin 256) (n : Fin 18432) (j : Nat) (hj : j < 8) (r : Fin 896) (v : BitVec 32)
    (hv : v = codeW (w (ix2 r n)) j) (q : Fin 7168) (hq : q.val = j + 8 * r.val) (q' : Fin 56) (hq' : q'.val = r.val / 16) :
    (x (ix3 ⟨t.val / 128, by omega⟩ ⟨t.val % 128, by omega⟩ q)
      * ((FloatOps.sitofp .bf16 v : Ideal .bf16) * s (ix2 q' n)) : EReal)
      = G x w s t n ⟨j + 8 * r.val, by omega⟩ := by
  have e1 : q = ⟨j + 8 * r.val, by omega⟩ := Fin.ext hq
  have e2 : (⟨(j + 8 * r.val) / 8, by omega⟩ : Fin 896) = r := Fin.ext (by show (j + 8 * r.val) / 8 = r.val; omega)
  have e3 : (⟨(j + 8 * r.val) / 128, by omega⟩ : Fin 56) = q' := Fin.ext (by show (j + 8 * r.val) / 128 = q'.val; omega)
  have e4 : codeW (w (ix2 r n)) (j + 8 * r.val) = codeW (w (ix2 r n)) j := by
    rw [codeW_mod _ (j + 8 * r.val), codeW_mod _ j]; congr 1; omega
  unfold G
  dsimp only
  rw [e2, e3, e4, hv]
  exact congrArg (fun z => x (ix3 _ _ z) * _) e1

/-- A sum over the input columns, regrouped by the position in the packed word. -/
theorem regroup (f : Fin 7168 → EReal) :
    ∑ k, f k = ∑ j : Fin 8, ∑ r : Fin 896, f ⟨j.val + 8 * r.val, by omega⟩ := by
  rw [← (finProdFinEquiv (m := 896) (n := 8)).sum_comp f, Fintype.sum_prod_type, Finset.sum_comm]
  rfl

/-- Field 0: what the reference adds for it, read at one entry. -/
theorem part0 (x : FVec Ideal S2x128x7168 .bf16) (w : IVec S896x18432 32) (s : FVec Ideal S56x18432 .bf16)
    (t : Fin 256) (n : Fin 18432) :
    ((Host.dotGeneral dot_S256x896_S896x18432_S256x18432_1_0_0_1_n_n none (Host.slice S256x896 ![0, 0] ![1, 8] (shapeCast _ x shapeCasts_S2x128x7168_S256x7168) slicesBy_S256x7168_S256x896_0s1_0s8) (mulf (sitofp .bf16 (subi (andi (Host.shrsi w (broadcastInDim S896x18432 ![] bcast_S_S896x18432 (constantI S_ 32 0#32))) (broadcastInDim S896x18432 ![] bcast_S_S896x18432 (constantI S_ 32 15#32))) (muli (broadcastInDim S896x18432 ![] bcast_S_S896x18432 (constantI S_ 32 16#32)) (extui 32 (cmpi .sge (andi (Host.shrsi w (broadcastInDim S896x18432 ![] bcast_S_S896x18432 (constantI S_ 32 0#32))) (broadcastInDim S896x18432 ![] bcast_S_S896x18432 (constantI S_ 32 15#32))) (broadcastInDim S896x18432 ![] bcast_S_S896x18432 (constantI S_ 32 8#32))) natLt_1_32)))) (shapeCast _ (broadcastInDim S56x16x18432 ![0, 2] bcast_S56x18432_S56x16x18432_0_2 s) shapeCasts_S56x16x18432_S896x18432))) : FVec Ideal S256x18432 .f32) (ix2 t n)
      = ∑ r : Fin 896, G x w s t n ⟨0 + 8 * r.val, by omega⟩ := by
  pointwise
  refine Finset.sum_congr rfl fun r _ => ?_
  exact (term_eq x w s t n 0 (by decide) r _ (field_eq _ 0 (by decide)) ⟨8 * r.val, by omega⟩ (Nat.zero_add _).symm ⟨r.val / 16, by omega⟩ rfl).trans
    (congrArg (G x w s t n) (Fin.ext (Nat.zero_add _)))

/-- Field 1: what the reference adds for it, read at one entry. -/
theorem part1 (x : FVec Ideal S2x128x7168 .bf16) (w : IVec S896x18432 32) (s : FVec Ideal S56x18432 .bf16)
    (t : Fin 256) (n : Fin 18432) :
    ((Host.dotGeneral dot_S256x896_S896x18432_S256x18432_1_0_0_1_n_n none (Host.slice S256x896 ![0, 1] ![1, 8] (shapeCast _ x shapeCasts_S2x128x7168_S256x7168) slicesBy_S256x7168_S256x896_0s1_1s8) (mulf (sitofp .bf16 (subi (andi (Host.shrsi w (broadcastInDim S896x18432 ![] bcast_S_S896x18432 (constantI S_ 32 4#32))) (broadcastInDim S896x18432 ![] bcast_S_S896x18432 (constantI S_ 32 15#32))) (muli (broadcastInDim S896x18432 ![] bcast_S_S896x18432 (constantI S_ 32 16#32)) (extui 32 (cmpi .sge (andi (Host.shrsi w (broadcastInDim S896x18432 ![] bcast_S_S896x18432 (constantI S_ 32 4#32))) (broadcastInDim S896x18432 ![] bcast_S_S896x18432 (constantI S_ 32 15#32))) (broadcastInDim S896x18432 ![] bcast_S_S896x18432 (constantI S_ 32 8#32))) natLt_1_32)))) (shapeCast _ (broadcastInDim S56x16x18432 ![0, 2] bcast_S56x18432_S56x16x18432_0_2 s) shapeCasts_S56x16x18432_S896x18432))) : FVec Ideal S256x18432 .f32) (ix2 t n)
      = ∑ r : Fin 896, G x w s t n ⟨1 + 8 * r.val, by omega⟩ := by
  pointwise
  refine Finset.sum_congr rfl fun r _ => ?_
  exact term_eq x w s t n 1 (by decide) r _ (field_eq _ 1 (by decide)) ⟨1 + 8 * r.val, by omega⟩ rfl ⟨r.val / 16, by omega⟩ rfl

/-- Field 2: what the reference adds for it, read at one entry. -/
theorem part2 (x : FVec Ideal S2x128x7168 .bf16) (w : IVec S896x18432 32) (s : FVec Ideal S56x18432 .bf16)
    (t : Fin 256) (n : Fin 18432) :
    ((Host.dotGeneral dot_S256x896_S896x18432_S256x18432_1_0_0_1_n_n none (Host.slice S256x896 ![0, 2] ![1, 8] (shapeCast _ x shapeCasts_S2x128x7168_S256x7168) slicesBy_S256x7168_S256x896_0s1_2s8) (mulf (sitofp .bf16 (subi (andi (Host.shrsi w (broadcastInDim S896x18432 ![] bcast_S_S896x18432 (constantI S_ 32 8#32))) (broadcastInDim S896x18432 ![] bcast_S_S896x18432 (constantI S_ 32 15#32))) (muli (broadcastInDim S896x18432 ![] bcast_S_S896x18432 (constantI S_ 32 16#32)) (extui 32 (cmpi .sge (andi (Host.shrsi w (broadcastInDim S896x18432 ![] bcast_S_S896x18432 (constantI S_ 32 8#32))) (broadcastInDim S896x18432 ![] bcast_S_S896x18432 (constantI S_ 32 15#32))) (broadcastInDim S896x18432 ![] bcast_S_S896x18432 (constantI S_ 32 8#32))) natLt_1_32)))) (shapeCast _ (broadcastInDim S56x16x18432 ![0, 2] bcast_S56x18432_S56x16x18432_0_2 s) shapeCasts_S56x16x18432_S896x18432))) : FVec Ideal S256x18432 .f32) (ix2 t n)
      = ∑ r : Fin 896, G x w s t n ⟨2 + 8 * r.val, by omega⟩ := by
  pointwise
  refine Finset.sum_congr rfl fun r _ => ?_
  exact term_eq x w s t n 2 (by decide) r _ (field_eq _ 2 (by decide)) ⟨2 + 8 * r.val, by omega⟩ rfl ⟨r.val / 16, by omega⟩ rfl

/-- Field 3: what the reference adds for it, read at one entry. -/
theorem part3 (x : FVec Ideal S2x128x7168 .bf16) (w : IVec S896x18432 32) (s : FVec Ideal S56x18432 .bf16)
    (t : Fin 256) (n : Fin 18432) :
    ((Host.dotGeneral dot_S256x896_S896x18432_S256x18432_1_0_0_1_n_n none (Host.slice S256x896 ![0, 3] ![1, 8] (shapeCast _ x shapeCasts_S2x128x7168_S256x7168) slicesBy_S256x7168_S256x896_0s1_3s8) (mulf (sitofp .bf16 (subi (andi (Host.shrsi w (broadcastInDim S896x18432 ![] bcast_S_S896x18432 (constantI S_ 32 12#32))) (broadcastInDim S896x18432 ![] bcast_S_S896x18432 (constantI S_ 32 15#32))) (muli (broadcastInDim S896x18432 ![] bcast_S_S896x18432 (constantI S_ 32 16#32)) (extui 32 (cmpi .sge (andi (Host.shrsi w (broadcastInDim S896x18432 ![] bcast_S_S896x18432 (constantI S_ 32 12#32))) (broadcastInDim S896x18432 ![] bcast_S_S896x18432 (constantI S_ 32 15#32))) (broadcastInDim S896x18432 ![] bcast_S_S896x18432 (constantI S_ 32 8#32))) natLt_1_32)))) (shapeCast _ (broadcastInDim S56x16x18432 ![0, 2] bcast_S56x18432_S56x16x18432_0_2 s) shapeCasts_S56x16x18432_S896x18432))) : FVec Ideal S256x18432 .f32) (ix2 t n)
      = ∑ r : Fin 896, G x w s t n ⟨3 + 8 * r.val, by omega⟩ := by
  pointwise
  refine Finset.sum_congr rfl fun r _ => ?_
  exact term_eq x w s t n 3 (by decide) r _ (field_eq _ 3 (by decide)) ⟨3 + 8 * r.val, by omega⟩ rfl ⟨r.val / 16, by omega⟩ rfl

/-- Field 4: what the reference adds for it, read at one entry. -/
theorem part4 (x : FVec Ideal S2x128x7168 .bf16) (w : IVec S896x18432 32) (s : FVec Ideal S56x18432 .bf16)
    (t : Fin 256) (n : Fin 18432) :
    ((Host.dotGeneral dot_S256x896_S896x18432_S256x18432_1_0_0_1_n_n none (Host.slice S256x896 ![0, 4] ![1, 8] (shapeCast _ x shapeCasts_S2x128x7168_S256x7168) slicesBy_S256x7168_S256x896_0s1_4s8) (mulf (sitofp .bf16 (subi (andi (Host.shrsi w (broadcastInDim S896x18432 ![] bcast_S_S896x18432 (constantI S_ 32 16#32))) (broadcastInDim S896x18432 ![] bcast_S_S896x18432 (constantI S_ 32 15#32))) (muli (broadcastInDim S896x18432 ![] bcast_S_S896x18432 (constantI S_ 32 16#32)) (extui 32 (cmpi .sge (andi (Host.shrsi w (broadcastInDim S896x18432 ![] bcast_S_S896x18432 (constantI S_ 32 16#32))) (broadcastInDim S896x18432 ![] bcast_S_S896x18432 (constantI S_ 32 15#32))) (broadcastInDim S896x18432 ![] bcast_S_S896x18432 (constantI S_ 32 8#32))) natLt_1_32)))) (shapeCast _ (broadcastInDim S56x16x18432 ![0, 2] bcast_S56x18432_S56x16x18432_0_2 s) shapeCasts_S56x16x18432_S896x18432))) : FVec Ideal S256x18432 .f32) (ix2 t n)
      = ∑ r : Fin 896, G x w s t n ⟨4 + 8 * r.val, by omega⟩ := by
  pointwise
  refine Finset.sum_congr rfl fun r _ => ?_
  exact term_eq x w s t n 4 (by decide) r _ (field_eq _ 4 (by decide)) ⟨4 + 8 * r.val, by omega⟩ rfl ⟨r.val / 16, by omega⟩ rfl

/-- Field 5: what the reference adds for it, read at one entry. -/
theorem part5 (x : FVec Ideal S2x128x7168 .bf16) (w : IVec S896x18432 32) (s : FVec Ideal S56x18432 .bf16)
    (t : Fin 256) (n : Fin 18432) :
    ((Host.dotGeneral dot_S256x896_S896x18432_S256x18432_1_0_0_1_n_n none (Host.slice S256x896 ![0, 5] ![1, 8] (shapeCast _ x shapeCasts_S2x128x7168_S256x7168) slicesBy_S256x7168_S256x896_0s1_5s8) (mulf (sitofp .bf16 (subi (andi (Host.shrsi w (broadcastInDim S896x18432 ![] bcast_S_S896x18432 (constantI S_ 32 20#32))) (broadcastInDim S896x18432 ![] bcast_S_S896x18432 (constantI S_ 32 15#32))) (muli (broadcastInDim S896x18432 ![] bcast_S_S896x18432 (constantI S_ 32 16#32)) (extui 32 (cmpi .sge (andi (Host.shrsi w (broadcastInDim S896x18432 ![] bcast_S_S896x18432 (constantI S_ 32 20#32))) (broadcastInDim S896x18432 ![] bcast_S_S896x18432 (constantI S_ 32 15#32))) (broadcastInDim S896x18432 ![] bcast_S_S896x18432 (constantI S_ 32 8#32))) natLt_1_32)))) (shapeCast _ (broadcastInDim S56x16x18432 ![0, 2] bcast_S56x18432_S56x16x18432_0_2 s) shapeCasts_S56x16x18432_S896x18432))) : FVec Ideal S256x18432 .f32) (ix2 t n)
      = ∑ r : Fin 896, G x w s t n ⟨5 + 8 * r.val, by omega⟩ := by
  pointwise
  refine Finset.sum_congr rfl fun r _ => ?_
  exact term_eq x w s t n 5 (by decide) r _ (field_eq _ 5 (by decide)) ⟨5 + 8 * r.val, by omega⟩ rfl ⟨r.val / 16, by omega⟩ rfl

/-- Field 6: what the reference adds for it, read at one entry. -/
theorem part6 (x : FVec Ideal S2x128x7168 .bf16) (w : IVec S896x18432 32) (s : FVec Ideal S56x18432 .bf16)
    (t : Fin 256) (n : Fin 18432) :
    ((Host.dotGeneral dot_S256x896_S896x18432_S256x18432_1_0_0_1_n_n none (Host.slice S256x896 ![0, 6] ![1, 8] (shapeCast _ x shapeCasts_S2x128x7168_S256x7168) slicesBy_S256x7168_S256x896_0s1_6s8) (mulf (sitofp .bf16 (subi (andi (Host.shrsi w (broadcastInDim S896x18432 ![] bcast_S_S896x18432 (constantI S_ 32 24#32))) (broadcastInDim S896x18432 ![] bcast_S_S896x18432 (constantI S_ 32 15#32))) (muli (broadcastInDim S896x18432 ![] bcast_S_S896x18432 (constantI S_ 32 16#32)) (extui 32 (cmpi .sge (andi (Host.shrsi w (broadcastInDim S896x18432 ![] bcast_S_S896x18432 (constantI S_ 32 24#32))) (broadcastInDim S896x18432 ![] bcast_S_S896x18432 (constantI S_ 32 15#32))) (broadcastInDim S896x18432 ![] bcast_S_S896x18432 (constantI S_ 32 8#32))) natLt_1_32)))) (shapeCast _ (broadcastInDim S56x16x18432 ![0, 2] bcast_S56x18432_S56x16x18432_0_2 s) shapeCasts_S56x16x18432_S896x18432))) : FVec Ideal S256x18432 .f32) (ix2 t n)
      = ∑ r : Fin 896, G x w s t n ⟨6 + 8 * r.val, by omega⟩ := by
  pointwise
  refine Finset.sum_congr rfl fun r _ => ?_
  exact term_eq x w s t n 6 (by decide) r _ (field_eq _ 6 (by decide)) ⟨6 + 8 * r.val, by omega⟩ rfl ⟨r.val / 16, by omega⟩ rfl

/-- Field 7: what the reference adds for it, read at one entry. -/
theorem part7 (x : FVec Ideal S2x128x7168 .bf16) (w : IVec S896x18432 32) (s : FVec Ideal S56x18432 .bf16)
    (t : Fin 256) (n : Fin 18432) :
    ((Host.dotGeneral dot_S256x896_S896x18432_S256x18432_1_0_0_1_n_n none (Host.slice S256x896 ![0, 7] ![1, 8] (shapeCast _ x shapeCasts_S2x128x7168_S256x7168) slicesBy_S256x7168_S256x896_0s1_7s8) (mulf (sitofp .bf16 (subi (andi (Host.shrsi w (broadcastInDim S896x18432 ![] bcast_S_S896x18432 (constantI S_ 32 28#32))) (broadcastInDim S896x18432 ![] bcast_S_S896x18432 (constantI S_ 32 15#32))) (muli (broadcastInDim S896x18432 ![] bcast_S_S896x18432 (constantI S_ 32 16#32)) (extui 32 (cmpi .sge (andi (Host.shrsi w (broadcastInDim S896x18432 ![] bcast_S_S896x18432 (constantI S_ 32 28#32))) (broadcastInDim S896x18432 ![] bcast_S_S896x18432 (constantI S_ 32 15#32))) (broadcastInDim S896x18432 ![] bcast_S_S896x18432 (constantI S_ 32 8#32))) natLt_1_32)))) (shapeCast _ (broadcastInDim S56x16x18432 ![0, 2] bcast_S56x18432_S56x16x18432_0_2 s) shapeCasts_S56x16x18432_S896x18432))) : FVec Ideal S256x18432 .f32) (ix2 t n)
      = ∑ r : Fin 896, G x w s t n ⟨7 + 8 * r.val, by omega⟩ := by
  pointwise
  refine Finset.sum_congr rfl fun r _ => ?_
  exact term_eq x w s t n 7 (by decide) r _ (field_eq _ 7 (by decide)) ⟨7 + 8 * r.val, by omega⟩ rfl ⟨r.val / 16, by omega⟩ rfl

/-- The chain of additions of the eight fields, read at one entry. -/
theorem chain (a0 a1 a2 a3 a4 a5 a6 a7 : FVec Ideal S256x18432 .f32) (t : Fin 256) (n : Fin 18432) :
    (addf (addf (addf (addf (addf (addf (addf (addf (broadcastInDim S256x18432 ![] bcast_S_S256x18432 (constant S_ .f32 0x00000000#32)) a0) a1) a2) a3) a4) a5) a6) a7 : FVec Ideal S256x18432 .f32) (ix2 t n)
      = (a0 (ix2 t n) + a1 (ix2 t n) + a2 (ix2 t n) + a3 (ix2 t n) + a4 (ix2 t n) + a5 (ix2 t n) + a6 (ix2 t n) + a7 (ix2 t n) : EReal) := by
  pointwise

/-- The base product of the reference at one entry, from the contents of its three operands. -/
theorem ref_apply (m : (ℓ : Loc nD τ sig) → Buf (Elt Ideal) ℓ) (c : Dev nD) (t : Fin 256) (n : Fin 18432)
    (x : FVec Ideal S2x128x7168 .bf16) (w : IVec S896x18432 32) (s : FVec Ideal S56x18432 .bf16)
    (hx : m ((c.tc : Thread nD τ).loc main_arg0) = x) (hw : m ((c.tc : Thread nD τ).loc main_arg1) = w)
    (hs : m ((c.tc : Thread nD τ).loc main_arg2) = s) :
    (Value.res_main_v124 m c : FVec Ideal S256x18432 .bf16) (ix2 t n) = ∑ k, G x w s t n k := by
  rw [regroup, Fin.sum_univ_eight]
  unfold Value.res_main_v124
  rw [hx, hw, hs]
  refine (chain _ _ _ _ _ _ _ _ t n).trans ?_
  rw [part0, part1, part2, part3, part4, part5, part6, part7]
  rfl
end Cert.BaseReferenceIdeal.Base
namespace Cert.BaseKernelIdeal.Base
open Cert.BaseKernelIdeal Cert.BaseKernelIdeal.Gen Cert.Math

/-- The kernel's block of the base product at one entry. -/
theorem pay_apply (w : Vec Ideal S896x1024 .i32) (s : Vec Ideal S56x1024 .bf16) (x : Vec Ideal S256x7168 .bf16)
    (t : Fin 256) (n : Fin 1024) :
    k0_pay1 w s x (ix2 t n) = (∑ k : Fin 7168, x (ix2 t k) * ((FloatOps.sitofp .bf16 (codeW (w (ix2 ⟨k.val / 8, by omega⟩ n)) k.val) : Ideal .bf16)
        * s (ix2 ⟨k.val / 128, by omega⟩ n)) : EReal) := by
  pointwise [k0_pay1]
  rfl
end Cert.BaseKernelIdeal.Base
namespace Cert.BaseKernelIdeal.Base
open Cert.BaseKernelIdeal Cert.BaseKernelIdeal.Gen Cert.Math
open Idealize.ShloMosaic.Pipeline (Dat)

variable (m : (ℓ : Loc nD τ sig) → Buf (Elt Ideal) ℓ)

/-- The reshaped activations as the region finds them. -/
theorem V_x (c : Dev nD) (x : FVec Ideal S2x128x7168 .bf16) (hx : m ((c.tc : Thread nD τ).loc main_arg0) = x) :
    V m c main_v0 = (shapeCast S256x7168 x shapeCasts_S2x128x7168_S256x7168 : FVec Ideal S256x7168 .bf16) := by
  subst hx
  show StableHlo.after hostOps0 _ _ = _
  after_results_simp <;> rfl

/-- The base product from the three argument arrays. -/
def base (x : FVec Ideal S2x128x7168 .bf16) (w : IVec S896x18432 32) (s : FVec Ideal S56x18432 .bf16) : FVec Ideal S256x18432 .bf16 :=
  fun i => (∑ k, Cert.BaseReferenceIdeal.Base.G x w s (i 0) (i 1) k : EReal)

/-- Where each window's block lies at a grid point. -/
theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)

/-- The array the kernel leaves is the base product. -/
theorem final (c : Dev nD) (x : FVec Ideal S2x128x7168 .bf16) (w : IVec S896x18432 32) (s : FVec Ideal S56x18432 .bf16)
    (hx : m ((c.tc : Thread nD τ).loc main_arg0) = x) (hw : m ((c.tc : Thread nD τ).loc main_arg1) = w)
    (hs : m ((c.tc : Thread nD τ).loc main_arg2) = s) :
    (dats m 0 c).arrAt 3 cfg0.N = base x w s := by
  refine (dats m 0 c).arrAt_eq_of_covers 3 _ (by decide +kernel) fun t hf y => ?_
  blk_simp
  rw [after0_3]
  frame_out
  have ht : t.val < 18 := lt_of_lt_of_eq t.isLt N_0
  obtain ⟨a, b, rfl⟩ : ∃ (a : Fin 256) (b : Fin 1024), y = ix2 a b := ⟨y 0, y 1, by funext k; match k with | ⟨0, _⟩ => rfl | ⟨1, _⟩ => rfl⟩
  refine (pay_apply _ _ _ a b).trans ?_
  have hp : (((View.whole main_v1).slice (win0_3.rect t)).emb (ix2 a b) : S256x18432.Idx)
      = ix2 a ⟨t.val * 1024 + b.val, by omega⟩ := by
    blk_ext [idx3 t]
  rw [hp]
  refine Finset.sum_congr rfl fun k _ => ?_
  have e1 : (iblk m c 1 t : IVec S896x1024 32) (ix2 ⟨k.val / 8, by omega⟩ b)
      = w (ix2 ⟨k.val / 8, by omega⟩ ⟨t.val * 1024 + b.val, by omega⟩) := by
    blk_simp [iblk]
    show V m c main_arg1 _ = _
    rw [V_main_arg1, hw]
    blk_ext [idx1 t]
  have e2 : (iblk m c 2 t : FVec Ideal S56x1024 .bf16) (ix2 ⟨k.val / 128, by omega⟩ b)
      = s (ix2 ⟨k.val / 128, by omega⟩ ⟨t.val * 1024 + b.val, by omega⟩) := by
    blk_simp [iblk]
    show V m c main_arg2 _ = _
    rw [V_main_arg2, hs]
    blk_ext [idx2 t]
  have e0 : (iblk m c 0 t : FVec Ideal S256x7168 .bf16) (ix2 a k)
      = x (ix3 ⟨a.val / 128, by omega⟩ ⟨a.val % 128, by omega⟩ k) := by
    blk_simp [iblk]
    show V m c main_v0 _ = _
    rw [V_x m c x hx]
    have : (((View.whole main_v0).slice (win0_0.rect t)).emb (ix2 a k) : S256x7168.Idx) = ix2 a k := by
      blk_ext [idx0 t]
    refine (congrArg _ this).trans ?_
    pointwise
  unfold Cert.BaseReferenceIdeal.Base.G
  exact congrArg₂ (fun p q : EReal => p * q) e0 (congrArg₂ (fun p q : EReal => p * q) (congrArg (fun v => (FloatOps.sitofp .bf16 (codeW v k.val) : Ideal .bf16)) e1) e2)
end Cert.BaseKernelIdeal.Base
-- ==== Proof.Expand.lean ====
/-
  The base product plus the expand of the adapters: the kernel's result array and the reference's at one entry. Hand-written, untrusted.
-/
module
public import proofs.«01_k».proof.Proof.Base
public import proofs.«01_k».proof.Proof.Gen.ExpandKernelIdeal.Value
public import proofs.«01_k».proof.Proof.Gen.ExpandReferenceIdeal.Run
public import Idealize.ShloMosaic.Lib.Pointwise
public import Idealize.ShloMosaic.Lib.Pipeline.ValueKit
@[expose] public section
set_option maxRecDepth 16384
noncomputable section
open Idealize.ShloMosaic Idealize.ShloMosaic.TcCoe Idealize.SL.Sem

namespace Cert.ExpandReferenceIdeal.Base
open Cert.ExpandReferenceIdeal Cert.ExpandReferenceIdeal.Gen Cert.Math

/-- One product of the expand, zero past the rows in use: token `t`, output column `n`, staged row `r`. -/
def E (h : FVec Ideal S6x256x256 .bf16) (b : IVec S1536x18432 8) (sc : FVec Ideal S1536x128 .bf16) (tot : BitVec 32)
    (t : Fin 256) (n : Fin 18432) (r : Fin 1536) : EReal :=
  Scalar.select (IntOp.cmpi .slt (BitVec.ofNat 32 r.val) tot)
    (h (ix3 ⟨r.val / 256, by omega⟩ t ⟨r.val % 256, by omega⟩)
      * ((FloatOps.sitofp .bf16 (b (ix2 r n)) : Ideal .bf16) * sc (ix2 r ⟨n.val % 128, by omega⟩)) : EReal) 0

theorem sitofp_ext (v : BitVec 8) : (FloatOps.sitofp .bf16 (BitVec.signExtend 32 v) : Ideal .bf16) = FloatOps.sitofp .bf16 v := by
  show (((BitVec.signExtend 32 v).toInt : ℝ) : EReal) = ((v.toInt : ℝ) : EReal)
  rw [BitVec.toInt_signExtend_of_le (by decide)]

/-- The reference's expand product at one entry. -/
theorem expand_apply (h : FVec Ideal S6x256x256 .bf16) (b : IVec S1536x18432 8) (sc : FVec Ideal S1536x128 .bf16) (tot : IVec S1 32)
    (t : Fin 256) (n : Fin 18432) :
    (Host.dotGeneral dot_S256x1536_S1536x18432_S256x18432_1_0_0_1_n_n none (shapeCast _ (transpose S256x6x256 [1, 0, 2] h transposes_S6x256x256_S256x6x256_1_0_2) shapeCasts_S256x6x256_S256x1536) (select (broadcastInDim S1536x18432 ![0, 1] bcast_S1536x1_S1536x18432_0_1 (cmpi .slt (broadcastInDim S1536x1 ![0] bcast_S1536_S1536x1_0 (iotaInDim S1536 32 0)) (broadcastInDim S1536x1 ![] bcast_S_S1536x1 (shapeCast _ tot shapeCasts_S1_S_)))) (mulf (sitofp .bf16 (extsi 32 b natLt_8_32)) (shapeCast _ (broadcastInDim S1x1536x144x128 ![0, 1, 2, 3] bcast_S1x1536x1x128_S1x1536x144x128_0_1_2_3 (shapeCast _ sc shapeCasts_S1536x128_S1x1536x1x128)) shapeCasts_S1x1536x144x128_S1536x18432)) (broadcastInDim S1536x18432 ![] bcast_S_S1536x18432 (constant S_ .bf16 0x0000#16))) : FVec Ideal S256x18432 .f32) (ix2 t n)
      = ∑ r : Fin 1536, E h b sc (tot (ix1 0)) t n r := by
  pointwise
  refine Finset.sum_congr rfl fun r _ => ?_
  rw [sitofp_ext]
  rfl

/-- A sum over the staged rows, by blocks of 256. -/
theorem regroup (f : Fin 1536 → EReal) :
    ∑ k, f k = ∑ j : Fin 6, ∑ r : Fin 256, f ⟨r.val + 256 * j.val, by omega⟩ := by
  rw [← (finProdFinEquiv (m := 6) (n := 256)).sum_comp f, Fintype.sum_prod_type]
  rfl

/-- The reference's result at one entry. -/
theorem ref_apply (m : (ℓ : Loc nD τ sig) → Buf (Elt Ideal) ℓ) (c : Dev nD) (t : Fin 256) (n : Fin 18432)
    (x : FVec Ideal S2x128x7168 .bf16) (w : IVec S896x18432 32) (s : FVec Ideal S56x18432 .bf16)
    (h : FVec Ideal S6x256x256 .bf16) (b : IVec S1536x18432 8) (sc : FVec Ideal S1536x128 .bf16) (tot : IVec S1 32)
    (hx : m ((c.tc : Thread nD τ).loc main_arg0) = x) (hw : m ((c.tc : Thread nD τ).loc main_arg1) = w)
    (hs : m ((c.tc : Thread nD τ).loc main_arg2) = s) (hh : m ((c.tc : Thread nD τ).loc main_arg3) = h)
    (hb : m ((c.tc : Thread nD τ).loc main_arg4) = b) (hsc : m ((c.tc : Thread nD τ).loc main_arg5) = sc)
    (ht : m ((c.tc : Thread nD τ).loc main_arg6) = tot) :
    (Value.res_main_v140 m c : FVec Ideal S256x18432 .bf16) (ix2 t n)
      = (∑ k, Cert.BaseReferenceIdeal.Base.G x w s t n k : EReal) + ∑ r, E h b sc (tot (ix1 0)) t n r := by
  unfold Value.res_main_v140
  rw [hx, hw, hs, hh, hb, hsc, ht]
  refine congrArg₂ (fun p q : EReal => p + q) ?_ (expand_apply h b sc tot t n)
  rw [Cert.BaseReferenceIdeal.Base.regroup, Fin.sum_univ_eight]
  refine (Cert.BaseReferenceIdeal.Base.chain _ _ _ _ _ _ _ _ t n).trans ?_
  exact congrArg₂ (fun p q : EReal => p + q) (congrArg₂ (fun p q : EReal => p + q) (congrArg₂ (fun p q : EReal => p + q)
    (congrArg₂ (fun p q : EReal => p + q) (congrArg₂ (fun p q : EReal => p + q) (congrArg₂ (fun p q : EReal => p + q)
    (congrArg₂ (fun p q : EReal => p + q) (Cert.BaseReferenceIdeal.Base.part0 x w s t n) (Cert.BaseReferenceIdeal.Base.part1 x w s t n))
    (Cert.BaseReferenceIdeal.Base.part2 x w s t n)) (Cert.BaseReferenceIdeal.Base.part3 x w s t n))
    (Cert.BaseReferenceIdeal.Base.part4 x w s t n)) (Cert.BaseReferenceIdeal.Base.part5 x w s t n))
    (Cert.BaseReferenceIdeal.Base.part6 x w s t n)) (Cert.BaseReferenceIdeal.Base.part7 x w s t n)
end Cert.ExpandReferenceIdeal.Base
namespace Cert.ExpandKernelIdeal.Base
open Cert.ExpandKernelIdeal Cert.ExpandKernelIdeal.Gen Cert.Math
open Idealize.ShloMosaic.Pipeline (Dat)

variable (m : (ℓ : Loc nD τ sig) → Buf (Elt Ideal) ℓ)

/-- The base product of a block at one entry. -/
theorem pay2_apply (w : Vec Ideal S896x1024 .i32) (s : Vec Ideal S56x1024 .bf16) (x : Vec Ideal S256x7168 .bf16)
    (t : Fin 256) (n : Fin 1024) :
    k0_pay2 w s x (ix2 t n) = (∑ k : Fin 7168, x (ix2 t k) * ((FloatOps.sitofp .bf16 (codeW (w (ix2 ⟨k.val / 8, by omega⟩ n)) k.val) : Ideal .bf16)
        * s (ix2 ⟨k.val / 128, by omega⟩ n)) : EReal) := by
  pointwise [k0_pay2]
  rfl

/-- The activations as the region finds them. -/
theorem V_x (c : Dev nD) (x : FVec Ideal S2x128x7168 .bf16) (hx : m ((c.tc : Thread nD τ).loc main_arg0) = x) :
    V m c main_v0 = (shapeCast S256x7168 x shapeCasts_S2x128x7168_S256x7168 : FVec Ideal S256x7168 .bf16) := by
  subst hx
  show StableHlo.after hostOps0 _ _ = _
  after_results_simp <;> rfl

/-- The result from the seven argument arrays. -/
def result (x : FVec Ideal S2x128x7168 .bf16) (w : IVec S896x18432 32) (s : FVec Ideal S56x18432 .bf16)
    (h : FVec Ideal S6x256x256 .bf16) (b : IVec S1536x18432 8) (sc : FVec Ideal S1536x128 .bf16) (tot : IVec S1 32) : FVec Ideal S256x18432 .bf16 :=
  fun i => (∑ k, Cert.BaseReferenceIdeal.Base.G x w s (i 0) (i 1) k : EReal) + ∑ r, Cert.ExpandReferenceIdeal.Base.E h b sc (tot (ix1 0)) (i 0) (i 1) r

/-- Where each window's block lies at a grid point. -/
theorem idx0 : ∀ t : Fin cfg0.N, win0_0.index t = ![0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, t.val] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, t.val] := (by decide +kernel : ∀ t : Fin grid0.N, _)

/-- Eight copies of a row of 128 side by side, read at one column. -/
theorem ladder (f : Fin 128 → EReal) (b : Fin 1024) :
    (if h : b.val < 128 then f ⟨b.val, h⟩
      else if h : b.val - 128 < 128 then f ⟨b.val - 128, h⟩
      else if h : b.val - 128 - 128 < 128 then f ⟨b.val - 128 - 128, h⟩
      else if h : b.val - 128 - 128 - 128 < 128 then f ⟨b.val - 128 - 128 - 128, h⟩
      else if h : b.val - 128 - 128 - 128 - 128 < 128 then f ⟨b.val - 128 - 128 - 128 - 128, h⟩
      else if h : b.val - 128 - 128 - 128 - 128 - 128 < 128 then f ⟨b.val - 128 - 128 - 128 - 128 - 128, h⟩
      else if h : b.val - 128 - 128 - 128 - 128 - 128 - 128 < 128 then f ⟨b.val - 128 - 128 - 128 - 128 - 128 - 128, h⟩
      else f ⟨b.val - 128 - 128 - 128 - 128 - 128 - 128 - 128, by omega⟩) = f ⟨b.val % 128, by omega⟩ := by
  split_ifs <;> refine congrArg f (Fin.ext ?_) <;> dsimp only <;> omega

section Blocks
variable (c : Dev nD) (x : FVec Ideal S2x128x7168 .bf16) (w : IVec S896x18432 32) (s : FVec Ideal S56x18432 .bf16)
  (h : FVec Ideal S6x256x256 .bf16) (b : IVec S1536x18432 8) (sc : FVec Ideal S1536x128 .bf16) (tot : IVec S1 32)

theorem blk0 (ht : m ((c.tc : Thread nD τ).loc main_arg6) = tot) (t : Fin cfg0.N) : (iblk m c 0 t : IVec S1 32) (ix1 0) = tot (ix1 0) := by
  blk_simp [iblk]
  show V m c main_arg6 _ = _
  rw [V_main_arg6, ht]
  blk_ext [idx0 t]

theorem blk1 (hx : m ((c.tc : Thread nD τ).loc main_arg0) = x) (t : Fin cfg0.N) (a : Fin 256) (k : Fin 7168) :
    (iblk m c 1 t : FVec Ideal S256x7168 .bf16) (ix2 a k) = x (ix3 ⟨a.val / 128, by omega⟩ ⟨a.val % 128, by omega⟩ k) := by
  blk_simp [iblk]
  show V m c main_v0 _ = _
  rw [V_x m c x hx]
  have : (((View.whole main_v0).slice (win0_1.rect t)).emb (ix2 a k) : S256x7168.Idx) = ix2 a k := by
    blk_ext [idx1 t]
  refine (congrArg _ this).trans ?_
  pointwise

theorem blk2 (hw : m ((c.tc : Thread nD τ).loc main_arg1) = w) (t : Fin cfg0.N) (ht : t.val < 18) (r : Fin 896) (n : Fin 1024) :
    (iblk m c 2 t : IVec S896x1024 32) (ix2 r n) = w (ix2 r ⟨t.val * 1024 + n.val, by omega⟩) := by
  blk_simp [iblk]
  show V m c main_arg1 _ = _
  rw [V_main_arg1, hw]
  blk_ext [idx2 t]

theorem blk3 (hs : m ((c.tc : Thread nD τ).loc main_arg2) = s) (t : Fin cfg0.N) (ht : t.val < 18) (r : Fin 56) (n : Fin 1024) :
    (iblk m c 3 t : FVec Ideal S56x1024 .bf16) (ix2 r n) = s (ix2 r ⟨t.val * 1024 + n.val, by omega⟩) := by
  blk_simp [iblk]
  show V m c main_arg2 _ = _
  rw [V_main_arg2, hs]
  blk_ext [idx3 t]

theorem blk4 (hh : m ((c.tc : Thread nD τ).loc main_arg3) = h) (t : Fin cfg0.N) (j : Fin 6) (a r : Fin 256) :
    (iblk m c 4 t : FVec Ideal S6x256x256 .bf16) (ix3 j a r) = h (ix3 j a r) := by
  blk_simp [iblk]
  show V m c main_arg3 _ = _
  rw [V_main_arg3, hh]
  blk_ext [idx4 t]

theorem blk5 (hb : m ((c.tc : Thread nD τ).loc main_arg4) = b) (t : Fin cfg0.N) (ht : t.val < 18) (r : Fin 1536) (n : Fin 1024) :
    (iblk m c 5 t : IVec S1536x1024 8) (ix2 r n) = b (ix2 r ⟨t.val * 1024 + n.val, by omega⟩) := by
  blk_simp [iblk]
  show V m c main_arg4 _ = _
  rw [V_main_arg4, hb]
  blk_ext [idx5 t]

theorem blk6 (hsc : m ((c.tc : Thread nD τ).loc main_arg5) = sc) (t : Fin cfg0.N) (r : Fin 1536) (l : Fin 128) :
    (iblk m c 6 t : FVec Ideal S1536x128 .bf16) (ix2 r l) = sc (ix2 r l) := by
  blk_simp [iblk]
  show V m c main_arg5 _ = _
  rw [V_main_arg5, hsc]
  blk_ext [idx6 t]

/-- One masked product of the kernel's expand is the reference's. -/
theorem term (T T' : BitVec 32) (a : Fin 256) (N : Fin 18432) (l : Fin 128) (q q' : Fin 1536) (j : Fin 6) (r : Fin 256) (v : BitVec 32)
    (H Z : EReal) (B : BitVec 8) (hN : l.val = N.val % 128)
    (hq : q'.val = q.val) (hj : q.val = 256 * j.val + r.val) (hv : v = BitVec.ofNat 32 q.val) (hT : T' = T)
    (hH : H = h (ix3 j a r)) (hB : B = b (ix2 q N)) (hZ : Z = sc (ix2 q l)) :
    Scalar.select (IntOp.cmpi .slt v T') (H * ((FloatOps.sitofp .bf16 B : Ideal .bf16) * Z) : EReal) 0
      = Cert.ExpandReferenceIdeal.Base.E h b sc T a N q' := by
  obtain rfl : q' = q := Fin.ext hq
  have e1 : (⟨q'.val / 256, by omega⟩ : Fin 6) = j := Fin.ext (by dsimp only; omega)
  have e2 : (⟨q'.val % 256, by omega⟩ : Fin 256) = r := Fin.ext (by dsimp only; omega)
  have e3 : (⟨N.val % 128, by omega⟩ : Fin 128) = l := Fin.ext hN.symm
  rw [hT, hv, hH, hB, hZ]
  unfold Cert.ExpandReferenceIdeal.Base.E
  rw [e1, e2, e3]

end Blocks

theorem ofNat_add (k : ℕ) (r : Fin 256) : IntOp.addi (BitVec.ofNat 32 k) (BitVec.ofNat 32 r.val) = BitVec.ofNat 32 (k + r.val) := by
  unfold IntOp.addi
  rw [BitVec.ofNat_add]

set_option maxHeartbeats 4000000 in
/-- The array the kernel leaves. -/
theorem final (c : Dev nD) (x : FVec Ideal S2x128x7168 .bf16) (w : IVec S896x18432 32) (s : FVec Ideal S56x18432 .bf16)
    (h : FVec Ideal S6x256x256 .bf16) (b : IVec S1536x18432 8) (sc : FVec Ideal S1536x128 .bf16) (tot : IVec S1 32)
    (hx : m ((c.tc : Thread nD τ).loc main_arg0) = x) (hw : m ((c.tc : Thread nD τ).loc main_arg1) = w)
    (hs : m ((c.tc : Thread nD τ).loc main_arg2) = s) (hh : m ((c.tc : Thread nD τ).loc main_arg3) = h)
    (hb : m ((c.tc : Thread nD τ).loc main_arg4) = b) (hsc : m ((c.tc : Thread nD τ).loc main_arg5) = sc)
    (htt : m ((c.tc : Thread nD τ).loc main_arg6) = tot) :
    (dats m 0 c).arrAt 7 cfg0.N = result x w s h b sc tot := by
  refine (dats m 0 c).arrAt_eq_of_covers 7 _ (by decide +kernel) fun t hf y => ?_
  blk_simp
  rw [after0_7]
  unfold outsAt0
  frame_out
  have ht : t.val < 18 := lt_of_lt_of_eq t.isLt N_0
  obtain ⟨a, n, rfl⟩ : ∃ (a : Fin 256) (n : Fin 1024), y = ix2 a n := ⟨y 0, y 1, by funext k; match k with | ⟨0, _⟩ => rfl | ⟨1, _⟩ => rfl⟩
  have hp : (((View.whole main_v1).slice (win0_7.rect t)).emb (ix2 a n) : S256x18432.Idx)
      = ix2 a ⟨t.val * 1024 + n.val, by omega⟩ := by
    blk_ext [idx7 t]
  rw [hp]
  have hr : result x w s h b sc tot (ix2 a ⟨t.val * 1024 + n.val, by omega⟩)
      = ((∑ k, Cert.BaseReferenceIdeal.Base.G x w s a ⟨t.val * 1024 + n.val, by omega⟩ k : EReal)
        + ∑ r, Cert.ExpandReferenceIdeal.Base.E h b sc (tot (ix1 0)) a ⟨t.val * 1024 + n.val, by omega⟩ r) := rfl
  rw [hr, Cert.ExpandReferenceIdeal.Base.regroup, Fin.sum_univ_six, ← add_assoc, ← add_assoc, ← add_assoc, ← add_assoc, ← add_assoc]
  pointwise [k0_pay1, k0_pay3, k0_pay4, k0_pay5, k0_pay6, k0_pay7, k0_pay8]
  refine congrArg₂ (fun p q : EReal => p + q) (congrArg₂ (fun p q : EReal => p + q) (congrArg₂ (fun p q : EReal => p + q)
    (congrArg₂ (fun p q : EReal => p + q) (congrArg₂ (fun p q : EReal => p + q) (congrArg₂ (fun p q : EReal => p + q) ?_ ?_) ?_) ?_) ?_) ?_) ?_
  · refine (pay2_apply _ _ _ a n).trans (Finset.sum_congr rfl fun k _ => ?_)
    unfold Cert.BaseReferenceIdeal.Base.G
    exact congrArg₂ (fun p q : EReal => p * q) (blk1 m c x hx t a k) (congrArg₂ (fun p q : EReal => p * q)
      (congrArg (fun v => (FloatOps.sitofp .bf16 (codeW v k.val) : Ideal .bf16)) (blk2 m c w hw t ht _ n)) (blk3 m c s hs t ht _ n))
  all_goals refine Finset.sum_congr rfl fun r _ => ?_
  · exact term h b sc (tot (ix1 0)) _ a _ ⟨n.val % 128, by omega⟩ ⟨r.val, by omega⟩ _ 0 r _ _ _ _ (by dsimp only; omega) (by dsimp only) (by dsimp only; omega)
      ((ofNat_add 0 r).trans (by rw [Nat.zero_add])) (blk0 m c tot htt t) (blk4 m c h hh t 0 a r) (blk5 m c b hb t ht ⟨r.val, by omega⟩ n)
      ((ladder (fun l => (iblk m c 6 t : FVec Ideal S1536x128 .bf16) (ix2 ⟨r.val, by omega⟩ l)) n).trans (blk6 m c sc hsc t _ _))
  · exact term h b sc (tot (ix1 0)) _ a _ ⟨n.val % 128, by omega⟩ ⟨256 + r.val, by omega⟩ _ 1 r _ _ _ _ (by dsimp only; omega) (by dsimp only; omega) rfl
      (ofNat_add 256 r) (blk0 m c tot htt t) (blk4 m c h hh t 1 a r) (blk5 m c b hb t ht ⟨256 + r.val, by omega⟩ n)
      ((ladder (fun l => (iblk m c 6 t : FVec Ideal S1536x128 .bf16) (ix2 ⟨256 + r.val, by omega⟩ l)) n).trans (blk6 m c sc hsc t _ _))
  · exact term h b sc (tot (ix1 0)) _ a _ ⟨n.val % 128, by omega⟩ ⟨512 + r.val, by omega⟩ _ 2 r _ _ _ _ (by dsimp only; omega) (by dsimp only; omega) rfl
      (ofNat_add 512 r) (blk0 m c tot htt t) (blk4 m c h hh t 2 a r) (blk5 m c b hb t ht ⟨512 + r.val, by omega⟩ n)
      ((ladder (fun l => (iblk m c 6 t : FVec Ideal S1536x128 .bf16) (ix2 ⟨512 + r.val, by omega⟩ l)) n).trans (blk6 m c sc hsc t _ _))
  · exact term h b sc (tot (ix1 0)) _ a _ ⟨n.val % 128, by omega⟩ ⟨768 + r.val, by omega⟩ _ 3 r _ _ _ _ (by dsimp only; omega) (by dsimp only; omega) rfl
      (ofNat_add 768 r) (blk0 m c tot htt t) (blk4 m c h hh t 3 a r) (blk5 m c b hb t ht ⟨768 + r.val, by omega⟩ n)
      ((ladder (fun l => (iblk m c 6 t : FVec Ideal S1536x128 .bf16) (ix2 ⟨768 + r.val, by omega⟩ l)) n).trans (blk6 m c sc hsc t _ _))
  · exact term h b sc (tot (ix1 0)) _ a _ ⟨n.val % 128, by omega⟩ ⟨1024 + r.val, by omega⟩ _ 4 r _ _ _ _ (by dsimp only; omega) (by dsimp only; omega) rfl
      (ofNat_add 1024 r) (blk0 m c tot htt t) (blk4 m c h hh t 4 a r) (blk5 m c b hb t ht ⟨1024 + r.val, by omega⟩ n)
      ((ladder (fun l => (iblk m c 6 t : FVec Ideal S1536x128 .bf16) (ix2 ⟨1024 + r.val, by omega⟩ l)) n).trans (blk6 m c sc hsc t _ _))
  · exact term h b sc (tot (ix1 0)) _ a _ ⟨n.val % 128, by omega⟩ ⟨1280 + r.val, by omega⟩ _ 5 r _ _ _ _ (by dsimp only; omega) (by dsimp only; omega) rfl
      (ofNat_add 1280 r) (blk0 m c tot htt t) (blk4 m c h hh t 5 a r) (blk5 m c b hb t ht ⟨1280 + r.val, by omega⟩ n)
      ((ladder (fun l => (iblk m c 6 t : FVec Ideal S1536x128 .bf16) (ix2 ⟨1280 + r.val, by omega⟩ l)) n).trans (blk6 m c sc hsc t _ _))
end Cert.ExpandKernelIdeal.Base
-- ==== Proof.PreTotal.lean ====
module

public import proofs.«01_k».proof.Proof.PreFits
public import proofs.«01_k».proof.Pre_total_fits
public import proofs.«01_k».proof.Proof.Gen.Pre_total_fits
public import proofs.«01_k».proof.Proof.Gen.Pre_tables_fit
public import Idealize.ShloMosaic.Lib.Pointwise

@[expose] public section

namespace Cert.Math

open Idealize.ShloMosaic Cert.Pre_total_fits

/-- What the predicate says of the number of rows. -/
theorem total_le {F : FTy → Type} [FloatOps F] [Facts] (a0 : FVec F S2x128x7168 .bf16) (a1 : IVec S1536x7168 8) (a2 : FVec F S16x128 .f32) (a3 : FVec F S3x256x128 .f32) (a4 : IVec S16x128 32) (a5 : IVec S1 32)
    (h : fn a0 a1 a2 a3 a4 a5 = fun _ => 1#1) : (a5 (ix1 0)).toNat ≤ 1536 := by
  haveI := Cert.Pre_tables_fit.Gen.facts
  have hi := congrFun h (fun a => absurd a.2 (Nat.not_lt_zero _))
  simp only [fn, andi, cmpi, constantI, andi_one, sge_one, sle_one] at hi
  have e : ∀ i : S_.Idx, shapeCast S_ a5 Facts.shapeCasts_S1_S_ i = a5 (ix1 0) := by
    intro i
    unfold shapeCast
    refine congrArg a5 ?_
    funext k
    obtain rfl : k = 0 := Subsingleton.elim _ _
    exact Subsingleton.elim (α := Fin 1) _ _
  rw [e] at hi
  exact nat_of_int _ 1536 (by simpa using hi.1) (by simpa using hi.2)

end Cert.Math
-- ==== Proof.SChecks.lean ====
module

public import proofs.«01_k».proof.Proof.Checks
public import proofs.«01_k».proof.Proof.Gen.ShrinkKernel.Skeleton
public import proofs.«01_k».proof.Proof.Gen.ShrinkKernel.Frame
public import proofs.«01_k».proof.Proof.Gen.Pre_total_fits
public import Idealize.ShloMosaic.Lib.Pipeline.ValueKit
public import Idealize.ShloMosaic.Lib.Pointwise

@[expose] public section

namespace Cert.ShrinkKernel

open Idealize.ShloMosaic Idealize.ShloMosaic.Affine Idealize.ShloMosaic.TcCoe Cert.Math
open Cert.Kernel (ub_id ub_id' trips_up ok_up trips_none ok_none iv_toNat ivOff blkOff)

/-- The number of blocks of 256 rows that hold `v` rows. -/
abbrev nbS (v : BitVec 32) : BitVec 32 := Scalar.shrui (Scalar.addi v 255#32) 8#32

theorem nbS_toNat (v : BitVec 32) (h : v.toNat ≤ 1536) : (nbS v).toNat = (v.toNat + 255) / 256 := by
  simp only [nbS, Scalar.shrui, IntOp.shrui, Scalar.addi, IntOp.addi]
  simp [Nat.shiftRight_eq_div_pow, BitVec.toNat_add]
  omega

theorem t1_ub (v : BitVec 32) : (k0_t1_loop v).ub = nbS v := ub_id _
theorem t2_lb (v : BitVec 32) : (k0_t2_loop v).lb = nbS v := ub_id _
theorem t2_ub (v : BitVec 32) : (k0_t2_loop v).ub = nbS v := ub_id' _

theorem t1_trips (v : BitVec 32) (h : v.toNat ≤ 1536) : (k0_t1_loop v).trips = (v.toNat + 255) / 256 := by
  show Scf.trips 0#32 (k0_t1_loop v).ub 1#32 = _
  rw [t1_ub, trips_up _ (by rw [nbS_toNat v h]; omega), nbS_toNat v h]

theorem t2_trips (v : BitVec 32) : (k0_t2_loop v).trips = 0 := by
  show Scf.trips (k0_t2_loop v).lb (k0_t2_loop v).ub 1#32 = 0
  rw [t2_lb, t2_ub]; exact trips_none _

theorem off1_eq (v : BitVec 32) (k : Fin (k0_t1_loop v).trips) (h : k.val ≤ 800) : k0_off1 v k = ![256 * k.val, 0] :=
  congrArg (fun o => ![o, 0]) (blkOff k.val h)
theorem off2_eq (v : BitVec 32) (k : Fin (k0_t1_loop v).trips) (h : k.val ≤ 800) : k0_off2 v k = ![256 * k.val, 1024] :=
  congrArg (fun o => ![o, 1024]) (blkOff k.val h)
theorem off3_eq (v : BitVec 32) (k : Fin (k0_t1_loop v).trips) (h : k.val ≤ 800) : k0_off3 v k = ![256 * k.val, 2048] :=
  congrArg (fun o => ![o, 2048]) (blkOff k.val h)
theorem off4_eq (v : BitVec 32) (k : Fin (k0_t1_loop v).trips) (h : k.val ≤ 800) : k0_off4 v k = ![256 * k.val, 3072] :=
  congrArg (fun o => ![o, 3072]) (blkOff k.val h)
theorem off5_eq (v : BitVec 32) (k : Fin (k0_t1_loop v).trips) (h : k.val ≤ 800) : k0_off5 v k = ![256 * k.val, 4096] :=
  congrArg (fun o => ![o, 4096]) (blkOff k.val h)
theorem off6_eq (v : BitVec 32) (k : Fin (k0_t1_loop v).trips) (h : k.val ≤ 800) : k0_off6 v k = ![256 * k.val, 5120] :=
  congrArg (fun o => ![o, 5120]) (blkOff k.val h)
theorem off7_eq (v : BitVec 32) (k : Fin (k0_t1_loop v).trips) (h : k.val ≤ 800) : k0_off7 v k = ![256 * k.val, 6144] :=
  congrArg (fun o => ![o, 6144]) (blkOff k.val h)

theorem off8_eq (v : BitVec 32) (k : Fin (k0_t1_loop v).trips) (r : Fin 2) (h : k.val ≤ 800) :
    k0_off8 v k (BitVec.ofNat 32 r.val) = ![2 * k.val + r.val, 0] := by
  have h1 := ivOff 2#32 k.val h (by decide)
  have : (Scalar.addi (Scalar.muli (Scf.iv 0#32 1#32 k.val) 2#32) (BitVec.ofNat 32 r.val)).toNat = 2 * k.val + r.val := by
    simp only [Scalar.addi, IntOp.addi, BitVec.toNat_add, h1]
    simp; omega
  exact congrArg (fun o => ![o, 0]) this
theorem off9_eq (v : BitVec 32) (k : Fin (k0_t1_loop v).trips) (h : k.val ≤ 800) : k0_off9 v k = ![k.val, 0, 0] :=
  congrArg (fun o => ![o, 0, 0]) (iv_toNat k.val (by omega))

theorem inbA {o c : ℕ} (h : o + 256 ≤ 1536) (hc : c + 1024 ≤ 7168) :
    ∀ a, (![o, c] : Fin 2 → ℕ) a + S256x1024.size a ≤ S1536x7168.size a := by
  intro a; fin_cases a
  · exact h
  · exact hc

/-- What the body assumes of the row count, from the bound on it. -/
theorem chk1 (v : BitVec 32) (h : v.toNat ≤ 1536) : k0_chk1 v := by
  have h6 := t1_trips v h
  have n7 : ∀ k : Fin (k0_t2_loop v).trips, False := fun k =>
    absurd (lt_of_lt_of_eq k.2 (t2_trips v)) (Nat.not_lt_zero _)
  refine ⟨?_, fun k => ?_, fun k => ?_, fun k => ?_, fun k => ?_, fun k => ?_, fun k => ?_, fun k => ?_, fun k => ?_, fun k r => ?_,
    fun k => ?_, fun k => ?_, ?_, fun k => (n7 k).elim, fun k => (n7 k).elim, fun k => (n7 k).elim,
    fun k => (n7 k).elim, fun k => (n7 k).elim, fun k => (n7 k).elim, fun k => (n7 k).elim, fun k => (n7 k).elim,
    fun k => (n7 k).elim, fun k => (n7 k).elim, fun k => (n7 k).elim⟩
  · show Scf.OK 0#32 (k0_t1_loop v).ub 1#32
    rw [t1_ub]; exact ok_up _ (by rw [nbS_toNat v h]; omega)
  all_goals try have hk : k.val < (v.toNat + 255) / 256 := h6 ▸ k.2
  · exact ⟨k.val, blkOff k.val (by omega)⟩
  · rw [off1_eq v k (by omega)]; exact inbA (by omega) (by omega)
  · rw [off2_eq v k (by omega)]; exact inbA (by omega) (by omega)
  · rw [off3_eq v k (by omega)]; exact inbA (by omega) (by omega)
  · rw [off4_eq v k (by omega)]; exact inbA (by omega) (by omega)
  · rw [off5_eq v k (by omega)]; exact inbA (by omega) (by omega)
  · rw [off6_eq v k (by omega)]; exact inbA (by omega) (by omega)
  · rw [off7_eq v k (by omega)]; exact inbA (by omega) (by omega)
  · rw [off8_eq v k r (by omega)]
    intro a; fin_cases a
    · show 2 * k.val + r.val + 1 ≤ 16; omega
    · show 0 + 128 ≤ 128; omega
  · rw [off9_eq v k (by omega)]
    intro a; fin_cases a
    · show k.val + 1 ≤ 6; omega
    · show 0 + 256 ≤ 256; omega
    · show 0 + 256 ≤ 256; omega
  · intro hinb
    refine packed_dvd (by decide) ?_ ?_
    · rw [off9_eq v k (by omega)]; exact ⟨0, rfl⟩
    · exact ⟨128, rfl⟩
  · show Scf.OK (k0_t2_loop v).lb (k0_t2_loop v).ub 1#32
    rw [t2_lb, t2_ub]; exact ok_none _

namespace Gen
variable {F : FTy → Type} [FloatOps F]

theorem idx0 : ∀ t : Fin cfg0.N, win0_0.index t = ![0] := (by decide +kernel : ∀ t : Fin grid0.N, _)

/-- The row count's block is the argument. -/
theorem blk0 (m : (ℓ : Loc nD τ sig) → Buf (Elt F) ℓ) (c : Dev nD) (tot : IVec S1 32)
    (ht : m ((c.tc : Thread nD τ).loc main_arg5) = tot) (t : Fin cfg0.N) : (iblk m c 0 t : IVec S1 32) (ix1 0) = tot (ix1 0) := by
  blk_simp [iblk]
  show V m c main_arg5 _ = _
  rw [V_main_arg5, ht]
  blk_ext [idx0 t]

/-- The word the body reads is the argument's. -/
theorem word (m : (ℓ : Loc nD τ sig) → Buf (Elt F) ℓ) (c : Dev nD) (t : Fin cfg0.N) :
    ((ms0_0 t).view.readAt (Elt F) (Rect.unit (s := S1) ![0] S1.size inb_S1_S1_0).toLoadRect ((hs0_0 t).unread (iblk m c 0 t)) (Shape.Idx.first (numel1_S1.symm ▸ Nat.one_pos)))
      = (m ((c.tc : Thread nD τ).loc main_arg5) : IVec S1 32) (ix1 0) := by
  rw [View.readAt_apply, Memref.IsWhole.read_unread, ← blk0 m c _ rfl t]
  congr 1
  funext a
  obtain rfl : a = 0 := Subsingleton.elim _ _
  rfl

/-- The body's side conditions, from a bound on the row count. -/
theorem hyps (m : (ℓ : Loc nD τ sig) → Buf (Elt F) ℓ)
    (h : ∀ c : Dev nD, ((m ((c.tc : Thread nD τ).loc main_arg5) : IVec S1 32) (ix1 0)).toNat ≤ 1536) : Hyps m :=
  Hyps.of fun c t => by
    unfold Hyps.p0
    rw [word]
    exact chk1 _ (h c)
end Gen

end Cert.ShrinkKernel
-- ==== Proof.ISChecks.lean ====
module

public import proofs.«01_k».proof.Proof.Checks
public import proofs.«01_k».proof.Proof.Gen.ShrinkKernelIdeal.Skeleton
public import proofs.«01_k».proof.Proof.Gen.ShrinkKernelIdeal.Frame
public import proofs.«01_k».proof.Proof.Gen.Pre_total_fits
public import Idealize.ShloMosaic.Lib.Pipeline.ValueKit
public import Idealize.ShloMosaic.Lib.Pointwise

@[expose] public section

namespace Cert.ShrinkKernelIdeal

open Idealize.ShloMosaic Idealize.ShloMosaic.Affine Idealize.ShloMosaic.TcCoe Cert.Math
open Cert.Kernel (ub_id ub_id' trips_up ok_up trips_none ok_none iv_toNat ivOff blkOff)

/-- The number of blocks of 256 rows that hold `v` rows. -/
abbrev nbS (v : BitVec 32) : BitVec 32 := Scalar.shrui (Scalar.addi v 255#32) 8#32

theorem nbS_toNat (v : BitVec 32) (h : v.toNat ≤ 1536) : (nbS v).toNat = (v.toNat + 255) / 256 := by
  simp only [nbS, Scalar.shrui, IntOp.shrui, Scalar.addi, IntOp.addi]
  simp [Nat.shiftRight_eq_div_pow, BitVec.toNat_add]
  omega

theorem t1_ub (v : BitVec 32) : (k0_t1_loop v).ub = nbS v := ub_id _
theorem t2_lb (v : BitVec 32) : (k0_t2_loop v).lb = nbS v := ub_id _
theorem t2_ub (v : BitVec 32) : (k0_t2_loop v).ub = nbS v := ub_id' _

theorem t1_trips (v : BitVec 32) (h : v.toNat ≤ 1536) : (k0_t1_loop v).trips = (v.toNat + 255) / 256 := by
  show Scf.trips 0#32 (k0_t1_loop v).ub 1#32 = _
  rw [t1_ub, trips_up _ (by rw [nbS_toNat v h]; omega), nbS_toNat v h]

theorem t2_trips (v : BitVec 32) : (k0_t2_loop v).trips = 0 := by
  show Scf.trips (k0_t2_loop v).lb (k0_t2_loop v).ub 1#32 = 0
  rw [t2_lb, t2_ub]; exact trips_none _

theorem off1_eq (v : BitVec 32) (k : Fin (k0_t1_loop v).trips) (h : k.val ≤ 800) : k0_off1 v k = ![256 * k.val, 0] :=
  congrArg (fun o => ![o, 0]) (blkOff k.val h)
theorem off2_eq (v : BitVec 32) (k : Fin (k0_t1_loop v).trips) (h : k.val ≤ 800) : k0_off2 v k = ![256 * k.val, 1024] :=
  congrArg (fun o => ![o, 1024]) (blkOff k.val h)
theorem off3_eq (v : BitVec 32) (k : Fin (k0_t1_loop v).trips) (h : k.val ≤ 800) : k0_off3 v k = ![256 * k.val, 2048] :=
  congrArg (fun o => ![o, 2048]) (blkOff k.val h)
theorem off4_eq (v : BitVec 32) (k : Fin (k0_t1_loop v).trips) (h : k.val ≤ 800) : k0_off4 v k = ![256 * k.val, 3072] :=
  congrArg (fun o => ![o, 3072]) (blkOff k.val h)
theorem off5_eq (v : BitVec 32) (k : Fin (k0_t1_loop v).trips) (h : k.val ≤ 800) : k0_off5 v k = ![256 * k.val, 4096] :=
  congrArg (fun o => ![o, 4096]) (blkOff k.val h)
theorem off6_eq (v : BitVec 32) (k : Fin (k0_t1_loop v).trips) (h : k.val ≤ 800) : k0_off6 v k = ![256 * k.val, 5120] :=
  congrArg (fun o => ![o, 5120]) (blkOff k.val h)
theorem off7_eq (v : BitVec 32) (k : Fin (k0_t1_loop v).trips) (h : k.val ≤ 800) : k0_off7 v k = ![256 * k.val, 6144] :=
  congrArg (fun o => ![o, 6144]) (blkOff k.val h)

theorem off8_eq (v : BitVec 32) (k : Fin (k0_t1_loop v).trips) (r : Fin 2) (h : k.val ≤ 800) :
    k0_off8 v k (BitVec.ofNat 32 r.val) = ![2 * k.val + r.val, 0] := by
  have h1 := ivOff 2#32 k.val h (by decide)
  have : (Scalar.addi (Scalar.muli (Scf.iv 0#32 1#32 k.val) 2#32) (BitVec.ofNat 32 r.val)).toNat = 2 * k.val + r.val := by
    simp only [Scalar.addi, IntOp.addi, BitVec.toNat_add, h1]
    simp; omega
  exact congrArg (fun o => ![o, 0]) this
theorem off9_eq (v : BitVec 32) (k : Fin (k0_t1_loop v).trips) (h : k.val ≤ 800) : k0_off9 v k = ![k.val, 0, 0] :=
  congrArg (fun o => ![o, 0, 0]) (iv_toNat k.val (by omega))

theorem inbA {o c : ℕ} (h : o + 256 ≤ 1536) (hc : c + 1024 ≤ 7168) :
    ∀ a, (![o, c] : Fin 2 → ℕ) a + S256x1024.size a ≤ S1536x7168.size a := by
  intro a; fin_cases a
  · exact h
  · exact hc

/-- What the body assumes of the row count, from the bound on it. -/
theorem chk1 (v : BitVec 32) (h : v.toNat ≤ 1536) : k0_chk1 v := by
  have h6 := t1_trips v h
  have n7 : ∀ k : Fin (k0_t2_loop v).trips, False := fun k =>
    absurd (lt_of_lt_of_eq k.2 (t2_trips v)) (Nat.not_lt_zero _)
  refine ⟨?_, fun k => ?_, fun k => ?_, fun k => ?_, fun k => ?_, fun k => ?_, fun k => ?_, fun k => ?_, fun k => ?_, fun k r => ?_,
    fun k => ?_, fun k => ?_, ?_, fun k => (n7 k).elim, fun k => (n7 k).elim, fun k => (n7 k).elim,
    fun k => (n7 k).elim, fun k => (n7 k).elim, fun k => (n7 k).elim, fun k => (n7 k).elim, fun k => (n7 k).elim,
    fun k => (n7 k).elim, fun k => (n7 k).elim, fun k => (n7 k).elim⟩
  · show Scf.OK 0#32 (k0_t1_loop v).ub 1#32
    rw [t1_ub]; exact ok_up _ (by rw [nbS_toNat v h]; omega)
  all_goals try have hk : k.val < (v.toNat + 255) / 256 := h6 ▸ k.2
  · exact ⟨k.val, blkOff k.val (by omega)⟩
  · rw [off1_eq v k (by omega)]; exact inbA (by omega) (by omega)
  · rw [off2_eq v k (by omega)]; exact inbA (by omega) (by omega)
  · rw [off3_eq v k (by omega)]; exact inbA (by omega) (by omega)
  · rw [off4_eq v k (by omega)]; exact inbA (by omega) (by omega)
  · rw [off5_eq v k (by omega)]; exact inbA (by omega) (by omega)
  · rw [off6_eq v k (by omega)]; exact inbA (by omega) (by omega)
  · rw [off7_eq v k (by omega)]; exact inbA (by omega) (by omega)
  · rw [off8_eq v k r (by omega)]
    intro a; fin_cases a
    · show 2 * k.val + r.val + 1 ≤ 16; omega
    · show 0 + 128 ≤ 128; omega
  · rw [off9_eq v k (by omega)]
    intro a; fin_cases a
    · show k.val + 1 ≤ 6; omega
    · show 0 + 256 ≤ 256; omega
    · show 0 + 256 ≤ 256; omega
  · intro hinb
    refine packed_dvd (by decide) ?_ ?_
    · rw [off9_eq v k (by omega)]; exact ⟨0, rfl⟩
    · exact ⟨128, rfl⟩
  · show Scf.OK (k0_t2_loop v).lb (k0_t2_loop v).ub 1#32
    rw [t2_lb, t2_ub]; exact ok_none _

namespace Gen
variable {F : FTy → Type} [FloatOps F]

theorem idx0 : ∀ t : Fin cfg0.N, win0_0.index t = ![0] := (by decide +kernel : ∀ t : Fin grid0.N, _)

/-- The row count's block is the argument. -/
theorem blk0 (m : (ℓ : Loc nD τ sig) → Buf (Elt F) ℓ) (c : Dev nD) (tot : IVec S1 32)
    (ht : m ((c.tc : Thread nD τ).loc main_arg5) = tot) (t : Fin cfg0.N) : (iblk m c 0 t : IVec S1 32) (ix1 0) = tot (ix1 0) := by
  blk_simp [iblk]
  show V m c main_arg5 _ = _
  rw [V_main_arg5, ht]
  blk_ext [idx0 t]

/-- The word the body reads is the argument's. -/
theorem word (m : (ℓ : Loc nD τ sig) → Buf (Elt F) ℓ) (c : Dev nD) (t : Fin cfg0.N) :
    ((ms0_0 t).view.readAt (Elt F) (Rect.unit (s := S1) ![0] S1.size inb_S1_S1_0).toLoadRect ((hs0_0 t).unread (iblk m c 0 t)) (Shape.Idx.first (numel1_S1.symm ▸ Nat.one_pos)))
      = (m ((c.tc : Thread nD τ).loc main_arg5) : IVec S1 32) (ix1 0) := by
  rw [View.readAt_apply, Memref.IsWhole.read_unread, ← blk0 m c _ rfl t]
  congr 1
  funext a
  obtain rfl : a = 0 := Subsingleton.elim _ _
  rfl

/-- The body's side conditions, from a bound on the row count. -/
theorem hyps (m : (ℓ : Loc nD τ sig) → Buf (Elt F) ℓ)
    (h : ∀ c : Dev nD, ((m ((c.tc : Thread nD τ).loc main_arg5) : IVec S1 32) (ix1 0)).toNat ≤ 1536) : Hyps m :=
  Hyps.of fun c t => by
    unfold Hyps.p0
    rw [word]
    exact chk1 _ (h c)
end Gen

end Cert.ShrinkKernelIdeal
-- ==== Proof.SVal2.lean ====
module
public import proofs.«01_k».proof.Proof.ISChecks
public import proofs.«01_k».proof.Proof.Gen.ShrinkKernelIdeal.Value
public import proofs.«01_k».proof.Proof.Gen.ShrinkReferenceIdeal.Run
public import Idealize.ShloMosaic.Lib.Pointwise
public import Idealize.ShloMosaic.Lib.WholeRead
public import Idealize.ShloMosaic.Lib.Pipeline.ValueKit
@[expose] public section
set_option maxRecDepth 16384
noncomputable section
open Idealize.ShloMosaic Idealize.ShloMosaic.TcCoe Idealize.SL.Sem
namespace Cert.ShrinkKernelIdeal.Shr
open Cert.ShrinkKernelIdeal Cert.ShrinkKernelIdeal.Gen Cert.Math
open Idealize.ShloMosaic.Pipeline (Dat)
variable (m : (ℓ : Loc nD τ sig) → Buf (Elt Ideal) ℓ)

/-- One chunk-by-chunk product of a block at one entry. -/
theorem acc_apply (a0 : Vec Ideal S256x1024 .i8) (b0 : Vec Ideal S256x1024 .bf16) (a1 : Vec Ideal S256x1024 .i8) (b1 : Vec Ideal S256x1024 .bf16) (a2 : Vec Ideal S256x1024 .i8) (b2 : Vec Ideal S256x1024 .bf16) (a3 : Vec Ideal S256x1024 .i8) (b3 : Vec Ideal S256x1024 .bf16) (a4 : Vec Ideal S256x1024 .i8) (b4 : Vec Ideal S256x1024 .bf16) (a5 : Vec Ideal S256x1024 .i8) (b5 : Vec Ideal S256x1024 .bf16) (a6 : Vec Ideal S256x1024 .i8) (b6 : Vec Ideal S256x1024 .bf16) (t j : Fin 256) :
    k0_pay12 (k0_pay10 a0 b0 a1 b1 a2 b2 a3 b3) (k0_pay11 a4 b4) a5 b5 a6 b6 (ix2 t j)
      = ((∑ k : Fin 1024, b0 (ix2 t k) * (FloatOps.sitofp .bf16 (a0 (ix2 j k)) : Ideal .bf16)) + (∑ k : Fin 1024, b1 (ix2 t k) * (FloatOps.sitofp .bf16 (a1 (ix2 j k)) : Ideal .bf16)) + (∑ k : Fin 1024, b2 (ix2 t k) * (FloatOps.sitofp .bf16 (a2 (ix2 j k)) : Ideal .bf16)) + (∑ k : Fin 1024, b3 (ix2 t k) * (FloatOps.sitofp .bf16 (a3 (ix2 j k)) : Ideal .bf16)) + (∑ k : Fin 1024, b4 (ix2 t k) * (FloatOps.sitofp .bf16 (a4 (ix2 j k)) : Ideal .bf16)) + (∑ k : Fin 1024, b5 (ix2 t k) * (FloatOps.sitofp .bf16 (a5 (ix2 j k)) : Ideal .bf16)) + (∑ k : Fin 1024, b6 (ix2 t k) * (FloatOps.sitofp .bf16 (a6 (ix2 j k)) : Ideal .bf16)) : EReal) := by
  pointwise [k0_pay12, k0_pay10, k0_pay11]

/-- One masked entry of a block: `w` the row's word, `p` the product, `sc` the row's scale, `t0 t1 t2` the token's bounds and scale. -/
def M (w : BitVec 32) (p sc t0 t1 t2 : EReal) : EReal :=
  Scalar.select (IntOp.andi (FloatOps.cmpf .oge (FloatOps.sitofp .f32 w : Ideal .f32) (t0 : Ideal .f32)) (FloatOps.cmpf .olt (FloatOps.sitofp .f32 w : Ideal .f32) (t1 : Ideal .f32)))
    (p * sc * t2) 0

theorem lo_apply (v45 v51 : FVec Ideal S256x256 .f32) (v54 : Vec Ideal S256x1024 .i8) (v56 : Vec Ideal S256x1024 .bf16) (v61 : Vec Ideal S256x1024 .i8) (v63 : Vec Ideal S256x1024 .bf16)
    (sc : Vec Ideal S1x128 .f32) (t0 t1 t2 : Vec Ideal S1x256x128 .f32) (w : BitVec 32) (t : Fin 256) (j : Fin 128) :
    k0_pay16 (k0_pay13 v45 v51 v54 v56 v61 v63 sc t2) (k0_pay14 w t0 t1) k0_pay15 (ix2 t j)
      = M (IntOp.addi (Scalar.muli (Scalar.addi (Scalar.muli w 2#32) 0#32) 128#32) (BitVec.ofNat 32 j.val))
          (k0_pay12 v45 v51 v54 v56 v61 v63 (ix2 t ⟨j.val, by omega⟩)) (sc (ix2 0 j)) (t0 (ix3 0 t j)) (t1 (ix3 0 t j)) (t2 (ix3 0 t j)) := by
  pointwise [k0_pay16, k0_pay13, k0_pay14, k0_pay15]
  rfl

theorem hi_apply (A : FVec Ideal S256x256 .f32)
    (sc : Vec Ideal S1x128 .f32) (t0 t1 t2 : Vec Ideal S1x256x128 .f32) (w : BitVec 32) (t : Fin 256) (j : Fin 128) :
    k0_pay18 w A sc t2 t0 t1 (ix2 t j)
      = M (IntOp.addi (Scalar.muli (Scalar.addi (Scalar.muli w 2#32) 1#32) 128#32) (BitVec.ofNat 32 j.val))
          (A (ix2 t ⟨128 + j.val, by omega⟩)) (sc (ix2 0 j)) (t0 (ix3 0 t j)) (t1 (ix3 0 t j)) (t2 (ix3 0 t j)) := by
  pointwise [k0_pay18]
  rfl

theorem tile_apply (lo hi : FVec Ideal S256x128 .bf16) (t j : Fin 256) :
    k0_pay4 lo hi (ix3 0 t j) = if h : j.val < 128 then lo (ix2 t ⟨j.val, h⟩) else hi (ix2 t ⟨j.val - 128, by omega⟩) := by
  pointwise [k0_pay4, k0_pay3]

theorem lt_apply (acc : FVec Ideal S64x256 .f32) (lo hi : FVec Ideal S256x128 .bf16) (r0 r1 : Vec Ideal S1x128 .i32) (e : Fin 64) (t : Fin 256) :
    k0_pay5 acc lo (k0_pay17 r0) hi (k0_pay19 r1) (FloatOps.ofBits .f32 1065353216#32) (ix2 e t)
      = (acc (ix2 e t) + ∑ j : Fin 256, (if h : j.val < 128 then Scalar.select (IntOp.cmpi .eq (BitVec.ofNat 32 e.val) (r0 (ix2 0 ⟨j.val, h⟩))) (FloatOps.ofBits .f32 1065353216#32 : Ideal .f32) 0
          else Scalar.select (IntOp.cmpi .eq (BitVec.ofNat 32 e.val) (r1 (ix2 0 ⟨j.val - 128, by omega⟩))) (FloatOps.ofBits .f32 1065353216#32 : Ideal .f32) 0)
          * (if h : j.val < 128 then lo (ix2 t ⟨j.val, h⟩) else hi (ix2 t ⟨j.val - 128, by omega⟩)) : EReal) := by
  pointwise [k0_pay5, k0_pay3, k0_pay17, k0_pay19]

theorem ld2 {sp : Space} {P Q p q : ℕ} {e : EltTy} (A : Memref sig .tc sp ⟨2, ![P, Q]⟩ e) (hA : A.IsWhole) (X : Vec Ideal ⟨2, ![P, Q]⟩ e) (off : Fin 2 → ℕ)
    (inb : ∀ a, off a + (![p, q] : Fin 2 → ℕ) a ≤ (⟨2, ![P, Q]⟩ : Shape).size a) (o0 o1 : ℕ) (ho : off = ![o0, o1]) (h0 : o0 + p ≤ P) (h1 : o1 + q ≤ Q) (a : Fin p) (b : Fin q) :
    A.view.readAt (Elt Ideal) (Rect.unit (s := ⟨2, ![P, Q]⟩) off ![p, q] inb).toLoadRect (hA.unread X) (ix2 a b)
      = X (ix2 ⟨o0 + a.val, by omega⟩ ⟨o1 + b.val, by omega⟩) := by
  subst ho
  rw [Memref.IsWhole.readAt_unread]
  congr 1
  funext x
  match x with
  | ⟨0, _⟩ => exact Fin.ext (by simp [Rect.unit]; try rfl)
  | ⟨1, _⟩ => exact Fin.ext (by simp [Rect.unit]; try rfl)

theorem ld3 {sp : Space} {e : EltTy} (A : Memref sig .tc sp S3x256x128 e) (hA : A.IsWhole) (X : Vec Ideal S3x256x128 e) (o : Fin 3)
    (inb : ∀ a, (![o.val, 0, 0] : Fin 3 → ℕ) a + (![1, 256, 128] : Fin 3 → ℕ) a ≤ S3x256x128.size a) (t : Fin 256) (j : Fin 128) :
    A.view.readAt (Elt Ideal) (Rect.unit (s := S3x256x128) ![o.val, 0, 0] ![1, 256, 128] inb).toLoadRect (hA.unread X) (ix3 0 t j)
      = X (ix3 o t j) := by
  rw [Memref.IsWhole.readAt_unread]
  congr 1
  funext x
  match x with
  | ⟨0, _⟩ => exact Fin.ext (by simp [Rect.unit]; try rfl)
  | ⟨1, _⟩ => exact Fin.ext (by simp [Rect.unit]; try rfl)
  | ⟨2, _⟩ => exact Fin.ext (by simp [Rect.unit]; try rfl)

theorem word_eq (k : ℕ) (r : ℕ) (hr : r < 2) (j : ℕ) : IntOp.addi (Scalar.muli (Scalar.addi (Scalar.muli (Scf.iv 0#32 1#32 k) 2#32) (BitVec.ofNat 32 r)) 128#32) (BitVec.ofNat 32 j)
    = BitVec.ofNat 32 (256 * k + 128 * r + j) := by
  apply BitVec.eq_of_toNat_eq
  simp [Scf.iv, Scalar.muli, Scalar.addi, IntOp.addi, IntOp.muli, BitVec.toNat_add, BitVec.toNat_mul]
  omega
end Cert.ShrinkKernelIdeal.Shr
-- ==== Proof.SVal3.lean ====
module
public import proofs.«01_k».proof.Proof.SVal2
@[expose] public section
set_option maxRecDepth 16384
noncomputable section
open Idealize.ShloMosaic Idealize.ShloMosaic.TcCoe Idealize.SL.Sem
namespace Cert.ShrinkKernelIdeal.Shr
open Cert.ShrinkKernelIdeal Cert.ShrinkKernelIdeal.Gen Cert.Math
open Idealize.ShloMosaic.Pipeline (Dat)

/-- The product of a token with a staged row. -/
def Ah (X : Vec Ideal S256x7168 .bf16) (A : Vec Ideal S1536x7168 .i8) (t : Fin 256) (r : Fin 1536) : EReal :=
  ∑ k : Fin 7168, X (ix2 t k) * (FloatOps.sitofp .bf16 (A (ix2 r k)) : Ideal .bf16)

/-- One entry of the hidden array: token `t`, staged row `r` (zero past the rows). -/
def Hn (X : Vec Ideal S256x7168 .bf16) (A : Vec Ideal S1536x7168 .i8) (S : Vec Ideal S16x128 .f32) (T : Vec Ideal S3x256x128 .f32) (t : Fin 256) (r : ℕ) : EReal :=
  if h : r < 1536 then M (BitVec.ofNat 32 r) (Ah X A t ⟨r, h⟩) (S (ix2 ⟨r / 128, by omega⟩ ⟨r % 128, by omega⟩))
    (T (ix3 0 t ⟨r % 128, by omega⟩)) (T (ix3 1 t ⟨r % 128, by omega⟩)) (T (ix3 2 t ⟨r % 128, by omega⟩)) else 0

/-- Whether staged row `r` is to be counted in column `e`, as 1 or 0. -/
def On (C : Vec Ideal S16x128 .i32) (e : Fin 64) (r : ℕ) : EReal :=
  if h : r < 1536 then Scalar.select (IntOp.cmpi .eq (BitVec.ofNat 32 e.val) (C (ix2 ⟨r / 128, by omega⟩ ⟨r % 128, by omega⟩))) (FloatOps.ofBits .f32 1065353216#32 : Ideal .f32) 0 else 0

theorem regroup7 (f : Fin 7168 → EReal) :
    ∑ k, f k = ∑ j : Fin 7, ∑ r : Fin 1024, f ⟨r.val + 1024 * j.val, by omega⟩ := by
  rw [← (finProdFinEquiv (m := 7) (n := 1024)).sum_comp f, Fintype.sum_prod_type]
  rfl

/-- What a load holds of the array it was read from: rows from `256 * K`, columns from `1024 * i`; and so on. -/
def LA (A : Vec Ideal S1536x7168 .i8) (K i : ℕ) (a : Vec Ideal S256x1024 .i8) : Prop :=
  ∀ (j : Fin 256) (k : Fin 1024) (p : Fin 1536) (q : Fin 7168), p.val = 256 * K + j.val → q.val = k.val + 1024 * i → a (ix2 j k) = A (ix2 p q)
def LX (X : Vec Ideal S256x7168 .bf16) (i : ℕ) (b : Vec Ideal S256x1024 .bf16) : Prop :=
  ∀ (t : Fin 256) (k : Fin 1024) (q : Fin 7168), q.val = k.val + 1024 * i → b (ix2 t k) = X (ix2 t q)
def LS {e : EltTy} (S : Vec Ideal S16x128 e) (r : ℕ) (a : Vec Ideal S1x128 e) : Prop :=
  ∀ (j : Fin 128) (s : Fin 16), s.val = r → a (ix2 0 j) = S (ix2 s j)
def LT (T : Vec Ideal S3x256x128 .f32) (o : Fin 3) (a : Vec Ideal S1x256x128 .f32) : Prop :=
  ∀ (t : Fin 256) (j : Fin 128), a (ix3 0 t j) = T (ix3 o t j)

theorem part (X : Vec Ideal S256x7168 .bf16) (A : Vec Ideal S1536x7168 .i8) (K i : ℕ) (hi : i < 7) (a : Vec Ideal S256x1024 .i8) (b : Vec Ideal S256x1024 .bf16)
    (ha : LA A K i a) (hb : LX X i b) (t j : Fin 256) (p : Fin 1536) (hp : p.val = 256 * K + j.val) :
    (∑ k : Fin 1024, b (ix2 t k) * (FloatOps.sitofp .bf16 (a (ix2 j k)) : Ideal .bf16) : EReal)
      = ∑ k : Fin 1024, X (ix2 t ⟨k.val + 1024 * i, by omega⟩) * (FloatOps.sitofp .bf16 (A (ix2 p ⟨k.val + 1024 * i, by omega⟩)) : Ideal .bf16) := by
  refine Finset.sum_congr rfl fun k _ => ?_
  rw [hb t k ⟨k.val + 1024 * i, by omega⟩ rfl, ha j k p ⟨k.val + 1024 * i, by omega⟩ hp rfl]

section Vals
variable (X : Vec Ideal S256x7168 .bf16) (A : Vec Ideal S1536x7168 .i8) (S : Vec Ideal S16x128 .f32) (T : Vec Ideal S3x256x128 .f32) (C : Vec Ideal S16x128 .i32)

theorem acc_val (K : ℕ) (hK : K < 6) (a0 : Vec Ideal S256x1024 .i8) (b0 : Vec Ideal S256x1024 .bf16) (a1 : Vec Ideal S256x1024 .i8) (b1 : Vec Ideal S256x1024 .bf16) (a2 : Vec Ideal S256x1024 .i8) (b2 : Vec Ideal S256x1024 .bf16) (a3 : Vec Ideal S256x1024 .i8) (b3 : Vec Ideal S256x1024 .bf16) (a4 : Vec Ideal S256x1024 .i8) (b4 : Vec Ideal S256x1024 .bf16) (a5 : Vec Ideal S256x1024 .i8) (b5 : Vec Ideal S256x1024 .bf16) (a6 : Vec Ideal S256x1024 .i8) (b6 : Vec Ideal S256x1024 .bf16)
  (ha0 : LA A K 0 a0) (hb0 : LX X 0 b0)
  (ha1 : LA A K 1 a1) (hb1 : LX X 1 b1)
  (ha2 : LA A K 2 a2) (hb2 : LX X 2 b2)
  (ha3 : LA A K 3 a3) (hb3 : LX X 3 b3)
  (ha4 : LA A K 4 a4) (hb4 : LX X 4 b4)
  (ha5 : LA A K 5 a5) (hb5 : LX X 5 b5)
  (ha6 : LA A K 6 a6) (hb6 : LX X 6 b6) (t j : Fin 256) (p : Fin 1536) (hp : p.val = 256 * K + j.val) :
    k0_pay12 (k0_pay10 a0 b0 a1 b1 a2 b2 a3 b3) (k0_pay11 a4 b4) a5 b5 a6 b6 (ix2 t j) = Ah X A t p := by
  refine (acc_apply a0 b0 a1 b1 a2 b2 a3 b3 a4 b4 a5 b5 a6 b6 t j).trans ?_
  unfold Ah
  rw [regroup7, Fin.sum_univ_seven]
  rw [part X A K 0 (by decide) a0 b0 ha0 hb0 t j p hp, part X A K 1 (by decide) a1 b1 ha1 hb1 t j p hp, part X A K 2 (by decide) a2 b2 ha2 hb2 t j p hp, part X A K 3 (by decide) a3 b3 ha3 hb3 t j p hp, part X A K 4 (by decide) a4 b4 ha4 hb4 t j p hp, part X A K 5 (by decide) a5 b5 ha5 hb5 t j p hp, part X A K 6 (by decide) a6 b6 ha6 hb6 t j p hp]
  rfl

theorem M_Hn (t : Fin 256) (r : ℕ) (hr : r < 1536) (s : Fin 16) (l : Fin 128) (hs : s.val = r / 128) (hl : l.val = r % 128)
    (w : BitVec 32) (p sc t0 t1 t2 : EReal) (hw : w = BitVec.ofNat 32 r) (hp : p = Ah X A t ⟨r, hr⟩) (hsc : sc = S (ix2 s l))
    (h0 : t0 = T (ix3 0 t l)) (h1 : t1 = T (ix3 1 t l)) (h2 : t2 = T (ix3 2 t l)) :
    M w p sc t0 t1 t2 = Hn X A S T t r := by
  have es : s = ⟨r / 128, by omega⟩ := Fin.ext hs
  have el : l = ⟨r % 128, by omega⟩ := Fin.ext hl
  rw [hw, hp, hsc, h0, h1, h2, es, el]
  unfold Hn
  rw [dif_pos hr]

theorem lo_val (K : ℕ) (hK : K < 6) (a0 : Vec Ideal S256x1024 .i8) (b0 : Vec Ideal S256x1024 .bf16) (a1 : Vec Ideal S256x1024 .i8) (b1 : Vec Ideal S256x1024 .bf16) (a2 : Vec Ideal S256x1024 .i8) (b2 : Vec Ideal S256x1024 .bf16) (a3 : Vec Ideal S256x1024 .i8) (b3 : Vec Ideal S256x1024 .bf16) (a4 : Vec Ideal S256x1024 .i8) (b4 : Vec Ideal S256x1024 .bf16) (a5 : Vec Ideal S256x1024 .i8) (b5 : Vec Ideal S256x1024 .bf16) (a6 : Vec Ideal S256x1024 .i8) (b6 : Vec Ideal S256x1024 .bf16)
  (ha0 : LA A K 0 a0) (hb0 : LX X 0 b0)
  (ha1 : LA A K 1 a1) (hb1 : LX X 1 b1)
  (ha2 : LA A K 2 a2) (hb2 : LX X 2 b2)
  (ha3 : LA A K 3 a3) (hb3 : LX X 3 b3)
  (ha4 : LA A K 4 a4) (hb4 : LX X 4 b4)
  (ha5 : LA A K 5 a5) (hb5 : LX X 5 b5)
  (ha6 : LA A K 6 a6) (hb6 : LX X 6 b6)
  (sc : Vec Ideal S1x128 .f32) (t0 t1 t2 : Vec Ideal S1x256x128 .f32) (hsc : LS S (2 * K) sc)
  (h0 : LT T 0 t0) (h1 : LT T 1 t1) (h2 : LT T 2 t2) (t : Fin 256) (j : Fin 128) :
    k0_pay16 (k0_pay13 (k0_pay10 a0 b0 a1 b1 a2 b2 a3 b3) (k0_pay11 a4 b4) a5 b5 a6 b6 sc t2) (k0_pay14 (Scf.iv 0#32 1#32 K) t0 t1) k0_pay15 (ix2 t j)
      = Hn X A S T t (256 * K + j.val) := by
  refine (lo_apply _ _ _ _ _ _ _ _ _ _ _ t j).trans ?_
  exact M_Hn X A S T t _ (by omega) ⟨2 * K, by omega⟩ j (by dsimp only; omega) (by omega) _ _ _ _ _ _
    ((word_eq K 0 (by omega) j.val).trans (congrArg _ (by omega))) (acc_val X A K hK a0 b0 a1 b1 a2 b2 a3 b3 a4 b4 a5 b5 a6 b6 ha0 hb0 ha1 hb1 ha2 hb2 ha3 hb3 ha4 hb4 ha5 hb5 ha6 hb6 t ⟨j.val, by omega⟩ _ rfl) (hsc j _ rfl) (h0 t j) (h1 t j) (h2 t j)

theorem hi_val (K : ℕ) (hK : K < 6) (a0 : Vec Ideal S256x1024 .i8) (b0 : Vec Ideal S256x1024 .bf16) (a1 : Vec Ideal S256x1024 .i8) (b1 : Vec Ideal S256x1024 .bf16) (a2 : Vec Ideal S256x1024 .i8) (b2 : Vec Ideal S256x1024 .bf16) (a3 : Vec Ideal S256x1024 .i8) (b3 : Vec Ideal S256x1024 .bf16) (a4 : Vec Ideal S256x1024 .i8) (b4 : Vec Ideal S256x1024 .bf16) (a5 : Vec Ideal S256x1024 .i8) (b5 : Vec Ideal S256x1024 .bf16) (a6 : Vec Ideal S256x1024 .i8) (b6 : Vec Ideal S256x1024 .bf16)
  (ha0 : LA A K 0 a0) (hb0 : LX X 0 b0)
  (ha1 : LA A K 1 a1) (hb1 : LX X 1 b1)
  (ha2 : LA A K 2 a2) (hb2 : LX X 2 b2)
  (ha3 : LA A K 3 a3) (hb3 : LX X 3 b3)
  (ha4 : LA A K 4 a4) (hb4 : LX X 4 b4)
  (ha5 : LA A K 5 a5) (hb5 : LX X 5 b5)
  (ha6 : LA A K 6 a6) (hb6 : LX X 6 b6)
  (sc : Vec Ideal S1x128 .f32) (t0 t1 t2 : Vec Ideal S1x256x128 .f32) (hsc : LS S (2 * K + 1) sc)
  (h0 : LT T 0 t0) (h1 : LT T 1 t1) (h2 : LT T 2 t2) (t : Fin 256) (j : Fin 128) :
    k0_pay18 (Scf.iv 0#32 1#32 K) (k0_pay12 (k0_pay10 a0 b0 a1 b1 a2 b2 a3 b3) (k0_pay11 a4 b4) a5 b5 a6 b6) sc t2 t0 t1 (ix2 t j)
      = Hn X A S T t (256 * K + 128 + j.val) := by
  refine (hi_apply _ _ _ _ _ _ t j).trans ?_
  exact M_Hn X A S T t _ (by omega) ⟨2 * K + 1, by omega⟩ j (by dsimp only; omega) (by omega) _ _ _ _ _ _
    ((word_eq K 1 (by omega) j.val).trans (congrArg _ (by omega)))
    (acc_val X A K hK a0 b0 a1 b1 a2 b2 a3 b3 a4 b4 a5 b5 a6 b6 ha0 hb0 ha1 hb1 ha2 hb2 ha3 hb3 ha4 hb4 ha5 hb5 ha6 hb6 t ⟨128 + j.val, by omega⟩ _ (by dsimp only; omega)) (hsc j _ rfl) (h0 t j) (h1 t j) (h2 t j)

/-- The two halves of a block, as one. -/
theorem half (K : ℕ) (lo hi : FVec Ideal S256x128 .bf16) (hlo : ∀ t (j : Fin 128), lo (ix2 t j) = Hn X A S T t (256 * K + j.val))
    (hhi : ∀ t (j : Fin 128), hi (ix2 t j) = Hn X A S T t (256 * K + 128 + j.val)) (t j : Fin 256) :
    (if h : j.val < 128 then lo (ix2 t ⟨j.val, h⟩) else hi (ix2 t ⟨j.val - 128, by omega⟩) : EReal) = Hn X A S T t (256 * K + j.val) := by
  split_ifs with h
  · exact hlo t ⟨j.val, h⟩
  · refine (hhi t ⟨j.val - 128, by omega⟩).trans (congrArg (Hn X A S T t) ?_)
    dsimp only
    omega

theorem tile_val (K : ℕ) (lo hi : FVec Ideal S256x128 .bf16) (hlo : ∀ t (j : Fin 128), lo (ix2 t j) = Hn X A S T t (256 * K + j.val))
    (hhi : ∀ t (j : Fin 128), hi (ix2 t j) = Hn X A S T t (256 * K + 128 + j.val)) (t j : Fin 256) :
    k0_pay4 lo hi (ix3 0 t j) = Hn X A S T t (256 * K + j.val) :=
  (tile_apply lo hi t j).trans (half X A S T K lo hi hlo hhi t j)

theorem lt_val (K : ℕ) (hK : K < 6) (acc : FVec Ideal S64x256 .f32) (lo hi : FVec Ideal S256x128 .bf16) (hlo : ∀ t (j : Fin 128), lo (ix2 t j) = Hn X A S T t (256 * K + j.val))
    (hhi : ∀ t (j : Fin 128), hi (ix2 t j) = Hn X A S T t (256 * K + 128 + j.val)) (r0 r1 : Vec Ideal S1x128 .i32)
    (h0 : LS C (2 * K) r0) (h1 : LS C (2 * K + 1) r1) (e : Fin 64) (t : Fin 256) :
    k0_pay5 acc lo (k0_pay17 r0) hi (k0_pay19 r1) (FloatOps.ofBits .f32 1065353216#32) (ix2 e t)
      = (acc (ix2 e t) + ∑ j : Fin 256, On C e (256 * K + j.val) * Hn X A S T t (256 * K + j.val) : EReal) := by
  refine (lt_apply acc lo hi r0 r1 e t).trans ?_
  refine congrArg₂ (fun p q : EReal => p + q) rfl (Finset.sum_congr rfl fun j _ => congrArg₂ (fun p q : EReal => p * q) ?_ (half X A S T K lo hi hlo hhi t j))
  unfold On
  rw [dif_pos (by omega : 256 * K + j.val < 1536)]
  split_ifs with h
  · rw [h0 _ ⟨2 * K, by omega⟩ rfl]
    refine congrArg (fun z => Scalar.select (IntOp.cmpi .eq (BitVec.ofNat 32 e.val) z) (FloatOps.ofBits .f32 1065353216#32 : Ideal .f32) 0) ?_
    exact congrArg₂ (fun p q => C (ix2 p q)) (Fin.ext (by dsimp only; omega)) (Fin.ext (by dsimp only; omega))
  · rw [h1 _ ⟨2 * K + 1, by omega⟩ rfl]
    refine congrArg (fun z => Scalar.select (IntOp.cmpi .eq (BitVec.ofNat 32 e.val) z) (FloatOps.ofBits .f32 1065353216#32 : Ideal .f32) 0) ?_
    exact congrArg₂ (fun p q => C (ix2 p q)) (Fin.ext (by dsimp only; omega)) (Fin.ext (by dsimp only; omega))

theorem ldA {sp : Space} {P Q p q : ℕ} {e : EltTy} (B : Memref sig .tc sp ⟨2, ![P, Q]⟩ e) (hB : B.IsWhole) (Y : Vec Ideal ⟨2, ![P, Q]⟩ e) (off : Fin 2 → ℕ)
    (inb : ∀ a, off a + (![p, q] : Fin 2 → ℕ) a ≤ (⟨2, ![P, Q]⟩ : Shape).size a) (o0 o1 : ℕ) (ho : off = ![o0, o1]) (h0 : o0 + p ≤ P) (h1 : o1 + q ≤ Q) (a : Fin p) (b : Fin q)
    (a' : Fin P) (b' : Fin Q) (ha : a'.val = o0 + a.val) (hb : b'.val = o1 + b.val) :
    B.view.readAt (Elt Ideal) (Rect.unit (s := ⟨2, ![P, Q]⟩) off ![p, q] inb).toLoadRect (hB.unread Y) (ix2 a b) = Y (ix2 a' b') :=
  (ld2 B hB Y off inb o0 o1 ho h0 h1 a b).trans (congrArg₂ (fun p q => Y (ix2 p q)) (Fin.ext ha.symm) (Fin.ext hb.symm))

end Vals
end Cert.ShrinkKernelIdeal.Shr
-- ==== Proof.SVal4.lean ====
module
public import proofs.«01_k».proof.Proof.SVal3
@[expose] public section
set_option maxRecDepth 16384
noncomputable section
open Idealize.ShloMosaic Idealize.ShloMosaic.TcCoe Idealize.SL.Sem
namespace Cert.ShrinkKernelIdeal.Shr
open Cert.ShrinkKernelIdeal Cert.ShrinkKernelIdeal.Gen Cert.Math
open Idealize.ShloMosaic.Pipeline (Dat)

theorem ldLA (arg3 : Memref sig .tc .vmem S1536x7168 .i8) (h3 : arg3.IsWhole) (A : Vec Ideal S1536x7168 .i8) (off : Fin 2 → ℕ)
    (inb : ∀ a, off a + (![256, 1024] : Fin 2 → ℕ) a ≤ S1536x7168.size a) (K i : ℕ) (hK : K < 6) (hi : i < 7) (ho : off = ![256 * K, 1024 * i]) :
    LA A K i (arg3.view.readAt (Elt Ideal) (Rect.unit (s := S1536x7168) off ![256, 1024] inb).toLoadRect (h3.unread A)) :=
  fun j k p q hp hq => ldA arg3 h3 A off inb (256 * K) (1024 * i) ho (by omega) (by omega) j k p q hp (by omega)

theorem ldLX (arg2 : Memref sig .tc .vmem S256x7168 .bf16) (h2 : arg2.IsWhole) (X : Vec Ideal S256x7168 .bf16) (off : Fin 2 → ℕ)
    (inb : ∀ a, off a + (![256, 1024] : Fin 2 → ℕ) a ≤ S256x7168.size a) (i : ℕ) (hi : i < 7) (ho : off = ![0, 1024 * i]) :
    LX X i (arg2.view.readAt (Elt Ideal) (Rect.unit (s := S256x7168) off ![256, 1024] inb).toLoadRect (h2.unread X)) :=
  fun t k q hq => ldA arg2 h2 X off inb 0 (1024 * i) ho (by omega) (by omega) t k t q (by omega) (by omega)

theorem ldLS {e : EltTy} (arg4 : Memref sig .tc .vmem S16x128 e) (h4 : arg4.IsWhole) (S : Vec Ideal S16x128 e) (off : Fin 2 → ℕ)
    (inb : ∀ a, off a + (![1, 128] : Fin 2 → ℕ) a ≤ S16x128.size a) (r : ℕ) (hr : r < 16) (ho : off = ![r, 0]) :
    LS S r (arg4.view.readAt (Elt Ideal) (Rect.unit (s := S16x128) off ![1, 128] inb).toLoadRect (h4.unread S)) :=
  fun j s hs => ldA arg4 h4 S off inb r 0 ho (by omega) (by omega) 0 j s j (by simpa using hs) (by omega)

theorem ldLT (arg5 : Memref sig .tc .vmem S3x256x128 .f32) (h5 : arg5.IsWhole) (T : Vec Ideal S3x256x128 .f32) (o : Fin 3)
    (inb : ∀ a, (![o.val, 0, 0] : Fin 3 → ℕ) a + (![1, 256, 128] : Fin 3 → ℕ) a ≤ S3x256x128.size a) :
    LT T o (arg5.view.readAt (Elt Ideal) (Rect.unit (s := S3x256x128) ![o.val, 0, 0] ![1, 256, 128] inb).toLoadRect (h5.unread T)) :=
  fun t j => ld3 arg5 h5 T o inb t j

section Trip
variable (X : Vec Ideal S256x7168 .bf16) (A : Vec Ideal S1536x7168 .i8) (S : Vec Ideal S16x128 .f32) (T : Vec Ideal S3x256x128 .f32) (C : Vec Ideal S16x128 .i32)

set_option maxHeartbeats 2000000 in
/-- One trip: the block it writes and the value it hands on. -/
theorem trip_val (𝒱 : Variants) (c : Dev nD) (bd : Option 𝒱.V) (i : grid0.Coords) (arg1 : Memref sig .tc .smem S1 .i32) (harg1 : arg1.IsWhole) (arg2 : Memref sig .tc .vmem S256x7168 .bf16) (harg2 : arg2.IsWhole) (arg3 : Memref sig .tc .vmem S1536x7168 .i8) (harg3 : arg3.IsWhole) (arg4 : Memref sig .tc .vmem S16x128 .f32) (harg4 : arg4.IsWhole) (arg5 : Memref sig .tc .vmem S3x256x128 .f32) (harg5 : arg5.IsWhole) (arg6 : Memref sig .tc .vmem S16x128 .i32) (harg6 : arg6.IsWhole) (arg7 : Memref sig .tc .vmem S6x256x256 .bf16) (harg7 : arg7.IsWhole) (arg8 : Memref sig .tc .vmem S64x256 .bf16) (harg8 : arg8.IsWhole)
  (v2 : BitVec 32) (hw : k0_chk1 v2)
  (k : Fin (k0_t1_loop v2).trips) (hk : k.val < 6) (acc : FVec Ideal S64x256 .f32) :
    (∀ e t, tripR_k0_t1 (F := Ideal) 𝒱 c bd i arg1 harg1 arg2 harg2 arg3 harg3 arg4 harg4 arg5 harg5 arg6 harg6 arg7 harg7 arg8 harg8 v2 hw (harg2.unread X) (harg3.unread A) (harg4.unread S) (harg5.unread T) (harg6.unread C) k acc (ix2 e t)
      = (acc (ix2 e t) + ∑ j : Fin 256, On C e (256 * k.val + j.val) * Hn X A S T t (256 * k.val + j.val) : EReal))
    ∧ ∃ (inb : ∀ a, k0_off9 v2 k a + (![1, 256, 256] : Fin 3 → ℕ) a ≤ S6x256x256.size a) (B : Vec Ideal S1x256x256 .bf16),
      tripL_k0_t1 (F := Ideal) 𝒱 c bd i arg1 harg1 arg2 harg2 arg3 harg3 arg4 harg4 arg5 harg5 arg6 harg6 arg7 harg7 arg8 harg8 v2 hw (harg2.unread X) (harg3.unread A) (harg4.unread S) (harg5.unread T) (harg6.unread C) k acc = [⟨Rect.unit (s := S6x256x256) (k0_off9 v2 k) ![1, 256, 256] inb, B⟩]
      ∧ ∀ t j, B (ix3 0 t j) = Hn X A S T t (256 * k.val + j.val) := by
  have h8 : k.val ≤ 800 := by omega
  unfold tripR_k0_t1 tripL_k0_t1 trip_k0_t1
  dsimp only
  unfold trip_k0_t1.sl.r_5 trip_k0_t1.sl.r_6 trip_k0_t1.sl.r_7 trip_k0_t1.sl.r_8 trip_k0_t1.sl.cst_59
  unfold trip_k0_t1.sl.r_3 trip_k0_t1.sl.r_4 trip_k0_t1.sl.r_2 trip_k0_t1.sl.arg9
  unfold trip_k0_t1.sl.r trip_k0_t1.sl.r_1
  dsimp only
  refine ⟨fun e t => ?_, _, _, rfl, fun t j => ?_⟩
  · refine lt_val X A S T C k.val hk acc _ _ (fun t j => ?_) (fun t j => ?_) _ _ (ldLS arg6 harg6 C _ _ (2 * k.val) (by omega) (off8_eq v2 k 0 h8)) (ldLS arg6 harg6 C _ _ (2 * k.val + 1) (by omega) (off8_eq v2 k 1 h8)) e t
    · exact lo_val X A S T k.val hk _ _ _ _ _ _ _ _ _ _ _ _ _ _
        (ldLA arg3 harg3 A _ _ k.val 0 hk (by decide) (off1_eq v2 k h8)) (ldLX arg2 harg2 X _ _ 0 (by decide) rfl)
        (ldLA arg3 harg3 A _ _ k.val 1 hk (by decide) (off2_eq v2 k h8)) (ldLX arg2 harg2 X _ _ 1 (by decide) rfl)
        (ldLA arg3 harg3 A _ _ k.val 2 hk (by decide) (off3_eq v2 k h8)) (ldLX arg2 harg2 X _ _ 2 (by decide) rfl)
        (ldLA arg3 harg3 A _ _ k.val 3 hk (by decide) (off4_eq v2 k h8)) (ldLX arg2 harg2 X _ _ 3 (by decide) rfl)
        (ldLA arg3 harg3 A _ _ k.val 4 hk (by decide) (off5_eq v2 k h8)) (ldLX arg2 harg2 X _ _ 4 (by decide) rfl)
        (ldLA arg3 harg3 A _ _ k.val 5 hk (by decide) (off6_eq v2 k h8)) (ldLX arg2 harg2 X _ _ 5 (by decide) rfl)
        (ldLA arg3 harg3 A _ _ k.val 6 hk (by decide) (off7_eq v2 k h8)) (ldLX arg2 harg2 X _ _ 6 (by decide) rfl)
        _ _ _ _ (ldLS arg4 harg4 S _ _ (2 * k.val) (by omega) (off8_eq v2 k 0 h8)) (ldLT arg5 harg5 T 0 _) (ldLT arg5 harg5 T 1 _) (ldLT arg5 harg5 T 2 _) t j
    · exact hi_val X A S T k.val hk _ _ _ _ _ _ _ _ _ _ _ _ _ _
        (ldLA arg3 harg3 A _ _ k.val 0 hk (by decide) (off1_eq v2 k h8)) (ldLX arg2 harg2 X _ _ 0 (by decide) rfl)
        (ldLA arg3 harg3 A _ _ k.val 1 hk (by decide) (off2_eq v2 k h8)) (ldLX arg2 harg2 X _ _ 1 (by decide) rfl)
        (ldLA arg3 harg3 A _ _ k.val 2 hk (by decide) (off3_eq v2 k h8)) (ldLX arg2 harg2 X _ _ 2 (by decide) rfl)
        (ldLA arg3 harg3 A _ _ k.val 3 hk (by decide) (off4_eq v2 k h8)) (ldLX arg2 harg2 X _ _ 3 (by decide) rfl)
        (ldLA arg3 harg3 A _ _ k.val 4 hk (by decide) (off5_eq v2 k h8)) (ldLX arg2 harg2 X _ _ 4 (by decide) rfl)
        (ldLA arg3 harg3 A _ _ k.val 5 hk (by decide) (off6_eq v2 k h8)) (ldLX arg2 harg2 X _ _ 5 (by decide) rfl)
        (ldLA arg3 harg3 A _ _ k.val 6 hk (by decide) (off7_eq v2 k h8)) (ldLX arg2 harg2 X _ _ 6 (by decide) rfl)
        _ _ _ _ (ldLS arg4 harg4 S _ _ (2 * k.val + 1) (by omega) (off8_eq v2 k 1 h8)) (ldLT arg5 harg5 T 0 _) (ldLT arg5 harg5 T 1 _) (ldLT arg5 harg5 T 2 _) t j
  · refine tile_val X A S T k.val _ _ (fun t j => ?_) (fun t j => ?_) t j
    · exact lo_val X A S T k.val hk _ _ _ _ _ _ _ _ _ _ _ _ _ _
        (ldLA arg3 harg3 A _ _ k.val 0 hk (by decide) (off1_eq v2 k h8)) (ldLX arg2 harg2 X _ _ 0 (by decide) rfl)
        (ldLA arg3 harg3 A _ _ k.val 1 hk (by decide) (off2_eq v2 k h8)) (ldLX arg2 harg2 X _ _ 1 (by decide) rfl)
        (ldLA arg3 harg3 A _ _ k.val 2 hk (by decide) (off3_eq v2 k h8)) (ldLX arg2 harg2 X _ _ 2 (by decide) rfl)
        (ldLA arg3 harg3 A _ _ k.val 3 hk (by decide) (off4_eq v2 k h8)) (ldLX arg2 harg2 X _ _ 3 (by decide) rfl)
        (ldLA arg3 harg3 A _ _ k.val 4 hk (by decide) (off5_eq v2 k h8)) (ldLX arg2 harg2 X _ _ 4 (by decide) rfl)
        (ldLA arg3 harg3 A _ _ k.val 5 hk (by decide) (off6_eq v2 k h8)) (ldLX arg2 harg2 X _ _ 5 (by decide) rfl)
        (ldLA arg3 harg3 A _ _ k.val 6 hk (by decide) (off7_eq v2 k h8)) (ldLX arg2 harg2 X _ _ 6 (by decide) rfl)
        _ _ _ _ (ldLS arg4 harg4 S _ _ (2 * k.val) (by omega) (off8_eq v2 k 0 h8)) (ldLT arg5 harg5 T 0 _) (ldLT arg5 harg5 T 1 _) (ldLT arg5 harg5 T 2 _) t j
    · exact hi_val X A S T k.val hk _ _ _ _ _ _ _ _ _ _ _ _ _ _
        (ldLA arg3 harg3 A _ _ k.val 0 hk (by decide) (off1_eq v2 k h8)) (ldLX arg2 harg2 X _ _ 0 (by decide) rfl)
        (ldLA arg3 harg3 A _ _ k.val 1 hk (by decide) (off2_eq v2 k h8)) (ldLX arg2 harg2 X _ _ 1 (by decide) rfl)
        (ldLA arg3 harg3 A _ _ k.val 2 hk (by decide) (off3_eq v2 k h8)) (ldLX arg2 harg2 X _ _ 2 (by decide) rfl)
        (ldLA arg3 harg3 A _ _ k.val 3 hk (by decide) (off4_eq v2 k h8)) (ldLX arg2 harg2 X _ _ 3 (by decide) rfl)
        (ldLA arg3 harg3 A _ _ k.val 4 hk (by decide) (off5_eq v2 k h8)) (ldLX arg2 harg2 X _ _ 4 (by decide) rfl)
        (ldLA arg3 harg3 A _ _ k.val 5 hk (by decide) (off6_eq v2 k h8)) (ldLX arg2 harg2 X _ _ 5 (by decide) rfl)
        (ldLA arg3 harg3 A _ _ k.val 6 hk (by decide) (off7_eq v2 k h8)) (ldLX arg2 harg2 X _ _ 6 (by decide) rfl)
        _ _ _ _ (ldLS arg4 harg4 S _ _ (2 * k.val + 1) (by omega) (off8_eq v2 k 1 h8)) (ldLT arg5 harg5 T 0 _) (ldLT arg5 harg5 T 1 _) (ldLT arg5 harg5 T 2 _) t j

end Trip
end Cert.ShrinkKernelIdeal.Shr
-- ==== Proof.SVal5.lean ====
module
public import proofs.«01_k».proof.Proof.SVal4
public import Idealize.ShloMosaic.Lib.WritesUnit
public import Idealize.ShloMosaic.Lib.VecWindow
@[expose] public section
set_option maxRecDepth 16384
noncomputable section
open Idealize.ShloMosaic Idealize.ShloMosaic.TcCoe Idealize.SL.Sem
namespace Cert.ShrinkKernelIdeal.Shr
open Cert.ShrinkKernelIdeal Cert.ShrinkKernelIdeal.Gen Cert.Math
open Idealize.ShloMosaic.Pipeline (Dat)

section Loop
variable (X : Vec Ideal S256x7168 .bf16) (A : Vec Ideal S1536x7168 .i8) (S : Vec Ideal S16x128 .f32) (T : Vec Ideal S3x256x128 .f32) (C : Vec Ideal S16x128 .i32)

/-- What one block of 256 rows adds to the second result. -/
def Bl (e : Fin 64) (t : Fin 256) (b : ℕ) : EReal := ∑ j : Fin 256, On C e (256 * b + j.val) * Hn X A S T t (256 * b + j.val)

/-- The value carried after `K` trips. -/
theorem loop_R (𝒱 : Variants) (c : Dev nD) (bd : Option 𝒱.V) (i : grid0.Coords) (arg1 : Memref sig .tc .smem S1 .i32) (harg1 : arg1.IsWhole) (arg2 : Memref sig .tc .vmem S256x7168 .bf16) (harg2 : arg2.IsWhole) (arg3 : Memref sig .tc .vmem S1536x7168 .i8) (harg3 : arg3.IsWhole) (arg4 : Memref sig .tc .vmem S16x128 .f32) (harg4 : arg4.IsWhole) (arg5 : Memref sig .tc .vmem S3x256x128 .f32) (harg5 : arg5.IsWhole) (arg6 : Memref sig .tc .vmem S16x128 .i32) (harg6 : arg6.IsWhole) (arg7 : Memref sig .tc .vmem S6x256x256 .bf16) (harg7 : arg7.IsWhole) (arg8 : Memref sig .tc .vmem S64x256 .bf16) (harg8 : arg8.IsWhole)
  (v2 : BitVec 32) (hw : k0_chk1 v2)
  (init : FVec Ideal S64x256 .f32) (K : ℕ) (hK : K ≤ (k0_t1_loop v2).trips) (h6 : K ≤ 6) (e : Fin 64) (t : Fin 256) :
    (st_k0_t1 (F := Ideal) 𝒱 c bd i arg1 harg1 arg2 harg2 arg3 harg3 arg4 harg4 arg5 harg5 arg6 harg6 arg7 harg7 arg8 harg8 v2 hw (harg2.unread X) (harg3.unread A) (harg4.unread S) (harg5.unread T) (harg6.unread C) init K).1 (ix2 e t) = (init (ix2 e t) + ∑ b ∈ Finset.range K, Bl X A S T C e t b : EReal) := by
  induction K with
  | zero => exact (add_zero (init (ix2 e t) : EReal)).symm
  | succ K ih =>
    have e1 : st_k0_t1 (F := Ideal) 𝒱 c bd i arg1 harg1 arg2 harg2 arg3 harg3 arg4 harg4 arg5 harg5 arg6 harg6 arg7 harg7 arg8 harg8 v2 hw (harg2.unread X) (harg3.unread A) (harg4.unread S) (harg5.unread T) (harg6.unread C) init (K + 1) = _ := st_k0_t1_succ 𝒱 c bd i arg1 harg1 arg2 harg2 arg3 harg3 arg4 harg4 arg5 harg5 arg6 harg6 arg7 harg7 arg8 harg8 v2 hw (harg2.unread X) (harg3.unread A) (harg4.unread S) (harg5.unread T) (harg6.unread C) init ⟨K, by omega⟩
    rw [e1]
    refine ((trip_val X A S T C 𝒱 c bd i arg1 harg1 arg2 harg2 arg3 harg3 arg4 harg4 arg5 harg5 arg6 harg6 arg7 harg7 arg8 harg8 v2 hw ⟨K, by omega⟩ (by dsimp only; omega) _).1 e t).trans ?_
    rw [Finset.sum_range_succ, ← add_assoc]
    exact congrArg (fun z : EReal => z + Bl X A S T C e t K) (ih (by omega) (by omega))

/-- What `K` trips have written, over whatever was there. -/
theorem loop_L (𝒱 : Variants) (c : Dev nD) (bd : Option 𝒱.V) (i : grid0.Coords) (arg1 : Memref sig .tc .smem S1 .i32) (harg1 : arg1.IsWhole) (arg2 : Memref sig .tc .vmem S256x7168 .bf16) (harg2 : arg2.IsWhole) (arg3 : Memref sig .tc .vmem S1536x7168 .i8) (harg3 : arg3.IsWhole) (arg4 : Memref sig .tc .vmem S16x128 .f32) (harg4 : arg4.IsWhole) (arg5 : Memref sig .tc .vmem S3x256x128 .f32) (harg5 : arg5.IsWhole) (arg6 : Memref sig .tc .vmem S16x128 .i32) (harg6 : arg6.IsWhole) (arg7 : Memref sig .tc .vmem S6x256x256 .bf16) (harg7 : arg7.IsWhole) (arg8 : Memref sig .tc .vmem S64x256 .bf16) (harg8 : arg8.IsWhole)
  (v2 : BitVec 32) (hw : k0_chk1 v2)
  (init : FVec Ideal S64x256 .f32) (K : ℕ) (hK : K ≤ (k0_t1_loop v2).trips) (h6 : K ≤ 6)
  {κ : Kind} {sp : Space} (V : View sig κ sp S6x256x256 .bf16) (f : V.ty.Contents (Elt Ideal)) (L : List (View.Piece (Elt Ideal) S6x256x256 .bf16))
  (b : Fin 6) (t j : Fin 256) :
    V.read (Elt Ideal) (V.writes (Elt Ideal) f ((st_k0_t1 (F := Ideal) 𝒱 c bd i arg1 harg1 arg2 harg2 arg3 harg3 arg4 harg4 arg5 harg5 arg6 harg6 arg7 harg7 arg8 harg8 v2 hw (harg2.unread X) (harg3.unread A) (harg4.unread S) (harg5.unread T) (harg6.unread C) init K).2 ++ L)) (ix3 b t j)
      = if b.val < K then Hn X A S T t (256 * b.val + j.val) else V.read (Elt Ideal) (V.writes (Elt Ideal) f L) (ix3 b t j) := by
  induction K with
  | zero =>
    rw [if_neg (Nat.not_lt_zero _)]
    rfl
  | succ K ih =>
    have e1 : st_k0_t1 (F := Ideal) 𝒱 c bd i arg1 harg1 arg2 harg2 arg3 harg3 arg4 harg4 arg5 harg5 arg6 harg6 arg7 harg7 arg8 harg8 v2 hw (harg2.unread X) (harg3.unread A) (harg4.unread S) (harg5.unread T) (harg6.unread C) init (K + 1) = _ := st_k0_t1_succ 𝒱 c bd i arg1 harg1 arg2 harg2 arg3 harg3 arg4 harg4 arg5 harg5 arg6 harg6 arg7 harg7 arg8 harg8 v2 hw (harg2.unread X) (harg3.unread A) (harg4.unread S) (harg5.unread T) (harg6.unread C) init ⟨K, by omega⟩
    rw [e1]
    obtain ⟨inb, B, hB, hv⟩ := (trip_val X A S T C 𝒱 c bd i arg1 harg1 arg2 harg2 arg3 harg3 arg4 harg4 arg5 harg5 arg6 harg6 arg7 harg7 arg8 harg8 v2 hw ⟨K, by omega⟩ (by dsimp only; omega) (st_k0_t1 (F := Ideal) 𝒱 c bd i arg1 harg1 arg2 harg2 arg3 harg3 arg4 harg4 arg5 harg5 arg6 harg6 arg7 harg7 arg8 harg8 v2 hw (harg2.unread X) (harg3.unread A) (harg4.unread S) (harg5.unread T) (harg6.unread C) init K).1).2
    dsimp only
    rw [hB]
    have ho : k0_off9 v2 ⟨K, by omega⟩ = ![K, 0, 0] := off9_eq v2 ⟨K, by omega⟩ (by dsimp only; omega)
    by_cases hb : b.val = K
    · rw [if_pos (by omega)]
      refine (View.read_writes_cons_unit_of_mem V f inb B _ (ix3 b t j) (ix3 0 t j) ho ?_).trans ((hv t j).trans ?_)
      · intro a
        match a with
        | ⟨0, _⟩ => exact hb
        | ⟨1, _⟩ => exact (Nat.zero_add _).symm
        | ⟨2, _⟩ => exact (Nat.zero_add _).symm
      · rw [hb]
    · refine (View.read_writes_cons_unit_of_not_mem V f inb B _ (ix3 b t j) ho ⟨0, by decide⟩ ?_).trans ((ih (by omega) (by omega)).trans ?_)
      · show b.val < K ∨ K + 1 ≤ b.val
        omega
      · by_cases h : b.val < K
        · rw [if_pos h, if_pos (by omega)]
        · rw [if_neg h, if_neg (by omega)]
end Loop

end Cert.ShrinkKernelIdeal.Shr
-- ==== Proof.SVal6.lean ====
module
public import proofs.«01_k».proof.Proof.SVal5
@[expose] public section
set_option maxRecDepth 16384
noncomputable section
open Idealize.ShloMosaic Idealize.ShloMosaic.TcCoe Idealize.SL.Sem
namespace Cert.ShrinkKernelIdeal.Shr
open Cert.ShrinkKernelIdeal Cert.ShrinkKernelIdeal.Gen Cert.Math
open Idealize.ShloMosaic.Pipeline (Dat)

section Out
variable (X : Vec Ideal S256x7168 .bf16) (A : Vec Ideal S1536x7168 .i8) (S : Vec Ideal S16x128 .f32) (T : Vec Ideal S3x256x128 .f32) (C : Vec Ideal S16x128 .i32)

theorem pay1z (b : Fin 6) (t j : Fin 256) : (k0_pay1 : FVec Ideal S6x256x256 .bf16) (ix3 b t j) = (0 : EReal) := by
  pointwise [k0_pay1]
theorem pay2z (e : Fin 64) (t : Fin 256) : (k0_pay2 : FVec Ideal S64x256 .f32) (ix2 e t) = (0 : EReal) := by
  pointwise [k0_pay2]
theorem pay9_apply (v : FVec Ideal S64x256 .f32) (e : Fin 64) (t : Fin 256) : k0_pay9 v (ix2 e t) = (v (ix2 e t) : EReal) := by
  pointwise [k0_pay9]

/-- The hidden array from the five operands and the number of rows. -/
def hres (n : ℕ) : FVec Ideal S6x256x256 .bf16 :=
  fun i => if (i 0).val < (n + 255) / 256 then Hn X A S T (i 1) (256 * (i 0).val + (i 2).val) else (0 : EReal)
/-- The second result from the five operands and the number of rows. -/
def lres (n : ℕ) : FVec Ideal S64x256 .bf16 :=
  fun i => (∑ b ∈ Finset.range ((n + 255) / 256), Bl X A S T C (i 0) (i 1) b : EReal)

theorem out7 (𝒱 : Variants) (c : Dev nD) (bd : Option 𝒱.V) (i : grid0.Coords) (arg1 : Memref sig .tc .smem S1 .i32) (harg1 : arg1.IsWhole) (arg2 : Memref sig .tc .vmem S256x7168 .bf16) (harg2 : arg2.IsWhole) (arg3 : Memref sig .tc .vmem S1536x7168 .i8) (harg3 : arg3.IsWhole) (arg4 : Memref sig .tc .vmem S16x128 .f32) (harg4 : arg4.IsWhole) (arg5 : Memref sig .tc .vmem S3x256x128 .f32) (harg5 : arg5.IsWhole) (arg6 : Memref sig .tc .vmem S16x128 .i32) (harg6 : arg6.IsWhole) (arg7 : Memref sig .tc .vmem S6x256x256 .bf16) (harg7 : arg7.IsWhole) (arg8 : Memref sig .tc .vmem S64x256 .bf16) (harg8 : arg8.IsWhole)
  (v2 : BitVec 32) (hw : k0_chk1 v2)
  (hv : v2.toNat ≤ 1536) (v10 : BitVec 32) (n1 n2 : ℕ) (h1 : n1 = (k0_t1_loop v2).trips) (h2 : n2 = (k0_t2_loop v2).trips) (e : Fin 64) (t : Fin 256) :
    k0_pay9 (st_k0_t2 (F := Ideal) 𝒱 c bd i arg1 harg1 arg2 harg2 arg3 harg3 arg4 harg4 arg5 harg5 arg6 harg6 arg7 harg7 arg8 harg8 v2 hw v10 (harg2.unread X) (harg3.unread A) (harg4.unread S) (harg5.unread T) (harg6.unread C) (st_k0_t1 (F := Ideal) 𝒱 c bd i arg1 harg1 arg2 harg2 arg3 harg3 arg4 harg4 arg5 harg5 arg6 harg6 arg7 harg7 arg8 harg8 v2 hw (harg2.unread X) (harg3.unread A) (harg4.unread S) (harg5.unread T) (harg6.unread C) k0_pay2 n1).1 n2).1 (ix2 e t)
      = lres X A S T C v2.toNat (ix2 e t) := by
  have e1 := t1_trips v2 hv
  rw [t2_trips] at h2
  subst h2
  refine (pay9_apply _ e t).trans ((loop_R X A S T C 𝒱 c bd i arg1 harg1 arg2 harg2 arg3 harg3 arg4 harg4 arg5 harg5 arg6 harg6 arg7 harg7 arg8 harg8 v2 hw k0_pay2 n1 (by omega) (by omega) e t).trans ?_)
  rw [pay2z, zero_add, h1, e1]
  rfl

theorem out6 (𝒱 : Variants) (c : Dev nD) (bd : Option 𝒱.V) (i : grid0.Coords) (arg1 : Memref sig .tc .smem S1 .i32) (harg1 : arg1.IsWhole) (arg2 : Memref sig .tc .vmem S256x7168 .bf16) (harg2 : arg2.IsWhole) (arg3 : Memref sig .tc .vmem S1536x7168 .i8) (harg3 : arg3.IsWhole) (arg4 : Memref sig .tc .vmem S16x128 .f32) (harg4 : arg4.IsWhole) (arg5 : Memref sig .tc .vmem S3x256x128 .f32) (harg5 : arg5.IsWhole) (arg6 : Memref sig .tc .vmem S16x128 .i32) (harg6 : arg6.IsWhole) (arg7 : Memref sig .tc .vmem S6x256x256 .bf16) (harg7 : arg7.IsWhole) (arg8 : Memref sig .tc .vmem S64x256 .bf16) (harg8 : arg8.IsWhole)
  (v2 : BitVec 32) (hw : k0_chk1 v2)
  (hv : v2.toNat ≤ 1536) (v10 : BitVec 32) (n1 n2 : ℕ) (h1 : n1 = (k0_t1_loop v2).trips) (h2 : n2 = (k0_t2_loop v2).trips)
  {κ : Kind} {sp : Space} (V : View sig κ sp S6x256x256 .bf16) (f : V.ty.Contents (Elt Ideal)) (inb : ∀ a, (![0, 0, 0] : Fin 3 → ℕ) a + S6x256x256.size a ≤ S6x256x256.size a)
  (b : Fin 6) (t j : Fin 256) :
    V.read (Elt Ideal) (V.writes (Elt Ideal) f ((st_k0_t2 (F := Ideal) 𝒱 c bd i arg1 harg1 arg2 harg2 arg3 harg3 arg4 harg4 arg5 harg5 arg6 harg6 arg7 harg7 arg8 harg8 v2 hw v10 (harg2.unread X) (harg3.unread A) (harg4.unread S) (harg5.unread T) (harg6.unread C) (st_k0_t1 (F := Ideal) 𝒱 c bd i arg1 harg1 arg2 harg2 arg3 harg3 arg4 harg4 arg5 harg5 arg6 harg6 arg7 harg7 arg8 harg8 v2 hw (harg2.unread X) (harg3.unread A) (harg4.unread S) (harg5.unread T) (harg6.unread C) k0_pay2 n1).1 n2).2
        ++ ((st_k0_t1 (F := Ideal) 𝒱 c bd i arg1 harg1 arg2 harg2 arg3 harg3 arg4 harg4 arg5 harg5 arg6 harg6 arg7 harg7 arg8 harg8 v2 hw (harg2.unread X) (harg3.unread A) (harg4.unread S) (harg5.unread T) (harg6.unread C) k0_pay2 n1).2 ++ [⟨Rect.unit (s := S6x256x256) ![0, 0, 0] S6x256x256.size inb, (k0_pay1 (F := Ideal))⟩]))) (ix3 b t j)
      = hres X A S T v2.toNat (ix3 b t j) := by
  have e1 := t1_trips v2 hv
  rw [t2_trips] at h2
  subst h2
  refine (loop_L X A S T C 𝒱 c bd i arg1 harg1 arg2 harg2 arg3 harg3 arg4 harg4 arg5 harg5 arg6 harg6 arg7 harg7 arg8 harg8 v2 hw k0_pay2 n1 (by omega) (by omega) V f _ b t j).trans ?_
  rw [View.read_writes_full, pay1z, h1, e1]
  rfl
end Out
end Cert.ShrinkKernelIdeal.Shr
-- ==== Proof.SVal7.lean ====
module
public import proofs.«01_k».proof.Proof.SVal6
@[expose] public section
set_option maxRecDepth 16384
noncomputable section
open Idealize.ShloMosaic Idealize.ShloMosaic.TcCoe Idealize.SL.Sem
namespace Cert.ShrinkKernelIdeal.Shr
open Cert.ShrinkKernelIdeal Cert.ShrinkKernelIdeal.Gen Cert.Math
open Idealize.ShloMosaic.Pipeline (Dat)

variable (m : (ℓ : Loc nD τ sig) → Buf (Elt Ideal) ℓ)

/-- Where each window's block lies. -/
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0] := (by decide +kernel : ∀ t : Fin grid0.N, _)

theorem ex2 {n₀ n₁ : ℕ} (y : (⟨2, ![n₀, n₁]⟩ : Shape).Idx) : ∃ (a : Fin n₀) (b : Fin n₁), y = ix2 a b :=
  ⟨y 0, y 1, by funext k; match k with | ⟨0, _⟩ => rfl | ⟨1, _⟩ => rfl⟩
theorem ex3 {n₀ n₁ n₂ : ℕ} (y : (⟨3, ![n₀, n₁, n₂]⟩ : Shape).Idx) : ∃ (a : Fin n₀) (b : Fin n₁) (c : Fin n₂), y = ix3 a b c :=
  ⟨y 0, y 1, y 2, by funext k; match k with | ⟨0, _⟩ => rfl | ⟨1, _⟩ => rfl | ⟨2, _⟩ => rfl⟩

/-- The activations as the region finds them. -/
theorem V_x (c : Dev nD) (x : FVec Ideal S2x128x7168 .bf16) (hx : m ((c.tc : Thread nD τ).loc main_arg0) = x) :
    V m c main_v0 = (shapeCast S256x7168 x shapeCasts_S2x128x7168_S256x7168 : FVec Ideal S256x7168 .bf16) := by
  subst hx
  show StableHlo.after hostOps0 _ _ = _
  after_results_simp <;> rfl

theorem blk1 (c : Dev nD) (x : FVec Ideal S2x128x7168 .bf16) (hx : m ((c.tc : Thread nD τ).loc main_arg0) = x) (t : Fin cfg0.N) :
    (iblk m c 1 t : FVec Ideal S256x7168 .bf16) = (shapeCast S256x7168 x shapeCasts_S2x128x7168_S256x7168 : FVec Ideal S256x7168 .bf16) := by
  funext y
  obtain ⟨a, k, rfl⟩ := ex2 (n₀ := 256) (n₁ := 7168) y
  blk_simp [iblk]
  show V m c main_v0 _ = _
  rw [V_x m c x hx]
  blk_ext [idx1 t]
theorem blk2 (c : Dev nD) (x : IVec S1536x7168 8) (hx : m ((c.tc : Thread nD τ).loc main_arg1) = x) (t : Fin cfg0.N) :
    (iblk m c 2 t : IVec S1536x7168 8) = x := by
  funext y
  obtain ⟨a, k, rfl⟩ := ex2 (n₀ := 1536) (n₁ := 7168) y
  blk_simp [iblk]
  show V m c main_arg1 _ = _
  rw [V_main_arg1, hx]
  blk_ext [idx2 t]
theorem blk3 (c : Dev nD) (x : FVec Ideal S16x128 .f32) (hx : m ((c.tc : Thread nD τ).loc main_arg2) = x) (t : Fin cfg0.N) :
    (iblk m c 3 t : FVec Ideal S16x128 .f32) = x := by
  funext y
  obtain ⟨a, k, rfl⟩ := ex2 (n₀ := 16) (n₁ := 128) y
  blk_simp [iblk]
  show V m c main_arg2 _ = _
  rw [V_main_arg2, hx]
  blk_ext [idx3 t]
theorem blk4 (c : Dev nD) (x : FVec Ideal S3x256x128 .f32) (hx : m ((c.tc : Thread nD τ).loc main_arg3) = x) (t : Fin cfg0.N) :
    (iblk m c 4 t : FVec Ideal S3x256x128 .f32) = x := by
  funext y
  obtain ⟨a, k, l, rfl⟩ := ex3 (n₀ := 3) (n₁ := 256) (n₂ := 128) y
  blk_simp [iblk]
  show V m c main_arg3 _ = _
  rw [V_main_arg3, hx]
  blk_ext [idx4 t]
theorem blk5 (c : Dev nD) (x : IVec S16x128 32) (hx : m ((c.tc : Thread nD τ).loc main_arg4) = x) (t : Fin cfg0.N) :
    (iblk m c 5 t : IVec S16x128 32) = x := by
  funext y
  obtain ⟨a, k, rfl⟩ := ex2 (n₀ := 16) (n₁ := 128) y
  blk_simp [iblk]
  show V m c main_arg4 _ = _
  rw [V_main_arg4, hx]
  blk_ext [idx5 t]

section Fin
variable (hH : Hyps m) (c : Dev nD) (x : FVec Ideal S2x128x7168 .bf16) (A : IVec S1536x7168 8) (S : FVec Ideal S16x128 .f32) (T : FVec Ideal S3x256x128 .f32) (C : IVec S16x128 32) (tot : IVec S1 32)

theorem fin7 (hx : m ((c.tc : Thread nD τ).loc main_arg0) = x) (hA : m ((c.tc : Thread nD τ).loc main_arg1) = A) (hS : m ((c.tc : Thread nD τ).loc main_arg2) = S)
    (hT : m ((c.tc : Thread nD τ).loc main_arg3) = T) (hC : m ((c.tc : Thread nD τ).loc main_arg4) = C) (ht : m ((c.tc : Thread nD τ).loc main_arg5) = tot)
    (hv : (tot (ix1 0)).toNat ≤ 1536) :
    (dats m hH 0 c).arrAt 7 cfg0.N = lres (shapeCast S256x7168 x shapeCasts_S2x128x7168_S256x7168) A S T C (tot (ix1 0)).toNat := by
  refine (dats m hH 0 c).arrAt_eq_of_covers 7 _ (by decide +kernel) fun t hf y => ?_
  blk_simp
  rw [after0_7]
  unfold outsAt0
  dsimp only
  unfold out0_A_7 kernelRun0_A
  dsimp only
  obtain ⟨e, n, rfl⟩ := ex2 (n₀ := 64) (n₁ := 256) y
  have hp : (((View.whole main_v1_1).slice (win0_7.rect t)).emb (ix2 e n) : S64x256.Idx) = ix2 e n := by
    blk_ext [idx7 t]
  rw [hp]
  have hw : kernelRun0_A.sl.r c (ms0_0 t) (hs0_0 t) (iblk m c 0 t) = tot (ix1 0) := by
    unfold kernelRun0_A.sl.r
    rw [← ht]
    exact word m c t
  rw [← hw, ← blk1 m c x hx t, ← blk2 m c A hA t, ← blk3 m c S hS t, ← blk4 m c T hT t, ← blk5 m c C hC t]
  refine (View.read_writes_cons_unit_of_mem VO0_7 _ _ _ [] (ix2 e n) (ix2 e n) rfl ?_).trans ?_
  · intro a
    match a with
    | ⟨0, _⟩ => exact (Nat.zero_add _).symm
    | ⟨1, _⟩ => exact (Nat.zero_add _).symm
  exact out7 _ _ _ _ _ Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ (hw ▸ hv) _ _ _ rfl rfl e n

theorem fin6 (hx : m ((c.tc : Thread nD τ).loc main_arg0) = x) (hA : m ((c.tc : Thread nD τ).loc main_arg1) = A) (hS : m ((c.tc : Thread nD τ).loc main_arg2) = S)
    (hT : m ((c.tc : Thread nD τ).loc main_arg3) = T) (hC : m ((c.tc : Thread nD τ).loc main_arg4) = C) (ht : m ((c.tc : Thread nD τ).loc main_arg5) = tot)
    (hv : (tot (ix1 0)).toNat ≤ 1536) :
    (dats m hH 0 c).arrAt 6 cfg0.N = hres (shapeCast S256x7168 x shapeCasts_S2x128x7168_S256x7168) A S T (tot (ix1 0)).toNat := by
  refine (dats m hH 0 c).arrAt_eq_of_covers 6 _ (by decide +kernel) fun t hf y => ?_
  blk_simp
  rw [after0_6]
  unfold outsAt0
  dsimp only
  unfold out0_A_6 kernelRun0_A
  dsimp only
  obtain ⟨b, a, j, rfl⟩ := ex3 (n₀ := 6) (n₁ := 256) (n₂ := 256) y
  have hp : (((View.whole main_v1_0).slice (win0_6.rect t)).emb (ix3 b a j) : S6x256x256.Idx) = ix3 b a j := by
    blk_ext [idx6 t]
  rw [hp]
  have hw : kernelRun0_A.sl.r c (ms0_0 t) (hs0_0 t) (iblk m c 0 t) = tot (ix1 0) := by
    unfold kernelRun0_A.sl.r
    rw [← ht]
    exact word m c t
  rw [← hw, ← blk1 m c x hx t, ← blk2 m c A hA t, ← blk3 m c S hS t, ← blk4 m c T hT t]
  unfold kernelRun0_A.sl.H6_1
  exact out6 _ _ _ _ _ Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ (hw ▸ hv) _ _ _ rfl rfl VO0_6 _ _ b a j
end Fin
end Cert.ShrinkKernelIdeal.Shr
-- ==== Proof.SRef.lean ====
module
public import proofs.«01_k».proof.Proof.SVal7
public import proofs.«01_k».proof.Proof.Expand
public import Idealize.ShloMosaic.Lib.IdealHost
@[expose] public section
set_option maxRecDepth 16384
noncomputable section
open Idealize.ShloMosaic Idealize.ShloMosaic.TcCoe Idealize.SL.Sem
namespace Cert.ShrinkReferenceIdeal.Shr
open Cert.ShrinkReferenceIdeal Cert.ShrinkReferenceIdeal.Gen Cert.Math
open Cert.ShrinkKernelIdeal.Shr (Ah Hn On Bl hres lres ex2 ex3)
open Idealize.ShloMosaic.Pipeline (Dat)

variable (x : FVec Ideal S2x128x7168 .bf16) (A : IVec S1536x7168 8) (S : FVec Ideal S16x128 .f32) (T : FVec Ideal S3x256x128 .f32) (C : IVec S16x128 32) (tot : IVec S1 32)

/-- The reference's hidden array, tokens by staged rows. -/
def HT : FVec Ideal S256x1536 .bf16 := truncf .bf16 (select (andi (andi (cmpf .oge (broadcastInDim S256x1536 ![0, 1] bcast_S1x1536_S256x1536_0_1 (broadcastInDim S1x1536 ![1] bcast_S1536_S1x1536_1 (sitofp .f32 (iotaInDim S1536 32 0)))) (shapeCast _ (broadcastInDim S1x256x12x128 ![0, 1, 2, 3] bcast_S1x256x1x128_S1x256x12x128_0_1_2_3 (shapeCast _ (shapeCast _ (extractStridedSlice S1x256x128 ![0, 0, 0] T slices_S3x256x128_S1x256x128_0_0_0) shapeCasts_S1x256x128_S256x128) shapeCasts_S256x128_S1x256x1x128)) shapeCasts_S1x256x12x128_S256x1536)) (cmpf .olt (broadcastInDim S256x1536 ![0, 1] bcast_S1x1536_S256x1536_0_1 (broadcastInDim S1x1536 ![1] bcast_S1536_S1x1536_1 (sitofp .f32 (iotaInDim S1536 32 0)))) (shapeCast _ (broadcastInDim S1x256x12x128 ![0, 1, 2, 3] bcast_S1x256x1x128_S1x256x12x128_0_1_2_3 (shapeCast _ (shapeCast _ (extractStridedSlice S1x256x128 ![1, 0, 0] T slices_S3x256x128_S1x256x128_1_0_0) shapeCasts_S1x256x128_S256x128) shapeCasts_S256x128_S1x256x1x128)) shapeCasts_S1x256x12x128_S256x1536))) (broadcastInDim S256x1536 ![0, 1] bcast_S1x1536_S256x1536_0_1 (broadcastInDim S1x1536 ![1] bcast_S1536_S1x1536_1 (cmpi .slt (andi (iotaInDim S1536 32 0) (broadcastInDim S1536 ![] bcast_S_S1536 (constantI S_ 32 4294967040#32))) (broadcastInDim S1536 ![] bcast_S_S1536 (shapeCast _ tot shapeCasts_S1_S_)))))) (mulf (mulf (Host.dotGeneral dot_S256x7168_S7168x1536_S256x1536_1_0_0_1_n_n none (shapeCast _ x shapeCasts_S2x128x7168_S256x7168) (transpose S7168x1536 [1, 0] (sitofp .bf16 (extsi 32 A natLt_8_32)) transposes_S1536x7168_S7168x1536_1_0)) (broadcastInDim S256x1536 ![0, 1] bcast_S1x1536_S256x1536_0_1 (shapeCast _ (extractStridedSlice S12x128 ![0, 0] S slices_S16x128_S12x128_0_0) shapeCasts_S12x128_S1x1536))) (shapeCast _ (broadcastInDim S1x256x12x128 ![0, 1, 2, 3] bcast_S1x256x1x128_S1x256x12x128_0_1_2_3 (shapeCast _ (shapeCast _ (extractStridedSlice S1x256x128 ![2, 0, 0] T slices_S3x256x128_S1x256x128_2_0_0) shapeCasts_S1x256x128_S256x128) shapeCasts_S256x128_S1x256x1x128)) shapeCasts_S1x256x12x128_S256x1536)) (broadcastInDim S256x1536 ![] bcast_S_S256x1536 (constant S_ .f32 0x00000000#32))) bitsLt_bf16_f32

theorem HT_apply (t : Fin 256) (r : Fin 1536) : HT x A S T tot (ix2 t r)
    = Scalar.select (IntOp.andi (IntOp.andi (FloatOps.cmpf .oge (FloatOps.sitofp .f32 (BitVec.ofNat 32 r.val) : Ideal .f32) (T (ix3 0 t ⟨r.val % 128, by omega⟩)))
          (FloatOps.cmpf .olt (FloatOps.sitofp .f32 (BitVec.ofNat 32 r.val) : Ideal .f32) (T (ix3 1 t ⟨r.val % 128, by omega⟩))))
        (IntOp.cmpi .slt (IntOp.andi (BitVec.ofNat 32 r.val) 4294967040#32) (tot (ix1 0))))
      ((∑ k : Fin 7168, (shapeCast S256x7168 x shapeCasts_S2x128x7168_S256x7168 : FVec Ideal S256x7168 .bf16) (ix2 t k) * (FloatOps.sitofp .bf16 (BitVec.signExtend 32 (A (ix2 r k))) : Ideal .bf16))
        * S (ix2 ⟨r.val / 128, by omega⟩ ⟨r.val % 128, by omega⟩) * T (ix3 2 t ⟨r.val % 128, by omega⟩) : EReal) 0 := by
  unfold HT
  pointwise

theorem tr_apply (H : FVec Ideal S256x1536 .bf16) (b : Fin 6) (t j : Fin 256) :
    transpose S6x256x256 [1, 0, 2] (shapeCast _ H shapeCasts_S256x1536_S256x6x256) transposes_S256x6x256_S6x256x256_1_0_2 (ix3 b t j)
      = H (ix2 t ⟨256 * b.val + j.val, by omega⟩) := by
  pointwise
  exact congrArg (fun j => H (ix2 t j)) (Fin.ext (by dsimp only; omega))

theorem lt_ref (H : FVec Ideal S256x1536 .bf16) (e : Fin 64) (t : Fin 256) :
    (truncf .bf16 (Host.dotGeneral dot_S64x1536_S1536x256_S64x256_1_0_0_1_n_n none (uitofp .bf16 (cmpi .eq (broadcastInDim S64x1536 ![0, 1] bcast_S64x1_S64x1536_0_1 (broadcastInDim S64x1 ![0] bcast_S64_S64x1_0 (iotaInDim S64 32 0))) (broadcastInDim S64x1536 ![0, 1] bcast_S1x1536_S64x1536_0_1 (shapeCast _ (extractStridedSlice S12x128 ![0, 0] C slices_S16x128_S12x128_0_0) shapeCasts_S12x128_S1x1536)))) (transpose S1536x256 [1, 0] H transposes_S256x1536_S1536x256_1_0)) bitsLt_bf16_f32 : FVec Ideal S64x256 .bf16) (ix2 e t)
      = (∑ r : Fin 1536, (FloatOps.uitofp .bf16 (IntOp.cmpi .eq (BitVec.ofNat 32 e.val) (C (ix2 ⟨r.val / 128, by omega⟩ ⟨r.val % 128, by omega⟩))) : Ideal .bf16) * H (ix2 t r) : EReal) := by
  pointwise

theorem one_eq (b : BitVec 1) : (FloatOps.uitofp .bf16 b : Ideal .bf16) = Scalar.select b (FloatOps.ofBits .f32 1065353216#32 : Ideal .f32) (0 : EReal) := by
  have hb : b = 0#1 ∨ b = 1#1 := by revert b; decide
  rcases hb with rfl | rfl
  · show ((((0#1).toNat : ℕ) : ℝ) : EReal) = 0
    simp
  · show ((((1#1).toNat : ℕ) : ℝ) : EReal) = Ideal.ofBits .f32 0x3F800000#32
    rw [Ideal.ofBits_one_f32]
    simp

theorem mask_toNat : ∀ r : Fin 1536, (IntOp.andi (BitVec.ofNat 32 r.val) 4294967040#32).toNat = 256 * (r.val / 256) := by
  decide +kernel

theorem mask (r : Fin 1536) (v : BitVec 32) (hv : v.toNat ≤ 1536) :
    IntOp.cmpi .slt (IntOp.andi (BitVec.ofNat 32 r.val) 4294967040#32) v = if r.val / 256 < (v.toNat + 255) / 256 then 1#1 else 0#1 := by
  have h1 := mask_toNat r
  generalize IntOp.andi (BitVec.ofNat 32 r.val) 4294967040#32 = w at h1
  have e1 : w.toInt = w.toNat := BitVec.toInt_eq_toNat_of_lt (by omega)
  have e2 : v.toInt = v.toNat := BitVec.toInt_eq_toNat_of_lt (by omega)
  have : w.slt v = decide (r.val / 256 < (v.toNat + 255) / 256) := by
    rw [BitVec.slt, e1, e2]
    exact decide_eq_decide.mpr (by omega)
  show BitVec.ofBool (w.slt v) = _
  rw [this]
  split_ifs with h <;> simp [h]

theorem HT_eq (hv : (tot (ix1 0)).toNat ≤ 1536) (t : Fin 256) (r : Fin 1536) : HT x A S T tot (ix2 t r)
    = if r.val / 256 < ((tot (ix1 0)).toNat + 255) / 256 then Hn (shapeCast S256x7168 x shapeCasts_S2x128x7168_S256x7168) A S T t r.val else (0 : EReal) := by
  rw [HT_apply, mask r _ hv]
  split_ifs with h
  · unfold Hn
    rw [dif_pos r.isLt]
    unfold Cert.ShrinkKernelIdeal.Shr.M Ah
    have e : ∀ b : BitVec 1, IntOp.andi b 1#1 = b := by decide
    rw [e]
    simp only [Cert.ExpandReferenceIdeal.Base.sitofp_ext]
  · have e : ∀ b : BitVec 1, IntOp.andi b 0#1 = 0#1 := by decide
    rw [e]
    rfl

/-- The reference's first result is the kernel's. -/
theorem h_ref (hv : (tot (ix1 0)).toNat ≤ 1536) :
    transpose S6x256x256 [1, 0, 2] (shapeCast _ (HT x A S T tot) shapeCasts_S256x1536_S256x6x256) transposes_S256x6x256_S6x256x256_1_0_2
      = hres (shapeCast S256x7168 x shapeCasts_S2x128x7168_S256x7168) A S T (tot (ix1 0)).toNat := by
  funext i
  obtain ⟨b, t, j, rfl⟩ := ex3 (n₀ := 6) (n₁ := 256) (n₂ := 256) i
  refine (tr_apply _ b t j).trans ((HT_eq x A S T tot hv t _).trans ?_)
  have e : (256 * b.val + j.val) / 256 = b.val := by omega
  dsimp only
  rw [e]
  rfl

theorem sum_blocks (f : ℕ → EReal) (n : ℕ) (hn : n ≤ 6) : (∑ b : Fin 6, if b.val < n then f b.val else 0) = ∑ b ∈ Finset.range n, f b := by
  rw [← Finset.sum_range (fun b => if b < n then f b else 0)]
  rw [← Finset.sum_subset (Finset.range_subset_range.mpr hn) (fun b _ hb => if_neg (by simpa using hb))]
  exact Finset.sum_congr rfl fun b hb => if_pos (by simpa using hb)

/-- The reference's second result is the kernel's. -/
theorem l_ref (hv : (tot (ix1 0)).toNat ≤ 1536) :
    (fun H : FVec Ideal S256x1536 .bf16 => (truncf .bf16 (Host.dotGeneral dot_S64x1536_S1536x256_S64x256_1_0_0_1_n_n none (uitofp .bf16 (cmpi .eq (broadcastInDim S64x1536 ![0, 1] bcast_S64x1_S64x1536_0_1 (broadcastInDim S64x1 ![0] bcast_S64_S64x1_0 (iotaInDim S64 32 0))) (broadcastInDim S64x1536 ![0, 1] bcast_S1x1536_S64x1536_0_1 (shapeCast _ (extractStridedSlice S12x128 ![0, 0] C slices_S16x128_S12x128_0_0) shapeCasts_S12x128_S1x1536)))) (transpose S1536x256 [1, 0] H transposes_S256x1536_S1536x256_1_0)) bitsLt_bf16_f32 : FVec Ideal S64x256 .bf16)) (HT x A S T tot)
      = lres (shapeCast S256x7168 x shapeCasts_S2x128x7168_S256x7168) A S T C (tot (ix1 0)).toNat := by
  funext i
  obtain ⟨e, t, rfl⟩ := ex2 (n₀ := 64) (n₁ := 256) i
  refine (lt_ref C _ e t).trans ?_
  rw [Cert.ExpandReferenceIdeal.Base.regroup]
  refine Eq.trans ?_ (sum_blocks (Bl (shapeCast S256x7168 x shapeCasts_S2x128x7168_S256x7168) A S T C e t) (((tot (ix1 0)).toNat + 255) / 256) (by omega))
  refine Finset.sum_congr rfl fun b _ => ?_
  have hb : ∀ j : Fin 256, (j.val + 256 * b.val) / 256 = b.val := fun j => by omega
  simp only [HT_eq x A S T tot hv, hb]
  split_ifs with h
  · unfold Bl
    refine Finset.sum_congr rfl fun j _ => ?_
    rw [Nat.add_comm (256 * b.val) j.val]
    refine congrArg₂ (fun p q : EReal => p * q) ?_ rfl
    unfold On
    rw [dif_pos (by omega)]
    exact one_eq _
  · exact Finset.sum_eq_zero fun j _ => mul_zero _
end Cert.ShrinkReferenceIdeal.Shr
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_tables_fit
public import proofs.«01_k».proof.Proof.Gen.BaseKernel
public import proofs.«01_k».proof.Proof.Gen.BaseKernel.Skeleton
public import proofs.«01_k».proof.Proof.Gen.BaseKernel.Launch
public import proofs.«01_k».proof.Proof.Gen.BaseKernel.Points
public import proofs.«01_k».proof.Proof.Gen.BaseKernel.Frame
public import proofs.«01_k».proof.Proof.Gen.BaseKernelIdeal
public import proofs.«01_k».proof.Proof.Gen.BaseKernelIdeal.Skeleton
public import proofs.«01_k».proof.Proof.Gen.BaseKernelIdeal.Launch
public import proofs.«01_k».proof.Proof.Gen.BaseKernelIdeal.Points
public import proofs.«01_k».proof.Proof.Gen.BaseKernelIdeal.Frame
public import proofs.«01_k».proof.Proof.Gen.BaseReferenceIdeal
public import proofs.«01_k».proof.Proof.Gen.BaseKernelIdeal.Value
public import proofs.«01_k».proof.Proof.Gen.BaseReferenceIdeal.Run
public import proofs.«01_k».proof.Proof.Frame
public import proofs.«01_k».proof.Proof.IFrame
public import proofs.«01_k».proof.Proof.Base
public import proofs.«01_k».proof.Proof.Expand
public import proofs.«01_k».proof.Proof.PreTotal
public import proofs.«01_k».proof.Proof.SChecks
public import proofs.«01_k».proof.Proof.ISChecks
public import proofs.«01_k».proof.Proof.SVal7
public import proofs.«01_k».proof.Proof.SRef
public import proofs.«01_k».proof.Proof.Gen.Pre_total_fits
public import proofs.«01_k».proof.Proof.Gen.ShrinkKernel
public import proofs.«01_k».proof.Proof.Gen.ShrinkKernel.Frame
public import proofs.«01_k».proof.Proof.Gen.ShrinkKernelIdeal
public import proofs.«01_k».proof.Proof.Gen.ShrinkKernelIdeal.Value
public import proofs.«01_k».proof.Proof.Gen.ShrinkReferenceIdeal
public import proofs.«01_k».proof.Proof.Gen.ShrinkReferenceIdeal.Run
public import proofs.«01_k».proof.Proof.Gen.ExpandKernel
public import proofs.«01_k».proof.Proof.Gen.ExpandKernel.Frame
public import proofs.«01_k».proof.Proof.Gen.ExpandKernelIdeal
public import proofs.«01_k».proof.Proof.Gen.ExpandKernelIdeal.Value
public import proofs.«01_k».proof.Proof.Gen.ExpandReferenceIdeal
public import proofs.«01_k».proof.Proof.Gen.ExpandReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

open Idealize.ShloMosaic.TcCoe

/-- The whole kernel's frame: the precondition says what the body's checks and copies need of the tables. -/
theorem frame_kernel : Cert.quiescent_Kernel (hKernel := Cert.Kernel.Gen.facts) (hPre_tables_fit := Cert.Pre_tables_fit.Gen.facts) :=
  fun m ρ hp => Cert.Kernel.Body.frame_all (F := Bits) m ρ (fun c =>
    haveI := Cert.Pre_tables_fit.Gen.facts
    Cert.Math.fits (F := Bits) _ _ _ _ _ _ _ _ _ _ _ _ (hp c))

/-- The same of its idealization. -/
theorem frame_ideal : Cert.quiescent_KernelIdeal (hKernelIdeal := Cert.KernelIdeal.Gen.facts) (hPre_tables_fit := Cert.Pre_tables_fit.Gen.facts) :=
  fun m ρ hp => Cert.KernelIdeal.Body.frame_all (F := Ideal) m ρ (fun c =>
    haveI := Cert.Pre_tables_fit.Gen.facts
    Cert.Math.fits (F := Ideal) _ _ _ _ _ _ _ _ _ _ _ _ (hp c))

/-- The whole reference's frame: its host run read at the arguments; it declares no semaphore. -/
theorem frame_ref : Cert.quiescent_ReferenceIdeal (hReferenceIdeal := Cert.ReferenceIdeal.Gen.facts) (hPre_tables_fit := Cert.Pre_tables_fit.Gen.facts) := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The base reference's frame. -/
theorem frame_base_ref : Cert.quiescent_BaseReferenceIdeal (hBaseReferenceIdeal := Cert.BaseReferenceIdeal.Gen.facts) := fun m ρ _ =>
  (θ_run Cert.BaseReferenceIdeal.defs _ _).mono (fun r h => ⟨fun c => (h c).2, Idealize.ShloMosaic.sem_eq_zero_of_no_sems (by decide) r.2⟩)
    (Cert.BaseReferenceIdeal.Value.run (F := Ideal) m ρ)

/-- From equal arguments the two result arrays are equal: both are the base product. -/
theorem algebraic : Cert.algebraic_BaseKernelIdeal_BaseReferenceIdeal (hBaseKernelIdeal := Cert.BaseKernelIdeal.Gen.facts)
    (hBaseReferenceIdeal := Cert.BaseReferenceIdeal.Gen.facts) := by
  intro m g m' g' _ hargs
  refine ⟨fun c => Cert.BaseKernelIdeal.Base.base (m ((c.tc : Thread Cert.BaseKernelIdeal.nD Cert.BaseKernelIdeal.τ).loc Cert.BaseKernelIdeal.main_arg0))
    (m ((c.tc : Thread Cert.BaseKernelIdeal.nD Cert.BaseKernelIdeal.τ).loc Cert.BaseKernelIdeal.main_arg1))
    (m ((c.tc : Thread Cert.BaseKernelIdeal.nD Cert.BaseKernelIdeal.τ).loc Cert.BaseKernelIdeal.main_arg2)), ?_, ?_⟩
  · exact (θ_run Cert.BaseKernelIdeal.defs _ _).mono (fun r h c => ⟨(h c).1.trans
      (Cert.BaseKernelIdeal.Base.final m c _ _ _ rfl rfl rfl), (h c).2⟩) (Cert.BaseKernelIdeal.Value.run_blocks (F := Ideal) m g)
  · refine (θ_run Cert.BaseReferenceIdeal.defs _ _).mono (fun r h c => ⟨(h c).1.trans ?_, (h c).2⟩) (Cert.BaseReferenceIdeal.Value.run (F := Ideal) m' g')
    funext i
    obtain ⟨a, b, rfl⟩ : ∃ (a : Fin 256) (b : Fin 18432), i = ix2 a b := ⟨i 0, i 1, by funext k; match k with | ⟨0, _⟩ => rfl | ⟨1, _⟩ => rfl⟩
    exact Cert.BaseReferenceIdeal.Base.ref_apply m' c a b _ _ _ (hargs c).1 (hargs c).2.1 (hargs c).2.2

/-- The expand reference's frame. -/
theorem frame_expand_ref : Cert.quiescent_ExpandReferenceIdeal (hExpandReferenceIdeal := Cert.ExpandReferenceIdeal.Gen.facts) := fun m ρ _ =>
  (θ_run Cert.ExpandReferenceIdeal.defs _ _).mono (fun r h => ⟨fun c => (h c).2, Idealize.ShloMosaic.sem_eq_zero_of_no_sems (by decide) r.2⟩)
    (Cert.ExpandReferenceIdeal.Value.run (F := Ideal) m ρ)

/-- From equal arguments the two result arrays are equal: both are the base product plus the expand. -/
theorem algebraic_expand : Cert.algebraic_ExpandKernelIdeal_ExpandReferenceIdeal (hExpandKernelIdeal := Cert.ExpandKernelIdeal.Gen.facts)
    (hExpandReferenceIdeal := Cert.ExpandReferenceIdeal.Gen.facts) := by
  intro m g m' g' _ hargs
  refine ⟨fun c => Cert.ExpandKernelIdeal.Base.result (m ((c.tc : Thread Cert.ExpandKernelIdeal.nD Cert.ExpandKernelIdeal.τ).loc Cert.ExpandKernelIdeal.main_arg0))
    (m ((c.tc : Thread Cert.ExpandKernelIdeal.nD Cert.ExpandKernelIdeal.τ).loc Cert.ExpandKernelIdeal.main_arg1))
    (m ((c.tc : Thread Cert.ExpandKernelIdeal.nD Cert.ExpandKernelIdeal.τ).loc Cert.ExpandKernelIdeal.main_arg2))
    (m ((c.tc : Thread Cert.ExpandKernelIdeal.nD Cert.ExpandKernelIdeal.τ).loc Cert.ExpandKernelIdeal.main_arg3))
    (m ((c.tc : Thread Cert.ExpandKernelIdeal.nD Cert.ExpandKernelIdeal.τ).loc Cert.ExpandKernelIdeal.main_arg4))
    (m ((c.tc : Thread Cert.ExpandKernelIdeal.nD Cert.ExpandKernelIdeal.τ).loc Cert.ExpandKernelIdeal.main_arg5))
    (m ((c.tc : Thread Cert.ExpandKernelIdeal.nD Cert.ExpandKernelIdeal.τ).loc Cert.ExpandKernelIdeal.main_arg6)), ?_, ?_⟩
  · exact (θ_run Cert.ExpandKernelIdeal.defs _ _).mono (fun r h c => ⟨(h c).1.trans
      (Cert.ExpandKernelIdeal.Base.final m c _ _ _ _ _ _ _ rfl rfl rfl rfl rfl rfl rfl), (h c).2⟩) (Cert.ExpandKernelIdeal.Value.run_blocks (F := Ideal) m g)
  · refine (θ_run Cert.ExpandReferenceIdeal.defs _ _).mono (fun r h c => ⟨(h c).1.trans ?_, (h c).2⟩) (Cert.ExpandReferenceIdeal.Value.run (F := Ideal) m' g')
    funext i
    obtain ⟨a, b, rfl⟩ : ∃ (a : Fin 256) (b : Fin 18432), i = ix2 a b := ⟨i 0, i 1, by funext k; match k with | ⟨0, _⟩ => rfl | ⟨1, _⟩ => rfl⟩
    exact Cert.ExpandReferenceIdeal.Base.ref_apply m' c a b _ _ _ _ _ _ _ (hargs c).1 (hargs c).2.1 (hargs c).2.2.1 (hargs c).2.2.2.1
      (hargs c).2.2.2.2.1 (hargs c).2.2.2.2.2.1 (hargs c).2.2.2.2.2.2

/-- The number of rows that the precondition bounds. -/
theorem rows_le {F : FTy → Type} [FloatOps F] (a0 : FVec F Cert.Pre_total_fits.S2x128x7168 .bf16) (a1 : IVec Cert.Pre_total_fits.S1536x7168 8) (a2 : FVec F Cert.Pre_total_fits.S16x128 .f32)
    (a3 : FVec F Cert.Pre_total_fits.S3x256x128 .f32) (a4 : IVec Cert.Pre_total_fits.S16x128 32) (a5 : IVec Cert.Pre_total_fits.S1 32)
    (h : (haveI := Cert.Pre_total_fits.Gen.facts; Cert.Pre_total_fits.fn a0 a1 a2 a3 a4 a5) = fun _ => 1#1) : (a5 (ix1 0)).toNat ≤ 1536 :=
  haveI := Cert.Pre_total_fits.Gen.facts
  Cert.Math.total_le a0 a1 a2 a3 a4 a5 h

/-- The shrink's frame: the precondition bounds the number of staged rows. -/
theorem frame_shrink : Cert.quiescent_ShrinkKernel (hShrinkKernel := Cert.ShrinkKernel.Gen.facts) (hPre_total_fits := Cert.Pre_total_fits.Gen.facts) :=
  fun m g hp => Cert.ShrinkKernel.Gen.frame m g (Cert.ShrinkKernel.Gen.hyps m fun c => rows_le _ _ _ _ _ _ (hp c))

/-- The same of its idealization. -/
theorem frame_shrink_ideal : Cert.quiescent_ShrinkKernelIdeal (hShrinkKernelIdeal := Cert.ShrinkKernelIdeal.Gen.facts) (hPre_total_fits := Cert.Pre_total_fits.Gen.facts) :=
  fun m g hp => Cert.ShrinkKernelIdeal.Gen.frame m g (Cert.ShrinkKernelIdeal.Gen.hyps m fun c => rows_le _ _ _ _ _ _ (hp c))

/-- The shrink reference's frame. -/
theorem frame_shrink_ref : Cert.quiescent_ShrinkReferenceIdeal (hShrinkReferenceIdeal := Cert.ShrinkReferenceIdeal.Gen.facts) (hPre_total_fits := Cert.Pre_total_fits.Gen.facts) := fun m ρ _ =>
  (θ_run Cert.ShrinkReferenceIdeal.defs _ _).mono (fun r h => ⟨fun c => (h c).2.2, Idealize.ShloMosaic.sem_eq_zero_of_no_sems (by decide) r.2⟩)
    (Cert.ShrinkReferenceIdeal.Value.run (F := Ideal) m ρ)

/-- From equal arguments the two result arrays are equal: the hidden rows of the blocks in use, and their sum by expert. -/
theorem algebraic_shrink : Cert.algebraic_ShrinkKernelIdeal_ShrinkReferenceIdeal (hShrinkKernelIdeal := Cert.ShrinkKernelIdeal.Gen.facts)
    (hShrinkReferenceIdeal := Cert.ShrinkReferenceIdeal.Gen.facts) (hPre_total_fits := Cert.Pre_total_fits.Gen.facts) := by
  intro m g m' g' hp hargs
  have hv := fun c => rows_le _ _ _ _ _ _ (hp c)
  have hH := Cert.ShrinkKernelIdeal.Gen.hyps (F := Ideal) m hv
  refine ⟨fun c => Cert.ShrinkKernelIdeal.Shr.hres (shapeCast Cert.ShrinkKernelIdeal.S256x7168 (m ((c.tc : Thread Cert.ShrinkKernelIdeal.nD Cert.ShrinkKernelIdeal.τ).loc Cert.ShrinkKernelIdeal.main_arg0)) Cert.ShrinkKernelIdeal.Gen.shapeCasts_S2x128x7168_S256x7168)
    (m ((c.tc : Thread Cert.ShrinkKernelIdeal.nD Cert.ShrinkKernelIdeal.τ).loc Cert.ShrinkKernelIdeal.main_arg1)) (m ((c.tc : Thread Cert.ShrinkKernelIdeal.nD Cert.ShrinkKernelIdeal.τ).loc Cert.ShrinkKernelIdeal.main_arg2)) (m ((c.tc : Thread Cert.ShrinkKernelIdeal.nD Cert.ShrinkKernelIdeal.τ).loc Cert.ShrinkKernelIdeal.main_arg3))
    ((m ((c.tc : Thread Cert.ShrinkKernelIdeal.nD Cert.ShrinkKernelIdeal.τ).loc Cert.ShrinkKernelIdeal.main_arg5)) (ix1 0)).toNat,
    fun c => Cert.ShrinkKernelIdeal.Shr.lres (shapeCast Cert.ShrinkKernelIdeal.S256x7168 (m ((c.tc : Thread Cert.ShrinkKernelIdeal.nD Cert.ShrinkKernelIdeal.τ).loc Cert.ShrinkKernelIdeal.main_arg0)) Cert.ShrinkKernelIdeal.Gen.shapeCasts_S2x128x7168_S256x7168)
    (m ((c.tc : Thread Cert.ShrinkKernelIdeal.nD Cert.ShrinkKernelIdeal.τ).loc Cert.ShrinkKernelIdeal.main_arg1)) (m ((c.tc : Thread Cert.ShrinkKernelIdeal.nD Cert.ShrinkKernelIdeal.τ).loc Cert.ShrinkKernelIdeal.main_arg2)) (m ((c.tc : Thread Cert.ShrinkKernelIdeal.nD Cert.ShrinkKernelIdeal.τ).loc Cert.ShrinkKernelIdeal.main_arg3)) (m ((c.tc : Thread Cert.ShrinkKernelIdeal.nD Cert.ShrinkKernelIdeal.τ).loc Cert.ShrinkKernelIdeal.main_arg4))
    ((m ((c.tc : Thread Cert.ShrinkKernelIdeal.nD Cert.ShrinkKernelIdeal.τ).loc Cert.ShrinkKernelIdeal.main_arg5)) (ix1 0)).toNat, ?_, ?_⟩
  · exact (θ_run Cert.ShrinkKernelIdeal.defs _ _).mono (fun r h c => ⟨(h c).1.trans
      (Cert.ShrinkKernelIdeal.Shr.fin6 m hH c _ _ _ _ (m ((c.tc : Thread Cert.ShrinkKernelIdeal.nD Cert.ShrinkKernelIdeal.τ).loc Cert.ShrinkKernelIdeal.main_arg4)) _ rfl rfl rfl rfl rfl rfl (hv c)), (h c).2.1.trans
      (Cert.ShrinkKernelIdeal.Shr.fin7 m hH c _ _ _ _ _ _ rfl rfl rfl rfl rfl rfl (hv c)), (h c).2.2⟩) (Cert.ShrinkKernelIdeal.Value.run_blocks (F := Ideal) m g hH)
  · refine (θ_run Cert.ShrinkReferenceIdeal.defs _ _).mono (fun r h c => ?_) (Cert.ShrinkReferenceIdeal.Value.run (F := Ideal) m' g')
    obtain ⟨h1, h2, h3⟩ := h c
    obtain ⟨e0, e1, e2, e3, e4, e5⟩ := hargs c
    have hw : ((m' ((c.tc : Thread Cert.ShrinkReferenceIdeal.nD Cert.ShrinkReferenceIdeal.τ).loc Cert.ShrinkReferenceIdeal.main_arg5)) (ix1 0)).toNat ≤ 1536 := by rw [e5]; exact hv c
    refine ⟨(h1.trans (Cert.ShrinkReferenceIdeal.Shr.h_ref (m' ((c.tc : Thread Cert.ShrinkReferenceIdeal.nD Cert.ShrinkReferenceIdeal.τ).loc Cert.ShrinkReferenceIdeal.main_arg0)) (m' ((c.tc : Thread Cert.ShrinkReferenceIdeal.nD Cert.ShrinkReferenceIdeal.τ).loc Cert.ShrinkReferenceIdeal.main_arg1)) (m' ((c.tc : Thread Cert.ShrinkReferenceIdeal.nD Cert.ShrinkReferenceIdeal.τ).loc Cert.ShrinkReferenceIdeal.main_arg2))
        (m' ((c.tc : Thread Cert.ShrinkReferenceIdeal.nD Cert.ShrinkReferenceIdeal.τ).loc Cert.ShrinkReferenceIdeal.main_arg3)) (m' ((c.tc : Thread Cert.ShrinkReferenceIdeal.nD Cert.ShrinkReferenceIdeal.τ).loc Cert.ShrinkReferenceIdeal.main_arg5)) hw)).trans ?_,
      (h2.trans (Cert.ShrinkReferenceIdeal.Shr.l_ref (m' ((c.tc : Thread Cert.ShrinkReferenceIdeal.nD Cert.ShrinkReferenceIdeal.τ).loc Cert.ShrinkReferenceIdeal.main_arg0)) (m' ((c.tc : Thread Cert.ShrinkReferenceIdeal.nD Cert.ShrinkReferenceIdeal.τ).loc Cert.ShrinkReferenceIdeal.main_arg1)) (m' ((c.tc : Thread Cert.ShrinkReferenceIdeal.nD Cert.ShrinkReferenceIdeal.τ).loc Cert.ShrinkReferenceIdeal.main_arg2))
        (m' ((c.tc : Thread Cert.ShrinkReferenceIdeal.nD Cert.ShrinkReferenceIdeal.τ).loc Cert.ShrinkReferenceIdeal.main_arg3)) (m' ((c.tc : Thread Cert.ShrinkReferenceIdeal.nD Cert.ShrinkReferenceIdeal.τ).loc Cert.ShrinkReferenceIdeal.main_arg4)) (m' ((c.tc : Thread Cert.ShrinkReferenceIdeal.nD Cert.ShrinkReferenceIdeal.τ).loc Cert.ShrinkReferenceIdeal.main_arg5)) hw)).trans ?_, h3⟩
    · rw [e0, e1, e2, e3, e5]
    · rw [e0, e1, e2, e3, e4, e5]

theorem claim : Cert.Claim := ⟨Cert.Kernel.Gen.facts, Cert.KernelIdeal.Gen.facts, Cert.ReferenceIdeal.Gen.facts,
  Cert.BaseKernel.Gen.facts, Cert.BaseKernelIdeal.Gen.facts, Cert.BaseReferenceIdeal.Gen.facts,
  Cert.ExpandKernel.Gen.facts, Cert.ExpandKernelIdeal.Gen.facts, Cert.ExpandReferenceIdeal.Gen.facts,
  Cert.ShrinkKernel.Gen.facts, Cert.ShrinkKernelIdeal.Gen.facts, Cert.ShrinkReferenceIdeal.Gen.facts, Cert.Pre_tables_fit.Gen.facts, Cert.Pre_total_fits.Gen.facts,
  frame_kernel, frame_ideal, frame_ref,
  fun m g _ => Cert.BaseKernel.Gen.frame m g, fun m g _ => Cert.BaseKernelIdeal.Gen.frame m g, frame_base_ref,
  fun m g _ => Cert.ExpandKernel.Gen.frame m g, fun m g _ => Cert.ExpandKernelIdeal.Gen.frame m g, frame_expand_ref,
  frame_shrink, frame_shrink_ideal, frame_shrink_ref,
  trivial, trivial, algebraic, trivial, algebraic_expand, trivial, algebraic_shrink⟩

end Cert.Proof

end
